-- ==== Defs.lean ====
def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out_bwd [hPre_finite_out_bwd : Cert.Pre_finite_out_bwd.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out_bwd.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).1 = (fun _ => 1#1)
    ∧ (Cert.Pre_finite_out_bwd.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.1 = (fun _ => 1#1)
    ∧ (Cert.Pre_finite_out_bwd.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.1 = (fun _ => 1#1)
    ∧ (Cert.Pre_finite_out_bwd.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.2.1 = (fun _ => 1#1)
    ∧ (Cert.Pre_finite_out_bwd.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.2.2.1 = (fun _ => 1#1)
    ∧ (Cert.Pre_finite_out_bwd.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.2.2.2 = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite_out_bwd [hPre_finite_out_bwd : Cert.Pre_finite_out_bwd.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite_out_bwd.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).1 = (fun _ => 1#1)
    ∧ (Cert.Pre_finite_out_bwd.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.1 = (fun _ => 1#1)
    ∧ (Cert.Pre_finite_out_bwd.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.1 = (fun _ => 1#1)
    ∧ (Cert.Pre_finite_out_bwd.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.2.1 = (fun _ => 1#1)
    ∧ (Cert.Pre_finite_out_bwd.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.2.2.1 = (fun _ => 1#1)
    ∧ (Cert.Pre_finite_out_bwd.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.2.2.2 = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_finite_mla_bwd [hPre_finite_mla_bwd : Cert.Pre_finite_mla_bwd.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_finite_mla_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).1 = (fun _ => 1#1)
    ∧ (Cert.Pre_finite_mla_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.1 = (fun _ => 1#1)
    ∧ (Cert.Pre_finite_mla_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.1 = (fun _ => 1#1)
    ∧ (Cert.Pre_finite_mla_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.1 = (fun _ => 1#1)
    ∧ (Cert.Pre_finite_mla_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.2.1 = (fun _ => 1#1)
    ∧ (Cert.Pre_finite_mla_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.2.2 = (fun _ => 1#1)

def Pre_MlaBwdRefIdeal (m : (ℓ : Loc Cert.MlaBwdRefIdeal.nD Cert.MlaBwdRefIdeal.τ Cert.MlaBwdRefIdeal.sig) → Buf (Elt Ideal) ℓ) : Prop :=
  True

def Pre_MlaBwdRefIdeal_finite_mla_bwd [hPre_finite_mla_bwd : Cert.Pre_finite_mla_bwd.Facts] (m : (ℓ : Loc Cert.MlaBwdRefIdeal.nD Cert.MlaBwdRefIdeal.τ Cert.MlaBwdRefIdeal.sig) → Buf (Elt Ideal) ℓ) : Prop :=
  ∀ c : Dev Cert.MlaBwdRefIdeal.nD,
    (Cert.Pre_finite_mla_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).1 = (fun _ => 1#1)
    ∧ (Cert.Pre_finite_mla_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.1 = (fun _ => 1#1)
    ∧ (Cert.Pre_finite_mla_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.1 = (fun _ => 1#1)
    ∧ (Cert.Pre_finite_mla_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.2.1 = (fun _ => 1#1)
    ∧ (Cert.Pre_finite_mla_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.2.2.1 = (fun _ => 1#1)
    ∧ (Cert.Pre_finite_mla_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn_bwd [hPre_finite_ffn_bwd : Cert.Pre_finite_ffn_bwd.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn_bwd [hPre_finite_ffn_bwd : Cert.Pre_finite_ffn_bwd.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.2 = (fun _ => 1#1)

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_finite_mla_fwd [hPre_finite_mla_fwd : Cert.Pre_finite_mla_fwd.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_finite_mla_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).1 = (fun _ => 1#1)
    ∧ (Cert.Pre_finite_mla_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.1 = (fun _ => 1#1)
    ∧ (Cert.Pre_finite_mla_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.2.1 = (fun _ => 1#1)
    ∧ (Cert.Pre_finite_mla_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.2.2.1 = (fun _ => 1#1)
    ∧ (Cert.Pre_finite_mla_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.2.2.2 = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_finite_mla_fwd [hPre_finite_mla_fwd : Cert.Pre_finite_mla_fwd.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_finite_mla_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).1 = (fun _ => 1#1)
    ∧ (Cert.Pre_finite_mla_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.1 = (fun _ => 1#1)
    ∧ (Cert.Pre_finite_mla_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.2.1 = (fun _ => 1#1)
    ∧ (Cert.Pre_finite_mla_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.2.2.1 = (fun _ => 1#1)
    ∧ (Cert.Pre_finite_mla_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss_head [hPre_finite_loss_head : Cert.Pre_finite_loss_head.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.2.2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.2.2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss_head [hPre_finite_loss_head : Cert.Pre_finite_loss_head.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.2.2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.2.2.2 = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdIdeal_finite_out_fwd [hPre_finite_out_fwd : Cert.Pre_finite_out_fwd.Facts] (m : (ℓ : Loc Cert.OutFwdIdeal.nD Cert.OutFwdIdeal.τ Cert.OutFwdIdeal.sig) → Buf (Elt Ideal) ℓ) : Prop :=
  ∀ c : Dev Cert.OutFwdIdeal.nD,
    (Cert.Pre_finite_out_fwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5))).1 = (fun _ => 1#1)
    ∧ (Cert.Pre_finite_out_fwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5))).2.1 = (fun _ => 1#1)
    ∧ (Cert.Pre_finite_out_fwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5))).2.2.1 = (fun _ => 1#1)
    ∧ (Cert.Pre_finite_out_fwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5))).2.2.2.1 = (fun _ => 1#1)
    ∧ (Cert.Pre_finite_out_fwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5))).2.2.2.2.1 = (fun _ => 1#1)
    ∧ (Cert.Pre_finite_out_fwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5))).2.2.2.2.2 = (fun _ => 1#1)

def Pre_OutFwdRefIdeal (m : (ℓ : Loc Cert.OutFwdRefIdeal.nD Cert.OutFwdRefIdeal.τ Cert.OutFwdRefIdeal.sig) → Buf (Elt Ideal) ℓ) : Prop :=
  True

def Pre_OutFwdRefIdeal_finite_out_fwd [hPre_finite_out_fwd : Cert.Pre_finite_out_fwd.Facts] (m : (ℓ : Loc Cert.OutFwdRefIdeal.nD Cert.OutFwdRefIdeal.τ Cert.OutFwdRefIdeal.sig) → Buf (Elt Ideal) ℓ) : Prop :=
  ∀ c : Dev Cert.OutFwdRefIdeal.nD,
    (Cert.Pre_finite_out_fwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4)) (m ((c.tc : Thread Cert.OutFwdRefIdeal.nD Cert.OutFwdRefIdeal.τ).loc Cert.OutFwdRefIdeal.main_arg5))).1 = (fun _ => 1#1)
    ∧ (Cert.Pre_finite_out_fwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4)) (m ((c.tc : Thread Cert.OutFwdRefIdeal.nD Cert.OutFwdRefIdeal.τ).loc Cert.OutFwdRefIdeal.main_arg5))).2.1 = (fun _ => 1#1)
    ∧ (Cert.Pre_finite_out_fwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4)) (m ((c.tc : Thread Cert.OutFwdRefIdeal.nD Cert.OutFwdRefIdeal.τ).loc Cert.OutFwdRefIdeal.main_arg5))).2.2.1 = (fun _ => 1#1)
    ∧ (Cert.Pre_finite_out_fwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4)) (m ((c.tc : Thread Cert.OutFwdRefIdeal.nD Cert.OutFwdRefIdeal.τ).loc Cert.OutFwdRefIdeal.main_arg5))).2.2.2.1 = (fun _ => 1#1)
    ∧ (Cert.Pre_finite_out_fwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4)) (m ((c.tc : Thread Cert.OutFwdRefIdeal.nD Cert.OutFwdRefIdeal.τ).loc Cert.OutFwdRefIdeal.main_arg5))).2.2.2.2.1 = (fun _ => 1#1)
    ∧ (Cert.Pre_finite_out_fwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4)) (m ((c.tc : Thread Cert.OutFwdRefIdeal.nD Cert.OutFwdRefIdeal.τ).loc Cert.OutFwdRefIdeal.main_arg5))).2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffn_fwd [hPre_finite_ffn_fwd : Cert.Pre_finite_ffn_fwd.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4))).1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4))).2.1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4))).2.2.1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4))).2.2.2.1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4))).2.2.2.2 = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffn_fwd [hPre_finite_ffn_fwd : Cert.Pre_finite_ffn_fwd.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4))).1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4))).2.1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4))).2.2.1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4))).2.2.2.1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4))).2.2.2.2 = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdIdeal_pre_finite_out_bwd [hOutBwdIdeal : Cert.OutBwdIdeal.Facts] [hPre_finite_out_bwd : Cert.Pre_finite_out_bwd.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out_bwd m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_OutBwdRefIdeal_pre_finite_out_bwd [hOutBwdRefIdeal : Cert.OutBwdRefIdeal.Facts] [hPre_finite_out_bwd : Cert.Pre_finite_out_bwd.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite_out_bwd m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ r.2.sem = fun _ => 0)

def quiescent_MlaBwdIdeal_pre_finite_mla_bwd [hMlaBwdIdeal : Cert.MlaBwdIdeal.Facts] [hPre_finite_mla_bwd : Cert.Pre_finite_mla_bwd.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_finite_mla_bwd m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ r.2.sem = fun _ => 0)

def quiescent_MlaBwdRefIdeal [hMlaBwdRefIdeal : Cert.MlaBwdRefIdeal.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5))
      ∧ r.2.sem = fun _ => 0)

def quiescent_MlaBwdRefIdeal_pre_finite_mla_bwd [hMlaBwdRefIdeal : Cert.MlaBwdRefIdeal.Facts] [hPre_finite_mla_bwd : Cert.Pre_finite_mla_bwd.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal_finite_mla_bwd m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn_bwd [hFfnBwdIdeal : Cert.FfnBwdIdeal.Facts] [hPre_finite_ffn_bwd : Cert.Pre_finite_ffn_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn_bwd m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn_bwd [hFfnBwdRefIdeal : Cert.FfnBwdRefIdeal.Facts] [hPre_finite_ffn_bwd : Cert.Pre_finite_ffn_bwd.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn_bwd m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2)
      ∧ r.2.mem ((c.tc : Thread Cert.MlaFwd.nD Cert.MlaFwd.τ).loc Cert.MlaFwd.main_arg3) = m ((c.tc : Thread Cert.MlaFwd.nD Cert.MlaFwd.τ).loc Cert.MlaFwd.main_arg3)
      ∧ r.2.mem ((c.tc : Thread Cert.MlaFwd.nD Cert.MlaFwd.τ).loc Cert.MlaFwd.main_arg4) = m ((c.tc : Thread Cert.MlaFwd.nD Cert.MlaFwd.τ).loc Cert.MlaFwd.main_arg4))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
      ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4))
      ∧ r.2.sem = fun _ => 0)

def quiescent_MlaFwdIdeal_pre_finite_mla_fwd [hMlaFwdIdeal : Cert.MlaFwdIdeal.Facts] [hPre_finite_mla_fwd : Cert.Pre_finite_mla_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_finite_mla_fwd m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
      ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3)
      ∧ r.2.mem ((c.tc : Thread Cert.MlaFwdRefIdeal.nD Cert.MlaFwdRefIdeal.τ).loc Cert.MlaFwdRefIdeal.main_arg4) = m ((c.tc : Thread Cert.MlaFwdRefIdeal.nD Cert.MlaFwdRefIdeal.τ).loc Cert.MlaFwdRefIdeal.main_arg4))
      ∧ r.2.sem = fun _ => 0)

def quiescent_MlaFwdRefIdeal_pre_finite_mla_fwd [hMlaFwdRefIdeal : Cert.MlaFwdRefIdeal.Facts] [hPre_finite_mla_fwd : Cert.Pre_finite_mla_fwd.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_finite_mla_fwd m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3)
      ∧ r.2.mem ((c.tc : Thread Cert.MlaFwdRefIdeal.nD Cert.MlaFwdRefIdeal.τ).loc Cert.MlaFwdRefIdeal.main_arg4) = m ((c.tc : Thread Cert.MlaFwdRefIdeal.nD Cert.MlaFwdRefIdeal.τ).loc Cert.MlaFwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5)
      ∧ r.2.mem ((c.tc : Thread Cert.LossHead.nD Cert.LossHead.τ).loc Cert.LossHead.main_arg6) = m ((c.tc : Thread Cert.LossHead.nD Cert.LossHead.τ).loc Cert.LossHead.main_arg6))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
      ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ r.2.sem = fun _ => 0)

def quiescent_LossHeadIdeal_pre_finite_loss_head [hLossHeadIdeal : Cert.LossHeadIdeal.Facts] [hPre_finite_loss_head : Cert.Pre_finite_loss_head.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss_head m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
      ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5)
      ∧ r.2.mem ((c.tc : Thread Cert.LossHeadRefIdeal.nD Cert.LossHeadRefIdeal.τ).loc Cert.LossHeadRefIdeal.main_arg6) = m ((c.tc : Thread Cert.LossHeadRefIdeal.nD Cert.LossHeadRefIdeal.τ).loc Cert.LossHeadRefIdeal.main_arg6))
      ∧ r.2.sem = fun _ => 0)

def quiescent_LossHeadRefIdeal_pre_finite_loss_head [hLossHeadRefIdeal : Cert.LossHeadRefIdeal.Facts] [hPre_finite_loss_head : Cert.Pre_finite_loss_head.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss_head m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5)
      ∧ r.2.mem ((c.tc : Thread Cert.LossHeadRefIdeal.nD Cert.LossHeadRefIdeal.τ).loc Cert.LossHeadRefIdeal.main_arg6) = m ((c.tc : Thread Cert.LossHeadRefIdeal.nD Cert.LossHeadRefIdeal.τ).loc Cert.LossHeadRefIdeal.main_arg6))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdIdeal_pre_finite_out_fwd [hOutFwdIdeal : Cert.OutFwdIdeal.Facts] [hPre_finite_out_fwd : Cert.Pre_finite_out_fwd.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal_finite_out_fwd m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_OutFwdRefIdeal_pre_finite_out_fwd [hOutFwdRefIdeal : Cert.OutFwdRefIdeal.Facts] [hPre_finite_out_fwd : Cert.Pre_finite_out_fwd.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal_finite_out_fwd m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdIdeal_pre_finite_ffn_fwd [hFfnFwdIdeal : Cert.FfnFwdIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffn_fwd m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_FfnFwdRefIdeal_pre_finite_ffn_fwd [hFfnFwdRefIdeal : Cert.FfnFwdRefIdeal.Facts] [hPre_finite_ffn_fwd : Cert.Pre_finite_ffn_fwd.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffn_fwd m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3)
      ∧ r.2.mem ((c.tc : Thread Cert.ProjFwd.nD Cert.ProjFwd.τ).loc Cert.ProjFwd.main_arg4) = m ((c.tc : Thread Cert.ProjFwd.nD Cert.ProjFwd.τ).loc Cert.ProjFwd.main_arg4)
      ∧ r.2.mem ((c.tc : Thread Cert.ProjFwd.nD Cert.ProjFwd.τ).loc Cert.ProjFwd.main_arg5) = m ((c.tc : Thread Cert.ProjFwd.nD Cert.ProjFwd.τ).loc Cert.ProjFwd.main_arg5)
      ∧ r.2.mem ((c.tc : Thread Cert.ProjFwd.nD Cert.ProjFwd.τ).loc Cert.ProjFwd.main_arg6) = m ((c.tc : Thread Cert.ProjFwd.nD Cert.ProjFwd.τ).loc Cert.ProjFwd.main_arg6))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
      ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
      ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
      ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3)
      ∧ r.2.mem ((c.tc : Thread Cert.ProjFwdRefIdeal.nD Cert.ProjFwdRefIdeal.τ).loc Cert.ProjFwdRefIdeal.main_arg4) = m ((c.tc : Thread Cert.ProjFwdRefIdeal.nD Cert.ProjFwdRefIdeal.τ).loc Cert.ProjFwdRefIdeal.main_arg4)
      ∧ r.2.mem ((c.tc : Thread Cert.ProjFwdRefIdeal.nD Cert.ProjFwdRefIdeal.τ).loc Cert.ProjFwdRefIdeal.main_arg5) = m ((c.tc : Thread Cert.ProjFwdRefIdeal.nD Cert.ProjFwdRefIdeal.τ).loc Cert.ProjFwdRefIdeal.main_arg5)
      ∧ r.2.mem ((c.tc : Thread Cert.ProjFwdRefIdeal.nD Cert.ProjFwdRefIdeal.τ).loc Cert.ProjFwdRefIdeal.main_arg6) = m ((c.tc : Thread Cert.ProjFwdRefIdeal.nD Cert.ProjFwdRefIdeal.τ).loc Cert.ProjFwdRefIdeal.main_arg6))
      ∧ r.2.sem = fun _ => 0)

def preserves_OutBwd_OutBwdIdeal : Prop :=
  True

def algebraic_OutBwdIdeal_OutBwdRefIdeal_pre_finite_out_bwd [hOutBwdIdeal : Cert.OutBwdIdeal.Facts] [hOutBwdRefIdeal : Cert.OutBwdRefIdeal.Facts] [hPre_finite_out_bwd : Cert.Pre_finite_out_bwd.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite_out_bwd m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v17_0)) (v1 : (c : Dev Cert.OutBwdIdeal.nD) → Buf (Elt Ideal) ((c.tc : Thread Cert.OutBwdIdeal.nD Cert.OutBwdIdeal.τ).loc Cert.OutBwdIdeal.main_v20)) (v2 : (c : Dev Cert.OutBwdIdeal.nD) → Buf (Elt Ideal) ((c.tc : Thread Cert.OutBwdIdeal.nD Cert.OutBwdIdeal.τ).loc Cert.OutBwdIdeal.main_v17_2)) (v3 : (c : Dev Cert.OutBwdIdeal.nD) → Buf (Elt Ideal) ((c.tc : Thread Cert.OutBwdIdeal.nD Cert.OutBwdIdeal.τ).loc Cert.OutBwdIdeal.main_v23)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v17_0) = v0 c
          ∧ r.2.mem ((c.tc : Thread Cert.OutBwdIdeal.nD Cert.OutBwdIdeal.τ).loc Cert.OutBwdIdeal.main_v20) = v1 c
          ∧ r.2.mem ((c.tc : Thread Cert.OutBwdIdeal.nD Cert.OutBwdIdeal.τ).loc Cert.OutBwdIdeal.main_v17_2) = v2 c
          ∧ r.2.mem ((c.tc : Thread Cert.OutBwdIdeal.nD Cert.OutBwdIdeal.τ).loc Cert.OutBwdIdeal.main_v23) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v82) = v0 c
          ∧ r.2.mem ((c.tc : Thread Cert.OutBwdRefIdeal.nD Cert.OutBwdRefIdeal.τ).loc Cert.OutBwdRefIdeal.main_v83) = v1 c
          ∧ r.2.mem ((c.tc : Thread Cert.OutBwdRefIdeal.nD Cert.OutBwdRefIdeal.τ).loc Cert.OutBwdRefIdeal.main_v81) = v2 c
          ∧ r.2.mem ((c.tc : Thread Cert.OutBwdRefIdeal.nD Cert.OutBwdRefIdeal.τ).loc Cert.OutBwdRefIdeal.main_v60) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5))

def preserves_MlaBwd_MlaBwdIdeal : Prop :=
  IdealRules.named_const.Statement Cert.MlaBwdIdeal.κ "scale_log2" .f32 0x3E16C740#32 (((Real.sqrt 96)⁻¹ * (Real.log 2)⁻¹ : ℝ) : EReal)
  ∧ IdealRules.named_const.Statement Cert.MlaBwdIdeal.κ "scale" .f32 0x3DD105EC#32 (((Real.sqrt 96)⁻¹ : ℝ) : EReal)

def algebraic_MlaBwdIdeal_MlaBwdRefIdeal_pre_finite_mla_bwd [hMlaBwdIdeal : Cert.MlaBwdIdeal.Facts] [hMlaBwdRefIdeal : Cert.MlaBwdRefIdeal.Facts] [hPre_finite_mla_bwd : Cert.Pre_finite_mla_bwd.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaBwdRefIdeal.nD Cert.MlaBwdRefIdeal.τ Cert.MlaBwdRefIdeal.sig) → Buf (Elt Ideal) ℓ) (g' : Dev Cert.MlaBwdRefIdeal.nD → PrngReg), Pre_MlaBwdIdeal_finite_mla_bwd m →
    (∀ c : Dev Cert.MlaBwdIdeal.nD,
      m' ((c.tc : Thread Cert.MlaBwdRefIdeal.nD Cert.MlaBwdRefIdeal.τ).loc Cert.MlaBwdRefIdeal.main_arg0) = m ((c.tc : Thread Cert.MlaBwdIdeal.nD Cert.MlaBwdIdeal.τ).loc Cert.MlaBwdIdeal.main_arg0)
      ∧ m' ((c.tc : Thread Cert.MlaBwdRefIdeal.nD Cert.MlaBwdRefIdeal.τ).loc Cert.MlaBwdRefIdeal.main_arg1) = m ((c.tc : Thread Cert.MlaBwdIdeal.nD Cert.MlaBwdIdeal.τ).loc Cert.MlaBwdIdeal.main_arg1)
      ∧ m' ((c.tc : Thread Cert.MlaBwdRefIdeal.nD Cert.MlaBwdRefIdeal.τ).loc Cert.MlaBwdRefIdeal.main_arg2) = m ((c.tc : Thread Cert.MlaBwdIdeal.nD Cert.MlaBwdIdeal.τ).loc Cert.MlaBwdIdeal.main_arg2)
      ∧ m' ((c.tc : Thread Cert.MlaBwdRefIdeal.nD Cert.MlaBwdRefIdeal.τ).loc Cert.MlaBwdRefIdeal.main_arg3) = m ((c.tc : Thread Cert.MlaBwdIdeal.nD Cert.MlaBwdIdeal.τ).loc Cert.MlaBwdIdeal.main_arg3)
      ∧ m' ((c.tc : Thread Cert.MlaBwdRefIdeal.nD Cert.MlaBwdRefIdeal.τ).loc Cert.MlaBwdRefIdeal.main_arg4) = m ((c.tc : Thread Cert.MlaBwdIdeal.nD Cert.MlaBwdIdeal.τ).loc Cert.MlaBwdIdeal.main_arg4)
      ∧ m' ((c.tc : Thread Cert.MlaBwdRefIdeal.nD Cert.MlaBwdRefIdeal.τ).loc Cert.MlaBwdRefIdeal.main_arg5) = m ((c.tc : Thread Cert.MlaBwdIdeal.nD Cert.MlaBwdIdeal.τ).loc Cert.MlaBwdIdeal.main_arg5)) →
    ∃ (v0 : (c : Dev Cert.MlaBwdIdeal.nD) → Buf (Elt Ideal) ((c.tc : Thread Cert.MlaBwdIdeal.nD Cert.MlaBwdIdeal.τ).loc Cert.MlaBwdIdeal.main_v55)) (v1 : (c : Dev Cert.MlaBwdIdeal.nD) → Buf (Elt Ideal) ((c.tc : Thread Cert.MlaBwdIdeal.nD Cert.MlaBwdIdeal.τ).loc Cert.MlaBwdIdeal.main_v58)) (v2 : (c : Dev Cert.MlaBwdIdeal.nD) → Buf (Elt Ideal) ((c.tc : Thread Cert.MlaBwdIdeal.nD Cert.MlaBwdIdeal.τ).loc Cert.MlaBwdIdeal.main_v60)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v55) = v0 c
          ∧ r.2.mem ((c.tc : Thread Cert.MlaBwdIdeal.nD Cert.MlaBwdIdeal.τ).loc Cert.MlaBwdIdeal.main_v58) = v1 c
          ∧ r.2.mem ((c.tc : Thread Cert.MlaBwdIdeal.nD Cert.MlaBwdIdeal.τ).loc Cert.MlaBwdIdeal.main_v60) = v2 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
          ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ θ_run (Cert.MlaBwdRefIdeal.defs (F := Ideal)) (onTc (τ := Cert.MlaBwdRefIdeal.τ) (Cert.MlaBwdRefIdeal.main (F := Ideal))) ⟨m', fun _ => 0, g'⟩ (fun r => ∀ c : Dev Cert.MlaBwdRefIdeal.nD,
          r.2.mem ((c.tc : Thread Cert.MlaBwdRefIdeal.nD Cert.MlaBwdRefIdeal.τ).loc Cert.MlaBwdRefIdeal.main_v76) = v0 c
          ∧ r.2.mem ((c.tc : Thread Cert.MlaBwdRefIdeal.nD Cert.MlaBwdRefIdeal.τ).loc Cert.MlaBwdRefIdeal.main_v77) = v1 c
          ∧ r.2.mem ((c.tc : Thread Cert.MlaBwdRefIdeal.nD Cert.MlaBwdRefIdeal.τ).loc Cert.MlaBwdRefIdeal.main_v52) = v2 c
          ∧ r.2.mem ((c.tc : Thread Cert.MlaBwdRefIdeal.nD Cert.MlaBwdRefIdeal.τ).loc Cert.MlaBwdRefIdeal.main_arg0) = m' ((c.tc : Thread Cert.MlaBwdRefIdeal.nD Cert.MlaBwdRefIdeal.τ).loc Cert.MlaBwdRefIdeal.main_arg0)
          ∧ r.2.mem ((c.tc : Thread Cert.MlaBwdRefIdeal.nD Cert.MlaBwdRefIdeal.τ).loc Cert.MlaBwdRefIdeal.main_arg1) = m' ((c.tc : Thread Cert.MlaBwdRefIdeal.nD Cert.MlaBwdRefIdeal.τ).loc Cert.MlaBwdRefIdeal.main_arg1)
          ∧ r.2.mem ((c.tc : Thread Cert.MlaBwdRefIdeal.nD Cert.MlaBwdRefIdeal.τ).loc Cert.MlaBwdRefIdeal.main_arg2) = m' ((c.tc : Thread Cert.MlaBwdRefIdeal.nD Cert.MlaBwdRefIdeal.τ).loc Cert.MlaBwdRefIdeal.main_arg2)
          ∧ r.2.mem ((c.tc : Thread Cert.MlaBwdRefIdeal.nD Cert.MlaBwdRefIdeal.τ).loc Cert.MlaBwdRefIdeal.main_arg3) = m' ((c.tc : Thread Cert.MlaBwdRefIdeal.nD Cert.MlaBwdRefIdeal.τ).loc Cert.MlaBwdRefIdeal.main_arg3)
          ∧ r.2.mem ((c.tc : Thread Cert.MlaBwdRefIdeal.nD Cert.MlaBwdRefIdeal.τ).loc Cert.MlaBwdRefIdeal.main_arg4) = m' ((c.tc : Thread Cert.MlaBwdRefIdeal.nD Cert.MlaBwdRefIdeal.τ).loc Cert.MlaBwdRefIdeal.main_arg4)
          ∧ r.2.mem ((c.tc : Thread Cert.MlaBwdRefIdeal.nD Cert.MlaBwdRefIdeal.τ).loc Cert.MlaBwdRefIdeal.main_arg5) = m' ((c.tc : Thread Cert.MlaBwdRefIdeal.nD Cert.MlaBwdRefIdeal.τ).loc Cert.MlaBwdRefIdeal.main_arg5))

def preserves_FfnBwd_FfnBwdIdeal : Prop :=
  True

def algebraic_FfnBwdIdeal_FfnBwdRefIdeal_pre_finite_ffn_bwd [hFfnBwdIdeal : Cert.FfnBwdIdeal.Facts] [hFfnBwdRefIdeal : Cert.FfnBwdRefIdeal.Facts] [hPre_finite_ffn_bwd : Cert.Pre_finite_ffn_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn_bwd m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v32_0)) (v1 : (c : Dev Cert.FfnBwdIdeal.nD) → Buf (Elt Ideal) ((c.tc : Thread Cert.FfnBwdIdeal.nD Cert.FfnBwdIdeal.τ).loc Cert.FfnBwdIdeal.main_v32_1)) (v2 : (c : Dev Cert.FfnBwdIdeal.nD) → Buf (Elt Ideal) ((c.tc : Thread Cert.FfnBwdIdeal.nD Cert.FfnBwdIdeal.τ).loc Cert.FfnBwdIdeal.main_v33)) (v3 : (c : Dev Cert.FfnBwdIdeal.nD) → Buf (Elt Ideal) ((c.tc : Thread Cert.FfnBwdIdeal.nD Cert.FfnBwdIdeal.τ).loc Cert.FfnBwdIdeal.main_v34)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v32_0) = v0 c
          ∧ r.2.mem ((c.tc : Thread Cert.FfnBwdIdeal.nD Cert.FfnBwdIdeal.τ).loc Cert.FfnBwdIdeal.main_v32_1) = v1 c
          ∧ r.2.mem ((c.tc : Thread Cert.FfnBwdIdeal.nD Cert.FfnBwdIdeal.τ).loc Cert.FfnBwdIdeal.main_v33) = v2 c
          ∧ r.2.mem ((c.tc : Thread Cert.FfnBwdIdeal.nD Cert.FfnBwdIdeal.τ).loc Cert.FfnBwdIdeal.main_v34) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v63) = v0 c
          ∧ r.2.mem ((c.tc : Thread Cert.FfnBwdRefIdeal.nD Cert.FfnBwdRefIdeal.τ).loc Cert.FfnBwdRefIdeal.main_v62) = v1 c
          ∧ r.2.mem ((c.tc : Thread Cert.FfnBwdRefIdeal.nD Cert.FfnBwdRefIdeal.τ).loc Cert.FfnBwdRefIdeal.main_v64) = v2 c
          ∧ r.2.mem ((c.tc : Thread Cert.FfnBwdRefIdeal.nD Cert.FfnBwdRefIdeal.τ).loc Cert.FfnBwdRefIdeal.main_v65) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_MlaFwd_MlaFwdIdeal : Prop :=
  IdealRules.named_const.Statement Cert.MlaFwdIdeal.κ "scale_log2" .f32 0x3E16C740#32 (((Real.sqrt 96)⁻¹ * (Real.log 2)⁻¹ : ℝ) : EReal)
  ∧ IdealRules.named_const.Statement Cert.MlaFwdIdeal.κ "mask" .f32 0xF149F2CA#32 ⊥
  ∧ IdealRules.named_const.Statement Cert.MlaFwdIdeal.κ "log2_e" .f32 0x3FB8AA3B#32 (((Real.log 2)⁻¹ : ℝ) : EReal)

def algebraic_MlaFwdIdeal_MlaFwdRefIdeal_pre_finite_mla_fwd [hMlaFwdIdeal : Cert.MlaFwdIdeal.Facts] [hMlaFwdRefIdeal : Cert.MlaFwdRefIdeal.Facts] [hPre_finite_mla_fwd : Cert.Pre_finite_mla_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_finite_mla_fwd m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)
      ∧ m' ((c.tc : Thread Cert.MlaFwdRefIdeal.nD Cert.MlaFwdRefIdeal.τ).loc Cert.MlaFwdRefIdeal.main_arg3) = m ((c.tc : Thread Cert.MlaFwdIdeal.nD Cert.MlaFwdIdeal.τ).loc Cert.MlaFwdIdeal.main_arg3)
      ∧ m' ((c.tc : Thread Cert.MlaFwdRefIdeal.nD Cert.MlaFwdRefIdeal.τ).loc Cert.MlaFwdRefIdeal.main_arg4) = m ((c.tc : Thread Cert.MlaFwdIdeal.nD Cert.MlaFwdIdeal.τ).loc Cert.MlaFwdIdeal.main_arg4)) →
    ∃ (v0 : (c : Dev Cert.MlaFwdIdeal.nD) → Buf (Elt Ideal) ((c.tc : Thread Cert.MlaFwdIdeal.nD Cert.MlaFwdIdeal.τ).loc Cert.MlaFwdIdeal.main_v14)) (v1 : (c : Dev Cert.MlaFwdIdeal.nD) → Buf (Elt Ideal) ((c.tc : Thread Cert.MlaFwdIdeal.nD Cert.MlaFwdIdeal.τ).loc Cert.MlaFwdIdeal.main_v15)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v14) = v0 c
          ∧ r.2.mem ((c.tc : Thread Cert.MlaFwdIdeal.nD Cert.MlaFwdIdeal.τ).loc Cert.MlaFwdIdeal.main_v15) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
          ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
          ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v38) = v0 c
          ∧ r.2.mem ((c.tc : Thread Cert.MlaFwdRefIdeal.nD Cert.MlaFwdRefIdeal.τ).loc Cert.MlaFwdRefIdeal.main_v39) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2)
          ∧ r.2.mem ((c.tc : Thread Cert.MlaFwdRefIdeal.nD Cert.MlaFwdRefIdeal.τ).loc Cert.MlaFwdRefIdeal.main_arg3) = m' ((c.tc : Thread Cert.MlaFwdRefIdeal.nD Cert.MlaFwdRefIdeal.τ).loc Cert.MlaFwdRefIdeal.main_arg3)
          ∧ r.2.mem ((c.tc : Thread Cert.MlaFwdRefIdeal.nD Cert.MlaFwdRefIdeal.τ).loc Cert.MlaFwdRefIdeal.main_arg4) = m' ((c.tc : Thread Cert.MlaFwdRefIdeal.nD Cert.MlaFwdRefIdeal.τ).loc Cert.MlaFwdRefIdeal.main_arg4))

def preserves_LossHead_LossHeadIdeal : Prop :=
  True

def algebraic_LossHeadIdeal_LossHeadRefIdeal_pre_finite_loss_head [hLossHeadIdeal : Cert.LossHeadIdeal.Facts] [hLossHeadRefIdeal : Cert.LossHeadRefIdeal.Facts] [hPre_finite_loss_head : Cert.Pre_finite_loss_head.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss_head m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)
      ∧ m' ((c.tc : Thread Cert.LossHeadRefIdeal.nD Cert.LossHeadRefIdeal.τ).loc Cert.LossHeadRefIdeal.main_arg5) = m ((c.tc : Thread Cert.LossHeadIdeal.nD Cert.LossHeadIdeal.τ).loc Cert.LossHeadIdeal.main_arg5)
      ∧ m' ((c.tc : Thread Cert.LossHeadRefIdeal.nD Cert.LossHeadRefIdeal.τ).loc Cert.LossHeadRefIdeal.main_arg6) = m ((c.tc : Thread Cert.LossHeadIdeal.nD Cert.LossHeadIdeal.τ).loc Cert.LossHeadIdeal.main_arg6)) →
    ∃ (v0 : (c : Dev Cert.LossHeadIdeal.nD) → Buf (Elt Ideal) ((c.tc : Thread Cert.LossHeadIdeal.nD Cert.LossHeadIdeal.τ).loc Cert.LossHeadIdeal.main_v13)) (v1 : (c : Dev Cert.LossHeadIdeal.nD) → Buf (Elt Ideal) ((c.tc : Thread Cert.LossHeadIdeal.nD Cert.LossHeadIdeal.τ).loc Cert.LossHeadIdeal.main_v11_0)) (v2 : (c : Dev Cert.LossHeadIdeal.nD) → Buf (Elt Ideal) ((c.tc : Thread Cert.LossHeadIdeal.nD Cert.LossHeadIdeal.τ).loc Cert.LossHeadIdeal.main_v14)) (v3 : (c : Dev Cert.LossHeadIdeal.nD) → Buf (Elt Ideal) ((c.tc : Thread Cert.LossHeadIdeal.nD Cert.LossHeadIdeal.τ).loc Cert.LossHeadIdeal.main_v15)) (v4 : (c : Dev Cert.LossHeadIdeal.nD) → Buf (Elt Ideal) ((c.tc : Thread Cert.LossHeadIdeal.nD Cert.LossHeadIdeal.τ).loc Cert.LossHeadIdeal.main_v16)) (v5 : (c : Dev Cert.LossHeadIdeal.nD) → Buf (Elt Ideal) ((c.tc : Thread Cert.LossHeadIdeal.nD Cert.LossHeadIdeal.τ).loc Cert.LossHeadIdeal.main_v17)) (v6 : (c : Dev Cert.LossHeadIdeal.nD) → Buf (Elt Ideal) ((c.tc : Thread Cert.LossHeadIdeal.nD Cert.LossHeadIdeal.τ).loc Cert.LossHeadIdeal.main_v18)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v13) = v0 c
          ∧ r.2.mem ((c.tc : Thread Cert.LossHeadIdeal.nD Cert.LossHeadIdeal.τ).loc Cert.LossHeadIdeal.main_v11_0) = v1 c
          ∧ r.2.mem ((c.tc : Thread Cert.LossHeadIdeal.nD Cert.LossHeadIdeal.τ).loc Cert.LossHeadIdeal.main_v14) = v2 c
          ∧ r.2.mem ((c.tc : Thread Cert.LossHeadIdeal.nD Cert.LossHeadIdeal.τ).loc Cert.LossHeadIdeal.main_v15) = v3 c
          ∧ r.2.mem ((c.tc : Thread Cert.LossHeadIdeal.nD Cert.LossHeadIdeal.τ).loc Cert.LossHeadIdeal.main_v16) = v4 c
          ∧ r.2.mem ((c.tc : Thread Cert.LossHeadIdeal.nD Cert.LossHeadIdeal.τ).loc Cert.LossHeadIdeal.main_v17) = v5 c
          ∧ r.2.mem ((c.tc : Thread Cert.LossHeadIdeal.nD Cert.LossHeadIdeal.τ).loc Cert.LossHeadIdeal.main_v18) = v6 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
          ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v76) = v1 c
          ∧ r.2.mem ((c.tc : Thread Cert.LossHeadRefIdeal.nD Cert.LossHeadRefIdeal.τ).loc Cert.LossHeadRefIdeal.main_v61) = v2 c
          ∧ r.2.mem ((c.tc : Thread Cert.LossHeadRefIdeal.nD Cert.LossHeadRefIdeal.τ).loc Cert.LossHeadRefIdeal.main_v77) = v3 c
          ∧ r.2.mem ((c.tc : Thread Cert.LossHeadRefIdeal.nD Cert.LossHeadRefIdeal.τ).loc Cert.LossHeadRefIdeal.main_v78) = v4 c
          ∧ r.2.mem ((c.tc : Thread Cert.LossHeadRefIdeal.nD Cert.LossHeadRefIdeal.τ).loc Cert.LossHeadRefIdeal.main_v79) = v5 c
          ∧ r.2.mem ((c.tc : Thread Cert.LossHeadRefIdeal.nD Cert.LossHeadRefIdeal.τ).loc Cert.LossHeadRefIdeal.main_v80) = v6 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4)
          ∧ r.2.mem ((c.tc : Thread Cert.LossHeadRefIdeal.nD Cert.LossHeadRefIdeal.τ).loc Cert.LossHeadRefIdeal.main_arg5) = m' ((c.tc : Thread Cert.LossHeadRefIdeal.nD Cert.LossHeadRefIdeal.τ).loc Cert.LossHeadRefIdeal.main_arg5)
          ∧ r.2.mem ((c.tc : Thread Cert.LossHeadRefIdeal.nD Cert.LossHeadRefIdeal.τ).loc Cert.LossHeadRefIdeal.main_arg6) = m' ((c.tc : Thread Cert.LossHeadRefIdeal.nD Cert.LossHeadRefIdeal.τ).loc Cert.LossHeadRefIdeal.main_arg6))

def preserves_OutFwd_OutFwdIdeal : Prop :=
  True

def algebraic_OutFwdIdeal_OutFwdRefIdeal_pre_finite_out_fwd [hOutFwdIdeal : Cert.OutFwdIdeal.Facts] [hOutFwdRefIdeal : Cert.OutFwdRefIdeal.Facts] [hPre_finite_out_fwd : Cert.Pre_finite_out_fwd.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal_finite_out_fwd m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v17_0)) (v1 : (c : Dev Cert.OutFwdIdeal.nD) → Buf (Elt Ideal) ((c.tc : Thread Cert.OutFwdIdeal.nD Cert.OutFwdIdeal.τ).loc Cert.OutFwdIdeal.main_v19)) (v2 : (c : Dev Cert.OutFwdIdeal.nD) → Buf (Elt Ideal) ((c.tc : Thread Cert.OutFwdIdeal.nD Cert.OutFwdIdeal.τ).loc Cert.OutFwdIdeal.main_v24)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v17_0) = v0 c
          ∧ r.2.mem ((c.tc : Thread Cert.OutFwdIdeal.nD Cert.OutFwdIdeal.τ).loc Cert.OutFwdIdeal.main_v19) = v1 c
          ∧ r.2.mem ((c.tc : Thread Cert.OutFwdIdeal.nD Cert.OutFwdIdeal.τ).loc Cert.OutFwdIdeal.main_v24) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v32) = v0 c
          ∧ r.2.mem ((c.tc : Thread Cert.OutFwdRefIdeal.nD Cert.OutFwdRefIdeal.τ).loc Cert.OutFwdRefIdeal.main_v33) = v1 c
          ∧ r.2.mem ((c.tc : Thread Cert.OutFwdRefIdeal.nD Cert.OutFwdRefIdeal.τ).loc Cert.OutFwdRefIdeal.main_v34) = v2 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_FfnFwd_FfnFwdIdeal : Prop :=
  True

def algebraic_FfnFwdIdeal_FfnFwdRefIdeal_pre_finite_ffn_fwd [hFfnFwdIdeal : Cert.FfnFwdIdeal.Facts] [hFfnFwdRefIdeal : Cert.FfnFwdRefIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffn_fwd m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v9_0)) (v1 : (c : Dev Cert.FfnFwdIdeal.nD) → Buf (Elt Ideal) ((c.tc : Thread Cert.FfnFwdIdeal.nD Cert.FfnFwdIdeal.τ).loc Cert.FfnFwdIdeal.main_v10)) (v2 : (c : Dev Cert.FfnFwdIdeal.nD) → Buf (Elt Ideal) ((c.tc : Thread Cert.FfnFwdIdeal.nD Cert.FfnFwdIdeal.τ).loc Cert.FfnFwdIdeal.main_v11)) (v3 : (c : Dev Cert.FfnFwdIdeal.nD) → Buf (Elt Ideal) ((c.tc : Thread Cert.FfnFwdIdeal.nD Cert.FfnFwdIdeal.τ).loc Cert.FfnFwdIdeal.main_v12)) (v4 : (c : Dev Cert.FfnFwdIdeal.nD) → Buf (Elt Ideal) ((c.tc : Thread Cert.FfnFwdIdeal.nD Cert.FfnFwdIdeal.τ).loc Cert.FfnFwdIdeal.main_v13)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v9_0) = v0 c
          ∧ r.2.mem ((c.tc : Thread Cert.FfnFwdIdeal.nD Cert.FfnFwdIdeal.τ).loc Cert.FfnFwdIdeal.main_v10) = v1 c
          ∧ r.2.mem ((c.tc : Thread Cert.FfnFwdIdeal.nD Cert.FfnFwdIdeal.τ).loc Cert.FfnFwdIdeal.main_v11) = v2 c
          ∧ r.2.mem ((c.tc : Thread Cert.FfnFwdIdeal.nD Cert.FfnFwdIdeal.τ).loc Cert.FfnFwdIdeal.main_v12) = v3 c
          ∧ r.2.mem ((c.tc : Thread Cert.FfnFwdIdeal.nD Cert.FfnFwdIdeal.τ).loc Cert.FfnFwdIdeal.main_v13) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v25) = v0 c
          ∧ r.2.mem ((c.tc : Thread Cert.FfnFwdRefIdeal.nD Cert.FfnFwdRefIdeal.τ).loc Cert.FfnFwdRefIdeal.main_v26) = v1 c
          ∧ r.2.mem ((c.tc : Thread Cert.FfnFwdRefIdeal.nD Cert.FfnFwdRefIdeal.τ).loc Cert.FfnFwdRefIdeal.main_v27) = v2 c
          ∧ r.2.mem ((c.tc : Thread Cert.FfnFwdRefIdeal.nD Cert.FfnFwdRefIdeal.τ).loc Cert.FfnFwdRefIdeal.main_v28) = v3 c
          ∧ r.2.mem ((c.tc : Thread Cert.FfnFwdRefIdeal.nD Cert.FfnFwdRefIdeal.τ).loc Cert.FfnFwdRefIdeal.main_v29) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)
      ∧ m' ((c.tc : Thread Cert.ProjFwdRefIdeal.nD Cert.ProjFwdRefIdeal.τ).loc Cert.ProjFwdRefIdeal.main_arg3) = m ((c.tc : Thread Cert.ProjFwdIdeal.nD Cert.ProjFwdIdeal.τ).loc Cert.ProjFwdIdeal.main_arg3)
      ∧ m' ((c.tc : Thread Cert.ProjFwdRefIdeal.nD Cert.ProjFwdRefIdeal.τ).loc Cert.ProjFwdRefIdeal.main_arg4) = m ((c.tc : Thread Cert.ProjFwdIdeal.nD Cert.ProjFwdIdeal.τ).loc Cert.ProjFwdIdeal.main_arg4)
      ∧ m' ((c.tc : Thread Cert.ProjFwdRefIdeal.nD Cert.ProjFwdRefIdeal.τ).loc Cert.ProjFwdRefIdeal.main_arg5) = m ((c.tc : Thread Cert.ProjFwdIdeal.nD Cert.ProjFwdIdeal.τ).loc Cert.ProjFwdIdeal.main_arg5)
      ∧ m' ((c.tc : Thread Cert.ProjFwdRefIdeal.nD Cert.ProjFwdRefIdeal.τ).loc Cert.ProjFwdRefIdeal.main_arg6) = m ((c.tc : Thread Cert.ProjFwdIdeal.nD Cert.ProjFwdIdeal.τ).loc Cert.ProjFwdIdeal.main_arg6)) →
    ∃ (v0 : (c : Dev Cert.ProjFwdIdeal.nD) → Buf (Elt Ideal) ((c.tc : Thread Cert.ProjFwdIdeal.nD Cert.ProjFwdIdeal.τ).loc Cert.ProjFwdIdeal.main_v57)) (v1 : (c : Dev Cert.ProjFwdIdeal.nD) → Buf (Elt Ideal) ((c.tc : Thread Cert.ProjFwdIdeal.nD Cert.ProjFwdIdeal.τ).loc Cert.ProjFwdIdeal.main_v56_1)) (v2 : (c : Dev Cert.ProjFwdIdeal.nD) → Buf (Elt Ideal) ((c.tc : Thread Cert.ProjFwdIdeal.nD Cert.ProjFwdIdeal.τ).loc Cert.ProjFwdIdeal.main_v56_2)) (v3 : (c : Dev Cert.ProjFwdIdeal.nD) → Buf (Elt Ideal) ((c.tc : Thread Cert.ProjFwdIdeal.nD Cert.ProjFwdIdeal.τ).loc Cert.ProjFwdIdeal.main_v58)) (v4 : (c : Dev Cert.ProjFwdIdeal.nD) → Buf (Elt Ideal) ((c.tc : Thread Cert.ProjFwdIdeal.nD Cert.ProjFwdIdeal.τ).loc Cert.ProjFwdIdeal.main_v59)) (v5 : (c : Dev Cert.ProjFwdIdeal.nD) → Buf (Elt Ideal) ((c.tc : Thread Cert.ProjFwdIdeal.nD Cert.ProjFwdIdeal.τ).loc Cert.ProjFwdIdeal.main_v62)) (v6 : (c : Dev Cert.ProjFwdIdeal.nD) → Buf (Elt Ideal) ((c.tc : Thread Cert.ProjFwdIdeal.nD Cert.ProjFwdIdeal.τ).loc Cert.ProjFwdIdeal.main_v65)) (v7 : (c : Dev Cert.ProjFwdIdeal.nD) → Buf (Elt Ideal) ((c.tc : Thread Cert.ProjFwdIdeal.nD Cert.ProjFwdIdeal.τ).loc Cert.ProjFwdIdeal.main_v66)) (v8 : (c : Dev Cert.ProjFwdIdeal.nD) → Buf (Elt Ideal) ((c.tc : Thread Cert.ProjFwdIdeal.nD Cert.ProjFwdIdeal.τ).loc Cert.ProjFwdIdeal.main_v70)) (v9 : (c : Dev Cert.ProjFwdIdeal.nD) → Buf (Elt Ideal) ((c.tc : Thread Cert.ProjFwdIdeal.nD Cert.ProjFwdIdeal.τ).loc Cert.ProjFwdIdeal.main_v71)) (v10 : (c : Dev Cert.ProjFwdIdeal.nD) → Buf (Elt Ideal) ((c.tc : Thread Cert.ProjFwdIdeal.nD Cert.ProjFwdIdeal.τ).loc Cert.ProjFwdIdeal.main_v72)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v57) = v0 c
          ∧ r.2.mem ((c.tc : Thread Cert.ProjFwdIdeal.nD Cert.ProjFwdIdeal.τ).loc Cert.ProjFwdIdeal.main_v56_1) = v1 c
          ∧ r.2.mem ((c.tc : Thread Cert.ProjFwdIdeal.nD Cert.ProjFwdIdeal.τ).loc Cert.ProjFwdIdeal.main_v56_2) = v2 c
          ∧ r.2.mem ((c.tc : Thread Cert.ProjFwdIdeal.nD Cert.ProjFwdIdeal.τ).loc Cert.ProjFwdIdeal.main_v58) = v3 c
          ∧ r.2.mem ((c.tc : Thread Cert.ProjFwdIdeal.nD Cert.ProjFwdIdeal.τ).loc Cert.ProjFwdIdeal.main_v59) = v4 c
          ∧ r.2.mem ((c.tc : Thread Cert.ProjFwdIdeal.nD Cert.ProjFwdIdeal.τ).loc Cert.ProjFwdIdeal.main_v62) = v5 c
          ∧ r.2.mem ((c.tc : Thread Cert.ProjFwdIdeal.nD Cert.ProjFwdIdeal.τ).loc Cert.ProjFwdIdeal.main_v65) = v6 c
          ∧ r.2.mem ((c.tc : Thread Cert.ProjFwdIdeal.nD Cert.ProjFwdIdeal.τ).loc Cert.ProjFwdIdeal.main_v66) = v7 c
          ∧ r.2.mem ((c.tc : Thread Cert.ProjFwdIdeal.nD Cert.ProjFwdIdeal.τ).loc Cert.ProjFwdIdeal.main_v70) = v8 c
          ∧ r.2.mem ((c.tc : Thread Cert.ProjFwdIdeal.nD Cert.ProjFwdIdeal.τ).loc Cert.ProjFwdIdeal.main_v71) = v9 c
          ∧ r.2.mem ((c.tc : Thread Cert.ProjFwdIdeal.nD Cert.ProjFwdIdeal.τ).loc Cert.ProjFwdIdeal.main_v72) = v10 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
          ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
          ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
          ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v117) = v0 c
          ∧ r.2.mem ((c.tc : Thread Cert.ProjFwdRefIdeal.nD Cert.ProjFwdRefIdeal.τ).loc Cert.ProjFwdRefIdeal.main_v118) = v1 c
          ∧ r.2.mem ((c.tc : Thread Cert.ProjFwdRefIdeal.nD Cert.ProjFwdRefIdeal.τ).loc Cert.ProjFwdRefIdeal.main_v119) = v2 c
          ∧ r.2.mem ((c.tc : Thread Cert.ProjFwdRefIdeal.nD Cert.ProjFwdRefIdeal.τ).loc Cert.ProjFwdRefIdeal.main_v120) = v3 c
          ∧ r.2.mem ((c.tc : Thread Cert.ProjFwdRefIdeal.nD Cert.ProjFwdRefIdeal.τ).loc Cert.ProjFwdRefIdeal.main_v121) = v4 c
          ∧ r.2.mem ((c.tc : Thread Cert.ProjFwdRefIdeal.nD Cert.ProjFwdRefIdeal.τ).loc Cert.ProjFwdRefIdeal.main_v122) = v5 c
          ∧ r.2.mem ((c.tc : Thread Cert.ProjFwdRefIdeal.nD Cert.ProjFwdRefIdeal.τ).loc Cert.ProjFwdRefIdeal.main_v123) = v6 c
          ∧ r.2.mem ((c.tc : Thread Cert.ProjFwdRefIdeal.nD Cert.ProjFwdRefIdeal.τ).loc Cert.ProjFwdRefIdeal.main_v125) = v7 c
          ∧ r.2.mem ((c.tc : Thread Cert.ProjFwdRefIdeal.nD Cert.ProjFwdRefIdeal.τ).loc Cert.ProjFwdRefIdeal.main_v126) = v8 c
          ∧ r.2.mem ((c.tc : Thread Cert.ProjFwdRefIdeal.nD Cert.ProjFwdRefIdeal.τ).loc Cert.ProjFwdRefIdeal.main_v127) = v9 c
          ∧ r.2.mem ((c.tc : Thread Cert.ProjFwdRefIdeal.nD Cert.ProjFwdRefIdeal.τ).loc Cert.ProjFwdRefIdeal.main_v128) = v10 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2)
          ∧ r.2.mem ((c.tc : Thread Cert.ProjFwdRefIdeal.nD Cert.ProjFwdRefIdeal.τ).loc Cert.ProjFwdRefIdeal.main_arg3) = m' ((c.tc : Thread Cert.ProjFwdRefIdeal.nD Cert.ProjFwdRefIdeal.τ).loc Cert.ProjFwdRefIdeal.main_arg3)
          ∧ r.2.mem ((c.tc : Thread Cert.ProjFwdRefIdeal.nD Cert.ProjFwdRefIdeal.τ).loc Cert.ProjFwdRefIdeal.main_arg4) = m' ((c.tc : Thread Cert.ProjFwdRefIdeal.nD Cert.ProjFwdRefIdeal.τ).loc Cert.ProjFwdRefIdeal.main_arg4)
          ∧ r.2.mem ((c.tc : Thread Cert.ProjFwdRefIdeal.nD Cert.ProjFwdRefIdeal.τ).loc Cert.ProjFwdRefIdeal.main_arg5) = m' ((c.tc : Thread Cert.ProjFwdRefIdeal.nD Cert.ProjFwdRefIdeal.τ).loc Cert.ProjFwdRefIdeal.main_arg5)
          ∧ r.2.mem ((c.tc : Thread Cert.ProjFwdRefIdeal.nD Cert.ProjFwdRefIdeal.τ).loc Cert.ProjFwdRefIdeal.main_arg6) = m' ((c.tc : Thread Cert.ProjFwdRefIdeal.nD Cert.ProjFwdRefIdeal.τ).loc Cert.ProjFwdRefIdeal.main_arg6))

def Claim : Prop :=
  ∃ (hOutBwd : Cert.OutBwd.Facts) (hOutBwdIdeal : Cert.OutBwdIdeal.Facts) (hOutBwdRefIdeal : Cert.OutBwdRefIdeal.Facts) (hMlaBwd : Cert.MlaBwd.Facts) (hMlaBwdIdeal : Cert.MlaBwdIdeal.Facts) (hMlaBwdRefIdeal : Cert.MlaBwdRefIdeal.Facts) (hFfnBwd : Cert.FfnBwd.Facts) (hFfnBwdIdeal : Cert.FfnBwdIdeal.Facts) (hFfnBwdRefIdeal : Cert.FfnBwdRefIdeal.Facts) (hMlaFwd : Cert.MlaFwd.Facts) (hMlaFwdIdeal : Cert.MlaFwdIdeal.Facts) (hMlaFwdRefIdeal : Cert.MlaFwdRefIdeal.Facts) (hLossHead : Cert.LossHead.Facts) (hLossHeadIdeal : Cert.LossHeadIdeal.Facts) (hLossHeadRefIdeal : Cert.LossHeadRefIdeal.Facts) (hOutFwd : Cert.OutFwd.Facts) (hOutFwdIdeal : Cert.OutFwdIdeal.Facts) (hOutFwdRefIdeal : Cert.OutFwdRefIdeal.Facts) (hFfnFwd : Cert.FfnFwd.Facts) (hFfnFwdIdeal : Cert.FfnFwdIdeal.Facts) (hFfnFwdRefIdeal : Cert.FfnFwdRefIdeal.Facts) (hProjFwd : Cert.ProjFwd.Facts) (hProjFwdIdeal : Cert.ProjFwdIdeal.Facts) (hProjFwdRefIdeal : Cert.ProjFwdRefIdeal.Facts) (hPre_finite_out_bwd : Cert.Pre_finite_out_bwd.Facts) (hPre_finite_mla_bwd : Cert.Pre_finite_mla_bwd.Facts) (hPre_finite_ffn_bwd : Cert.Pre_finite_ffn_bwd.Facts) (hPre_finite_mla_fwd : Cert.Pre_finite_mla_fwd.Facts) (hPre_finite_loss_head : Cert.Pre_finite_loss_head.Facts) (hPre_finite_out_fwd : Cert.Pre_finite_out_fwd.Facts) (hPre_finite_ffn_fwd : Cert.Pre_finite_ffn_fwd.Facts),
    quiescent_OutBwd (hOutBwd := hOutBwd)
    ∧ quiescent_OutBwdIdeal (hOutBwdIdeal := hOutBwdIdeal)
    ∧ quiescent_OutBwdIdeal_pre_finite_out_bwd (hOutBwdIdeal := hOutBwdIdeal) (hPre_finite_out_bwd := hPre_finite_out_bwd)
    ∧ quiescent_OutBwdRefIdeal (hOutBwdRefIdeal := hOutBwdRefIdeal)
    ∧ quiescent_OutBwdRefIdeal_pre_finite_out_bwd (hOutBwdRefIdeal := hOutBwdRefIdeal) (hPre_finite_out_bwd := hPre_finite_out_bwd)
    ∧ quiescent_MlaBwd (hMlaBwd := hMlaBwd)
    ∧ quiescent_MlaBwdIdeal (hMlaBwdIdeal := hMlaBwdIdeal)
    ∧ quiescent_MlaBwdIdeal_pre_finite_mla_bwd (hMlaBwdIdeal := hMlaBwdIdeal) (hPre_finite_mla_bwd := hPre_finite_mla_bwd)
    ∧ quiescent_MlaBwdRefIdeal (hMlaBwdRefIdeal := hMlaBwdRefIdeal)
    ∧ quiescent_MlaBwdRefIdeal_pre_finite_mla_bwd (hMlaBwdRefIdeal := hMlaBwdRefIdeal) (hPre_finite_mla_bwd := hPre_finite_mla_bwd)
    ∧ quiescent_FfnBwd (hFfnBwd := hFfnBwd)
    ∧ quiescent_FfnBwdIdeal (hFfnBwdIdeal := hFfnBwdIdeal)
    ∧ quiescent_FfnBwdIdeal_pre_finite_ffn_bwd (hFfnBwdIdeal := hFfnBwdIdeal) (hPre_finite_ffn_bwd := hPre_finite_ffn_bwd)
    ∧ quiescent_FfnBwdRefIdeal (hFfnBwdRefIdeal := hFfnBwdRefIdeal)
    ∧ quiescent_FfnBwdRefIdeal_pre_finite_ffn_bwd (hFfnBwdRefIdeal := hFfnBwdRefIdeal) (hPre_finite_ffn_bwd := hPre_finite_ffn_bwd)
    ∧ quiescent_MlaFwd (hMlaFwd := hMlaFwd)
    ∧ quiescent_MlaFwdIdeal (hMlaFwdIdeal := hMlaFwdIdeal)
    ∧ quiescent_MlaFwdIdeal_pre_finite_mla_fwd (hMlaFwdIdeal := hMlaFwdIdeal) (hPre_finite_mla_fwd := hPre_finite_mla_fwd)
    ∧ quiescent_MlaFwdRefIdeal (hMlaFwdRefIdeal := hMlaFwdRefIdeal)
    ∧ quiescent_MlaFwdRefIdeal_pre_finite_mla_fwd (hMlaFwdRefIdeal := hMlaFwdRefIdeal) (hPre_finite_mla_fwd := hPre_finite_mla_fwd)
    ∧ quiescent_LossHead (hLossHead := hLossHead)
    ∧ quiescent_LossHeadIdeal (hLossHeadIdeal := hLossHeadIdeal)
    ∧ quiescent_LossHeadIdeal_pre_finite_loss_head (hLossHeadIdeal := hLossHeadIdeal) (hPre_finite_loss_head := hPre_finite_loss_head)
    ∧ quiescent_LossHeadRefIdeal (hLossHeadRefIdeal := hLossHeadRefIdeal)
    ∧ quiescent_LossHeadRefIdeal_pre_finite_loss_head (hLossHeadRefIdeal := hLossHeadRefIdeal) (hPre_finite_loss_head := hPre_finite_loss_head)
    ∧ quiescent_OutFwd (hOutFwd := hOutFwd)
    ∧ quiescent_OutFwdIdeal (hOutFwdIdeal := hOutFwdIdeal)
    ∧ quiescent_OutFwdIdeal_pre_finite_out_fwd (hOutFwdIdeal := hOutFwdIdeal) (hPre_finite_out_fwd := hPre_finite_out_fwd)
    ∧ quiescent_OutFwdRefIdeal (hOutFwdRefIdeal := hOutFwdRefIdeal)
    ∧ quiescent_OutFwdRefIdeal_pre_finite_out_fwd (hOutFwdRefIdeal := hOutFwdRefIdeal) (hPre_finite_out_fwd := hPre_finite_out_fwd)
    ∧ quiescent_FfnFwd (hFfnFwd := hFfnFwd)
    ∧ quiescent_FfnFwdIdeal (hFfnFwdIdeal := hFfnFwdIdeal)
    ∧ quiescent_FfnFwdIdeal_pre_finite_ffn_fwd (hFfnFwdIdeal := hFfnFwdIdeal) (hPre_finite_ffn_fwd := hPre_finite_ffn_fwd)
    ∧ quiescent_FfnFwdRefIdeal (hFfnFwdRefIdeal := hFfnFwdRefIdeal)
    ∧ quiescent_FfnFwdRefIdeal_pre_finite_ffn_fwd (hFfnFwdRefIdeal := hFfnFwdRefIdeal) (hPre_finite_ffn_fwd := hPre_finite_ffn_fwd)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ preserves_OutBwd_OutBwdIdeal
    ∧ algebraic_OutBwdIdeal_OutBwdRefIdeal_pre_finite_out_bwd (hOutBwdIdeal := hOutBwdIdeal) (hOutBwdRefIdeal := hOutBwdRefIdeal) (hPre_finite_out_bwd := hPre_finite_out_bwd)
    ∧ preserves_MlaBwd_MlaBwdIdeal
    ∧ algebraic_MlaBwdIdeal_MlaBwdRefIdeal_pre_finite_mla_bwd (hMlaBwdIdeal := hMlaBwdIdeal) (hMlaBwdRefIdeal := hMlaBwdRefIdeal) (hPre_finite_mla_bwd := hPre_finite_mla_bwd)
    ∧ preserves_FfnBwd_FfnBwdIdeal
    ∧ algebraic_FfnBwdIdeal_FfnBwdRefIdeal_pre_finite_ffn_bwd (hFfnBwdIdeal := hFfnBwdIdeal) (hFfnBwdRefIdeal := hFfnBwdRefIdeal) (hPre_finite_ffn_bwd := hPre_finite_ffn_bwd)
    ∧ preserves_MlaFwd_MlaFwdIdeal
    ∧ algebraic_MlaFwdIdeal_MlaFwdRefIdeal_pre_finite_mla_fwd (hMlaFwdIdeal := hMlaFwdIdeal) (hMlaFwdRefIdeal := hMlaFwdRefIdeal) (hPre_finite_mla_fwd := hPre_finite_mla_fwd)
    ∧ preserves_LossHead_LossHeadIdeal
    ∧ algebraic_LossHeadIdeal_LossHeadRefIdeal_pre_finite_loss_head (hLossHeadIdeal := hLossHeadIdeal) (hLossHeadRefIdeal := hLossHeadRefIdeal) (hPre_finite_loss_head := hPre_finite_loss_head)
    ∧ preserves_OutFwd_OutFwdIdeal
    ∧ algebraic_OutFwdIdeal_OutFwdRefIdeal_pre_finite_out_fwd (hOutFwdIdeal := hOutFwdIdeal) (hOutFwdRefIdeal := hOutFwdRefIdeal) (hPre_finite_out_fwd := hPre_finite_out_fwd)
    ∧ preserves_FfnFwd_FfnFwdIdeal
    ∧ algebraic_FfnFwdIdeal_FfnFwdRefIdeal_pre_finite_ffn_fwd (hFfnFwdIdeal := hFfnFwdIdeal) (hFfnFwdRefIdeal := hFfnFwdRefIdeal) (hPre_finite_ffn_fwd := hPre_finite_ffn_fwd)
    ∧ preserves_ProjFwd_ProjFwdIdeal
    ∧ algebraic_ProjFwdIdeal_ProjFwdRefIdeal (hProjFwdIdeal := hProjFwdIdeal) (hProjFwdRefIdeal := hProjFwdRefIdeal)
-- ==== Pre_finite_ffn_bwd.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S4x2048x1024 .f32) (main_arg1 : FVec F S1x1024 .f32) (main_arg2 : FVec F S1x1024x2816 .f32) (main_arg3 : FVec F S1x1024x2816 .f32) (main_arg4 : FVec F S1x2816x1024 .f32) (main_arg5 : FVec F S4x2048x1024 .f32) : IVec S4x2048x1024 1 × IVec S1x1024 1 × IVec S1x1024x2816 1 × IVec S1x1024x2816 1 × IVec S1x2816x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S4x2048x1024 .f32 := Host.absf main_arg5
  let main_cst_4 : FVec F S_ .f32 := constant S_ .f32 0x7F800000#32
  let main_v16 : FVec F S4x2048x1024 .f32 := broadcastInDim S4x2048x1024 ![] bcast_S_S4x2048x1024 main_cst_4
  let main_v17 : IVec S4x2048x1024 1 := cmpf .olt main_v15 main_v16
  (main_v2, main_v5, main_v8, main_v11, main_v14, main_v17)
-- ==== Pre_finite_ffn_fwd.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S4x2048x1024 .f32) (main_arg1 : FVec F S1x1024 .f32) (main_arg2 : FVec F S1x1024x2816 .f32) (main_arg3 : FVec F S1x1024x2816 .f32) (main_arg4 : FVec F S1x2816x1024 .f32) : IVec S4x2048x1024 1 × IVec S1x1024 1 × IVec S1x1024x2816 1 × IVec S1x1024x2816 1 × IVec S1x2816x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  (main_v2, main_v5, main_v8, main_v11, main_v14)
-- ==== Pre_finite_loss_head.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn_part1 {F : FTy → Type} [FloatOps F] (main_arg6 : FVec F S4x2048x1024 .f32) (main_v2 : IVec S4x2048x1024 1) (main_v5 : IVec S1x1024 1) (main_v8 : IVec S1x1024x2816 1) (main_v11 : IVec S1x1024x2816 1) (main_v14 : IVec S1x2816x1024 1) (main_v17 : IVec S1024 1) : IVec S4x2048x1024 1 × IVec S1x1024 1 × IVec S1x1024x2816 1 × IVec S1x1024x2816 1 × IVec S1x2816x1024 1 × IVec S1024 1 × IVec S4x2048x1024 1 :=
  let main_v18 : FVec F S4x2048x1024 .f32 := Host.absf main_arg6
  let main_cst_5 : FVec F S_ .f32 := constant S_ .f32 0x7F800000#32
  let main_v19 : FVec F S4x2048x1024 .f32 := broadcastInDim S4x2048x1024 ![] bcast_S_S4x2048x1024 main_cst_5
  let main_v20 : IVec S4x2048x1024 1 := cmpf .olt main_v18 main_v19
  (main_v2, main_v5, main_v8, main_v11, main_v14, main_v17, main_v20)

def fn {F : FTy → Type} [FloatOps F] (main_arg0 : FVec F S4x2048x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S4x2048x1024 .f32) : IVec S4x2048x1024 1 × IVec S1x1024 1 × IVec S1x1024x2816 1 × IVec S1x1024x2816 1 × IVec S1x2816x1024 1 × IVec S1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite_mla_bwd.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S4x2048x512 : Shape := ⟨3, ![4, 2048, 512]⟩
abbrev S_ : Shape := ⟨0, ![]⟩

class Facts : Prop where
  bcast_S_S4x2048x8x64 : S_.BroadcastsInDim S4x2048x8x64 (![] : Fin 0 → Fin S4x2048x8x64.rank)
  bcast_S_S4x2048x8x32 : S_.BroadcastsInDim S4x2048x8x32 (![] : Fin 0 → Fin S4x2048x8x32.rank)
  bcast_S_S4x2048x32 : S_.BroadcastsInDim S4x2048x32 (![] : Fin 0 → Fin S4x2048x32.rank)
  bcast_S_S4x2048x512 : S_.BroadcastsInDim S4x2048x512 (![] : Fin 0 → Fin S4x2048x512.rank)

variable [Facts]

def fn {F : FTy → Type} [FloatOps F] (main_arg0 : FVec F S4x2048x8x64 .f32) (main_arg1 : FVec F S4x2048x8x32 .f32) (main_arg2 : FVec F S4x2048x8x64 .f32) (main_arg3 : FVec F S4x2048x32 .f32) (main_arg4 : FVec F S4x2048x8x64 .f32) (main_arg5 : FVec F S4x2048x512 .f32) : IVec S4x2048x8x64 1 × IVec S4x2048x8x32 1 × IVec S4x2048x8x64 1 × IVec S4x2048x32 1 × IVec S4x2048x8x64 1 × IVec S4x2048x512 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_v3 : FVec F S4x2048x8x32 .f32 := Host.absf main_arg1
  let main_cst_0 : FVec F S_ .f32 := constant S_ .f32 0x7F800000#32
  let main_v4 : FVec F S4x2048x8x32 .f32 := broadcastInDim S4x2048x8x32 ![] bcast_S_S4x2048x8x32 main_cst_0
  let main_v5 : IVec S4x2048x8x32 1 := cmpf .olt main_v3 main_v4
  let main_v6 : FVec F S4x2048x8x64 .f32 := Host.absf main_arg2
  let main_cst_1 : FVec F S_ .f32 := constant S_ .f32 0x7F800000#32
  let main_v7 : FVec F S4x2048x8x64 .f32 := broadcastInDim S4x2048x8x64 ![] bcast_S_S4x2048x8x64 main_cst_1
  let main_v8 : IVec S4x2048x8x64 1 := cmpf .olt main_v6 main_v7
  let main_v9 : FVec F S4x2048x32 .f32 := Host.absf main_arg3
  let main_cst_2 : FVec F S_ .f32 := constant S_ .f32 0x7F800000#32
  let main_v10 : FVec F S4x2048x32 .f32 := broadcastInDim S4x2048x32 ![] bcast_S_S4x2048x32 main_cst_2
  let main_v11 : IVec S4x2048x32 1 := cmpf .olt main_v9 main_v10
  let main_v12 : FVec F S4x2048x8x64 .f32 := Host.absf main_arg4
  let main_cst_3 : FVec F S_ .f32 := constant S_ .f32 0x7F800000#32
  let main_v13 : FVec F S4x2048x8x64 .f32 := broadcastInDim S4x2048x8x64 ![] bcast_S_S4x2048x8x64 main_cst_3
  let main_v14 : IVec S4x2048x8x64 1 := cmpf .olt main_v12 main_v13
  let main_v15 : FVec F S4x2048x512 .f32 := Host.absf main_arg5
  let main_cst_4 : FVec F S_ .f32 := constant S_ .f32 0x7F800000#32
  let main_v16 : FVec F S4x2048x512 .f32 := broadcastInDim S4x2048x512 ![] bcast_S_S4x2048x512 main_cst_4
  let main_v17 : IVec S4x2048x512 1 := cmpf .olt main_v15 main_v16
  (main_v2, main_v5, main_v8, main_v11, main_v14, main_v17)
-- ==== Pre_finite_mla_fwd.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S_ : Shape := ⟨0, ![]⟩

class Facts : Prop where
  bcast_S_S4x2048x8x64 : S_.BroadcastsInDim S4x2048x8x64 (![] : Fin 0 → Fin S4x2048x8x64.rank)
  bcast_S_S4x2048x8x32 : S_.BroadcastsInDim S4x2048x8x32 (![] : Fin 0 → Fin S4x2048x8x32.rank)
  bcast_S_S4x2048x32 : S_.BroadcastsInDim S4x2048x32 (![] : Fin 0 → Fin S4x2048x32.rank)

variable [Facts]

def fn {F : FTy → Type} [FloatOps F] (main_arg0 : FVec F S4x2048x8x64 .f32) (main_arg1 : FVec F S4x2048x8x32 .f32) (main_arg2 : FVec F S4x2048x8x64 .f32) (main_arg3 : FVec F S4x2048x32 .f32) (main_arg4 : FVec F S4x2048x8x64 .f32) : IVec S4x2048x8x64 1 × IVec S4x2048x8x32 1 × IVec S4x2048x8x64 1 × IVec S4x2048x32 1 × IVec S4x2048x8x64 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_v3 : FVec F S4x2048x8x32 .f32 := Host.absf main_arg1
  let main_cst_0 : FVec F S_ .f32 := constant S_ .f32 0x7F800000#32
  let main_v4 : FVec F S4x2048x8x32 .f32 := broadcastInDim S4x2048x8x32 ![] bcast_S_S4x2048x8x32 main_cst_0
  let main_v5 : IVec S4x2048x8x32 1 := cmpf .olt main_v3 main_v4
  let main_v6 : FVec F S4x2048x8x64 .f32 := Host.absf main_arg2
  let main_cst_1 : FVec F S_ .f32 := constant S_ .f32 0x7F800000#32
  let main_v7 : FVec F S4x2048x8x64 .f32 := broadcastInDim S4x2048x8x64 ![] bcast_S_S4x2048x8x64 main_cst_1
  let main_v8 : IVec S4x2048x8x64 1 := cmpf .olt main_v6 main_v7
  let main_v9 : FVec F S4x2048x32 .f32 := Host.absf main_arg3
  let main_cst_2 : FVec F S_ .f32 := constant S_ .f32 0x7F800000#32
  let main_v10 : FVec F S4x2048x32 .f32 := broadcastInDim S4x2048x32 ![] bcast_S_S4x2048x32 main_cst_2
  let main_v11 : IVec S4x2048x32 1 := cmpf .olt main_v9 main_v10
  let main_v12 : FVec F S4x2048x8x64 .f32 := Host.absf main_arg4
  let main_cst_3 : FVec F S_ .f32 := constant S_ .f32 0x7F800000#32
  let main_v13 : FVec F S4x2048x8x64 .f32 := broadcastInDim S4x2048x8x64 ![] bcast_S_S4x2048x8x64 main_cst_3
  let main_v14 : IVec S4x2048x8x64 1 := cmpf .olt main_v12 main_v13
  (main_v2, main_v5, main_v8, main_v11, main_v14)
-- ==== Pre_finite_out_bwd.lean ====
abbrev S4x2048x512 : Shape := ⟨3, ![4, 2048, 512]⟩
abbrev S1x512 : Shape := ⟨2, ![1, 512]⟩
abbrev S1x1024x1024 : Shape := ⟨3, ![1, 1024, 1024]⟩
abbrev S4x2048x1024 : Shape := ⟨3, ![4, 2048, 1024]⟩
abbrev S_ : Shape := ⟨0, ![]⟩

class Facts : Prop where
  bcast_S_S4x2048x512 : S_.BroadcastsInDim S4x2048x512 (![] : Fin 0 → Fin S4x2048x512.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S4x2048x1024 : S_.BroadcastsInDim S4x2048x1024 (![] : Fin 0 → Fin S4x2048x1024.rank)

variable [Facts]

def fn {F : FTy → Type} [FloatOps F] (main_arg0 : FVec F S4x2048x512 .f32) (main_arg1 : FVec F S4x2048x512 .f32) (main_arg2 : FVec F S1x512 .f32) (main_arg3 : FVec F S1x512 .f32) (main_arg4 : FVec F S1x1024x1024 .f32) (main_arg5 : FVec F S4x2048x1024 .f32) : IVec S4x2048x512 1 × IVec S4x2048x512 1 × IVec S1x512 1 × IVec S1x512 1 × IVec S1x1024x1024 1 × IVec S4x2048x1024 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S4x2048x1024 .f32 := Host.absf main_arg5
  let main_cst_4 : FVec F S_ .f32 := constant S_ .f32 0x7F800000#32
  let main_v16 : FVec F S4x2048x1024 .f32 := broadcastInDim S4x2048x1024 ![] bcast_S_S4x2048x1024 main_cst_4
  let main_v17 : IVec S4x2048x1024 1 := cmpf .olt main_v15 main_v16
  (main_v2, main_v5, main_v8, main_v11, main_v14, main_v17)
-- ==== Pre_finite_out_fwd.lean ====
abbrev S4x2048x512 : Shape := ⟨3, ![4, 2048, 512]⟩
abbrev S1x512 : Shape := ⟨2, ![1, 512]⟩
abbrev S1x1024x1024 : Shape := ⟨3, ![1, 1024, 1024]⟩
abbrev S4x2048x1024 : Shape := ⟨3, ![4, 2048, 1024]⟩
abbrev S_ : Shape := ⟨0, ![]⟩

class Facts : Prop where
  bcast_S_S4x2048x512 : S_.BroadcastsInDim S4x2048x512 (![] : Fin 0 → Fin S4x2048x512.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S4x2048x1024 : S_.BroadcastsInDim S4x2048x1024 (![] : Fin 0 → Fin S4x2048x1024.rank)

variable [Facts]

def fn {F : FTy → Type} [FloatOps F] (main_arg0 : FVec F S4x2048x512 .f32) (main_arg1 : FVec F S4x2048x512 .f32) (main_arg2 : FVec F S1x512 .f32) (main_arg3 : FVec F S1x512 .f32) (main_arg4 : FVec F S1x1024x1024 .f32) (main_arg5 : FVec F S4x2048x1024 .f32) : IVec S4x2048x512 1 × IVec S4x2048x512 1 × IVec S1x512 1 × IVec S1x512 1 × IVec S1x1024x1024 1 × IVec S4x2048x1024 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S4x2048x1024 .f32 := Host.absf main_arg5
  let main_cst_4 : FVec F S_ .f32 := constant S_ .f32 0x7F800000#32
  let main_v16 : FVec F S4x2048x1024 .f32 := broadcastInDim S4x2048x1024 ![] bcast_S_S4x2048x1024 main_cst_4
  let main_v17 : IVec S4x2048x1024 1 := cmpf .olt main_v15 main_v16
  (main_v2, main_v5, main_v8, main_v11, main_v14, main_v17)
-- ==== OutBwd.lean ====
abbrev S4x2048x512 : Shape := ⟨3, ![4, 2048, 512]⟩
abbrev S1x512 : Shape := ⟨2, ![1, 512]⟩
abbrev S1x1024x1024 : Shape := ⟨3, ![1, 1024, 1024]⟩
abbrev S4x2048x1024 : Shape := ⟨3, ![4, 2048, 1024]⟩
abbrev S8192x1024 : Shape := ⟨2, ![8192, 1024]⟩
abbrev S8192x512 : Shape := ⟨2, ![8192, 512]⟩
abbrev S8192x2x4x64 : Shape := ⟨4, ![8192, 2, 4, 64]⟩
abbrev S8192x4x2x64 : Shape := ⟨4, ![8192, 4, 2, 64]⟩
abbrev S1x2x4x64 : Shape := ⟨4, ![1, 2, 4, 64]⟩
abbrev S1x4x2x64 : Shape := ⟨4, ![1, 4, 2, 64]⟩
abbrev S1024x1024 : Shape := ⟨2, ![1024, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 33
  | .vmem => 15
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S4x2048x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x2x4x64, .f32⟩
  | .hbm, ⟨10, _⟩ => ⟨S8192x4x2x64, .f32⟩
  | .hbm, ⟨11, _⟩ => ⟨S8192x512, .f32⟩
  | .hbm, ⟨12, _⟩ => ⟨S1x2x4x64, .f32⟩
  | .hbm, ⟨13, _⟩ => ⟨S1x4x2x64, .f32⟩
  | .hbm, ⟨14, _⟩ => ⟨S1x512, .f32⟩
  | .hbm, ⟨15, _⟩ => ⟨S1024x1024, .f32⟩
  | .hbm, ⟨16, _⟩ => ⟨S1024x1024, .bf16⟩
  | .hbm, ⟨17, _⟩ => ⟨S512x1024, .bf16⟩
  | .hbm, ⟨18, _⟩ => ⟨S512x1024, .bf16⟩
  | .hbm, ⟨19, _⟩ => ⟨S2x4x64x1024, .bf16⟩
  | .hbm, ⟨20, _⟩ => ⟨S4x2x64x1024, .bf16⟩
  | .hbm, ⟨21, _⟩ => ⟨S512x1024, .bf16⟩
  | .hbm, ⟨22, _⟩ => ⟨S1024x1024, .bf16⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S1x512, .f32⟩
  | .hbm, ⟨27, _⟩ => ⟨S8192x4x2x64, .f32⟩
  | .hbm, ⟨28, _⟩ => ⟨S8192x2x4x64, .f32⟩
  | .hbm, ⟨29, _⟩ => ⟨S8192x512, .f32⟩
  | .hbm, ⟨30, _⟩ => ⟨S1x4x2x64, .f32⟩
  | .hbm, ⟨31, _⟩ => ⟨S1x2x4x64, .f32⟩
  | .hbm, ⟨32, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | .local _ .vmem, ⟨14, _⟩ => ⟨S1x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutBwdRefIdeal.lean ====
abbrev S4x2048x512 : Shape := ⟨3, ![4, 2048, 512]⟩
abbrev S1x512 : Shape := ⟨2, ![1, 512]⟩
abbrev S1x1024x1024 : Shape := ⟨3, ![1, 1024, 1024]⟩
abbrev S4x2048x1024 : Shape := ⟨3, ![4, 2048, 1024]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S1024x1024 : Shape := ⟨2, ![1024, 1024]⟩
abbrev S8192x512 : Shape := ⟨2, ![8192, 512]⟩

abbrev nBuf : Space → Nat
  | .hbm => 108
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S4x2048x1024, .f32⟩
  | .hbm, ⟨6, _⟩ => ⟨S512, .f32⟩
  | .hbm, ⟨7, _⟩ => ⟨S4x2048x512, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x512, .f32⟩
  | .hbm, ⟨23, _⟩ => ⟨S4x2048x512, .f32⟩
  | .hbm, ⟨24, _⟩ => ⟨S1x1x512, .f32⟩
  | .hbm, ⟨25, _⟩ => ⟨S4x2048x512, .f32⟩
  | .hbm, ⟨26, _⟩ => ⟨S4x2048x512, .f32⟩
  | .hbm, ⟨27, _⟩ => ⟨S512, .f32⟩
  | .hbm, ⟨28, _⟩ => ⟨S4x2048x512, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x512, .f32⟩
  | .hbm, ⟨44, _⟩ => ⟨S4x2048x512, .f32⟩
  | .hbm, ⟨45, _⟩ => ⟨S1x1x512, .f32⟩
  | .hbm, ⟨46, _⟩ => ⟨S4x2048x512, .f32⟩
  | .hbm, ⟨47, _⟩ => ⟨S4x2048x512, .f32⟩
  | .hbm, ⟨48, _⟩ => ⟨S4x2048x1024, .f32⟩
  | .hbm, ⟨49, _⟩ => ⟨S1024x1024, .f32⟩
  | .hbm, ⟨50, _⟩ => ⟨S4x2048x1024, .f32⟩
  | .hbm, ⟨51, _⟩ => ⟨S4x2048x1024, .f32⟩
  | .hbm, ⟨52, _⟩ => ⟨S4x2048x512, .f32⟩
  | .hbm, ⟨53, _⟩ => ⟨S4x2048x512, .f32⟩
  | .hbm, ⟨54, _⟩ => ⟨S4x2048x512, .f32⟩
  | .hbm, ⟨55, _⟩ => ⟨S_, .f32⟩
  | .hbm, ⟨56, _⟩ => ⟨S512, .f32⟩
  | .hbm, ⟨57, _⟩ => ⟨S1x1x512, .f32⟩
  | .hbm, ⟨58, _⟩ => ⟨S4x2048x512, .f32⟩
  | .hbm, ⟨59, _⟩ => ⟨S4x2048x512, .f32⟩
  | .hbm, ⟨60, _⟩ => ⟨S_, .f32⟩
  | .hbm, ⟨61, _⟩ => ⟨S512, .f32⟩
  | .hbm, ⟨62, _⟩ => ⟨S4x2048x512, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x512, .f32⟩
  | .hbm, ⟨67, _⟩ => ⟨S4x2048x512, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S_, .f32⟩
  | .hbm, ⟨73, _⟩ => ⟨S4x2048, .f32⟩
  | .hbm, ⟨74, _⟩ => ⟨S4x2048x512, .f32⟩
  | .hbm, ⟨75, _⟩ => ⟨S4x2048x512, .f32⟩
  | .hbm, ⟨76, _⟩ => ⟨S4x2048x512, .f32⟩
  | .hbm, ⟨77, _⟩ => ⟨S4x2048x512, .f32⟩
  | .hbm, ⟨78, _⟩ => ⟨S4x2048x512, .f32⟩
  | .hbm, ⟨79, _⟩ => ⟨S1x512, .f32⟩
  | .hbm, ⟨80, _⟩ => ⟨S4x2048x512, .f32⟩
  | .hbm, ⟨81, _⟩ => ⟨S_, .f32⟩
  | .hbm, ⟨82, _⟩ => ⟨S512, .f32⟩
  | .hbm, ⟨83, _⟩ => ⟨S1x1x512, .f32⟩
  | .hbm, ⟨84, _⟩ => ⟨S4x2048x512, .f32⟩
  | .hbm, ⟨85, _⟩ => ⟨S4x2048x512, .f32⟩
  | .hbm, ⟨86, _⟩ => ⟨S_, .f32⟩
  | .hbm, ⟨87, _⟩ => ⟨S512, .f32⟩
  | .hbm, ⟨88, _⟩ => ⟨S4x2048x512, .f32⟩
  | .hbm, ⟨89, _⟩ => ⟨S_, .f32⟩
  | .hbm, ⟨90, _⟩ => ⟨S4x2048, .f32⟩
  | .hbm, ⟨91, _⟩ => ⟨S4x2048x1, .f32⟩
  | .hbm, ⟨92, _⟩ => ⟨S4x2048x512, .f32⟩
  | .hbm, ⟨93, _⟩ => ⟨S4x2048x512, .f32⟩
  | .hbm, ⟨94, _⟩ => ⟨S4x2048x1, .f32⟩
  | .hbm, ⟨95, _⟩ => ⟨S_, .f32⟩
  | .hbm, ⟨96, _⟩ => ⟨S4x2048x1, .f32⟩
  | .hbm, ⟨97, _⟩ => ⟨S4x2048x1, .f32⟩
  | .hbm, ⟨98, _⟩ => ⟨S_, .f32⟩
  | .hbm, ⟨99, _⟩ => ⟨S4x2048, .f32⟩
  | .hbm, ⟨100, _⟩ => ⟨S4x2048x512, .f32⟩
  | .hbm, ⟨101, _⟩ => ⟨S4x2048x512, .f32⟩
  | .hbm, ⟨102, _⟩ => ⟨S4x2048x512, .f32⟩
  | .hbm, ⟨103, _⟩ => ⟨S4x2048x512, .f32⟩
  | .hbm, ⟨104, _⟩ => ⟨S4x2048x512, .f32⟩
  | .hbm, ⟨105, _⟩ => ⟨S1x512, .f32⟩
  | .hbm, ⟨106, _⟩ => ⟨S8192x512, .f32⟩
  | .hbm, ⟨107, _⟩ => ⟨S8192x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== MlaBwd.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S4x2048x512 : Shape := ⟨3, ![4, 2048, 512]⟩
abbrev S4x2048x8x96 : Shape := ⟨4, ![4, 2048, 8, 96]⟩
abbrev S4x2048x1x32 : Shape := ⟨4, ![4, 2048, 1, 32]⟩
abbrev S_ : Shape := ⟨0, ![]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x2048x64 : Shape := ⟨4, ![4, 8, 2048, 64]⟩
abbrev S8192x512 : Shape := ⟨2, ![8192, 512]⟩
abbrev S4x2048x8x128 : Shape := ⟨4, ![4, 2048, 8, 128]⟩
abbrev S8192x1024 : Shape := ⟨2, ![8192, 1024]⟩
abbrev S2048x256 : Shape := ⟨2, ![2048, 256]⟩
abbrev S2048x128 : Shape := ⟨2, ![2048, 128]⟩
abbrev S128x2048 : Shape := ⟨2, ![128, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1536x128 : Shape := ⟨2, ![1536, 128]⟩
abbrev S512x1536 : Shape := ⟨2, ![512, 1536]⟩
abbrev S128x1536 : Shape := ⟨2, ![128, 1536]⟩
abbrev S1024x128 : Shape := ⟨2, ![1024, 128]⟩
abbrev S512x1024 : Shape := ⟨2, ![512, 1024]⟩
abbrev S128x1024 : Shape := ⟨2, ![128, 1024]⟩

abbrev nBuf : Space → Nat
  | .hbm => 84
  | .vmem => 20
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x2048x8x64, .f32⟩
  | .hbm, ⟨3, _⟩ => ⟨S4x2048x32, .f32⟩
  | .hbm, ⟨4, _⟩ => ⟨S4x2048x8x64, .f32⟩
  | .hbm, ⟨5, _⟩ => ⟨S4x2048x512, .f32⟩
  | .hbm, ⟨6, _⟩ => ⟨S4x2048x8x96, .f32⟩
  | .hbm, ⟨7, _⟩ => ⟨S4x2048x1x32, .f32⟩
  | .hbm, ⟨8, _⟩ => ⟨S4x2048x8x32, .f32⟩
  | .hbm, ⟨9, _⟩ => ⟨S4x2048x8x96, .f32⟩
  | .hbm, ⟨10, _⟩ => ⟨S_, .f32⟩
  | .hbm, ⟨11, _⟩ => ⟨S_, .f32⟩
  | .hbm, ⟨12, _⟩ => ⟨S4x8x2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8x2048x2048, .f32⟩
  | .hbm, ⟨17, _⟩ => ⟨S4x8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1x1x2048x2048, .i1⟩
  | .hbm, ⟨26, _⟩ => ⟨S_, .f32⟩
  | .hbm, ⟨27, _⟩ => ⟨S_, .f32⟩
  | .hbm, ⟨28, _⟩ => ⟨S4x8x2048x2048, .i1⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S4x8x2048, .f32⟩
  | .hbm, ⟨41, _⟩ => ⟨S4x8x2048x1, .f32⟩
  | .hbm, ⟨42, _⟩ => ⟨S4x8x2048x64, .f32⟩
  | .hbm, ⟨43, _⟩ => ⟨S_, .f32⟩
  | .hbm, ⟨44, _⟩ => ⟨S4x8x2048x1, .f32⟩
  | .hbm, ⟨45, _⟩ => ⟨S4x8x2048x1, .f32⟩
  | .hbm, ⟨46, _⟩ => ⟨S4x8x2048x64, .f32⟩
  | .hbm, ⟨47, _⟩ => ⟨S4x8x2048x64, .f32⟩
  | .hbm, ⟨48, _⟩ => ⟨S4x2048x8x64, .f32⟩
  | .hbm, ⟨49, _⟩ => ⟨S8192x512, .f32⟩
  | .hbm, ⟨50, _⟩ => ⟨S4x8x2048x1, .f32⟩
  | .hbm, ⟨51, _⟩ => ⟨S4x8x2048x1, .f32⟩
  | .hbm, ⟨52, _⟩ => ⟨S4x8x2048x1, .f32⟩
  | .hbm, ⟨53, _⟩ => ⟨S4x8x2048x1, .f32⟩
  | .hbm, ⟨54, _⟩ => ⟨S4x8x2048x64, .f32⟩
  | .hbm, ⟨55, _⟩ => ⟨S4x2048x8x64, .f32⟩
  | .hbm, ⟨56, _⟩ => ⟨S8192x512, .f32⟩
  | .hbm, ⟨57, _⟩ => ⟨S_, .i32⟩
  | .hbm, ⟨58, _⟩ => ⟨S_, .f32⟩
  | .hbm, ⟨59, _⟩ => ⟨S4x2048x8x128, .f32⟩
  | .hbm, ⟨60, _⟩ => ⟨S8192x1024, .f32⟩
  | .hbm, ⟨61, _⟩ => ⟨S8192x1024, .bf16⟩
  | .hbm, ⟨62, _⟩ => ⟨S_, .i32⟩
  | .hbm, ⟨63, _⟩ => ⟨S_, .f32⟩
  | .hbm, ⟨64, _⟩ => ⟨S4x2048x8x128, .f32⟩
  | .hbm, ⟨65, _⟩ => ⟨S8192x1024, .f32⟩
  | .hbm, ⟨66, _⟩ => ⟨S8192x1024, .bf16⟩
  | .hbm, ⟨67, _⟩ => ⟨S_, .i32⟩
  | .hbm, ⟨68, _⟩ => ⟨S_, .f32⟩
  | .hbm, ⟨69, _⟩ => ⟨S4x2048x8x64, .f32⟩
  | .hbm, ⟨70, _⟩ => ⟨S8192x512, .f32⟩
  | .hbm, ⟨71, _⟩ => ⟨S8192x512, .bf16⟩
  | .hbm, ⟨72, _⟩ => ⟨S8192x512, .f32⟩
  | .hbm, ⟨73, _⟩ => ⟨S8192x1024, .bf16⟩
  | .hbm, ⟨74, _⟩ => ⟨S8192x1024, .bf16⟩
  | .hbm, ⟨75, _⟩ => ⟨S8192x512, .bf16⟩
  | .hbm, ⟨76, _⟩ => ⟨S8192x1024, .f32⟩
  | .hbm, ⟨77, _⟩ => ⟨S4x2048x8x128, .f32⟩
  | .hbm, ⟨78, _⟩ => ⟨S4x2048x8x96, .f32⟩
  | .hbm, ⟨79, _⟩ => ⟨S8192x1024, .f32⟩
  | .hbm, ⟨80, _⟩ => ⟨S4x2048x8x128, .f32⟩
  | .hbm, ⟨81, _⟩ => ⟨S4x2048x8x96, .f32⟩
  | .hbm, ⟨82, _⟩ => ⟨S8192x512, .f32⟩
  | .hbm, ⟨83, _⟩ => ⟨S4x2048x8x64, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x128, .bf16⟩
  | .local _ .vmem, ⟨17, _⟩ => ⟨S2048x128, .bf16⟩
  | .local _ .vmem, ⟨18, _⟩ => ⟨S128x2048, .f32⟩
  | .local _ .vmem, ⟨19, _⟩ => ⟨S128x2048, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_call2_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_call3_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_v52_2 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlaBwdIdeal.lean ====
variable {F : FTy → Type} [FloatOps F] [Named F]
def κ : String → Option EReal := fun
  | "scale" => some (((Real.sqrt 96)⁻¹ : ℝ) : EReal)
  | "scale_log2" => some (((Real.sqrt 96)⁻¹ * (Real.log 2)⁻¹ : ℝ) : EReal)
  | _ => none
-- ==== MlaBwdRefIdeal.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S4x2048x512 : Shape := ⟨3, ![4, 2048, 512]⟩
abbrev S4x2048x1x32 : Shape := ⟨4, ![4, 2048, 1, 32]⟩
abbrev S_ : Shape := ⟨0, ![]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x32 : Shape := ⟨4, ![4, 8, 2048, 32]⟩
abbrev S4x8x2048x64 : Shape := ⟨4, ![4, 8, 2048, 64]⟩
abbrev S4x2048x8x96 : Shape := ⟨4, ![4, 2048, 8, 96]⟩

abbrev nBuf : Space → Nat
  | .hbm => 105
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x2048x8x64, .f32⟩
  | .hbm, ⟨3, _⟩ => ⟨S4x2048x32, .f32⟩
  | .hbm, ⟨4, _⟩ => ⟨S4x2048x8x64, .f32⟩
  | .hbm, ⟨5, _⟩ => ⟨S4x2048x512, .f32⟩
  | .hbm, ⟨6, _⟩ => ⟨S4x2048x1x32, .f32⟩
  | .hbm, ⟨7, _⟩ => ⟨S4x2048x8x32, .f32⟩
  | .hbm, ⟨8, _⟩ => ⟨S_, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S4x8x2048x2048, .f32⟩
  | .hbm, ⟨13, _⟩ => ⟨S4x8x2048x2048, .f32⟩
  | .hbm, ⟨14, _⟩ => ⟨S4x8x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S4x8x2048x2048, .i1⟩
  | .hbm, ⟨26, _⟩ => ⟨S4x8x2048x2048, .f32⟩
  | .hbm, ⟨27, _⟩ => ⟨S4x8x2048x2048, .f32⟩
  | .hbm, ⟨28, _⟩ => ⟨S_, .f32⟩
  | .hbm, ⟨29, _⟩ => ⟨S4x8x2048x2048, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2048, .f32⟩
  | .hbm, ⟨34, _⟩ => ⟨S4x8x2048x2048, .i1⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S_, .f32⟩
  | .hbm, ⟨39, _⟩ => ⟨S4x8x2048, .f32⟩
  | .hbm, ⟨40, _⟩ => ⟨S4x8x2048, .f32⟩
  | .hbm, ⟨41, _⟩ => ⟨S_, .f32⟩
  | .hbm, ⟨42, _⟩ => ⟨S4x8x2048, .f32⟩
  | .hbm, ⟨43, _⟩ => ⟨S4x8x2048, .i1⟩
  | .hbm, ⟨44, _⟩ => ⟨S_, .f32⟩
  | .hbm, ⟨45, _⟩ => ⟨S4x8x2048, .f32⟩
  | .hbm, ⟨46, _⟩ => ⟨S4x8x2048, .i1⟩
  | .hbm, ⟨47, _⟩ => ⟨S_, .f32⟩
  | .hbm, ⟨48, _⟩ => ⟨S4x8x2048, .f32⟩
  | .hbm, ⟨49, _⟩ => ⟨S_, .f32⟩
  | .hbm, ⟨50, _⟩ => ⟨S4x8x2048, .f32⟩
  | .hbm, ⟨51, _⟩ => ⟨S_, .f32⟩
  | .hbm, ⟨52, _⟩ => ⟨S4x8x2048, .f32⟩
  | .hbm, ⟨53, _⟩ => ⟨S4x8x2048, .f32⟩
  | .hbm, ⟨54, _⟩ => ⟨S4x8x2048, .f32⟩
  | .hbm, ⟨55, _⟩ => ⟨S4x8x2048x1, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S_, .f32⟩
  | .hbm, ⟨60, _⟩ => ⟨S4x8x2048, .f32⟩
  | .hbm, ⟨61, _⟩ => ⟨S4x8x2048x1, .f32⟩
  | .hbm, ⟨62, _⟩ => ⟨S4x8x2048x2048, .f32⟩
  | .hbm, ⟨63, _⟩ => ⟨S4x8x2048x2048, .f32⟩
  | .hbm, ⟨64, _⟩ => ⟨S4x8x2048x1, .f32⟩
  | .hbm, ⟨65, _⟩ => ⟨S_, .f32⟩
  | .hbm, ⟨66, _⟩ => ⟨S4x8x2048x1, .f32⟩
  | .hbm, ⟨67, _⟩ => ⟨S4x8x2048x1, .f32⟩
  | .hbm, ⟨68, _⟩ => ⟨S4x8x64x2048, .f32⟩
  | .hbm, ⟨69, _⟩ => ⟨S4x2048x8x64, .f32⟩
  | .hbm, ⟨70, _⟩ => ⟨S4x2048x512, .f32⟩
  | .hbm, ⟨71, _⟩ => ⟨S4x2048x8x64, .f32⟩
  | .hbm, ⟨72, _⟩ => ⟨S4x8x64x2048, .f32⟩
  | .hbm, ⟨73, _⟩ => ⟨S4x8x2048x2048, .f32⟩
  | .hbm, ⟨74, _⟩ => ⟨S4x8x64x2048, .f32⟩
  | .hbm, ⟨75, _⟩ => ⟨S4x2048x8x64, .f32⟩
  | .hbm, ⟨76, _⟩ => ⟨S4x8x2048x2048, .f32⟩
  | .hbm, ⟨77, _⟩ => ⟨S4x8x2048x2048, .f32⟩
  | .hbm, ⟨78, _⟩ => ⟨S4x8x2048x2048, .f32⟩
  | .hbm, ⟨79, _⟩ => ⟨S_, .f32⟩
  | .hbm, ⟨80, _⟩ => ⟨S4x8x2048, .f32⟩
  | .hbm, ⟨81, _⟩ => ⟨S4x8x2048x1, .f32⟩
  | .hbm, ⟨82, _⟩ => ⟨S4x8x2048x1, .f32⟩
  | .hbm, ⟨83, _⟩ => ⟨S4x8x2048x2048, .f32⟩
  | .hbm, ⟨84, _⟩ => ⟨S4x8x2048x2048, .f32⟩
  | .hbm, ⟨85, _⟩ => ⟨S_, .f32⟩
  | .hbm, ⟨86, _⟩ => ⟨S4x8x2048, .f32⟩
  | .hbm, ⟨87, _⟩ => ⟨S4x8x2048x2048, .f32⟩
  | .hbm, ⟨88, _⟩ => ⟨S4x8x2048x2048, .f32⟩
  | .hbm, ⟨89, _⟩ => ⟨S4x8x2048x2048, .f32⟩
  | .hbm, ⟨90, _⟩ => ⟨S_, .f32⟩
  | .hbm, ⟨91, _⟩ => ⟨S4x8x2048x2048, .f32⟩
  | .hbm, ⟨92, _⟩ => ⟨S4x8x2048x2048, .f32⟩
  | .hbm, ⟨93, _⟩ => ⟨S4x8x2048x2048, .f32⟩
  | .hbm, ⟨94, _⟩ => ⟨S4x8x2048x2048, .f32⟩
  | .hbm, ⟨95, _⟩ => ⟨S4x8x2048x32, .f32⟩
  | .hbm, ⟨96, _⟩ => ⟨S4x2048x8x32, .f32⟩
  | .hbm, ⟨97, _⟩ => ⟨S4x8x2048x32, .f32⟩
  | .hbm, ⟨98, _⟩ => ⟨S4x2048x8x32, .f32⟩
  | .hbm, ⟨99, _⟩ => ⟨S4x8x2048x64, .f32⟩
  | .hbm, ⟨100, _⟩ => ⟨S4x2048x8x64, .f32⟩
  | .hbm, ⟨101, _⟩ => ⟨S4x8x2048x64, .f32⟩
  | .hbm, ⟨102, _⟩ => ⟨S4x2048x8x64, .f32⟩
  | .hbm, ⟨103, _⟩ => ⟨S4x2048x8x96, .f32⟩
  | .hbm, ⟨104, _⟩ => ⟨S4x2048x8x96, .f32⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_v16_1 : Ref sig .tc := ⟨.hbm, 25, rfl⟩
abbrev main_call0_v2 : Ref sig .tc := ⟨.hbm, 26, rfl⟩
abbrev main_v16_0 : Ref sig .tc := ⟨.hbm, 27, rfl⟩
abbrev main_call0_cst : Ref sig .tc := ⟨.hbm, 28, rfl⟩
abbrev main_v16_2 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call1_cst : Ref sig .tc := ⟨.hbm, 90, rfl⟩
abbrev main_call1_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== FfnBwd.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S4x2048x2816 : Shape := ⟨3, ![4, 2048, 2816]⟩
abbrev S8192x2816 : Shape := ⟨2, ![8192, 2816]⟩
abbrev S8192x1024 : Shape := ⟨2, ![8192, 1024]⟩
abbrev S2816x1024 : Shape := ⟨2, ![2816, 1024]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 47
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4x2048x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S1024x2816, .f32⟩
  | .hbm, ⟨24, _⟩ => ⟨S4x2048x2816, .f32⟩
  | .hbm, ⟨25, _⟩ => ⟨S8192x2816, .f32⟩
  | .hbm, ⟨26, _⟩ => ⟨S8192x2816, .bf16⟩
  | .hbm, ⟨27, _⟩ => ⟨S1024x2816, .f32⟩
  | .hbm, ⟨28, _⟩ => ⟨S4x2048x2816, .f32⟩
  | .hbm, ⟨29, _⟩ => ⟨S8192x2816, .f32⟩
  | .hbm, ⟨30, _⟩ => ⟨S8192x2816, .bf16⟩
  | .hbm, ⟨31, _⟩ => ⟨S8192x1024, .f32⟩
  | .hbm, ⟨32, _⟩ => ⟨S8192x1024, .f32⟩
  | .hbm, ⟨33, _⟩ => ⟨S1024x2816, .f32⟩
  | .hbm, ⟨34, _⟩ => ⟨S2816x1024, .f32⟩
  | .hbm, ⟨35, _⟩ => ⟨S2816x1024, .bf16⟩
  | .hbm, ⟨36, _⟩ => ⟨S1024x2816, .f32⟩
  | .hbm, ⟨37, _⟩ => ⟨S2816x1024, .f32⟩
  | .hbm, ⟨38, _⟩ => ⟨S2816x1024, .bf16⟩
  | .hbm, ⟨39, _⟩ => ⟨S2816x1024, .f32⟩
  | .hbm, ⟨40, _⟩ => ⟨S2816x1024, .bf16⟩
  | .hbm, ⟨41, _⟩ => ⟨S8192x1024, .f32⟩
  | .hbm, ⟨42, _⟩ => ⟨S1x1024, .f32⟩
  | .hbm, ⟨43, _⟩ => ⟨S8192x2816, .bf16⟩
  | .hbm, ⟨44, _⟩ => ⟨S8192x2816, .bf16⟩
  | .hbm, ⟨45, _⟩ => ⟨S8192x2816, .f32⟩
  | .hbm, ⟨46, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1024, .f32⟩
  | .local _ .vmem, ⟨8, _⟩ => ⟨S512x1024, .f32⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v57 : BitVec 1 := Scalar.cmpi .eq arg1 c1_i32
  let v58 : BitVec 32 := Scalar.extui v57
  let c0_i32_33 : BitVec 32 := 0#32
  let v59 : BitVec 1 := Scalar.cmpi .ne v58 c0_i32_33
  v59

def k0_cond3 (i : grid0.Coords) : BitVec 1 :=
  let arg0 : BitVec 32 := BitVec.ofNat 32 (i 0).val
  let c0_i32_30 : BitVec 32 := 0#32
  let v52 : BitVec 1 := Scalar.cmpi .eq arg0 c0_i32_30
  let arg1 : BitVec 32 := BitVec.ofNat 32 (i 1).val
  let c0_i32_31 : BitVec 32 := 0#32
  let v53 : BitVec 1 := Scalar.cmpi .eq arg1 c0_i32_31
  let v54 : BitVec 1 := Scalar.andi v52 v53
  let v55 : BitVec 32 := Scalar.extui v54
  let c0_i32_32 : BitVec 32 := 0#32
  let v56 : BitVec 1 := Scalar.cmpi .ne v55 c0_i32_32
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnBwdRefIdeal.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4x2048x2816 : Shape := ⟨3, ![4, 2048, 2816]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩

abbrev nBuf : Space → Nat
  | .hbm => 99
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4x2048x1024, .f32⟩
  | .hbm, ⟨6, _⟩ => ⟨S_, .f32⟩
  | .hbm, ⟨7, _⟩ => ⟨S4x2048x2816, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S1024x2816, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S_, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S1024x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S2816x1024, .f32⟩
  | .hbm, ⟨50, _⟩ => ⟨S4x2048x1024, .f32⟩
  | .hbm, ⟨51, _⟩ => ⟨S_, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048x1024, .f32⟩
  | .hbm, ⟨58, _⟩ => ⟨S4x2048x1024, .f32⟩
  | .hbm, ⟨59, _⟩ => ⟨S4x2048x2816, .f32⟩
  | .hbm, ⟨60, _⟩ => ⟨S4x2048x2816, .f32⟩
  | .hbm, ⟨61, _⟩ => ⟨S4x2048x2816, .f32⟩
  | .hbm, ⟨62, _⟩ => ⟨S4x2048x1024, .f32⟩
  | .hbm, ⟨63, _⟩ => ⟨S4x2048x2816, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S_, .f32⟩
  | .hbm, ⟨71, _⟩ => ⟨S1024, .f32⟩
  | .hbm, ⟨72, _⟩ => ⟨S1x1x1024, .f32⟩
  | .hbm, ⟨73, _⟩ => ⟨S4x2048x1024, .f32⟩
  | .hbm, ⟨74, _⟩ => ⟨S4x2048x1024, .f32⟩
  | .hbm, ⟨75, _⟩ => ⟨S_, .f32⟩
  | .hbm, ⟨76, _⟩ => ⟨S1024, .f32⟩
  | .hbm, ⟨77, _⟩ => ⟨S4x2048x1024, .f32⟩
  | .hbm, ⟨78, _⟩ => ⟨S_, .f32⟩
  | .hbm, ⟨79, _⟩ => ⟨S4x2048, .f32⟩
  | .hbm, ⟨80, _⟩ => ⟨S4x2048x1, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x2048x1, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S_, .f32⟩
  | .hbm, ⟨89, _⟩ => ⟨S4x2048, .f32⟩
  | .hbm, ⟨90, _⟩ => ⟨S4x2048x1024, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S1x1024, .f32⟩
  | .hbm, ⟨96, _⟩ => ⟨S8192x1024, .f32⟩
  | .hbm, ⟨97, _⟩ => ⟨S8192x2816, .f32⟩
  | .hbm, ⟨98, _⟩ => ⟨S8192x2816, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== MlaFwd.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S4x2048x8x96 : Shape := ⟨4, ![4, 2048, 8, 96]⟩
abbrev S4x2048x1x32 : Shape := ⟨4, ![4, 2048, 1, 32]⟩
abbrev S_ : Shape := ⟨0, ![]⟩
abbrev S4x2048x8x128 : Shape := ⟨4, ![4, 2048, 8, 128]⟩
abbrev S8192x1024 : Shape := ⟨2, ![8192, 1024]⟩
abbrev S8192x512 : Shape := ⟨2, ![8192, 512]⟩
abbrev S2048x256 : Shape := ⟨2, ![2048, 256]⟩
abbrev S2048x128 : Shape := ⟨2, ![2048, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩
abbrev S4x2048x512 : Shape := ⟨3, ![4, 2048, 512]⟩

abbrev nBuf : Space → Nat
  | .hbm => 28
  | .vmem => 10
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x2048x8x64, .f32⟩
  | .hbm, ⟨3, _⟩ => ⟨S4x2048x32, .f32⟩
  | .hbm, ⟨4, _⟩ => ⟨S4x2048x8x64, .f32⟩
  | .hbm, ⟨5, _⟩ => ⟨S4x2048x8x96, .f32⟩
  | .hbm, ⟨6, _⟩ => ⟨S4x2048x1x32, .f32⟩
  | .hbm, ⟨7, _⟩ => ⟨S4x2048x8x32, .f32⟩
  | .hbm, ⟨8, _⟩ => ⟨S4x2048x8x96, .f32⟩
  | .hbm, ⟨9, _⟩ => ⟨S_, .i32⟩
  | .hbm, ⟨10, _⟩ => ⟨S_, .f32⟩
  | .hbm, ⟨11, _⟩ => ⟨S4x2048x8x128, .f32⟩
  | .hbm, ⟨12, _⟩ => ⟨S8192x1024, .f32⟩
  | .hbm, ⟨13, _⟩ => ⟨S8192x1024, .bf16⟩
  | .hbm, ⟨14, _⟩ => ⟨S_, .i32⟩
  | .hbm, ⟨15, _⟩ => ⟨S_, .f32⟩
  | .hbm, ⟨16, _⟩ => ⟨S4x2048x8x128, .f32⟩
  | .hbm, ⟨17, _⟩ => ⟨S8192x1024, .f32⟩
  | .hbm, ⟨18, _⟩ => ⟨S8192x1024, .bf16⟩
  | .hbm, ⟨19, _⟩ => ⟨S_, .i32⟩
  | .hbm, ⟨20, _⟩ => ⟨S_, .f32⟩
  | .hbm, ⟨21, _⟩ => ⟨S4x2048x8x64, .f32⟩
  | .hbm, ⟨22, _⟩ => ⟨S8192x512, .f32⟩
  | .hbm, ⟨23, _⟩ => ⟨S8192x512, .bf16⟩
  | .hbm, ⟨24, _⟩ => ⟨S8192x512, .f32⟩
  | .hbm, ⟨25, _⟩ => ⟨S8192x512, .f32⟩
  | .hbm, ⟨26, _⟩ => ⟨S4x2048x512, .f32⟩
  | .hbm, ⟨27, _⟩ => ⟨S4x2048x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlaFwdIdeal.lean ====
variable {F : FTy → Type} [FloatOps F] [Named F]
def κ : String → Option EReal := fun
  | "log2_e" => some (((Real.log 2)⁻¹ : ℝ) : EReal)
  | "mask" => some ⊥
  | "scale_log2" => some (((Real.sqrt 96)⁻¹ * (Real.log 2)⁻¹ : ℝ) : EReal)
  | _ => none
-- ==== MlaFwdRefIdeal.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S_ : Shape := ⟨0, ![]⟩
abbrev S4x8x2048x2048 : Shape := ⟨4, ![4, 8, 2048, 2048]⟩
abbrev S4x2048x2048x8 : Shape := ⟨4, ![4, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x2048x8 : Shape := ⟨3, ![4, 2048, 8]⟩
abbrev S4x2048x8x1 : Shape := ⟨4, ![4, 2048, 8, 1]⟩
abbrev S4x8x64x2048 : Shape := ⟨4, ![4, 8, 64, 2048]⟩
abbrev S4x2048x512 : Shape := ⟨3, ![4, 2048, 512]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x2048x8x64, .f32⟩
  | .hbm, ⟨3, _⟩ => ⟨S4x2048x32, .f32⟩
  | .hbm, ⟨4, _⟩ => ⟨S4x2048x8x64, .f32⟩
  | .hbm, ⟨5, _⟩ => ⟨S_, .f32⟩
  | .hbm, ⟨6, _⟩ => ⟨S_, .f32⟩
  | .hbm, ⟨7, _⟩ => ⟨S4x8x2048x2048, .f32⟩
  | .hbm, ⟨8, _⟩ => ⟨S4x2048x2048x8, .f32⟩
  | .hbm, ⟨9, _⟩ => ⟨S4x8x2048x2048, .f32⟩
  | .hbm, ⟨10, _⟩ => ⟨S4x8x2048x2048, .f32⟩
  | .hbm, ⟨11, _⟩ => ⟨S4x8x2048x2048, .f32⟩
  | .hbm, ⟨12, _⟩ => ⟨S4x8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S1x1x2048x2048, .i1⟩
  | .hbm, ⟨21, _⟩ => ⟨S_, .f32⟩
  | .hbm, ⟨22, _⟩ => ⟨S_, .f32⟩
  | .hbm, ⟨23, _⟩ => ⟨S4x8x2048x2048, .i1⟩
  | .hbm, ⟨24, _⟩ => ⟨S4x8x2048x2048, .f32⟩
  | .hbm, ⟨25, _⟩ => ⟨S4x8x2048x2048, .f32⟩
  | .hbm, ⟨26, _⟩ => ⟨S_, .f32⟩
  | .hbm, ⟨27, _⟩ => ⟨S4x8x2048, .f32⟩
  | .hbm, ⟨28, _⟩ => ⟨S_, .f32⟩
  | .hbm, ⟨29, _⟩ => ⟨S4x8x2048, .f32⟩
  | .hbm, ⟨30, _⟩ => ⟨S4x8x2048, .f32⟩
  | .hbm, ⟨31, _⟩ => ⟨S4x8x2048x1, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048, .f32⟩
  | .hbm, ⟨44, _⟩ => ⟨S_, .f32⟩
  | .hbm, ⟨45, _⟩ => ⟨S_, .f32⟩
  | .hbm, ⟨46, _⟩ => ⟨S4x8x2048, .f32⟩
  | .hbm, ⟨47, _⟩ => ⟨S4x8x2048, .f32⟩
  | .hbm, ⟨48, _⟩ => ⟨S4x2048x8, .f32⟩
  | .hbm, ⟨49, _⟩ => ⟨S4x2048x8x1, .f32⟩
  | .hbm, ⟨50, _⟩ => ⟨S4x2048x8x64, .f32⟩
  | .hbm, ⟨51, _⟩ => ⟨S4x8x64x2048, .f32⟩
  | .hbm, ⟨52, _⟩ => ⟨S4x2048x8x64, .f32⟩
  | .hbm, ⟨53, _⟩ => ⟨S4x2048x512, .f32⟩
  | .hbm, ⟨54, _⟩ => ⟨S4x2048x512, .f32⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== LossHead.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S1x128 : Shape := ⟨2, ![1, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S512x512 : Shape := ⟨2, ![512, 512]⟩
abbrev S1 : Shape := ⟨1, ![1]⟩
abbrev S1x1 : Shape := ⟨2, ![1, 1]⟩
abbrev S_ : Shape := ⟨0, ![]⟩

abbrev nBuf : Space → Nat
  | .hbm => 32
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4x2048x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1024x2816, .f32⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S8192x2816, .bf16⟩
  | .hbm, ⟨21, _⟩ => ⟨S8192x2816, .bf16⟩
  | .hbm, ⟨22, _⟩ => ⟨S8192x2816, .bf16⟩
  | .hbm, ⟨23, _⟩ => ⟨S1x128, .f32⟩
  | .hbm, ⟨24, _⟩ => ⟨S1x1024, .f32⟩
  | .hbm, ⟨25, _⟩ => ⟨S1x1, .f32⟩
  | .hbm, ⟨26, _⟩ => ⟨S_, .f32⟩
  | .hbm, ⟨27, _⟩ => ⟨S1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S1x128, .f32⟩
  | .local _ .vmem, ⟨20, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossHeadRefIdeal.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S4x2048x2816 : Shape := ⟨3, ![4, 2048, 2816]⟩
abbrev S2816x1024 : Shape := ⟨2, ![2816, 1024]⟩
abbrev S8192x1024 : Shape := ⟨2, ![8192, 1024]⟩
abbrev S8192x2816 : Shape := ⟨2, ![8192, 2816]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4x2048x1024, .f32⟩
  | .hbm, ⟨7, _⟩ => ⟨S1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S1024x2816, .f32⟩
  | .hbm, ⟨25, _⟩ => ⟨S4x2048x2816, .f32⟩
  | .hbm, ⟨26, _⟩ => ⟨S1024x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S_, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S2816x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1024, .f32⟩
  | .hbm, ⟨60, _⟩ => ⟨S4x2048x1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S4x2048x1024, .f32⟩
  | .hbm, ⟨68, _⟩ => ⟨S4x2048x1024, .f32⟩
  | .hbm, ⟨69, _⟩ => ⟨S_, .f32⟩
  | .hbm, ⟨70, _⟩ => ⟨S4x2048, .f32⟩
  | .hbm, ⟨71, _⟩ => ⟨S_, .f32⟩
  | .hbm, ⟨72, _⟩ => ⟨S4x2048, .f32⟩
  | .hbm, ⟨73, _⟩ => ⟨S4x2048, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4x2048, .f32⟩
  | .hbm, ⟨82, _⟩ => ⟨S_, .f32⟩
  | .hbm, ⟨83, _⟩ => ⟨S4x2048, .f32⟩
  | .hbm, ⟨84, _⟩ => ⟨S4x2048, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S_, .f32⟩
  | .hbm, ⟨89, _⟩ => ⟨S1024, .f32⟩
  | .hbm, ⟨90, _⟩ => ⟨S1x1x1024, .f32⟩
  | .hbm, ⟨91, _⟩ => ⟨S4x2048x1024, .f32⟩
  | .hbm, ⟨92, _⟩ => ⟨S4x2048x1024, .f32⟩
  | .hbm, ⟨93, _⟩ => ⟨S_, .f32⟩
  | .hbm, ⟨94, _⟩ => ⟨S1024, .f32⟩
  | .hbm, ⟨95, _⟩ => ⟨S4x2048x1024, .f32⟩
  | .hbm, ⟨96, _⟩ => ⟨S_, .f32⟩
  | .hbm, ⟨97, _⟩ => ⟨S4x2048, .f32⟩
  | .hbm, ⟨98, _⟩ => ⟨S4x2048x1, .f32⟩
  | .hbm, ⟨99, _⟩ => ⟨S4x2048x1024, .f32⟩
  | .hbm, ⟨100, _⟩ => ⟨S4x2048x1024, .f32⟩
  | .hbm, ⟨101, _⟩ => ⟨S4x2048x1, .f32⟩
  | .hbm, ⟨102, _⟩ => ⟨S_, .f32⟩
  | .hbm, ⟨103, _⟩ => ⟨S4x2048x1, .f32⟩
  | .hbm, ⟨104, _⟩ => ⟨S4x2048x1, .f32⟩
  | .hbm, ⟨105, _⟩ => ⟨S_, .f32⟩
  | .hbm, ⟨106, _⟩ => ⟨S4x2048, .f32⟩
  | .hbm, ⟨107, _⟩ => ⟨S4x2048x1024, .f32⟩
  | .hbm, ⟨108, _⟩ => ⟨S4x2048x1024, .f32⟩
  | .hbm, ⟨109, _⟩ => ⟨S4x2048x1024, .f32⟩
  | .hbm, ⟨110, _⟩ => ⟨S4x2048x1024, .f32⟩
  | .hbm, ⟨111, _⟩ => ⟨S4x2048x1024, .f32⟩
  | .hbm, ⟨112, _⟩ => ⟨S8192x1024, .f32⟩
  | .hbm, ⟨113, _⟩ => ⟨S8192x1024, .f32⟩
  | .hbm, ⟨114, _⟩ => ⟨S8192x2816, .f32⟩
  | .hbm, ⟨115, _⟩ => ⟨S8192x2816, .f32⟩
  | .hbm, ⟨116, _⟩ => ⟨S8192x2816, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_cst_12 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== OutFwd.lean ====
abbrev S4x2048x512 : Shape := ⟨3, ![4, 2048, 512]⟩
abbrev S1x512 : Shape := ⟨2, ![1, 512]⟩
abbrev S1x1024x1024 : Shape := ⟨3, ![1, 1024, 1024]⟩
abbrev S4x2048x1024 : Shape := ⟨3, ![4, 2048, 1024]⟩
abbrev S8192x512 : Shape := ⟨2, ![8192, 512]⟩
abbrev S8192x2x4x64 : Shape := ⟨4, ![8192, 2, 4, 64]⟩
abbrev S8192x4x2x64 : Shape := ⟨4, ![8192, 4, 2, 64]⟩
abbrev S1x2x4x64 : Shape := ⟨4, ![1, 2, 4, 64]⟩
abbrev S1x4x2x64 : Shape := ⟨4, ![1, 4, 2, 64]⟩
abbrev S1024x1024 : Shape := ⟨2, ![1024, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S8192x1024 : Shape := ⟨2, ![8192, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 32
  | .vmem => 13
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S4x2048x1024, .f32⟩
  | .hbm, ⟨6, _⟩ => ⟨S8192x512, .f32⟩
  | .hbm, ⟨7, _⟩ => ⟨S8192x512, .f32⟩
  | .hbm, ⟨8, _⟩ => ⟨S8192x2x4x64, .f32⟩
  | .hbm, ⟨9, _⟩ => ⟨S8192x4x2x64, .f32⟩
  | .hbm, ⟨10, _⟩ => ⟨S8192x512, .f32⟩
  | .hbm, ⟨11, _⟩ => ⟨S1x2x4x64, .f32⟩
  | .hbm, ⟨12, _⟩ => ⟨S1x4x2x64, .f32⟩
  | .hbm, ⟨13, _⟩ => ⟨S1x512, .f32⟩
  | .hbm, ⟨14, _⟩ => ⟨S1024x1024, .f32⟩
  | .hbm, ⟨15, _⟩ => ⟨S1024x1024, .bf16⟩
  | .hbm, ⟨16, _⟩ => ⟨S512x1024, .bf16⟩
  | .hbm, ⟨17, _⟩ => ⟨S512x1024, .bf16⟩
  | .hbm, ⟨18, _⟩ => ⟨S2x4x64x1024, .bf16⟩
  | .hbm, ⟨19, _⟩ => ⟨S4x2x64x1024, .bf16⟩
  | .hbm, ⟨20, _⟩ => ⟨S512x1024, .bf16⟩
  | .hbm, ⟨21, _⟩ => ⟨S1024x1024, .bf16⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x512, .bf16⟩
  | .hbm, ⟨26, _⟩ => ⟨S8192x512, .f32⟩
  | .hbm, ⟨27, _⟩ => ⟨S8192x512, .bf16⟩
  | .hbm, ⟨28, _⟩ => ⟨S8192x4x2x64, .bf16⟩
  | .hbm, ⟨29, _⟩ => ⟨S8192x2x4x64, .bf16⟩
  | .hbm, ⟨30, _⟩ => ⟨S8192x512, .bf16⟩
  | .hbm, ⟨31, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S4x2048x512 : Shape := ⟨3, ![4, 2048, 512]⟩
abbrev S1x512 : Shape := ⟨2, ![1, 512]⟩
abbrev S1x1024x1024 : Shape := ⟨3, ![1, 1024, 1024]⟩
abbrev S4x2048x1024 : Shape := ⟨3, ![4, 2048, 1024]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S1024x1024 : Shape := ⟨2, ![1024, 1024]⟩
abbrev S8192x1024 : Shape := ⟨2, ![8192, 1024]⟩
abbrev S8192x512 : Shape := ⟨2, ![8192, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S4x2048x1024, .f32⟩
  | .hbm, ⟨6, _⟩ => ⟨S512, .f32⟩
  | .hbm, ⟨7, _⟩ => ⟨S4x2048x512, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x512, .f32⟩
  | .hbm, ⟨19, _⟩ => ⟨S4x2048x512, .f32⟩
  | .hbm, ⟨20, _⟩ => ⟨S1x1x512, .f32⟩
  | .hbm, ⟨21, _⟩ => ⟨S4x2048x512, .f32⟩
  | .hbm, ⟨22, _⟩ => ⟨S4x2048x512, .f32⟩
  | .hbm, ⟨23, _⟩ => ⟨S512, .f32⟩
  | .hbm, ⟨24, _⟩ => ⟨S4x2048x512, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x512, .f32⟩
  | .hbm, ⟨36, _⟩ => ⟨S4x2048x512, .f32⟩
  | .hbm, ⟨37, _⟩ => ⟨S1x1x512, .f32⟩
  | .hbm, ⟨38, _⟩ => ⟨S4x2048x512, .f32⟩
  | .hbm, ⟨39, _⟩ => ⟨S4x2048x512, .f32⟩
  | .hbm, ⟨40, _⟩ => ⟨S4x2048x1024, .f32⟩
  | .hbm, ⟨41, _⟩ => ⟨S1024x1024, .f32⟩
  | .hbm, ⟨42, _⟩ => ⟨S4x2048x1024, .f32⟩
  | .hbm, ⟨43, _⟩ => ⟨S4x2048x1024, .f32⟩
  | .hbm, ⟨44, _⟩ => ⟨S8192x1024, .f32⟩
  | .hbm, ⟨45, _⟩ => ⟨S8192x512, .f32⟩
  | .hbm, ⟨46, _⟩ => ⟨S8192x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FfnFwd.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S512x512 : Shape := ⟨2, ![512, 512]⟩

abbrev nBuf : Space → Nat
  | .hbm => 23
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S8192x1024, .bf16⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdRefIdeal.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S4x2048x2816 : Shape := ⟨3, ![4, 2048, 2816]⟩
abbrev S2816x1024 : Shape := ⟨2, ![2816, 1024]⟩
abbrev S8192x1024 : Shape := ⟨2, ![8192, 1024]⟩
abbrev S8192x2816 : Shape := ⟨2, ![8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S1024x2816, .f32⟩
  | .hbm, ⟨23, _⟩ => ⟨S4x2048x2816, .f32⟩
  | .hbm, ⟨24, _⟩ => ⟨S1024x2816, .f32⟩
  | .hbm, ⟨25, _⟩ => ⟨S4x2048x2816, .f32⟩
  | .hbm, ⟨26, _⟩ => ⟨S4x2048x2816, .f32⟩
  | .hbm, ⟨27, _⟩ => ⟨S4x2048x2816, .f32⟩
  | .hbm, ⟨28, _⟩ => ⟨S_, .f32⟩
  | .hbm, ⟨29, _⟩ => ⟨S4x2048x2816, .f32⟩
  | .hbm, ⟨30, _⟩ => ⟨S4x2048x2816, .f32⟩
  | .hbm, ⟨31, _⟩ => ⟨S_, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S2816x1024, .f32⟩
  | .hbm, ⟨37, _⟩ => ⟨S4x2048x1024, .f32⟩
  | .hbm, ⟨38, _⟩ => ⟨S_, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== ProjFwd.lean ====
abbrev S4x2048x1024 : Shape := ⟨3, ![4, 2048, 1024]⟩
abbrev S1x1024 : Shape := ⟨2, ![1, 1024]⟩
abbrev S1x1024x1184 : Shape := ⟨3, ![1, 1024, 1184]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S8192x1024 : Shape := ⟨2, ![8192, 1024]⟩
abbrev S1024x1184 : Shape := ⟨2, ![1024, 1184]⟩
abbrev S1184x1024 : Shape := ⟨2, ![1184, 1024]⟩
abbrev S256x1024 : Shape := ⟨2, ![256, 1024]⟩
abbrev S128x1024 : Shape := ⟨2, ![128, 1024]⟩
abbrev S32x1024 : Shape := ⟨2, ![32, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1280x1024 : Shape := ⟨2, ![1280, 1024]⟩
abbrev S256x768 : Shape := ⟨2, ![256, 768]⟩
abbrev S768x256 : Shape := ⟨2, ![768, 256]⟩
abbrev S8x96x256 : Shape := ⟨3, ![8, 96, 256]⟩
abbrev S8x128x256 : Shape := ⟨3, ![8, 128, 256]⟩
abbrev S1024x256 : Shape := ⟨2, ![1024, 256]⟩
abbrev S1024x128 : Shape := ⟨2, ![1024, 128]⟩
abbrev S8x128x128 : Shape := ⟨3, ![8, 128, 128]⟩
abbrev S8x64x128 : Shape := ⟨3, ![8, 64, 128]⟩
abbrev S512x128 : Shape := ⟨2, ![512, 128]⟩
abbrev S1536x128 : Shape := ⟨2, ![1536, 128]⟩
abbrev S8192x256 : Shape := ⟨2, ![8192, 256]⟩
abbrev S8192x128 : Shape := ⟨2, ![8192, 128]⟩
abbrev S8192x512 : Shape := ⟨2, ![8192, 512]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x1280 : Shape := ⟨2, ![512, 1280]⟩
abbrev S512x1536 : Shape := ⟨2, ![512, 1536]⟩
abbrev S8192x8x128 : Shape := ⟨3, ![8192, 8, 128]⟩
abbrev S8192x8x96 : Shape := ⟨3, ![8192, 8, 96]⟩
abbrev S8192x4x2x64 : Shape := ⟨4, ![8192, 4, 2, 64]⟩
abbrev S8192x2x4x64 : Shape := ⟨4, ![8192, 2, 4, 64]⟩

abbrev nBuf : Space → Nat
  | .hbm => 103
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x1184, .f32⟩
  | .hbm, ⟨3, _⟩ => ⟨S1x256, .f32⟩
  | .hbm, ⟨4, _⟩ => ⟨S1x256x768, .f32⟩
  | .hbm, ⟨5, _⟩ => ⟨S1x128, .f32⟩
  | .hbm, ⟨6, _⟩ => ⟨S1x128x1024, .f32⟩
  | .hbm, ⟨7, _⟩ => ⟨S2048, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S_, .f32⟩
  | .hbm, ⟨30, _⟩ => ⟨S2048x64, .f32⟩
  | .hbm, ⟨31, _⟩ => ⟨S_, .f32⟩
  | .hbm, ⟨32, _⟩ => ⟨S2048x32, .f32⟩
  | .hbm, ⟨33, _⟩ => ⟨S2048x128, .f32⟩
  | .hbm, ⟨34, _⟩ => ⟨S_, .f32⟩
  | .hbm, ⟨35, _⟩ => ⟨S2048x64, .f32⟩
  | .hbm, ⟨36, _⟩ => ⟨S2048x64, .f32⟩
  | .hbm, ⟨37, _⟩ => ⟨S2048x16, .f32⟩
  | .hbm, ⟨38, _⟩ => ⟨S2048x128, .f32⟩
  | .hbm, ⟨39, _⟩ => ⟨S8192x1024, .f32⟩
  | .hbm, ⟨40, _⟩ => ⟨S1024x1184, .f32⟩
  | .hbm, ⟨41, _⟩ => ⟨S1184x1024, .f32⟩
  | .hbm, ⟨42, _⟩ => ⟨S1184x1024, .bf16⟩
  | .hbm, ⟨43, _⟩ => ⟨S256x1024, .bf16⟩
  | .hbm, ⟨44, _⟩ => ⟨S128x1024, .bf16⟩
  | .hbm, ⟨45, _⟩ => ⟨S32x1024, .bf16⟩
  | .hbm, ⟨46, _⟩ => ⟨S512x1024, .bf16⟩
  | .hbm, ⟨47, _⟩ => ⟨S128x1024, .bf16⟩
  | .hbm, ⟨48, _⟩ => ⟨S128x1024, .bf16⟩
  | .hbm, ⟨49, _⟩ => ⟨S2x4x64x1024, .bf16⟩
  | .hbm, ⟨50, _⟩ => ⟨S4x2x64x1024, .bf16⟩
  | .hbm, ⟨51, _⟩ => ⟨S512x1024, .bf16⟩
  | .hbm, ⟨52, _⟩ => ⟨S_, .i32⟩
  | .hbm, ⟨53, _⟩ => ⟨S_, .bf16⟩
  | .hbm, ⟨54, _⟩ => ⟨S128x1024, .bf16⟩
  | .hbm, ⟨55, _⟩ => ⟨S1280x1024, .bf16⟩
  | .hbm, ⟨56, _⟩ => ⟨S256x768, .f32⟩
  | .hbm, ⟨57, _⟩ => ⟨S768x256, .f32⟩
  | .hbm, ⟨58, _⟩ => ⟨S768x256, .bf16⟩
  | .hbm, ⟨59, _⟩ => ⟨S8x96x256, .bf16⟩
  | .hbm, ⟨60, _⟩ => ⟨S_, .i32⟩
  | .hbm, ⟨61, _⟩ => ⟨S_, .bf16⟩
  | .hbm, ⟨62, _⟩ => ⟨S8x128x256, .bf16⟩
  | .hbm, ⟨63, _⟩ => ⟨S1024x256, .bf16⟩
  | .hbm, ⟨64, _⟩ => ⟨S128x1024, .f32⟩
  | .hbm, ⟨65, _⟩ => ⟨S1024x128, .f32⟩
  | .hbm, ⟨66, _⟩ => ⟨S1024x128, .bf16⟩
  | .hbm, ⟨67, _⟩ => ⟨S8x128x128, .bf16⟩
  | .hbm, ⟨68, _⟩ => ⟨S8x64x128, .bf16⟩
  | .hbm, ⟨69, _⟩ => ⟨S_, .i32⟩
  | .hbm, ⟨70, _⟩ => ⟨S_, .bf16⟩
  | .hbm, ⟨71, _⟩ => ⟨S8x128x128, .bf16⟩
  | .hbm, ⟨72, _⟩ => ⟨S1024x128, .bf16⟩
  | .hbm, ⟨73, _⟩ => ⟨S8x64x128, .bf16⟩
  | .hbm, ⟨74, _⟩ => ⟨S512x128, .bf16⟩
  | .hbm, ⟨75, _⟩ => ⟨S1536x128, .bf16⟩
  | .hbm, ⟨76, _⟩ => ⟨S8192x1024, .bf16⟩
  | .hbm, ⟨77, _⟩ => ⟨S8192x256, .f32⟩
  | .hbm, ⟨78, _⟩ => ⟨S8192x128, .f32⟩
  | .hbm, ⟨79, _⟩ => ⟨S8192x256, .bf16⟩
  | .hbm, ⟨80, _⟩ => ⟨S8192x128, .bf16⟩
  | .hbm, ⟨81, _⟩ => ⟨S8192x1024, .bf16⟩
  | .hbm, ⟨82, _⟩ => ⟨S8192x1024, .bf16⟩
  | .hbm, ⟨83, _⟩ => ⟨S8192x512, .bf16⟩
  | .hbm, ⟨84, _⟩ => ⟨S8192x512, .bf16⟩
  | .hbm, ⟨85, _⟩ => ⟨S8192x128, .bf16⟩
  | .hbm, ⟨86, _⟩ => ⟨S8192x128, .bf16⟩
  | .hbm, ⟨87, _⟩ => ⟨S8192x1024, .f32⟩
  | .hbm, ⟨88, _⟩ => ⟨S8192x256, .f32⟩
  | .hbm, ⟨89, _⟩ => ⟨S8192x128, .f32⟩
  | .hbm, ⟨90, _⟩ => ⟨S8192x8x128, .bf16⟩
  | .hbm, ⟨91, _⟩ => ⟨S8192x8x96, .bf16⟩
  | .hbm, ⟨92, _⟩ => ⟨S8192x8x96, .f32⟩
  | .hbm, ⟨93, _⟩ => ⟨S8192x8x128, .bf16⟩
  | .hbm, ⟨94, _⟩ => ⟨S8192x8x96, .bf16⟩
  | .hbm, ⟨95, _⟩ => ⟨S8192x8x96, .f32⟩
  | .hbm, ⟨96, _⟩ => ⟨S8192x512, .f32⟩
  | .hbm, ⟨97, _⟩ => ⟨S8192x4x2x64, .bf16⟩
  | .hbm, ⟨98, _⟩ => ⟨S8192x2x4x64, .bf16⟩
  | .hbm, ⟨99, _⟩ => ⟨S8192x512, .bf16⟩
  | .hbm, ⟨100, _⟩ => ⟨S8192x512, .f32⟩
  | .hbm, ⟨101, _⟩ => ⟨S8192x128, .f32⟩
  | .hbm, ⟨102, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S1x256, .f32⟩
  | .local _ .vmem, ⟨5, _⟩ => ⟨S1024x256, .bf16⟩
  | .local _ .vmem, ⟨6, _⟩ => ⟨S1x128, .f32⟩
  | .local _ .vmem, ⟨7, _⟩ => ⟨S1536x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x128, .bf16⟩
  | .local _ .vmem, ⟨31, _⟩ => ⟨S512x128, .bf16⟩
  | .local _ .vmem, ⟨32, _⟩ => ⟨S512x128, .bf16⟩
  | .local _ .vmem, ⟨33, _⟩ => ⟨S512x128, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_call1_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_7 : Ref sig .tc := ⟨.hbm, 69, rfl⟩
abbrev main_call2_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56_0 : Ref sig .tc := ⟨.hbm, 76, rfl⟩
abbrev main_v56_1 : Ref sig .tc := ⟨.hbm, 77, rfl⟩
abbrev main_v56_2 : Ref sig .tc := ⟨.hbm, 78, rfl⟩
abbrev main_v56_3 : Ref sig .tc := ⟨.hbm, 79, rfl⟩
abbrev main_v56_4 : Ref sig .tc := ⟨.hbm, 80, rfl⟩
abbrev main_v56_5 : Ref sig .tc := ⟨.hbm, 81, rfl⟩
abbrev main_v56_6 : Ref sig .tc := ⟨.hbm, 82, rfl⟩
abbrev main_v56_7 : Ref sig .tc := ⟨.hbm, 83, rfl⟩
abbrev main_v56_8 : Ref sig .tc := ⟨.hbm, 84, rfl⟩
abbrev main_v56_9 : Ref sig .tc := ⟨.hbm, 85, rfl⟩
abbrev main_v56_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjFwdRefIdeal.lean ====
abbrev S4x2048x1024 : Shape := ⟨3, ![4, 2048, 1024]⟩
abbrev S1x1024 : Shape := ⟨2, ![1, 1024]⟩
abbrev S1x1024x1184 : Shape := ⟨3, ![1, 1024, 1184]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S1024x1184 : Shape := ⟨2, ![1024, 1184]⟩
abbrev S4x2048x1184 : Shape := ⟨3, ![4, 2048, 1184]⟩
abbrev S4x2048x256 : Shape := ⟨3, ![4, 2048, 256]⟩
abbrev S4x2048x128 : Shape := ⟨3, ![4, 2048, 128]⟩
abbrev S4x2048x32 : Shape := ⟨3, ![4, 2048, 32]⟩
abbrev S4x2048x512 : Shape := ⟨3, ![4, 2048, 512]⟩
abbrev S256 : Shape := ⟨1, ![256]⟩
abbrev S1x1x256 : Shape := ⟨3, ![1, 1, 256]⟩
abbrev S128 : Shape := ⟨1, ![128]⟩
abbrev S1x1x128 : Shape := ⟨3, ![1, 1, 128]⟩
abbrev S256x768 : Shape := ⟨2, ![256, 768]⟩
abbrev S4x2048x768 : Shape := ⟨3, ![4, 2048, 768]⟩
abbrev S4x2048x8x96 : Shape := ⟨4, ![4, 2048, 8, 96]⟩
abbrev S4x2048x8x64 : Shape := ⟨4, ![4, 2048, 8, 64]⟩
abbrev S4x2048x8x32 : Shape := ⟨4, ![4, 2048, 8, 32]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S128x1024 : Shape := ⟨2, ![128, 1024]⟩
abbrev S4x2048x8x128 : Shape := ⟨4, ![4, 2048, 8, 128]⟩
abbrev S4x2048x16 : Shape := ⟨3, ![4, 2048, 16]⟩
abbrev S1x2048x16 : Shape := ⟨3, ![1, 2048, 16]⟩
abbrev S4x2048x1x32 : Shape := ⟨4, ![4, 2048, 1, 32]⟩
abbrev S8192x1024 : Shape := ⟨2, ![8192, 1024]⟩
abbrev S8192x256 : Shape := ⟨2, ![8192, 256]⟩
abbrev S8192x128 : Shape := ⟨2, ![8192, 128]⟩
abbrev S8192x8x96 : Shape := ⟨3, ![8192, 8, 96]⟩
abbrev S8192x512 : Shape := ⟨2, ![8192, 512]⟩

abbrev nBuf : Space → Nat
  | .hbm => 149
  | .vmem => 0
  | .smem => 0
  | _ => 0

abbrev hbmTy0_0 (i : Nat) : BufTy := match i % 128 with
  | 0 => ⟨S4x2048x1024, .f32⟩
  | 1 => ⟨S1x1024, .f32⟩
  | 2 => ⟨S1x1024x1184, .f32⟩
  | 3 => ⟨S1x256, .f32⟩
  | 4 => ⟨S1x256x768, .f32⟩
  | 5 => ⟨S1x128, .f32⟩
  | 6 => ⟨S1x128x1024, .f32⟩
  | 7 => ⟨S2048, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S1024, .f32⟩
  | 30 => ⟨S4x2048x1024, .f32⟩
  | 31 => ⟨S_, .f32⟩
  | 32 => ⟨S4x2048, .f32⟩
  | 33 => ⟨S4x2048x1, .f32⟩
  | 34 => ⟨S_, .f32⟩
  | 35 => ⟨S4x2048x1, .f32⟩
  | 36 => ⟨S4x2048x1, .f32⟩
  | 37 => ⟨S_, .f32⟩
  | 38 => ⟨S4x2048x1, .f32⟩
  | 39 => ⟨S4x2048x1, .f32⟩
  | 40 => ⟨S4x2048x1, .f32⟩
  | 41 => ⟨S4x2048x1024, .f32⟩
  | 42 => ⟨S4x2048x1024, .f32⟩
  | 43 => ⟨S1x1x1024, .f32⟩
  | 44 => ⟨S4x2048x1024, .f32⟩
  | 45 => ⟨S4x2048x1024, .f32⟩
  | 46 => ⟨S1024x1184, .f32⟩
  | 47 => ⟨S4x2048x1184, .f32⟩
  | 48 => ⟨S4x2048x256, .f32⟩
  | 49 => ⟨S4x2048x128, .f32⟩
  | 50 => ⟨S4x2048x32, .f32⟩
  | 51 => ⟨S4x2048x512, .f32⟩
  | 52 => ⟨S4x2048x128, .f32⟩
  | 53 => ⟨S4x2048x128, .f32⟩
  | 54 => ⟨S256, .f32⟩
  | 55 => ⟨S4x2048x256, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048x1, .f32⟩
  | 64 => ⟨S4x2048x1, .f32⟩
  | 65 => ⟨S4x2048x1, .f32⟩
  | 66 => ⟨S4x2048x256, .f32⟩
  | 67 => ⟨S4x2048x256, .f32⟩
  | 68 => ⟨S1x1x256, .f32⟩
  | 69 => ⟨S4x2048x256, .f32⟩
  | 70 => ⟨S4x2048x256, .f32⟩
  | 71 => ⟨S128, .f32⟩
  | 72 => ⟨S4x2048x128, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1, .f32⟩
  | 83 => ⟨S4x2048x128, .f32⟩
  | 84 => ⟨S4x2048x128, .f32⟩
  | 85 => ⟨S1x1x128, .f32⟩
  | 86 => ⟨S4x2048x128, .f32⟩
  | 87 => ⟨S4x2048x128, .f32⟩
  | 88 => ⟨S256x768, .f32⟩
  | 89 => ⟨S4x2048x768, .f32⟩
  | 90 => ⟨S4x2048x8x96, .f32⟩
  | 91 => ⟨S4x2048x8x64, .f32⟩
  | 92 => ⟨S4x2048x8x32, .f32⟩
  | 93 => ⟨S2048x1x16, .f32⟩
  | 94 => ⟨S2048x1x16, .f32⟩
  | 95 => ⟨S4x2048x8x16, .f32⟩
  | 96 => ⟨S4x2048x8x16, .f32⟩
  | 97 => ⟨S1x2048x1x16, .f32⟩
  | 98 => ⟨S4x2048x8x16, .f32⟩
  | 99 => ⟨S4x2048x8x16, .f32⟩
  | 100 => ⟨S1x2048x1x16, .f32⟩
  | 101 => ⟨S4x2048x8x16, .f32⟩
  | 102 => ⟨S4x2048x8x16, .f32⟩
  | 103 => ⟨S4x2048x8x16, .f32⟩
  | 104 => ⟨S1x2048x1x16, .f32⟩
  | 105 => ⟨S4x2048x8x16, .f32⟩
  | 106 => ⟨S4x2048x8x16, .f32⟩
  | 107 => ⟨S1x2048x1x16, .f32⟩
  | 108 => ⟨S4x2048x8x16, .f32⟩
  | 109 => ⟨S4x2048x8x16, .f32⟩
  | 110 => ⟨S4x2048x8x16, .f32⟩
  | 111 => ⟨S4x2048x8x32, .f32⟩
  | 112 => ⟨S4x2048x8x96, .f32⟩
  | 113 => ⟨S128x1024, .f32⟩
  | 114 => ⟨S4x2048x1024, .f32⟩
  | 115 => ⟨S4x2048x8x128, .f32⟩
  | 116 => ⟨S4x2048x16, .f32⟩
  | 117 => ⟨S4x2048x16, .f32⟩
  | 118 => ⟨S1x2048x16, .f32⟩
  | 119 => ⟨S4x2048x16, .f32⟩
  | 120 => ⟨S4x2048x16, .f32⟩
  | 121 => ⟨S1x2048x16, .f32⟩
  | 122 => ⟨S4x2048x16, .f32⟩
  | 123 => ⟨S4x2048x16, .f32⟩
  | 124 => ⟨S4x2048x16, .f32⟩
  | 125 => ⟨S1x2048x16, .f32⟩
  | 126 => ⟨S4x2048x16, .f32⟩
  | 127 => ⟨S4x2048x16, .f32⟩
  | _ => ⟨S4x2048x1024, .f32⟩

abbrev hbmTy0_1 (i : Nat) : BufTy := match i % 128 with
  | 0 => ⟨S1x2048x16, .f32⟩
  | 1 => ⟨S4x2048x16, .f32⟩
  | 2 => ⟨S4x2048x16, .f32⟩
  | 3 => ⟨S4x2048x16, .f32⟩
  | 4 => ⟨S4x2048x32, .f32⟩
  | 5 => ⟨S4x2048x1x32, .f32⟩
  | 6 => ⟨S4x2048x8x32, .f32⟩
  | 7 => ⟨S4x2048x8x64, .f32⟩
  | 8 => ⟨S4x2048x8x96, .f32⟩
  | 9 => ⟨S8192x1024, .f32⟩
  | 10 => ⟨S8192x256, .f32⟩
  | 11 => ⟨S8192x128, .f32⟩
  | 12 => ⟨S8192x256, .f32⟩
  | 13 => ⟨S8192x128, .f32⟩
  | 14 => ⟨S8192x8x96, .f32⟩
  | 15 => ⟨S8192x8x96, .f32⟩
  | 16 => ⟨S4x2048x8x64, .f32⟩
  | 17 => ⟨S8192x512, .f32⟩
  | 18 => ⟨S8192x512, .f32⟩
  | 19 => ⟨S8192x128, .f32⟩
  | 20 => ⟨S8192x128, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩

abbrev nD : Nat := 1
abbrev τ : Topo := Topo.v7x

variable {F : FTy → Type} [FloatOps F]
-- ==== Proof.Reals.lean ====
module

public import Idealize.ShloMosaic.PureOps.Ideal
public import Idealize.ShloMosaic.PureOps.Ideal.Laws
public import Idealize.ShloMosaic.Lib.Pointwise
public import Idealize.ShloMosaic.Lib.IdealHost

@[expose] public section

noncomputable section

/-! # Finite extended reals read as reals

The claims of this certificate are about finite arguments. These lemmas move the coercion from the reals
outwards through the operations that both programs use, so that an equation between extended reals becomes an
equation between reals. -/

namespace Cert.Proof.Reals

open Idealize.ShloMosaic

/-- A finite sum of reals, read in the extended reals. -/
theorem coe_sum {ι : Type} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- Division of reals by a nonzero real, read in the extended reals. -/
theorem div_coe_coe {y : ℝ} (hy : y ≠ 0) (x : ℝ) : Ideal.div (x : EReal) (y : EReal) = ((x / y : ℝ) : EReal) := by
  rw [Ideal.div_coe hy, ← EReal.coe_mul, mul_one_div]

/-- The reciprocal square root of a positive real. -/
theorem rsqrt_coe_pos {x : ℝ} (hx : 0 < x) : Ideal.rsqrt (x : EReal) = (((Real.sqrt x)⁻¹ : ℝ) : EReal) := by
  rw [Ideal.rsqrt_coe, if_neg (not_lt.2 hx.le), if_neg hx.ne']

/-- The logarithm of a positive real. -/
theorem log_coe_pos {x : ℝ} (hx : 0 < x) : Ideal.log (x : EReal) = ((Real.log x : ℝ) : EReal) := by
  rw [Ideal.log_coe, if_neg (not_le.2 hx)]

/-- The word `0x7F800000` is `⊤`. -/
theorem ofBits_top : Ideal.ofBits .f32 0x7F800000#32 = ⊤ := by
  simp [Ideal.ofBits, Ideal.ieee]

/-- The word of the norms' width, 512. -/
theorem ofBits_512 : Ideal.ofBits .f32 0x44000000#32 = ((512 : ℝ) : EReal) := by
  simp [Ideal.ofBits, Ideal.ieee, -EReal.coe_mul]; norm_num

/-- The word of -1/2. -/
theorem ofBits_neg_half : Ideal.ofBits .f32 0xBF000000#32 = ((-(1 / 2) : ℝ) : EReal) := by
  simp [Ideal.ofBits, Ideal.ieee, -EReal.coe_mul]; norm_num

/-- The real that the word of the norms' epsilon holds. -/
def eps : ℝ := 8796093 / 8796093022208

theorem eps_pos : 0 < eps := by unfold eps; norm_num

/-- The word of the norms' epsilon. -/
theorem ofBits_eps : Ideal.ofBits .f32 0x358637BD#32 = (eps : EReal) := by
  simp [Ideal.ofBits, Ideal.ieee, -EReal.coe_mul, eps]; norm_num

/-- An extended real whose absolute value compares below the word of `⊤` is a real. -/
theorem exists_real {x : EReal}
    (h : BitVec.ofBool (decide (FloatOps.absf (F := Ideal) (φ := .f32) x < Ideal.ofBits .f32 0x7F800000#32)) = 1#1) :
    ∃ r : ℝ, x = (r : EReal) := by
  rw [ofBits_top] at h
  have h' : max x (-x) < ⊤ := by
    by_contra hc
    have : (decide (FloatOps.absf (F := Ideal) (φ := .f32) x < ⊤)) = false := decide_eq_false hc
    rw [this] at h
    exact absurd h (by decide)
  induction x with
  | bot => simp at h'
  | top => simp at h'
  | coe r => exact ⟨r, rfl⟩

/-- An array whose every element is a real is the coercion of a real array. -/
theorem exists_array {ι : Type} {x : ι → EReal} (h : ∀ i, ∃ r : ℝ, x i = (r : EReal)) :
    ∃ X : ι → ℝ, ∀ i, x i = (X i : EReal) := ⟨fun i => (h i).choose, fun i => (h i).choose_spec⟩

/-- The host's sum over the two leading axes of a rank-three array, coordinate by coordinate. -/
theorem hostReduceAdd_axes01 {a b n : ℕ} (h : (⟨3, ![a, b, n]⟩ : Shape).ReducesTo [0, 1] ⟨1, ![n]⟩)
    (x : (⟨3, ![a, b, n]⟩ : Shape).Idx → EReal) (init : EReal) (k : Fin n) :
    Ideal.hostReduceAdd h x init (ix1 k) = init + ∑ i : Fin a, ∑ j : Fin b, x (ix3 i j k) := by
  unfold Ideal.hostReduceAdd
  congr 1
  rw [Finset.sum_filter, sum_idx3]
  refine Finset.sum_congr rfl fun i _ => Finset.sum_congr rfl fun j _ => ?_
  rw [Finset.sum_eq_single k]
  · rw [if_pos]
    funext c
    match c with | ⟨0, _⟩ => rfl
  · intro l _ hl
    rw [if_neg]
    intro hc
    exact hl (congrFun hc 0)
  · intro hk; exact absurd (Finset.mem_univ k) hk

end Cert.Proof.Reals

end
-- ==== Proof.RmsNorm.lean ====
module

public import proofs.«01_k».proof.Proof.Reals

@[expose] public section

noncomputable section

/-! # The derivative of a root-mean-square norm over the reals

For one row `x` of width `n`: the mean square plus epsilon `v`, its reciprocal root `r`, the row cotangent that the
kernel computes (the cotangent less its projection on the normed row), and the sum rule's form of the same. -/

namespace Cert.Proof.Rms

open Cert.Proof.Reals

variable {n : ℕ}

/-- The mean square of a row plus epsilon. -/
def v (x : Fin n → ℝ) : ℝ := (∑ k, x k * x k) / n + eps

/-- The reciprocal root of `v`. -/
def r (x : Fin n → ℝ) : ℝ := (Real.sqrt (v x))⁻¹

theorem v_pos (x : Fin n → ℝ) : 0 < v x :=
  add_pos_of_nonneg_of_pos (div_nonneg (Finset.sum_nonneg fun k _ => mul_self_nonneg (x k)) (Nat.cast_nonneg n)) eps_pos

theorem r_div_v (x : Fin n → ℝ) : r x / v x = r x * r x * r x := by
  have h := v_pos x
  have hs : Real.sqrt (v x) * Real.sqrt (v x) = v x := Real.mul_self_sqrt h.le
  have hne : Real.sqrt (v x) ≠ 0 := (Real.sqrt_pos.2 h).ne'
  unfold r
  rw [← mul_inv, hs, mul_comm, div_eq_mul_inv]

/-- The row cotangent as the kernel computes it: `y` is the cotangent times the gain. -/
def dx (x y : Fin n → ℝ) (l : Fin n) : ℝ := r x * (y l - x l * r x * ((∑ k, y k * (x k * r x)) / n))

/-- The row cotangent by the sum rule: through the row itself and twice through its mean square. -/
theorem dx_eq (hn : n ≠ 0) (x y : Fin n → ℝ) (l : Fin n) :
    y l * r x + x l * ((∑ k, x k * y k) * (-(1 / 2) * (r x / v x)) / n)
      + (∑ k, x k * y k) * (-(1 / 2) * (r x / v x)) / n * x l = dx x y l := by
  have h : ∑ k, y k * (x k * r x) = (∑ k, x k * y k) * r x := by
    rw [Finset.sum_mul]; exact Finset.sum_congr rfl fun k _ => by ring
  have hn' : (n : ℝ) ≠ 0 := Nat.cast_ne_zero.2 hn
  unfold dx
  rw [h, r_div_v]
  field_simp
  ring

/-- The mean square does not see the order of a row's lanes. -/
theorem v_perm (σ : Fin n ≃ Fin n) (x : Fin n → ℝ) : v (fun k => x (σ k)) = v x := by
  unfold v
  rw [Equiv.sum_comp σ fun k => x k * x k]

theorem r_perm (σ : Fin n ≃ Fin n) (x : Fin n → ℝ) : r (fun k => x (σ k)) = r x := by
  unfold r
  rw [v_perm]

/-- The row cotangent of a row with its lanes reordered is the reordered row cotangent. -/
theorem dx_perm (σ : Fin n ≃ Fin n) (x y : Fin n → ℝ) (l : Fin n) :
    dx (fun k => x (σ k)) (fun k => y (σ k)) l = dx x y (σ l) := by
  unfold dx
  rw [r_perm, Equiv.sum_comp σ fun k => y k * (x k * r x)]

end Cert.Proof.Rms

end
-- ==== Proof.OutBwdRef.lean ====
module

public import proofs.«01_k».proof.Proof.Gen.OutBwdRefIdeal.Read
public import proofs.«01_k».proof.Proof.RmsNorm
public import Idealize.ShloMosaic.Lib.Pointwise

@[expose] public section

set_option maxRecDepth 16384

noncomputable section

/-! # The reference of `out_bwd` at an index, over the reals

For finite arguments each result of the reference is the coercion of a real expression: the cotangent of the joined
normed heads (`doc`), the row cotangents through the norm (`Rms.dx`) and the gains' gradients. -/

namespace Cert.OutBwdRefIdeal.At

open Idealize.ShloMosaic Idealize.ShloMosaic.TcCoe Idealize.SL.Sem
open Cert.OutBwdRefIdeal Cert.OutBwdRefIdeal.Gen Cert.OutBwdRefIdeal.Read
open Cert.Proof Cert.Proof.Reals

/-- The cotangent of the joined normed heads at row `(b, s)`, lane `l`: the row of `ct` against row `l` of the weights. -/
def doc (W : S1x1024x1024.Idx → ℝ) (T : S4x2048x1024.Idx → ℝ) (b : Fin 4) (s : Fin 2048) (l : Fin 1024) : ℝ :=
  ∑ d : Fin 1024, T (ix3 b s d) * W (ix3 0 l d)

/-- A gain's gradient: the normed rows against the cotangent, summed over the rows. -/
def dg (X : S4x2048x512.Idx → ℝ) (D : Fin 4 → Fin 2048 → Fin 512 → ℝ) (l : Fin 512) : ℝ :=
  ∑ b : Fin 4, ∑ s : Fin 2048, X (ix3 b s l) * (Rms.r fun k => X (ix3 b s k)) * D b s l

variable {x : FVec Ideal S4x2048x512 .f32} {g : FVec Ideal S1x512 .f32} {w : FVec Ideal S1x1024x1024 .f32} {t : FVec Ideal S4x2048x1024 .f32}
  {X : S4x2048x512.Idx → ℝ} {G : S1x512.Idx → ℝ} {W : S1x1024x1024.Idx → ℝ} {T : S4x2048x1024.Idx → ℝ}

/-- The mean square plus epsilon of a row. -/
theorem v7_at (hx : ∀ i, x i = (X i : EReal)) (b : Fin 4) (s : Fin 2048) (u : Fin 1) :
    val_main_v7 (F := Ideal) x (ix3 b s u) = ((Rms.v fun k => X (ix3 b s k) : ℝ) : EReal) := by
  pointwise [val_main_v7, val_main_v6, val_main_v5, val_main_v4, val_main_v3, val_main_v2, val_main_v1, val_main_cst,
    val_main_cst_0, val_main_cst_1]
  simp only [hx, ← EReal.coe_mul, coe_sum, ofBits_512, ofBits_eps, div_coe_coe (show (512 : ℝ) ≠ 0 by norm_num),
    ← EReal.coe_add, Rms.v, Nat.cast_ofNat]

/-- The same at the second group of heads. -/
theorem v24_eq : val_main_v24 (F := Ideal) x = val_main_v7 (F := Ideal) x := rfl

/-- The cotangent of the joined normed heads. -/
theorem v37_at (hw : ∀ i, w i = (W i : EReal)) (ht : ∀ i, t i = (T i : EReal)) (b : Fin 4) (s : Fin 2048) (l : Fin 1024) :
    val_main_v37 (F := Ideal) w t (ix3 b s l) = (doc W T b s l : EReal) := by
  pointwise [val_main_v37, val_main_v35]
  simp only [hw, ht, ← EReal.coe_mul, coe_sum, doc]

/-- The first group's row cotangent. -/
theorem v80_at (hx : ∀ i, x i = (X i : EReal)) (hg : ∀ i, g i = (G i : EReal)) (hw : ∀ i, w i = (W i : EReal))
    (ht : ∀ i, t i = (T i : EReal)) (b : Fin 4) (s : Fin 2048) (l : Fin 512) :
    val_main_v80 (F := Ideal) x g w t (ix3 b s l)
      = (Rms.dx (fun k => X (ix3 b s k)) (fun k => doc W T b s ⟨k.val, by omega⟩ * G (ix2 0 k)) l : EReal) := by
  rw [← Rms.dx_eq (by norm_num)]
  pointwise [val_main_v80, val_main_v79, val_main_v78, val_main_v77, val_main_v76, val_main_v75, val_main_v74,
    val_main_v73, val_main_v72, val_main_v71, val_main_v70, val_main_v69, val_main_v68, val_main_v67, val_main_v65,
    val_main_v64, val_main_v38, val_main_v14, val_main_v0, val_main_v11, val_main_v10, val_main_v9, val_main_v8,
    val_main_cst_14, val_main_cst_15, val_main_cst_16, val_main_cst_2]
  simp only [v7_at hx, v37_at hw ht, hx, hg, rsqrt_coe_pos (Rms.v_pos _), div_coe_coe (Rms.v_pos _).ne', ← EReal.coe_mul,
    coe_sum, ofBits_512, ofBits_neg_half, div_coe_coe (show (512 : ℝ) ≠ 0 by norm_num), ← EReal.coe_add, Rms.r,
    Finset.univ_unique, Finset.sum_const, Finset.card_singleton, one_smul, Nat.cast_ofNat]

/-- The second group's row cotangent. -/
theorem v59_at (hx : ∀ i, x i = (X i : EReal)) (hg : ∀ i, g i = (G i : EReal)) (hw : ∀ i, w i = (W i : EReal))
    (ht : ∀ i, t i = (T i : EReal)) (b : Fin 4) (s : Fin 2048) (l : Fin 512) :
    val_main_v59 (F := Ideal) x g w t (ix3 b s l)
      = (Rms.dx (fun k => X (ix3 b s k)) (fun k => doc W T b s ⟨512 + k.val, by omega⟩ * G (ix2 0 k)) l : EReal) := by
  rw [← Rms.dx_eq (by norm_num)]
  pointwise [val_main_v59, val_main_v58, val_main_v57, val_main_v56, val_main_v55, val_main_v54, val_main_v53,
    val_main_v52, val_main_v51, val_main_v50, val_main_v49, val_main_v48, val_main_v47, val_main_v46, val_main_v44,
    val_main_v43, val_main_v39, val_main_v31, val_main_v17, val_main_v28, val_main_v27, val_main_v26, val_main_v25,
    val_main_cst_9, val_main_cst_10, val_main_cst_11, val_main_cst_6]
  simp only [v24_eq, v7_at hx, v37_at hw ht, hx, hg, rsqrt_coe_pos (Rms.v_pos _), div_coe_coe (Rms.v_pos _).ne', ← EReal.coe_mul,
    coe_sum, ofBits_512, ofBits_neg_half, div_coe_coe (show (512 : ℝ) ≠ 0 by norm_num), ← EReal.coe_add, Rms.r,
    Finset.univ_unique, Finset.sum_const, Finset.card_singleton, one_smul, Nat.cast_ofNat]

/-- The first gain's gradient. -/
theorem v81_at (hx : ∀ i, x i = (X i : EReal)) (hw : ∀ i, w i = (W i : EReal)) (ht : ∀ i, t i = (T i : EReal)) (u : Fin 1) (l : Fin 512) :
    val_main_v81 (F := Ideal) x w t (ix2 u l) = (dg X (fun b s k => doc W T b s ⟨k.val, by omega⟩) l : EReal) := by
  pointwise [val_main_v81, val_main_v66, val_main_v63, val_main_cst_12, val_main_cst_13, hostReduceAdd_axes01]
  pointwise [val_main_v62, val_main_v61, val_main_v13, val_main_v12, val_main_v8, val_main_v38, val_main_cst_12, hostReduceAdd_axes01]
  simp only [v7_at hx, v37_at hw ht, hx, rsqrt_coe_pos (Rms.v_pos _), ← EReal.coe_mul, coe_sum, dg, Rms.r,
    Finset.univ_unique, Finset.sum_const, Finset.card_singleton, one_smul]

/-- The second gain's gradient. -/
theorem v60_at (hx : ∀ i, x i = (X i : EReal)) (hw : ∀ i, w i = (W i : EReal)) (ht : ∀ i, t i = (T i : EReal)) (u : Fin 1) (l : Fin 512) :
    val_main_v60 (F := Ideal) x w t (ix2 u l) = (dg X (fun b s k => doc W T b s ⟨512 + k.val, by omega⟩) l : EReal) := by
  pointwise [val_main_v60, val_main_v45, val_main_v42, val_main_cst_7, val_main_cst_8, hostReduceAdd_axes01]
  pointwise [val_main_v41, val_main_v40, val_main_v30, val_main_v29, val_main_v25, val_main_v39, val_main_cst_7, hostReduceAdd_axes01]
  simp only [v24_eq, v7_at hx, v37_at hw ht, hx, rsqrt_coe_pos (Rms.v_pos _), ← EReal.coe_mul, coe_sum, dg, Rms.r,
    Finset.univ_unique, Finset.sum_const, Finset.card_singleton, one_smul]

end Cert.OutBwdRefIdeal.At

end
-- ==== Proof.OutBwdKernel.lean ====
module

public import proofs.«01_k».proof.Proof.Gen.OutBwdIdeal.Frame
public import proofs.«01_k».proof.Proof.RmsNorm
public import Idealize.ShloMosaic.Lib.Pipeline.ValueKit

@[expose] public section

set_option maxRecDepth 16384

noncomputable section

/-! # The arrays that the region of `out_bwd` leaves, over the reals

The region's entry arrays are taken to be coercions of real arrays. Each grid point handles 1024 rows: the two row
cotangents are written block by block, the two gains' gradients are accumulated over the eight points. -/

namespace Cert.OutBwdIdeal.Value

open Idealize.ShloMosaic Idealize.ShloMosaic.TcCoe Idealize.SL.Sem
open Idealize.ShloMosaic.Pipeline (Dat)
open Cert.OutBwdIdeal Cert.OutBwdIdeal.Gen
open Cert.Proof Cert.Proof.Reals

/-- The joined cotangent: row `i` of the cotangent against row `l` of the weights. -/
def doc {n : ℕ} (T : (⟨2, ![n, 1024]⟩ : Shape).Idx → ℝ) (W : S1024x1024.Idx → ℝ) (i : Fin n) (l : Fin 1024) : ℝ :=
  ∑ d : Fin 1024, T (ix2 i d) * W (ix2 l d)

section Payloads

variable {t : FVec Ideal S1024x1024 .f32} {w : FVec Ideal S1024x1024 .bf16} {x : FVec Ideal S1024x512 .f32} {g a : FVec Ideal S1x512 .f32}
  {T W : S1024x1024.Idx → ℝ} {X : S1024x512.Idx → ℝ} {G : S1x512.Idx → ℝ}

/-- The reciprocal root of a row's mean square. -/
theorem pay4_at (hx : ∀ i, x i = (X i : EReal)) (i : Fin 1024) (u : Fin 1) :
    k0_pay4 (F := Ideal) x (ix2 i u) = (Rms.r (fun k => X (ix2 i k)) : EReal) := by
  rw [Rms.r, ← rsqrt_coe_pos (Rms.v_pos _)]
  pointwise [k0_pay4, k0_pay2]
  simp only [hx, ← EReal.coe_mul, coe_sum, ofBits_512, ofBits_eps, div_coe_coe (show (512 : ℝ) ≠ 0 by norm_num),
    ← EReal.coe_add, Rms.v, Nat.cast_ofNat]

/-- The second group's reciprocal root is the same function of its rows. -/
theorem pay5_eq : k0_pay5 (F := Ideal) x = k0_pay4 x := rfl

/-- The joined cotangent of a block. -/
theorem pay1_at (ht : ∀ i, t i = (T i : EReal)) (hw : ∀ i, w i = (W i : EReal)) (i : Fin 1024) (l : Fin 1024) :
    k0_pay1 (F := Ideal) t w (ix2 i l) = (doc T W i l : EReal) := by
  pointwise [k0_pay1]
  simp only [ht, hw, ← EReal.coe_mul, coe_sum, doc]

/-- The first group's row cotangent of a block. -/
theorem pay9_at (ht : ∀ i, t i = (T i : EReal)) (hw : ∀ i, w i = (W i : EReal)) (hx : ∀ i, x i = (X i : EReal))
    (hg : ∀ i, g i = (G i : EReal)) (i : Fin 1024) (l : Fin 512) :
    k0_pay9 (F := Ideal) (k0_pay4 x) (k0_pay8 t w x g) (ix2 i l)
      = (Rms.dx (fun k => X (ix2 i k)) (fun k => doc T W i ⟨k.val, by omega⟩ * G (ix2 0 k)) l : EReal) := by
  pointwise [k0_pay9, k0_pay8, k0_pay7, k0_pay6, k0_pay2]
  simp only [pay4_at hx, pay1_at ht hw, hx, hg, ← EReal.coe_mul, coe_sum, ofBits_512,
    div_coe_coe (show (512 : ℝ) ≠ 0 by norm_num), ← EReal.coe_add, ← EReal.coe_sub, Rms.dx, Nat.cast_ofNat]

/-- The second group's row cotangent of a block. -/
theorem pay12_at (ht : ∀ i, t i = (T i : EReal)) (hw : ∀ i, w i = (W i : EReal)) (hx : ∀ i, x i = (X i : EReal))
    (hg : ∀ i, g i = (G i : EReal)) (i : Fin 1024) (l : Fin 512) :
    k0_pay12 (F := Ideal) (k0_pay1 t w) (k0_pay3 x) (k0_pay5 x) g (ix2 i l)
      = (Rms.dx (fun k => X (ix2 i k)) (fun k => doc T W i ⟨512 + k.val, by omega⟩ * G (ix2 0 k)) l : EReal) := by
  pointwise [k0_pay12, k0_pay11, k0_pay10, k0_pay3, pay5_eq]
  simp only [pay4_at hx, pay1_at ht hw, hx, hg, ← EReal.coe_mul, coe_sum, ofBits_512,
    div_coe_coe (show (512 : ℝ) ≠ 0 by norm_num), ← EReal.coe_add, ← EReal.coe_sub, Rms.dx, Nat.cast_ofNat]

/-- The first gain's gradient after a block: what was there and the block's rows. -/
theorem pay15_at (ht : ∀ i, t i = (T i : EReal)) (hw : ∀ i, w i = (W i : EReal)) (hx : ∀ i, x i = (X i : EReal))
    (j : S1x512.Idx) :
    k0_pay15 (F := Ideal) (k0_pay6 t w) (k0_pay7 x) a j
      = a j + ((∑ i : Fin 1024, doc T W i ⟨(j 1).val, by have := (j 1).isLt; change (j 1).val < 512 at this; omega⟩ * (X (ix2 i (j 1)) * Rms.r fun k => X (ix2 i k)) : ℝ) : EReal) := by
  idx_vars j
  pointwise [k0_pay15, k0_pay7, k0_pay6, k0_pay2]
  simp only [pay4_at hx, pay1_at ht hw, hx, ← EReal.coe_mul, coe_sum]

/-- The second gain's gradient after a block. -/
theorem pay16_at (ht : ∀ i, t i = (T i : EReal)) (hw : ∀ i, w i = (W i : EReal)) (hx : ∀ i, x i = (X i : EReal))
    (j : S1x512.Idx) :
    k0_pay16 (F := Ideal) (k0_pay1 t w) (k0_pay3 x) (k0_pay5 x) a j
      = a j + ((∑ i : Fin 1024, doc T W i ⟨512 + (j 1).val, by have := (j 1).isLt; change (j 1).val < 512 at this; omega⟩ * (X (ix2 i (j 1)) * Rms.r fun k => X (ix2 i k)) : ℝ) : EReal) := by
  idx_vars j
  pointwise [k0_pay16, k0_pay11, k0_pay10, k0_pay3, pay5_eq]
  simp only [pay4_at hx, pay1_at ht hw, hx, ← EReal.coe_mul, coe_sum]

/-- Both accumulators start at zero. -/
theorem pay13_at (j : S1x512.Idx) : k0_pay13 (F := Ideal) j = 0 := by pointwise [k0_pay13]

theorem pay14_at (j : S1x512.Idx) : k0_pay14 (F := Ideal) j = 0 := by pointwise [k0_pay14]

end Payloads

variable (m : (ℓ : Loc nD τ sig) → Buf (Elt Ideal) ℓ)

/-- The windows' block indices: the point's number on the row windows, zero on the others. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The rows of point `t` of an array of 8192 rows. -/
def rows {n : ℕ} (E : (⟨2, ![8192, n]⟩ : Shape).Idx → ℝ) (t : Fin cfg0.N) : (⟨2, ![1024, n]⟩ : Shape).Idx → ℝ :=
  fun j => E (ix2 ⟨t.val * 1024 + (j 0).val, by have := t.isLt; have : cfg0.N = 8 := N_0; have := (j 0).isLt; change (j 0).val < 1024 at this; omega⟩ (j 1))

section Blocks

variable {m} {c : Dev nD} {E0 : S8192x1024.Idx → ℝ} {E1 E2 : S8192x512.Idx → ℝ} {E3 E4 : S1x512.Idx → ℝ} {E5 : S1024x1024.Idx → ℝ}

theorem blk0 (h : ∀ i, V m c main_v0 i = (E0 i : EReal)) (t : Fin cfg0.N) (j) : iblk m c 0 t j = (rows E0 t j : EReal) := by
  rw [rows, ← h]
  blk_ext [iblk, idx t]

theorem blk1 (h : ∀ i, V m c main_v1 i = (E1 i : EReal)) (t : Fin cfg0.N) (j) : iblk m c 1 t j = (rows E1 t j : EReal) := by
  rw [rows, ← h]
  blk_ext [iblk, idx t]

theorem blk2 (h : ∀ i, V m c main_v5 i = (E2 i : EReal)) (t : Fin cfg0.N) (j) : iblk m c 2 t j = (rows E2 t j : EReal) := by
  rw [rows, ← h]
  blk_ext [iblk, idx t]

theorem blk3 (h : ∀ i, V m c main_arg2 i = (E3 i : EReal)) (t : Fin cfg0.N) (j) : iblk m c 3 t j = (E3 j : EReal) := by
  rw [← h]
  blk_ext [iblk, idx t]

theorem blk4 (h : ∀ i, V m c main_v8 i = (E4 i : EReal)) (t : Fin cfg0.N) (j) : iblk m c 4 t j = (E4 j : EReal) := by
  rw [← h]
  blk_ext [iblk, idx t]

theorem blk5 (h : ∀ i, V m c main_v16 i = (E5 i : EReal)) (t : Fin cfg0.N) (j) : iblk m c 5 t j = (E5 j : EReal) := by
  rw [← h]
  blk_ext [iblk, idx t]

/-- What a point leaves in the first row cotangent's buffer. -/
theorem outs6 (t : Fin cfg0.N) : (outsAt0 m c t.val t.isLt).1
    = k0_pay9 (k0_pay4 (iblk m c 1 t)) (k0_pay8 (iblk m c 0 t) (iblk m c 5 t) (iblk m c 1 t) (iblk m c 3 t)) := by
  by_cases h : t.val % 8 = 0
  · rw [outsAt0_A m c t h]; frame_out
  · rw [outsAt0_B m c t h]; frame_out

/-- What a point leaves in the second row cotangent's buffer. -/
theorem outs7 (t : Fin cfg0.N) : (outsAt0 m c t.val t.isLt).2.1
    = k0_pay12 (k0_pay1 (iblk m c 0 t) (iblk m c 5 t)) (k0_pay3 (iblk m c 2 t)) (k0_pay5 (iblk m c 2 t)) (iblk m c 4 t) := by
  by_cases h : t.val % 8 = 0
  · rw [outsAt0_A m c t h]; frame_out
  · rw [outsAt0_B m c t h]; frame_out

/-- A block's row is a row of the array. -/
theorem doc_rows (t : Fin cfg0.N) (i : Fin 1024) (h) (l : Fin 1024) :
    doc (rows E0 t) E5 i l = doc E0 E5 ⟨t.val * 1024 + i.val, h⟩ l := rfl

/-- The gradient of a gain: over all rows, the joined cotangent's lane `f l` times the normalised row. -/
def gain (f : Fin 512 → Fin 1024) (E0 : S8192x1024.Idx → ℝ) (E5 : S1024x1024.Idx → ℝ) (E : S8192x512.Idx → ℝ) (l : Fin 512) : ℝ :=
  ∑ r : Fin 8192, doc E0 E5 r (f l) * (E (ix2 r l) * Rms.r fun k => E (ix2 r k))

/-- The blocks' shares of a gain's gradient add up to it. -/
theorem gain_eq (f : Fin 512 → Fin 1024) (E : S8192x512.Idx → ℝ) (l : Fin 512) :
    ∑ t : Fin cfg0.N, ((∑ i : Fin 1024, doc (rows E0 t) E5 i (f l)
      * (rows E t (ix2 i l) * Rms.r fun k => rows E t (ix2 i k)) : ℝ) : EReal) = (gain f E0 E5 E l : EReal) := by
  rw [coe_sum, gain]
  congr 1
  exact Fin.sum_mul_add_congr fun t i h => rfl

/-- The first row cotangent after the region. -/
theorem final6 (h0 : ∀ i, V m c main_v0 i = (E0 i : EReal)) (h1 : ∀ i, V m c main_v1 i = (E1 i : EReal))
    (h3 : ∀ i, V m c main_arg2 i = (E3 i : EReal)) (h5 : ∀ i, V m c main_v16 i = (E5 i : EReal)) :
    (dats m 0 c).arrAt 6 (cfgs 0).N = fun j : S8192x512.Idx => ((Rms.dx (fun k : Fin 512 => E1 (ix2 (j 0) k)) (fun k => doc E0 E5 (j 0) ⟨k.val, by omega⟩ * E3 (ix2 0 k)) (j 1) : ℝ) : EReal) := by
  refine (dats m 0 c).arrAt_eq_of_covers 6 _ (by decide +kernel) fun t hf y => ?_
  blk_simp
  rw [after0_6, outs6]
  idx_vars y
  rw [pay9_at (blk0 h0 t) (blk5 h5 t) (blk1 h1 t) (blk3 h3 t)]
  have he : ((View.whole main_v17_0).slice (win0_6.rect t)).emb (ix2 y0 y1) = ix2 ⟨t.val * 1024 + y0.val, by have := t.isLt; have : cfg0.grid.N = 8 := N_0; omega⟩ y1 := by
    blk_ext [idx t]
  rw [he]
  rfl

/-- The second row cotangent after the region. -/
theorem final7 (h0 : ∀ i, V m c main_v0 i = (E0 i : EReal)) (h2 : ∀ i, V m c main_v5 i = (E2 i : EReal))
    (h4 : ∀ i, V m c main_v8 i = (E4 i : EReal)) (h5 : ∀ i, V m c main_v16 i = (E5 i : EReal)) :
    (dats m 0 c).arrAt 7 (cfgs 0).N = fun j : S8192x512.Idx => ((Rms.dx (fun k : Fin 512 => E2 (ix2 (j 0) k)) (fun k => doc E0 E5 (j 0) ⟨512 + k.val, by omega⟩ * E4 (ix2 0 k)) (j 1) : ℝ) : EReal) := by
  refine (dats m 0 c).arrAt_eq_of_covers 7 _ (by decide +kernel) fun t hf y => ?_
  blk_simp
  rw [after0_7, outs7]
  idx_vars y
  rw [pay12_at (blk0 h0 t) (blk5 h5 t) (blk2 h2 t) (blk4 h4 t)]
  have he : ((View.whole main_v17_1).slice (win0_7.rect t)).emb (ix2 y0 y1) = ix2 ⟨t.val * 1024 + y0.val, by have := t.isLt; have : cfg0.grid.N = 8 := N_0; omega⟩ y1 := by
    blk_ext [idx t]
  rw [he]
  rfl

/-- The first gain's gradient after the region. -/
theorem final8 (h0 : ∀ i, V m c main_v0 i = (E0 i : EReal)) (h1 : ∀ i, V m c main_v1 i = (E1 i : EReal))
    (h5 : ∀ i, V m c main_v16 i = (E5 i : EReal)) :
    (dats m 0 c).arrAt 8 (cfgs 0).N = fun j : S1x512.Idx => (gain (fun l => ⟨l.val, by omega⟩) E0 E5 E1 (j 1) : EReal) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; frame_out; rw [pay15_at (blk0 h0 t) (blk5 h5 t) (blk1 h1 t), pay13_at])
    (fun t h j => by rw [outsAt0_B m c t h]; frame_out; rw [pay15_at (blk0 h0 t) (blk5 h5 t) (blk1 h1 t)])
    (le_of_eq N_0) t0_7 rfl j, zero_add]
  exact gain_eq (fun l => ⟨l.val, by omega⟩) E1 (j 1)

/-- The second gain's gradient after the region. -/
theorem final9 (h0 : ∀ i, V m c main_v0 i = (E0 i : EReal)) (h2 : ∀ i, V m c main_v5 i = (E2 i : EReal))
    (h5 : ∀ i, V m c main_v16 i = (E5 i : EReal)) :
    (dats m 0 c).arrAt 9 (cfgs 0).N = fun j : S1x512.Idx => (gain (fun l => ⟨512 + l.val, by omega⟩) E0 E5 E2 (j 1) : EReal) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) _
    (fun t h j => by rw [outsAt0_A m c t h]; frame_out; rw [pay16_at (blk0 h0 t) (blk5 h5 t) (blk2 h2 t), pay14_at])
    (fun t h j => by rw [outsAt0_B m c t h]; frame_out; rw [pay16_at (blk0 h0 t) (blk5 h5 t) (blk2 h2 t)])
    (le_of_eq N_0) t0_7 rfl j, zero_add]
  exact gain_eq (fun l => ⟨512 + l.val, by omega⟩) E2 (j 1)

end Blocks

end Cert.OutBwdIdeal.Value

end
-- ==== Proof.OutBwd.lean ====
module

public import proofs.«01_k».proof.Defs
public import proofs.«01_k».proof.Proof.OutBwdRef
public import proofs.«01_k».proof.Proof.OutBwdKernel
public import proofs.«01_k».proof.Proof.Gen.Pre_finite_out_bwd
public import proofs.«01_k».proof.Proof.Gen.OutBwdRefIdeal.Run

@[expose] public section

set_option maxRecDepth 16384

noncomputable section

/-! # The value of `out_bwd`

The region's entry arrays and the host lines after it, read as real arrays, against the reference. The second group's
lanes pass through the kernel with each pair of heads side by side; the norm does not see the order. -/

namespace Cert.OutBwdIdeal.Value

open Idealize.ShloMosaic Idealize.ShloMosaic.TcCoe Idealize.SL.Sem
open Cert.OutBwdIdeal Cert.OutBwdIdeal.Gen
open Cert.Proof Cert.Proof.Reals

/-- The lane of the second group that stands at lane `l` of the paired order (two rows of four heads of 64 lanes). -/
def toLane (l : Fin 512) : Fin 512 := ⟨l.val / 64 % 2 * 256 + l.val / 128 * 64 + l.val % 64, by omega⟩

/-- And back. -/
def ofLane (l : Fin 512) : Fin 512 := ⟨l.val / 64 % 4 * 128 + l.val / 256 * 64 + l.val % 64, by omega⟩

/-- The two orders of the second group's lanes. -/
noncomputable def lane : Fin 512 ≃ Fin 512 := ⟨toLane, ofLane, by decide +kernel, by decide +kernel⟩

/-- A three-axis array's rows in one axis. -/
def flat {n : ℕ} (X : (⟨3, ![4, 2048, n]⟩ : Shape).Idx → ℝ) (i : (⟨2, ![8192, n]⟩ : Shape).Idx) : ℝ :=
  X (ix3 ⟨(i 0).val / 2048, by have := (i 0).isLt; change (i 0).val < 8192 at this; omega⟩ ⟨(i 0).val % 2048, by omega⟩ (i 1))

/-- The weights with the second group's rows in the paired order. -/
def paired (W : S1x1024x1024.Idx → ℝ) (i : S1024x1024.Idx) : ℝ :=
  if h : (i 0).val < 512 then W (ix3 0 (i 0) (i 1))
  else W (ix3 0 ⟨512 + (lane ⟨(i 0).val - 512, by have := (i 0).isLt; change (i 0).val < 1024 at this; omega⟩).val, by omega⟩ (i 1))

theorem paired_at (W : S1x1024x1024.Idx → ℝ) (j0 j1 : Fin 1024) : paired W (ix2 j0 j1)
    = if h : j0.val < 512 then W (ix3 0 j0 j1) else W (ix3 0 ⟨512 + (toLane ⟨j0.val - 512, by omega⟩).val, by omega⟩ j1) := rfl

section Arrays

variable (m : (ℓ : Loc nD τ sig) → Buf (Elt Ideal) ℓ) (c : Dev nD)
  {A0 A1 : S4x2048x512.Idx → ℝ} {A2 A3 : S1x512.Idx → ℝ} {A4 : S1x1024x1024.Idx → ℝ} {A5 : S4x2048x1024.Idx → ℝ}

theorem entry0 (h : ∀ i, m ((c.tc : Thread nD τ).loc main_arg5) i = (A5 i : EReal)) (j : S8192x1024.Idx) :
    V m c main_v0 j = (flat A5 j : EReal) := by
  idx_vars j
  show StableHlo.after [hostOps0].flatten _ _ _ = _
  simp only [List.flatten_cons, List.flatten_nil, List.append_nil]
  after_results
  pointwise []
  exact h _

theorem entry1 (h : ∀ i, m ((c.tc : Thread nD τ).loc main_arg0) i = (A0 i : EReal)) (j : S8192x512.Idx) :
    V m c main_v1 j = (flat A0 j : EReal) := by
  idx_vars j
  show StableHlo.after [hostOps0].flatten _ _ _ = _
  simp only [List.flatten_cons, List.flatten_nil, List.append_nil]
  after_results
  pointwise []
  exact h _

theorem entry2 (h : ∀ i, m ((c.tc : Thread nD τ).loc main_arg1) i = (A1 i : EReal)) (j : S8192x512.Idx) :
    V m c main_v5 j = ((fun i : S8192x512.Idx => flat A1 (ix2 (i 0) (lane (i 1)))) j : EReal) := by
  idx_vars j
  show StableHlo.after [hostOps0].flatten _ _ _ = _
  simp only [List.flatten_cons, List.flatten_nil, List.append_nil]
  after_results
  pointwise []
  exact h _

theorem entry3 (h : ∀ i, m ((c.tc : Thread nD τ).loc main_arg2) i = (A2 i : EReal)) (j : S1x512.Idx) :
    V m c main_arg2 j = (A2 j : EReal) := by
  rw [V_main_arg2]; exact h j

theorem entry4 (h : ∀ i, m ((c.tc : Thread nD τ).loc main_arg3) i = (A3 i : EReal)) (j : S1x512.Idx) :
    V m c main_v8 j = ((fun i : S1x512.Idx => A3 (ix2 0 (lane (i 1)))) j : EReal) := by
  idx_vars j
  show StableHlo.after [hostOps0].flatten _ _ _ = _
  simp only [List.flatten_cons, List.flatten_nil, List.append_nil]
  after_results
  pointwise []
  exact h _

theorem entry5 (h : ∀ i, m ((c.tc : Thread nD τ).loc main_arg4) i = (A4 i : EReal)) (j : S1024x1024.Idx) :
    V m c main_v16 j = (paired A4 j : EReal) := by
  idx_vars j
  show StableHlo.after [hostOps0].flatten _ _ _ = _
  simp only [List.flatten_cons, List.flatten_nil, List.append_nil]
  after_results
  pointwise []
  have h' : ∀ i, m (c, Proc.tc.devRef main_arg4) i = (A4 i : EReal) := h
  simp only [h', paired_at]
  split <;> rfl

/-- The second row cotangent after the host lines that follow the region: the lanes back in the heads' order. -/
theorem tail20 (j0 : Fin 8192) (j1 : Fin 512) : Pipeline.afterTail₀ cfgs (dats m) 0 (V0 m) [hostOps1] c main_v20 (ix2 j0 j1)
    = (show S8192x512.Idx → EReal from (dats m 0 c).arrAt 7 (cfgs 0).N) (ix2 j0 (lane.symm j1)) := by
  unfold Pipeline.afterTail₀
  simp only [List.flatten_cons, List.flatten_nil, List.append_nil]
  after_results
  erw [Pipeline.withArrays_arr (cfgs 0).spec launch0.win.arr_inj _ _ _ 7]
  generalize (dats m 0 c).arrAt 7 _ = K
  revert K
  intro (K : S8192x512.Idx → EReal)
  pointwise []
  rfl

/-- The second gain's gradient after the host lines that follow the region. -/
theorem tail23 (j0 : Fin 1) (j1 : Fin 512) : Pipeline.afterTail₀ cfgs (dats m) 0 (V0 m) [hostOps1] c main_v23 (ix2 j0 j1)
    = (show S1x512.Idx → EReal from (dats m 0 c).arrAt 9 (cfgs 0).N) (ix2 0 (lane.symm j1)) := by
  unfold Pipeline.afterTail₀
  simp only [List.flatten_cons, List.flatten_nil, List.append_nil]
  after_results
  erw [Pipeline.withArrays_arr (cfgs 0).spec launch0.win.arr_inj _ _ _ 9]
  generalize (dats m 0 c).arrAt 9 _ = K
  revert K
  intro (K : S1x512.Idx → EReal)
  pointwise []
  rfl

end Arrays

section Doc

variable (A1 : S4x2048x512.Idx → ℝ) (A4 : S1x1024x1024.Idx → ℝ) (A5 : S4x2048x1024.Idx → ℝ)

/-- The first group's lanes of the joined cotangent. -/
theorem doc_lo (r : Fin 8192) (k : Fin 512) : doc (flat A5) (paired A4) r ⟨k.val, by omega⟩
    = Cert.OutBwdRefIdeal.At.doc A4 A5 ⟨r.val / 2048, by omega⟩ ⟨r.val % 2048, by omega⟩ ⟨k.val, by omega⟩ := by
  refine Finset.sum_congr rfl fun d _ => ?_
  rw [paired, dif_pos (show ((ix2 (⟨k.val, by omega⟩ : Fin 1024) d : S1024x1024.Idx) 0).val < 512 from k.isLt)]
  rfl

/-- The second group's, at the lane it came from. -/
theorem doc_hi (r : Fin 8192) (k : Fin 512) : doc (flat A5) (paired A4) r ⟨512 + k.val, by omega⟩
    = Cert.OutBwdRefIdeal.At.doc A4 A5 ⟨r.val / 2048, by omega⟩ ⟨r.val % 2048, by omega⟩ ⟨512 + (lane k).val, by omega⟩ := by
  refine Finset.sum_congr rfl fun d _ => ?_
  rw [paired, dif_neg (show ¬((ix2 (⟨512 + k.val, by omega⟩ : Fin 1024) d : S1024x1024.Idx) 0).val < 512 by simp)]
  have hk : (⟨512 + k.val - 512, by omega⟩ : Fin 512) = k := Fin.ext (by dsimp only; omega)
  exact congrArg (fun q : Fin 512 => flat A5 (ix2 r d) * A4 (ix3 0 ⟨512 + (lane q).val, by omega⟩ d)) hk

end Doc

section Results

variable (m : (ℓ : Loc nD τ sig) → Buf (Elt Ideal) ℓ) (c : Dev nD)
  {A0 A1 : S4x2048x512.Idx → ℝ} {A2 A3 : S1x512.Idx → ℝ} {A4 : S1x1024x1024.Idx → ℝ} {A5 : S4x2048x1024.Idx → ℝ}
  (h0 : ∀ i, m ((c.tc : Thread nD τ).loc main_arg0) i = (A0 i : EReal)) (h1 : ∀ i, m ((c.tc : Thread nD τ).loc main_arg1) i = (A1 i : EReal))
  (h2 : ∀ i, m ((c.tc : Thread nD τ).loc main_arg2) i = (A2 i : EReal)) (h3 : ∀ i, m ((c.tc : Thread nD τ).loc main_arg3) i = (A3 i : EReal))
  (h4 : ∀ i, m ((c.tc : Thread nD τ).loc main_arg4) i = (A4 i : EReal)) (h5 : ∀ i, m ((c.tc : Thread nD τ).loc main_arg5) i = (A5 i : EReal))

include h0 h2 h4 h5 in
/-- The first row cotangent is the reference's. -/
theorem res0 : Cert.OutBwdRefIdeal.Read.val_main_v82 (F := Ideal) (m ((c.tc : Thread nD τ).loc main_arg0)) (m ((c.tc : Thread nD τ).loc main_arg2))
      (m ((c.tc : Thread nD τ).loc main_arg4)) (m ((c.tc : Thread nD τ).loc main_arg5)) = (dats m 0 c).arrAt 6 (cfgs 0).N := by
  rw [final6 (entry0 m c h5) (entry1 m c h0) (entry3 m c h2) (entry5 m c h4)]
  funext j
  idx_vars j
  unfold Cert.OutBwdRefIdeal.Read.val_main_v82
  pointwise []
  rw [Cert.OutBwdRefIdeal.At.v80_at h0 h2 h4 h5]
  simp only [doc_lo]
  rfl

include h1 h3 h4 h5 in
/-- The second row cotangent is the reference's. -/
theorem res1 : Cert.OutBwdRefIdeal.Read.val_main_v83 (F := Ideal) (m ((c.tc : Thread nD τ).loc main_arg1)) (m ((c.tc : Thread nD τ).loc main_arg3))
      (m ((c.tc : Thread nD τ).loc main_arg4)) (m ((c.tc : Thread nD τ).loc main_arg5))
      = Pipeline.afterTail₀ cfgs (dats m) 0 (V0 m) [hostOps1] c main_v20 := by
  funext j
  idx_vars j
  rw [tail20, final7 (entry0 m c h5) (entry2 m c h1) (entry4 m c h3) (entry5 m c h4)]
  unfold Cert.OutBwdRefIdeal.Read.val_main_v83
  pointwise []
  rw [Cert.OutBwdRefIdeal.At.v59_at h1 h3 h4 h5]
  refine congrArg (fun r : ℝ => (r : EReal)) ?_
  refine Eq.trans ?_ (Rms.dx_perm lane (fun k => flat A1 (ix2 j0 k)) (fun k => Cert.OutBwdRefIdeal.At.doc A4 A5 ⟨j0.val / 2048, by omega⟩ ⟨j0.val % 2048, by omega⟩ ⟨512 + k.val, by omega⟩ * A3 (ix2 0 k)) (lane.symm j1)).symm |>.trans ?_
  · rw [Equiv.apply_symm_apply]; rfl
  · simp only [doc_hi]

/-- A gain's gradient sums over the rows of both axes. -/
theorem gain_rows (f : Fin 512 → Fin 1024) (E : S8192x512.Idx → ℝ) (X : S4x2048x512.Idx → ℝ) (D : Fin 4 → Fin 2048 → Fin 512 → ℝ) (l l' : Fin 512)
    (h : ∀ r : Fin 8192, doc (flat A5) (paired A4) r (f l) * (E (ix2 r l) * Rms.r fun k => E (ix2 r k))
      = X (ix3 ⟨r.val / 2048, by omega⟩ ⟨r.val % 2048, by omega⟩ l') * (Rms.r fun k => X (ix3 ⟨r.val / 2048, by omega⟩ ⟨r.val % 2048, by omega⟩ k))
        * D ⟨r.val / 2048, by omega⟩ ⟨r.val % 2048, by omega⟩ l') :
    gain f (flat A5) (paired A4) E l = Cert.OutBwdRefIdeal.At.dg X D l' :=
  Fin.sum_divmod_congr (S := 2048) fun t ha hs => h t

include h0 h4 h5 in
/-- The first gain's gradient is the reference's. -/
theorem res2 : Cert.OutBwdRefIdeal.Read.val_main_v81 (F := Ideal) (m ((c.tc : Thread nD τ).loc main_arg0))
      (m ((c.tc : Thread nD τ).loc main_arg4)) (m ((c.tc : Thread nD τ).loc main_arg5)) = (dats m 0 c).arrAt 8 (cfgs 0).N := by
  rw [final8 (entry0 m c h5) (entry1 m c h0) (entry5 m c h4)]
  funext j
  idx_vars j
  rw [Cert.OutBwdRefIdeal.At.v81_at h0 h4 h5]
  refine congrArg (fun r : ℝ => (r : EReal)) (gain_rows _ _ _ _ _ _ fun r => ?_).symm
  simp only [doc_lo]
  rw [mul_comm]
  rfl

include h1 h4 h5 in
/-- The second gain's gradient is the reference's. -/
theorem res3 : Cert.OutBwdRefIdeal.Read.val_main_v60 (F := Ideal) (m ((c.tc : Thread nD τ).loc main_arg1))
      (m ((c.tc : Thread nD τ).loc main_arg4)) (m ((c.tc : Thread nD τ).loc main_arg5))
      = Pipeline.afterTail₀ cfgs (dats m) 0 (V0 m) [hostOps1] c main_v23 := by
  funext j
  idx_vars j
  rw [tail23, final9 (entry0 m c h5) (entry2 m c h1) (entry5 m c h4)]
  rw [Cert.OutBwdRefIdeal.At.v60_at h1 h4 h5]
  refine congrArg (fun r : ℝ => (r : EReal)) (gain_rows (fun l => ⟨512 + l.val, by omega⟩) _ A1 (fun b s k => Cert.OutBwdRefIdeal.At.doc A4 A5 b s ⟨512 + k.val, by omega⟩) (lane.symm j1) j1 fun r => ?_).symm
  rw [doc_hi]
  rw [mul_comm]
  show flat A1 (ix2 r (lane (lane.symm j1))) * Rms.r (fun k => flat A1 (ix2 r (lane k))) * Cert.OutBwdRefIdeal.At.doc A4 A5 _ _ ⟨512 + (lane (lane.symm j1)).val, _⟩ = _
  rw [Rms.r_perm lane fun k => flat A1 (ix2 r k)]
  exact congrArg (fun q : Fin 512 => flat A1 (ix2 r q) * (Rms.r fun k => flat A1 (ix2 r k)) * Cert.OutBwdRefIdeal.At.doc A4 A5 ⟨r.val / 2048, by omega⟩ ⟨r.val % 2048, by omega⟩ ⟨512 + q.val, by omega⟩) (lane.apply_symm_apply j1)

end Results

/-- The precondition: every argument is an array of reals. -/
theorem reals (m : (ℓ : Loc nD τ sig) → Buf (Elt Ideal) ℓ) (h : Pre_OutBwdIdeal_finite_out_bwd m) (c : Dev nD) :
    (∃ A : S4x2048x512.Idx → ℝ, ∀ i, m ((c.tc : Thread nD τ).loc main_arg0) i = (A i : EReal))
    ∧ (∃ A : S4x2048x512.Idx → ℝ, ∀ i, m ((c.tc : Thread nD τ).loc main_arg1) i = (A i : EReal))
    ∧ (∃ A : S1x512.Idx → ℝ, ∀ i, m ((c.tc : Thread nD τ).loc main_arg2) i = (A i : EReal))
    ∧ (∃ A : S1x512.Idx → ℝ, ∀ i, m ((c.tc : Thread nD τ).loc main_arg3) i = (A i : EReal))
    ∧ (∃ A : S1x1024x1024.Idx → ℝ, ∀ i, m ((c.tc : Thread nD τ).loc main_arg4) i = (A i : EReal))
    ∧ (∃ A : S4x2048x1024.Idx → ℝ, ∀ i, m ((c.tc : Thread nD τ).loc main_arg5) i = (A i : EReal)) := by
  obtain ⟨p0, p1, p2, p3, p4, p5⟩ := h c
  refine ⟨exists_array fun i => exists_real ?_, exists_array fun i => exists_real ?_, exists_array fun i => exists_real ?_,
    exists_array fun i => exists_real ?_, exists_array fun i => exists_real ?_, exists_array fun i => exists_real ?_⟩
  · have := congrFun p0 i; idx_vars i; pointwise [Cert.Pre_finite_out_bwd.fn] at this; exact this
  · have := congrFun p1 i; idx_vars i; pointwise [Cert.Pre_finite_out_bwd.fn] at this; exact this
  · have := congrFun p2 i; idx_vars i; pointwise [Cert.Pre_finite_out_bwd.fn] at this; exact this
  · have := congrFun p3 i; idx_vars i; pointwise [Cert.Pre_finite_out_bwd.fn] at this; exact this
  · have := congrFun p4 i; idx_vars i; pointwise [Cert.Pre_finite_out_bwd.fn] at this; exact this
  · have := congrFun p5 i; idx_vars i; pointwise [Cert.Pre_finite_out_bwd.fn] at this; exact this

/-- For finite arguments the kernel and the reference end with the same four gradients. -/
theorem algebraic : algebraic_OutBwdIdeal_OutBwdRefIdeal_pre_finite_out_bwd := by
  pair_intro
  · run_from Cert.OutBwdIdeal.Gen.run_main m g & Cert.OutBwdIdeal.Gen.unchanged m g
  · run_from Cert.OutBwdRefIdeal.Value.run m' g'
    all_goals
      obtain ⟨e0, e1, e2, e3, e4, e5⟩ := hagree c
      obtain ⟨⟨A0, h0⟩, ⟨A1, h1⟩, ⟨A2, h2⟩, ⟨A3, h3⟩, ⟨A4, h4⟩, ⟨A5, h5⟩⟩ := reals m hpre c
    · exact (Cert.OutBwdRefIdeal.Read.val_main_v82_eq m' c).trans (by rw [e0, e2, e4, e5]; exact res0 m c h0 h2 h4 h5)
    · exact (Cert.OutBwdRefIdeal.Read.val_main_v83_eq m' c).trans (by rw [e1, e3, e4, e5]; exact res1 m c h1 h3 h4 h5)
    · exact res2 m c h0 h4 h5
    · exact res3 m c h1 h4 h5

/-- The reference leaves its arguments unchanged and declares no semaphore. -/
theorem frame_ref : quiescent_OutBwdRefIdeal := fun m g _ =>
  (θ_run Cert.OutBwdRefIdeal.defs _ _).mono (fun r h => ⟨fun c => (h c).2.2.2.2, sem_eq_zero_of_no_sems (by decide) r.2⟩)
    (Cert.OutBwdRefIdeal.Value.run m g)

end Cert.OutBwdIdeal.Value

end
-- ==== Proof.MlaBwdTiles.lean ====
module

public import proofs.«01_k».proof.Proof.Gen.MlaBwdIdeal.Frame
public import proofs.«01_k».proof.Proof.Reals
public import Idealize.ShloMosaic.Lib.Pipeline.ValueKit
public import Idealize.ShloMosaic.Lib.WholeRead

@[expose] public section

set_option maxRecDepth 16384

noncomputable section

/-! # The tiles of `mla_bwd`, over the reals

One grid point handles one batch and two heads: a half of the lanes per head. For each half, tiles of 512 queries meet
the keys of the same rows (with the causal mask) and all earlier keys (without). Here each product of a tile is read at
an index, over reals; the four widths of a tile of keys have the same text. -/

namespace Cert.MlaBwdIdeal.Value

open Idealize.ShloMosaic Idealize.ShloMosaic.TcCoe Idealize.SL.Sem
open Cert.MlaBwdIdeal Cert.MlaBwdIdeal.Gen
open Cert.Proof Cert.Proof.Reals

/-- The scores' scale, and the scale of the scores' powers of two. -/
def sc : ℝ := (Real.sqrt 96)⁻¹
def sl : ℝ := (Real.sqrt 96)⁻¹ * (Real.log 2)⁻¹

theorem named_sc : Named.named (F := Ideal) (φ := .f32) κ "scale" 0x3DD105EC#32 = ((sc : ℝ) : EReal) :=
  IdealRules.named_const.ideal_named_scalar _ _ _ _ rfl

theorem named_sl : Named.named (F := Ideal) (φ := .f32) κ "scale_log2" 0x3E16C740#32 = ((sl : ℝ) : EReal) :=
  IdealRules.named_const.ideal_named_scalar _ _ _ _ rfl

/-! ## What a point computes, on whole blocks -/

section Block

variable (Q K : S2048x256.Idx → ℝ) (V D O L : S2048x128.Idx → ℝ)

/-- A half's lane of a block of two heads. -/
def hl (h : Fin 2) (e : Fin 128) : Fin 256 := ⟨h.val * 128 + e.val, by omega⟩

/-- The half's lane of a block of the rows' logarithms. -/
def lc (h : Fin 2) : Fin 128 := ⟨h.val * 64, by omega⟩

/-- Row `a` of the rows from `r` on. -/
def row {n : ℕ} (r : ℕ) (hr : r + n ≤ 2048) (a : Fin n) : Fin 2048 := ⟨r + a.val, by omega⟩

theorem le_512 : 0 + 512 ≤ 2048 := by decide
theorem le_1024 : 0 + 1024 ≤ 2048 := by decide
theorem le_1536 : 0 + 1536 ≤ 2048 := by decide
theorem at_512 : 512 + 512 ≤ 2048 := by decide
theorem at_1024 : 1024 + 512 ≤ 2048 := by decide
theorem at_1536 : 1536 + 512 ≤ 2048 := by decide

/-- The score of query `i` and key `j`. -/
def S (h : Fin 2) (i j : Fin 2048) : ℝ := ∑ e : Fin 128, Q (ix2 i (hl h e)) * K (ix2 j (hl h e))

/-- The probability of key `j` for query `i`. -/
def P (h : Fin 2) (i j : Fin 2048) : ℝ :=
  if j ≤ i then Real.rpow 2 (S Q K h i j * sl - L (ix2 i (lc h))) else 0

/-- The cotangent, only the half's own lanes. -/
def Dm (h : Fin 2) (i : Fin 2048) (e : Fin 128) : ℝ := if e.val / 64 = h.val then D (ix2 i e) else 0

/-- The scores' cotangent, scaled. -/
def dS (h : Fin 2) (i j : Fin 2048) : ℝ :=
  P Q K L h i j * ((∑ e, Dm D h i e * V (ix2 j e)) - ∑ e, Dm D h i e * O (ix2 i e)) * sc

/-- What the 512 queries from `r` on add to the gradient of key `j`. -/
def ck (h : Fin 2) (r : ℕ) (hr : r + 512 ≤ 2048) (d : Fin 128) (j : Fin 2048) : ℝ :=
  ∑ a : Fin 512, Q (ix2 (row r hr a) (hl h d)) * dS Q K V D O L h (row r hr a) j

/-- What they add to the gradient of value `j`. -/
def cv (h : Fin 2) (r : ℕ) (hr : r + 512 ≤ 2048) (e : Fin 128) (j : Fin 2048) : ℝ :=
  ∑ a : Fin 512, Dm D h (row r hr a) e * P Q K L h (row r hr a) j

/-- What the `n` keys from `k` on add to the gradient of query `i`. -/
def cq (h : Fin 2) (k n : ℕ) (hk : k + n ≤ 2048) (i : Fin 2048) (d : Fin 128) : ℝ :=
  ∑ b : Fin n, dS Q K V D O L h i (row k hk b) * K (ix2 (row k hk b) (hl h d))

end Block

/-! ## The masks -/

/-- The causal mask of a tile. -/
theorem pay1_at (a b : Fin 512) : k0_pay1 (ix2 a b) = BitVec.ofBool (decide (b ≤ a)) := by
  pointwise [k0_pay1]
  word_cmp
  rfl

/-- The lanes of the first half. -/
theorem pay2_at (a : Fin 512) (e : Fin 128) : k0_pay2 (ix2 a e) = BitVec.ofBool (decide (e.val / 64 = 0)) := by
  pointwise [k0_pay2]
  word_cmp
  congr 1; rw [decide_eq_decide]; omega

/-- The lanes of the second half. -/
theorem pay75_at (a : Fin 512) (e : Fin 128) : k0_pay75 (ix2 a e) = BitVec.ofBool (decide (e.val / 64 = 1)) := by
  pointwise [k0_pay75]
  word_cmp
  congr 1; rw [decide_eq_decide]; omega

/-! ## A tile's operations -/

/-- The cotangent rows with the other half's lanes cleared. -/
def own (w : IVec S512x128 1) (d : Vec Ideal S512x128 .f32) : FVec Ideal S512x128 .f32 :=
  select w (shapeCast S512x128 d shapeCasts_S512x128_S512x128) (broadcast S512x128 (Scalar.ofBits (F := Ideal) .f32 0x00000000#32))

/-- A row's sum of cotangent times output. -/
def dots (w : IVec S512x128 1) (d o : Vec Ideal S512x128 .f32) : FVec Ideal S512x1 .f32 :=
  shapeCast S512x1 (multiReduction .add [1] S512 (mulf (own w d) (shapeCast S512x128 o shapeCasts_S512x128_S512x128)) 0x00000000#32 reduces_S512x128_S512 (.inl rfl) rfl) shapeCasts_S512_S512x1

section Rows

variable {w : IVec S512x128 1} {d o : Vec Ideal S512x128 .f32} {D O : S2048x128.Idx → ℝ} {h : Fin 2} {r : ℕ} {hr : r + 512 ≤ 2048}

theorem own_at (hw : ∀ a e, w (ix2 a e) = BitVec.ofBool (decide (e.val / 64 = h.val)))
    (hd : ∀ (a : Fin 512) (e : Fin 128), d (ix2 a e) = (D (ix2 (row r hr a) e) : EReal)) (a : Fin 512) (e : Fin 128) :
    own w d (ix2 a e) = (Dm D h (row r hr a) e : EReal) := by
  pointwise [own]
  rw [hw, hd, Dm]
  by_cases hc : e.val / 64 = h.val
  · rw [if_pos hc, decide_eq_true hc]; rfl
  · rw [if_neg hc, decide_eq_false hc]; rfl

theorem dots_at (hw : ∀ a e, w (ix2 a e) = BitVec.ofBool (decide (e.val / 64 = h.val)))
    (hd : ∀ (a : Fin 512) (e : Fin 128), d (ix2 a e) = (D (ix2 (row r hr a) e) : EReal))
    (ho : ∀ (a : Fin 512) (e : Fin 128), o (ix2 a e) = (O (ix2 (row r hr a) e) : EReal)) (a : Fin 512) (u : Fin 1) :
    dots w d o (ix2 a u) = ((∑ e, Dm D h (row r hr a) e * O (ix2 (row r hr a) e) : ℝ) : EReal) := by
  pointwise [dots]
  simp only [own_at (D := D) (h := h) (r := r) (hr := hr) hw hd, ho, ← EReal.coe_mul, coe_sum]

end Rows

/-! ## The tile on the diagonal -/

/-- The probabilities of a tile. -/
def probD (q : Vec Ideal S512x128 .bf16) (k : Vec Ideal S512x128 .bf16) (l : Vec Ideal S512x1 .f32) : FVec Ideal S512x512 .f32 :=
  select k0_pay1 (exp2 (subf (mulf (matmul (F := Ideal) (φ₁ := .bf16) (φ₂ := .bf16) dot_S512x128_S512x128_S512x512_1_1_0_0_n_n none (shapeCast S512x128 q shapeCasts_S512x128_S512x128)
    (shapeCast S512x128 k shapeCasts_S512x128_S512x128) (constant S512x512 .f32 0x00000000#32))
    (broadcast S512x512 (Named.named (F := Ideal) (φ := .f32) κ "scale_log2" 0x3E16C740#32)))
    (broadcastTo S512x512 (shapeCast S512x1 l shapeCasts_S512x1_S512x1) broadcasts_S512x1_S512x512))) (broadcast S512x512 (Scalar.ofBits (F := Ideal) .f32 0x00000000#32))

/-- The scores' cotangent of a tile. -/
def gradD (w : IVec S512x128 1) (q : Vec Ideal S512x128 .bf16) (k v : Vec Ideal S512x128 .bf16) (d o : Vec Ideal S512x128 .f32)
    (l : Vec Ideal S512x1 .f32) : FVec Ideal S512x512 .bf16 :=
  truncf .bf16 (mulf (mulf (probD q k l) (subf (matmul (F := Ideal) (φ₁ := .bf16) (φ₂ := .bf16) dot_S512x128_S512x128_S512x512_1_1_0_0_n_n none (truncf .bf16 (own w d) bitsLt_bf16_f32)
    (shapeCast S512x128 v shapeCasts_S512x128_S512x128) (constant S512x512 .f32 0x00000000#32))
    (broadcastTo S512x512 (dots w d o) broadcasts_S512x1_S512x512)))
    (broadcast S512x512 (Named.named (F := Ideal) (φ := .f32) κ "scale" 0x3DD105EC#32))) bitsLt_bf16_f32

/-- What a tile adds to the keys' gradient, transposed. -/
def tkD (w : IVec S512x128 1) (q : Vec Ideal S512x128 .bf16) (k v : Vec Ideal S512x128 .bf16) (d o : Vec Ideal S512x128 .f32)
    (l : Vec Ideal S512x1 .f32) : FVec Ideal S128x512 .f32 :=
  matmul (F := Ideal) (φ₁ := .bf16) (φ₂ := .bf16) dot_S512x128_S512x512_S128x512_0_0_1_1_n_n none (shapeCast S512x128 q shapeCasts_S512x128_S512x128) (gradD w q k v d o l)
    (constant S128x512 .f32 0x00000000#32)

/-- What a tile adds to the values' gradient, transposed. -/
def tvD (w : IVec S512x128 1) (q : Vec Ideal S512x128 .bf16) (k : Vec Ideal S512x128 .bf16) (d : Vec Ideal S512x128 .f32)
    (l : Vec Ideal S512x1 .f32) : FVec Ideal S128x512 .f32 :=
  matmul (F := Ideal) (φ₁ := .bf16) (φ₂ := .bf16) dot_S512x128_S512x512_S128x512_0_0_1_1_n_n none (truncf .bf16 (own w d) bitsLt_bf16_f32)
    (truncf .bf16 (probD q k l) bitsLt_bf16_f32) (constant S128x512 .f32 0x00000000#32)

/-- What a tile adds to the queries' gradient. -/
def tqD (w : IVec S512x128 1) (q : Vec Ideal S512x128 .bf16) (k v : Vec Ideal S512x128 .bf16) (d o : Vec Ideal S512x128 .f32)
    (l : Vec Ideal S512x1 .f32) : FVec Ideal S512x128 .f32 :=
  matmul (F := Ideal) (φ₁ := .bf16) (φ₂ := .bf16) dot_S512x512_S512x128_S512x128_1_0_0_1_n_n none (gradD w q k v d o l) (shapeCast S512x128 k shapeCasts_S512x128_S512x128)
    (constant S512x128 .f32 0x00000000#32)

section TileD

variable {w : IVec S512x128 1} {q : Vec Ideal S512x128 .bf16} {k v : Vec Ideal S512x128 .bf16} {d o : Vec Ideal S512x128 .f32} {l : Vec Ideal S512x1 .f32}
  {Q K : S2048x256.Idx → ℝ} {V D O L : S2048x128.Idx → ℝ} {h : Fin 2} {r : ℕ} {hr : r + 512 ≤ 2048}
  (hw : ∀ a e, w (ix2 a e) = BitVec.ofBool (decide (e.val / 64 = h.val)))
  (hq : ∀ (a : Fin 512) (e : Fin 128), q (ix2 a e) = (Q (ix2 (row r hr a) (hl h e)) : EReal))
  (hk : ∀ (b : Fin 512) (e : Fin 128), k (ix2 b e) = (K (ix2 (row r hr b) (hl h e)) : EReal))
  (hv : ∀ (b : Fin 512) (e : Fin 128), v (ix2 b e) = (V (ix2 (row r hr b) e) : EReal))
  (hd : ∀ (a : Fin 512) (e : Fin 128), d (ix2 a e) = (D (ix2 (row r hr a) e) : EReal))
  (ho : ∀ (a : Fin 512) (e : Fin 128), o (ix2 a e) = (O (ix2 (row r hr a) e) : EReal))
  (hL : ∀ (a : Fin 512) (u : Fin 1), l (ix2 a u) = (L (ix2 (row r hr a) (lc h)) : EReal))

include hq hk hL in
theorem probD_at (a : Fin 512) (b : Fin 512) :
    probD q k l (ix2 a b) = (P Q K L h (row r hr a) (row r hr b) : EReal) := by
  pointwise [probD]
  simp only [hq, hk, hL, named_sl, ← EReal.coe_mul, coe_sum, ← EReal.coe_sub, Ideal.exp2_coe]
  rw [pay1_at, P]
  by_cases hc : b ≤ a
  · rw [if_pos (show row r hr b ≤ row r hr a from Nat.add_le_add_left hc r), decide_eq_true hc]; rfl
  · rw [if_neg (show ¬ row r hr b ≤ row r hr a from fun hh => hc (Nat.le_of_add_le_add_left hh)),
      decide_eq_false hc]; rfl

include hw hq hk hv hd ho hL in
theorem gradD_at (a : Fin 512) (b : Fin 512) :
    gradD w q k v d o l (ix2 a b) = (dS Q K V D O L h (row r hr a) (row r hr b) : EReal) := by
  pointwise [gradD]
  simp only [probD_at (Q := Q) (K := K) (L := L) (h := h) (r := r) (hr := hr) hq hk hL,
    dots_at (D := D) (O := O) (h := h) (r := r) (hr := hr) hw hd ho, own_at (D := D) (h := h) (r := r) (hr := hr) hw hd, hv, named_sc,
    ← EReal.coe_mul, coe_sum, ← EReal.coe_sub, dS]

include hw hq hk hv hd ho hL in
theorem tkD_at (e : Fin 128) (b : Fin 512) :
    tkD w q k v d o l (ix2 e b) = (ck Q K V D O L h r hr e (row r hr b) : EReal) := by
  pointwise [tkD]
  simp only [gradD_at (Q := Q) (K := K) (V := V) (D := D) (O := O) (L := L) (h := h) (r := r) (hr := hr) hw hq hk hv hd ho hL, hq,
    ← EReal.coe_mul, coe_sum, ck]

include hw hq hk hd hL in
theorem tvD_at (e : Fin 128) (b : Fin 512) :
    tvD w q k d l (ix2 e b) = (cv Q K D L h r hr e (row r hr b) : EReal) := by
  pointwise [tvD]
  simp only [probD_at (Q := Q) (K := K) (L := L) (h := h) (r := r) (hr := hr) hq hk hL,
    own_at (D := D) (h := h) (r := r) (hr := hr) hw hd, ← EReal.coe_mul, coe_sum, cv]

include hw hq hk hv hd ho hL in
theorem tqD_at (a : Fin 512) (e : Fin 128) :
    tqD w q k v d o l (ix2 a e) = (cq Q K V D O L h r 512 hr (row r hr a) e : EReal) := by
  pointwise [tqD]
  simp only [gradD_at (Q := Q) (K := K) (V := V) (D := D) (O := O) (L := L) (h := h) (r := r) (hr := hr) hw hq hk hv hd ho hL, hk,
    ← EReal.coe_mul, coe_sum, cq]

include hw hq hk hv hd ho hL in
/-- The keys' gradient stored, and added to what was there. -/
theorem skD (e : Fin 128) (b : Fin 512) :
    shapeCast S128x512 (tkD w q k v d o l) shapeCasts_S128x512_S128x512 (ix2 e b)
      = (ck Q K V D O L h r hr e (row r hr b) : EReal) := by
  pointwise []
  exact tkD_at hw hq hk hv hd ho hL e b

include hw hq hk hv hd ho hL in
theorem akD (x : Vec Ideal S128x512 .f32) (e : Fin 128) (b : Fin 512) :
    shapeCast S128x512 (addf (F := Ideal) (φ := .f32) x (tkD w q k v d o l)) shapeCasts_S128x512_S128x512 (ix2 e b)
      = x (ix2 e b) + (ck Q K V D O L h r hr e (row r hr b) : EReal) := by
  pointwise []
  rw [tkD_at hw hq hk hv hd ho hL e b]

include hw hq hk hd hL in
/-- The values' gradient stored, and added to what was there. -/
theorem svD (e : Fin 128) (b : Fin 512) :
    shapeCast S128x512 (tvD w q k d l) shapeCasts_S128x512_S128x512 (ix2 e b)
      = (cv Q K D L h r hr e (row r hr b) : EReal) := by
  pointwise []
  exact tvD_at hw hq hk hd hL e b

include hw hq hk hd hL in
theorem avD (x : Vec Ideal S128x512 .f32) (e : Fin 128) (b : Fin 512) :
    shapeCast S128x512 (addf (F := Ideal) (φ := .f32) x (tvD w q k d l)) shapeCasts_S128x512_S128x512 (ix2 e b)
      = x (ix2 e b) + (cv Q K D L h r hr e (row r hr b) : EReal) := by
  pointwise []
  rw [tvD_at hw hq hk hd hL e b]

end TileD

/-! ## The tile of the first 512 keys -/

/-- The probabilities of a tile. -/
def probP512 (q : Vec Ideal S512x128 .bf16) (k : Vec Ideal S512x128 .bf16) (l : Vec Ideal S512x1 .f32) : FVec Ideal S512x512 .f32 :=
  exp2 (subf (mulf (matmul (F := Ideal) (φ₁ := .bf16) (φ₂ := .bf16) dot_S512x128_S512x128_S512x512_1_1_0_0_n_n none (shapeCast S512x128 q shapeCasts_S512x128_S512x128)
    (shapeCast S512x128 k shapeCasts_S512x128_S512x128) (constant S512x512 .f32 0x00000000#32))
    (broadcast S512x512 (Named.named (F := Ideal) (φ := .f32) κ "scale_log2" 0x3E16C740#32)))
    (broadcastTo S512x512 (shapeCast S512x1 l shapeCasts_S512x1_S512x1) broadcasts_S512x1_S512x512))

/-- The scores' cotangent of a tile. -/
def gradP512 (w : IVec S512x128 1) (q : Vec Ideal S512x128 .bf16) (k v : Vec Ideal S512x128 .bf16) (d o : Vec Ideal S512x128 .f32)
    (l : Vec Ideal S512x1 .f32) : FVec Ideal S512x512 .bf16 :=
  truncf .bf16 (mulf (mulf (probP512 q k l) (subf (matmul (F := Ideal) (φ₁ := .bf16) (φ₂ := .bf16) dot_S512x128_S512x128_S512x512_1_1_0_0_n_n none (truncf .bf16 (own w d) bitsLt_bf16_f32)
    (shapeCast S512x128 v shapeCasts_S512x128_S512x128) (constant S512x512 .f32 0x00000000#32))
    (broadcastTo S512x512 (dots w d o) broadcasts_S512x1_S512x512)))
    (broadcast S512x512 (Named.named (F := Ideal) (φ := .f32) κ "scale" 0x3DD105EC#32))) bitsLt_bf16_f32

/-- What a tile adds to the keys' gradient, transposed. -/
def tkP512 (w : IVec S512x128 1) (q : Vec Ideal S512x128 .bf16) (k v : Vec Ideal S512x128 .bf16) (d o : Vec Ideal S512x128 .f32)
    (l : Vec Ideal S512x1 .f32) : FVec Ideal S128x512 .f32 :=
  matmul (F := Ideal) (φ₁ := .bf16) (φ₂ := .bf16) dot_S512x128_S512x512_S128x512_0_0_1_1_n_n none (shapeCast S512x128 q shapeCasts_S512x128_S512x128) (gradP512 w q k v d o l)
    (constant S128x512 .f32 0x00000000#32)

/-- What a tile adds to the values' gradient, transposed. -/
def tvP512 (w : IVec S512x128 1) (q : Vec Ideal S512x128 .bf16) (k : Vec Ideal S512x128 .bf16) (d : Vec Ideal S512x128 .f32)
    (l : Vec Ideal S512x1 .f32) : FVec Ideal S128x512 .f32 :=
  matmul (F := Ideal) (φ₁ := .bf16) (φ₂ := .bf16) dot_S512x128_S512x512_S128x512_0_0_1_1_n_n none (truncf .bf16 (own w d) bitsLt_bf16_f32)
    (truncf .bf16 (probP512 q k l) bitsLt_bf16_f32) (constant S128x512 .f32 0x00000000#32)

/-- What a tile adds to the queries' gradient. -/
def tqP512 (w : IVec S512x128 1) (q : Vec Ideal S512x128 .bf16) (k v : Vec Ideal S512x128 .bf16) (d o : Vec Ideal S512x128 .f32)
    (l : Vec Ideal S512x1 .f32) : FVec Ideal S512x128 .f32 :=
  matmul (F := Ideal) (φ₁ := .bf16) (φ₂ := .bf16) dot_S512x512_S512x128_S512x128_1_0_0_1_n_n none (gradP512 w q k v d o l) (shapeCast S512x128 k shapeCasts_S512x128_S512x128)
    (constant S512x128 .f32 0x00000000#32)

section TileP512

variable {w : IVec S512x128 1} {q : Vec Ideal S512x128 .bf16} {k v : Vec Ideal S512x128 .bf16} {d o : Vec Ideal S512x128 .f32} {l : Vec Ideal S512x1 .f32}
  {Q K : S2048x256.Idx → ℝ} {V D O L : S2048x128.Idx → ℝ} {h : Fin 2} {r : ℕ} {hr : r + 512 ≤ 2048}
  (hw : ∀ a e, w (ix2 a e) = BitVec.ofBool (decide (e.val / 64 = h.val)))
  (hq : ∀ (a : Fin 512) (e : Fin 128), q (ix2 a e) = (Q (ix2 (row r hr a) (hl h e)) : EReal))
  (hk : ∀ (b : Fin 512) (e : Fin 128), k (ix2 b e) = (K (ix2 (row 0 le_512 b) (hl h e)) : EReal))
  (hv : ∀ (b : Fin 512) (e : Fin 128), v (ix2 b e) = (V (ix2 (row 0 le_512 b) e) : EReal))
  (hd : ∀ (a : Fin 512) (e : Fin 128), d (ix2 a e) = (D (ix2 (row r hr a) e) : EReal))
  (ho : ∀ (a : Fin 512) (e : Fin 128), o (ix2 a e) = (O (ix2 (row r hr a) e) : EReal))
  (hL : ∀ (a : Fin 512) (u : Fin 1), l (ix2 a u) = (L (ix2 (row r hr a) (lc h)) : EReal))
  (hn : 512 ≤ r)

include hq hk hL hn in
theorem probP512_at (a : Fin 512) (b : Fin 512) :
    probP512 q k l (ix2 a b) = (P Q K L h (row r hr a) (row 0 le_512 b) : EReal) := by
  pointwise [probP512]
  simp only [hq, hk, hL, named_sl, ← EReal.coe_mul, coe_sum, ← EReal.coe_sub, Ideal.exp2_coe]
  rw [P, if_pos (show row 0 le_512 b ≤ row r hr a from by show 0 + b.val ≤ r + a.val; omega)]
  rfl

include hw hq hk hv hd ho hL hn in
theorem gradP512_at (a : Fin 512) (b : Fin 512) :
    gradP512 w q k v d o l (ix2 a b) = (dS Q K V D O L h (row r hr a) (row 0 le_512 b) : EReal) := by
  pointwise [gradP512]
  simp only [probP512_at (Q := Q) (K := K) (L := L) (h := h) (r := r) (hr := hr) hq hk hL hn,
    dots_at (D := D) (O := O) (h := h) (r := r) (hr := hr) hw hd ho, own_at (D := D) (h := h) (r := r) (hr := hr) hw hd, hv, named_sc,
    ← EReal.coe_mul, coe_sum, ← EReal.coe_sub, dS]

include hw hq hk hv hd ho hL hn in
theorem tkP512_at (e : Fin 128) (b : Fin 512) :
    tkP512 w q k v d o l (ix2 e b) = (ck Q K V D O L h r hr e (row 0 le_512 b) : EReal) := by
  pointwise [tkP512]
  simp only [gradP512_at (Q := Q) (K := K) (V := V) (D := D) (O := O) (L := L) (h := h) (r := r) (hr := hr) hw hq hk hv hd ho hL hn, hq,
    ← EReal.coe_mul, coe_sum, ck]

include hw hq hk hd hL hn in
theorem tvP512_at (e : Fin 128) (b : Fin 512) :
    tvP512 w q k d l (ix2 e b) = (cv Q K D L h r hr e (row 0 le_512 b) : EReal) := by
  pointwise [tvP512]
  simp only [probP512_at (Q := Q) (K := K) (L := L) (h := h) (r := r) (hr := hr) hq hk hL hn,
    own_at (D := D) (h := h) (r := r) (hr := hr) hw hd, ← EReal.coe_mul, coe_sum, cv]

include hw hq hk hv hd ho hL hn in
theorem tqP512_at (a : Fin 512) (e : Fin 128) :
    tqP512 w q k v d o l (ix2 a e) = (cq Q K V D O L h 0 512 le_512 (row r hr a) e : EReal) := by
  pointwise [tqP512]
  simp only [gradP512_at (Q := Q) (K := K) (V := V) (D := D) (O := O) (L := L) (h := h) (r := r) (hr := hr) hw hq hk hv hd ho hL hn, hk,
    ← EReal.coe_mul, coe_sum, cq]

include hw hq hk hv hd ho hL hn in
/-- The keys' gradient stored, and added to what was there. -/
theorem skP512 (e : Fin 128) (b : Fin 512) :
    shapeCast S128x512 (tkP512 w q k v d o l) shapeCasts_S128x512_S128x512 (ix2 e b)
      = (ck Q K V D O L h r hr e (row 0 le_512 b) : EReal) := by
  pointwise []
  exact tkP512_at hw hq hk hv hd ho hL hn e b

include hw hq hk hv hd ho hL hn in
theorem akP512 (x : Vec Ideal S128x512 .f32) (e : Fin 128) (b : Fin 512) :
    shapeCast S128x512 (addf (F := Ideal) (φ := .f32) x (tkP512 w q k v d o l)) shapeCasts_S128x512_S128x512 (ix2 e b)
      = x (ix2 e b) + (ck Q K V D O L h r hr e (row 0 le_512 b) : EReal) := by
  pointwise []
  rw [tkP512_at hw hq hk hv hd ho hL hn e b]

include hw hq hk hd hL hn in
/-- The values' gradient stored, and added to what was there. -/
theorem svP512 (e : Fin 128) (b : Fin 512) :
    shapeCast S128x512 (tvP512 w q k d l) shapeCasts_S128x512_S128x512 (ix2 e b)
      = (cv Q K D L h r hr e (row 0 le_512 b) : EReal) := by
  pointwise []
  exact tvP512_at hw hq hk hd hL hn e b

include hw hq hk hd hL hn in
theorem avP512 (x : Vec Ideal S128x512 .f32) (e : Fin 128) (b : Fin 512) :
    shapeCast S128x512 (addf (F := Ideal) (φ := .f32) x (tvP512 w q k d l)) shapeCasts_S128x512_S128x512 (ix2 e b)
      = x (ix2 e b) + (cv Q K D L h r hr e (row 0 le_512 b) : EReal) := by
  pointwise []
  rw [tvP512_at hw hq hk hd hL hn e b]

end TileP512

/-! ## The tile of the first 1024 keys -/

/-- The probabilities of a tile. -/
def probP1024 (q : Vec Ideal S512x128 .bf16) (k : Vec Ideal S1024x128 .bf16) (l : Vec Ideal S512x1 .f32) : FVec Ideal S512x1024 .f32 :=
  exp2 (subf (mulf (matmul (F := Ideal) (φ₁ := .bf16) (φ₂ := .bf16) dot_S512x128_S1024x128_S512x1024_1_1_0_0_n_n none (shapeCast S512x128 q shapeCasts_S512x128_S512x128)
    (shapeCast S1024x128 k shapeCasts_S1024x128_S1024x128) (constant S512x1024 .f32 0x00000000#32))
    (broadcast S512x1024 (Named.named (F := Ideal) (φ := .f32) κ "scale_log2" 0x3E16C740#32)))
    (broadcastTo S512x1024 (shapeCast S512x1 l shapeCasts_S512x1_S512x1) broadcasts_S512x1_S512x1024))

/-- The scores' cotangent of a tile. -/
def gradP1024 (w : IVec S512x128 1) (q : Vec Ideal S512x128 .bf16) (k v : Vec Ideal S1024x128 .bf16) (d o : Vec Ideal S512x128 .f32)
    (l : Vec Ideal S512x1 .f32) : FVec Ideal S512x1024 .bf16 :=
  truncf .bf16 (mulf (mulf (probP1024 q k l) (subf (matmul (F := Ideal) (φ₁ := .bf16) (φ₂ := .bf16) dot_S512x128_S1024x128_S512x1024_1_1_0_0_n_n none (truncf .bf16 (own w d) bitsLt_bf16_f32)
    (shapeCast S1024x128 v shapeCasts_S1024x128_S1024x128) (constant S512x1024 .f32 0x00000000#32))
    (broadcastTo S512x1024 (dots w d o) broadcasts_S512x1_S512x1024)))
    (broadcast S512x1024 (Named.named (F := Ideal) (φ := .f32) κ "scale" 0x3DD105EC#32))) bitsLt_bf16_f32

/-- What a tile adds to the keys' gradient, transposed. -/
def tkP1024 (w : IVec S512x128 1) (q : Vec Ideal S512x128 .bf16) (k v : Vec Ideal S1024x128 .bf16) (d o : Vec Ideal S512x128 .f32)
    (l : Vec Ideal S512x1 .f32) : FVec Ideal S128x1024 .f32 :=
  matmul (F := Ideal) (φ₁ := .bf16) (φ₂ := .bf16) dot_S512x128_S512x1024_S128x1024_0_0_1_1_n_n none (shapeCast S512x128 q shapeCasts_S512x128_S512x128) (gradP1024 w q k v d o l)
    (constant S128x1024 .f32 0x00000000#32)

/-- What a tile adds to the values' gradient, transposed. -/
def tvP1024 (w : IVec S512x128 1) (q : Vec Ideal S512x128 .bf16) (k : Vec Ideal S1024x128 .bf16) (d : Vec Ideal S512x128 .f32)
    (l : Vec Ideal S512x1 .f32) : FVec Ideal S128x1024 .f32 :=
  matmul (F := Ideal) (φ₁ := .bf16) (φ₂ := .bf16) dot_S512x128_S512x1024_S128x1024_0_0_1_1_n_n none (truncf .bf16 (own w d) bitsLt_bf16_f32)
    (truncf .bf16 (probP1024 q k l) bitsLt_bf16_f32) (constant S128x1024 .f32 0x00000000#32)

/-- What a tile adds to the queries' gradient. -/
def tqP1024 (w : IVec S512x128 1) (q : Vec Ideal S512x128 .bf16) (k v : Vec Ideal S1024x128 .bf16) (d o : Vec Ideal S512x128 .f32)
    (l : Vec Ideal S512x1 .f32) : FVec Ideal S512x128 .f32 :=
  matmul (F := Ideal) (φ₁ := .bf16) (φ₂ := .bf16) dot_S512x1024_S1024x128_S512x128_1_0_0_1_n_n none (gradP1024 w q k v d o l) (shapeCast S1024x128 k shapeCasts_S1024x128_S1024x128)
    (constant S512x128 .f32 0x00000000#32)

section TileP1024

variable {w : IVec S512x128 1} {q : Vec Ideal S512x128 .bf16} {k v : Vec Ideal S1024x128 .bf16} {d o : Vec Ideal S512x128 .f32} {l : Vec Ideal S512x1 .f32}
  {Q K : S2048x256.Idx → ℝ} {V D O L : S2048x128.Idx → ℝ} {h : Fin 2} {r : ℕ} {hr : r + 512 ≤ 2048}
  (hw : ∀ a e, w (ix2 a e) = BitVec.ofBool (decide (e.val / 64 = h.val)))
  (hq : ∀ (a : Fin 512) (e : Fin 128), q (ix2 a e) = (Q (ix2 (row r hr a) (hl h e)) : EReal))
  (hk : ∀ (b : Fin 1024) (e : Fin 128), k (ix2 b e) = (K (ix2 (row 0 le_1024 b) (hl h e)) : EReal))
  (hv : ∀ (b : Fin 1024) (e : Fin 128), v (ix2 b e) = (V (ix2 (row 0 le_1024 b) e) : EReal))
  (hd : ∀ (a : Fin 512) (e : Fin 128), d (ix2 a e) = (D (ix2 (row r hr a) e) : EReal))
  (ho : ∀ (a : Fin 512) (e : Fin 128), o (ix2 a e) = (O (ix2 (row r hr a) e) : EReal))
  (hL : ∀ (a : Fin 512) (u : Fin 1), l (ix2 a u) = (L (ix2 (row r hr a) (lc h)) : EReal))
  (hn : 1024 ≤ r)

include hq hk hL hn in
theorem probP1024_at (a : Fin 512) (b : Fin 1024) :
    probP1024 q k l (ix2 a b) = (P Q K L h (row r hr a) (row 0 le_1024 b) : EReal) := by
  pointwise [probP1024]
  simp only [hq, hk, hL, named_sl, ← EReal.coe_mul, coe_sum, ← EReal.coe_sub, Ideal.exp2_coe]
  rw [P, if_pos (show row 0 le_1024 b ≤ row r hr a from by show 0 + b.val ≤ r + a.val; omega)]
  rfl

include hw hq hk hv hd ho hL hn in
theorem gradP1024_at (a : Fin 512) (b : Fin 1024) :
    gradP1024 w q k v d o l (ix2 a b) = (dS Q K V D O L h (row r hr a) (row 0 le_1024 b) : EReal) := by
  pointwise [gradP1024]
  simp only [probP1024_at (Q := Q) (K := K) (L := L) (h := h) (r := r) (hr := hr) hq hk hL hn,
    dots_at (D := D) (O := O) (h := h) (r := r) (hr := hr) hw hd ho, own_at (D := D) (h := h) (r := r) (hr := hr) hw hd, hv, named_sc,
    ← EReal.coe_mul, coe_sum, ← EReal.coe_sub, dS]

include hw hq hk hv hd ho hL hn in
theorem tkP1024_at (e : Fin 128) (b : Fin 1024) :
    tkP1024 w q k v d o l (ix2 e b) = (ck Q K V D O L h r hr e (row 0 le_1024 b) : EReal) := by
  pointwise [tkP1024]
  simp only [gradP1024_at (Q := Q) (K := K) (V := V) (D := D) (O := O) (L := L) (h := h) (r := r) (hr := hr) hw hq hk hv hd ho hL hn, hq,
    ← EReal.coe_mul, coe_sum, ck]

include hw hq hk hd hL hn in
theorem tvP1024_at (e : Fin 128) (b : Fin 1024) :
    tvP1024 w q k d l (ix2 e b) = (cv Q K D L h r hr e (row 0 le_1024 b) : EReal) := by
  pointwise [tvP1024]
  simp only [probP1024_at (Q := Q) (K := K) (L := L) (h := h) (r := r) (hr := hr) hq hk hL hn,
    own_at (D := D) (h := h) (r := r) (hr := hr) hw hd, ← EReal.coe_mul, coe_sum, cv]

include hw hq hk hv hd ho hL hn in
theorem tqP1024_at (a : Fin 512) (e : Fin 128) :
    tqP1024 w q k v d o l (ix2 a e) = (cq Q K V D O L h 0 1024 le_1024 (row r hr a) e : EReal) := by
  pointwise [tqP1024]
  simp only [gradP1024_at (Q := Q) (K := K) (V := V) (D := D) (O := O) (L := L) (h := h) (r := r) (hr := hr) hw hq hk hv hd ho hL hn, hk,
    ← EReal.coe_mul, coe_sum, cq]

include hw hq hk hv hd ho hL hn in
/-- The keys' gradient stored, and added to what was there. -/
theorem skP1024 (e : Fin 128) (b : Fin 1024) :
    shapeCast S128x1024 (tkP1024 w q k v d o l) shapeCasts_S128x1024_S128x1024 (ix2 e b)
      = (ck Q K V D O L h r hr e (row 0 le_1024 b) : EReal) := by
  pointwise []
  exact tkP1024_at hw hq hk hv hd ho hL hn e b

include hw hq hk hv hd ho hL hn in
theorem akP1024 (x : Vec Ideal S128x1024 .f32) (e : Fin 128) (b : Fin 1024) :
    shapeCast S128x1024 (addf (F := Ideal) (φ := .f32) x (tkP1024 w q k v d o l)) shapeCasts_S128x1024_S128x1024 (ix2 e b)
      = x (ix2 e b) + (ck Q K V D O L h r hr e (row 0 le_1024 b) : EReal) := by
  pointwise []
  rw [tkP1024_at hw hq hk hv hd ho hL hn e b]

include hw hq hk hd hL hn in
/-- The values' gradient stored, and added to what was there. -/
theorem svP1024 (e : Fin 128) (b : Fin 1024) :
    shapeCast S128x1024 (tvP1024 w q k d l) shapeCasts_S128x1024_S128x1024 (ix2 e b)
      = (cv Q K D L h r hr e (row 0 le_1024 b) : EReal) := by
  pointwise []
  exact tvP1024_at hw hq hk hd hL hn e b

include hw hq hk hd hL hn in
theorem avP1024 (x : Vec Ideal S128x1024 .f32) (e : Fin 128) (b : Fin 1024) :
    shapeCast S128x1024 (addf (F := Ideal) (φ := .f32) x (tvP1024 w q k d l)) shapeCasts_S128x1024_S128x1024 (ix2 e b)
      = x (ix2 e b) + (cv Q K D L h r hr e (row 0 le_1024 b) : EReal) := by
  pointwise []
  rw [tvP1024_at hw hq hk hd hL hn e b]

end TileP1024

/-! ## The tile of the first 1536 keys -/

/-- The probabilities of a tile. -/
def probP1536 (q : Vec Ideal S512x128 .bf16) (k : Vec Ideal S1536x128 .bf16) (l : Vec Ideal S512x1 .f32) : FVec Ideal S512x1536 .f32 :=
  exp2 (subf (mulf (matmul (F := Ideal) (φ₁ := .bf16) (φ₂ := .bf16) dot_S512x128_S1536x128_S512x1536_1_1_0_0_n_n none (shapeCast S512x128 q shapeCasts_S512x128_S512x128)
    (shapeCast S1536x128 k shapeCasts_S1536x128_S1536x128) (constant S512x1536 .f32 0x00000000#32))
    (broadcast S512x1536 (Named.named (F := Ideal) (φ := .f32) κ "scale_log2" 0x3E16C740#32)))
    (broadcastTo S512x1536 (shapeCast S512x1 l shapeCasts_S512x1_S512x1) broadcasts_S512x1_S512x1536))

/-- The scores' cotangent of a tile. -/
def gradP1536 (w : IVec S512x128 1) (q : Vec Ideal S512x128 .bf16) (k v : Vec Ideal S1536x128 .bf16) (d o : Vec Ideal S512x128 .f32)
    (l : Vec Ideal S512x1 .f32) : FVec Ideal S512x1536 .bf16 :=
  truncf .bf16 (mulf (mulf (probP1536 q k l) (subf (matmul (F := Ideal) (φ₁ := .bf16) (φ₂ := .bf16) dot_S512x128_S1536x128_S512x1536_1_1_0_0_n_n none (truncf .bf16 (own w d) bitsLt_bf16_f32)
    (shapeCast S1536x128 v shapeCasts_S1536x128_S1536x128) (constant S512x1536 .f32 0x00000000#32))
    (broadcastTo S512x1536 (dots w d o) broadcasts_S512x1_S512x1536)))
    (broadcast S512x1536 (Named.named (F := Ideal) (φ := .f32) κ "scale" 0x3DD105EC#32))) bitsLt_bf16_f32

/-- What a tile adds to the keys' gradient, transposed. -/
def tkP1536 (w : IVec S512x128 1) (q : Vec Ideal S512x128 .bf16) (k v : Vec Ideal S1536x128 .bf16) (d o : Vec Ideal S512x128 .f32)
    (l : Vec Ideal S512x1 .f32) : FVec Ideal S128x1536 .f32 :=
  matmul (F := Ideal) (φ₁ := .bf16) (φ₂ := .bf16) dot_S512x128_S512x1536_S128x1536_0_0_1_1_n_n none (shapeCast S512x128 q shapeCasts_S512x128_S512x128) (gradP1536 w q k v d o l)
    (constant S128x1536 .f32 0x00000000#32)

/-- What a tile adds to the values' gradient, transposed. -/
def tvP1536 (w : IVec S512x128 1) (q : Vec Ideal S512x128 .bf16) (k : Vec Ideal S1536x128 .bf16) (d : Vec Ideal S512x128 .f32)
    (l : Vec Ideal S512x1 .f32) : FVec Ideal S128x1536 .f32 :=
  matmul (F := Ideal) (φ₁ := .bf16) (φ₂ := .bf16) dot_S512x128_S512x1536_S128x1536_0_0_1_1_n_n none (truncf .bf16 (own w d) bitsLt_bf16_f32)
    (truncf .bf16 (probP1536 q k l) bitsLt_bf16_f32) (constant S128x1536 .f32 0x00000000#32)

/-- What a tile adds to the queries' gradient. -/
def tqP1536 (w : IVec S512x128 1) (q : Vec Ideal S512x128 .bf16) (k v : Vec Ideal S1536x128 .bf16) (d o : Vec Ideal S512x128 .f32)
    (l : Vec Ideal S512x1 .f32) : FVec Ideal S512x128 .f32 :=
  matmul (F := Ideal) (φ₁ := .bf16) (φ₂ := .bf16) dot_S512x1536_S1536x128_S512x128_1_0_0_1_n_n none (gradP1536 w q k v d o l) (shapeCast S1536x128 k shapeCasts_S1536x128_S1536x128)
    (constant S512x128 .f32 0x00000000#32)

section TileP1536

variable {w : IVec S512x128 1} {q : Vec Ideal S512x128 .bf16} {k v : Vec Ideal S1536x128 .bf16} {d o : Vec Ideal S512x128 .f32} {l : Vec Ideal S512x1 .f32}
  {Q K : S2048x256.Idx → ℝ} {V D O L : S2048x128.Idx → ℝ} {h : Fin 2} {r : ℕ} {hr : r + 512 ≤ 2048}
  (hw : ∀ a e, w (ix2 a e) = BitVec.ofBool (decide (e.val / 64 = h.val)))
  (hq : ∀ (a : Fin 512) (e : Fin 128), q (ix2 a e) = (Q (ix2 (row r hr a) (hl h e)) : EReal))
  (hk : ∀ (b : Fin 1536) (e : Fin 128), k (ix2 b e) = (K (ix2 (row 0 le_1536 b) (hl h e)) : EReal))
  (hv : ∀ (b : Fin 1536) (e : Fin 128), v (ix2 b e) = (V (ix2 (row 0 le_1536 b) e) : EReal))
  (hd : ∀ (a : Fin 512) (e : Fin 128), d (ix2 a e) = (D (ix2 (row r hr a) e) : EReal))
  (ho : ∀ (a : Fin 512) (e : Fin 128), o (ix2 a e) = (O (ix2 (row r hr a) e) : EReal))
  (hL : ∀ (a : Fin 512) (u : Fin 1), l (ix2 a u) = (L (ix2 (row r hr a) (lc h)) : EReal))
  (hn : 1536 ≤ r)

include hq hk hL hn in
theorem probP1536_at (a : Fin 512) (b : Fin 1536) :
    probP1536 q k l (ix2 a b) = (P Q K L h (row r hr a) (row 0 le_1536 b) : EReal) := by
  pointwise [probP1536]
  simp only [hq, hk, hL, named_sl, ← EReal.coe_mul, coe_sum, ← EReal.coe_sub, Ideal.exp2_coe]
  rw [P, if_pos (show row 0 le_1536 b ≤ row r hr a from by show 0 + b.val ≤ r + a.val; omega)]
  rfl

include hw hq hk hv hd ho hL hn in
theorem gradP1536_at (a : Fin 512) (b : Fin 1536) :
    gradP1536 w q k v d o l (ix2 a b) = (dS Q K V D O L h (row r hr a) (row 0 le_1536 b) : EReal) := by
  pointwise [gradP1536]
  simp only [probP1536_at (Q := Q) (K := K) (L := L) (h := h) (r := r) (hr := hr) hq hk hL hn,
    dots_at (D := D) (O := O) (h := h) (r := r) (hr := hr) hw hd ho, own_at (D := D) (h := h) (r := r) (hr := hr) hw hd, hv, named_sc,
    ← EReal.coe_mul, coe_sum, ← EReal.coe_sub, dS]

include hw hq hk hv hd ho hL hn in
theorem tkP1536_at (e : Fin 128) (b : Fin 1536) :
    tkP1536 w q k v d o l (ix2 e b) = (ck Q K V D O L h r hr e (row 0 le_1536 b) : EReal) := by
  pointwise [tkP1536]
  simp only [gradP1536_at (Q := Q) (K := K) (V := V) (D := D) (O := O) (L := L) (h := h) (r := r) (hr := hr) hw hq hk hv hd ho hL hn, hq,
    ← EReal.coe_mul, coe_sum, ck]

include hw hq hk hd hL hn in
theorem tvP1536_at (e : Fin 128) (b : Fin 1536) :
    tvP1536 w q k d l (ix2 e b) = (cv Q K D L h r hr e (row 0 le_1536 b) : EReal) := by
  pointwise [tvP1536]
  simp only [probP1536_at (Q := Q) (K := K) (L := L) (h := h) (r := r) (hr := hr) hq hk hL hn,
    own_at (D := D) (h := h) (r := r) (hr := hr) hw hd, ← EReal.coe_mul, coe_sum, cv]

include hw hq hk hv hd ho hL hn in
theorem tqP1536_at (a : Fin 512) (e : Fin 128) :
    tqP1536 w q k v d o l (ix2 a e) = (cq Q K V D O L h 0 1536 le_1536 (row r hr a) e : EReal) := by
  pointwise [tqP1536]
  simp only [gradP1536_at (Q := Q) (K := K) (V := V) (D := D) (O := O) (L := L) (h := h) (r := r) (hr := hr) hw hq hk hv hd ho hL hn, hk,
    ← EReal.coe_mul, coe_sum, cq]

include hw hq hk hv hd ho hL hn in
/-- The keys' gradient stored, and added to what was there. -/
theorem skP1536 (e : Fin 128) (b : Fin 1536) :
    shapeCast S128x1536 (tkP1536 w q k v d o l) shapeCasts_S128x1536_S128x1536 (ix2 e b)
      = (ck Q K V D O L h r hr e (row 0 le_1536 b) : EReal) := by
  pointwise []
  exact tkP1536_at hw hq hk hv hd ho hL hn e b

include hw hq hk hv hd ho hL hn in
theorem akP1536 (x : Vec Ideal S128x1536 .f32) (e : Fin 128) (b : Fin 1536) :
    shapeCast S128x1536 (addf (F := Ideal) (φ := .f32) x (tkP1536 w q k v d o l)) shapeCasts_S128x1536_S128x1536 (ix2 e b)
      = x (ix2 e b) + (ck Q K V D O L h r hr e (row 0 le_1536 b) : EReal) := by
  pointwise []
  rw [tkP1536_at hw hq hk hv hd ho hL hn e b]

include hw hq hk hd hL hn in
/-- The values' gradient stored, and added to what was there. -/
theorem svP1536 (e : Fin 128) (b : Fin 1536) :
    shapeCast S128x1536 (tvP1536 w q k d l) shapeCasts_S128x1536_S128x1536 (ix2 e b)
      = (cv Q K D L h r hr e (row 0 le_1536 b) : EReal) := by
  pointwise []
  exact tvP1536_at hw hq hk hd hL hn e b

include hw hq hk hd hL hn in
theorem avP1536 (x : Vec Ideal S128x1536 .f32) (e : Fin 128) (b : Fin 1536) :
    shapeCast S128x1536 (addf (F := Ideal) (φ := .f32) x (tvP1536 w q k d l)) shapeCasts_S128x1536_S128x1536 (ix2 e b)
      = x (ix2 e b) + (cv Q K D L h r hr e (row 0 le_1536 b) : EReal) := by
  pointwise []
  rw [tvP1536_at hw hq hk hd hL hn e b]

end TileP1536

end Cert.MlaBwdIdeal.Value

end
-- ==== Proof.MlaBwdRounds.lean ====
module

public import proofs.«01_k».proof.Proof.MlaBwdTiles
public import Idealize.ShloMosaic.Lib.Pipeline.ReadBack

@[expose] public section

set_option maxRecDepth 16384

noncomputable section

/-! # The accumulators of `mla_bwd`

Each half walks the tiles of queries from the last to the first. A tile's two stores, at the keys of its own rows and at all
earlier keys, together add a term that is zero at later keys. -/

namespace Cert.MlaBwdIdeal.Value

open Idealize.ShloMosaic Idealize.ShloMosaic.TcCoe Idealize.SL.Sem
open Cert.MlaBwdIdeal Cert.MlaBwdIdeal.Gen
open Cert.Proof Cert.Proof.Reals

/-- A load of a box of a whole buffer. -/
theorem load {κ : Kind} {sp : Space} {s : Shape} {e : EltTy} {M : Memref sig κ sp s e} (hM : M.IsWhole) (x : s.Idx → Elt Ideal e) (B : LoadRect s)
    {j : B.shape.Idx} {y : s.Idx} (h : B.idx j = y) : View.readAt (Elt Ideal) M.view B (hM.unread x) j = x y := by
  rw [Memref.IsWhole.readAt_unread, h]

/-- An accumulator's stores. -/
abbrev Stores := List (View.Piece (Elt Ideal) S128x2048 .f32)

section N512

variable {c : ℕ} {hc : c + 512 ≤ 2048} {inb : ∀ a, (![0, c] : Fin 2 → ℕ) a + S128x512.size a ≤ S128x2048.size a}

theorem box512 (d : Fin 128) (b : Fin 512) :
    (Rect.unit (s := S128x2048) ![0, c] S128x512.size inb).emb (ix2 d b : S128x512.Idx) = ix2 d (row c hc b) := by
  blk_ext [row]

theorem in512 {w : S128x512.Idx → EReal} {L : Stores} (d : Fin 128) (b : Fin 512) :
    View.canon (Val := Elt Ideal) ((⟨Rect.unit (s := S128x2048) ![0, c] S128x512.size inb, w⟩ : View.Piece (Elt Ideal) S128x2048 .f32) :: L) (ix2 d (row c hc b)) = w (ix2 d b) := by
  rw [← box512 (inb := inb)]
  exact View.canon_cons_emb _ _ _ _

theorem off512 {w : S128x512.Idx → EReal} {L : Stores} (d : Fin 128) (j : Fin 2048) (h : j.val < c ∨ c + 512 ≤ j.val) :
    View.canon (Val := Elt Ideal) ((⟨Rect.unit (s := S128x2048) ![0, c] S128x512.size inb, w⟩ : View.Piece (Elt Ideal) S128x2048 .f32) :: L) (ix2 d j) = View.canon L (ix2 d j) := by
  exact View.canon_cons_of_not_mem _ _
    (Rect.not_mem_set_of_axis (Rect.unit (s := S128x2048) ![0, c] S128x512.size inb) _ 1 c 512 rfl rfl rfl h)

theorem at512 {κ : Kind} {sp : Space} (v : View sig κ sp S128x2048 .f32) {L : Stores} (d : Fin 128) (b : Fin 512) :
    v.readCov L (Rect.unit (s := S128x2048) ![0, c] S128x512.size inb).toLoadRect (ix2 d b : S128x512.Idx) = View.canon L (ix2 d (row c hc b)) := by
  rw [View.readCov_eq_canon', ← box512 (inb := inb)]
  rfl

end N512

section N1024

variable {c : ℕ} {hc : c + 1024 ≤ 2048} {inb : ∀ a, (![0, c] : Fin 2 → ℕ) a + S128x1024.size a ≤ S128x2048.size a}

theorem box1024 (d : Fin 128) (b : Fin 1024) :
    (Rect.unit (s := S128x2048) ![0, c] S128x1024.size inb).emb (ix2 d b : S128x1024.Idx) = ix2 d (row c hc b) := by
  blk_ext [row]

theorem in1024 {w : S128x1024.Idx → EReal} {L : Stores} (d : Fin 128) (b : Fin 1024) :
    View.canon (Val := Elt Ideal) ((⟨Rect.unit (s := S128x2048) ![0, c] S128x1024.size inb, w⟩ : View.Piece (Elt Ideal) S128x2048 .f32) :: L) (ix2 d (row c hc b)) = w (ix2 d b) := by
  rw [← box1024 (inb := inb)]
  exact View.canon_cons_emb _ _ _ _

theorem off1024 {w : S128x1024.Idx → EReal} {L : Stores} (d : Fin 128) (j : Fin 2048) (h : j.val < c ∨ c + 1024 ≤ j.val) :
    View.canon (Val := Elt Ideal) ((⟨Rect.unit (s := S128x2048) ![0, c] S128x1024.size inb, w⟩ : View.Piece (Elt Ideal) S128x2048 .f32) :: L) (ix2 d j) = View.canon L (ix2 d j) := by
  exact View.canon_cons_of_not_mem _ _
    (Rect.not_mem_set_of_axis (Rect.unit (s := S128x2048) ![0, c] S128x1024.size inb) _ 1 c 1024 rfl rfl rfl h)

theorem at1024 {κ : Kind} {sp : Space} (v : View sig κ sp S128x2048 .f32) {L : Stores} (d : Fin 128) (b : Fin 1024) :
    v.readCov L (Rect.unit (s := S128x2048) ![0, c] S128x1024.size inb).toLoadRect (ix2 d b : S128x1024.Idx) = View.canon L (ix2 d (row c hc b)) := by
  rw [View.readCov_eq_canon', ← box1024 (inb := inb)]
  rfl

end N1024

section N1536

variable {c : ℕ} {hc : c + 1536 ≤ 2048} {inb : ∀ a, (![0, c] : Fin 2 → ℕ) a + S128x1536.size a ≤ S128x2048.size a}

theorem box1536 (d : Fin 128) (b : Fin 1536) :
    (Rect.unit (s := S128x2048) ![0, c] S128x1536.size inb).emb (ix2 d b : S128x1536.Idx) = ix2 d (row c hc b) := by
  blk_ext [row]

theorem in1536 {w : S128x1536.Idx → EReal} {L : Stores} (d : Fin 128) (b : Fin 1536) :
    View.canon (Val := Elt Ideal) ((⟨Rect.unit (s := S128x2048) ![0, c] S128x1536.size inb, w⟩ : View.Piece (Elt Ideal) S128x2048 .f32) :: L) (ix2 d (row c hc b)) = w (ix2 d b) := by
  rw [← box1536 (inb := inb)]
  exact View.canon_cons_emb _ _ _ _

theorem off1536 {w : S128x1536.Idx → EReal} {L : Stores} (d : Fin 128) (j : Fin 2048) (h : j.val < c ∨ c + 1536 ≤ j.val) :
    View.canon (Val := Elt Ideal) ((⟨Rect.unit (s := S128x2048) ![0, c] S128x1536.size inb, w⟩ : View.Piece (Elt Ideal) S128x2048 .f32) :: L) (ix2 d j) = View.canon L (ix2 d j) := by
  exact View.canon_cons_of_not_mem _ _
    (Rect.not_mem_set_of_axis (Rect.unit (s := S128x2048) ![0, c] S128x1536.size inb) _ 1 c 1536 rfl rfl rfl h)

theorem at1536 {κ : Kind} {sp : Space} (v : View sig κ sp S128x2048 .f32) {L : Stores} (d : Fin 128) (b : Fin 1536) :
    v.readCov L (Rect.unit (s := S128x2048) ![0, c] S128x1536.size inb).toLoadRect (ix2 d b : S128x1536.Idx) = View.canon L (ix2 d (row c hc b)) := by
  rw [View.readCov_eq_canon', ← box1536 (inb := inb)]
  rfl

end N1536

/-- The tile of queries from 512 on. -/
theorem round512 {κ : Kind} {sp : Space} (v : View sig κ sp S128x2048 .f32) {L : Stores} {G T : Fin 128 → Fin 2048 → ℝ}
    {wD : S128x512.Idx → EReal} {wP : S128x512.Idx → EReal}
    {iD : ∀ a, (![0, 512] : Fin 2 → ℕ) a + S128x512.size a ≤ S128x2048.size a} {iP : ∀ a, (![0, 0] : Fin 2 → ℕ) a + S128x512.size a ≤ S128x2048.size a}
    (hL : ∀ d j, View.canon L (ix2 d j) = (G d j : EReal))
    (hD : ∀ d b, wD (ix2 d b) = v.readCov L (Rect.unit (s := S128x2048) ![0, 512] S128x512.size iD).toLoadRect (ix2 d b : S128x512.Idx)
      + (T d (row 512 at_512 b) : EReal))
    (hP : ∀ d b, wP (ix2 d b) = v.readCov ((⟨Rect.unit (s := S128x2048) ![0, 512] S128x512.size iD, wD⟩ : View.Piece (Elt Ideal) S128x2048 .f32) :: L)
      (Rect.unit (s := S128x2048) ![0, 0] S128x512.size iP).toLoadRect (ix2 d b : S128x512.Idx) + (T d (row 0 le_512 b) : EReal))
    (hT : ∀ d (j : Fin 2048), 512 + 512 ≤ j.val → T d j = 0) (d : Fin 128) (j : Fin 2048) :
    View.canon ((⟨Rect.unit (s := S128x2048) ![0, 0] S128x512.size iP, wP⟩ : View.Piece (Elt Ideal) S128x2048 .f32)
      :: (⟨Rect.unit (s := S128x2048) ![0, 512] S128x512.size iD, wD⟩ : View.Piece (Elt Ideal) S128x2048 .f32) :: L) (ix2 d j) = ((G d j + T d j : ℝ) : EReal) := by
  by_cases h1 : j.val < 512
  · have hj : j = row 0 le_512 (⟨j.val, h1⟩ : Fin 512) := Fin.ext (Nat.zero_add _).symm
    rw [hj, in512, hP, at512 (hc := by decide), off512 (c := 512) d _ (Or.inl (by rw [← hj]; exact h1)), hL, EReal.coe_add]
  · rw [off512 d j (Or.inr (by omega))]
    by_cases h2 : j.val < 512 + 512
    · have hj : j = row 512 at_512 (⟨j.val - 512, by omega⟩ : Fin 512) := Fin.ext (by show j.val = 512 + (j.val - 512); omega)
      rw [hj, in512, hD, at512 (hc := by decide), hL, EReal.coe_add]
    · rw [off512 d j (Or.inr (by omega)), hL, hT d j (by omega), add_zero]

/-- The tile of queries from 1024 on. -/
theorem round1024 {κ : Kind} {sp : Space} (v : View sig κ sp S128x2048 .f32) {L : Stores} {G T : Fin 128 → Fin 2048 → ℝ}
    {wD : S128x512.Idx → EReal} {wP : S128x1024.Idx → EReal}
    {iD : ∀ a, (![0, 1024] : Fin 2 → ℕ) a + S128x512.size a ≤ S128x2048.size a} {iP : ∀ a, (![0, 0] : Fin 2 → ℕ) a + S128x1024.size a ≤ S128x2048.size a}
    (hL : ∀ d j, View.canon L (ix2 d j) = (G d j : EReal))
    (hD : ∀ d b, wD (ix2 d b) = v.readCov L (Rect.unit (s := S128x2048) ![0, 1024] S128x512.size iD).toLoadRect (ix2 d b : S128x512.Idx)
      + (T d (row 1024 at_1024 b) : EReal))
    (hP : ∀ d b, wP (ix2 d b) = v.readCov ((⟨Rect.unit (s := S128x2048) ![0, 1024] S128x512.size iD, wD⟩ : View.Piece (Elt Ideal) S128x2048 .f32) :: L)
      (Rect.unit (s := S128x2048) ![0, 0] S128x1024.size iP).toLoadRect (ix2 d b : S128x1024.Idx) + (T d (row 0 le_1024 b) : EReal))
    (hT : ∀ d (j : Fin 2048), 1024 + 512 ≤ j.val → T d j = 0) (d : Fin 128) (j : Fin 2048) :
    View.canon ((⟨Rect.unit (s := S128x2048) ![0, 0] S128x1024.size iP, wP⟩ : View.Piece (Elt Ideal) S128x2048 .f32)
      :: (⟨Rect.unit (s := S128x2048) ![0, 1024] S128x512.size iD, wD⟩ : View.Piece (Elt Ideal) S128x2048 .f32) :: L) (ix2 d j) = ((G d j + T d j : ℝ) : EReal) := by
  by_cases h1 : j.val < 1024
  · have hj : j = row 0 le_1024 (⟨j.val, h1⟩ : Fin 1024) := Fin.ext (Nat.zero_add _).symm
    rw [hj, in1024, hP, at1024 (hc := by decide), off512 (c := 1024) d _ (Or.inl (by rw [← hj]; exact h1)), hL, EReal.coe_add]
  · rw [off1024 d j (Or.inr (by omega))]
    by_cases h2 : j.val < 1024 + 512
    · have hj : j = row 1024 at_1024 (⟨j.val - 1024, by omega⟩ : Fin 512) := Fin.ext (by show j.val = 1024 + (j.val - 1024); omega)
      rw [hj, in512, hD, at512 (hc := by decide), hL, EReal.coe_add]
    · rw [off512 d j (Or.inr (by omega)), hL, hT d j (by omega), add_zero]

/-- The tile of queries from 1536 on. -/
theorem round1536 {κ : Kind} {sp : Space} (v : View sig κ sp S128x2048 .f32) {L : Stores} {G T : Fin 128 → Fin 2048 → ℝ}
    {wD : S128x512.Idx → EReal} {wP : S128x1536.Idx → EReal}
    {iD : ∀ a, (![0, 1536] : Fin 2 → ℕ) a + S128x512.size a ≤ S128x2048.size a} {iP : ∀ a, (![0, 0] : Fin 2 → ℕ) a + S128x1536.size a ≤ S128x2048.size a}
    (hL : ∀ d j, View.canon L (ix2 d j) = (G d j : EReal))
    (hD : ∀ d b, wD (ix2 d b) = v.readCov L (Rect.unit (s := S128x2048) ![0, 1536] S128x512.size iD).toLoadRect (ix2 d b : S128x512.Idx)
      + (T d (row 1536 at_1536 b) : EReal))
    (hP : ∀ d b, wP (ix2 d b) = v.readCov ((⟨Rect.unit (s := S128x2048) ![0, 1536] S128x512.size iD, wD⟩ : View.Piece (Elt Ideal) S128x2048 .f32) :: L)
      (Rect.unit (s := S128x2048) ![0, 0] S128x1536.size iP).toLoadRect (ix2 d b : S128x1536.Idx) + (T d (row 0 le_1536 b) : EReal))
    (hT : ∀ d (j : Fin 2048), 1536 + 512 ≤ j.val → T d j = 0) (d : Fin 128) (j : Fin 2048) :
    View.canon ((⟨Rect.unit (s := S128x2048) ![0, 0] S128x1536.size iP, wP⟩ : View.Piece (Elt Ideal) S128x2048 .f32)
      :: (⟨Rect.unit (s := S128x2048) ![0, 1536] S128x512.size iD, wD⟩ : View.Piece (Elt Ideal) S128x2048 .f32) :: L) (ix2 d j) = ((G d j + T d j : ℝ) : EReal) := by
  by_cases h1 : j.val < 1536
  · have hj : j = row 0 le_1536 (⟨j.val, h1⟩ : Fin 1536) := Fin.ext (Nat.zero_add _).symm
    rw [hj, in1536, hP, at1536 (hc := by decide), off512 (c := 1536) d _ (Or.inl (by rw [← hj]; exact h1)), hL, EReal.coe_add]
  · rw [off1536 d j (Or.inr (by omega))]
    by_cases h2 : j.val < 1536 + 512
    · have hj : j = row 1536 at_1536 (⟨j.val - 1536, by omega⟩ : Fin 512) := Fin.ext (by show j.val = 1536 + (j.val - 1536); omega)
      rw [hj, in512, hD, at512 (hc := by decide), hL, EReal.coe_add]
    · rw [off512 d j (Or.inr (by omega)), hL, hT d j (by omega), add_zero]

/-- The last tile of queries, alone at the keys of its own rows and all earlier ones: these are all keys. -/
theorem start {L : Stores} {T : Fin 128 → Fin 2048 → ℝ} {wD : S128x512.Idx → EReal} {wP : S128x1536.Idx → EReal}
    {iD : ∀ a, (![0, 1536] : Fin 2 → ℕ) a + S128x512.size a ≤ S128x2048.size a} {iP : ∀ a, (![0, 0] : Fin 2 → ℕ) a + S128x1536.size a ≤ S128x2048.size a}
    (hD : ∀ d b, wD (ix2 d b) = (T d (row 1536 at_1536 b) : EReal)) (hP : ∀ d b, wP (ix2 d b) = (T d (row 0 le_1536 b) : EReal))
    (d : Fin 128) (j : Fin 2048) :
    View.canon ((⟨Rect.unit (s := S128x2048) ![0, 0] S128x1536.size iP, wP⟩ : View.Piece (Elt Ideal) S128x2048 .f32)
      :: (⟨Rect.unit (s := S128x2048) ![0, 1536] S128x512.size iD, wD⟩ : View.Piece (Elt Ideal) S128x2048 .f32) :: L) (ix2 d j) = (T d j : EReal) := by
  by_cases h1 : j.val < 1536
  · have hj : j = row 0 le_1536 (⟨j.val, h1⟩ : Fin 1536) := Fin.ext (Nat.zero_add _).symm
    rw [hj, in1536, hP]
  · rw [off1536 d j (Or.inr (by omega))]
    have hj : j = row 1536 at_1536 (⟨j.val - 1536, by omega⟩ : Fin 512) := Fin.ext (by show j.val = 1536 + (j.val - 1536); omega)
    rw [hj, in512, hD]

/-- The first tile of queries has no earlier keys. -/
theorem last {κ : Kind} {sp : Space} (v : View sig κ sp S128x2048 .f32) {L : Stores} {G T : Fin 128 → Fin 2048 → ℝ} {wD : S128x512.Idx → EReal}
    {iD : ∀ a, (![0, 0] : Fin 2 → ℕ) a + S128x512.size a ≤ S128x2048.size a}
    (hL : ∀ d j, View.canon L (ix2 d j) = (G d j : EReal))
    (hD : ∀ d b, wD (ix2 d b) = v.readCov L (Rect.unit (s := S128x2048) ![0, 0] S128x512.size iD).toLoadRect (ix2 d b : S128x512.Idx)
      + (T d (row 0 le_512 b) : EReal))
    (hT : ∀ d (j : Fin 2048), 512 ≤ j.val → T d j = 0) (d : Fin 128) (j : Fin 2048) :
    View.canon ((⟨Rect.unit (s := S128x2048) ![0, 0] S128x512.size iD, wD⟩ : View.Piece (Elt Ideal) S128x2048 .f32) :: L) (ix2 d j) = ((G d j + T d j : ℝ) : EReal) := by
  by_cases h2 : j.val < 512
  · have hj : j = row 0 le_512 (⟨j.val, h2⟩ : Fin 512) := Fin.ext (Nat.zero_add _).symm
    rw [hj, in512, hD, at512 (hc := by decide), hL, EReal.coe_add]
  · rw [off512 d j (Or.inr (by omega)), hL, hT d j (by omega), add_zero]

/-! ## Terms that are zero, and sums by tiles -/

section Block

variable (Q K : S2048x256.Idx → ℝ) (V D O L : S2048x128.Idx → ℝ)

theorem P_zero {h : Fin 2} {i j : Fin 2048} (hj : i < j) : P Q K L h i j = 0 := if_neg (not_le.2 hj)

theorem dS_zero {h : Fin 2} {i j : Fin 2048} (hj : i < j) : dS Q K V D O L h i j = 0 := by
  rw [dS, P_zero Q K L hj, zero_mul, zero_mul]

theorem ck_zero {h : Fin 2} {r : ℕ} {hr : r + 512 ≤ 2048} (d : Fin 128) (j : Fin 2048) (hj : r + 512 ≤ j.val) :
    ck Q K V D O L h r hr d j = 0 :=
  Finset.sum_eq_zero fun a _ => by rw [dS_zero _ _ _ _ _ _ (Fin.lt_def.2 (by show r + a.val < j.val; omega)), mul_zero]

theorem cv_zero {h : Fin 2} {r : ℕ} {hr : r + 512 ≤ 2048} (d : Fin 128) (j : Fin 2048) (hj : r + 512 ≤ j.val) :
    cv Q K D L h r hr d j = 0 :=
  Finset.sum_eq_zero fun a _ => by rw [P_zero _ _ _ (Fin.lt_def.2 (by show r + a.val < j.val; omega)), mul_zero]

theorem cq_zero {h : Fin 2} {k n : ℕ} {hk : k + n ≤ 2048} (i : Fin 2048) (d : Fin 128) (hi : i.val < k) :
    cq Q K V D O L h k n hk i d = 0 :=
  Finset.sum_eq_zero fun b _ => by rw [dS_zero _ _ _ _ _ _ (Fin.lt_def.2 (by show i.val < k + b.val; omega)), zero_mul]

end Block

/-- A sum over all rows, in four tiles. -/
theorem sum_tiles (f : Fin 2048 → ℝ) :
    ∑ i, f i = (∑ a : Fin 512, f (row 1536 at_1536 a)) + (∑ a : Fin 512, f (row 1024 at_1024 a))
      + (∑ a : Fin 512, f (row 512 at_512 a)) + ∑ a : Fin 512, f (row 0 le_512 a) := by
  have h1 := Fin.sum_univ_add (a := 1536) (b := 512) f
  have h2 := Fin.sum_univ_add (a := 1024) (b := 512) fun i => f (Fin.castAdd 512 i)
  have h3 := Fin.sum_univ_add (a := 512) (b := 512) fun i => f (Fin.castAdd 512 (Fin.castAdd 512 i))
  have e0 : ∀ a : Fin 512, Fin.castAdd 512 (Fin.castAdd 512 (Fin.castAdd 512 a)) = row 0 le_512 a := fun a => Fin.ext (Nat.zero_add _).symm
  have e1 : ∀ a : Fin 512, Fin.castAdd 512 (Fin.castAdd 512 (Fin.natAdd 512 a)) = row 512 at_512 a := fun a => rfl
  have e2 : ∀ a : Fin 512, Fin.castAdd 512 (Fin.natAdd 1024 a) = row 1024 at_1024 a := fun a => rfl
  have e3 : ∀ a : Fin 512, Fin.natAdd 1536 a = row 1536 at_1536 a := fun a => rfl
  simp only [e0, e1, e2, e3] at h1 h2 h3
  refine h1.trans ?_
  refine (congrArg (· + _) (h2.trans (congrArg (· + _) h3))).trans ?_
  ring

/-- A sum over all keys that ends with the tile on the diagonal. -/
theorem sum_keys (f : Fin 2048 → ℝ) (r : ℕ) (hr : r + 512 ≤ 2048) (h0 : ∀ j : Fin 2048, r + 512 ≤ j.val → f j = 0) :
    ∑ j, f j = (∑ b : Fin 512, f (row r hr b)) + ∑ b : Fin r, f (row 0 (by omega) b) := by
  obtain ⟨g, hg⟩ : ∃ g : ℕ → ℝ, ∀ j : Fin 2048, f j = g j.val :=
    ⟨fun k => if h : k < 2048 then f ⟨k, h⟩ else 0, fun j => by show f j = dite _ _ _; rw [dif_pos j.isLt]⟩
  simp only [hg, row]
  rw [Fin.sum_univ_eq_sum_range g, Fin.sum_univ_eq_sum_range (fun b : ℕ => g (r + b)), Fin.sum_univ_eq_sum_range (fun b : ℕ => g (0 + b))]
  rw [← Finset.sum_subset (Finset.range_mono hr) (fun k hk hk' => ?_), Finset.sum_range_add, add_comm]
  · simp only [Nat.zero_add]
  · rw [Finset.mem_range] at hk hk'
    exact (hg ⟨k, hk⟩).symm.trans (h0 ⟨k, hk⟩ (not_lt.1 hk'))

end Cert.MlaBwdIdeal.Value

end
-- ==== Proof.MlaBwdKernel.lean ====
module

public import proofs.«01_k».proof.Proof.MlaBwdRounds

@[expose] public section

set_option maxRecDepth 16384

noncomputable section

/-! # A grid point of `mla_bwd`, over the reals -/

namespace Cert.MlaBwdIdeal.Value

open Idealize.ShloMosaic Idealize.ShloMosaic.TcCoe Idealize.SL.Sem
open Idealize.ShloMosaic.Pipeline (Dat)
open Cert.MlaBwdIdeal Cert.MlaBwdIdeal.Gen
open Cert.Proof Cert.Proof.Reals

/-! ## Loads of rows -/

section Loads

variable {κ : Kind} {sp : Space} {h : Fin 2} {r o : ℕ}

theorem wide512 {M : Memref sig κ sp S2048x256 .bf16} (hM : M.IsWhole) {x : S2048x256.Idx → EReal} {X : S2048x256.Idx → ℝ}
    (hx : ∀ y, x y = (X y : EReal)) (ho : o = h.val * 128) {hr : r + 512 ≤ 2048}
    {inb : ∀ a, (![r, o] : Fin 2 → ℕ) a + S512x128.size a ≤ S2048x256.size a} (a : Fin 512) (e : Fin 128) :
    View.readAt (Elt Ideal) M.view (Rect.unit (s := S2048x256) ![r, o] S512x128.size inb).toLoadRect (hM.unread x) (ix2 a e : S512x128.Idx)
      = (X (ix2 (row r hr a) (hl h e)) : EReal) := by
  have hb : (Rect.unit (s := S2048x256) ![r, o] S512x128.size inb).emb (ix2 a e : S512x128.Idx) = ix2 (row r hr a) (hl h e) := by
    subst ho
    blk_ext [row, hl]
  exact (load hM x _ hb).trans (hx _)

theorem narrow512 {M : Memref sig κ sp S2048x128 .bf16} (hM : M.IsWhole) {x : S2048x128.Idx → EReal} {X : S2048x128.Idx → ℝ}
    (hx : ∀ y, x y = (X y : EReal)) {hr : r + 512 ≤ 2048}
    {inb : ∀ a, (![r, 0] : Fin 2 → ℕ) a + S512x128.size a ≤ S2048x128.size a} (a : Fin 512) (e : Fin 128) :
    View.readAt (Elt Ideal) M.view (Rect.unit (s := S2048x128) ![r, 0] S512x128.size inb).toLoadRect (hM.unread x) (ix2 a e : S512x128.Idx)
      = (X (ix2 (row r hr a) e) : EReal) := by
  have hb : (Rect.unit (s := S2048x128) ![r, 0] S512x128.size inb).emb (ix2 a e : S512x128.Idx) = ix2 (row r hr a) e := by
    blk_ext [row]
  exact (load hM x _ hb).trans (hx _)

theorem wide1024 {M : Memref sig κ sp S2048x256 .bf16} (hM : M.IsWhole) {x : S2048x256.Idx → EReal} {X : S2048x256.Idx → ℝ}
    (hx : ∀ y, x y = (X y : EReal)) (ho : o = h.val * 128) {hr : r + 1024 ≤ 2048}
    {inb : ∀ a, (![r, o] : Fin 2 → ℕ) a + S1024x128.size a ≤ S2048x256.size a} (a : Fin 1024) (e : Fin 128) :
    View.readAt (Elt Ideal) M.view (Rect.unit (s := S2048x256) ![r, o] S1024x128.size inb).toLoadRect (hM.unread x) (ix2 a e : S1024x128.Idx)
      = (X (ix2 (row r hr a) (hl h e)) : EReal) := by
  have hb : (Rect.unit (s := S2048x256) ![r, o] S1024x128.size inb).emb (ix2 a e : S1024x128.Idx) = ix2 (row r hr a) (hl h e) := by
    subst ho
    blk_ext [row, hl]
  exact (load hM x _ hb).trans (hx _)

theorem narrow1024 {M : Memref sig κ sp S2048x128 .bf16} (hM : M.IsWhole) {x : S2048x128.Idx → EReal} {X : S2048x128.Idx → ℝ}
    (hx : ∀ y, x y = (X y : EReal)) {hr : r + 1024 ≤ 2048}
    {inb : ∀ a, (![r, 0] : Fin 2 → ℕ) a + S1024x128.size a ≤ S2048x128.size a} (a : Fin 1024) (e : Fin 128) :
    View.readAt (Elt Ideal) M.view (Rect.unit (s := S2048x128) ![r, 0] S1024x128.size inb).toLoadRect (hM.unread x) (ix2 a e : S1024x128.Idx)
      = (X (ix2 (row r hr a) e) : EReal) := by
  have hb : (Rect.unit (s := S2048x128) ![r, 0] S1024x128.size inb).emb (ix2 a e : S1024x128.Idx) = ix2 (row r hr a) e := by
    blk_ext [row]
  exact (load hM x _ hb).trans (hx _)

theorem wide1536 {M : Memref sig κ sp S2048x256 .bf16} (hM : M.IsWhole) {x : S2048x256.Idx → EReal} {X : S2048x256.Idx → ℝ}
    (hx : ∀ y, x y = (X y : EReal)) (ho : o = h.val * 128) {hr : r + 1536 ≤ 2048}
    {inb : ∀ a, (![r, o] : Fin 2 → ℕ) a + S1536x128.size a ≤ S2048x256.size a} (a : Fin 1536) (e : Fin 128) :
    View.readAt (Elt Ideal) M.view (Rect.unit (s := S2048x256) ![r, o] S1536x128.size inb).toLoadRect (hM.unread x) (ix2 a e : S1536x128.Idx)
      = (X (ix2 (row r hr a) (hl h e)) : EReal) := by
  have hb : (Rect.unit (s := S2048x256) ![r, o] S1536x128.size inb).emb (ix2 a e : S1536x128.Idx) = ix2 (row r hr a) (hl h e) := by
    subst ho
    blk_ext [row, hl]
  exact (load hM x _ hb).trans (hx _)

theorem narrow1536 {M : Memref sig κ sp S2048x128 .bf16} (hM : M.IsWhole) {x : S2048x128.Idx → EReal} {X : S2048x128.Idx → ℝ}
    (hx : ∀ y, x y = (X y : EReal)) {hr : r + 1536 ≤ 2048}
    {inb : ∀ a, (![r, 0] : Fin 2 → ℕ) a + S1536x128.size a ≤ S2048x128.size a} (a : Fin 1536) (e : Fin 128) :
    View.readAt (Elt Ideal) M.view (Rect.unit (s := S2048x128) ![r, 0] S1536x128.size inb).toLoadRect (hM.unread x) (ix2 a e : S1536x128.Idx)
      = (X (ix2 (row r hr a) e) : EReal) := by
  have hb : (Rect.unit (s := S2048x128) ![r, 0] S1536x128.size inb).emb (ix2 a e : S1536x128.Idx) = ix2 (row r hr a) e := by
    blk_ext [row]
  exact (load hM x _ hb).trans (hx _)

theorem narrow512f {M : Memref sig κ sp S2048x128 .f32} (hM : M.IsWhole) {x : S2048x128.Idx → EReal} {X : S2048x128.Idx → ℝ}
    (hx : ∀ y, x y = (X y : EReal)) {hr : r + 512 ≤ 2048}
    {inb : ∀ a, (![r, 0] : Fin 2 → ℕ) a + S512x128.size a ≤ S2048x128.size a} (a : Fin 512) (e : Fin 128) :
    View.readAt (Elt Ideal) M.view (Rect.unit (s := S2048x128) ![r, 0] S512x128.size inb).toLoadRect (hM.unread x) (ix2 a e : S512x128.Idx)
      = (X (ix2 (row r hr a) e) : EReal) := by
  have hb : (Rect.unit (s := S2048x128) ![r, 0] S512x128.size inb).emb (ix2 a e : S512x128.Idx) = ix2 (row r hr a) e := by
    blk_ext [row]
  exact (load hM x _ hb).trans (hx _)

theorem column {M : Memref sig κ sp S2048x128 .f32} (hM : M.IsWhole) {x : S2048x128.Idx → EReal} {X : S2048x128.Idx → ℝ}
    (hx : ∀ y, x y = (X y : EReal)) (ho : o = h.val * 64) {hr : r + 512 ≤ 2048}
    {inb : ∀ a, (![r, o] : Fin 2 → ℕ) a + S512x1.size a ≤ S2048x128.size a} (a : Fin 512) (u : Fin 1) :
    View.readAt (Elt Ideal) M.view (Rect.unit (s := S2048x128) ![r, o] S512x1.size inb).toLoadRect (hM.unread x) (ix2 a u : S512x1.Idx)
      = (X (ix2 (row r hr a) (lc h)) : EReal) := by
  have hb : (Rect.unit (s := S2048x128) ![r, o] S512x1.size inb).emb (ix2 a u : S512x1.Idx) = ix2 (row r hr a) (lc h) := by
    subst ho
    obtain rfl : u = 0 := Subsingleton.elim _ _
    blk_ext [row, lc]
  exact (load hM x _ hb).trans (hx _)

end Loads

/-! ## Stores of lanes -/

theorem lanes_in {h : Fin 2} {o : ℕ} (ho : o = h.val * 128) {inb : ∀ a, (![0, o] : Fin 2 → ℕ) a + S2048x128.size a ≤ S2048x256.size a}
    {w : S2048x128.Idx → EReal} {M : List (View.Piece (Elt Ideal) S2048x256 .bf16)} (j : Fin 2048) (e : Fin 128) :
    View.canon (Val := Elt Ideal) ((⟨Rect.unit (s := S2048x256) ![0, o] S2048x128.size inb, w⟩ : View.Piece (Elt Ideal) S2048x256 .bf16) :: M)
      (ix2 j (hl h e)) = w (ix2 j e) := by
  have hb : (Rect.unit (s := S2048x256) ![0, o] S2048x128.size inb).emb (ix2 j e : S2048x128.Idx) = ix2 j (hl h e) := by
    subst ho
    blk_ext [hl]
  rw [← hb]
  exact View.canon_cons_emb _ _ _ _

theorem lanes_off {h : Fin 2} {o : ℕ} (hn : o + 128 ≤ h.val * 128 ∨ h.val * 128 + 128 ≤ o)
    {inb : ∀ a, (![0, o] : Fin 2 → ℕ) a + S2048x128.size a ≤ S2048x256.size a}
    {w : S2048x128.Idx → EReal} {M : List (View.Piece (Elt Ideal) S2048x256 .bf16)} (j : Fin 2048) (e : Fin 128) :
    View.canon (Val := Elt Ideal) ((⟨Rect.unit (s := S2048x256) ![0, o] S2048x128.size inb, w⟩ : View.Piece (Elt Ideal) S2048x256 .bf16) :: M)
      (ix2 j (hl h e)) = View.canon M (ix2 j (hl h e)) :=
  View.canon_cons_of_not_mem _ _
    (Rect.not_mem_set_of_axis (Rect.unit (s := S2048x256) ![0, o] S2048x128.size inb) _ 1 o 128 rfl rfl rfl
      (by show (h.val * 128 + e.val < o ∨ o + 128 ≤ h.val * 128 + e.val); omega))

theorem full_in {inb : ∀ a, (![0, 0] : Fin 2 → ℕ) a + S2048x128.size a ≤ S2048x128.size a}
    {w : S2048x128.Idx → EReal} {M : List (View.Piece (Elt Ideal) S2048x128 .bf16)} (j : Fin 2048) (e : Fin 128) :
    View.canon (Val := Elt Ideal) ((⟨Rect.unit (s := S2048x128) ![0, 0] S2048x128.size inb, w⟩ : View.Piece (Elt Ideal) S2048x128 .bf16) :: M)
      (ix2 j e) = w (ix2 j e) := by
  have hb : (Rect.unit (s := S2048x128) ![0, 0] S2048x128.size inb).emb (ix2 j e : S2048x128.Idx) = ix2 j e := by
    blk_ext []
  have hw := View.canon_cons_emb (Val := Elt Ideal) (Rect.unit (s := S2048x128) ![0, 0] S2048x128.size inb) w M (ix2 j e : S2048x128.Idx)
  rwa [hb] at hw

theorem whole_at {κ : Kind} {sp : Space} (v : View sig κ sp S128x2048 .f32) {L : Stores}
    {inb : ∀ a, (![0, 0] : Fin 2 → ℕ) a + S128x2048.size a ≤ S128x2048.size a} (d : Fin 128) (j : Fin 2048) :
    v.readCov L (Rect.unit (s := S128x2048) ![0, 0] S128x2048.size inb).toLoadRect (ix2 d j : S128x2048.Idx) = View.canon L (ix2 d j) := by
  have hb : (Rect.unit (s := S128x2048) ![0, 0] S128x2048.size inb).emb (ix2 d j : S128x2048.Idx) = ix2 d j := by blk_ext []
  exact (congrFun (View.readCov_eq_canon' (Val := Elt Ideal) v L _) _).trans (congrArg (View.canon (Val := Elt Ideal) L) hb)

/-- An accumulator, transposed. -/
theorem flip_at (x : Vec Ideal S128x2048 .f32) (j : Fin 2048) (d : Fin 128) :
    truncf (F := Ideal) .bf16 (transpose S2048x128 [1, 0] x transposes_S128x2048_p1_0_S2048x128) bitsLt_bf16_f32 (ix2 j d) = x (ix2 d j) := by
  pointwise []

/-! ## What a point leaves in its blocks -/

section Point

variable (Q K : S2048x256.Idx → ℝ) (V D O L : S2048x128.Idx → ℝ)

/-- The queries' gradient. -/
def gq (h : Fin 2) (i : Fin 2048) (d : Fin 128) : ℝ := ∑ j, dS Q K V D O L h i j * K (ix2 j (hl h d))

/-- The keys' gradient. -/
def gk (h : Fin 2) (j : Fin 2048) (d : Fin 128) : ℝ := ∑ i, Q (ix2 i (hl h d)) * dS Q K V D O L h i j

/-- A half's part of the values' gradient. -/
def gv (h : Fin 2) (j : Fin 2048) (e : Fin 128) : ℝ := ∑ i, Dm D h i e * P Q K L h i j

theorem gk_tiles (h : Fin 2) (j : Fin 2048) (d : Fin 128) :
    ck Q K V D O L h 1536 at_1536 d j + ck Q K V D O L h 1024 at_1024 d j + ck Q K V D O L h 512 at_512 d j + ck Q K V D O L h 0 le_512 d j
      = gk Q K V D O L h j d := (sum_tiles fun i => Q (ix2 i (hl h d)) * dS Q K V D O L h i j).symm

theorem gv_tiles (h : Fin 2) (j : Fin 2048) (e : Fin 128) :
    cv Q K D L h 1536 at_1536 e j + cv Q K D L h 1024 at_1024 e j + cv Q K D L h 512 at_512 e j + cv Q K D L h 0 le_512 e j
      = gv Q K D L h j e := (sum_tiles fun i => Dm D h i e * P Q K L h i j).symm

theorem gq_tiles (h : Fin 2) (r : ℕ) (hr : r + 512 ≤ 2048) (hr' : 0 + r ≤ 2048) (a : Fin 512) (d : Fin 128) :
    cq Q K V D O L h r 512 hr (row r hr a) d + cq Q K V D O L h 0 r hr' (row r hr a) d = gq Q K V D O L h (row r hr a) d :=
  (sum_keys (fun j => dS Q K V D O L h (row r hr a) j * K (ix2 j (hl h d))) r hr fun j hj => by
    rw [dS_zero _ _ _ _ _ _ (Fin.lt_def.2 (by show r + a.val < j.val; omega)), zero_mul]).symm

theorem gq_first (h : Fin 2) (a : Fin 512) (d : Fin 128) :
    cq Q K V D O L h 0 512 le_512 (row 0 le_512 a) d = gq Q K V D O L h (row 0 le_512 a) d := by
  rw [← gq_tiles Q K V D O L h 0 le_512 (by decide) a d]
  exact (add_zero _).symm.trans (congrArg _ (Finset.sum_empty (f := fun _ : Fin 0 => (0 : ℝ))).symm)

/-- The queries' gradient at any lane of the block. -/
def gqAll (y : S2048x256.Idx) : EReal := (gq Q K V D O L ⟨(y 1).val / 128, by have h : (y 1).val < 256 := (y 1).isLt; omega⟩ (y 0) ⟨(y 1).val % 128, by omega⟩ : EReal)

end Point

/-- A store of the queries' gradient. -/
theorem store_q {Q K : S2048x256.Idx → ℝ} {V D O L : S2048x128.Idx → ℝ} {h : Fin 2} {r o : ℕ} (ho : o = h.val * 128) (hr : r + 512 ≤ 2048)
    {inb : ∀ a, (![r, o] : Fin 2 → ℕ) a + S512x128.size a ≤ S2048x256.size a} {w : S512x128.Idx → EReal}
    (hw : ∀ a e, w (ix2 a e) = (gq Q K V D O L h (row r hr a) e : EReal)) (x : S512x128.Idx) :
    w x = gqAll Q K V D O L ((Rect.unit (s := S2048x256) ![r, o] S512x128.size inb).emb x) := by
  idx_vars x
  have hb : (Rect.unit (s := S2048x256) ![r, o] S512x128.size inb).emb (ix2 x0 x1 : S512x128.Idx) = ix2 (row r hr x0) (hl h x1) := by
    subst ho
    blk_ext [row, hl]
  rw [hw, hb, gqAll]
  have h0 : (h.val * 128 + x1.val) / 128 = h.val := by omega
  have h1 : (h.val * 128 + x1.val) % 128 = x1.val := by omega
  have e0 : (⟨(hl h x1).val / 128, by have := (hl h x1).isLt; omega⟩ : Fin 2) = h := Fin.ext h0
  have e1 : (⟨(hl h x1).val % 128, by omega⟩ : Fin 128) = x1 := Fin.ext h1
  exact congrArg (fun z : ℝ => (z : EReal)) (by rw [← congrArg₂ (fun a b => gq Q K V D O L a (row r hr x0) b) e0 e1]; rfl)

section Out

variable (m : (ℓ : Loc nD τ sig) → Buf (Elt Ideal) ℓ)
variable {Q K : S2048x256.Idx → ℝ} {V D O L : S2048x128.Idx → ℝ} (c : Dev nD) (t : Fin cfg0.N)
  (hq : ∀ y, iblk m c 0 t y = (Q y : EReal)) (hk : ∀ y, iblk m c 1 t y = (K y : EReal)) (hv : ∀ y, iblk m c 2 t y = (V y : EReal))
  (hd : ∀ y, iblk m c 3 t y = (D y : EReal)) (ho : ∀ y, iblk m c 4 t y = (O y : EReal)) (hL : ∀ y, iblk m c 5 t y = (L y : EReal))

include hq hk hv hd ho hL in
set_option maxHeartbeats 1000000 in
/-- The keys' gradient, half 0. -/
theorem outs7_0 (j : Fin 2048) (d : Fin 128) :
    (outsAt0 m c t).2.1 (ix2 j (hl 0 d)) = (gk Q K V D O L 0 j d : EReal) := by
  unfold outsAt0
  dsimp only
  frame_open
  refine (View.read_writes_junk_apply_eq_canon _ _ _).trans ?_
  refine (lanes_off (h := 0) (o := 128) (Or.inr le_rfl) j d).trans ?_
  refine (lanes_in (h := 0) (o := 0) rfl j d).trans ((flip_at _ j d).trans ((whole_at _ d j).trans ?_))
  rw [← gk_tiles]
  revert d j
  rw [forall_comm]
  refine last scM0_0.view (T := ck Q K V D O L 0 0 le_512) (G := fun d j => ck Q K V D O L 0 1536 at_1536 d j + ck Q K V D O L 0 1024 at_1024 d j + ck Q K V D O L 0 512 at_512 d j) ?_ ?_ (fun d j => ck_zero _ _ _ _ _ _ d j)
  · refine round512 scM0_0.view (T := ck Q K V D O L 0 512 at_512) (G := fun d j => ck Q K V D O L 0 1536 at_1536 d j + ck Q K V D O L 0 1024 at_1024 d j) ?_ ?_ ?_ (fun d j => ck_zero _ _ _ _ _ _ d j)
    · refine round1024 scM0_0.view (T := ck Q K V D O L 0 1024 at_1024) (G := fun d j => ck Q K V D O L 0 1536 at_1536 d j) ?_ ?_ ?_ (fun d j => ck_zero _ _ _ _ _ _ d j)
      · refine start (T := ck Q K V D O L 0 1536 at_1536) ?_ ?_
        · intro d b
          exact skD (h := 0) (w := k0_pay2) (r := 1536) (hr := at_1536) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) d b
        · intro d b
          exact skP1536 (h := 0) (w := k0_pay2) (r := 1536) (hr := at_1536) pay2_at (wide512 (h := 0) (o := 0) (hs0_0 t) hq rfl) (wide1536 (h := 0) (o := 0) (hs0_1 t) hk rfl) (narrow1536 (hs0_2 t) hv) (narrow512f (hs0_3 t) hd) (narrow512f (hs0_4 t) ho) (column (h := 0) (o := 0) (hs0_5 t) hL rfl) le_rfl d b
      · intro d b
        exact akD (h := 0) (w := k0_pay2) (r := 1024) (hr := at_1024) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) _ d b
      · intro d b
        exact akP1024 (h := 0) (w := k0_pay2) (r := 1024) (hr := at_1024) pay2_at (wide512 (h := 0) (o := 0) (hs0_0 t) hq rfl) (wide1024 (h := 0) (o := 0) (hs0_1 t) hk rfl) (narrow1024 (hs0_2 t) hv) (narrow512f (hs0_3 t) hd) (narrow512f (hs0_4 t) ho) (column (h := 0) (o := 0) (hs0_5 t) hL rfl) le_rfl _ d b
    · intro d b
      exact akD (h := 0) (w := k0_pay2) (r := 512) (hr := at_512) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) _ d b
    · intro d b
      exact akP512 (h := 0) (w := k0_pay2) (r := 512) (hr := at_512) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) le_rfl _ d b
  · intro d b
    exact akD (h := 0) (w := k0_pay2) (r := 0) (hr := le_512) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) _ d b

include hq hk hv hd ho hL in
set_option maxHeartbeats 1000000 in
/-- The keys' gradient, half 1. -/
theorem outs7_1 (j : Fin 2048) (d : Fin 128) :
    (outsAt0 m c t).2.1 (ix2 j (hl 1 d)) = (gk Q K V D O L 1 j d : EReal) := by
  unfold outsAt0
  dsimp only
  frame_open
  refine (View.read_writes_junk_apply_eq_canon _ _ _).trans ?_
  refine (lanes_in (h := 1) (o := 128) rfl j d).trans ((flip_at _ j d).trans ((whole_at _ d j).trans ?_))
  rw [← gk_tiles]
  revert d j
  rw [forall_comm]
  refine last scM0_0.view (T := ck Q K V D O L 1 0 le_512) (G := fun d j => ck Q K V D O L 1 1536 at_1536 d j + ck Q K V D O L 1 1024 at_1024 d j + ck Q K V D O L 1 512 at_512 d j) ?_ ?_ (fun d j => ck_zero _ _ _ _ _ _ d j)
  · refine round512 scM0_0.view (T := ck Q K V D O L 1 512 at_512) (G := fun d j => ck Q K V D O L 1 1536 at_1536 d j + ck Q K V D O L 1 1024 at_1024 d j) ?_ ?_ ?_ (fun d j => ck_zero _ _ _ _ _ _ d j)
    · refine round1024 scM0_0.view (T := ck Q K V D O L 1 1024 at_1024) (G := fun d j => ck Q K V D O L 1 1536 at_1536 d j) ?_ ?_ ?_ (fun d j => ck_zero _ _ _ _ _ _ d j)
      · refine start (T := ck Q K V D O L 1 1536 at_1536) ?_ ?_
        · intro d b
          exact skD (h := 1) (w := k0_pay75) (r := 1536) (hr := at_1536) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) d b
        · intro d b
          exact skP1536 (h := 1) (w := k0_pay75) (r := 1536) (hr := at_1536) pay75_at (wide512 (h := 1) (o := 128) (hs0_0 t) hq rfl) (wide1536 (h := 1) (o := 128) (hs0_1 t) hk rfl) (narrow1536 (hs0_2 t) hv) (narrow512f (hs0_3 t) hd) (narrow512f (hs0_4 t) ho) (column (h := 1) (o := 64) (hs0_5 t) hL rfl) le_rfl d b
      · intro d b
        exact akD (h := 1) (w := k0_pay75) (r := 1024) (hr := at_1024) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) _ d b
      · intro d b
        exact akP1024 (h := 1) (w := k0_pay75) (r := 1024) (hr := at_1024) pay75_at (wide512 (h := 1) (o := 128) (hs0_0 t) hq rfl) (wide1024 (h := 1) (o := 128) (hs0_1 t) hk rfl) (narrow1024 (hs0_2 t) hv) (narrow512f (hs0_3 t) hd) (narrow512f (hs0_4 t) ho) (column (h := 1) (o := 64) (hs0_5 t) hL rfl) le_rfl _ d b
    · intro d b
      exact akD (h := 1) (w := k0_pay75) (r := 512) (hr := at_512) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) _ d b
    · intro d b
      exact akP512 (h := 1) (w := k0_pay75) (r := 512) (hr := at_512) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) le_rfl _ d b
  · intro d b
    exact akD (h := 1) (w := k0_pay75) (r := 0) (hr := le_512) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) _ d b

include hq hk hv hd ho hL in
set_option maxHeartbeats 2000000 in
/-- The queries' gradient. -/
theorem outs6 (y : S2048x256.Idx) : (outsAt0 m c t).1 y = gqAll Q K V D O L y := by
  unfold outsAt0
  dsimp only
  frame_open
  refine (View.read_writes_junk_apply_eq_canon _ _ _).trans ?_
  refine View.canon_apply_of_pieces (S := S2048x256) (e := .bf16) (Val := Elt Ideal) (gqAll Q K V D O L) _ (View.PiecesOf.mem ?_) y ?_
  rotate_left
  · exact View.cover_of_tiledL (s := S2048x256) _ S512x128.size (by sl_kernel_rfl) y
  refine And.intro ?_ (And.intro ?_ (And.intro ?_ (And.intro ?_ (And.intro ?_ (And.intro ?_ (And.intro ?_ (And.intro ?_ (trivial))))))))
  · refine store_q (inb := inb_S2048x256_S512x128_0_128) (h := 1) (r := 0) (o := 128) rfl le_512 fun a e => ?_
    rw [← gq_first]
    exact tqD_at (h := 1) (w := k0_pay75) (r := 0) (hr := le_512) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) a e
  · refine store_q (inb := inb_S2048x256_S512x128_512_128) (h := 1) (r := 512) (o := 128) rfl at_512 fun a e => ?_
    rw [← gq_tiles _ _ _ _ _ _ 1 512 at_512 le_512, EReal.coe_add]
    exact congrArg₂ (· + ·) (tqD_at (h := 1) (w := k0_pay75) (r := 512) (hr := at_512) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) a e)
      (tqP512_at (h := 1) (w := k0_pay75) (r := 512) (hr := at_512) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) le_rfl a e)
  · refine store_q (inb := inb_S2048x256_S512x128_1024_128) (h := 1) (r := 1024) (o := 128) rfl at_1024 fun a e => ?_
    rw [← gq_tiles _ _ _ _ _ _ 1 1024 at_1024 le_1024, EReal.coe_add]
    exact congrArg₂ (· + ·) (tqD_at (h := 1) (w := k0_pay75) (r := 1024) (hr := at_1024) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) a e)
      (tqP1024_at (h := 1) (w := k0_pay75) (r := 1024) (hr := at_1024) pay75_at (wide512 (h := 1) (o := 128) (hs0_0 t) hq rfl) (wide1024 (h := 1) (o := 128) (hs0_1 t) hk rfl) (narrow1024 (hs0_2 t) hv) (narrow512f (hs0_3 t) hd) (narrow512f (hs0_4 t) ho) (column (h := 1) (o := 64) (hs0_5 t) hL rfl) le_rfl a e)
  · refine store_q (inb := inb_S2048x256_S512x128_1536_128) (h := 1) (r := 1536) (o := 128) rfl at_1536 fun a e => ?_
    rw [← gq_tiles _ _ _ _ _ _ 1 1536 at_1536 le_1536, EReal.coe_add]
    exact congrArg₂ (· + ·) (tqD_at (h := 1) (w := k0_pay75) (r := 1536) (hr := at_1536) pay75_at (wide512 (h := 1) (o := 128) (hs0_0 t) hq rfl) (wide512 (h := 1) (o := 128) (hs0_1 t) hk rfl) (narrow512 (hs0_2 t) hv) (narrow512f (hs0_3 t) hd) (narrow512f (hs0_4 t) ho) (column (h := 1) (o := 64) (hs0_5 t) hL rfl) a e)
      (tqP1536_at (h := 1) (w := k0_pay75) (r := 1536) (hr := at_1536) pay75_at (wide512 (h := 1) (o := 128) (hs0_0 t) hq rfl) (wide1536 (h := 1) (o := 128) (hs0_1 t) hk rfl) (narrow1536 (hs0_2 t) hv) (narrow512f (hs0_3 t) hd) (narrow512f (hs0_4 t) ho) (column (h := 1) (o := 64) (hs0_5 t) hL rfl) le_rfl a e)
  · refine store_q (inb := inb_S2048x256_S512x128_0_0) (h := 0) (r := 0) (o := 0) rfl le_512 fun a e => ?_
    rw [← gq_first]
    exact tqD_at (h := 0) (w := k0_pay2) (r := 0) (hr := le_512) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) a e
  · refine store_q (inb := inb_S2048x256_S512x128_512_0) (h := 0) (r := 512) (o := 0) rfl at_512 fun a e => ?_
    rw [← gq_tiles _ _ _ _ _ _ 0 512 at_512 le_512, EReal.coe_add]
    exact congrArg₂ (· + ·) (tqD_at (h := 0) (w := k0_pay2) (r := 512) (hr := at_512) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) a e)
      (tqP512_at (h := 0) (w := k0_pay2) (r := 512) (hr := at_512) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) le_rfl a e)
  · refine store_q (inb := inb_S2048x256_S512x128_1024_0) (h := 0) (r := 1024) (o := 0) rfl at_1024 fun a e => ?_
    rw [← gq_tiles _ _ _ _ _ _ 0 1024 at_1024 le_1024, EReal.coe_add]
    exact congrArg₂ (· + ·) (tqD_at (h := 0) (w := k0_pay2) (r := 1024) (hr := at_1024) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) a e)
      (tqP1024_at (h := 0) (w := k0_pay2) (r := 1024) (hr := at_1024) pay2_at (wide512 (h := 0) (o := 0) (hs0_0 t) hq rfl) (wide1024 (h := 0) (o := 0) (hs0_1 t) hk rfl) (narrow1024 (hs0_2 t) hv) (narrow512f (hs0_3 t) hd) (narrow512f (hs0_4 t) ho) (column (h := 0) (o := 0) (hs0_5 t) hL rfl) le_rfl a e)
  · refine store_q (inb := inb_S2048x256_S512x128_1536_0) (h := 0) (r := 1536) (o := 0) rfl at_1536 fun a e => ?_
    rw [← gq_tiles _ _ _ _ _ _ 0 1536 at_1536 le_1536, EReal.coe_add]
    exact congrArg₂ (· + ·) (tqD_at (h := 0) (w := k0_pay2) (r := 1536) (hr := at_1536) pay2_at (wide512 (h := 0) (o := 0) (hs0_0 t) hq rfl) (wide512 (h := 0) (o := 0) (hs0_1 t) hk rfl) (narrow512 (hs0_2 t) hv) (narrow512f (hs0_3 t) hd) (narrow512f (hs0_4 t) ho) (column (h := 0) (o := 0) (hs0_5 t) hL rfl) a e)
      (tqP1536_at (h := 0) (w := k0_pay2) (r := 1536) (hr := at_1536) pay2_at (wide512 (h := 0) (o := 0) (hs0_0 t) hq rfl) (wide1536 (h := 0) (o := 0) (hs0_1 t) hk rfl) (narrow1536 (hs0_2 t) hv) (narrow512f (hs0_3 t) hd) (narrow512f (hs0_4 t) ho) (column (h := 0) (o := 0) (hs0_5 t) hL rfl) le_rfl a e)

include hq hk hd hL in
set_option maxHeartbeats 2000000 in
/-- The values' gradient. -/
theorem outs8 (j : Fin 2048) (e : Fin 128) :
    (outsAt0 m c t).2.2 (ix2 j e) = ((gv Q K D L 0 j e + gv Q K D L 1 j e : ℝ) : EReal) := by
  unfold outsAt0
  dsimp only
  frame_open
  refine (View.read_writes_junk_apply_eq_canon _ _ _).trans ?_
  refine (full_in j e).trans ((flip_at _ j e).trans ((whole_at _ e j).trans ?_))
  rw [← gv_tiles, ← gv_tiles, ← add_assoc, ← add_assoc, ← add_assoc]
  revert e j
  rw [forall_comm]
  refine last scM0_1.view (T := cv Q K D L 1 0 le_512) (G := fun d j => cv Q K D L 0 1536 at_1536 d j + cv Q K D L 0 1024 at_1024 d j + cv Q K D L 0 512 at_512 d j + cv Q K D L 0 0 le_512 d j + cv Q K D L 1 1536 at_1536 d j + cv Q K D L 1 1024 at_1024 d j + cv Q K D L 1 512 at_512 d j) ?_ ?_ (fun d j => cv_zero _ _ _ _ d j)
  · refine round512 scM0_1.view (T := cv Q K D L 1 512 at_512) (G := fun d j => cv Q K D L 0 1536 at_1536 d j + cv Q K D L 0 1024 at_1024 d j + cv Q K D L 0 512 at_512 d j + cv Q K D L 0 0 le_512 d j + cv Q K D L 1 1536 at_1536 d j + cv Q K D L 1 1024 at_1024 d j) ?_ ?_ ?_ (fun d j => cv_zero _ _ _ _ d j)
    · refine round1024 scM0_1.view (T := cv Q K D L 1 1024 at_1024) (G := fun d j => cv Q K D L 0 1536 at_1536 d j + cv Q K D L 0 1024 at_1024 d j + cv Q K D L 0 512 at_512 d j + cv Q K D L 0 0 le_512 d j + cv Q K D L 1 1536 at_1536 d j) ?_ ?_ ?_ (fun d j => cv_zero _ _ _ _ d j)
      · refine round1536 scM0_1.view (T := cv Q K D L 1 1536 at_1536) (G := fun d j => cv Q K D L 0 1536 at_1536 d j + cv Q K D L 0 1024 at_1024 d j + cv Q K D L 0 512 at_512 d j + cv Q K D L 0 0 le_512 d j) ?_ ?_ ?_ (fun d j => cv_zero _ _ _ _ d j)
        · refine last scM0_1.view (T := cv Q K D L 0 0 le_512) (G := fun d j => cv Q K D L 0 1536 at_1536 d j + cv Q K D L 0 1024 at_1024 d j + cv Q K D L 0 512 at_512 d j) ?_ ?_ (fun d j => cv_zero _ _ _ _ d j)
          · refine round512 scM0_1.view (T := cv Q K D L 0 512 at_512) (G := fun d j => cv Q K D L 0 1536 at_1536 d j + cv Q K D L 0 1024 at_1024 d j) ?_ ?_ ?_ (fun d j => cv_zero _ _ _ _ d j)
            · refine round1024 scM0_1.view (T := cv Q K D L 0 1024 at_1024) (G := fun d j => cv Q K D L 0 1536 at_1536 d j) ?_ ?_ ?_ (fun d j => cv_zero _ _ _ _ d j)
              · refine start (T := cv Q K D L 0 1536 at_1536) ?_ ?_
                · intro d b
                  exact svD (h := 0) (w := k0_pay2) (r := 1536) (hr := at_1536) pay2_at (wide512 (h := 0) (o := 0) (hs0_0 t) hq rfl) (wide512 (h := 0) (o := 0) (hs0_1 t) hk rfl) (narrow512f (hs0_3 t) hd) (column (h := 0) (o := 0) (hs0_5 t) hL rfl) d b
                · intro d b
                  exact svP1536 (h := 0) (w := k0_pay2) (r := 1536) (hr := at_1536) pay2_at (wide512 (h := 0) (o := 0) (hs0_0 t) hq rfl) (wide1536 (h := 0) (o := 0) (hs0_1 t) hk rfl) (narrow512f (hs0_3 t) hd) (column (h := 0) (o := 0) (hs0_5 t) hL rfl) le_rfl d b
              · intro d b
                exact avD (h := 0) (w := k0_pay2) (r := 1024) (hr := at_1024) pay2_at (wide512 (h := 0) (o := 0) (hs0_0 t) hq rfl) (wide512 (h := 0) (o := 0) (hs0_1 t) hk rfl) (narrow512f (hs0_3 t) hd) (column (h := 0) (o := 0) (hs0_5 t) hL rfl) _ d b
              · intro d b
                exact avP1024 (h := 0) (w := k0_pay2) (r := 1024) (hr := at_1024) pay2_at (wide512 (h := 0) (o := 0) (hs0_0 t) hq rfl) (wide1024 (h := 0) (o := 0) (hs0_1 t) hk rfl) (narrow512f (hs0_3 t) hd) (column (h := 0) (o := 0) (hs0_5 t) hL rfl) le_rfl _ d b
            · intro d b
              exact avD (h := 0) (w := k0_pay2) (r := 512) (hr := at_512) pay2_at (wide512 (h := 0) (o := 0) (hs0_0 t) hq rfl) (wide512 (h := 0) (o := 0) (hs0_1 t) hk rfl) (narrow512f (hs0_3 t) hd) (column (h := 0) (o := 0) (hs0_5 t) hL rfl) _ d b
            · intro d b
              exact avP512 (h := 0) (w := k0_pay2) (r := 512) (hr := at_512) pay2_at (wide512 (h := 0) (o := 0) (hs0_0 t) hq rfl) (wide512 (h := 0) (o := 0) (hs0_1 t) hk rfl) (narrow512f (hs0_3 t) hd) (column (h := 0) (o := 0) (hs0_5 t) hL rfl) le_rfl _ d b
          · intro d b
            exact avD (h := 0) (w := k0_pay2) (r := 0) (hr := le_512) pay2_at (wide512 (h := 0) (o := 0) (hs0_0 t) hq rfl) (wide512 (h := 0) (o := 0) (hs0_1 t) hk rfl) (narrow512f (hs0_3 t) hd) (column (h := 0) (o := 0) (hs0_5 t) hL rfl) _ d b
        · intro d b
          exact avD (h := 1) (w := k0_pay75) (r := 1536) (hr := at_1536) pay75_at (wide512 (h := 1) (o := 128) (hs0_0 t) hq rfl) (wide512 (h := 1) (o := 128) (hs0_1 t) hk rfl) (narrow512f (hs0_3 t) hd) (column (h := 1) (o := 64) (hs0_5 t) hL rfl) _ d b
        · intro d b
          exact avP1536 (h := 1) (w := k0_pay75) (r := 1536) (hr := at_1536) pay75_at (wide512 (h := 1) (o := 128) (hs0_0 t) hq rfl) (wide1536 (h := 1) (o := 128) (hs0_1 t) hk rfl) (narrow512f (hs0_3 t) hd) (column (h := 1) (o := 64) (hs0_5 t) hL rfl) le_rfl _ d b
      · intro d b
        exact avD (h := 1) (w := k0_pay75) (r := 1024) (hr := at_1024) pay75_at (wide512 (h := 1) (o := 128) (hs0_0 t) hq rfl) (wide512 (h := 1) (o := 128) (hs0_1 t) hk rfl) (narrow512f (hs0_3 t) hd) (column (h := 1) (o := 64) (hs0_5 t) hL rfl) _ d b
      · intro d b
        exact avP1024 (h := 1) (w := k0_pay75) (r := 1024) (hr := at_1024) pay75_at (wide512 (h := 1) (o := 128) (hs0_0 t) hq rfl) (wide1024 (h := 1) (o := 128) (hs0_1 t) hk rfl) (narrow512f (hs0_3 t) hd) (column (h := 1) (o := 64) (hs0_5 t) hL rfl) le_rfl _ d b
    · intro d b
      exact avD (h := 1) (w := k0_pay75) (r := 512) (hr := at_512) pay75_at (wide512 (h := 1) (o := 128) (hs0_0 t) hq rfl) (wide512 (h := 1) (o := 128) (hs0_1 t) hk rfl) (narrow512f (hs0_3 t) hd) (column (h := 1) (o := 64) (hs0_5 t) hL rfl) _ d b
    · intro d b
      exact avP512 (h := 1) (w := k0_pay75) (r := 512) (hr := at_512) pay75_at (wide512 (h := 1) (o := 128) (hs0_0 t) hq rfl) (wide512 (h := 1) (o := 128) (hs0_1 t) hk rfl) (narrow512f (hs0_3 t) hd) (column (h := 1) (o := 64) (hs0_5 t) hL rfl) le_rfl _ d b
  · intro d b
    exact avD (h := 1) (w := k0_pay75) (r := 0) (hr := le_512) pay75_at (wide512 (h := 1) (o := 128) (hs0_0 t) hq rfl) (wide512 (h := 1) (o := 128) (hs0_1 t) hk rfl) (narrow512f (hs0_3 t) hd) (column (h := 1) (o := 64) (hs0_5 t) hL rfl) _ d b

end Out

end Cert.MlaBwdIdeal.Value

end
-- ==== Proof.Softmax.lean ====
module

public import proofs.«01_k».proof.Proof.Reals

@[expose] public section

noncomputable section

/-! # A masked softmax over the reals

A row of scores, some of them masked. The masked scores are `⊥`, whose exponential is `0`; the row's largest score is
a real as soon as one score is left, and subtracting it changes no quotient. -/

namespace Cert.Proof.Softmax

open Idealize.ShloMosaic
open Cert.Proof.Reals

/-- The word `0xFF800000` is `⊥`. -/
theorem ofBits_bot : Ideal.ofBits .f32 0xFF800000#32 = ⊥ := by
  simp [Ideal.ofBits, Ideal.ieee]

/-- The word of 1. -/
theorem ofBits_1 : Ideal.ofBits .f32 0x3F800000#32 = ((1 : ℝ) : EReal) := by
  simp [Ideal.ofBits, Ideal.ieee, -EReal.coe_mul]; norm_num

/-- The word of 2. -/
theorem ofBits_2 : Ideal.ofBits .f32 0x40000000#32 = ((2 : ℝ) : EReal) := by
  simp [Ideal.ofBits, Ideal.ieee, -EReal.coe_mul]; norm_num

/-- The word of 96. -/
theorem ofBits_96 : Ideal.ofBits .f32 0x42C00000#32 = ((96 : ℝ) : EReal) := by
  simp [Ideal.ofBits, Ideal.ieee, -EReal.coe_mul]; norm_num

/-- A masked score. -/
def sel (c : Prop) [Decidable c] (x : ℝ) : EReal := if c then (x : EReal) else ⊥

/-- Its weight. -/
def wt (c : Prop) [Decidable c] (x : ℝ) : ℝ := if c then Real.exp x else 0

theorem wt_nonneg (c : Prop) [Decidable c] (x : ℝ) : 0 ≤ wt c x := by
  unfold wt; split
  · exact (Real.exp_pos _).le
  · exact le_rfl

/-- The exponential of a masked score less a real. -/
theorem exp_sel (c : Prop) [Decidable c] (x M : ℝ) : Ideal.exp (sel c x - (M : EReal)) = ((wt c x / Real.exp M : ℝ) : EReal) := by
  unfold sel wt
  split
  · rw [← EReal.coe_sub, Ideal.exp_coe, Real.exp_sub]
  · rw [EReal.bot_sub, Ideal.exp_bot, zero_div]; rfl

/-- The same in base 2: the score and the real it is less are in units of `log 2`. -/
theorem exp_sel_two (c : Prop) [Decidable c] (x M : ℝ) :
    Ideal.exp (((Real.log 2 : ℝ) : EReal) * (sel c (x / Real.log 2) - (M : EReal))) = ((wt c x / Real.exp (M * Real.log 2) : ℝ) : EReal) := by
  have h2 : 0 < Real.log 2 := Real.log_pos (by norm_num)
  unfold sel wt
  split
  · rw [← EReal.coe_sub, ← EReal.coe_mul, Ideal.exp_coe, mul_sub, mul_div_cancel₀ _ h2.ne', Real.exp_sub, mul_comm M]
  · rw [EReal.bot_sub, EReal.coe_mul_bot_of_pos h2, Ideal.exp_bot, zero_div]; rfl

/-- The host's largest value over the last of four axes. -/
theorem hostReduceMax_axis3 {a b c n : ℕ} {u : Shape} (h : (⟨4, ![a, b, c, n]⟩ : Shape).ReducesTo [3] ⟨3, ![a, b, c]⟩)
    (x : (⟨4, ![a, b, c, n]⟩ : Shape).Idx → EReal) (init : u.Idx → EReal) (hu : 0 < u.numel) (i : Fin a) (j : Fin b) (k : Fin c) :
    Host.reduce (FloatOps.maximumf : Ideal .f32 → Ideal .f32 → Ideal .f32) x init h hu (ix3 i j k)
      = Finset.univ.fold max (init (Shape.Idx.first hu)) fun l : Fin n => x (ix4 i j k l) := by
  rw [Ideal.maximumf_eq_max]
  exact (Host.reduce_eq_fold max x init h hu _).trans (h.fold_fiber_r4_a3 _ max _ x)

section Row

variable {n : ℕ} (c : Fin n → Prop) [DecidablePred c] (x : Fin n → ℝ)

/-- The row's largest score is a real. -/
theorem max_real (h : ∃ j, c j) : ∃ M : ℝ, (Finset.univ.fold max ⊥ fun j => sel (c j) (x j)) = (M : EReal) := by
  obtain ⟨j, hj⟩ := h
  have h1 : (Finset.univ.fold max ⊥ fun j => sel (c j) (x j)) < ⊤ := by
    rw [Finset.fold_max_lt]
    refine ⟨bot_lt_top, fun k _ => ?_⟩
    unfold sel; split
    · exact EReal.coe_lt_top _
    · exact bot_lt_top
  have h2 : (x j : EReal) ≤ (Finset.univ.fold max ⊥ fun j => sel (c j) (x j)) := by
    rw [Finset.le_fold_max]
    exact Or.inr ⟨j, Finset.mem_univ _, by unfold sel; rw [if_pos hj]⟩
  exact ⟨_, (EReal.coe_toReal h1.ne (lt_of_lt_of_le (EReal.bot_lt_coe _) h2).ne').symm⟩

/-- The sum of the weights. -/
def z : ℝ := ∑ j, wt (c j) (x j)

theorem z_pos (h : ∃ j, c j) : 0 < z c x := by
  obtain ⟨j, hj⟩ := h
  refine Finset.sum_pos' (fun k _ => wt_nonneg _ _) ⟨j, Finset.mem_univ _, ?_⟩
  unfold wt; rw [if_pos hj]; exact Real.exp_pos _

/-- The probabilities. -/
def p (j : Fin n) : ℝ := wt (c j) (x j) / z c x

/-- The probabilities from weights less a real. -/
theorem p_shift (M : ℝ) (j : Fin n) : wt (c j) (x j) / Real.exp M / (∑ k, wt (c k) (x k) / Real.exp M) = p c x j := by
  rw [← Finset.sum_div, div_div_div_cancel_right₀ (Real.exp_pos M).ne']; rfl

/-- The scores' gradient: each probability's share of the difference of its cotangent from the mean. -/
def ds (d : Fin n → ℝ) (j : Fin n) : ℝ := p c x j * (d j - ∑ k, p c x k * d k)

/-- The same from weights less a real, as the derivative of a quotient gives it. -/
theorem ds_shift (h : ∃ j, c j) (M : ℝ) (d : Fin n → ℝ) (j : Fin n) :
    (d j / (z c x / Real.exp M) + -∑ k, d k * (1 / (z c x / Real.exp M * (z c x / Real.exp M))) * (wt (c k) (x k) / Real.exp M))
      * (wt (c j) (x j) / Real.exp M) = ds c x d j := by
  have hE := (Real.exp_pos M).ne'
  have hz := (z_pos c x h).ne'
  have hs : (∑ k, d k * (1 / (z c x / Real.exp M * (z c x / Real.exp M))) * (wt (c k) (x k) / Real.exp M))
      = Real.exp M / z c x * ∑ k, p c x k * d k := by
    rw [Finset.mul_sum]
    refine Finset.sum_congr rfl fun k _ => ?_
    unfold p; field_simp
  rw [hs]; unfold ds; generalize (∑ k, p c x k * d k) = T; unfold p; field_simp; ring

end Row

end Cert.Proof.Softmax

end
-- ==== Proof.MlaBwdRef.lean ====
module

public import proofs.«01_k».proof.Proof.Gen.MlaBwdRefIdeal.Read
public import proofs.«01_k».proof.Proof.Softmax
public import Idealize.ShloMosaic.Lib.Pointwise
public import Idealize.ShloMosaic.Lib.WordCmp

@[expose] public section

set_option maxRecDepth 16384

noncomputable section

/-! # The reference of `mla_bwd` at an index, over the reals

For finite arguments each gradient is the coercion of a real sum. -/

namespace Cert.MlaBwdRefIdeal.At

open Idealize.ShloMosaic Idealize.ShloMosaic.TcCoe Idealize.SL.Sem
open Cert.MlaBwdRefIdeal Cert.MlaBwdRefIdeal.Gen Cert.MlaBwdRefIdeal.Read
open Cert.Proof Cert.Proof.Reals

/-- A head's query: its lanes without rotation, then those with. -/
def query (A0 : S4x2048x8x64.Idx → ℝ) (A1 : S4x2048x8x32.Idx → ℝ) (b : Fin 4) (i : Fin 2048) (h : Fin 8) (d : Fin 96) : ℝ :=
  if hd : d.val < 64 then A0 (ix4 b i h ⟨d.val, hd⟩) else A1 (ix4 b i h ⟨d.val - 64, by omega⟩)

/-- A head's key: the rotated lanes are the same in every head. -/
def key (A2 : S4x2048x8x64.Idx → ℝ) (A3 : S4x2048x32.Idx → ℝ) (b : Fin 4) (j : Fin 2048) (h : Fin 8) (d : Fin 96) : ℝ :=
  if hd : d.val < 64 then A2 (ix4 b j h ⟨d.val, hd⟩) else A3 (ix3 b j ⟨d.val - 64, by omega⟩)

/-- The scaled score of a query and a key of a head. -/
def score (A0 : S4x2048x8x64.Idx → ℝ) (A1 : S4x2048x8x32.Idx → ℝ) (A2 : S4x2048x8x64.Idx → ℝ) (A3 : S4x2048x32.Idx → ℝ)
    (b : Fin 4) (h : Fin 8) (i j : Fin 2048) : ℝ :=
  (∑ d : Fin 64, A0 (ix4 b i h d) * A2 (ix4 b j h d) + ∑ d : Fin 32, A1 (ix4 b i h d) * A3 (ix3 b j d)) * (Real.sqrt 96)⁻¹

/-- The probability of a key: the softmax over the keys up to the query. -/
def prob (A0 : S4x2048x8x64.Idx → ℝ) (A1 : S4x2048x8x32.Idx → ℝ) (A2 : S4x2048x8x64.Idx → ℝ) (A3 : S4x2048x32.Idx → ℝ)
    (b : Fin 4) (h : Fin 8) (i j : Fin 2048) : ℝ :=
  Softmax.p (fun k : Fin 2048 => k.val ≤ i.val) (score A0 A1 A2 A3 b h i) j

/-- Its cotangent: the output's against the key's value. -/
def dprob (A4 : S4x2048x8x64.Idx → ℝ) (A5 : S4x2048x512.Idx → ℝ) (b : Fin 4) (h : Fin 8) (i j : Fin 2048) : ℝ :=
  ∑ e : Fin 64, A5 (ix3 b i ⟨h.val * 64 + e.val, by omega⟩) * A4 (ix4 b j h e)

/-- The score's cotangent. -/
def dscore (A0 : S4x2048x8x64.Idx → ℝ) (A1 : S4x2048x8x32.Idx → ℝ) (A2 : S4x2048x8x64.Idx → ℝ) (A3 : S4x2048x32.Idx → ℝ)
    (A4 : S4x2048x8x64.Idx → ℝ) (A5 : S4x2048x512.Idx → ℝ) (b : Fin 4) (h : Fin 8) (i j : Fin 2048) : ℝ :=
  Softmax.ds (fun k : Fin 2048 => k.val ≤ i.val) (score A0 A1 A2 A3 b h i) (dprob A4 A5 b h i) j * (Real.sqrt 96)⁻¹

variable {x0 x2 x4 : FVec Ideal S4x2048x8x64 .f32} {x1 : FVec Ideal S4x2048x8x32 .f32} {x3 : FVec Ideal S4x2048x32 .f32} {x5 : FVec Ideal S4x2048x512 .f32}
  {A0 A2 A4 : S4x2048x8x64.Idx → ℝ} {A1 : S4x2048x8x32.Idx → ℝ} {A3 : S4x2048x32.Idx → ℝ} {A5 : S4x2048x512.Idx → ℝ}

/-- The causal mask. -/
theorem v14_at (i j : Fin 2048) :
    val_main_v14 (F := Ideal) (ix2 i j) = BitVec.ofBool (decide (j.val ≤ i.val)) := by
  pointwise [val_main_v14, val_main_v13, val_main_v12, val_main_v11, val_main_v10, val_main_v9, val_main_v8]
  word_cmp

/-- The scale. -/
theorem v2_at : val_main_v2 (F := Ideal) ix0 = (((Real.sqrt 96)⁻¹ : ℝ) : EReal) := by
  pointwise [val_main_v2, val_main_cst]
  rw [Softmax.ofBits_96, rsqrt_coe_pos (by norm_num)]

/-- The scores of a head. -/
theorem v7_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) :
    val_main_v7 (F := Ideal) x0 x1 x2 x3 (ix4 b h i j) = (score A0 A1 A2 A3 b h i j : EReal) := by
  pointwise [val_main_v7, val_main_v6, val_main_v5, val_main_v4, val_main_v3, val_main_v1, val_main_v0]
  simp only [v2_at, h0, h1, h2, h3, ← EReal.coe_mul, coe_sum, ← EReal.coe_add, score]

/-- The masked scores. -/
theorem v16_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) :
    val_main_v16_0 (F := Ideal) x0 x1 x2 x3 (ix4 b h i j) = Softmax.sel (j.val ≤ i.val) (score A0 A1 A2 A3 b h i j) := by
  pointwise [val_main_v16_0, val_main_v16_1, val_main_v15, val_main_call0_v2, val_main_call0_v0, val_main_cst_0]
  rw [v14_at, v7_at h0 h1 h2 h3, WordCmp.select_decide]
  exact if_congr Iff.rfl rfl Softmax.ofBits_bot

/-- A row's largest score is a real. -/
theorem v24_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i : Fin 2048) :
    ∃ M : ℝ, val_main_v24 (F := Ideal) x0 x1 x2 x3 (ix3 b h i) = (M : EReal) := by
  obtain ⟨M, hM⟩ := Softmax.max_real (fun k : Fin 2048 => k.val ≤ i.val) (score A0 A1 A2 A3 b h i) ⟨i, le_rfl⟩
  refine ⟨M, ?_⟩
  rw [val_main_v24_apply, val_main_v23_apply, val_main_cst_3_apply]
  have hr : val_main_v17 (F := Ideal) x0 x1 x2 x3 (ix3 b h i) = (M : EReal) := by
    unfold val_main_v17
    rw [Softmax.hostReduceMax_axis3, val_main_cst_1_apply]
    simp only [v16_at h0 h1 h2 h3]
    rw [← hM]
    exact congrArg (fun e => Finset.univ.fold max e _) Softmax.ofBits_bot
  rw [hr]
  exact (congrArg (fun e => max e (M : EReal)) Softmax.ofBits_bot).trans (max_eq_right bot_le)

/-- The weights of a row, up to a positive factor. -/
theorem v37_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) {M : ℝ} (hM : val_main_v24 (F := Ideal) x0 x1 x2 x3 (ix3 b h i) = (M : EReal)) :
    val_main_v37 (F := Ideal) x0 x1 x2 x3 (ix4 b h i j) = ((Softmax.wt (j.val ≤ i.val) (score A0 A1 A2 A3 b h i j) / Real.exp M : ℝ) : EReal) := by
  pointwise [val_main_v37, val_main_v36, val_main_v35, val_main_v34]
  rw [v16_at h0 h1 h2 h3, hM, Softmax.exp_sel]

/-- Their sum. -/
theorem v39_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i : Fin 2048) (u : Fin 1) {M : ℝ} (hM : val_main_v24 (F := Ideal) x0 x1 x2 x3 (ix3 b h i) = (M : EReal)) :
    val_main_v39 (F := Ideal) x0 x1 x2 x3 (ix4 b h i u) = ((Softmax.z (fun k : Fin 2048 => k.val ≤ i.val) (score A0 A1 A2 A3 b h i) / Real.exp M : ℝ) : EReal) := by
  pointwise [val_main_v39, val_main_v38, val_main_cst_9]
  simp only [v37_at h0 h1 h2 h3 b h i _ hM, coe_sum, ← Finset.sum_div, Softmax.z]

/-- The probabilities. -/
theorem v41_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) :
    val_main_v41 (F := Ideal) x0 x1 x2 x3 (ix4 b h i j) = (prob A0 A1 A2 A3 b h i j : EReal) := by
  obtain ⟨M, hM⟩ := v24_at h0 h1 h2 h3 b h i
  have hz : Softmax.z (fun k : Fin 2048 => k.val ≤ i.val) (score A0 A1 A2 A3 b h i) / Real.exp M ≠ 0 := (div_pos (Softmax.z_pos (fun k : Fin 2048 => k.val ≤ i.val) (score A0 A1 A2 A3 b h i) ⟨i, le_rfl⟩) (Real.exp_pos M)).ne'
  pointwise [val_main_v41, val_main_v40]
  rw [v37_at h0 h1 h2 h3 b h i j hM, v39_at h0 h1 h2 h3 b h i _ hM, div_coe_coe hz]
  rw [div_div_div_cancel_right₀ (Real.exp_pos M).ne']; rfl

/-- The probabilities' cotangent. -/
theorem v50_at (h4 : ∀ i, x4 i = (A4 i : EReal)) (h5 : ∀ i, x5 i = (A5 i : EReal)) (b : Fin 4) (h : Fin 8) (i j : Fin 2048) :
    val_main_v50 (F := Ideal) x4 x5 (ix4 b h i j) = (dprob A4 A5 b h i j : EReal) := by
  pointwise [val_main_v50, val_main_v49, val_main_v48]
  simp only [h4, h5, ← EReal.coe_mul, coe_sum, dprob]

/-- The scores' cotangent. -/
theorem v67_at (h0 : ∀ i, x0 i = (A0 i : EReal)) (h1 : ∀ i, x1 i = (A1 i : EReal)) (h2 : ∀ i, x2 i = (A2 i : EReal)) (h3 : ∀ i, x3 i = (A3 i : EReal)) (h4 : ∀ i, x4 i = (A4 i : EReal)) (h5 : ∀ i, x5 i = (A5 i : EReal)) (b : Fin 4) (h : Fin 8) (i j : Fin 2048) :
    val_main_v67 (F := Ideal) x0 x1 x2 x3 x4 x5 (ix4 b h i j) = (dscore A0 A1 A2 A3 A4 A5 b h i j : EReal) := by
  obtain ⟨M, hM⟩ := v24_at h0 h1 h2 h3 b h i
  have hz : Softmax.z (fun k : Fin 2048 => k.val ≤ i.val) (score A0 A1 A2 A3 b h i) / Real.exp M ≠ 0 := (div_pos (Softmax.z_pos (fun k : Fin 2048 => k.val ≤ i.val) (score A0 A1 A2 A3 b h i) ⟨i, le_rfl⟩) (Real.exp_pos M)).ne'
  pointwise [val_main_v67, val_main_v66, val_main_v65, val_main_v64, val_main_v63, val_main_v62, val_main_v61, val_main_v60,
    val_main_v59, val_main_v58, val_main_v57, val_main_v56, val_main_v55, val_main_v54, val_main_v53, val_main_v44, val_main_v43,
    val_main_v42, val_main_cst_10, val_main_cst_11, val_main_cst_12, val_main_call1_cst, val_main_call1_v0]
  simp only [v37_at h0 h1 h2 h3 b h i _ hM, v39_at h0 h1 h2 h3 b h i _ hM, v50_at h4 h5]
  rw [show val_main_v16_1 (F := Ideal) (ix4 b h i j) = BitVec.ofBool (decide (j.val ≤ i.val)) by
    pointwise [val_main_v16_1, val_main_v15]; exact v14_at i j, v2_at, WordCmp.select_decide, dscore,
    ← Softmax.ds_shift (fun k : Fin 2048 => k.val ≤ i.val) (score A0 A1 A2 A3 b h i) ⟨i, le_rfl⟩ M (dprob A4 A5 b h i) j]
  simp only [← EReal.coe_one, ← EReal.coe_mul, div_coe_coe hz, div_coe_coe (mul_ne_zero hz hz), coe_sum, ← EReal.coe_neg, ← EReal.coe_add,
    Finset.univ_unique, Finset.sum_const, Finset.card_singleton, one_smul]
  split
  · rfl
  · rename_i hm
    rw [Softmax.wt, if_neg hm, zero_div, mul_zero, zero_mul]; rfl

/-- The queries' gradient, the lanes without rotation first. -/
theorem v76_at (h0 : ∀ i, x0 i = (A0 i : EReal)) (h1 : ∀ i, x1 i = (A1 i : EReal)) (h2 : ∀ i, x2 i = (A2 i : EReal)) (h3 : ∀ i, x3 i = (A3 i : EReal)) (h4 : ∀ i, x4 i = (A4 i : EReal)) (h5 : ∀ i, x5 i = (A5 i : EReal)) (b : Fin 4) (i : Fin 2048) (h : Fin 8) (d : Fin 96) :
    val_main_v76 (F := Ideal) x0 x1 x2 x3 x4 x5 (ix4 b i h d)
      = ((∑ j : Fin 2048, dscore A0 A1 A2 A3 A4 A5 b h i j * key A2 A3 b j h d : ℝ) : EReal) := by
  pointwise [val_main_v76, val_main_v75, val_main_v74, val_main_v71, val_main_v70, val_main_v1, val_main_v0]
  simp only [v67_at h0 h1 h2 h3 h4 h5, h2, h3, ← EReal.coe_mul, coe_sum]
  unfold key
  split
  · rename_i hd; simp only [dif_pos hd]
  · rename_i hd; simp only [dif_neg hd]

/-- The keys' gradient. -/
theorem v77_at (h0 : ∀ i, x0 i = (A0 i : EReal)) (h1 : ∀ i, x1 i = (A1 i : EReal)) (h2 : ∀ i, x2 i = (A2 i : EReal)) (h3 : ∀ i, x3 i = (A3 i : EReal)) (h4 : ∀ i, x4 i = (A4 i : EReal)) (h5 : ∀ i, x5 i = (A5 i : EReal)) (b : Fin 4) (j : Fin 2048) (h : Fin 8) (d : Fin 96) :
    val_main_v77 (F := Ideal) x0 x1 x2 x3 x4 x5 (ix4 b j h d)
      = ((∑ i : Fin 2048, dscore A0 A1 A2 A3 A4 A5 b h i j * query A0 A1 b i h d : ℝ) : EReal) := by
  pointwise [val_main_v77, val_main_v73, val_main_v72, val_main_v69, val_main_v68]
  simp only [v67_at h0 h1 h2 h3 h4 h5, h0, h1, ← EReal.coe_mul, coe_sum]
  unfold query
  split
  · rename_i hd; simp only [dif_pos hd]
  · rename_i hd; simp only [dif_neg hd]

/-- The values' gradient. -/
theorem v52_at (h0 : ∀ i, x0 i = (A0 i : EReal)) (h1 : ∀ i, x1 i = (A1 i : EReal)) (h2 : ∀ i, x2 i = (A2 i : EReal)) (h3 : ∀ i, x3 i = (A3 i : EReal)) (h5 : ∀ i, x5 i = (A5 i : EReal)) (b : Fin 4) (j : Fin 2048) (h : Fin 8) (e : Fin 64) :
    val_main_v52 (F := Ideal) x0 x1 x2 x3 x5 (ix4 b j h e)
      = ((∑ i : Fin 2048, A5 (ix3 b i ⟨h.val * 64 + e.val, by omega⟩) * prob A0 A1 A2 A3 b h i j : ℝ) : EReal) := by
  pointwise [val_main_v52, val_main_v51, val_main_v49, val_main_v48]
  simp only [v41_at h0 h1 h2 h3, h5, ← EReal.coe_mul, coe_sum]

end Cert.MlaBwdRefIdeal.At

end
-- ==== Proof.MlaBwdHost.lean ====
module

public import proofs.«01_k».proof.Proof.Gen.MlaBwdIdeal.Frame
public import proofs.«01_k».proof.Proof.MlaBwdRef
public import Idealize.ShloMosaic.Lib.Pipeline.ValueKit

@[expose] public section

set_option maxRecDepth 16384

noncomputable section

/-! # The host lines before the region of `mla_bwd`, over the reals

The forward call's scores are kept in units of `log 2`. Its output and the base-2 logarithm of each row's sum come from
the same weights as the reference's softmax. -/

namespace Cert.MlaBwdIdeal.Value

open Idealize.ShloMosaic Idealize.ShloMosaic.TcCoe Idealize.SL.Sem
open Cert.MlaBwdIdeal Cert.MlaBwdIdeal.Gen
open Cert.Proof Cert.Proof.Reals
open Cert.MlaBwdRefIdeal.At (query key score prob dprob dscore)

/-! ## The lines as functions of the arguments -/

section Lines

variable (x0 x2 x4 : FVec Ideal S4x2048x8x64 .f32) (x1 : FVec Ideal S4x2048x8x32 .f32) (x3 : FVec Ideal S4x2048x32 .f32)

/-- The queries with their rotated lanes. -/
def lineQ : FVec Ideal S4x2048x8x96 .f32 :=
  concatenate S4x2048x8x96 3 [⟨S4x2048x8x64, x0⟩, ⟨S4x2048x8x32, x1⟩] concatenates_S4x2048x8x64_S4x2048x8x32_S4x2048x8x96_d3

/-- The keys with their rotated lanes. -/
def lineK : FVec Ideal S4x2048x8x96 .f32 :=
  concatenate S4x2048x8x96 3 [⟨S4x2048x8x64, x2⟩, ⟨S4x2048x8x32, broadcastInDim S4x2048x8x32 ![0, 1, 2, 3] bcast_S4x2048x1x32_S4x2048x8x32_0_1_2_3
    (broadcastInDim S4x2048x1x32 ![0, 1, 3] bcast_S4x2048x32_S4x2048x1x32_0_1_3 x3)⟩] concatenates_S4x2048x8x64_S4x2048x8x32_S4x2048x8x96_d3

/-- The natural logarithm of 2. -/
def lineLog2 : FVec Ideal S_ .f32 := Host.log (constant S_ .f32 0x40000000#32)

/-- The scores in units of `log 2`. -/
def lineS : FVec Ideal S4x8x2048x2048 .f32 :=
  mulf (Host.dotGeneral dot_S4x2048x8x96_S4x2048x8x96_S4x8x2048x2048_3_3_1_1_02_02 none (lineQ x0 x1) (lineK x2 x3))
    (broadcastInDim S4x8x2048x2048 ![] bcast_S_S4x8x2048x2048 (Host.divf (Host.rsqrt (constant S_ .f32 0x42C00000#32)) lineLog2))

/-- The causal mask. -/
def lineMask : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The masked scores. -/
def lineSel : FVec Ideal S4x8x2048x2048 .f32 :=
  select (broadcastInDim S4x8x2048x2048 ![0, 1, 2, 3] bcast_S1x1x2048x2048_S4x8x2048x2048_0_1_2_3
      (broadcastInDim S1x1x2048x2048 ![2, 3] bcast_S2048x2048_S1x1x2048x2048_2_3 lineMask))
    (lineS x0 x2 x1 x3) (broadcastInDim S4x8x2048x2048 ![] bcast_S_S4x8x2048x2048 (id (constant S_ .f32 0xFF800000#32)))

/-- Each row's largest. -/
def lineMax : FVec Ideal S4x8x2048 .f32 :=
  Host.reduce FloatOps.maximumf (lineSel x0 x2 x1 x3) (constant S_ .f32 0xFF800000#32) reducesTo_S4x8x2048x2048_S4x8x2048_d3 h_S_

/-- The weights. -/
def lineP : FVec Ideal S4x8x2048x2048 .f32 :=
  Host.exp (mulf (broadcastInDim S4x8x2048x2048 ![] bcast_S_S4x8x2048x2048 lineLog2)
    (subf (lineSel x0 x2 x1 x3) (broadcastInDim S4x8x2048x2048 ![0, 1, 2, 3] bcast_S4x8x2048x1_S4x8x2048x2048_0_1_2_3
      (broadcastInDim S4x8x2048x1 ![0, 1, 2] bcast_S4x8x2048_S4x8x2048x1_0_1_2 (lineMax x0 x2 x1 x3)))))

/-- Their sums. -/
def lineL : FVec Ideal S4x8x2048x1 .f32 :=
  broadcastInDim S4x8x2048x1 ![0, 1, 2] bcast_S4x8x2048_S4x8x2048x1_0_1_2
    (Host.reduceAdd (lineP x0 x2 x1 x3) (constant S_ .f32 0x00000000#32) reducesTo_S4x8x2048x2048_S4x8x2048_d3 h_S_)

/-- The forward call's output. -/
def lineO : FVec Ideal S4x8x2048x64 .f32 :=
  mulf (Host.dotGeneral dot_S4x8x2048x2048_S4x2048x8x64_S4x8x2048x64_3_1_2_3_01_02 none (lineP x0 x2 x1 x3) x4)
    (broadcastInDim S4x8x2048x64 ![0, 1, 2, 3] bcast_S4x8x2048x1_S4x8x2048x64_0_1_2_3
      (Host.divf (broadcastInDim S4x8x2048x1 ![] bcast_S_S4x8x2048x1 (constant S_ .f32 0x3F800000#32)) (lineL x0 x2 x1 x3)))

/-- The base-2 logarithm of the rows' sums. -/
def lineLse : FVec Ideal S4x8x2048x1 .f32 :=
  addf (broadcastInDim S4x8x2048x1 ![0, 1, 2] bcast_S4x8x2048_S4x8x2048x1_0_1_2 (lineMax x0 x2 x1 x3))
    (Host.divf (Host.log (lineL x0 x2 x1 x3)) (broadcastInDim S4x8x2048x1 ![] bcast_S_S4x8x2048x1 lineLog2))

/-- The values, their heads side by side. -/
def lineV : FVec Ideal S8192x512 .bf16 :=
  truncf .bf16 (shapeCast S8192x512 (pad S4x2048x8x64 ![0, 0, 0, 0] ![0, 0, 0, 0] ![0, 0, 0, 0] x4 (sitofp .f32 (constantI S_ 32 0#32))
    pads_S4x2048x8x64_S4x2048x8x64_000_000_000_000 h_S_) shapeCasts_S4x2048x8x64_S8192x512) bitsLt_bf16_f32

/-- The output's cotangent, its rows in one axis. -/
def lineD (x5 : FVec Ideal S4x2048x512 .f32) : FVec Ideal S8192x512 .f32 := shapeCast S8192x512 x5 shapeCasts_S4x2048x512_S8192x512

end Lines

section Reals

variable {x0 x2 x4 : FVec Ideal S4x2048x8x64 .f32} {x1 : FVec Ideal S4x2048x8x32 .f32} {x3 : FVec Ideal S4x2048x32 .f32}
  {A0 A2 A4 : S4x2048x8x64.Idx → ℝ} {A1 : S4x2048x8x32.Idx → ℝ} {A3 : S4x2048x32.Idx → ℝ}
  (h0 : ∀ i, x0 i = (A0 i : EReal)) (h1 : ∀ i, x1 i = (A1 i : EReal)) (h2 : ∀ i, x2 i = (A2 i : EReal))
  (h3 : ∀ i, x3 i = (A3 i : EReal)) (h4 : ∀ i, x4 i = (A4 i : EReal))

theorem log2_pos : 0 < Real.log 2 := Real.log_pos (by norm_num)

include h0 h1 in
theorem lineQ_at (b : Fin 4) (i : Fin 2048) (h : Fin 8) (d : Fin 96) : lineQ x0 x1 (ix4 b i h d) = (query A0 A1 b i h d : EReal) := by
  pointwise [lineQ]
  simp only [h0, h1, query]
  split <;> rfl

include h2 h3 in
theorem lineK_at (b : Fin 4) (i : Fin 2048) (h : Fin 8) (d : Fin 96) : lineK x2 x3 (ix4 b i h d) = (key A2 A3 b i h d : EReal) := by
  pointwise [lineK]
  simp only [h2, h3, key]
  split <;> rfl

theorem lineLog2_at : lineLog2 ix0 = ((Real.log 2 : ℝ) : EReal) := by
  pointwise [lineLog2]
  rw [Softmax.ofBits_2, log_coe_pos (by norm_num)]

/-- A score is one sum over the joined lanes. -/
theorem sum_query_key (b : Fin 4) (h : Fin 8) (i j : Fin 2048) :
    (∑ d : Fin 96, query A0 A1 b i h d * key A2 A3 b j h d) * (Real.sqrt 96)⁻¹ = score A0 A1 A2 A3 b h i j := by
  unfold score
  refine congrArg (· * (Real.sqrt 96)⁻¹) ?_
  refine (Fin.sum_univ_add (a := 64) (b := 32) _).trans ?_
  refine congrArg₂ (· + ·) (Finset.sum_congr rfl fun d _ => ?_) (Finset.sum_congr rfl fun d _ => ?_)
  · simp [query, key]
  · simp [query, key]

include h0 h1 h2 h3 in
theorem lineS_at (b : Fin 4) (h : Fin 8) (i j : Fin 2048) :
    lineS x0 x2 x1 x3 (ix4 b h i j) = ((score A0 A1 A2 A3 b h i j / Real.log 2 : ℝ) : EReal) := by
  pointwise [lineS]
  simp only [lineQ_at h0 h1, lineK_at h2 h3, lineLog2_at, Softmax.ofBits_96, rsqrt_coe_pos (show (0:ℝ) < 96 by norm_num),
    div_coe_coe log2_pos.ne', ← EReal.coe_mul, coe_sum]
  rw [← sum_query_key (A0 := A0), mul_div_assoc]

theorem lineMask_at (i j : Fin 2048) : lineMask (ix2 i j) = BitVec.ofBool (decide (j.val ≤ i.val)) := by
  pointwise [lineMask]
  word_cmp

include h0 h1 h2 h3 in
theorem lineSel_at (b : Fin 4) (h : Fin 8) (i j : Fin 2048) :
    lineSel x0 x2 x1 x3 (ix4 b h i j) = Softmax.sel (j.val ≤ i.val) (score A0 A1 A2 A3 b h i j / Real.log 2) := by
  pointwise [lineSel]
  rw [lineMask_at, lineS_at h0 h1 h2 h3, WordCmp.select_decide]
  exact if_congr Iff.rfl rfl Softmax.ofBits_bot

include h0 h1 h2 h3 in
theorem lineMax_at (b : Fin 4) (h : Fin 8) (i : Fin 2048) : ∃ M : ℝ, lineMax x0 x2 x1 x3 (ix3 b h i) = (M : EReal) := by
  obtain ⟨M, hM⟩ := Softmax.max_real (fun k : Fin 2048 => k.val ≤ i.val) (fun j => score A0 A1 A2 A3 b h i j / Real.log 2) ⟨i, le_rfl⟩
  refine ⟨M, ?_⟩
  unfold lineMax
  rw [Softmax.hostReduceMax_axis3]
  simp only [lineSel_at h0 h1 h2 h3]
  rw [← hM]
  exact congrArg (fun e => Finset.univ.fold max e _) Softmax.ofBits_bot

include h0 h1 h2 h3 in
theorem lineP_at (b : Fin 4) (h : Fin 8) (i j : Fin 2048) {M : ℝ} (hM : lineMax x0 x2 x1 x3 (ix3 b h i) = (M : EReal)) :
    lineP x0 x2 x1 x3 (ix4 b h i j) = ((Softmax.wt (j.val ≤ i.val) (score A0 A1 A2 A3 b h i j) / Real.exp (M * Real.log 2) : ℝ) : EReal) := by
  pointwise [lineP]
  rw [lineSel_at h0 h1 h2 h3, hM, lineLog2_at, Softmax.exp_sel_two]

include h0 h1 h2 h3 in
theorem lineL_at (b : Fin 4) (h : Fin 8) (i : Fin 2048) (u : Fin 1) {M : ℝ} (hM : lineMax x0 x2 x1 x3 (ix3 b h i) = (M : EReal)) :
    lineL x0 x2 x1 x3 (ix4 b h i u)
      = ((Softmax.z (fun k : Fin 2048 => k.val ≤ i.val) (score A0 A1 A2 A3 b h i) / Real.exp (M * Real.log 2) : ℝ) : EReal) := by
  pointwise [lineL]
  simp only [lineP_at h0 h1 h2 h3 b h i _ hM, coe_sum, ← Finset.sum_div, Softmax.z]

include h0 h1 h2 h3 h4 in
theorem lineO_at (b : Fin 4) (h : Fin 8) (i : Fin 2048) (e : Fin 64) :
    lineO x0 x2 x4 x1 x3 (ix4 b h i e) = ((∑ j : Fin 2048, prob A0 A1 A2 A3 b h i j * A4 (ix4 b j h e) : ℝ) : EReal) := by
  obtain ⟨M, hM⟩ := lineMax_at h0 h1 h2 h3 b h i
  have hE := Real.exp_pos (M * Real.log 2)
  have hz := Softmax.z_pos (fun k : Fin 2048 => k.val ≤ i.val) (score A0 A1 A2 A3 b h i) ⟨i, le_rfl⟩
  pointwise [lineO]
  simp only [lineP_at h0 h1 h2 h3 b h i _ hM, lineL_at h0 h1 h2 h3 b h i _ hM, h4, ← EReal.coe_one, div_coe_coe (div_pos hz hE).ne',
    ← EReal.coe_mul, coe_sum]
  rw [Finset.sum_mul]
  refine congrArg (fun r : ℝ => (r : EReal)) (Finset.sum_congr rfl fun j _ => ?_)
  rw [prob, Softmax.p]
  field_simp

/-- The last line, whatever the maxima, the sums and the divisor. -/
theorem lse_eq (x : FVec Ideal S4x8x2048 .f32) (l : FVec Ideal S4x8x2048x1 .f32) (g : FVec Ideal S_ .f32) (b : Fin 4) (h : Fin 8) (i : Fin 2048) (u : Fin 1) :
    addf (broadcastInDim S4x8x2048x1 ![0, 1, 2] bcast_S4x8x2048_S4x8x2048x1_0_1_2 x)
        (Host.divf (Host.log l) (broadcastInDim S4x8x2048x1 ![] bcast_S_S4x8x2048x1 g)) (ix4 b h i u)
      = x (ix3 b h i) + Ideal.div (Ideal.log (l (ix4 b h i u))) (g ix0) := by
  pointwise []

include h0 h1 h2 h3 in
theorem lineLse_at (b : Fin 4) (h : Fin 8) (i : Fin 2048) (u : Fin 1) :
    lineLse x0 x2 x1 x3 (ix4 b h i u)
      = ((Real.log (Softmax.z (fun k : Fin 2048 => k.val ≤ i.val) (score A0 A1 A2 A3 b h i)) / Real.log 2 : ℝ) : EReal) := by
  obtain ⟨M, hM⟩ := lineMax_at h0 h1 h2 h3 b h i
  have hE := Real.exp_pos (M * Real.log 2)
  have hz := Softmax.z_pos (fun k : Fin 2048 => k.val ≤ i.val) (score A0 A1 A2 A3 b h i) ⟨i, le_rfl⟩
  rw [lineLse, lse_eq, lineL_at h0 h1 h2 h3 b h i _ hM, hM, lineLog2_at, log_coe_pos (div_pos hz hE), div_coe_coe log2_pos.ne', ← EReal.coe_add,
    Real.log_div hz.ne' hE.ne', Real.log_exp, sub_div, mul_div_cancel_right₀ _ log2_pos.ne', add_sub_cancel]

end Reals

/-! ## The arrays at the region's entry -/

section Entry

/-- The row of batch `b` and position `i`. -/
def rowOf (b : Fin 4) (i : Fin 2048) : Fin 8192 := ⟨b.val * 2048 + i.val, by omega⟩

/-- A row's batch. -/
def rb (r : Fin 8192) : Fin 4 := ⟨r.val / 2048, by omega⟩

/-- A row's position. -/
def ri (r : Fin 8192) : Fin 2048 := ⟨r.val % 2048, by omega⟩

/-- The queries, padded to 128 lanes a head. -/
def qa (A0 : S4x2048x8x64.Idx → ℝ) (A1 : S4x2048x8x32.Idx → ℝ) (r : Fin 8192) (l : Fin 1024) : ℝ :=
  if hd : l.val % 128 < 96 then query A0 A1 (rb r) (ri r) ⟨l.val / 128, by omega⟩ ⟨l.val % 128, hd⟩ else 0

/-- The keys, padded likewise. -/
def ka (A2 : S4x2048x8x64.Idx → ℝ) (A3 : S4x2048x32.Idx → ℝ) (r : Fin 8192) (l : Fin 1024) : ℝ :=
  if hd : l.val % 128 < 96 then key A2 A3 (rb r) (ri r) ⟨l.val / 128, by omega⟩ ⟨l.val % 128, hd⟩ else 0

/-- The values, their heads side by side. -/
def va (A4 : S4x2048x8x64.Idx → ℝ) (r : Fin 8192) (l : Fin 512) : ℝ := A4 (ix4 (rb r) (ri r) ⟨l.val / 64, by omega⟩ ⟨l.val % 64, by omega⟩)

/-- The output's cotangent. -/
def da (A5 : S4x2048x512.Idx → ℝ) (r : Fin 8192) (l : Fin 512) : ℝ := A5 (ix3 (rb r) (ri r) l)

variable (m : (ℓ : Loc nD τ sig) → Buf (Elt Ideal) ℓ) (c : Dev nD)
  {A0 A2 A4 : S4x2048x8x64.Idx → ℝ} {A1 : S4x2048x8x32.Idx → ℝ} {A3 : S4x2048x32.Idx → ℝ} {A5 : S4x2048x512.Idx → ℝ}

/-- The entry's contents, the host lines in one list. -/
theorem entry_after (b : Ref sig .tc) : V m c b = StableHlo.after (hostOps0 ++ (hostOps0_1 ++ (hostOps0_2 ++ (hostOps0_3 ++ (hostOps0_4 ++ (hostOps0_5
    ++ (hostOps0_6 ++ (hostOps0_7 ++ hostOps0_8)))))))) (fun b => m (c, b)) (Proc.devRef .tc b) := rfl

theorem entry0_eq : V m c main_v44 = truncf .bf16 (shapeCast S8192x1024 (pad S4x2048x8x128 ![0, 0, 0, 0] ![0, 0, 0, 32] ![0, 0, 0, 0]
    (lineQ (m ((c.tc : Thread nD τ).loc main_arg0)) (m ((c.tc : Thread nD τ).loc main_arg1))) (sitofp .f32 (constantI S_ 32 0#32))
    pads_S4x2048x8x96_S4x2048x8x128_000_000_000_0320 h_S_) shapeCasts_S4x2048x8x128_S8192x1024) bitsLt_bf16_f32 := by
  entry_read
  rfl

theorem entry1_eq : V m c main_v47 = truncf .bf16 (shapeCast S8192x1024 (pad S4x2048x8x128 ![0, 0, 0, 0] ![0, 0, 0, 32] ![0, 0, 0, 0]
    (lineK (m ((c.tc : Thread nD τ).loc main_arg2)) (m ((c.tc : Thread nD τ).loc main_arg3))) (sitofp .f32 (constantI S_ 32 0#32))
    pads_S4x2048x8x96_S4x2048x8x128_000_000_000_0320 h_S_) shapeCasts_S4x2048x8x128_S8192x1024) bitsLt_bf16_f32 := by
  entry_read
  rfl

theorem entry2_eq : V m c main_v50 = lineV (m ((c.tc : Thread nD τ).loc main_arg4)) := by
  entry_read
  rfl

theorem entry3_eq : V m c main_v51 = lineD (m ((c.tc : Thread nD τ).loc main_arg5)) := by
  entry_read
  rfl

theorem entry4_eq : V m c main_v34 = shapeCast S8192x512 (transpose S4x2048x8x64 [0, 2, 1, 3]
    (lineO (m ((c.tc : Thread nD τ).loc main_arg0)) (m ((c.tc : Thread nD τ).loc main_arg2)) (m ((c.tc : Thread nD τ).loc main_arg4)) (m ((c.tc : Thread nD τ).loc main_arg1)) (m ((c.tc : Thread nD τ).loc main_arg3))) transposes_S4x8x2048x64_S4x2048x8x64_0_2_1_3) shapeCasts_S4x2048x8x64_S8192x512 := by
  show StableHlo.after (hostOps0 ++ (hostOps0_1 ++ (hostOps0_2 ++ (hostOps0_3 ++ (hostOps0_4 ++ (hostOps0_5 ++ (hostOps0_6 ++ (hostOps0_7 ++ hostOps0_8)))))))) _ _ = _
  simp only [hostOps0, hostOps0_1, hostOps0_2, hostOps0_3, hostOps0_4, hostOps0_5, hostOps0_6, hostOps0_7, hostOps0_8, List.cons_append, List.nil_append]
  after_results
  rfl

theorem line4 : V m c main_v4 = lineLog2 := by
  rw [entry_after m c main_v4]
  simp only [hostOps0, hostOps0_1, hostOps0_2, hostOps0_3, hostOps0_4, hostOps0_5, hostOps0_6, hostOps0_7, hostOps0_8, List.cons_append, List.nil_append]
  after_results
  rfl

theorem line19 : V m c main_v19 = lineMax (m ((c.tc : Thread nD τ).loc main_arg0)) (m ((c.tc : Thread nD τ).loc main_arg2)) (m ((c.tc : Thread nD τ).loc main_arg1)) (m ((c.tc : Thread nD τ).loc main_arg3)) := by
  rw [entry_after m c main_v19]
  simp only [hostOps0, hostOps0_1, hostOps0_2, hostOps0_3, hostOps0_4, hostOps0_5, hostOps0_6, hostOps0_7, hostOps0_8, List.cons_append, List.nil_append]
  after_results
  rfl

theorem line27 : V m c main_v27 = lineL (m ((c.tc : Thread nD τ).loc main_arg0)) (m ((c.tc : Thread nD τ).loc main_arg2)) (m ((c.tc : Thread nD τ).loc main_arg1)) (m ((c.tc : Thread nD τ).loc main_arg3)) := by
  rw [entry_after m c main_v27]
  simp only [hostOps0, hostOps0_1, hostOps0_2, hostOps0_3, hostOps0_4, hostOps0_5, hostOps0_6, hostOps0_7, hostOps0_8, List.cons_append, List.nil_append]
  after_results
  rfl

theorem line38 : V m c main_v38 = lineLse (m ((c.tc : Thread nD τ).loc main_arg0)) (m ((c.tc : Thread nD τ).loc main_arg2)) (m ((c.tc : Thread nD τ).loc main_arg1)) (m ((c.tc : Thread nD τ).loc main_arg3)) := by
  unfold lineLse
  rw [← line4 m c, ← line19 m c, ← line27 m c]
  rw [entry_after m c main_v38, entry_after m c main_v4, entry_after m c main_v19, entry_after m c main_v27]
  simp only [hostOps0, hostOps0_1, hostOps0_2, hostOps0_3, hostOps0_4, hostOps0_5, hostOps0_6, hostOps0_7, hostOps0_8, List.cons_append, List.nil_append]
  after_results

theorem entry5_eq : V m c main_v41 = shapeCast S8192x512 (transpose S4x2048x8x64 [0, 2, 1, 3]
    (broadcastInDim S4x8x2048x64 ![0, 1, 2, 3] bcast_S4x8x2048x1_S4x8x2048x64_0_1_2_3 (lineLse (m ((c.tc : Thread nD τ).loc main_arg0)) (m ((c.tc : Thread nD τ).loc main_arg2)) (m ((c.tc : Thread nD τ).loc main_arg1)) (m ((c.tc : Thread nD τ).loc main_arg3))))
    transposes_S4x8x2048x64_S4x2048x8x64_0_2_1_3) shapeCasts_S4x2048x8x64_S8192x512 := by
  rw [← line38 m c]
  rw [entry_after m c main_v41, entry_after m c main_v38]
  simp only [hostOps0, hostOps0_1, hostOps0_2, hostOps0_3, hostOps0_4, hostOps0_5, hostOps0_6, hostOps0_7, hostOps0_8, List.cons_append, List.nil_append]
  after_results
  rfl

/-- A padded array's lanes, whatever it pads. -/
theorem padded (x : FVec Ideal S4x2048x8x96 .f32) (j0 : Fin 8192) (j1 : Fin 1024) :
    truncf .bf16 (shapeCast S8192x1024 (pad S4x2048x8x128 ![0, 0, 0, 0] ![0, 0, 0, 32] ![0, 0, 0, 0]
      x (sitofp .f32 (constantI S_ 32 0#32))
      pads_S4x2048x8x96_S4x2048x8x128_000_000_000_0320 h_S_) shapeCasts_S4x2048x8x128_S8192x1024) bitsLt_bf16_f32 (ix2 j0 j1)
    = if hd : j1.val % 128 < 96 then x (ix4 (rb j0) (ri j0) ⟨j1.val / 128, by omega⟩ ⟨j1.val % 128, hd⟩) else 0 := by
  pointwise []
  refine dite_congr (propext ⟨fun h => h.2.2.2, fun h => ⟨by omega, by omega, by omega, h⟩⟩) (fun _ => rfl) fun _ => ?_
  show (((0#32 : BitVec 32).toInt : ℝ) : EReal) = 0
  simp

/-- A transposed array's lanes. -/
theorem heads (x : FVec Ideal S4x8x2048x64 .f32) (j0 : Fin 8192) (j1 : Fin 512) :
    shapeCast S8192x512 (transpose S4x2048x8x64 [0, 2, 1, 3] x transposes_S4x8x2048x64_S4x2048x8x64_0_2_1_3) shapeCasts_S4x2048x8x64_S8192x512 (ix2 j0 j1)
      = x (ix4 (rb j0) ⟨j1.val / 64, by omega⟩ (ri j0) ⟨j1.val % 64, by omega⟩) := by
  pointwise []
  rfl

/-- The forward call's output, its heads side by side. -/
def oa (A0 : S4x2048x8x64.Idx → ℝ) (A1 : S4x2048x8x32.Idx → ℝ) (A2 : S4x2048x8x64.Idx → ℝ) (A3 : S4x2048x32.Idx → ℝ)
    (A4 : S4x2048x8x64.Idx → ℝ) (r : Fin 8192) (l : Fin 512) : ℝ :=
  ∑ j : Fin 2048, prob A0 A1 A2 A3 (rb r) ⟨l.val / 64, by omega⟩ (ri r) j * A4 (ix4 (rb r) j ⟨l.val / 64, by omega⟩ ⟨l.val % 64, by omega⟩)

/-- The sums' logarithms, the same in every lane of a head. -/
def la (A0 : S4x2048x8x64.Idx → ℝ) (A1 : S4x2048x8x32.Idx → ℝ) (A2 : S4x2048x8x64.Idx → ℝ) (A3 : S4x2048x32.Idx → ℝ) (r : Fin 8192) (l : Fin 512) : ℝ :=
  Real.log (Softmax.z (fun k : Fin 2048 => k.val ≤ (ri r).val) (score A0 A1 A2 A3 (rb r) ⟨l.val / 64, by omega⟩ (ri r))) / Real.log 2

variable
  (h0 : ∀ i, m ((c.tc : Thread nD τ).loc main_arg0) i = (A0 i : EReal)) (h1 : ∀ i, m ((c.tc : Thread nD τ).loc main_arg1) i = (A1 i : EReal))
  (h2 : ∀ i, m ((c.tc : Thread nD τ).loc main_arg2) i = (A2 i : EReal)) (h3 : ∀ i, m ((c.tc : Thread nD τ).loc main_arg3) i = (A3 i : EReal))
  (h4 : ∀ i, m ((c.tc : Thread nD τ).loc main_arg4) i = (A4 i : EReal)) (h5 : ∀ i, m ((c.tc : Thread nD τ).loc main_arg5) i = (A5 i : EReal))

include h0 h1 in
theorem entry0 (r : Fin 8192) (l : Fin 1024) : V m c main_v44 (ix2 r l) = (qa A0 A1 r l : EReal) := by
  rw [entry0_eq, padded, qa]
  simp only [lineQ_at h0 h1]
  split <;> rfl

include h2 h3 in
theorem entry1 (r : Fin 8192) (l : Fin 1024) : V m c main_v47 (ix2 r l) = (ka A2 A3 r l : EReal) := by
  rw [entry1_eq, padded, ka]
  simp only [lineK_at h2 h3]
  split <;> rfl

include h4 in
theorem entry2 (r : Fin 8192) (l : Fin 512) : V m c main_v50 (ix2 r l) = (va A4 r l : EReal) := by
  rw [entry2_eq]
  pointwise [lineV]
  exact (dif_pos ⟨by omega, by omega, by omega, by omega⟩).trans (h4 _)

include h5 in
theorem entry3 (r : Fin 8192) (l : Fin 512) : V m c main_v51 (ix2 r l) = (da A5 r l : EReal) := by
  rw [entry3_eq]
  pointwise [lineD]
  exact h5 _

include h0 h1 h2 h3 h4 in
theorem entry4 (r : Fin 8192) (l : Fin 512) : V m c main_v34 (ix2 r l) = (oa A0 A1 A2 A3 A4 r l : EReal) := by
  rw [entry4_eq, heads]
  exact lineO_at h0 h1 h2 h3 h4 _ _ _ _

/-- A column in every lane. -/
theorem lanes (x : FVec Ideal S4x8x2048x1 .f32) (b : Fin 4) (h : Fin 8) (i : Fin 2048) (e : Fin 64) :
    broadcastInDim S4x8x2048x64 ![0, 1, 2, 3] bcast_S4x8x2048x1_S4x8x2048x64_0_1_2_3 x (ix4 b h i e) = x (ix4 b h i 0) := by
  pointwise []

include h0 h1 h2 h3 in
theorem entry5 (r : Fin 8192) (l : Fin 512) : V m c main_v41 (ix2 r l) = (la A0 A1 A2 A3 r l : EReal) := by
  rw [entry5_eq, heads, lanes]
  exact lineLse_at h0 h1 h2 h3 _ _ _ _

end Entry

end Cert.MlaBwdIdeal.Value

end
-- ==== Proof.MlaBwdArrays.lean ====
module

public import proofs.«01_k».proof.Proof.MlaBwdKernel
public import proofs.«01_k».proof.Proof.MlaBwdHost

@[expose] public section

set_option maxRecDepth 16384

noncomputable section

/-! # The arrays that the region of `mla_bwd` leaves, over the reals

A grid point handles one batch and one pair of heads. On its blocks the kernel's probabilities are the softmax's, since
the rows' logarithms are those of the softmax's sums, and the padded lanes are zero. -/

namespace Cert.MlaBwdIdeal.Value

open Idealize.ShloMosaic Idealize.ShloMosaic.TcCoe Idealize.SL.Sem
open Idealize.ShloMosaic.Pipeline (Dat)
open Cert.MlaBwdIdeal Cert.MlaBwdIdeal.Gen
open Cert.Proof Cert.Proof.Reals
open Cert.MlaBwdRefIdeal.At (query key score prob dprob dscore)

/-- The head of a pair's half. -/
def hd (p : Fin 4) (h : Fin 2) : Fin 8 := ⟨p.val * 2 + h.val, by omega⟩

/-- A pair's 256 lanes of the padded arrays. -/
def tile2 (E : Fin 8192 → Fin 1024 → ℝ) (b p : Fin 4) (y : S2048x256.Idx) : ℝ :=
  E (rowOf b (y 0)) ⟨p.val * 256 + (y 1).val, by have h : (y 1).val < 256 := (y 1).isLt; omega⟩

/-- A pair's 128 lanes of the others. -/
def tile1 (E : Fin 8192 → Fin 512 → ℝ) (b p : Fin 4) (y : S2048x128.Idx) : ℝ :=
  E (rowOf b (y 0)) ⟨p.val * 128 + (y 1).val, by have h : (y 1).val < 128 := (y 1).isLt; omega⟩

theorem rb_rowOf (b : Fin 4) (i : Fin 2048) : rb (rowOf b i) = b := Fin.ext (by simp only [rb, rowOf]; omega)
theorem ri_rowOf (b : Fin 4) (i : Fin 2048) : ri (rowOf b i) = i := Fin.ext (by simp only [ri, rowOf]; omega)

/-- A sum over a half's own lanes of a pair. -/
theorem sum_half (h : Fin 2) (f : Fin 128 → ℝ) :
    (∑ e : Fin 128, if e.val / 64 = h.val then f e else 0) = ∑ e : Fin 64, f ⟨h.val * 64 + e.val, by omega⟩ := by
  refine (Fin.sum_univ_add (a := 64) (b := 64) _).trans ?_
  obtain rfl | rfl : h = 0 ∨ h = 1 := by omega
  · refine (congrArg₂ (· + ·) (Finset.sum_congr rfl fun e _ => ?_) (Finset.sum_eq_zero fun e _ => ?_)).trans (add_zero _)
    · rw [if_pos (show (Fin.castAdd 64 e).val / 64 = (0 : Fin 2).val by simp)]
      exact congrArg f (Fin.ext (by simp))
    · exact if_neg (by simp)
  · refine (congrArg₂ (· + ·) (Finset.sum_eq_zero fun e _ => ?_) (Finset.sum_congr rfl fun e _ => ?_)).trans (zero_add _)
    · exact if_neg (by simp; omega)
    · rw [if_pos (show (Fin.natAdd 64 e).val / 64 = (1 : Fin 2).val by simp)]
      exact congrArg f (Fin.ext (by simp; omega))

/-- A sum over a head's padded lanes. -/
theorem sum_padded (f : Fin 96 → ℝ) : (∑ e : Fin 128, if he : e.val < 96 then f ⟨e.val, he⟩ else 0) = ∑ e : Fin 96, f e := by
  refine (Fin.sum_univ_add (a := 96) (b := 32) _).trans ?_
  refine (congrArg₂ (· + ·) (Finset.sum_congr rfl fun e _ => ?_) (Finset.sum_eq_zero fun e _ => ?_)).trans (add_zero _)
  · exact dif_pos e.isLt
  · exact dif_neg (by simp)

section Point

variable (A0 : S4x2048x8x64.Idx → ℝ) (A1 : S4x2048x8x32.Idx → ℝ) (A2 : S4x2048x8x64.Idx → ℝ) (A3 : S4x2048x32.Idx → ℝ)
  (A4 : S4x2048x8x64.Idx → ℝ) (A5 : S4x2048x512.Idx → ℝ) (b p : Fin 4) (h : Fin 2)

theorem qa_at (i : Fin 2048) (e : Fin 128) : tile2 (qa A0 A1) b p (ix2 i (hl h e))
    = if he : e.val < 96 then query A0 A1 b i (hd p h) ⟨e.val, he⟩ else 0 := by
  have h1 : (p.val * 256 + (h.val * 128 + e.val)) % 128 = e.val := by omega
  have h2 : (p.val * 256 + (h.val * 128 + e.val)) / 128 = p.val * 2 + h.val := by omega
  show qa A0 A1 (rowOf b i) ⟨p.val * 256 + (h.val * 128 + e.val), _⟩ = _
  simp only [qa, rb_rowOf, ri_rowOf, h1, h2]
  rfl

theorem ka_at (i : Fin 2048) (e : Fin 128) : tile2 (ka A2 A3) b p (ix2 i (hl h e))
    = if he : e.val < 96 then key A2 A3 b i (hd p h) ⟨e.val, he⟩ else 0 := by
  have h1 : (p.val * 256 + (h.val * 128 + e.val)) % 128 = e.val := by omega
  have h2 : (p.val * 256 + (h.val * 128 + e.val)) / 128 = p.val * 2 + h.val := by omega
  show ka A2 A3 (rowOf b i) ⟨p.val * 256 + (h.val * 128 + e.val), _⟩ = _
  simp only [ka, rb_rowOf, ri_rowOf, h1, h2]
  rfl

/-- A pair's lane of a head. -/
theorem lane_at (e : Fin 64) : (⟨p.val * 128 + (h.val * 64 + e.val), by omega⟩ : Fin 512) = ⟨(hd p h).val * 64 + e.val, by omega⟩ :=
  Fin.ext (by simp only [hd]; omega)

theorem div_lane (hh : Fin 8) (e : Fin 64) : (⟨(hh.val * 64 + e.val) / 64, by omega⟩ : Fin 8) = hh := Fin.ext (by simp only; omega)
theorem mod_lane (hh : Fin 8) (e : Fin 64) : (⟨(hh.val * 64 + e.val) % 64, by omega⟩ : Fin 64) = e := Fin.ext (by simp only; omega)

theorem va_at (j : Fin 2048) (e : Fin 64) : tile1 (va A4) b p (ix2 j ⟨h.val * 64 + e.val, by omega⟩) = A4 (ix4 b j (hd p h) e) := by
  show va A4 (rowOf b j) ⟨p.val * 128 + (h.val * 64 + e.val), _⟩ = _
  rw [lane_at p h e]
  simp only [va, rb_rowOf, ri_rowOf, div_lane, mod_lane]

theorem da_at (i : Fin 2048) (e : Fin 64) : tile1 (da A5) b p (ix2 i ⟨h.val * 64 + e.val, by omega⟩) = A5 (ix3 b i ⟨(hd p h).val * 64 + e.val, by omega⟩) := by
  show da A5 (rowOf b i) ⟨p.val * 128 + (h.val * 64 + e.val), _⟩ = _
  rw [lane_at p h e]
  simp only [da, rb_rowOf, ri_rowOf]

theorem oa_at (i : Fin 2048) (e : Fin 64) : tile1 (oa A0 A1 A2 A3 A4) b p (ix2 i ⟨h.val * 64 + e.val, by omega⟩)
    = ∑ j : Fin 2048, prob A0 A1 A2 A3 b (hd p h) i j * A4 (ix4 b j (hd p h) e) := by
  show oa A0 A1 A2 A3 A4 (rowOf b i) ⟨p.val * 128 + (h.val * 64 + e.val), _⟩ = _
  rw [lane_at p h e]
  simp only [oa, rb_rowOf, ri_rowOf, div_lane, mod_lane]

theorem la_at (i : Fin 2048) : tile1 (la A0 A1 A2 A3) b p (ix2 i (lc h))
    = Real.log (Softmax.z (fun k : Fin 2048 => k.val ≤ i.val) (score A0 A1 A2 A3 b (hd p h) i)) / Real.log 2 := by
  show la A0 A1 A2 A3 (rowOf b i) ⟨p.val * 128 + (h.val * 64 + (0 : Fin 64).val), _⟩ = _
  rw [lane_at p h 0]
  simp only [la, rb_rowOf, ri_rowOf, div_lane]

/-- The kernel's scores are the reference's, but for the scale. -/
theorem S_eq (i j : Fin 2048) : S (tile2 (qa A0 A1) b p) (tile2 (ka A2 A3) b p) h i j * (Real.sqrt 96)⁻¹ = score A0 A1 A2 A3 b (hd p h) i j := by
  rw [← sum_query_key, S]
  refine congrArg (· * (Real.sqrt 96)⁻¹) ?_
  rw [← sum_padded fun d => query A0 A1 b i (hd p h) d * key A2 A3 b j (hd p h) d]
  refine Finset.sum_congr rfl fun e _ => ?_
  rw [qa_at, ka_at]
  split
  · rfl
  · exact mul_zero 0

/-- The kernel's probabilities are the softmax's. -/
theorem P_eq (i j : Fin 2048) : P (tile2 (qa A0 A1) b p) (tile2 (ka A2 A3) b p) (tile1 (la A0 A1 A2 A3) b p) h i j = prob A0 A1 A2 A3 b (hd p h) i j := by
  have hz := Softmax.z_pos (fun k : Fin 2048 => k.val ≤ i.val) (score A0 A1 A2 A3 b (hd p h) i) ⟨i, le_rfl⟩
  rw [P, la_at, sl, ← mul_assoc, S_eq, prob, Softmax.p, Softmax.wt]
  by_cases hji : j ≤ i
  · rw [if_pos hji, if_pos (show j.val ≤ i.val from hji), ← div_eq_mul_inv, ← sub_div]
    rw [Real.rpow_eq_pow, Real.rpow_def_of_pos (by norm_num), mul_div_cancel₀ _ log2_pos.ne', Real.exp_sub, Real.exp_log hz]
  · rw [if_neg hji, if_neg (show ¬ j.val ≤ i.val from hji), zero_div]

/-- The cotangent of a probability. -/
theorem dots_v (i j : Fin 2048) : (∑ e : Fin 128, Dm (tile1 (da A5) b p) h i e * tile1 (va A4) b p (ix2 j e)) = dprob A4 A5 b (hd p h) i j := by
  refine Eq.trans ?_ ((sum_half h fun e => tile1 (da A5) b p (ix2 i e) * tile1 (va A4) b p (ix2 j e)).trans ?_)
  · refine Finset.sum_congr rfl fun e _ => ?_
    rw [Dm]; split
    · rfl
    · exact zero_mul _
  · exact Finset.sum_congr rfl fun e _ => by rw [da_at, va_at]

/-- The cotangents' mean. -/
theorem dots_o (i : Fin 2048) : (∑ e : Fin 128, Dm (tile1 (da A5) b p) h i e * tile1 (oa A0 A1 A2 A3 A4) b p (ix2 i e))
    = ∑ k : Fin 2048, prob A0 A1 A2 A3 b (hd p h) i k * dprob A4 A5 b (hd p h) i k := by
  refine Eq.trans ?_ ((sum_half h fun e => tile1 (da A5) b p (ix2 i e) * tile1 (oa A0 A1 A2 A3 A4) b p (ix2 i e)).trans ?_)
  · refine Finset.sum_congr rfl fun e _ => ?_
    rw [Dm]; split
    · rfl
    · exact zero_mul _
  · simp only [da_at, oa_at, dprob, Finset.mul_sum]
    rw [Finset.sum_comm]
    exact Finset.sum_congr rfl fun k _ => Finset.sum_congr rfl fun e _ => by ring

/-- The kernel's scores' cotangents are the reference's. -/
theorem dS_eq (i j : Fin 2048) : dS (tile2 (qa A0 A1) b p) (tile2 (ka A2 A3) b p) (tile1 (va A4) b p) (tile1 (da A5) b p)
    (tile1 (oa A0 A1 A2 A3 A4) b p) (tile1 (la A0 A1 A2 A3) b p) h i j = dscore A0 A1 A2 A3 A4 A5 b (hd p h) i j := by
  rw [dS, P_eq, dots_v, dots_o]
  rfl

theorem gq_eq (i : Fin 2048) (d : Fin 128) : gq (tile2 (qa A0 A1) b p) (tile2 (ka A2 A3) b p) (tile1 (va A4) b p) (tile1 (da A5) b p)
    (tile1 (oa A0 A1 A2 A3 A4) b p) (tile1 (la A0 A1 A2 A3) b p) h i d
    = if hx : d.val < 96 then ∑ j : Fin 2048, dscore A0 A1 A2 A3 A4 A5 b (hd p h) i j * key A2 A3 b j (hd p h) ⟨d.val, hx⟩ else 0 := by
  rw [gq]
  simp only [dS_eq, ka_at]
  split
  · rfl
  · simp only [mul_zero, Finset.sum_const_zero]

theorem gk_eq (j : Fin 2048) (d : Fin 128) : gk (tile2 (qa A0 A1) b p) (tile2 (ka A2 A3) b p) (tile1 (va A4) b p) (tile1 (da A5) b p)
    (tile1 (oa A0 A1 A2 A3 A4) b p) (tile1 (la A0 A1 A2 A3) b p) h j d
    = if hx : d.val < 96 then ∑ i : Fin 2048, dscore A0 A1 A2 A3 A4 A5 b (hd p h) i j * query A0 A1 b i (hd p h) ⟨d.val, hx⟩ else 0 := by
  rw [gk]
  simp only [dS_eq, qa_at]
  split
  · exact Finset.sum_congr rfl fun i _ => mul_comm _ _
  · simp only [zero_mul, Finset.sum_const_zero]

/-- A lane of the values' gradient comes from its own half alone. -/
theorem gv_eq (j : Fin 2048) (e : Fin 64) :
    gv (tile2 (qa A0 A1) b p) (tile2 (ka A2 A3) b p) (tile1 (da A5) b p) (tile1 (la A0 A1 A2 A3) b p) 0 j ⟨h.val * 64 + e.val, by omega⟩
      + gv (tile2 (qa A0 A1) b p) (tile2 (ka A2 A3) b p) (tile1 (da A5) b p) (tile1 (la A0 A1 A2 A3) b p) 1 j ⟨h.val * 64 + e.val, by omega⟩
    = ∑ i : Fin 2048, A5 (ix3 b i ⟨(hd p h).val * 64 + e.val, by omega⟩) * prob A0 A1 A2 A3 b (hd p h) i j := by
  have hz : ∀ h' : Fin 2, h' ≠ h → gv (tile2 (qa A0 A1) b p) (tile2 (ka A2 A3) b p) (tile1 (da A5) b p) (tile1 (la A0 A1 A2 A3) b p) h' j ⟨h.val * 64 + e.val, by omega⟩ = 0 := by
    intro h' hn
    refine Finset.sum_eq_zero fun i _ => ?_
    rw [Dm, if_neg (fun hh => hn (Fin.ext (by simp only at hh; omega))), zero_mul]
  have ho : gv (tile2 (qa A0 A1) b p) (tile2 (ka A2 A3) b p) (tile1 (da A5) b p) (tile1 (la A0 A1 A2 A3) b p) h j ⟨h.val * 64 + e.val, by omega⟩
      = ∑ i : Fin 2048, A5 (ix3 b i ⟨(hd p h).val * 64 + e.val, by omega⟩) * prob A0 A1 A2 A3 b (hd p h) i j := by
    refine Finset.sum_congr rfl fun i _ => ?_
    rw [Dm, if_pos (by simp only; omega), P_eq, da_at]
  obtain rfl | rfl : h = 0 ∨ h = 1 := by omega
  · rw [hz 1 (by decide), ho, add_zero]
  · rw [hz 0 (by decide), ho, zero_add]

end Point

/-! ## The region's arrays -/

section Region

variable (m : (ℓ : Loc nD τ sig) → Buf (Elt Ideal) ℓ)

/-- A point's batch. -/
def pb (t : Fin cfg0.N) : Fin 4 := ⟨t.val / 4, by have := t.isLt; have : cfg0.N = 16 := N_0; omega⟩

/-- A point's pair of heads. -/
def pp (t : Fin cfg0.N) : Fin 4 := ⟨t.val % 4, by omega⟩

/-- The windows' block indices: the point's batch and its pair. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4]
    ∧ win0_5.index t = ![t.val / 4, t.val % 4] ∧ win0_6.index t = ![t.val / 4, t.val % 4] ∧ win0_7.index t = ![t.val / 4, t.val % 4]
    ∧ win0_8.index t = ![t.val / 4, t.val % 4] :=
  (by decide +kernel : ∀ t : Fin grid0.N, _)

variable {m} (c : Dev nD)
  {A0 A2 A4 : S4x2048x8x64.Idx → ℝ} {A1 : S4x2048x8x32.Idx → ℝ} {A3 : S4x2048x32.Idx → ℝ} {A5 : S4x2048x512.Idx → ℝ}
  (h0 : ∀ i, m ((c.tc : Thread nD τ).loc main_arg0) i = (A0 i : EReal)) (h1 : ∀ i, m ((c.tc : Thread nD τ).loc main_arg1) i = (A1 i : EReal))
  (h2 : ∀ i, m ((c.tc : Thread nD τ).loc main_arg2) i = (A2 i : EReal)) (h3 : ∀ i, m ((c.tc : Thread nD τ).loc main_arg3) i = (A3 i : EReal))
  (h4 : ∀ i, m ((c.tc : Thread nD τ).loc main_arg4) i = (A4 i : EReal)) (h5 : ∀ i, m ((c.tc : Thread nD τ).loc main_arg5) i = (A5 i : EReal))

/-- Window 0 of a point reads its pair's lanes of its batch's rows. -/
theorem read0 (X : S8192x1024.Idx → EReal) (t : Fin cfg0.N) (y : S2048x256.Idx) : ((cfg0.win 0).blk t).view.read (Elt Ideal) X y
    = X (ix2 (rowOf (pb t) (y 0)) ⟨(pp t).val * 256 + (y 1).val, by have h : (y 1).val < 256 := (y 1).isLt; omega⟩) := by
  blk_ext [idx t, rowOf, pb, pp]

include h0 h1 in
theorem blk0 (t : Fin cfg0.N) (y) : iblk m c 0 t y = (tile2 (qa A0 A1) (pb t) (pp t) y : EReal) :=
  (read0 _ t y).trans (entry0 m c h0 h1 _ _)

/-- Window 1 of a point reads its pair's lanes of its batch's rows. -/
theorem read1 (X : S8192x1024.Idx → EReal) (t : Fin cfg0.N) (y : S2048x256.Idx) : ((cfg0.win 1).blk t).view.read (Elt Ideal) X y
    = X (ix2 (rowOf (pb t) (y 0)) ⟨(pp t).val * 256 + (y 1).val, by have h : (y 1).val < 256 := (y 1).isLt; omega⟩) := by
  blk_ext [idx t, rowOf, pb, pp]

include h2 h3 in
theorem blk1 (t : Fin cfg0.N) (y) : iblk m c 1 t y = (tile2 (ka A2 A3) (pb t) (pp t) y : EReal) :=
  (read1 _ t y).trans (entry1 m c h2 h3 _ _)

/-- Window 2 of a point reads its pair's lanes of its batch's rows. -/
theorem read2 (X : S8192x512.Idx → EReal) (t : Fin cfg0.N) (y : S2048x128.Idx) : ((cfg0.win 2).blk t).view.read (Elt Ideal) X y
    = X (ix2 (rowOf (pb t) (y 0)) ⟨(pp t).val * 128 + (y 1).val, by have h : (y 1).val < 128 := (y 1).isLt; omega⟩) := by
  blk_ext [idx t, rowOf, pb, pp]

include h4 in
theorem blk2 (t : Fin cfg0.N) (y) : iblk m c 2 t y = (tile1 (va A4) (pb t) (pp t) y : EReal) :=
  (read2 _ t y).trans (entry2 m c h4 _ _)

/-- Window 3 of a point reads its pair's lanes of its batch's rows. -/
theorem read3 (X : S8192x512.Idx → EReal) (t : Fin cfg0.N) (y : S2048x128.Idx) : ((cfg0.win 3).blk t).view.read (Elt Ideal) X y
    = X (ix2 (rowOf (pb t) (y 0)) ⟨(pp t).val * 128 + (y 1).val, by have h : (y 1).val < 128 := (y 1).isLt; omega⟩) := by
  blk_ext [idx t, rowOf, pb, pp]

include h5 in
theorem blk3 (t : Fin cfg0.N) (y) : iblk m c 3 t y = (tile1 (da A5) (pb t) (pp t) y : EReal) :=
  (read3 _ t y).trans (entry3 m c h5 _ _)

/-- Window 4 of a point reads its pair's lanes of its batch's rows. -/
theorem read4 (X : S8192x512.Idx → EReal) (t : Fin cfg0.N) (y : S2048x128.Idx) : ((cfg0.win 4).blk t).view.read (Elt Ideal) X y
    = X (ix2 (rowOf (pb t) (y 0)) ⟨(pp t).val * 128 + (y 1).val, by have h : (y 1).val < 128 := (y 1).isLt; omega⟩) := by
  blk_ext [idx t, rowOf, pb, pp]

include h0 h1 h2 h3 h4 in
theorem blk4 (t : Fin cfg0.N) (y) : iblk m c 4 t y = (tile1 (oa A0 A1 A2 A3 A4) (pb t) (pp t) y : EReal) :=
  (read4 _ t y).trans (entry4 m c h0 h1 h2 h3 h4 _ _)

/-- Window 5 of a point reads its pair's lanes of its batch's rows. -/
theorem read5 (X : S8192x512.Idx → EReal) (t : Fin cfg0.N) (y : S2048x128.Idx) : ((cfg0.win 5).blk t).view.read (Elt Ideal) X y
    = X (ix2 (rowOf (pb t) (y 0)) ⟨(pp t).val * 128 + (y 1).val, by have h : (y 1).val < 128 := (y 1).isLt; omega⟩) := by
  blk_ext [idx t, rowOf, pb, pp]

include h0 h1 h2 h3 in
theorem blk5 (t : Fin cfg0.N) (y) : iblk m c 5 t y = (tile1 (la A0 A1 A2 A3) (pb t) (pp t) y : EReal) :=
  (read5 _ t y).trans (entry5 m c h0 h1 h2 h3 _ _)

/-- The queries' gradient at a row and a padded lane. -/
def fq (A0 : S4x2048x8x64.Idx → ℝ) (A1 : S4x2048x8x32.Idx → ℝ) (A2 : S4x2048x8x64.Idx → ℝ) (A3 : S4x2048x32.Idx → ℝ)
    (A4 : S4x2048x8x64.Idx → ℝ) (A5 : S4x2048x512.Idx → ℝ) (r : Fin 8192) (l : Fin 1024) : ℝ :=
  if hx : l.val % 128 < 96 then ∑ j : Fin 2048, dscore A0 A1 A2 A3 A4 A5 (rb r) ⟨l.val / 128, by omega⟩ (ri r) j
    * key A2 A3 (rb r) j ⟨l.val / 128, by omega⟩ ⟨l.val % 128, hx⟩ else 0

/-- The keys' gradient likewise. -/
def fk (A0 : S4x2048x8x64.Idx → ℝ) (A1 : S4x2048x8x32.Idx → ℝ) (A2 : S4x2048x8x64.Idx → ℝ) (A3 : S4x2048x32.Idx → ℝ)
    (A4 : S4x2048x8x64.Idx → ℝ) (A5 : S4x2048x512.Idx → ℝ) (r : Fin 8192) (l : Fin 1024) : ℝ :=
  if hx : l.val % 128 < 96 then ∑ i : Fin 2048, dscore A0 A1 A2 A3 A4 A5 (rb r) ⟨l.val / 128, by omega⟩ i (ri r)
    * query A0 A1 (rb r) i ⟨l.val / 128, by omega⟩ ⟨l.val % 128, hx⟩ else 0

/-- The values' gradient at a row and a lane. -/
def fv (A0 : S4x2048x8x64.Idx → ℝ) (A1 : S4x2048x8x32.Idx → ℝ) (A2 : S4x2048x8x64.Idx → ℝ) (A3 : S4x2048x32.Idx → ℝ)
    (A5 : S4x2048x512.Idx → ℝ) (r : Fin 8192) (l : Fin 512) : ℝ :=
  ∑ i : Fin 2048, A5 (ix3 (rb r) i l) * prob A0 A1 A2 A3 (rb r) ⟨l.val / 64, by omega⟩ i (ri r)

/-- A lane of a pair's block. -/
theorem lane2 (p : Fin 4) (y : Fin 256) : (⟨(p.val * 256 + y.val) / 128, by omega⟩ : Fin 8) = hd p ⟨y.val / 128, by omega⟩ :=
  Fin.ext (by simp only [hd]; omega)

theorem mod2 (p : Fin 4) (y : Fin 256) : (p.val * 256 + y.val) % 128 = y.val % 128 := by omega

theorem half_lane (y : Fin 256) : y = hl ⟨y.val / 128, by omega⟩ ⟨y.val % 128, by omega⟩ := Fin.ext (by simp only [hl]; omega)

include h0 h1 h2 h3 h4 h5 in
/-- The queries' gradient after the region. -/
theorem final6 : (dats m 0 c).arrAt 6 (cfgs 0).N = fun j : S8192x1024.Idx => (fq A0 A1 A2 A3 A4 A5 (j 0) (j 1) : EReal) := by
  refine (dats m 0 c).arrAt_eq_of_covers 6 _ (by decide +kernel) fun t hf y => ?_
  blk_simp
  rw [after0_6, outs6 m c t (blk0 c h0 h1 t) (blk1 c h2 h3 t) (blk2 c h4 t) (blk3 c h5 t) (blk4 c h0 h1 h2 h3 h4 t) (blk5 c h0 h1 h2 h3 t)]
  idx_vars y
  have he : ((View.whole main_v52_0).slice (win0_6.rect t)).emb (ix2 y0 y1) = ix2 (rowOf (pb t) y0) ⟨(pp t).val * 256 + y1.val, by omega⟩ := by
    blk_ext [idx t, rowOf, pb, pp]
  rw [he]
  refine (congrArg (fun r : ℝ => (r : EReal)) (gq_eq A0 A1 A2 A3 A4 A5 (pb t) (pp t) ⟨y1.val / 128, by omega⟩ y0 ⟨y1.val % 128, by omega⟩)).trans ?_
  show _ = ((fq A0 A1 A2 A3 A4 A5 (rowOf (pb t) y0) ⟨(pp t).val * 256 + y1.val, _⟩ : ℝ) : EReal)
  simp only [fq, rb_rowOf, ri_rowOf, lane2, mod2]

include h0 h1 h2 h3 h4 h5 in
/-- The keys' gradient after the region. -/
theorem final7 : (dats m 0 c).arrAt 7 (cfgs 0).N = fun j : S8192x1024.Idx => (fk A0 A1 A2 A3 A4 A5 (j 0) (j 1) : EReal) := by
  refine (dats m 0 c).arrAt_eq_of_covers 7 _ (by decide +kernel) fun t hf y => ?_
  blk_simp
  rw [after0_7]
  idx_vars y
  have he : ((View.whole main_v52_1).slice (win0_7.rect t)).emb (ix2 y0 y1) = ix2 (rowOf (pb t) y0) ⟨(pp t).val * 256 + y1.val, by omega⟩ := by
    blk_ext [idx t, rowOf, pb, pp]
  rw [he]
  have hv : ∀ h d, (outsAt0 m c t).2.1 (ix2 y0 (hl h d)) = (gk (tile2 (qa A0 A1) (pb t) (pp t)) (tile2 (ka A2 A3) (pb t) (pp t)) (tile1 (va A4) (pb t) (pp t))
      (tile1 (da A5) (pb t) (pp t)) (tile1 (oa A0 A1 A2 A3 A4) (pb t) (pp t)) (tile1 (la A0 A1 A2 A3) (pb t) (pp t)) h y0 d : EReal) := by
    intro h d
    obtain rfl | rfl : h = 0 ∨ h = 1 := by omega
    · exact outs7_0 m c t (blk0 c h0 h1 t) (blk1 c h2 h3 t) (blk2 c h4 t) (blk3 c h5 t) (blk4 c h0 h1 h2 h3 h4 t) (blk5 c h0 h1 h2 h3 t) y0 d
    · exact outs7_1 m c t (blk0 c h0 h1 t) (blk1 c h2 h3 t) (blk2 c h4 t) (blk3 c h5 t) (blk4 c h0 h1 h2 h3 h4 t) (blk5 c h0 h1 h2 h3 t) y0 d
  refine (congrArg (fun l => (outsAt0 m c t).2.1 (ix2 y0 l)) (half_lane y1)).trans ((hv _ _).trans ?_)
  rw [gk_eq]
  show _ = ((fk A0 A1 A2 A3 A4 A5 (rowOf (pb t) y0) ⟨(pp t).val * 256 + y1.val, _⟩ : ℝ) : EReal)
  simp only [fk, rb_rowOf, ri_rowOf, lane2, mod2]

/-- A lane of a pair's block of the values. -/
theorem lane1 (p : Fin 4) (y : Fin 128) : (⟨(p.val * 128 + y.val) / 64, by omega⟩ : Fin 8) = hd p ⟨y.val / 64, by omega⟩ :=
  Fin.ext (by simp only [hd]; omega)

include h0 h1 h2 h3 h5 in
/-- The values' gradient after the region. -/
theorem final8 : (dats m 0 c).arrAt 8 (cfgs 0).N = fun j : S8192x512.Idx => (fv A0 A1 A2 A3 A5 (j 0) (j 1) : EReal) := by
  refine (dats m 0 c).arrAt_eq_of_covers 8 _ (by decide +kernel) fun t hf y => ?_
  blk_simp
  rw [after0_8]
  idx_vars y
  have he : ((View.whole main_v52_2).slice (win0_8.rect t)).emb (ix2 y0 y1) = ix2 (rowOf (pb t) y0) ⟨(pp t).val * 128 + y1.val, by omega⟩ := by
    blk_ext [idx t, rowOf, pb, pp]
  rw [he]
  refine (outs8 m c t (blk0 c h0 h1 t) (blk1 c h2 h3 t) (blk3 c h5 t) (blk5 c h0 h1 h2 h3 t) y0 y1).trans ?_
  have hy : y1 = ⟨(⟨y1.val / 64, by omega⟩ : Fin 2).val * 64 + (⟨y1.val % 64, by omega⟩ : Fin 64).val, by simp only; omega⟩ :=
    Fin.ext (by simp only; omega)
  have hg := gv_eq A0 A1 A2 A3 A5 (pb t) (pp t) ⟨y1.val / 64, by omega⟩ y0 ⟨y1.val % 64, by omega⟩
  rw [← hy] at hg
  rw [hg]
  show _ = ((fv A0 A1 A2 A3 A5 (rowOf (pb t) y0) ⟨(pp t).val * 128 + y1.val, _⟩ : ℝ) : EReal)
  simp only [fv, rb_rowOf, ri_rowOf, lane1]
  refine congrArg (fun r : ℝ => (r : EReal)) (Finset.sum_congr rfl fun i _ => congrArg (fun l => A5 (ix3 (pb t) i l) * _) (Fin.ext ?_))
  simp only [hd]
  omega

end Region

end Cert.MlaBwdIdeal.Value

end
-- ==== Proof.MlaBwd.lean ====
module

public import proofs.«01_k».proof.Defs
public import proofs.«01_k».proof.Proof.MlaBwdArrays
public import proofs.«01_k».proof.Proof.Gen.Pre_finite_mla_bwd
public import proofs.«01_k».proof.Proof.Gen.MlaBwdRefIdeal.Run

@[expose] public section

set_option maxRecDepth 16384

noncomputable section

/-! # The value of `mla_bwd`

The host lines after the region cut the padded lanes off. -/

namespace Cert.MlaBwdIdeal.Value

open Idealize.ShloMosaic Idealize.ShloMosaic.TcCoe Idealize.SL.Sem
open Cert.MlaBwdIdeal Cert.MlaBwdIdeal.Gen
open Cert.Proof Cert.Proof.Reals
open Cert.MlaBwdRefIdeal.At (query key score prob dprob dscore)

section Results

variable (m : (ℓ : Loc nD τ sig) → Buf (Elt Ideal) ℓ) (c : Dev nD)

/-- The queries' gradient after the host lines that follow the region. -/
theorem tail55 (b : Fin 4) (i : Fin 2048) (h : Fin 8) (d : Fin 96) : Pipeline.afterTail₀ cfgs (dats m) 0 (V0 m) [hostOps1] c main_v55 (ix4 b i h d)
    = (show S8192x1024.Idx → EReal from (dats m 0 c).arrAt 6 (cfgs 0).N) (ix2 (rowOf b i) ⟨h.val * 128 + d.val, by omega⟩) := by
  unfold Pipeline.afterTail₀
  simp only [List.flatten_cons, List.flatten_nil, List.append_nil]
  after_results
  erw [Pipeline.withArrays_arr (cfgs 0).spec launch0.win.arr_inj _ _ _ 6]
  generalize (dats m 0 c).arrAt 6 _ = K
  revert K
  intro (K : S8192x1024.Idx → EReal)
  pointwise []
  rfl

/-- The keys' gradient likewise. -/
theorem tail58 (b : Fin 4) (i : Fin 2048) (h : Fin 8) (d : Fin 96) : Pipeline.afterTail₀ cfgs (dats m) 0 (V0 m) [hostOps1] c main_v58 (ix4 b i h d)
    = (show S8192x1024.Idx → EReal from (dats m 0 c).arrAt 7 (cfgs 0).N) (ix2 (rowOf b i) ⟨h.val * 128 + d.val, by omega⟩) := by
  unfold Pipeline.afterTail₀
  simp only [List.flatten_cons, List.flatten_nil, List.append_nil]
  after_results
  erw [Pipeline.withArrays_arr (cfgs 0).spec launch0.win.arr_inj _ _ _ 7]
  generalize (dats m 0 c).arrAt 7 _ = K
  revert K
  intro (K : S8192x1024.Idx → EReal)
  pointwise []
  rfl

/-- The values' gradient likewise. -/
theorem tail60 (b : Fin 4) (i : Fin 2048) (h : Fin 8) (d : Fin 64) : Pipeline.afterTail₀ cfgs (dats m) 0 (V0 m) [hostOps1] c main_v60 (ix4 b i h d)
    = (show S8192x512.Idx → EReal from (dats m 0 c).arrAt 8 (cfgs 0).N) (ix2 (rowOf b i) ⟨h.val * 64 + d.val, by omega⟩) := by
  unfold Pipeline.afterTail₀
  simp only [List.flatten_cons, List.flatten_nil, List.append_nil]
  after_results
  erw [Pipeline.withArrays_arr (cfgs 0).spec launch0.win.arr_inj _ _ _ 8]
  generalize (dats m 0 c).arrAt 8 _ = K
  revert K
  intro (K : S8192x512.Idx → EReal)
  pointwise []
  rfl

/-- A lane of a head's padded lanes. -/
theorem div_pad (h : Fin 8) (d : Fin 96) : (⟨(h.val * 128 + d.val) / 128, by omega⟩ : Fin 8) = h := Fin.ext (by simp only; omega)
theorem mod_pad (h : Fin 8) (d : Fin 96) : (h.val * 128 + d.val) % 128 = d.val := by omega

variable
  {A0 A2 A4 : S4x2048x8x64.Idx → ℝ} {A1 : S4x2048x8x32.Idx → ℝ} {A3 : S4x2048x32.Idx → ℝ} {A5 : S4x2048x512.Idx → ℝ}
  (h0 : ∀ i, m ((c.tc : Thread nD τ).loc main_arg0) i = (A0 i : EReal))
  (h1 : ∀ i, m ((c.tc : Thread nD τ).loc main_arg1) i = (A1 i : EReal))
  (h2 : ∀ i, m ((c.tc : Thread nD τ).loc main_arg2) i = (A2 i : EReal))
  (h3 : ∀ i, m ((c.tc : Thread nD τ).loc main_arg3) i = (A3 i : EReal))
  (h4 : ∀ i, m ((c.tc : Thread nD τ).loc main_arg4) i = (A4 i : EReal))
  (h5 : ∀ i, m ((c.tc : Thread nD τ).loc main_arg5) i = (A5 i : EReal))

include h0 h1 h2 h3 h4 h5 in
/-- The queries' gradient is the reference's. -/
theorem res0 : Cert.MlaBwdRefIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      = Pipeline.afterTail₀ cfgs (dats m) 0 (V0 m) [hostOps1] c main_v55 := by
  funext j
  idx_vars j
  rw [tail55, final6 c h0 h1 h2 h3 h4 h5, Cert.MlaBwdRefIdeal.At.v76_at h0 h1 h2 h3 h4 h5]
  show _ = ((fq A0 A1 A2 A3 A4 A5 (rowOf j0 j1) ⟨j2.val * 128 + j3.val, _⟩ : ℝ) : EReal)
  simp only [fq, rb_rowOf, ri_rowOf, div_pad, mod_pad, j3.isLt, dif_pos]

include h0 h1 h2 h3 h4 h5 in
/-- The keys' gradient is the reference's. -/
theorem res1 : Cert.MlaBwdRefIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      = Pipeline.afterTail₀ cfgs (dats m) 0 (V0 m) [hostOps1] c main_v58 := by
  funext j
  idx_vars j
  rw [tail58, final7 c h0 h1 h2 h3 h4 h5, Cert.MlaBwdRefIdeal.At.v77_at h0 h1 h2 h3 h4 h5]
  show _ = ((fk A0 A1 A2 A3 A4 A5 (rowOf j0 j1) ⟨j2.val * 128 + j3.val, _⟩ : ℝ) : EReal)
  simp only [fk, rb_rowOf, ri_rowOf, div_pad, mod_pad, j3.isLt, dif_pos]

include h0 h1 h2 h3 h5 in
/-- The values' gradient is the reference's. -/
theorem res2 : Cert.MlaBwdRefIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      = Pipeline.afterTail₀ cfgs (dats m) 0 (V0 m) [hostOps1] c main_v60 := by
  funext j
  idx_vars j
  rw [tail60, final8 c h0 h1 h2 h3 h5, Cert.MlaBwdRefIdeal.At.v52_at h0 h1 h2 h3 h5]
  show _ = ((fv A0 A1 A2 A3 A5 (rowOf j0 j1) ⟨j2.val * 64 + j3.val, _⟩ : ℝ) : EReal)
  simp only [fv, rb_rowOf, ri_rowOf, div_lane]

end Results

/-- The precondition: every argument is an array of reals. -/
theorem reals (m : (ℓ : Loc nD τ sig) → Buf (Elt Ideal) ℓ) (h : Pre_MlaBwdIdeal_finite_mla_bwd m) (c : Dev nD) :
    (∃ A : S4x2048x8x64.Idx → ℝ, ∀ i, m ((c.tc : Thread nD τ).loc main_arg0) i = (A i : EReal))
    ∧ (∃ A : S4x2048x8x32.Idx → ℝ, ∀ i, m ((c.tc : Thread nD τ).loc main_arg1) i = (A i : EReal))
    ∧ (∃ A : S4x2048x8x64.Idx → ℝ, ∀ i, m ((c.tc : Thread nD τ).loc main_arg2) i = (A i : EReal))
    ∧ (∃ A : S4x2048x32.Idx → ℝ, ∀ i, m ((c.tc : Thread nD τ).loc main_arg3) i = (A i : EReal))
    ∧ (∃ A : S4x2048x8x64.Idx → ℝ, ∀ i, m ((c.tc : Thread nD τ).loc main_arg4) i = (A i : EReal))
    ∧ (∃ A : S4x2048x512.Idx → ℝ, ∀ i, m ((c.tc : Thread nD τ).loc main_arg5) i = (A i : EReal)) := by
  obtain ⟨p0, p1, p2, p3, p4, p5⟩ := h c
  refine ⟨exists_array fun i => exists_real ?_, exists_array fun i => exists_real ?_, exists_array fun i => exists_real ?_,
    exists_array fun i => exists_real ?_, exists_array fun i => exists_real ?_, exists_array fun i => exists_real ?_⟩
  · have := congrFun p0 i; idx_vars i; pointwise [Cert.Pre_finite_mla_bwd.fn] at this; exact this
  · have := congrFun p1 i; idx_vars i; pointwise [Cert.Pre_finite_mla_bwd.fn] at this; exact this
  · have := congrFun p2 i; idx_vars i; pointwise [Cert.Pre_finite_mla_bwd.fn] at this; exact this
  · have := congrFun p3 i; idx_vars i; pointwise [Cert.Pre_finite_mla_bwd.fn] at this; exact this
  · have := congrFun p4 i; idx_vars i; pointwise [Cert.Pre_finite_mla_bwd.fn] at this; exact this
  · have := congrFun p5 i; idx_vars i; pointwise [Cert.Pre_finite_mla_bwd.fn] at this; exact this

/-- For finite arguments the kernel and the reference end with the same three gradients. -/
theorem algebraic : algebraic_MlaBwdIdeal_MlaBwdRefIdeal_pre_finite_mla_bwd := by
  pair_intro
  · run_from Cert.MlaBwdIdeal.Gen.run_main m g & Cert.MlaBwdIdeal.Gen.unchanged m g
  · run_from Cert.MlaBwdRefIdeal.Value.run m' g'
    all_goals
      obtain ⟨e0, e1, e2, e3, e4, e5⟩ := hagree c
      obtain ⟨⟨A0, h0⟩, ⟨A1, h1⟩, ⟨A2, h2⟩, ⟨A3, h3⟩, ⟨A4, h4⟩, ⟨A5, h5⟩⟩ := reals m hpre c
    · exact (Cert.MlaBwdRefIdeal.Read.val_main_v76_eq m' c).trans (by rw [e0, e1, e2, e3, e4, e5]; exact res0 m c h0 h1 h2 h3 h4 h5)
    · exact (Cert.MlaBwdRefIdeal.Read.val_main_v77_eq m' c).trans (by rw [e0, e1, e2, e3, e4, e5]; exact res1 m c h0 h1 h2 h3 h4 h5)
    · exact (Cert.MlaBwdRefIdeal.Read.val_main_v52_eq m' c).trans (by rw [e0, e1, e2, e3, e5]; exact res2 m c h0 h1 h2 h3 h5)

/-- The two named constants are what the certificate's table says. -/
theorem preserves : preserves_MlaBwd_MlaBwdIdeal :=
  ⟨IdealRules.named_const.statement Cert.MlaBwdIdeal.κ "scale_log2" .f32 0x3E16C740#32 (((Real.sqrt 96)⁻¹ * (Real.log 2)⁻¹ : ℝ) : EReal) rfl,
    IdealRules.named_const.statement Cert.MlaBwdIdeal.κ "scale" .f32 0x3DD105EC#32 (((Real.sqrt 96)⁻¹ : ℝ) : EReal) rfl⟩

/-- The reference leaves its arguments unchanged and declares no semaphore. -/
theorem frame_ref : quiescent_MlaBwdRefIdeal := fun m g _ =>
  (θ_run Cert.MlaBwdRefIdeal.defs _ _).mono (fun r h => ⟨fun c => (h c).2.2.2, sem_eq_zero_of_no_sems (by decide) r.2⟩)
    (Cert.MlaBwdRefIdeal.Value.run m g)

end Cert.MlaBwdIdeal.Value

end
-- ==== Proof.Half.lean ====
module

public import proofs.«01_k».proof.Proof.RmsNorm

@[expose] public section

noncomputable section

/-! # The gated half-step over the reals

One row `x` of 1024 lanes, the gain `g`, the gate's and the other projection's weights (`wg`, `wu`, by lane and hidden
lane), the weights back (`wd`, by hidden lane and lane): the forward values and the derivative of the half-step's
addition, for a row cotangent `t`. -/

namespace Cert.Proof.Half

open Idealize.ShloMosaic
open Cert.Proof.Reals

/-- The word of the norm's width, 1024. -/
theorem ofBits_1024 : Ideal.ofBits .f32 0x44800000#32 = ((1024 : ℝ) : EReal) := by
  simp [Ideal.ofBits, Ideal.ieee, -EReal.coe_mul]; norm_num

/-- The word of 1/2. -/
theorem ofBits_half : Ideal.ofBits .f32 0x3F000000#32 = ((1 / 2 : ℝ) : EReal) := by
  simp [Ideal.ofBits, Ideal.ieee, -EReal.coe_mul]; norm_num

/-- The word of 1. -/
theorem ofBits_one : Ideal.ofBits .f32 0x3F800000#32 = ((1 : ℝ) : EReal) := by
  simp [Ideal.ofBits, Ideal.ieee, -EReal.coe_mul]; norm_num

/-- The logistic function. -/
def sg (z : ℝ) : ℝ := 1 / (1 + Real.exp (-z))

/-- The logistic function as both programs write it. -/
theorem div_exp (z : ℝ) : Ideal.div ((1 : ℝ) : EReal) (((1 : ℝ) : EReal) + Ideal.exp (-(z : EReal))) = (sg z : EReal) := by
  rw [← EReal.coe_neg, Ideal.exp_coe, ← EReal.coe_add, div_coe_coe (by positivity), sg]

variable {n F : ℕ}

/-- The normed row times the gain. -/
def norm (x g : Fin n → ℝ) (d : Fin n) : ℝ := x d * Rms.r x * g d

/-- A projection of the normed row. -/
def proj (x g : Fin n → ℝ) (w : Fin n → Fin F → ℝ) (f : Fin F) : ℝ := ∑ d, norm x g d * w d f

/-- The gate times the other projection. -/
def act (x g : Fin n → ℝ) (wg wu : Fin n → Fin F → ℝ) (f : Fin F) : ℝ :=
  proj x g wg f * sg (proj x g wg f) * proj x g wu f

/-- The cotangent of `act`: half the row's cotangent, back through the weights. -/
def dact (wd : Fin F → Fin n → ℝ) (t : Fin n → ℝ) (f : Fin F) : ℝ := ∑ d, 1 / 2 * t d * wd f d

/-- The cotangent of the other projection. -/
def dup (x g : Fin n → ℝ) (wg : Fin n → Fin F → ℝ) (wd : Fin F → Fin n → ℝ) (t : Fin n → ℝ) (f : Fin F) : ℝ :=
  dact wd t f * (proj x g wg f * sg (proj x g wg f))

/-- The cotangent of the gate. -/
def dgate (x g : Fin n → ℝ) (wg wu : Fin n → Fin F → ℝ) (wd : Fin F → Fin n → ℝ) (t : Fin n → ℝ) (f : Fin F) : ℝ :=
  dact wd t f * proj x g wu f * (sg (proj x g wg f) + proj x g wg f * sg (proj x g wg f) * (1 - sg (proj x g wg f)))

/-- The cotangent of the normed row. -/
def dnorm (x g : Fin n → ℝ) (wg wu : Fin n → Fin F → ℝ) (wd : Fin F → Fin n → ℝ) (t : Fin n → ℝ) (d : Fin n) : ℝ :=
  ∑ f, dgate x g wg wu wd t f * wg d f + ∑ f, dup x g wg wd t f * wu d f

/-- The row's cotangent. -/
def dx (x g : Fin n → ℝ) (wg wu : Fin n → Fin F → ℝ) (wd : Fin F → Fin n → ℝ) (t : Fin n → ℝ) (l : Fin n) : ℝ :=
  t l + Rms.dx x (fun k => dnorm x g wg wu wd t k * g k) l

end Cert.Proof.Half

end
-- ==== Proof.FfnBwdRef.lean ====
module

public import proofs.«01_k».proof.Proof.Gen.FfnBwdRefIdeal.Read
public import proofs.«01_k».proof.Proof.Half
public import Idealize.ShloMosaic.Lib.Pointwise

@[expose] public section

set_option maxRecDepth 16384

noncomputable section

/-! # The reference of `ffn_bwd` at an index, over the reals

For finite arguments each result of the reference is the coercion of `Half`'s expression of the row. -/

namespace Cert.FfnBwdRefIdeal.At

open Idealize.ShloMosaic Idealize.ShloMosaic.TcCoe Idealize.SL.Sem
open Cert.FfnBwdRefIdeal Cert.FfnBwdRefIdeal.Gen Cert.FfnBwdRefIdeal.Read
open Cert.Proof Cert.Proof.Reals Cert.Proof.Half

/-- A row of a three-axis array. -/
abbrev row (X : S4x2048x1024.Idx → ℝ) (b : Fin 4) (s : Fin 2048) : Fin 1024 → ℝ := fun k => X (ix3 b s k)

/-- The gain, by lane. -/
abbrev gn (G : S1x1024.Idx → ℝ) : Fin 1024 → ℝ := fun k => G (ix2 0 k)

/-- A projection's weights, by lane and hidden lane. -/
abbrev wt (W : S1x1024x2816.Idx → ℝ) : Fin 1024 → Fin 2816 → ℝ := fun d f => W (ix3 0 d f)

/-- The weights back, by hidden lane and lane. -/
abbrev wb (W : S1x2816x1024.Idx → ℝ) : Fin 2816 → Fin 1024 → ℝ := fun f d => W (ix3 0 f d)

variable {x : FVec Ideal S4x2048x1024 .f32} {g : FVec Ideal S1x1024 .f32} {w w' : FVec Ideal S1x1024x2816 .f32}
  {e : FVec Ideal S1x2816x1024 .f32} {t : FVec Ideal S4x2048x1024 .f32}
  {X T : S4x2048x1024.Idx → ℝ} {G : S1x1024.Idx → ℝ} {W W' : S1x1024x2816.Idx → ℝ} {E : S1x2816x1024.Idx → ℝ}

/-- The mean square plus epsilon of a row. -/
theorem v8_at (hx : ∀ i, x i = (X i : EReal)) (b : Fin 4) (s : Fin 2048) (u : Fin 1) :
    val_main_v8 (F := Ideal) x (ix3 b s u) = ((Rms.v (row X b s) : ℝ) : EReal) := by
  pointwise [val_main_v8, val_main_v7, val_main_v6, val_main_v5, val_main_v4, val_main_v3, val_main_v2, val_main_cst_0,
    val_main_cst_1, val_main_cst_2]
  simp only [hx, ← EReal.coe_mul, coe_sum, ofBits_1024, ofBits_eps, div_coe_coe (show (1024 : ℝ) ≠ 0 by norm_num),
    ← EReal.coe_add, Rms.v, Nat.cast_ofNat]

/-- The normed row times the gain. -/
theorem v17_at (hx : ∀ i, x i = (X i : EReal)) (hg : ∀ i, g i = (G i : EReal)) (b : Fin 4) (s : Fin 2048) (d : Fin 1024) :
    val_main_v17 (F := Ideal) x g (ix3 b s d) = (norm (row X b s) (gn G) d : EReal) := by
  pointwise [val_main_v17, val_main_v16, val_main_v15, val_main_v14, val_main_v13, val_main_v9, val_main_v1]
  simp only [v8_at hx, hx, hg, rsqrt_coe_pos (Rms.v_pos _), ← EReal.coe_mul, Half.norm, Rms.r]

/-- The gate before the logistic function. -/
theorem v20_at (hx : ∀ i, x i = (X i : EReal)) (hg : ∀ i, g i = (G i : EReal)) (hw : ∀ i, w i = (W i : EReal))
    (b : Fin 4) (s : Fin 2048) (f : Fin 2816) :
    val_main_v20 (F := Ideal) x g w (ix3 b s f) = (proj (row X b s) (gn G) (wt W) f : EReal) := by
  pointwise [val_main_v20, val_main_v19, val_main_v18, val_main_v0, val_main_cst]
  simp only [v17_at hx hg, hw, ← EReal.coe_mul, coe_sum, proj]

/-- The other projection. -/
theorem v24_at (hx : ∀ i, x i = (X i : EReal)) (hg : ∀ i, g i = (G i : EReal)) (hw : ∀ i, w i = (W i : EReal))
    (b : Fin 4) (s : Fin 2048) (f : Fin 2816) :
    val_main_v24 (F := Ideal) x g w (ix3 b s f) = (proj (row X b s) (gn G) (wt W) f : EReal) := by
  pointwise [val_main_v24, val_main_v23, val_main_v22, val_main_v0, val_main_cst]
  simp only [v17_at hx hg, hw, ← EReal.coe_mul, coe_sum, proj]

/-- The logistic function of the gate. -/
theorem sg_at (hx : ∀ i, x i = (X i : EReal)) (hg : ∀ i, g i = (G i : EReal)) (hw : ∀ i, w i = (W i : EReal))
    (b : Fin 4) (s : Fin 2048) (f : Fin 2816) :
    val_main_v21_2 (F := Ideal) x g w (ix3 b s f) = (sg (proj (row X b s) (gn G) (wt W) f) : EReal) := by
  pointwise [val_main_v21_2, val_main_call0_v4, val_main_call0_v3, val_main_call0_v2, val_main_call0_v1,
    val_main_call0_v0, val_main_call0_cst, val_main_call0_cst_0]
  simp only [v20_at hx hg hw, ofBits_one]
  exact div_exp _

/-- The cotangent of the gated product. -/
theorem v34_at (he : ∀ i, e i = (E i : EReal)) (ht : ∀ i, t i = (T i : EReal)) (b : Fin 4) (s : Fin 2048) (f : Fin 2816) :
    val_main_v34 (F := Ideal) e t (ix3 b s f) = (dact (wb E) (row T b s) f : EReal) := by
  pointwise [val_main_v34, val_main_v33, val_main_v32, val_main_v31, val_main_v26, val_main_cst_5]
  simp only [he, ht, ofBits_half, ← EReal.coe_mul, coe_sum, dact]

/-- The other projection's cotangent. -/
theorem v35_at (hx : ∀ i, x i = (X i : EReal)) (hg : ∀ i, g i = (G i : EReal)) (hw : ∀ i, w i = (W i : EReal))
    (he : ∀ i, e i = (E i : EReal)) (ht : ∀ i, t i = (T i : EReal)) (b : Fin 4) (s : Fin 2048) (f : Fin 2816) :
    val_main_v35 (F := Ideal) x g w e t (ix3 b s f)
      = (dup (row X b s) (gn G) (wt W) (wb E) (row T b s) f : EReal) := by
  pointwise [val_main_v35, val_main_v21_0]
  simp only [v20_at hx hg hw, sg_at hx hg hw, v34_at he ht, ← EReal.coe_mul, dup]
  rw [mul_comm]

/-- The gate's cotangent. -/
theorem v38_at (hx : ∀ i, x i = (X i : EReal)) (hg : ∀ i, g i = (G i : EReal)) (hw : ∀ i, w i = (W i : EReal))
    (hw' : ∀ i, w' i = (W' i : EReal)) (he : ∀ i, e i = (E i : EReal)) (ht : ∀ i, t i = (T i : EReal))
    (b : Fin 4) (s : Fin 2048) (f : Fin 2816) :
    val_main_v38 (F := Ideal) x g w w' e t (ix3 b s f)
      = (dgate (row X b s) (gn G) (wt W) (wt W') (wb E) (row T b s) f : EReal) := by
  pointwise [val_main_v38, val_main_call1_v2, val_main_call1_v1, val_main_call1_v0, val_main_v36, val_main_v21_1,
    val_main_call0_v7, val_main_call0_v6, val_main_call0_cst_1]
  simp only [v20_at hx hg hw, v24_at hx hg hw', sg_at hx hg hw, v34_at he ht, ofBits_one, ← EReal.coe_mul, ← EReal.coe_sub,
    ← EReal.coe_add, dgate]
  refine congrArg (fun r : ℝ => (r : EReal)) ?_
  ring

/-- The normed row's cotangent. -/
theorem v40_at (hx : ∀ i, x i = (X i : EReal)) (hg : ∀ i, g i = (G i : EReal)) (hw : ∀ i, w i = (W i : EReal))
    (hw' : ∀ i, w' i = (W' i : EReal)) (he : ∀ i, e i = (E i : EReal)) (ht : ∀ i, t i = (T i : EReal))
    (b : Fin 4) (s : Fin 2048) (d : Fin 1024) :
    val_main_v40 (F := Ideal) x g w w' e t (ix3 b s d)
      = (dnorm (row X b s) (gn G) (wt W) (wt W') (wb E) (row T b s) d : EReal) := by
  pointwise [val_main_v40, val_main_v39, val_main_v37, val_main_v22, val_main_v18]
  simp only [v38_at hx hg hw hw' he ht, v35_at hx hg hw he ht, hw, hw', ← EReal.coe_mul, coe_sum, ← EReal.coe_add, dnorm]
  rw [add_comm]

/-- The row's cotangent. -/
theorem v61_at (hx : ∀ i, x i = (X i : EReal)) (hg : ∀ i, g i = (G i : EReal)) (hw : ∀ i, w i = (W i : EReal))
    (hw' : ∀ i, w' i = (W' i : EReal)) (he : ∀ i, e i = (E i : EReal)) (ht : ∀ i, t i = (T i : EReal))
    (b : Fin 4) (s : Fin 2048) (l : Fin 1024) :
    val_main_v61 (F := Ideal) x g w w' e t (ix3 b s l)
      = (Half.dx (row X b s) (gn G) (wt W) (wt W') (wb E) (row T b s) l : EReal) := by
  rw [Half.dx, ← Rms.dx_eq (by norm_num)]
  pointwise [val_main_v61, val_main_v60, val_main_v59, val_main_v58, val_main_v57, val_main_v56, val_main_v55, val_main_v54,
    val_main_v53, val_main_v52, val_main_v51, val_main_v50, val_main_v49, val_main_v48, val_main_v47, val_main_v45,
    val_main_v44, val_main_v15, val_main_v12, val_main_v11, val_main_v10, val_main_v9, val_main_v1, val_main_cst_3,
    val_main_cst_8, val_main_cst_9, val_main_cst_10]
  simp only [v8_at hx, v40_at hx hg hw hw' he ht, hx, hg, ht, rsqrt_coe_pos (Rms.v_pos _), div_coe_coe (Rms.v_pos _).ne',
    ← EReal.coe_mul, coe_sum, ofBits_1024, ofBits_neg_half, div_coe_coe (show (1024 : ℝ) ≠ 0 by norm_num), ← EReal.coe_add,
    Rms.r, Finset.univ_unique, Finset.sum_const, Finset.card_singleton, one_smul, Nat.cast_ofNat]
  refine congrArg (fun r : ℝ => (r : EReal)) ?_
  ring

/-- The gain's gradient: the normed rows against their cotangents, summed over the rows. -/
def dg (X T : S4x2048x1024.Idx → ℝ) (G : S1x1024.Idx → ℝ) (W W' : S1x1024x2816.Idx → ℝ) (E : S1x2816x1024.Idx → ℝ) (l : Fin 1024) : ℝ :=
  ∑ b : Fin 4, ∑ s : Fin 2048, X (ix3 b s l) * Rms.r (row X b s)
    * dnorm (row X b s) (gn G) (wt W) (wt W') (wb E) (row T b s) l

theorem v62_at (hx : ∀ i, x i = (X i : EReal)) (hg : ∀ i, g i = (G i : EReal)) (hw : ∀ i, w i = (W i : EReal))
    (hw' : ∀ i, w' i = (W' i : EReal)) (he : ∀ i, e i = (E i : EReal)) (ht : ∀ i, t i = (T i : EReal))
    (u : Fin 1) (l : Fin 1024) :
    val_main_v62 (F := Ideal) x g w w' e t (ix2 u l) = (dg X T G W W' E l : EReal) := by
  pointwise [val_main_v62, val_main_v46, val_main_v43, val_main_cst_7, hostReduceAdd_axes01]
  pointwise [val_main_v42, val_main_v41, val_main_v14, val_main_v13, val_main_v9, val_main_cst_6, hostReduceAdd_axes01]
  simp only [v8_at hx, v40_at hx hg hw hw' he ht, hx, rsqrt_coe_pos (Rms.v_pos _), ← EReal.coe_mul, coe_sum, dg, Rms.r,
    Finset.univ_unique, Finset.sum_const, Finset.card_singleton, one_smul]

end Cert.FfnBwdRefIdeal.At

end
-- ==== Proof.FfnBwdKernel.lean ====
module

public import proofs.«01_k».proof.Proof.Gen.FfnBwdIdeal.Frame
public import proofs.«01_k».proof.Proof.Half
public import Idealize.ShloMosaic.Lib.Pipeline.ValueKit

@[expose] public section

set_option maxRecDepth 16384

noncomputable section

/-! # The arrays that the region of `ffn_bwd` leaves, over the reals

The region's entry arrays are taken to be coercions of real arrays. Two grid points handle 512 rows, each one half of the
hidden lanes: the cotangents of the two projections are written block by block, the normed row's cotangent is gathered
over the two points, and the second point writes the row's cotangent and adds the rows' share of the gain's gradient. -/

namespace Cert.FfnBwdIdeal.Value

open Idealize.ShloMosaic Idealize.ShloMosaic.TcCoe Idealize.SL.Sem
open Idealize.ShloMosaic.Pipeline (Dat)
open Cert.FfnBwdIdeal Cert.FfnBwdIdeal.Gen
open Cert.Proof Cert.Proof.Reals Cert.Proof.Half

/-- The cotangent of the gated product, from the rows' cotangents and the weights back. -/
def da {a f : ℕ} (T : (⟨2, ![a, 1024]⟩ : Shape).Idx → ℝ) (E : (⟨2, ![f, 1024]⟩ : Shape).Idx → ℝ) (i : Fin a) (l : Fin f) : ℝ :=
  ∑ d : Fin 1024, 1 / 2 * T (ix2 i d) * E (ix2 l d)

/-- The cotangent of the other projection. -/
def du {a f : ℕ} (T : (⟨2, ![a, 1024]⟩ : Shape).Idx → ℝ) (E : (⟨2, ![f, 1024]⟩ : Shape).Idx → ℝ)
    (A : (⟨2, ![a, f]⟩ : Shape).Idx → ℝ) (i : Fin a) (l : Fin f) : ℝ :=
  da T E i l * (A (ix2 i l) * sg (A (ix2 i l)))

/-- The cotangent of the gate. -/
def dga {a f : ℕ} (T : (⟨2, ![a, 1024]⟩ : Shape).Idx → ℝ) (E : (⟨2, ![f, 1024]⟩ : Shape).Idx → ℝ)
    (A U : (⟨2, ![a, f]⟩ : Shape).Idx → ℝ) (i : Fin a) (l : Fin f) : ℝ :=
  da T E i l * U (ix2 i l) * (sg (A (ix2 i l)) + A (ix2 i l) * sg (A (ix2 i l)) * (1 - sg (A (ix2 i l))))

/-- The normed row's cotangent. -/
def dn {a f : ℕ} (T : (⟨2, ![a, 1024]⟩ : Shape).Idx → ℝ) (E W W' : (⟨2, ![f, 1024]⟩ : Shape).Idx → ℝ)
    (A U : (⟨2, ![a, f]⟩ : Shape).Idx → ℝ) (i : Fin a) (d : Fin 1024) : ℝ :=
  ∑ l, dga T E A U i l * W (ix2 l d) + ∑ l, du T E A i l * W' (ix2 l d)

section Payloads

variable {x t y : FVec Ideal S512x1024 .f32} {e w w' : FVec Ideal S1408x1024 .bf16} {a u : FVec Ideal S512x1408 .bf16}
  {g k : FVec Ideal S1x1024 .f32}
  {X T Y : S512x1024.Idx → ℝ} {E W W' : S1408x1024.Idx → ℝ} {A U : S512x1408.Idx → ℝ} {G : S1x1024.Idx → ℝ}

/-- The cotangent of the gated product. -/
theorem pay12_at (ht : ∀ i, t i = (T i : EReal)) (he : ∀ i, e i = (E i : EReal)) (i : Fin 512) (l : Fin 1408) :
    k0_pay12 (F := Ideal) t e (ix2 i l) = (da T E i l : EReal) := by
  pointwise [k0_pay12, k0_pay10]
  simp only [ht, he, ofBits_half, ← EReal.coe_mul, coe_sum, da]

/-- The logistic function of the gate. -/
theorem pay14_at (ha : ∀ i, a i = (A i : EReal)) (i : Fin 512) (l : Fin 1408) :
    k0_pay14 (F := Ideal) a (ix2 i l) = (sg (A (ix2 i l)) : EReal) := by
  pointwise [k0_pay14, k0_pay13]
  rw [ha, zero_sub, ← EReal.coe_one]
  exact div_exp _

/-- The cotangent of the other projection. -/
theorem pay16_at (ht : ∀ i, t i = (T i : EReal)) (he : ∀ i, e i = (E i : EReal)) (ha : ∀ i, a i = (A i : EReal))
    (i : Fin 512) (l : Fin 1408) :
    k0_pay16 (F := Ideal) t e a (ix2 i l) = (du T E A i l : EReal) := by
  pointwise [k0_pay16, k0_pay15, k0_pay13]
  simp only [pay12_at ht he, pay14_at ha, ha, ← EReal.coe_mul, du]

/-- The cotangent of the gate. -/
theorem pay17_at (ht : ∀ i, t i = (T i : EReal)) (he : ∀ i, e i = (E i : EReal)) (ha : ∀ i, a i = (A i : EReal))
    (hu : ∀ i, u i = (U i : EReal)) (i : Fin 512) (l : Fin 1408) :
    k0_pay17 (F := Ideal) t e a u (ix2 i l) = (dga T E A U i l : EReal) := by
  pointwise [k0_pay17, k0_pay15, k0_pay13]
  simp only [pay12_at ht he, pay14_at ha, ha, hu, ← EReal.coe_one, ← EReal.coe_mul, ← EReal.coe_sub, ← EReal.coe_add, dga]

/-- One half of the normed row's cotangent. -/
theorem pay1_at (ht : ∀ i, t i = (T i : EReal)) (he : ∀ i, e i = (E i : EReal)) (ha : ∀ i, a i = (A i : EReal))
    (hu : ∀ i, u i = (U i : EReal)) (hw : ∀ i, w i = (W i : EReal)) (hw' : ∀ i, w' i = (W' i : EReal)) (i : Fin 512) (d : Fin 1024) :
    k0_pay1 (F := Ideal) k0_pay11 (k0_pay17 (F := Ideal) t e a u) w (k0_pay16 (F := Ideal) t e a) w' (ix2 i d) = (dn T E W W' A U i d : EReal) := by
  pointwise [k0_pay1, k0_pay11]
  simp only [pay16_at ht he ha, pay17_at ht he ha hu, hw, hw', ← EReal.coe_mul, coe_sum, ← EReal.coe_add, dn]

/-- The reciprocal root of a row's mean square. -/
theorem pay6_at (hx : ∀ i, x i = (X i : EReal)) (i : Fin 512) (u : Fin 1) :
    k0_pay6 (F := Ideal) x (ix2 i u) = (Rms.r (fun k => X (ix2 i k)) : EReal) := by
  rw [Rms.r, ← rsqrt_coe_pos (Rms.v_pos _)]
  pointwise [k0_pay6, k0_pay5]
  simp only [hx, ← EReal.coe_mul, coe_sum, ofBits_1024, ofBits_eps, div_coe_coe (show (1024 : ℝ) ≠ 0 by norm_num),
    ← EReal.coe_add, Rms.v, Nat.cast_ofNat]

/-- The row's cotangent of a block. -/
theorem pay8_at (ht : ∀ i, t i = (T i : EReal)) (hx : ∀ i, x i = (X i : EReal)) (hg : ∀ i, g i = (G i : EReal))
    (hy : ∀ i, y i = (Y i : EReal)) (i : Fin 512) (l : Fin 1024) :
    k0_pay8 (F := Ideal) (k0_pay10 t) x g y (ix2 i l)
      = (T (ix2 i l) + Rms.dx (fun k => X (ix2 i k)) (fun k => Y (ix2 i k) * G (ix2 0 k)) l : ℝ) := by
  pointwise [k0_pay8, k0_pay10, k0_pay7, k0_pay5]
  simp only [pay6_at hx, hx, hg, hy, ht, ← EReal.coe_mul, coe_sum, ofBits_1024,
    div_coe_coe (show (1024 : ℝ) ≠ 0 by norm_num), ← EReal.coe_add, ← EReal.coe_sub, Rms.dx, Nat.cast_ofNat]

/-- The gain's gradient after a block: what was there and the block's rows. -/
theorem pay9_at (hx : ∀ i, x i = (X i : EReal)) (hy : ∀ i, y i = (Y i : EReal)) (j : S1x1024.Idx) :
    k0_pay9 (F := Ideal) x y k j
      = k j + ((∑ i : Fin 512, Y (ix2 i (j 1)) * (X (ix2 i (j 1)) * Rms.r fun k => X (ix2 i k)) : ℝ) : EReal) := by
  idx_vars j
  pointwise [k0_pay9, k0_pay7, k0_pay5]
  simp only [pay6_at hx, hx, hy, ← EReal.coe_mul, coe_sum]

/-- The accumulator starts at zero. -/
theorem pay4_at (j : S1x1024.Idx) : k0_pay4 (F := Ideal) j = 0 := by pointwise [k0_pay4]

end Payloads

variable (m : (ℓ : Loc nD τ sig) → Buf (Elt Ideal) ℓ)

/-- The windows' block indices. -/
theorem idx : ∀ t : Fin cfg0.N, win0_0.index t = ![t.val / 2, 0] ∧ win0_1.index t = ![0, 0] ∧ win0_2.index t = ![t.val / 2, t.val % 2]
    ∧ win0_3.index t = ![t.val / 2, t.val % 2] ∧ win0_4.index t = ![t.val / 2, 0] ∧ win0_5.index t = ![t.val % 2, 0]
    ∧ win0_6.index t = ![t.val % 2, 0] ∧ win0_7.index t = ![t.val % 2, 0] ∧ win0_8.index t = ![t.val / 2, 0]
    ∧ win0_9.index t = ![0, 0] ∧ win0_10.index t = ![t.val / 2, t.val % 2] ∧ win0_11.index t = ![t.val / 2, t.val % 2] :=
  (by decide +kernel : ∀ t : Fin grid0.N, _)

/-- The row at place `i` of point `t`. -/
def ri (t : Fin cfg0.N) (i : Fin 512) : Fin 8192 := ⟨t.val / 2 * 512 + i.val, by have := t.isLt; have : cfg0.N = 32 := N_0; omega⟩

/-- The hidden lane at place `l` of point `t`. -/
def fi (t : Fin cfg0.N) (l : Fin 1408) : Fin 2816 := ⟨t.val % 2 * 1408 + l.val, by omega⟩

/-- The last point. -/
def last : Fin cfg0.N := ⟨31, by rw [show cfg0.N = 32 from N_0]; decide⟩

/-- The rows of point `t`. -/
def rows (E : S8192x1024.Idx → ℝ) (t : Fin cfg0.N) : S512x1024.Idx → ℝ := fun j => E (ix2 (ri t (j 0)) (j 1))

/-- The rows and hidden lanes of point `t`. -/
def tile (E : S8192x2816.Idx → ℝ) (t : Fin cfg0.N) : S512x1408.Idx → ℝ := fun j => E (ix2 (ri t (j 0)) (fi t (j 1)))

/-- The hidden lanes of point `t` of an array of weights. -/
def lanes (E : S2816x1024.Idx → ℝ) (t : Fin cfg0.N) : S1408x1024.Idx → ℝ := fun j => E (ix2 (fi t (j 0)) (j 1))

section Blocks

variable {m} {c : Dev nD} {E0 E4 : S8192x1024.Idx → ℝ} {E1 : S1x1024.Idx → ℝ} {E2 E3 : S8192x2816.Idx → ℝ} {E5 E6 E7 : S2816x1024.Idx → ℝ}

theorem read0 (X : S8192x1024.Idx → EReal) (t : Fin cfg0.N) (j : S512x1024.Idx) :
    ((cfg0.win 0).blk t).view.read (Elt Ideal) X j = X (ix2 (ri t (j 0)) (j 1)) := by blk_ext [ri, idx t]

theorem read1 (X : S1x1024.Idx → EReal) (t : Fin cfg0.N) (j : S1x1024.Idx) :
    ((cfg0.win 1).blk t).view.read (Elt Ideal) X j = X j := by blk_ext [idx t]

theorem read2 (X : S8192x2816.Idx → EReal) (t : Fin cfg0.N) (j : S512x1408.Idx) :
    ((cfg0.win 2).blk t).view.read (Elt Ideal) X j = X (ix2 (ri t (j 0)) (fi t (j 1))) := by blk_ext [ri, fi, idx t]

theorem read3 (X : S8192x2816.Idx → EReal) (t : Fin cfg0.N) (j : S512x1408.Idx) :
    ((cfg0.win 3).blk t).view.read (Elt Ideal) X j = X (ix2 (ri t (j 0)) (fi t (j 1))) := by blk_ext [ri, fi, idx t]

theorem read4 (X : S8192x1024.Idx → EReal) (t : Fin cfg0.N) (j : S512x1024.Idx) :
    ((cfg0.win 4).blk t).view.read (Elt Ideal) X j = X (ix2 (ri t (j 0)) (j 1)) := by blk_ext [ri, idx t]

theorem read5 (X : S2816x1024.Idx → EReal) (t : Fin cfg0.N) (j : S1408x1024.Idx) :
    ((cfg0.win 5).blk t).view.read (Elt Ideal) X j = X (ix2 (fi t (j 0)) (j 1)) := by blk_ext [fi, idx t]

theorem read6 (X : S2816x1024.Idx → EReal) (t : Fin cfg0.N) (j : S1408x1024.Idx) :
    ((cfg0.win 6).blk t).view.read (Elt Ideal) X j = X (ix2 (fi t (j 0)) (j 1)) := by blk_ext [fi, idx t]

theorem read7 (X : S2816x1024.Idx → EReal) (t : Fin cfg0.N) (j : S1408x1024.Idx) :
    ((cfg0.win 7).blk t).view.read (Elt Ideal) X j = X (ix2 (fi t (j 0)) (j 1)) := by blk_ext [fi, idx t]

theorem blk0 (h : ∀ i, V m c main_v22 i = (E0 i : EReal)) (t : Fin cfg0.N) (j) : iblk m c 0 t j = (rows E0 t j : EReal) :=
  (read0 _ t j).trans (h _)

theorem blk1 (h : ∀ i, V m c main_arg1 i = (E1 i : EReal)) (t : Fin cfg0.N) (j) : iblk m c 1 t j = (E1 j : EReal) :=
  (read1 _ t j).trans (h _)

theorem blk2 (h : ∀ i, V m c main_v17 i = (E2 i : EReal)) (t : Fin cfg0.N) (j) : iblk m c 2 t j = (tile E2 t j : EReal) :=
  (read2 _ t j).trans (h _)

theorem blk3 (h : ∀ i, V m c main_v21 i = (E3 i : EReal)) (t : Fin cfg0.N) (j) : iblk m c 3 t j = (tile E3 t j : EReal) :=
  (read3 _ t j).trans (h _)

theorem blk4 (h : ∀ i, V m c main_v23 i = (E4 i : EReal)) (t : Fin cfg0.N) (j) : iblk m c 4 t j = (rows E4 t j : EReal) :=
  (read4 _ t j).trans (h _)

theorem blk5 (h : ∀ i, V m c main_v26 i = (E5 i : EReal)) (t : Fin cfg0.N) (j) : iblk m c 5 t j = (lanes E5 t j : EReal) :=
  (read5 _ t j).trans (h _)

theorem blk6 (h : ∀ i, V m c main_v29 i = (E6 i : EReal)) (t : Fin cfg0.N) (j) : iblk m c 6 t j = (lanes E6 t j : EReal) :=
  (read6 _ t j).trans (h _)

theorem blk7 (h : ∀ i, V m c main_v31 i = (E7 i : EReal)) (t : Fin cfg0.N) (j) : iblk m c 7 t j = (lanes E7 t j : EReal) :=
  (read7 _ t j).trans (h _)

/-- One point's share of the normed rows' cotangents. -/
abbrev share (m : (ℓ : Loc nD τ sig) → Buf (Elt Ideal) ℓ) (c : Dev nD) (t : Fin cfg0.N) : FVec Ideal S512x1024 .f32 :=
  k0_pay1 k0_pay11 (k0_pay17 (iblk m c 4 t) (iblk m c 7 t) (iblk m c 2 t) (iblk m c 3 t)) (iblk m c 5 t)
    (k0_pay16 (iblk m c 4 t) (iblk m c 7 t) (iblk m c 2 t)) (iblk m c 6 t)

/-- The point before. -/
abbrev prev (t : Fin cfg0.N) : Fin cfg0.N := ⟨t.val - 1, Nat.lt_of_le_of_lt (Nat.sub_le _ _) t.isLt⟩

/-- What a point leaves in the gate's cotangent's buffer. -/
theorem outs10 (t : Fin cfg0.N) : (outsAt0 m c t.val t.isLt).2.2.1
    = k0_pay17 (iblk m c 4 t) (iblk m c 7 t) (iblk m c 2 t) (iblk m c 3 t) := by
  by_cases h : t.val % 2 = 0
  · by_cases h' : t.val % 32 = 0
    · rw [outsAt0_A m c t h (by omega) h' (by omega)]; frame_out
    · rw [outsAt0_C m c t h (by omega) h' (by omega)]; frame_out
  · rw [outsAt0_B m c t h (by omega) (by omega) (by omega)]; frame_out

/-- What a point leaves in the other projection's cotangent's buffer. -/
theorem outs11 (t : Fin cfg0.N) : (outsAt0 m c t.val t.isLt).2.2.2.1
    = k0_pay16 (iblk m c 4 t) (iblk m c 7 t) (iblk m c 2 t) := by
  by_cases h : t.val % 2 = 0
  · by_cases h' : t.val % 32 = 0
    · rw [outsAt0_A m c t h (by omega) h' (by omega)]; frame_out
    · rw [outsAt0_C m c t h (by omega) h' (by omega)]; frame_out
  · rw [outsAt0_B m c t h (by omega) (by omega) (by omega)]; frame_out

/-- The first point of a pair leaves its share in the scratch. -/
theorem outsS (t : Fin cfg0.N) (h : t.val % 2 = 0) : (outsAt0 m c t.val t.isLt).2.2.2.2 = k0_pay2 k0_pay11 (k0_pay17 (iblk m c 4 t) (iblk m c 7 t) (iblk m c 2 t) (iblk m c 3 t)) (iblk m c 5 t)
    (k0_pay16 (iblk m c 4 t) (iblk m c 7 t) (iblk m c 2 t)) (iblk m c 6 t) := by
  by_cases h' : t.val % 32 = 0
  · rw [outsAt0_A m c t h (by omega) h' (by omega)]; frame_out
  · rw [outsAt0_C m c t h (by omega) h' (by omega)]; frame_out

/-- The normed rows' cotangents as the second point of a pair reads them. -/
abbrev both (m : (ℓ : Loc nD τ sig) → Buf (Elt Ideal) ℓ) (c : Dev nD) (t : Fin cfg0.N) : FVec Ideal S512x1024 .f32 :=
  k0_pay3 k0_pay11 (k0_pay17 (iblk m c 4 t) (iblk m c 7 t) (iblk m c 2 t) (iblk m c 3 t)) (iblk m c 5 t)
    (k0_pay16 (iblk m c 4 t) (iblk m c 7 t) (iblk m c 2 t)) (iblk m c 6 t)
    (outsAt0 m c (t.val - 1) (Nat.lt_of_le_of_lt (Nat.sub_le _ _) t.isLt)).2.2.2.2

/-- What the second point of a pair leaves in the row's cotangent's buffer. -/
theorem outs8 (t : Fin cfg0.N) (h : ¬t.val % 2 = 0) : (outsAt0 m c t.val t.isLt).1
    = k0_pay8 (k0_pay10 (iblk m c 4 t)) (iblk m c 0 t) (iblk m c 1 t) (both m c t) := by
  rw [outsAt0_B m c t h (by omega) (by omega) (by omega)]
  frame_out
  erw [Memref.IsWhole.read_unread]

/-- A point's share, in the whole arrays: the point's half of the hidden lanes. -/
theorem dn_tile (t : Fin cfg0.N) (i : Fin 512) (d : Fin 1024) (r : Fin 8192) (hr : ri t i = r) (q : Fin 2) (hq : t.val % 2 = q.val) :
    dn (rows E4 t) (lanes E7 t) (lanes E5 t) (lanes E6 t) (tile E2 t) (tile E3 t) i d
      = ∑ l : Fin 1408, dga E4 E7 E2 E3 r ⟨q.val * 1408 + l.val, by omega⟩ * E5 (ix2 ⟨q.val * 1408 + l.val, by omega⟩ d)
        + ∑ l : Fin 1408, du E4 E7 E2 r ⟨q.val * 1408 + l.val, by omega⟩ * E6 (ix2 ⟨q.val * 1408 + l.val, by omega⟩ d) := by
  subst hr
  have hf : ∀ l, fi t l = ⟨q.val * 1408 + l.val, by omega⟩ := fun l => Fin.ext (by dsimp only [fi]; rw [hq])
  show ∑ l : Fin 1408, dga E4 E7 E2 E3 (ri t i) (fi t l) * E5 (ix2 (fi t l) d)
    + ∑ l : Fin 1408, du E4 E7 E2 (ri t i) (fi t l) * E6 (ix2 (fi t l) d) = _
  simp only [hf]

section Both

variable (h2 : ∀ i, V m c main_v17 i = (E2 i : EReal)) (h3 : ∀ i, V m c main_v21 i = (E3 i : EReal))
  (h4 : ∀ i, V m c main_v23 i = (E4 i : EReal)) (h5 : ∀ i, V m c main_v26 i = (E5 i : EReal))
  (h6 : ∀ i, V m c main_v29 i = (E6 i : EReal)) (h7 : ∀ i, V m c main_v31 i = (E7 i : EReal))
include h2 h3 h4 h5 h6 h7

/-- The two points' shares together are the normed row's cotangent. -/
theorem both_at (t : Fin cfg0.N) (h : ¬t.val % 2 = 0) (j : S512x1024.Idx) :
    both m c t j = ((fun j : S512x1024.Idx => dn E4 E7 E5 E6 E2 E3 (ri t (j 0)) (j 1)) j : EReal) := by
  idx_vars j
  have hp : (prev t).val % 2 = 0 := by show (t.val - 1) % 2 = 0; omega
  have hs := outsS (m := m) (c := c) (prev t) hp
  show k0_pay3 (F := Ideal) _ _ _ _ _ (outsAt0 m c (prev t).val (prev t).isLt).2.2.2.2 (ix2 j0 j1) = _
  rw [hs]
  pointwise [k0_pay3, k0_pay2]
  rw [pay1_at (blk4 h4 t) (blk7 h7 t) (blk2 h2 t) (blk3 h3 t) (blk5 h5 t) (blk6 h6 t),
    pay1_at (blk4 h4 (prev t)) (blk7 h7 (prev t)) (blk2 h2 (prev t)) (blk3 h3 (prev t)) (blk5 h5 (prev t)) (blk6 h6 (prev t)),
    dn_tile t j0 j1 (ri t j0) rfl 1 (by show t.val % 2 = 1; omega),
    dn_tile (prev t) j0 j1 (ri t j0) (Fin.ext (by show (t.val - 1) / 2 * 512 + j0.val = t.val / 2 * 512 + j0.val; omega)) 0 hp,
    ← EReal.coe_add]
  refine congrArg (fun r : ℝ => (r : EReal)) ?_
  show _ = ∑ l : Fin 2816, dga E4 E7 E2 E3 (ri t j0) l * E5 (ix2 l j1) + ∑ l : Fin 2816, du E4 E7 E2 (ri t j0) l * E6 (ix2 l j1)
  rw [← Fin.sum_mul_add_fin 2 1408 (fun l : Fin 2816 => dga E4 E7 E2 E3 (ri t j0) l * E5 (ix2 l j1)),
    ← Fin.sum_mul_add_fin 2 1408 (fun l : Fin 2816 => du E4 E7 E2 (ri t j0) l * E6 (ix2 l j1)), Fin.sum_univ_two, Fin.sum_univ_two]
  exact add_add_add_comm _ _ _ _

/-- The row's cotangent after the region. -/
theorem final8 (h0 : ∀ i, V m c main_v22 i = (E0 i : EReal)) (h1 : ∀ i, V m c main_arg1 i = (E1 i : EReal)) :
    (dats m 0 c).arrAt 8 (cfgs 0).N = fun j : S8192x1024.Idx => ((E4 j + Rms.dx (fun k : Fin 1024 => E0 (ix2 (j 0) k))
      (fun k => dn E4 E7 E5 E6 E2 E3 (j 0) k * E1 (ix2 0 k)) (j 1) : ℝ) : EReal) := by
  refine (dats m 0 c).arrAt_eq_of_covers 8 _ (by decide +kernel) fun t hf y => ?_
  have ho : ¬t.val % 2 = 0 := by
    have := (flush0_8 t).mp hf
    omega
  blk_simp
  rw [after0_8, outs8 t ho]
  idx_vars y
  rw [pay8_at (blk4 h4 t) (blk0 h0 t) (blk1 h1 t) (both_at h2 h3 h4 h5 h6 h7 t ho)]
  have he : ((View.whole main_v32_0).slice (win0_8.rect t)).emb (ix2 y0 y1) = ix2 (ri t y0) y1 := by
    blk_ext [ri, idx t]
  rw [he]
  rfl

/-- The gain's gradient: over all rows, the normed row's cotangent times the normalised row. -/
def gain (E0 : S8192x1024.Idx → ℝ) (D : Fin 8192 → Fin 1024 → ℝ) (l : Fin 1024) : ℝ :=
  ∑ r : Fin 8192, D r l * (E0 (ix2 r l) * Rms.r fun k => E0 (ix2 r k))

omit h2 h3 h4 h5 h6 h7 in
/-- The second points' shares of the gain's gradient add up to it. -/
theorem gain_eq (D : Fin 8192 → Fin 1024 → ℝ) (l : Fin 1024) :
    ∑ t : Fin cfg0.N, (if t.val % 2 = 0 then (0 : EReal) else
      ((∑ i : Fin 512, D (ri t i) l * (E0 (ix2 (ri t i) l) * Rms.r fun k => E0 (ix2 (ri t i) k)) : ℝ) : EReal)) = (gain E0 D l : EReal) := by
  refine (Fin.sum_divmod_congr (S := 2) (f := fun (a : Fin 16) (s : Fin 2) => if s.val = 0 then (0 : EReal) else
    ((∑ i : Fin 512, D ⟨a.val * 512 + i.val, by omega⟩ l * (E0 (ix2 ⟨a.val * 512 + i.val, by omega⟩ l)
      * Rms.r fun k => E0 (ix2 ⟨a.val * 512 + i.val, by omega⟩ k)) : ℝ) : EReal)) fun t ha hs => rfl).trans ?_
  simp only [Fin.sum_univ_two, Fin.val_zero, Fin.val_one, if_true, one_ne_zero, if_false, zero_add, coe_sum, gain]
  exact congrArg (fun r : ℝ => (r : EReal)) (Fin.sum_mul_add_fin 16 512 fun r : Fin 8192 => D r l * (E0 (ix2 r l) * Rms.r fun k => E0 (ix2 r k)))

/-- The gain's gradient after the region. -/
theorem final9 (h0 : ∀ i, V m c main_v22 i = (E0 i : EReal)) :
    (dats m 0 c).arrAt 9 (cfgs 0).N = fun j : S1x1024.Idx => (gain E0 (dn E4 E7 E5 E6 E2 E3) (j 1) : EReal) := by
  refine (dats m 0 c).arrAt_eq_of_after_last 9 last (by decide +kernel) _ fun j => ?_
  blk_simp
  rw [after0_9, Pipeline.eq_sum_fin_of_reset_step_apply_last (fun n h => (outsAt0 m c n h).2.1) 32 (fun _ => 0)
    (fun t j => if t.val % 2 = 0 then (0 : EReal) else ((∑ i : Fin 512, dn E4 E7 E5 E6 E2 E3 (ri t i) (j 1)
      * (E0 (ix2 (ri t i) (j 1)) * Rms.r fun k => E0 (ix2 (ri t i) k)) : ℝ) : EReal))
    (fun t h j => by
      rw [outsAt0_A m c t (by omega) (by omega) h (by omega), if_pos (by omega)]; frame_out; rw [pay4_at, add_zero])
    (fun t h j => by
      by_cases h' : t.val % 2 = 0
      · rw [outsAt0_C m c t h' (by omega) h (by omega), if_pos h', add_zero]; rfl
      · rw [outsAt0_B m c t h' (by omega) h (by omega), if_neg h']
        frame_out
        erw [Memref.IsWhole.read_unread]
        erw [pay9_at (blk0 h0 t) (both_at h2 h3 h4 h5 h6 h7 t h')]
        rfl)
    (le_of_eq N_0) last rfl j, zero_add]
  exact gain_eq (dn E4 E7 E5 E6 E2 E3) (j 1)

end Both

/-- The gate's cotangent after the region. -/
theorem final10 (h2 : ∀ i, V m c main_v17 i = (E2 i : EReal)) (h3 : ∀ i, V m c main_v21 i = (E3 i : EReal))
    (h4 : ∀ i, V m c main_v23 i = (E4 i : EReal)) (h7 : ∀ i, V m c main_v31 i = (E7 i : EReal)) :
    (dats m 0 c).arrAt 10 (cfgs 0).N = fun j : S8192x2816.Idx => ((dga E4 E7 E2 E3 (j 0) (j 1) : ℝ) : EReal) := by
  refine (dats m 0 c).arrAt_eq_of_covers 10 _ (by decide +kernel) fun t hf y => ?_
  blk_simp
  rw [after0_10, outs10]
  idx_vars y
  rw [pay17_at (blk4 h4 t) (blk7 h7 t) (blk2 h2 t) (blk3 h3 t)]
  have he : ((View.whole main_v32_2).slice (win0_10.rect t)).emb (ix2 y0 y1) = ix2 (ri t y0) (fi t y1) := by
    blk_ext [ri, fi, idx t]
  rw [he]
  rfl

/-- The other projection's cotangent after the region. -/
theorem final11 (h2 : ∀ i, V m c main_v17 i = (E2 i : EReal))
    (h4 : ∀ i, V m c main_v23 i = (E4 i : EReal)) (h7 : ∀ i, V m c main_v31 i = (E7 i : EReal)) :
    (dats m 0 c).arrAt 11 (cfgs 0).N = fun j : S8192x2816.Idx => ((du E4 E7 E2 (j 0) (j 1) : ℝ) : EReal) := by
  refine (dats m 0 c).arrAt_eq_of_covers 11 _ (by decide +kernel) fun t hf y => ?_
  blk_simp
  rw [after0_11, outs11]
  idx_vars y
  rw [pay16_at (blk4 h4 t) (blk7 h7 t) (blk2 h2 t)]
  have he : ((View.whole main_v32_3).slice (win0_11.rect t)).emb (ix2 y0 y1) = ix2 (ri t y0) (fi t y1) := by
    blk_ext [ri, fi, idx t]
  rw [he]
  rfl

end Blocks

end Cert.FfnBwdIdeal.Value

end
-- ==== Proof.FfnBwd.lean ====
module

public import proofs.«01_k».proof.Defs
public import proofs.«01_k».proof.Proof.FfnBwdRef
public import proofs.«01_k».proof.Proof.FfnBwdKernel
public import proofs.«01_k».proof.Proof.Gen.Pre_finite_ffn_bwd
public import proofs.«01_k».proof.Proof.Gen.FfnBwdRefIdeal.Run

@[expose] public section

set_option maxRecDepth 16384

noncomputable section

/-! # The value of `ffn_bwd`

The region's entry arrays and the host lines around it, read as real arrays, against the reference. The gate and the
other projection are the forward lines' own. -/

namespace Cert.FfnBwdIdeal.Value

open Idealize.ShloMosaic Idealize.ShloMosaic.TcCoe Idealize.SL.Sem
open Cert.FfnBwdIdeal Cert.FfnBwdIdeal.Gen
open Cert.Proof Cert.Proof.Reals Cert.Proof.Half
open Cert.FfnBwdRefIdeal.At (row gn wt wb)

/-- The batch and the place of a row. -/
def rb (r : Fin 8192) : Fin 4 := ⟨r.val / 2048, by omega⟩
def rs (r : Fin 8192) : Fin 2048 := ⟨r.val % 2048, by omega⟩

/-- A three-axis array's rows in one axis. -/
def flat (X : S4x2048x1024.Idx → ℝ) (i : S8192x1024.Idx) : ℝ := X (ix3 (rb (i 0)) (rs (i 0)) (i 1))

/-- The rows' projections. -/
def projs (X : S4x2048x1024.Idx → ℝ) (G : S1x1024.Idx → ℝ) (W : S1x1024x2816.Idx → ℝ) (i : S8192x2816.Idx) : ℝ :=
  proj (row X (rb (i 0)) (rs (i 0))) (gn G) (wt W) (i 1)

/-- A projection's weights, hidden lanes first. -/
def turned (W : S1x1024x2816.Idx → ℝ) (i : S2816x1024.Idx) : ℝ := W (ix3 0 (i 1) (i 0))

/-- The weights back. -/
def back (W : S1x2816x1024.Idx → ℝ) (i : S2816x1024.Idx) : ℝ := W (ix3 0 (i 0) (i 1))

section Lines

/-- The normed rows, as the host's lines make them. -/
def lineN (x : FVec Ideal S4x2048x1024 .f32) (g : FVec Ideal S1x1024 .f32) : FVec Ideal S4x2048x1024 .f32 :=
  mulf (mulf x (broadcastInDim S4x2048x1024 ![0, 1, 2] bcast_S4x2048x1_S4x2048x1024_0_1_2 (Host.rsqrt (addf (Host.divf
    (broadcastInDim S4x2048x1 ![0, 1] bcast_S4x2048_S4x2048x1_0_1 (Host.reduceAdd (mulf x x) (constant S_ .f32 0x00000000#32) reducesTo_S4x2048x1024_S4x2048_d2 h_S_))
    (broadcastInDim S4x2048x1 ![] bcast_S_S4x2048x1 (constant S_ .f32 0x44800000#32)))
    (broadcastInDim S4x2048x1 ![] bcast_S_S4x2048x1 (constant S_ .f32 0x358637BD#32))))))
    (broadcastInDim S4x2048x1024 ![0, 1, 2] bcast_S1x1x1024_S4x2048x1024_0_1_2 (broadcastInDim S1x1x1024 ![2] bcast_S1024_S1x1x1024_2
      (shapeCast S1024 g shapeCasts_S1x1024_S1024)))

/-- A projection of the normed rows, its rows in one axis. -/
def lineP (n : FVec Ideal S4x2048x1024 .f32) (w : FVec Ideal S1x1024x2816 .f32) : FVec Ideal S8192x2816 .bf16 :=
  truncf .bf16 (shapeCast S8192x2816 (Host.dotGeneral dot_S4x2048x1024_S1024x2816_S4x2048x2816_2_0_01_1_n_n none n
    (shapeCast S1024x2816 w shapeCasts_S1x1024x2816_S1024x2816)) shapeCasts_S4x2048x2816_S8192x2816) bitsLt_bf16_f32

variable {x : FVec Ideal S4x2048x1024 .f32} {g : FVec Ideal S1x1024 .f32} {w : FVec Ideal S1x1024x2816 .f32}
  {X : S4x2048x1024.Idx → ℝ} {G : S1x1024.Idx → ℝ} {W : S1x1024x2816.Idx → ℝ}

theorem lineN_at (hx : ∀ i, x i = (X i : EReal)) (hg : ∀ i, g i = (G i : EReal)) (b : Fin 4) (s : Fin 2048) (d : Fin 1024) :
    lineN x g (ix3 b s d) = (norm (row X b s) (gn G) d : EReal) := by
  rw [Half.norm, Rms.r, EReal.coe_mul, EReal.coe_mul, ← rsqrt_coe_pos (Rms.v_pos _)]
  pointwise [lineN]
  simp only [hx, hg, ← EReal.coe_mul, coe_sum, ofBits_1024, ofBits_eps, div_coe_coe (show (1024 : ℝ) ≠ 0 by norm_num),
    ← EReal.coe_add, Rms.v, Nat.cast_ofNat]

theorem lineP_at (hx : ∀ i, x i = (X i : EReal)) (hg : ∀ i, g i = (G i : EReal)) (hw : ∀ i, w i = (W i : EReal)) (j : S8192x2816.Idx) :
    lineP (lineN x g) w j = (projs X G W j : EReal) := by
  idx_vars j
  pointwise [lineP]
  simp only [lineN_at hx hg, hw, ← EReal.coe_mul, coe_sum]
  rfl

end Lines

section Arrays

variable (m : (ℓ : Loc nD τ sig) → Buf (Elt Ideal) ℓ) (c : Dev nD)
  {A0 A5 : S4x2048x1024.Idx → ℝ} {A1 : S1x1024.Idx → ℝ} {A2 A3 : S1x1024x2816.Idx → ℝ} {A4 : S1x2816x1024.Idx → ℝ}

theorem entry0 (h : ∀ i, m ((c.tc : Thread nD τ).loc main_arg0) i = (A0 i : EReal)) (j : S8192x1024.Idx) :
    V m c main_v22 j = (flat A0 j : EReal) := by
  idx_vars j
  show StableHlo.after [hostOps0].flatten _ _ _ = _
  simp only [List.flatten_cons, List.flatten_nil, List.append_nil]
  after_results
  pointwise []
  exact h _

theorem entry1 (h : ∀ i, m ((c.tc : Thread nD τ).loc main_arg1) i = (A1 i : EReal)) (j : S1x1024.Idx) :
    V m c main_arg1 j = (A1 j : EReal) := by
  rw [V_main_arg1]; exact h j

theorem entry2_eq : V m c main_v17 = lineP (lineN (m ((c.tc : Thread nD τ).loc main_arg0)) (m ((c.tc : Thread nD τ).loc main_arg1)))
    (m ((c.tc : Thread nD τ).loc main_arg2)) := by
  show StableHlo.after [hostOps0].flatten _ _ = _
  simp only [List.flatten_cons, List.flatten_nil, List.append_nil]
  after_results
  rfl

theorem entry3_eq : V m c main_v21 = lineP (lineN (m ((c.tc : Thread nD τ).loc main_arg0)) (m ((c.tc : Thread nD τ).loc main_arg1)))
    (m ((c.tc : Thread nD τ).loc main_arg3)) := by
  show StableHlo.after [hostOps0].flatten _ _ = _
  simp only [List.flatten_cons, List.flatten_nil, List.append_nil]
  after_results
  rfl

theorem entry2 (h0 : ∀ i, m ((c.tc : Thread nD τ).loc main_arg0) i = (A0 i : EReal)) (h1 : ∀ i, m ((c.tc : Thread nD τ).loc main_arg1) i = (A1 i : EReal))
    (h2 : ∀ i, m ((c.tc : Thread nD τ).loc main_arg2) i = (A2 i : EReal)) (j : S8192x2816.Idx) :
    V m c main_v17 j = (projs A0 A1 A2 j : EReal) := by
  rw [entry2_eq]; exact lineP_at h0 h1 h2 j

theorem entry3 (h0 : ∀ i, m ((c.tc : Thread nD τ).loc main_arg0) i = (A0 i : EReal)) (h1 : ∀ i, m ((c.tc : Thread nD τ).loc main_arg1) i = (A1 i : EReal))
    (h3 : ∀ i, m ((c.tc : Thread nD τ).loc main_arg3) i = (A3 i : EReal)) (j : S8192x2816.Idx) :
    V m c main_v21 j = (projs A0 A1 A3 j : EReal) := by
  rw [entry3_eq]; exact lineP_at h0 h1 h3 j

theorem entry4 (h : ∀ i, m ((c.tc : Thread nD τ).loc main_arg5) i = (A5 i : EReal)) (j : S8192x1024.Idx) :
    V m c main_v23 j = (flat A5 j : EReal) := by
  idx_vars j
  show StableHlo.after [hostOps0].flatten _ _ _ = _
  simp only [List.flatten_cons, List.flatten_nil, List.append_nil]
  after_results
  pointwise []
  exact h _

theorem entry5 (h : ∀ i, m ((c.tc : Thread nD τ).loc main_arg2) i = (A2 i : EReal)) (j : S2816x1024.Idx) :
    V m c main_v26 j = (turned A2 j : EReal) := by
  idx_vars j
  show StableHlo.after [hostOps0].flatten _ _ _ = _
  simp only [List.flatten_cons, List.flatten_nil, List.append_nil]
  after_results
  pointwise []
  exact h _

theorem entry6 (h : ∀ i, m ((c.tc : Thread nD τ).loc main_arg3) i = (A3 i : EReal)) (j : S2816x1024.Idx) :
    V m c main_v29 j = (turned A3 j : EReal) := by
  idx_vars j
  show StableHlo.after [hostOps0].flatten _ _ _ = _
  simp only [List.flatten_cons, List.flatten_nil, List.append_nil]
  after_results
  pointwise []
  exact h _

theorem entry7 (h : ∀ i, m ((c.tc : Thread nD τ).loc main_arg4) i = (A4 i : EReal)) (j : S2816x1024.Idx) :
    V m c main_v31 j = (back A4 j : EReal) := by
  idx_vars j
  show StableHlo.after [hostOps0].flatten _ _ _ = _
  simp only [List.flatten_cons, List.flatten_nil, List.append_nil]
  after_results
  pointwise []
  exact h _

/-- The gate's cotangent after the host line that widens it. -/
theorem tail33 (j : S8192x2816.Idx) : Pipeline.afterTail₀ cfgs (dats m) 0 (V0 m) [hostOps1] c main_v33 j
    = (show S8192x2816.Idx → EReal from (dats m 0 c).arrAt 10 (cfgs 0).N) j := by
  idx_vars j
  unfold Pipeline.afterTail₀
  simp only [List.flatten_cons, List.flatten_nil, List.append_nil]
  after_results
  erw [Pipeline.withArrays_arr (cfgs 0).spec launch0.win.arr_inj _ _ _ 10]
  generalize (dats m 0 c).arrAt 10 _ = K
  revert K
  intro (K : S8192x2816.Idx → EReal)
  pointwise []

/-- The other projection's cotangent after the host line that widens it. -/
theorem tail34 (j : S8192x2816.Idx) : Pipeline.afterTail₀ cfgs (dats m) 0 (V0 m) [hostOps1] c main_v34 j
    = (show S8192x2816.Idx → EReal from (dats m 0 c).arrAt 11 (cfgs 0).N) j := by
  idx_vars j
  unfold Pipeline.afterTail₀
  simp only [List.flatten_cons, List.flatten_nil, List.append_nil]
  after_results
  erw [Pipeline.withArrays_arr (cfgs 0).spec launch0.win.arr_inj _ _ _ 11]
  generalize (dats m 0 c).arrAt 11 _ = K
  revert K
  intro (K : S8192x2816.Idx → EReal)
  pointwise []

end Arrays

section Results

variable (m : (ℓ : Loc nD τ sig) → Buf (Elt Ideal) ℓ) (c : Dev nD)
  {A0 A5 : S4x2048x1024.Idx → ℝ} {A1 : S1x1024.Idx → ℝ} {A2 A3 : S1x1024x2816.Idx → ℝ} {A4 : S1x2816x1024.Idx → ℝ}
  (h0 : ∀ i, m ((c.tc : Thread nD τ).loc main_arg0) i = (A0 i : EReal)) (h1 : ∀ i, m ((c.tc : Thread nD τ).loc main_arg1) i = (A1 i : EReal))
  (h2 : ∀ i, m ((c.tc : Thread nD τ).loc main_arg2) i = (A2 i : EReal)) (h3 : ∀ i, m ((c.tc : Thread nD τ).loc main_arg3) i = (A3 i : EReal))
  (h4 : ∀ i, m ((c.tc : Thread nD τ).loc main_arg4) i = (A4 i : EReal)) (h5 : ∀ i, m ((c.tc : Thread nD τ).loc main_arg5) i = (A5 i : EReal))

include h0 h1 h2 h3 h4 h5

/-- The rows' cotangent is the reference's. -/
theorem res0 : Cert.FfnBwdRefIdeal.Read.val_main_v63 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = (dats m 0 c).arrAt 8 (cfgs 0).N := by
  rw [final8 (entry2 m c h0 h1 h2) (entry3 m c h0 h1 h3) (entry4 m c h5) (entry5 m c h2) (entry6 m c h3) (entry7 m c h4)
    (entry0 m c h0) (entry1 m c h1)]
  funext j
  idx_vars j
  unfold Cert.FfnBwdRefIdeal.Read.val_main_v63
  pointwise []
  rw [Cert.FfnBwdRefIdeal.At.v61_at h0 h1 h2 h3 h4 h5]
  rfl

/-- The gain's gradient is the reference's. -/
theorem res1 : Cert.FfnBwdRefIdeal.Read.val_main_v62 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = (dats m 0 c).arrAt 9 (cfgs 0).N := by
  rw [final9 (entry2 m c h0 h1 h2) (entry3 m c h0 h1 h3) (entry4 m c h5) (entry5 m c h2) (entry6 m c h3) (entry7 m c h4)
    (entry0 m c h0)]
  funext j
  idx_vars j
  rw [Cert.FfnBwdRefIdeal.At.v62_at h0 h1 h2 h3 h4 h5]
  refine congrArg (fun r : ℝ => (r : EReal)) (Eq.symm ?_)
  refine Fin.sum_divmod_congr (S := 2048) fun r ha hs => ?_
  rw [mul_comm]
  rfl

/-- The gate's cotangent is the reference's. -/
theorem res2 : Cert.FfnBwdRefIdeal.Read.val_main_v64 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = Pipeline.afterTail₀ cfgs (dats m) 0 (V0 m) [hostOps1] c main_v33 := by
  funext j
  rw [tail33, final10 (entry2 m c h0 h1 h2) (entry3 m c h0 h1 h3) (entry4 m c h5) (entry7 m c h4)]
  idx_vars j
  unfold Cert.FfnBwdRefIdeal.Read.val_main_v64
  pointwise []
  rw [Cert.FfnBwdRefIdeal.At.v38_at h0 h1 h2 h3 h4 h5]
  rfl

omit h3 in
/-- The other projection's cotangent is the reference's. -/
theorem res3 : Cert.FfnBwdRefIdeal.Read.val_main_v65 (F := Ideal) (m ((c.tc : Thread nD τ).loc main_arg0)) (m ((c.tc : Thread nD τ).loc main_arg1))
      (m ((c.tc : Thread nD τ).loc main_arg2)) (m ((c.tc : Thread nD τ).loc main_arg4))
      (m ((c.tc : Thread nD τ).loc main_arg5)) = Pipeline.afterTail₀ cfgs (dats m) 0 (V0 m) [hostOps1] c main_v34 := by
  funext j
  rw [tail34, final11 (entry2 m c h0 h1 h2) (entry4 m c h5) (entry7 m c h4)]
  idx_vars j
  unfold Cert.FfnBwdRefIdeal.Read.val_main_v65
  pointwise []
  rw [Cert.FfnBwdRefIdeal.At.v35_at h0 h1 h2 h4 h5]
  rfl

end Results

/-- The precondition: every argument is an array of reals. -/
theorem reals (m : (ℓ : Loc nD τ sig) → Buf (Elt Ideal) ℓ) (h : Pre_FfnBwdIdeal_finite_ffn_bwd m) (c : Dev nD) :
    (∃ A : S4x2048x1024.Idx → ℝ, ∀ i, m ((c.tc : Thread nD τ).loc main_arg0) i = (A i : EReal))
    ∧ (∃ A : S1x1024.Idx → ℝ, ∀ i, m ((c.tc : Thread nD τ).loc main_arg1) i = (A i : EReal))
    ∧ (∃ A : S1x1024x2816.Idx → ℝ, ∀ i, m ((c.tc : Thread nD τ).loc main_arg2) i = (A i : EReal))
    ∧ (∃ A : S1x1024x2816.Idx → ℝ, ∀ i, m ((c.tc : Thread nD τ).loc main_arg3) i = (A i : EReal))
    ∧ (∃ A : S1x2816x1024.Idx → ℝ, ∀ i, m ((c.tc : Thread nD τ).loc main_arg4) i = (A i : EReal))
    ∧ (∃ A : S4x2048x1024.Idx → ℝ, ∀ i, m ((c.tc : Thread nD τ).loc main_arg5) i = (A i : EReal)) := by
  obtain ⟨p0, p1, p2, p3, p4, p5⟩ := h c
  refine ⟨exists_array fun i => exists_real ?_, exists_array fun i => exists_real ?_, exists_array fun i => exists_real ?_,
    exists_array fun i => exists_real ?_, exists_array fun i => exists_real ?_, exists_array fun i => exists_real ?_⟩
  · have := congrFun p0 i; idx_vars i; pointwise [Cert.Pre_finite_ffn_bwd.fn] at this; exact this
  · have := congrFun p1 i; idx_vars i; pointwise [Cert.Pre_finite_ffn_bwd.fn] at this; exact this
  · have := congrFun p2 i; idx_vars i; pointwise [Cert.Pre_finite_ffn_bwd.fn] at this; exact this
  · have := congrFun p3 i; idx_vars i; pointwise [Cert.Pre_finite_ffn_bwd.fn] at this; exact this
  · have := congrFun p4 i; idx_vars i; pointwise [Cert.Pre_finite_ffn_bwd.fn] at this; exact this
  · have := congrFun p5 i; idx_vars i; pointwise [Cert.Pre_finite_ffn_bwd.fn] at this; exact this

section Agree

variable (m : (ℓ : Loc nD τ sig) → Buf (Elt Ideal) ℓ)
  (m' : (ℓ : Loc Cert.FfnBwdRefIdeal.nD Cert.FfnBwdRefIdeal.τ Cert.FfnBwdRefIdeal.sig) → Buf (Elt Ideal) ℓ) (c : Dev nD)
  (hpre : Pre_FfnBwdIdeal_finite_ffn_bwd m)
    (e0 : m' ((c.tc : Thread Cert.FfnBwdRefIdeal.nD Cert.FfnBwdRefIdeal.τ).loc Cert.FfnBwdRefIdeal.main_arg0) = m ((c.tc : Thread nD τ).loc main_arg0))
    (e1 : m' ((c.tc : Thread Cert.FfnBwdRefIdeal.nD Cert.FfnBwdRefIdeal.τ).loc Cert.FfnBwdRefIdeal.main_arg1) = m ((c.tc : Thread nD τ).loc main_arg1))
    (e2 : m' ((c.tc : Thread Cert.FfnBwdRefIdeal.nD Cert.FfnBwdRefIdeal.τ).loc Cert.FfnBwdRefIdeal.main_arg2) = m ((c.tc : Thread nD τ).loc main_arg2))
    (e3 : m' ((c.tc : Thread Cert.FfnBwdRefIdeal.nD Cert.FfnBwdRefIdeal.τ).loc Cert.FfnBwdRefIdeal.main_arg3) = m ((c.tc : Thread nD τ).loc main_arg3))
    (e4 : m' ((c.tc : Thread Cert.FfnBwdRefIdeal.nD Cert.FfnBwdRefIdeal.τ).loc Cert.FfnBwdRefIdeal.main_arg4) = m ((c.tc : Thread nD τ).loc main_arg4))
    (e5 : m' ((c.tc : Thread Cert.FfnBwdRefIdeal.nD Cert.FfnBwdRefIdeal.τ).loc Cert.FfnBwdRefIdeal.main_arg5) = m ((c.tc : Thread nD τ).loc main_arg5))
include hpre e0 e1 e2 e3 e4 e5

/-- The reference's rows' cotangent, from arguments that agree. -/
theorem agree0 : Cert.FfnBwdRefIdeal.Value.res_main_v63 m' c = (dats m 0 c).arrAt 8 (cfgs 0).N := by
  obtain ⟨⟨A0, h0⟩, ⟨A1, h1⟩, ⟨A2, h2⟩, ⟨A3, h3⟩, ⟨A4, h4⟩, ⟨A5, h5⟩⟩ := reals m hpre c
  rw [Cert.FfnBwdRefIdeal.Read.val_main_v63_eq m' c, e0, e1, e2, e3, e4, e5]
  exact res0 m c h0 h1 h2 h3 h4 h5

/-- The reference's gain's gradient, from arguments that agree. -/
theorem agree1 : Cert.FfnBwdRefIdeal.Value.res_main_v62 m' c = (dats m 0 c).arrAt 9 (cfgs 0).N := by
  obtain ⟨⟨A0, h0⟩, ⟨A1, h1⟩, ⟨A2, h2⟩, ⟨A3, h3⟩, ⟨A4, h4⟩, ⟨A5, h5⟩⟩ := reals m hpre c
  rw [Cert.FfnBwdRefIdeal.Read.val_main_v62_eq m' c, e0, e1, e2, e3, e4, e5]
  exact res1 m c h0 h1 h2 h3 h4 h5

/-- The reference's gate's cotangent, from arguments that agree. -/
theorem agree2 : Cert.FfnBwdRefIdeal.Value.res_main_v64 m' c = Pipeline.afterTail₀ cfgs (dats m) 0 (V0 m) [hostOps1] c main_v33 := by
  obtain ⟨⟨A0, h0⟩, ⟨A1, h1⟩, ⟨A2, h2⟩, ⟨A3, h3⟩, ⟨A4, h4⟩, ⟨A5, h5⟩⟩ := reals m hpre c
  rw [Cert.FfnBwdRefIdeal.Read.val_main_v64_eq m' c, e0, e1, e2, e3, e4, e5]
  exact res2 m c h0 h1 h2 h3 h4 h5

end Agree

/-- For finite arguments the kernel and the reference end with the same four cotangents. -/
theorem algebraic : algebraic_FfnBwdIdeal_FfnBwdRefIdeal_pre_finite_ffn_bwd := by
  pair_intro
  · run_from Cert.FfnBwdIdeal.Gen.run_main m g & Cert.FfnBwdIdeal.Gen.unchanged m g
  · run_from Cert.FfnBwdRefIdeal.Value.run m' g'
    all_goals obtain ⟨e0, e1, e2, e3, e4, e5⟩ := hagree c
    · exact agree0 m m' c hpre e0 e1 e2 e3 e4 e5
    · exact agree1 m m' c hpre e0 e1 e2 e3 e4 e5
    · exact agree2 m m' c hpre e0 e1 e2 e3 e4 e5
    · obtain ⟨⟨A0, h0⟩, ⟨A1, h1⟩, ⟨A2, h2⟩, -, ⟨A4, h4⟩, ⟨A5, h5⟩⟩ := reals m hpre c
      refine Eq.trans (Cert.FfnBwdRefIdeal.Read.val_main_v65_eq (F := Ideal) _ _ _ _ _) ?_
      exact res3 m c h0 h1 h2 h4 h5

/-- The reference leaves its arguments unchanged and declares no semaphore. -/
theorem frame_ref : quiescent_FfnBwdRefIdeal := fun m g _ =>
  (θ_run Cert.FfnBwdRefIdeal.defs _ _).mono (fun r h => ⟨fun c => (h c).2.2.2.2, sem_eq_zero_of_no_sems (by decide) r.2⟩)
    (Cert.FfnBwdRefIdeal.Value.run m g)

end Cert.FfnBwdIdeal.Value

end
-- ==== Proof.MlaFwdTiles.lean ====
module

public import proofs.«01_k».proof.Proof.Gen.MlaFwdIdeal.Frame
public import proofs.«01_k».proof.Proof.MlaBwdRounds
public import proofs.«01_k».proof.Proof.Softmax

@[expose] public section

set_option maxRecDepth 16384

noncomputable section

/-! # The tiles of `mla_fwd`, over the reals

One grid point handles one batch and two heads, as in `mla_bwd`. A tile of 512 queries meets the keys of the same rows,
with the causal mask, and all earlier keys, without it. A row's largest score only has to be a real: neither the
quotient of the sums nor the logarithm of the sum depends on it once it is put back. -/

namespace Cert.MlaFwdIdeal.Value

open Idealize.ShloMosaic Idealize.ShloMosaic.TcCoe Idealize.SL.Sem
open Cert.MlaFwdIdeal Cert.MlaFwdIdeal.Gen
open Cert.Proof Cert.Proof.Reals
open Cert.MlaBwdIdeal.Value (S hl row sl le_512 le_1024 le_1536 at_512 at_1024 at_1536 sum_keys)

theorem named_sl : Named.named (F := Ideal) (φ := .f32) κ "scale_log2" 0x3E16C740#32 = ((sl : ℝ) : EReal) :=
  IdealRules.named_const.ideal_named_scalar _ _ _ _ rfl

theorem named_mask : Named.named (F := Ideal) (φ := .f32) κ "mask" 0xF149F2CA#32 = (⊥ : EReal) :=
  IdealRules.named_const.ideal_named_scalar _ _ _ _ rfl

theorem named_log2_e : Named.named (F := Ideal) (φ := .f32) κ "log2_e" 0x3FB8AA3B#32 = (((Real.log 2)⁻¹ : ℝ) : EReal) :=
  IdealRules.named_const.ideal_named_scalar _ _ _ _ rfl

/-! ## What a row computes -/

section Row

variable (Q K : S2048x256.Idx → ℝ) (V : S2048x128.Idx → ℝ) (h : Fin 2) (i : Fin 2048)

/-- The weight of key `j` for query `i`, less a real. -/
def W (M : ℝ) (j : Fin 2048) : ℝ := if j ≤ i then Real.rpow 2 (S Q K h i j * sl - M) else 0

/-- The weights' sum. -/
def Z (M : ℝ) : ℝ := ∑ j, W Q K h i M j

/-- A row of the attention. -/
def att (e : Fin 128) : ℝ := (∑ j, W Q K h i 0 j * V (ix2 j e)) / Z Q K h i 0

/-- The logarithm of a row's sum, in base 2. -/
def lse : ℝ := Real.log (Z Q K h i 0) * (Real.log 2)⁻¹

theorem W_shift (M : ℝ) (j : Fin 2048) : W Q K h i M j = W Q K h i 0 j / Real.rpow 2 M := by
  unfold W
  split
  · rw [sub_zero]; exact Real.rpow_sub (by norm_num) _ _
  · rw [zero_div]

theorem W_nonneg (M : ℝ) (j : Fin 2048) : 0 ≤ W Q K h i M j := by
  unfold W
  split
  · exact Real.rpow_nonneg (by norm_num) _
  · exact le_rfl

theorem Z_pos (M : ℝ) : 0 < Z Q K h i M := by
  refine Finset.sum_pos' (fun j _ => W_nonneg Q K h i M j) ⟨i, Finset.mem_univ _, ?_⟩
  unfold W; rw [if_pos le_rfl]; exact Real.rpow_pos_of_pos (by norm_num) _

theorem Z_shift (M : ℝ) : Z Q K h i M = Z Q K h i 0 / Real.rpow 2 M := by
  unfold Z; rw [Finset.sum_div]; exact Finset.sum_congr rfl fun j _ => W_shift Q K h i M j

theorem att_shift (M : ℝ) (e : Fin 128) :
    (∑ j, W Q K h i M j * V (ix2 j e)) * (1 / Z Q K h i M) = att Q K V h i e := by
  have h2 : (Real.rpow 2 M) ≠ 0 := (Real.rpow_pos_of_pos (by norm_num) _).ne'
  have hz := (Z_pos Q K h i 0).ne'
  have hs : (∑ j, W Q K h i M j * V (ix2 j e)) = (∑ j, W Q K h i 0 j * V (ix2 j e)) / Real.rpow 2 M := by
    rw [Finset.sum_div]
    exact Finset.sum_congr rfl fun j _ => by rw [W_shift, div_mul_eq_mul_div]
  rw [hs, Z_shift, att]; field_simp

theorem lse_shift (M : ℝ) : M + Real.log (Z Q K h i M) * (Real.log 2)⁻¹ = lse Q K h i := by
  have h2 : Real.log 2 ≠ 0 := (Real.log_pos (by norm_num)).ne'
  have hp : 0 < Real.rpow 2 M := Real.rpow_pos_of_pos (by norm_num) _
  rw [Z_shift, Real.log_div (Z_pos Q K h i 0).ne' hp.ne', lse]
  have : Real.log (Real.rpow 2 M) = M * Real.log 2 := Real.log_rpow (by norm_num) M
  rw [this]; field_simp; ring

/-- The keys after the tile on the diagonal have no weight. -/
theorem sum_W (f : Fin 2048 → ℝ) (M : ℝ) {r : ℕ} {hr : r + 512 ≤ 2048} {h0 : 0 + r ≤ 2048} (a : Fin 512) (hi : i = row r hr a) :
    (∑ b : Fin 512, W Q K h i M (row r hr b) * f (row r hr b)) + (∑ b : Fin r, W Q K h i M (row 0 h0 b) * f (row 0 h0 b))
      = ∑ j, W Q K h i M j * f j := by
  refine (sum_keys (fun j => W Q K h i M j * f j) r hr fun j hj => ?_).symm
  have : ¬ j ≤ i := by subst hi; intro hh; have h1 : j.val ≤ r + a.val := hh; omega
  simp only [W, if_neg this, zero_mul]

theorem sum_W_one (M : ℝ) {r : ℕ} {hr : r + 512 ≤ 2048} {h0 : 0 + r ≤ 2048} (a : Fin 512) (hi : i = row r hr a) :
    (∑ b : Fin 512, W Q K h i M (row r hr b)) + (∑ b : Fin r, W Q K h i M (row 0 h0 b)) = Z Q K h i M := by
  have := sum_W Q K h i (fun _ => 1) M (hr := hr) (h0 := h0) a hi
  simpa only [mul_one, Z] using this

end Row

/-- A power of two of a masked score less a real. -/
theorem exp2_sel (c : Prop) [Decidable c] (x M : ℝ) :
    Ideal.exp2 (Softmax.sel c x - (M : EReal)) = ((if c then Real.rpow 2 (x - M) else 0 : ℝ) : EReal) := by
  unfold Softmax.sel
  split
  · rw [← EReal.coe_sub, Ideal.exp2_coe]
  · rw [EReal.bot_sub, Ideal.exp2_bot]; rfl

/-! ## The masks -/

/-- The causal mask of a tile. -/
theorem pay3_at (a b : Fin 512) : k0_pay3 (ix2 a b) = BitVec.ofBool (decide (b ≤ a)) := by
  pointwise [k0_pay3]
  word_cmp
  rfl

/-- The lanes of the first half. -/
theorem pay4_at (a : Fin 512) (e : Fin 128) : k0_pay4 (ix2 a e) = BitVec.ofBool (decide (e.val / 64 = 0)) := by
  pointwise [k0_pay4]
  word_cmp
  congr 1; rw [decide_eq_decide]; omega

/-- The two halves' lanes put together. -/
theorem halves_at (x y : FVec Ideal S512x128 .f32) (a : Fin 512) (e : Fin 128) :
    select k0_pay4 x y (ix2 a e) = if e.val / 64 = 0 then x (ix2 a e) else y (ix2 a e) := by
  pointwise []
  rw [pay4_at]
  by_cases hc : e.val / 64 = 0
  · rw [if_pos hc, decide_eq_true hc]; rfl
  · rw [if_neg hc, decide_eq_false hc]; rfl

/-! ## The operations of the tile on the diagonal -/

/-- The scores in powers of two. -/
def scD (q k : Vec Ideal S512x128 .bf16) : FVec Ideal S512x512 .f32 :=
  mulf (matmul (F := Ideal) (φ₁ := .bf16) (φ₂ := .bf16) dot_S512x128_S512x128_S512x512_1_1_0_0_n_n none (shapeCast S512x128 q shapeCasts_S512x128_S512x128)
    (shapeCast S512x128 k shapeCasts_S512x128_S512x128) (constant S512x512 .f32 0x00000000#32))
    (broadcast S512x512 (Named.named (F := Ideal) (φ := .f32) κ "scale_log2" 0x3E16C740#32))

/-- The masked scores. -/
def mkD (q k : Vec Ideal S512x128 .bf16) : FVec Ideal S512x512 .f32 :=
  select k0_pay3 (scD q k) (broadcast S512x512 (Named.named (F := Ideal) (φ := .f32) κ "mask" 0xF149F2CA#32))

/-- The rows' largest. -/
def mxD (x : FVec Ideal S512x512 .f32) : FVec Ideal S512x1 .f32 :=
  shapeCast S512x1 (multiReduction .maximumf [1] S512 x 0xFF800000#32 reduces_S512x512_S512 (.inl rfl) rfl) shapeCasts_S512_S512x1

/-- The weights, less a real per row. -/
def pD (x : FVec Ideal S512x512 .f32) (m : FVec Ideal S512x1 .f32) : FVec Ideal S512x512 .f32 :=
  exp2 (subf x (broadcastTo S512x512 m broadcasts_S512x1_S512x512))

/-- The rows' sums. -/
def smD (p : FVec Ideal S512x512 .f32) : FVec Ideal S512x1 .f32 :=
  shapeCast S512x1 (multiReduction .add [1] S512 p 0x00000000#32 reduces_S512x512_S512 (.inl rfl) rfl) shapeCasts_S512_S512x1

/-- The weights times the values. -/
def avD (p : FVec Ideal S512x512 .f32) (v : Vec Ideal S512x128 .bf16) : FVec Ideal S512x128 .f32 :=
  matmul (F := Ideal) (φ₁ := .bf16) (φ₂ := .bf16) dot_S512x512_S512x128_S512x128_1_0_0_1_n_n none (truncf .bf16 p bitsLt_bf16_f32)
    (shapeCast S512x128 v shapeCasts_S512x128_S512x128) (constant S512x128 .f32 0x00000000#32)

/-- A row over its sum. -/
def quot (acc : FVec Ideal S512x128 .f32) (l : FVec Ideal S512x1 .f32) : FVec Ideal S512x128 .f32 :=
  mulf acc (broadcastTo S512x128 (divf (broadcast S512x1 (Scalar.ofBits (F := Ideal) .f32 0x3F800000#32)) l) broadcasts_S512x1_S512x128)

/-- The logarithm of a row's sum, over all lanes. -/
def logs (m l : FVec Ideal S512x1 .f32) : FVec Ideal S512x128 .f32 :=
  broadcastTo S512x128 (shapeCast S512x1 (addf m (mulf (log l) (broadcast S512x1 (Named.named (F := Ideal) (φ := .f32) κ "log2_e" 0x3FB8AA3B#32))))
    shapeCasts_S512x1_S512x1) broadcasts_S512x1_S512x128

theorem quot_at {acc : FVec Ideal S512x128 .f32} {l : FVec Ideal S512x1 .f32} {A B : ℝ} {a : Fin 512} {e : Fin 128} (hB : B ≠ 0)
    (hA : acc (ix2 a e) = (A : EReal)) (hl : ∀ u, l (ix2 a u) = (B : EReal)) : quot acc l (ix2 a e) = ((A * (1 / B) : ℝ) : EReal) := by
  pointwise [quot]
  simp only [hA, hl, Softmax.ofBits_1]
  rw [← EReal.coe_one, div_coe_coe hB, ← EReal.coe_mul]

theorem logs_at {m l : FVec Ideal S512x1 .f32} {M B : ℝ} {a : Fin 512} {e : Fin 128} (hB : 0 < B)
    (hm : ∀ u, m (ix2 a u) = (M : EReal)) (hl : ∀ u, l (ix2 a u) = (B : EReal)) :
    logs m l (ix2 a e) = ((M + Real.log B * (Real.log 2)⁻¹ : ℝ) : EReal) := by
  pointwise [logs]
  simp only [hm, hl, named_log2_e, log_coe_pos hB, ← EReal.coe_mul, ← EReal.coe_add]

section TileD

variable {q k v : Vec Ideal S512x128 .bf16} {Q K : S2048x256.Idx → ℝ} {V : S2048x128.Idx → ℝ} {h : Fin 2} {r : ℕ} {hr : r + 512 ≤ 2048}
  (hq : ∀ (a : Fin 512) (e : Fin 128), q (ix2 a e) = (Q (ix2 (row r hr a) (hl h e)) : EReal))
  (hk : ∀ (b : Fin 512) (e : Fin 128), k (ix2 b e) = (K (ix2 (row r hr b) (hl h e)) : EReal))
  (hv : ∀ (b : Fin 512) (e : Fin 128), v (ix2 b e) = (V (ix2 (row r hr b) e) : EReal))

include hq hk in
theorem mkD_at (a b : Fin 512) : mkD q k (ix2 a b) = Softmax.sel (b ≤ a) (S Q K h (row r hr a) (row r hr b) * sl) := by
  pointwise [mkD, scD]
  simp only [hq, hk, named_sl, named_mask, ← EReal.coe_mul, coe_sum]
  rw [pay3_at, Softmax.sel]
  by_cases hc : b ≤ a
  · rw [if_pos hc, decide_eq_true hc]; rfl
  · rw [if_neg hc, decide_eq_false hc]; rfl

include hq hk in
theorem mxD_real (a : Fin 512) : ∃ M : ℝ, ∀ u, mxD (mkD q k) (ix2 a u) = (M : EReal) := by
  obtain ⟨M, hM⟩ := Softmax.max_real (fun b : Fin 512 => b ≤ a) (fun b => S Q K h (row r hr a) (row r hr b) * sl) ⟨a, le_rfl⟩
  refine ⟨M, fun u => ?_⟩
  pointwise [mxD]
  simp only [mkD_at (Q := Q) (K := K) (h := h) (r := r) (hr := hr) hq hk, Softmax.ofBits_bot]
  exact hM

include hq hk in
theorem pD_at {m : FVec Ideal S512x1 .f32} {M : ℝ} (a b : Fin 512) (hm : ∀ u, m (ix2 a u) = (M : EReal)) :
    pD (mkD q k) m (ix2 a b) = (W Q K h (row r hr a) M (row r hr b) : EReal) := by
  pointwise [pD]
  rw [mkD_at (Q := Q) (K := K) (h := h) (r := r) (hr := hr) hq hk, hm]
  refine (exp2_sel _ _ _).trans (congrArg _ ?_)
  rw [W]
  by_cases hc : b ≤ a
  · rw [if_pos hc, if_pos (show row r hr b ≤ row r hr a from Nat.add_le_add_left hc r)]
  · rw [if_neg hc, if_neg (show ¬ row r hr b ≤ row r hr a from fun hh => hc (Nat.le_of_add_le_add_left hh))]

include hq hk in
theorem smD_at {m : FVec Ideal S512x1 .f32} {M : ℝ} (a : Fin 512) (hm : ∀ u, m (ix2 a u) = (M : EReal)) (u : Fin 1) :
    smD (pD (mkD q k) m) (ix2 a u) = ((∑ b : Fin 512, W Q K h (row r hr a) M (row r hr b) : ℝ) : EReal) := by
  pointwise [smD]
  simp only [pD_at (Q := Q) (K := K) (h := h) (r := r) (hr := hr) hq hk a _ hm, coe_sum]

include hq hk hv in
theorem avD_at {m : FVec Ideal S512x1 .f32} {M : ℝ} (a : Fin 512) (hm : ∀ u, m (ix2 a u) = (M : EReal)) (e : Fin 128) :
    avD (pD (mkD q k) m) v (ix2 a e) = ((∑ b : Fin 512, W Q K h (row r hr a) M (row r hr b) * V (ix2 (row r hr b) e) : ℝ) : EReal) := by
  pointwise [avD]
  simp only [pD_at (Q := Q) (K := K) (h := h) (r := r) (hr := hr) hq hk a _ hm, hv, ← EReal.coe_mul, coe_sum]

end TileD

/-! ## The first queries -/

/-- The first 512 queries' attention. -/
def out0 (q k v : Vec Ideal S512x128 .bf16) : FVec Ideal S512x128 .f32 :=
  quot (avD (pD (mkD q k) (mxD (mkD q k))) v) (smD (pD (mkD q k) (mxD (mkD q k))))

/-- Their logarithms. -/
def log0 (q k : Vec Ideal S512x128 .bf16) : FVec Ideal S512x128 .f32 :=
  logs (mxD (mkD q k)) (smD (pD (mkD q k) (mxD (mkD q k))))

section First

variable {q k v : Vec Ideal S512x128 .bf16} {Q K : S2048x256.Idx → ℝ} {V : S2048x128.Idx → ℝ} {h : Fin 2}
  (hq : ∀ (a : Fin 512) (e : Fin 128), q (ix2 a e) = (Q (ix2 (row 0 le_512 a) (hl h e)) : EReal))
  (hk : ∀ (b : Fin 512) (e : Fin 128), k (ix2 b e) = (K (ix2 (row 0 le_512 b) (hl h e)) : EReal))
  (hv : ∀ (b : Fin 512) (e : Fin 128), v (ix2 b e) = (V (ix2 (row 0 le_512 b) e) : EReal))

include hq hk hv in
theorem out0_at (a : Fin 512) (e : Fin 128) : out0 q k v (ix2 a e) = (att Q K V h (row 0 le_512 a) e : EReal) := by
  obtain ⟨M, hM⟩ := mxD_real (Q := Q) (K := K) (h := h) (r := 0) (hr := le_512) hq hk a
  have hz : (∑ b : Fin 512, W Q K h (row 0 le_512 a) M (row 0 le_512 b)) = Z Q K h (row 0 le_512 a) M := by
    have := sum_W_one Q K h (row 0 le_512 a) M (hr := le_512) (h0 := by omega) a rfl
    simpa using this
  have hs : (∑ b : Fin 512, W Q K h (row 0 le_512 a) M (row 0 le_512 b) * V (ix2 (row 0 le_512 b) e))
      = ∑ j, W Q K h (row 0 le_512 a) M j * V (ix2 j e) := by
    have := sum_W Q K h (row 0 le_512 a) (fun j => V (ix2 j e)) M (hr := le_512) (h0 := by omega) a rfl
    simpa using this
  refine (quot_at (Z_pos Q K h (row 0 le_512 a) M).ne' ((avD_at hq hk hv a hM e).trans (congrArg _ hs))
    fun u => (smD_at hq hk a hM u).trans (congrArg _ hz)).trans ?_
  rw [att_shift]

include hq hk in
theorem log0_at (a : Fin 512) (e : Fin 128) : log0 q k (ix2 a e) = (lse Q K h (row 0 le_512 a) : EReal) := by
  obtain ⟨M, hM⟩ := mxD_real (Q := Q) (K := K) (h := h) (r := 0) (hr := le_512) hq hk a
  have hz : (∑ b : Fin 512, W Q K h (row 0 le_512 a) M (row 0 le_512 b)) = Z Q K h (row 0 le_512 a) M := by
    have := sum_W_one Q K h (row 0 le_512 a) M (hr := le_512) (h0 := by omega) a rfl
    simpa using this
  refine (logs_at (Z_pos Q K h (row 0 le_512 a) M) hM fun u => (smD_at hq hk a hM u).trans (congrArg _ hz)).trans ?_
  rw [lse_shift]

end First

/-! ## The queries after 512 keys -/

/-- The scores of the earlier keys. -/
def scP512 (q : Vec Ideal S512x128 .bf16) (k : Vec Ideal S512x128 .bf16) : FVec Ideal S512x512 .f32 :=
  mulf (matmul (F := Ideal) (φ₁ := .bf16) (φ₂ := .bf16) dot_S512x128_S512x128_S512x512_1_1_0_0_n_n none (shapeCast S512x128 q shapeCasts_S512x128_S512x128)
    (shapeCast S512x128 k shapeCasts_S512x128_S512x128) (constant S512x512 .f32 0x00000000#32))
    (broadcast S512x512 (Named.named (F := Ideal) (φ := .f32) κ "scale_log2" 0x3E16C740#32))

/-- The rows' largest score. -/
def mxP512 (q kd : Vec Ideal S512x128 .bf16) (k : Vec Ideal S512x128 .bf16) : FVec Ideal S512x1 .f32 :=
  maximumf (mxD (mkD q kd)) (shapeCast S512x1 (multiReduction .maximumf [1] S512 (scP512 q k) 0xFF800000#32 reduces_S512x512_S512 (.inl rfl) rfl) shapeCasts_S512_S512x1)

/-- The earlier keys' weights. -/
def pP512 (q : Vec Ideal S512x128 .bf16) (k : Vec Ideal S512x128 .bf16) (m : FVec Ideal S512x1 .f32) : FVec Ideal S512x512 .f32 :=
  exp2 (subf (scP512 q k) (broadcastTo S512x512 m broadcasts_S512x1_S512x512))

/-- The rows' sums. -/
def smP512 (q kd : Vec Ideal S512x128 .bf16) (k : Vec Ideal S512x128 .bf16) (m : FVec Ideal S512x1 .f32) : FVec Ideal S512x1 .f32 :=
  addf (smD (pD (mkD q kd) m)) (shapeCast S512x1 (multiReduction .add [1] S512 (pP512 q k m) 0x00000000#32 reduces_S512x512_S512 (.inl rfl) rfl) shapeCasts_S512_S512x1)

/-- The queries' attention. -/
def out512 (q kd : Vec Ideal S512x128 .bf16) (k : Vec Ideal S512x128 .bf16) (vd : Vec Ideal S512x128 .bf16) (v : Vec Ideal S512x128 .bf16) : FVec Ideal S512x128 .f32 :=
  quot (addf (avD (pD (mkD q kd) (mxP512 q kd k)) vd)
    (matmul (F := Ideal) (φ₁ := .bf16) (φ₂ := .bf16) dot_S512x512_S512x128_S512x128_1_0_0_1_n_n none (truncf .bf16 (pP512 q k (mxP512 q kd k)) bitsLt_bf16_f32)
      (shapeCast S512x128 v shapeCasts_S512x128_S512x128) (constant S512x128 .f32 0x00000000#32)))
    (smP512 q kd k (mxP512 q kd k))

/-- Their logarithms. -/
def log512 (q kd : Vec Ideal S512x128 .bf16) (k : Vec Ideal S512x128 .bf16) : FVec Ideal S512x128 .f32 :=
  logs (mxP512 q kd k) (smP512 q kd k (mxP512 q kd k))

section Tile512

variable {q kd vd : Vec Ideal S512x128 .bf16} {k v : Vec Ideal S512x128 .bf16} {Q K : S2048x256.Idx → ℝ} {V : S2048x128.Idx → ℝ} {h : Fin 2}
  (hq : ∀ (a : Fin 512) (e : Fin 128), q (ix2 a e) = (Q (ix2 (row 512 at_512 a) (hl h e)) : EReal))
  (hkd : ∀ (b : Fin 512) (e : Fin 128), kd (ix2 b e) = (K (ix2 (row 512 at_512 b) (hl h e)) : EReal))
  (hk : ∀ (b : Fin 512) (e : Fin 128), k (ix2 b e) = (K (ix2 (row 0 le_512 b) (hl h e)) : EReal))
  (hvd : ∀ (b : Fin 512) (e : Fin 128), vd (ix2 b e) = (V (ix2 (row 512 at_512 b) e) : EReal))
  (hv : ∀ (b : Fin 512) (e : Fin 128), v (ix2 b e) = (V (ix2 (row 0 le_512 b) e) : EReal))

include hq hk in
theorem scP512_at (a : Fin 512) (b : Fin 512) : scP512 q k (ix2 a b) = ((S Q K h (row 512 at_512 a) (row 0 le_512 b) * sl : ℝ) : EReal) := by
  pointwise [scP512]
  simp only [hq, hk, named_sl, ← EReal.coe_mul, coe_sum, S]

include hq hkd hk in
theorem mxP512_real (a : Fin 512) : ∃ M : ℝ, ∀ u, mxP512 q kd k (ix2 a u) = (M : EReal) := by
  obtain ⟨M, hM⟩ := mxD_real (Q := Q) (K := K) (h := h) (r := 512) (hr := at_512) hq hkd a
  obtain ⟨M', hM'⟩ := Softmax.max_real (fun b : Fin 512 => True) (fun b => S Q K h (row 512 at_512 a) (row 0 le_512 b) * sl) ⟨0, trivial⟩
  refine ⟨max M M', fun u => ?_⟩
  have h1 : shapeCast S512x1 (multiReduction .maximumf [1] S512 (scP512 q k) 0xFF800000#32 reduces_S512x512_S512 (.inl rfl) rfl) shapeCasts_S512_S512x1 (ix2 a u)
      = (M' : EReal) := by
    pointwise []
    simp only [scP512_at (Q := Q) (K := K) (h := h) hq hk, Softmax.ofBits_bot]
    simpa only [Softmax.sel, if_true] using hM'
  have h2 : mxP512 q kd k (ix2 a u) = max (mxD (mkD q kd) (ix2 a u)) (shapeCast S512x1 (multiReduction .maximumf [1] S512 (scP512 q k) 0xFF800000#32
      reduces_S512x512_S512 (.inl rfl) rfl) shapeCasts_S512_S512x1 (ix2 a u)) := rfl
  rw [h2, h1, hM]
  exact (EReal.coe_strictMono.monotone.map_max).symm

include hq hk in
theorem pP512_at {m : FVec Ideal S512x1 .f32} {M : ℝ} (a : Fin 512) (b : Fin 512) (hm : ∀ u, m (ix2 a u) = (M : EReal)) :
    pP512 q k m (ix2 a b) = (W Q K h (row 512 at_512 a) M (row 0 le_512 b) : EReal) := by
  pointwise [pP512]
  rw [scP512_at (Q := Q) (K := K) (h := h) hq hk, hm, ← EReal.coe_sub, W,
    if_pos (show (row 0 le_512 b : Fin 2048) ≤ row 512 at_512 a from by show 0 + b.val ≤ 512 + a.val; omega)]
  exact Ideal.exp2_coe _

include hq hkd hk in
theorem smP512_at {m : FVec Ideal S512x1 .f32} {M : ℝ} (a : Fin 512) (hm : ∀ u, m (ix2 a u) = (M : EReal)) (u : Fin 1) :
    smP512 q kd k m (ix2 a u) = (Z Q K h (row 512 at_512 a) M : EReal) := by
  rw [← sum_W_one Q K h (row 512 at_512 a) M (hr := at_512) (h0 := le_512) a rfl, EReal.coe_add]
  refine congrArg₂ (· + ·) (smD_at (hr := at_512) hq hkd a hm u) ?_
  pointwise []
  simp only [pP512_at (Q := Q) (K := K) (h := h) hq hk a _ hm, coe_sum]

include hq hkd hk hvd hv in
theorem out512_at (a : Fin 512) (e : Fin 128) : out512 q kd k vd v (ix2 a e) = (att Q K V h (row 512 at_512 a) e : EReal) := by
  obtain ⟨M, hM⟩ := mxP512_real (Q := Q) (K := K) (h := h) hq hkd hk a
  refine (quot_at (A := ∑ j, W Q K h (row 512 at_512 a) M j * V (ix2 j e)) (Z_pos Q K h (row 512 at_512 a) M).ne' ?_ fun u => smP512_at hq hkd hk a hM u).trans ?_
  · rw [← sum_W Q K h (row 512 at_512 a) (fun j => V (ix2 j e)) M (hr := at_512) (h0 := le_512) a rfl, EReal.coe_add]
    refine congrArg₂ (· + ·) (avD_at (hr := at_512) hq hkd hvd a hM e) ?_
    pointwise []
    simp only [pP512_at (Q := Q) (K := K) (h := h) hq hk a _ hM, hv, ← EReal.coe_mul, coe_sum]
  · rw [att_shift]

include hq hkd hk in
theorem log512_at (a : Fin 512) (e : Fin 128) : log512 q kd k (ix2 a e) = (lse Q K h (row 512 at_512 a) : EReal) := by
  obtain ⟨M, hM⟩ := mxP512_real (Q := Q) (K := K) (h := h) hq hkd hk a
  refine (logs_at (Z_pos Q K h (row 512 at_512 a) M) hM fun u => smP512_at hq hkd hk a hM u).trans ?_
  rw [lse_shift]

end Tile512

/-! ## The queries after 1024 keys -/

/-- The scores of the earlier keys. -/
def scP1024 (q : Vec Ideal S512x128 .bf16) (k : Vec Ideal S1024x128 .bf16) : FVec Ideal S512x1024 .f32 :=
  mulf (matmul (F := Ideal) (φ₁ := .bf16) (φ₂ := .bf16) dot_S512x128_S1024x128_S512x1024_1_1_0_0_n_n none (shapeCast S512x128 q shapeCasts_S512x128_S512x128)
    (shapeCast S1024x128 k shapeCasts_S1024x128_S1024x128) (constant S512x1024 .f32 0x00000000#32))
    (broadcast S512x1024 (Named.named (F := Ideal) (φ := .f32) κ "scale_log2" 0x3E16C740#32))

/-- The rows' largest score. -/
def mxP1024 (q kd : Vec Ideal S512x128 .bf16) (k : Vec Ideal S1024x128 .bf16) : FVec Ideal S512x1 .f32 :=
  maximumf (mxD (mkD q kd)) (shapeCast S512x1 (multiReduction .maximumf [1] S512 (scP1024 q k) 0xFF800000#32 reduces_S512x1024_S512 (.inl rfl) rfl) shapeCasts_S512_S512x1)

/-- The earlier keys' weights. -/
def pP1024 (q : Vec Ideal S512x128 .bf16) (k : Vec Ideal S1024x128 .bf16) (m : FVec Ideal S512x1 .f32) : FVec Ideal S512x1024 .f32 :=
  exp2 (subf (scP1024 q k) (broadcastTo S512x1024 m broadcasts_S512x1_S512x1024))

/-- The rows' sums. -/
def smP1024 (q kd : Vec Ideal S512x128 .bf16) (k : Vec Ideal S1024x128 .bf16) (m : FVec Ideal S512x1 .f32) : FVec Ideal S512x1 .f32 :=
  addf (smD (pD (mkD q kd) m)) (shapeCast S512x1 (multiReduction .add [1] S512 (pP1024 q k m) 0x00000000#32 reduces_S512x1024_S512 (.inl rfl) rfl) shapeCasts_S512_S512x1)

/-- The queries' attention. -/
def out1024 (q kd : Vec Ideal S512x128 .bf16) (k : Vec Ideal S1024x128 .bf16) (vd : Vec Ideal S512x128 .bf16) (v : Vec Ideal S1024x128 .bf16) : FVec Ideal S512x128 .f32 :=
  quot (addf (avD (pD (mkD q kd) (mxP1024 q kd k)) vd)
    (matmul (F := Ideal) (φ₁ := .bf16) (φ₂ := .bf16) dot_S512x1024_S1024x128_S512x128_1_0_0_1_n_n none (truncf .bf16 (pP1024 q k (mxP1024 q kd k)) bitsLt_bf16_f32)
      (shapeCast S1024x128 v shapeCasts_S1024x128_S1024x128) (constant S512x128 .f32 0x00000000#32)))
    (smP1024 q kd k (mxP1024 q kd k))

/-- Their logarithms. -/
def log1024 (q kd : Vec Ideal S512x128 .bf16) (k : Vec Ideal S1024x128 .bf16) : FVec Ideal S512x128 .f32 :=
  logs (mxP1024 q kd k) (smP1024 q kd k (mxP1024 q kd k))

section Tile1024

variable {q kd vd : Vec Ideal S512x128 .bf16} {k v : Vec Ideal S1024x128 .bf16} {Q K : S2048x256.Idx → ℝ} {V : S2048x128.Idx → ℝ} {h : Fin 2}
  (hq : ∀ (a : Fin 512) (e : Fin 128), q (ix2 a e) = (Q (ix2 (row 1024 at_1024 a) (hl h e)) : EReal))
  (hkd : ∀ (b : Fin 512) (e : Fin 128), kd (ix2 b e) = (K (ix2 (row 1024 at_1024 b) (hl h e)) : EReal))
  (hk : ∀ (b : Fin 1024) (e : Fin 128), k (ix2 b e) = (K (ix2 (row 0 le_1024 b) (hl h e)) : EReal))
  (hvd : ∀ (b : Fin 512) (e : Fin 128), vd (ix2 b e) = (V (ix2 (row 1024 at_1024 b) e) : EReal))
  (hv : ∀ (b : Fin 1024) (e : Fin 128), v (ix2 b e) = (V (ix2 (row 0 le_1024 b) e) : EReal))

include hq hk in
theorem scP1024_at (a : Fin 512) (b : Fin 1024) : scP1024 q k (ix2 a b) = ((S Q K h (row 1024 at_1024 a) (row 0 le_1024 b) * sl : ℝ) : EReal) := by
  pointwise [scP1024]
  simp only [hq, hk, named_sl, ← EReal.coe_mul, coe_sum, S]

include hq hkd hk in
theorem mxP1024_real (a : Fin 512) : ∃ M : ℝ, ∀ u, mxP1024 q kd k (ix2 a u) = (M : EReal) := by
  obtain ⟨M, hM⟩ := mxD_real (Q := Q) (K := K) (h := h) (r := 1024) (hr := at_1024) hq hkd a
  obtain ⟨M', hM'⟩ := Softmax.max_real (fun b : Fin 1024 => True) (fun b => S Q K h (row 1024 at_1024 a) (row 0 le_1024 b) * sl) ⟨0, trivial⟩
  refine ⟨max M M', fun u => ?_⟩
  have h1 : shapeCast S512x1 (multiReduction .maximumf [1] S512 (scP1024 q k) 0xFF800000#32 reduces_S512x1024_S512 (.inl rfl) rfl) shapeCasts_S512_S512x1 (ix2 a u)
      = (M' : EReal) := by
    pointwise []
    simp only [scP1024_at (Q := Q) (K := K) (h := h) hq hk, Softmax.ofBits_bot]
    simpa only [Softmax.sel, if_true] using hM'
  have h2 : mxP1024 q kd k (ix2 a u) = max (mxD (mkD q kd) (ix2 a u)) (shapeCast S512x1 (multiReduction .maximumf [1] S512 (scP1024 q k) 0xFF800000#32
      reduces_S512x1024_S512 (.inl rfl) rfl) shapeCasts_S512_S512x1 (ix2 a u)) := rfl
  rw [h2, h1, hM]
  exact (EReal.coe_strictMono.monotone.map_max).symm

include hq hk in
theorem pP1024_at {m : FVec Ideal S512x1 .f32} {M : ℝ} (a : Fin 512) (b : Fin 1024) (hm : ∀ u, m (ix2 a u) = (M : EReal)) :
    pP1024 q k m (ix2 a b) = (W Q K h (row 1024 at_1024 a) M (row 0 le_1024 b) : EReal) := by
  pointwise [pP1024]
  rw [scP1024_at (Q := Q) (K := K) (h := h) hq hk, hm, ← EReal.coe_sub, W,
    if_pos (show (row 0 le_1024 b : Fin 2048) ≤ row 1024 at_1024 a from by show 0 + b.val ≤ 1024 + a.val; omega)]
  exact Ideal.exp2_coe _

include hq hkd hk in
theorem smP1024_at {m : FVec Ideal S512x1 .f32} {M : ℝ} (a : Fin 512) (hm : ∀ u, m (ix2 a u) = (M : EReal)) (u : Fin 1) :
    smP1024 q kd k m (ix2 a u) = (Z Q K h (row 1024 at_1024 a) M : EReal) := by
  rw [← sum_W_one Q K h (row 1024 at_1024 a) M (hr := at_1024) (h0 := le_1024) a rfl, EReal.coe_add]
  refine congrArg₂ (· + ·) (smD_at (hr := at_1024) hq hkd a hm u) ?_
  pointwise []
  simp only [pP1024_at (Q := Q) (K := K) (h := h) hq hk a _ hm, coe_sum]

include hq hkd hk hvd hv in
theorem out1024_at (a : Fin 512) (e : Fin 128) : out1024 q kd k vd v (ix2 a e) = (att Q K V h (row 1024 at_1024 a) e : EReal) := by
  obtain ⟨M, hM⟩ := mxP1024_real (Q := Q) (K := K) (h := h) hq hkd hk a
  refine (quot_at (A := ∑ j, W Q K h (row 1024 at_1024 a) M j * V (ix2 j e)) (Z_pos Q K h (row 1024 at_1024 a) M).ne' ?_ fun u => smP1024_at hq hkd hk a hM u).trans ?_
  · rw [← sum_W Q K h (row 1024 at_1024 a) (fun j => V (ix2 j e)) M (hr := at_1024) (h0 := le_1024) a rfl, EReal.coe_add]
    refine congrArg₂ (· + ·) (avD_at (hr := at_1024) hq hkd hvd a hM e) ?_
    pointwise []
    simp only [pP1024_at (Q := Q) (K := K) (h := h) hq hk a _ hM, hv, ← EReal.coe_mul, coe_sum]
  · rw [att_shift]

include hq hkd hk in
theorem log1024_at (a : Fin 512) (e : Fin 128) : log1024 q kd k (ix2 a e) = (lse Q K h (row 1024 at_1024 a) : EReal) := by
  obtain ⟨M, hM⟩ := mxP1024_real (Q := Q) (K := K) (h := h) hq hkd hk a
  refine (logs_at (Z_pos Q K h (row 1024 at_1024 a) M) hM fun u => smP1024_at hq hkd hk a hM u).trans ?_
  rw [lse_shift]

end Tile1024

/-! ## The queries after 1536 keys -/

/-- The scores of the earlier keys. -/
def scP1536 (q : Vec Ideal S512x128 .bf16) (k : Vec Ideal S1536x128 .bf16) : FVec Ideal S512x1536 .f32 :=
  mulf (matmul (F := Ideal) (φ₁ := .bf16) (φ₂ := .bf16) dot_S512x128_S1536x128_S512x1536_1_1_0_0_n_n none (shapeCast S512x128 q shapeCasts_S512x128_S512x128)
    (shapeCast S1536x128 k shapeCasts_S1536x128_S1536x128) (constant S512x1536 .f32 0x00000000#32))
    (broadcast S512x1536 (Named.named (F := Ideal) (φ := .f32) κ "scale_log2" 0x3E16C740#32))

/-- The rows' largest score. -/
def mxP1536 (q kd : Vec Ideal S512x128 .bf16) (k : Vec Ideal S1536x128 .bf16) : FVec Ideal S512x1 .f32 :=
  maximumf (mxD (mkD q kd)) (shapeCast S512x1 (multiReduction .maximumf [1] S512 (scP1536 q k) 0xFF800000#32 reduces_S512x1536_S512 (.inl rfl) rfl) shapeCasts_S512_S512x1)

/-- The earlier keys' weights. -/
def pP1536 (q : Vec Ideal S512x128 .bf16) (k : Vec Ideal S1536x128 .bf16) (m : FVec Ideal S512x1 .f32) : FVec Ideal S512x1536 .f32 :=
  exp2 (subf (scP1536 q k) (broadcastTo S512x1536 m broadcasts_S512x1_S512x1536))

/-- The rows' sums. -/
def smP1536 (q kd : Vec Ideal S512x128 .bf16) (k : Vec Ideal S1536x128 .bf16) (m : FVec Ideal S512x1 .f32) : FVec Ideal S512x1 .f32 :=
  addf (smD (pD (mkD q kd) m)) (shapeCast S512x1 (multiReduction .add [1] S512 (pP1536 q k m) 0x00000000#32 reduces_S512x1536_S512 (.inl rfl) rfl) shapeCasts_S512_S512x1)

/-- The queries' attention. -/
def out1536 (q kd : Vec Ideal S512x128 .bf16) (k : Vec Ideal S1536x128 .bf16) (vd : Vec Ideal S512x128 .bf16) (v : Vec Ideal S1536x128 .bf16) : FVec Ideal S512x128 .f32 :=
  quot (addf (avD (pD (mkD q kd) (mxP1536 q kd k)) vd)
    (matmul (F := Ideal) (φ₁ := .bf16) (φ₂ := .bf16) dot_S512x1536_S1536x128_S512x128_1_0_0_1_n_n none (truncf .bf16 (pP1536 q k (mxP1536 q kd k)) bitsLt_bf16_f32)
      (shapeCast S1536x128 v shapeCasts_S1536x128_S1536x128) (constant S512x128 .f32 0x00000000#32)))
    (smP1536 q kd k (mxP1536 q kd k))

/-- Their logarithms. -/
def log1536 (q kd : Vec Ideal S512x128 .bf16) (k : Vec Ideal S1536x128 .bf16) : FVec Ideal S512x128 .f32 :=
  logs (mxP1536 q kd k) (smP1536 q kd k (mxP1536 q kd k))

section Tile1536

variable {q kd vd : Vec Ideal S512x128 .bf16} {k v : Vec Ideal S1536x128 .bf16} {Q K : S2048x256.Idx → ℝ} {V : S2048x128.Idx → ℝ} {h : Fin 2}
  (hq : ∀ (a : Fin 512) (e : Fin 128), q (ix2 a e) = (Q (ix2 (row 1536 at_1536 a) (hl h e)) : EReal))
  (hkd : ∀ (b : Fin 512) (e : Fin 128), kd (ix2 b e) = (K (ix2 (row 1536 at_1536 b) (hl h e)) : EReal))
  (hk : ∀ (b : Fin 1536) (e : Fin 128), k (ix2 b e) = (K (ix2 (row 0 le_1536 b) (hl h e)) : EReal))
  (hvd : ∀ (b : Fin 512) (e : Fin 128), vd (ix2 b e) = (V (ix2 (row 1536 at_1536 b) e) : EReal))
  (hv : ∀ (b : Fin 1536) (e : Fin 128), v (ix2 b e) = (V (ix2 (row 0 le_1536 b) e) : EReal))

include hq hk in
theorem scP1536_at (a : Fin 512) (b : Fin 1536) : scP1536 q k (ix2 a b) = ((S Q K h (row 1536 at_1536 a) (row 0 le_1536 b) * sl : ℝ) : EReal) := by
  pointwise [scP1536]
  simp only [hq, hk, named_sl, ← EReal.coe_mul, coe_sum, S]

include hq hkd hk in
theorem mxP1536_real (a : Fin 512) : ∃ M : ℝ, ∀ u, mxP1536 q kd k (ix2 a u) = (M : EReal) := by
  obtain ⟨M, hM⟩ := mxD_real (Q := Q) (K := K) (h := h) (r := 1536) (hr := at_1536) hq hkd a
  obtain ⟨M', hM'⟩ := Softmax.max_real (fun b : Fin 1536 => True) (fun b => S Q K h (row 1536 at_1536 a) (row 0 le_1536 b) * sl) ⟨0, trivial⟩
  refine ⟨max M M', fun u => ?_⟩
  have h1 : shapeCast S512x1 (multiReduction .maximumf [1] S512 (scP1536 q k) 0xFF800000#32 reduces_S512x1536_S512 (.inl rfl) rfl) shapeCasts_S512_S512x1 (ix2 a u)
      = (M' : EReal) := by
    pointwise []
    simp only [scP1536_at (Q := Q) (K := K) (h := h) hq hk, Softmax.ofBits_bot]
    simpa only [Softmax.sel, if_true] using hM'
  have h2 : mxP1536 q kd k (ix2 a u) = max (mxD (mkD q kd) (ix2 a u)) (shapeCast S512x1 (multiReduction .maximumf [1] S512 (scP1536 q k) 0xFF800000#32
      reduces_S512x1536_S512 (.inl rfl) rfl) shapeCasts_S512_S512x1 (ix2 a u)) := rfl
  rw [h2, h1, hM]
  exact (EReal.coe_strictMono.monotone.map_max).symm

include hq hk in
theorem pP1536_at {m : FVec Ideal S512x1 .f32} {M : ℝ} (a : Fin 512) (b : Fin 1536) (hm : ∀ u, m (ix2 a u) = (M : EReal)) :
    pP1536 q k m (ix2 a b) = (W Q K h (row 1536 at_1536 a) M (row 0 le_1536 b) : EReal) := by
  pointwise [pP1536]
  rw [scP1536_at (Q := Q) (K := K) (h := h) hq hk, hm, ← EReal.coe_sub, W,
    if_pos (show (row 0 le_1536 b : Fin 2048) ≤ row 1536 at_1536 a from by show 0 + b.val ≤ 1536 + a.val; omega)]
  exact Ideal.exp2_coe _

include hq hkd hk in
theorem smP1536_at {m : FVec Ideal S512x1 .f32} {M : ℝ} (a : Fin 512) (hm : ∀ u, m (ix2 a u) = (M : EReal)) (u : Fin 1) :
    smP1536 q kd k m (ix2 a u) = (Z Q K h (row 1536 at_1536 a) M : EReal) := by
  rw [← sum_W_one Q K h (row 1536 at_1536 a) M (hr := at_1536) (h0 := le_1536) a rfl, EReal.coe_add]
  refine congrArg₂ (· + ·) (smD_at (hr := at_1536) hq hkd a hm u) ?_
  pointwise []
  simp only [pP1536_at (Q := Q) (K := K) (h := h) hq hk a _ hm, coe_sum]

include hq hkd hk hvd hv in
theorem out1536_at (a : Fin 512) (e : Fin 128) : out1536 q kd k vd v (ix2 a e) = (att Q K V h (row 1536 at_1536 a) e : EReal) := by
  obtain ⟨M, hM⟩ := mxP1536_real (Q := Q) (K := K) (h := h) hq hkd hk a
  refine (quot_at (A := ∑ j, W Q K h (row 1536 at_1536 a) M j * V (ix2 j e)) (Z_pos Q K h (row 1536 at_1536 a) M).ne' ?_ fun u => smP1536_at hq hkd hk a hM u).trans ?_
  · rw [← sum_W Q K h (row 1536 at_1536 a) (fun j => V (ix2 j e)) M (hr := at_1536) (h0 := le_1536) a rfl, EReal.coe_add]
    refine congrArg₂ (· + ·) (avD_at (hr := at_1536) hq hkd hvd a hM e) ?_
    pointwise []
    simp only [pP1536_at (Q := Q) (K := K) (h := h) hq hk a _ hM, hv, ← EReal.coe_mul, coe_sum]
  · rw [att_shift]

include hq hkd hk in
theorem log1536_at (a : Fin 512) (e : Fin 128) : log1536 q kd k (ix2 a e) = (lse Q K h (row 1536 at_1536 a) : EReal) := by
  obtain ⟨M, hM⟩ := mxP1536_real (Q := Q) (K := K) (h := h) hq hkd hk a
  refine (logs_at (Z_pos Q K h (row 1536 at_1536 a) M) hM fun u => smP1536_at hq hkd hk a hM u).trans ?_
  rw [lse_shift]

end Tile1536

end Cert.MlaFwdIdeal.Value

end
-- ==== Proof.MlaFwdKernel.lean ====
module

public import proofs.«01_k».proof.Proof.MlaFwdTiles
public import Idealize.ShloMosaic.Lib.Pipeline.ValueKit

@[expose] public section

set_option maxRecDepth 16384

noncomputable section

/-! # A grid point of `mla_fwd`, over the reals -/

namespace Cert.MlaFwdIdeal.Value

open Idealize.ShloMosaic Idealize.ShloMosaic.TcCoe Idealize.SL.Sem
open Idealize.ShloMosaic.Pipeline (Dat)
open Cert.MlaFwdIdeal Cert.MlaFwdIdeal.Gen
open Cert.Proof Cert.Proof.Reals
open Cert.MlaBwdIdeal.Value (S hl row sl le_512 le_1024 le_1536 at_512 at_1024 at_1536)

/-! ## Loads of rows -/

section Loads

variable {h : Fin 2} {r o : ℕ}

theorem wide512 {x : Vec Ideal S2048x256 .bf16} {X : S2048x256.Idx → ℝ} (hx : ∀ y, x y = (X y : EReal)) (ho : o = h.val * 128) {hr : r + 512 ≤ 2048}
    {inb : ∀ a, (![r, o] : Fin 2 → ℕ) a + S512x128.size a ≤ S2048x256.size a} (a : Fin 512) (e : Fin 128) :
    View.ld x (Rect.unit (s := S2048x256) ![r, o] S512x128.size inb) (ix2 a e : S512x128.Idx) = (X (ix2 (row r hr a) (hl h e)) : EReal) := by
  have hb : (Rect.unit (s := S2048x256) ![r, o] S512x128.size inb).emb (ix2 a e : S512x128.Idx) = ix2 (row r hr a) (hl h e) := by
    subst ho
    blk_ext [row, hl]
  exact (congrArg x hb).trans (hx _)

theorem narrow512 {x : Vec Ideal S2048x128 .bf16} {X : S2048x128.Idx → ℝ} (hx : ∀ y, x y = (X y : EReal)) {hr : r + 512 ≤ 2048}
    {inb : ∀ a, (![r, 0] : Fin 2 → ℕ) a + S512x128.size a ≤ S2048x128.size a} (a : Fin 512) (e : Fin 128) :
    View.ld x (Rect.unit (s := S2048x128) ![r, 0] S512x128.size inb) (ix2 a e : S512x128.Idx) = (X (ix2 (row r hr a) e) : EReal) := by
  have hb : (Rect.unit (s := S2048x128) ![r, 0] S512x128.size inb).emb (ix2 a e : S512x128.Idx) = ix2 (row r hr a) e := by
    blk_ext [row]
  exact (congrArg x hb).trans (hx _)

theorem wide1024 {x : Vec Ideal S2048x256 .bf16} {X : S2048x256.Idx → ℝ} (hx : ∀ y, x y = (X y : EReal)) (ho : o = h.val * 128) {hr : r + 1024 ≤ 2048}
    {inb : ∀ a, (![r, o] : Fin 2 → ℕ) a + S1024x128.size a ≤ S2048x256.size a} (a : Fin 1024) (e : Fin 128) :
    View.ld x (Rect.unit (s := S2048x256) ![r, o] S1024x128.size inb) (ix2 a e : S1024x128.Idx) = (X (ix2 (row r hr a) (hl h e)) : EReal) := by
  have hb : (Rect.unit (s := S2048x256) ![r, o] S1024x128.size inb).emb (ix2 a e : S1024x128.Idx) = ix2 (row r hr a) (hl h e) := by
    subst ho
    blk_ext [row, hl]
  exact (congrArg x hb).trans (hx _)

theorem narrow1024 {x : Vec Ideal S2048x128 .bf16} {X : S2048x128.Idx → ℝ} (hx : ∀ y, x y = (X y : EReal)) {hr : r + 1024 ≤ 2048}
    {inb : ∀ a, (![r, 0] : Fin 2 → ℕ) a + S1024x128.size a ≤ S2048x128.size a} (a : Fin 1024) (e : Fin 128) :
    View.ld x (Rect.unit (s := S2048x128) ![r, 0] S1024x128.size inb) (ix2 a e : S1024x128.Idx) = (X (ix2 (row r hr a) e) : EReal) := by
  have hb : (Rect.unit (s := S2048x128) ![r, 0] S1024x128.size inb).emb (ix2 a e : S1024x128.Idx) = ix2 (row r hr a) e := by
    blk_ext [row]
  exact (congrArg x hb).trans (hx _)

theorem wide1536 {x : Vec Ideal S2048x256 .bf16} {X : S2048x256.Idx → ℝ} (hx : ∀ y, x y = (X y : EReal)) (ho : o = h.val * 128) {hr : r + 1536 ≤ 2048}
    {inb : ∀ a, (![r, o] : Fin 2 → ℕ) a + S1536x128.size a ≤ S2048x256.size a} (a : Fin 1536) (e : Fin 128) :
    View.ld x (Rect.unit (s := S2048x256) ![r, o] S1536x128.size inb) (ix2 a e : S1536x128.Idx) = (X (ix2 (row r hr a) (hl h e)) : EReal) := by
  have hb : (Rect.unit (s := S2048x256) ![r, o] S1536x128.size inb).emb (ix2 a e : S1536x128.Idx) = ix2 (row r hr a) (hl h e) := by
    subst ho
    blk_ext [row, hl]
  exact (congrArg x hb).trans (hx _)

theorem narrow1536 {x : Vec Ideal S2048x128 .bf16} {X : S2048x128.Idx → ℝ} (hx : ∀ y, x y = (X y : EReal)) {hr : r + 1536 ≤ 2048}
    {inb : ∀ a, (![r, 0] : Fin 2 → ℕ) a + S1536x128.size a ≤ S2048x128.size a} (a : Fin 1536) (e : Fin 128) :
    View.ld x (Rect.unit (s := S2048x128) ![r, 0] S1536x128.size inb) (ix2 a e : S1536x128.Idx) = (X (ix2 (row r hr a) e) : EReal) := by
  have hb : (Rect.unit (s := S2048x128) ![r, 0] S1536x128.size inb).emb (ix2 a e : S1536x128.Idx) = ix2 (row r hr a) e := by
    blk_ext [row]
  exact (congrArg x hb).trans (hx _)

end Loads

/-! ## The two results -/

/-- The half of a lane. -/
def half (e : Fin 128) : Fin 2 := ⟨e.val / 64, by omega⟩

/-- Two values, one a half, each on its own lanes. -/
theorem halves {x y : FVec Ideal S512x128 .f32} {f : Fin 2 → ℝ} {a : Fin 512} {e : Fin 128}
    (hx : x (ix2 a e) = (f 0 : EReal)) (hy : y (ix2 a e) = (f 1 : EReal)) : select k0_pay4 x y (ix2 a e) = (f (half e) : EReal) := by
  rw [halves_at]
  split
  · rename_i hc
    rw [hx, show half e = 0 from Fin.ext hc]
  · rename_i hc
    rw [hy, show half e = 1 from Fin.ext (by show e.val / 64 = 1; omega)]

section Point

variable {x0 x1 : Vec Ideal S2048x256 .bf16} {x2 : Vec Ideal S2048x128 .bf16} {Q K : S2048x256.Idx → ℝ} {V : S2048x128.Idx → ℝ}
  (hq : ∀ y, x0 y = (Q y : EReal)) (hk : ∀ y, x1 y = (K y : EReal)) (hv : ∀ y, x2 y = (V y : EReal))

/-- The attention's block. -/
def attAll (Q K : S2048x256.Idx → ℝ) (V : S2048x128.Idx → ℝ) (y : S2048x128.Idx) : ℝ := att Q K V (half (y 1)) (y 0) (y 1)

/-- The logarithms' block. -/
def lseAll (Q K : S2048x256.Idx → ℝ) (y : S2048x128.Idx) : ℝ := lse Q K (half (y 1)) (y 0)

/-- The two blocks as the kernel writes them. -/
def attE (Q K : S2048x256.Idx → ℝ) (V : S2048x128.Idx → ℝ) (y : S2048x128.Idx) : EReal := (attAll Q K V y : EReal)

def lseE (Q K : S2048x256.Idx → ℝ) (y : S2048x128.Idx) : EReal := (lseAll Q K y : EReal)

theorem store {f : S2048x128.Idx → ℝ} {r : ℕ} {w : FVec Ideal S512x128 .f32}
    {inb : ∀ a, (![r, 0] : Fin 2 → ℕ) a + S512x128.size a ≤ S2048x128.size a} (hr : r + 512 ≤ 2048)
    (hw : ∀ a e, w (ix2 a e) = (f (ix2 (row r hr a) e) : EReal)) (x : S512x128.Idx) :
    w x = (f ((Rect.unit (s := S2048x128) ![r, 0] S512x128.size inb).emb x) : EReal) := by
  idx_vars x
  refine (hw x0 x1).trans (congrArg (fun j => (f j : EReal)) ?_)
  blk_ext [row]

include hq hk hv in
set_option maxHeartbeats 2000000 in
theorem out3_at (y : S2048x128.Idx) : out0_3 x0 x1 x2 y = (attAll Q K V y : EReal) := by
  unfold out0_3
  refine View.canon_apply_of_pieces (S := S2048x128) (e := .f32) (Val := Elt Ideal) (attE Q K V) _ (View.PiecesOf.mem ?_) y (cover0_3 _ _ _ _ y)
  refine ⟨?_, ?_, ?_, ?_, trivial⟩
  · refine store (f := attAll Q K V) (inb := inb_S2048x128_S512x128_1536_0) at_1536 fun a e => ?_
    exact halves (f := fun h => att Q K V h (row 1536 at_1536 a) e)
      (out1536_at (wide512 (h := 0) (o := 0) hq rfl) (wide512 (h := 0) (o := 0) hk rfl) (wide1536 (h := 0) (o := 0) hk rfl) (narrow512 hv) (narrow1536 hv) a e)
      (out1536_at (wide512 (h := 1) (o := 128) hq rfl) (wide512 (h := 1) (o := 128) hk rfl) (wide1536 (h := 1) (o := 128) hk rfl) (narrow512 hv) (narrow1536 hv) a e)
  · refine store (f := attAll Q K V) (inb := inb_S2048x128_S512x128_1024_0) at_1024 fun a e => ?_
    exact halves (f := fun h => att Q K V h (row 1024 at_1024 a) e)
      (out1024_at (wide512 (h := 0) (o := 0) hq rfl) (wide512 (h := 0) (o := 0) hk rfl) (wide1024 (h := 0) (o := 0) hk rfl) (narrow512 hv) (narrow1024 hv) a e)
      (out1024_at (wide512 (h := 1) (o := 128) hq rfl) (wide512 (h := 1) (o := 128) hk rfl) (wide1024 (h := 1) (o := 128) hk rfl) (narrow512 hv) (narrow1024 hv) a e)
  · refine store (f := attAll Q K V) (inb := inb_S2048x128_S512x128_512_0) at_512 fun a e => ?_
    exact halves (f := fun h => att Q K V h (row 512 at_512 a) e)
      (out512_at (wide512 (h := 0) (o := 0) hq rfl) (wide512 (h := 0) (o := 0) hk rfl) (wide512 (h := 0) (o := 0) hk rfl) (narrow512 hv) (narrow512 hv) a e)
      (out512_at (wide512 (h := 1) (o := 128) hq rfl) (wide512 (h := 1) (o := 128) hk rfl) (wide512 (h := 1) (o := 128) hk rfl) (narrow512 hv) (narrow512 hv) a e)
  · refine store (f := attAll Q K V) (inb := inb_S2048x128_S512x128_0_0) le_512 fun a e => ?_
    exact halves (f := fun h => att Q K V h (row 0 le_512 a) e)
      (out0_at (wide512 (h := 0) (o := 0) hq rfl) (wide512 (h := 0) (o := 0) hk rfl) (narrow512 hv) a e)
      (out0_at (wide512 (h := 1) (o := 128) hq rfl) (wide512 (h := 1) (o := 128) hk rfl) (narrow512 hv) a e)

include hq hk in
set_option maxHeartbeats 2000000 in
theorem out4_at (y : S2048x128.Idx) : out0_4 x0 x1 x2 y = (lseAll Q K y : EReal) := by
  unfold out0_4
  refine View.canon_apply_of_pieces (S := S2048x128) (e := .f32) (Val := Elt Ideal) (lseE Q K) _ (View.PiecesOf.mem ?_) y (cover0_4 _ _ _ _ y)
  refine ⟨?_, ?_, ?_, ?_, trivial⟩
  · refine store (f := lseAll Q K) (inb := inb_S2048x128_S512x128_1536_0) at_1536 fun a e => ?_
    exact halves (f := fun h => lse Q K h (row 1536 at_1536 a))
      (log1536_at (wide512 (h := 0) (o := 0) hq rfl) (wide512 (h := 0) (o := 0) hk rfl) (wide1536 (h := 0) (o := 0) hk rfl) a e)
      (log1536_at (wide512 (h := 1) (o := 128) hq rfl) (wide512 (h := 1) (o := 128) hk rfl) (wide1536 (h := 1) (o := 128) hk rfl) a e)
  · refine store (f := lseAll Q K) (inb := inb_S2048x128_S512x128_1024_0) at_1024 fun a e => ?_
    exact halves (f := fun h => lse Q K h (row 1024 at_1024 a))
      (log1024_at (wide512 (h := 0) (o := 0) hq rfl) (wide512 (h := 0) (o := 0) hk rfl) (wide1024 (h := 0) (o := 0) hk rfl) a e)
      (log1024_at (wide512 (h := 1) (o := 128) hq rfl) (wide512 (h := 1) (o := 128) hk rfl) (wide1024 (h := 1) (o := 128) hk rfl) a e)
  · refine store (f := lseAll Q K) (inb := inb_S2048x128_S512x128_512_0) at_512 fun a e => ?_
    exact halves (f := fun h => lse Q K h (row 512 at_512 a))
      (log512_at (wide512 (h := 0) (o := 0) hq rfl) (wide512 (h := 0) (o := 0) hk rfl) (wide512 (h := 0) (o := 0) hk rfl) a e)
      (log512_at (wide512 (h := 1) (o := 128) hq rfl) (wide512 (h := 1) (o := 128) hk rfl) (wide512 (h := 1) (o := 128) hk rfl) a e)
  · refine store (f := lseAll Q K) (inb := inb_S2048x128_S512x128_0_0) le_512 fun a e => ?_
    exact halves (f := fun h => lse Q K h (row 0 le_512 a))
      (log0_at (wide512 (h := 0) (o := 0) hq rfl) (wide512 (h := 0) (o := 0) hk rfl) a e)
      (log0_at (wide512 (h := 1) (o := 128) hq rfl) (wide512 (h := 1) (o := 128) hk rfl) a e)

end Point

end Cert.MlaFwdIdeal.Value

end
-- ==== Proof.MlaFwdRef.lean ====
module

public import proofs.«01_k».proof.Proof.Gen.MlaFwdRefIdeal.Read
public import proofs.«01_k».proof.Proof.MlaBwdRef

@[expose] public section

set_option maxRecDepth 16384

noncomputable section

/-! # The reference of `mla_fwd` at an index, over the reals

The scores and probabilities are those of `mla_bwd`'s reference. -/

namespace Cert.MlaFwdRefIdeal.At

open Idealize.ShloMosaic Idealize.ShloMosaic.TcCoe Idealize.SL.Sem
open Cert.MlaFwdRefIdeal Cert.MlaFwdRefIdeal.Gen Cert.MlaFwdRefIdeal.Read
open Cert.Proof Cert.Proof.Reals
open Cert.MlaBwdRefIdeal.At (score prob)

/-- The attention's output: the values' mean, weighted by the probabilities. -/
def attn (A0 : S4x2048x8x64.Idx → ℝ) (A1 : S4x2048x8x32.Idx → ℝ) (A2 : S4x2048x8x64.Idx → ℝ) (A3 : S4x2048x32.Idx → ℝ)
    (A4 : S4x2048x8x64.Idx → ℝ) (b : Fin 4) (h : Fin 8) (i : Fin 2048) (e : Fin 64) : ℝ :=
  ∑ j : Fin 2048, prob A0 A1 A2 A3 b h i j * A4 (ix4 b j h e)

/-- The logarithm, in base 2, of the sum of a row's exponentials. -/
def logs (A0 : S4x2048x8x64.Idx → ℝ) (A1 : S4x2048x8x32.Idx → ℝ) (A2 : S4x2048x8x64.Idx → ℝ) (A3 : S4x2048x32.Idx → ℝ)
    (b : Fin 4) (h : Fin 8) (i : Fin 2048) : ℝ :=
  Real.log (Softmax.z (fun k : Fin 2048 => k.val ≤ i.val) (score A0 A1 A2 A3 b h i)) / Real.log 2

variable {x0 x2 x4 : FVec Ideal S4x2048x8x64 .f32} {x1 : FVec Ideal S4x2048x8x32 .f32} {x3 : FVec Ideal S4x2048x32 .f32}
  {A0 A2 A4 : S4x2048x8x64.Idx → ℝ} {A1 : S4x2048x8x32.Idx → ℝ} {A3 : S4x2048x32.Idx → ℝ}

/-- The causal mask. -/
theorem v13_at (i j : Fin 2048) :
    val_main_v13 (F := Ideal) (ix2 i j) = BitVec.ofBool (decide (j.val ≤ i.val)) := by
  pointwise [val_main_v13, val_main_v12, val_main_v11, val_main_v10, val_main_v9, val_main_v8, val_main_v7]
  word_cmp

/-- The scale. -/
theorem v0_at : val_main_v0 (F := Ideal) ix0 = (((Real.sqrt 96)⁻¹ : ℝ) : EReal) := by
  pointwise [val_main_v0, val_main_cst]
  rw [Softmax.ofBits_96, rsqrt_coe_pos (by norm_num)]

/-- The scores of a head. -/
theorem v6_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) :
    val_main_v6 (F := Ideal) x0 x1 x2 x3 (ix4 b h i j) = (score A0 A1 A2 A3 b h i j : EReal) := by
  pointwise [val_main_v6, val_main_v5, val_main_v4, val_main_v3, val_main_v2, val_main_v1]
  simp only [v0_at, h0, h1, h2, h3, ← EReal.coe_mul, coe_sum, ← EReal.coe_add, score]
  simp only [mul_comm]

/-- The masked scores. -/
theorem v15_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) :
    val_main_v15 (F := Ideal) x0 x1 x2 x3 (ix4 b h i j) = Softmax.sel (j.val ≤ i.val) (score A0 A1 A2 A3 b h i j) := by
  pointwise [val_main_v15, val_main_call0_v1, val_main_v14, val_main_call0_v2, val_main_call0_v0, val_main_cst_0]
  rw [v13_at, v6_at h0 h1 h2 h3, WordCmp.select_decide]
  exact if_congr Iff.rfl rfl Softmax.ofBits_bot

/-- A row's largest score is a real. -/
theorem v18_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i : Fin 2048) :
    ∃ M : ℝ, val_main_v18 (F := Ideal) x0 x1 x2 x3 (ix3 b h i) = (M : EReal) := by
  obtain ⟨M, hM⟩ := Softmax.max_real (fun k : Fin 2048 => k.val ≤ i.val) (score A0 A1 A2 A3 b h i) ⟨i, le_rfl⟩
  refine ⟨M, ?_⟩
  rw [val_main_v18_apply, val_main_v17_apply, val_main_cst_2_apply]
  have hr : val_main_v16 (F := Ideal) x0 x1 x2 x3 (ix3 b h i) = (M : EReal) := by
    unfold val_main_v16
    rw [Softmax.hostReduceMax_axis3, val_main_cst_1_apply]
    simp only [v15_at h0 h1 h2 h3]
    rw [← hM]
    exact congrArg (fun e => Finset.univ.fold max e _) Softmax.ofBits_bot
  rw [hr]
  exact (congrArg (fun e => max e (M : EReal)) Softmax.ofBits_bot).trans (max_eq_right bot_le)

/-- The weights of a row, up to a positive factor. -/
theorem v22_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) {M : ℝ} (hM : val_main_v18 (F := Ideal) x0 x1 x2 x3 (ix3 b h i) = (M : EReal)) :
    val_main_v22 (F := Ideal) x0 x1 x2 x3 (ix4 b h i j) = ((Softmax.wt (j.val ≤ i.val) (score A0 A1 A2 A3 b h i j) / Real.exp M : ℝ) : EReal) := by
  pointwise [val_main_v22, val_main_v21, val_main_v20, val_main_v19]
  rw [v15_at h0 h1 h2 h3, hM, Softmax.exp_sel]

/-- Their sum. -/
theorem v24_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i : Fin 2048) (u : Fin 1) {M : ℝ} (hM : val_main_v18 (F := Ideal) x0 x1 x2 x3 (ix3 b h i) = (M : EReal)) :
    val_main_v24 (F := Ideal) x0 x1 x2 x3 (ix4 b h i u) = ((Softmax.z (fun k : Fin 2048 => k.val ≤ i.val) (score A0 A1 A2 A3 b h i) / Real.exp M : ℝ) : EReal) := by
  pointwise [val_main_v24, val_main_v23, val_main_cst_3]
  simp only [v22_at h0 h1 h2 h3 b h i _ hM, coe_sum, ← Finset.sum_div, Softmax.z]

/-- The probabilities. -/
theorem v26_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i j : Fin 2048) :
    val_main_v26 (F := Ideal) x0 x1 x2 x3 (ix4 b h i j) = (prob A0 A1 A2 A3 b h i j : EReal) := by
  obtain ⟨M, hM⟩ := v18_at h0 h1 h2 h3 b h i
  have hz : Softmax.z (fun k : Fin 2048 => k.val ≤ i.val) (score A0 A1 A2 A3 b h i) / Real.exp M ≠ 0 := (div_pos (Softmax.z_pos (fun k : Fin 2048 => k.val ≤ i.val) (score A0 A1 A2 A3 b h i) ⟨i, le_rfl⟩) (Real.exp_pos M)).ne'
  pointwise [val_main_v26, val_main_v25]
  rw [v22_at h0 h1 h2 h3 b h i j hM, v24_at h0 h1 h2 h3 b h i _ hM, div_coe_coe hz]
  rw [div_div_div_cancel_right₀ (Real.exp_pos M).ne']; rfl

/-- The output. -/
theorem v38_at (h0 : ∀ i, x0 i = (A0 i : EReal)) (h1 : ∀ i, x1 i = (A1 i : EReal)) (h2 : ∀ i, x2 i = (A2 i : EReal)) (h3 : ∀ i, x3 i = (A3 i : EReal)) (h4 : ∀ i, x4 i = (A4 i : EReal)) (b : Fin 4) (i : Fin 2048) (l : Fin 512) :
    val_main_v38 (F := Ideal) x0 x1 x2 x3 x4 (ix3 b i l)
      = (attn A0 A1 A2 A3 A4 b ⟨l.val / 64, by omega⟩ i ⟨l.val % 64, by omega⟩ : EReal) := by
  pointwise [val_main_v38, val_main_v37, val_main_v36]
  simp only [v26_at h0 h1 h2 h3, h4, ← EReal.coe_mul, coe_sum, attn]
  refine congrArg _ (Finset.sum_congr rfl fun j _ => ?_)
  exact mul_comm _ _

/-- The sum of a row's exponentials. -/
theorem v28_at (h0 : ∀ i, x0 i = (A0 i : EReal)) (h1 : ∀ i, x1 i = (A1 i : EReal)) (h2 : ∀ i, x2 i = (A2 i : EReal)) (h3 : ∀ i, x3 i = (A3 i : EReal)) (b : Fin 4) (h : Fin 8) (i : Fin 2048) :
    val_main_v28 (F := Ideal) x0 x1 x2 x3 (ix3 b h i) = (Softmax.z (fun k : Fin 2048 => k.val ≤ i.val) (score A0 A1 A2 A3 b h i) : EReal) := by
  have he : ∀ j : Fin 2048, Ideal.exp (Softmax.sel (j.val ≤ i.val) (score A0 A1 A2 A3 b h i j)) = (Softmax.wt (j.val ≤ i.val) (score A0 A1 A2 A3 b h i j) : EReal) := by
    intro j
    unfold Softmax.sel Softmax.wt
    split
    · rw [Ideal.exp_coe]
    · rw [Ideal.exp_bot]; rfl
  pointwise [val_main_v28, val_main_v27, val_main_cst_4]
  simp only [v15_at h0 h1 h2 h3, he, coe_sum, Softmax.z]

/-- The logarithms. -/
theorem v39_at (h0 : ∀ i, x0 i = (A0 i : EReal)) (h1 : ∀ i, x1 i = (A1 i : EReal)) (h2 : ∀ i, x2 i = (A2 i : EReal)) (h3 : ∀ i, x3 i = (A3 i : EReal)) (b : Fin 4) (i : Fin 2048) (l : Fin 512) :
    val_main_v39 (F := Ideal) x0 x1 x2 x3 (ix3 b i l) = (logs A0 A1 A2 A3 b ⟨l.val / 64, by omega⟩ i : EReal) := by
  pointwise [val_main_v39, val_main_v35, val_main_v34, val_main_v33, val_main_v32, val_main_v31, val_main_v30, val_main_cst_5, val_main_v29]
  have hz := Softmax.z_pos (fun k : Fin 2048 => k.val ≤ i.val) (score A0 A1 A2 A3 b ⟨l.val / 64, by omega⟩ i) ⟨i, le_rfl⟩
  rw [v28_at h0 h1 h2 h3, Softmax.ofBits_2, log_coe_pos hz, log_coe_pos (show (0 : ℝ) < 2 by norm_num),
    div_coe_coe (Real.log_pos (by norm_num)).ne', logs]

end Cert.MlaFwdRefIdeal.At

end
-- ==== Proof.MlaFwd.lean ====
module

public import proofs.«01_k».proof.Defs
public import proofs.«01_k».proof.Proof.MlaFwdKernel
public import proofs.«01_k».proof.Proof.MlaFwdRef
public import proofs.«01_k».proof.Proof.MlaBwdArrays
public import proofs.«01_k».proof.Proof.Gen.Pre_finite_mla_fwd
public import proofs.«01_k».proof.Proof.Gen.MlaFwdRefIdeal.Run

@[expose] public section

set_option maxRecDepth 16384

noncomputable section

/-! # The value of `mla_fwd`

The host lines join and pad the heads as those before `mla_bwd` do, and a grid point handles one batch and one pair of
heads likewise. -/

namespace Cert.MlaFwdIdeal.Value

open Idealize.ShloMosaic Idealize.ShloMosaic.TcCoe Idealize.SL.Sem
open Idealize.ShloMosaic.Pipeline (Dat)
open Cert.MlaFwdIdeal Cert.MlaFwdIdeal.Gen
open Cert.Proof Cert.Proof.Reals
open Cert.MlaBwdRefIdeal.At (query key score prob)
open Cert.MlaBwdIdeal.Value (S hl row sl rowOf rb ri qa ka va oa la lineQ lineK lineV lineQ_at lineK_at padded hd tile1 tile2 rb_rowOf ri_rowOf va_at oa_at
  la_at lane_at S_eq lane1 log2_pos)

/-! ## The region's entry -/

section Entry

variable (m : (ℓ : Loc nD τ sig) → Buf (Elt Ideal) ℓ) (c : Dev nD)
  {A0 A2 A4 : S4x2048x8x64.Idx → ℝ} {A1 : S4x2048x8x32.Idx → ℝ} {A3 : S4x2048x32.Idx → ℝ}

theorem entry0_eq : V m c main_v6 = truncf .bf16 (shapeCast S8192x1024 (pad S4x2048x8x128 ![0, 0, 0, 0] ![0, 0, 0, 32] ![0, 0, 0, 0]
    (lineQ (m ((c.tc : Thread nD τ).loc main_arg0)) (m ((c.tc : Thread nD τ).loc main_arg1))) (sitofp .f32 (constantI S_ 32 0#32))
    pads_S4x2048x8x96_S4x2048x8x128_000_000_000_0320 h_S_) shapeCasts_S4x2048x8x128_S8192x1024) bitsLt_bf16_f32 := by
  entry_read
  rfl

theorem entry1_eq : V m c main_v9 = truncf .bf16 (shapeCast S8192x1024 (pad S4x2048x8x128 ![0, 0, 0, 0] ![0, 0, 0, 32] ![0, 0, 0, 0]
    (lineK (m ((c.tc : Thread nD τ).loc main_arg2)) (m ((c.tc : Thread nD τ).loc main_arg3))) (sitofp .f32 (constantI S_ 32 0#32))
    pads_S4x2048x8x96_S4x2048x8x128_000_000_000_0320 h_S_) shapeCasts_S4x2048x8x128_S8192x1024) bitsLt_bf16_f32 := by
  entry_read
  rfl

theorem entry2_eq : V m c main_v12 = lineV (m ((c.tc : Thread nD τ).loc main_arg4)) := by
  entry_read
  rfl

variable
  (h0 : ∀ i, m ((c.tc : Thread nD τ).loc main_arg0) i = (A0 i : EReal)) (h1 : ∀ i, m ((c.tc : Thread nD τ).loc main_arg1) i = (A1 i : EReal))
  (h2 : ∀ i, m ((c.tc : Thread nD τ).loc main_arg2) i = (A2 i : EReal)) (h3 : ∀ i, m ((c.tc : Thread nD τ).loc main_arg3) i = (A3 i : EReal))
  (h4 : ∀ i, m ((c.tc : Thread nD τ).loc main_arg4) i = (A4 i : EReal))

include h0 h1 in
theorem entry0 (r : Fin 8192) (l : Fin 1024) : V m c main_v6 (ix2 r l) = (qa A0 A1 r l : EReal) := by
  rw [entry0_eq]
  refine (padded _ r l).trans ?_
  rw [qa]
  simp only [lineQ_at h0 h1]
  split <;> rfl

include h2 h3 in
theorem entry1 (r : Fin 8192) (l : Fin 1024) : V m c main_v9 (ix2 r l) = (ka A2 A3 r l : EReal) := by
  rw [entry1_eq]
  refine (padded _ r l).trans ?_
  rw [ka]
  simp only [lineK_at h2 h3]
  split <;> rfl

include h4 in
theorem entry2 (r : Fin 8192) (l : Fin 512) : V m c main_v12 (ix2 r l) = (va A4 r l : EReal) := by
  rw [entry2_eq]
  pointwise [lineV]
  exact (dif_pos ⟨by omega, by omega, by omega, by omega⟩).trans (h4 _)

end Entry

/-! ## A point's weights are the softmax's -/

section Point

variable (A0 : S4x2048x8x64.Idx → ℝ) (A1 : S4x2048x8x32.Idx → ℝ) (A2 : S4x2048x8x64.Idx → ℝ) (A3 : S4x2048x32.Idx → ℝ)
  (A4 : S4x2048x8x64.Idx → ℝ) (b p : Fin 4) (h : Fin 2) (i : Fin 2048)

theorem W_eq (j : Fin 2048) : W (tile2 (qa A0 A1) b p) (tile2 (ka A2 A3) b p) h i 0 j
    = Softmax.wt (j.val ≤ i.val) (score A0 A1 A2 A3 b (hd p h) i j) := by
  rw [W, sub_zero, sl, ← mul_assoc, S_eq, Softmax.wt]
  by_cases hji : j ≤ i
  · rw [if_pos hji, if_pos (show j.val ≤ i.val from hji), Real.rpow_eq_pow, Real.rpow_def_of_pos (by norm_num), mul_comm (Real.log 2), mul_assoc,
      inv_mul_cancel₀ log2_pos.ne', mul_one]
  · rw [if_neg hji, if_neg (show ¬ j.val ≤ i.val from hji)]

theorem Z_eq : Z (tile2 (qa A0 A1) b p) (tile2 (ka A2 A3) b p) h i 0
    = Softmax.z (fun k : Fin 2048 => k.val ≤ i.val) (score A0 A1 A2 A3 b (hd p h) i) := by
  unfold Z Softmax.z
  exact Finset.sum_congr rfl fun j _ => W_eq A0 A1 A2 A3 b p h i j

theorem att_eq (e : Fin 64) : att (tile2 (qa A0 A1) b p) (tile2 (ka A2 A3) b p) (tile1 (va A4) b p) h i ⟨h.val * 64 + e.val, by omega⟩
    = ∑ j : Fin 2048, prob A0 A1 A2 A3 b (hd p h) i j * A4 (ix4 b j (hd p h) e) := by
  rw [att, Z_eq, Finset.sum_div]
  refine Finset.sum_congr rfl fun j _ => ?_
  rw [W_eq, va_at, prob, Softmax.p, div_mul_eq_mul_div]

theorem lse_eq : lse (tile2 (qa A0 A1) b p) (tile2 (ka A2 A3) b p) h i
    = Real.log (Softmax.z (fun k : Fin 2048 => k.val ≤ i.val) (score A0 A1 A2 A3 b (hd p h) i)) / Real.log 2 := by
  rw [lse, Z_eq, div_eq_mul_inv]

/-- A block of the attention. -/
theorem attAll_eq (e : Fin 128) : attAll (tile2 (qa A0 A1) b p) (tile2 (ka A2 A3) b p) (tile1 (va A4) b p) (ix2 i e)
    = oa A0 A1 A2 A3 A4 (rowOf b i) ⟨p.val * 128 + e.val, by omega⟩ := by
  obtain ⟨h, e', rfl⟩ : ∃ (h : Fin 2) (e' : Fin 64), e = ⟨h.val * 64 + e'.val, by omega⟩ :=
    ⟨⟨e.val / 64, by omega⟩, ⟨e.val % 64, by omega⟩, Fin.ext (by simp only; omega)⟩
  have hh : half ⟨h.val * 64 + e'.val, by omega⟩ = h := Fin.ext (by simp only [half]; omega)
  refine Eq.trans ?_ (oa_at A0 A1 A2 A3 A4 b p h i e').symm
  refine Eq.trans ?_ (att_eq A0 A1 A2 A3 A4 b p h i e')
  show att _ _ _ (half ⟨h.val * 64 + e'.val, _⟩) i ⟨h.val * 64 + e'.val, _⟩ = _
  rw [hh]

/-- A block of the logarithms. -/
theorem lseAll_eq (e : Fin 128) : lseAll (tile2 (qa A0 A1) b p) (tile2 (ka A2 A3) b p) (ix2 i e)
    = la A0 A1 A2 A3 (rowOf b i) ⟨p.val * 128 + e.val, by omega⟩ := by
  refine (lse_eq A0 A1 A2 A3 b p (half e) i).trans ?_
  simp only [la, rb_rowOf, ri_rowOf, lane1, half]

end Point

/-! ## The region's arrays -/

section Region

variable (m : (ℓ : Loc nD τ sig) → Buf (Elt Ideal) ℓ)

/-- A point's batch. -/
def pb (t : Fin cfg0.N) : Fin 4 := ⟨t.val / 4, by have := t.isLt; have : cfg0.N = 16 := N_0; omega⟩

/-- A point's pair of heads. -/
def pp (t : Fin cfg0.N) : Fin 4 := ⟨t.val % 4, by omega⟩

/-- The windows' block indices: the point's batch and its pair. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4] :=
  (by decide +kernel : ∀ t : Fin grid0.N, _)

variable {m} (c : Dev nD)
  {A0 A2 A4 : S4x2048x8x64.Idx → ℝ} {A1 : S4x2048x8x32.Idx → ℝ} {A3 : S4x2048x32.Idx → ℝ}
  (h0 : ∀ i, m ((c.tc : Thread nD τ).loc main_arg0) i = (A0 i : EReal)) (h1 : ∀ i, m ((c.tc : Thread nD τ).loc main_arg1) i = (A1 i : EReal))
  (h2 : ∀ i, m ((c.tc : Thread nD τ).loc main_arg2) i = (A2 i : EReal)) (h3 : ∀ i, m ((c.tc : Thread nD τ).loc main_arg3) i = (A3 i : EReal))
  (h4 : ∀ i, m ((c.tc : Thread nD τ).loc main_arg4) i = (A4 i : EReal))

/-- Window 0 of a point reads its pair's lanes of its batch's rows. -/
theorem read0 (X : S8192x1024.Idx → EReal) (t : Fin cfg0.N) (y : S2048x256.Idx) : ((cfg0.win 0).blk t).view.read (Elt Ideal) X y
    = X (ix2 (rowOf (pb t) (y 0)) ⟨(pp t).val * 256 + (y 1).val, by have h : (y 1).val < 256 := (y 1).isLt; omega⟩) := by
  blk_ext [idx t, rowOf, pb, pp]

include h0 h1 in
theorem blk0 (t : Fin cfg0.N) (y) : iblk m c 0 t y = (tile2 (qa A0 A1) (pb t) (pp t) y : EReal) :=
  (read0 _ t y).trans (entry0 m c h0 h1 _ _)

/-- Window 1 of a point reads its pair's lanes of its batch's rows. -/
theorem read1 (X : S8192x1024.Idx → EReal) (t : Fin cfg0.N) (y : S2048x256.Idx) : ((cfg0.win 1).blk t).view.read (Elt Ideal) X y
    = X (ix2 (rowOf (pb t) (y 0)) ⟨(pp t).val * 256 + (y 1).val, by have h : (y 1).val < 256 := (y 1).isLt; omega⟩) := by
  blk_ext [idx t, rowOf, pb, pp]

include h2 h3 in
theorem blk1 (t : Fin cfg0.N) (y) : iblk m c 1 t y = (tile2 (ka A2 A3) (pb t) (pp t) y : EReal) :=
  (read1 _ t y).trans (entry1 m c h2 h3 _ _)

/-- Window 2 of a point reads its pair's lanes of its batch's rows. -/
theorem read2 (X : S8192x512.Idx → EReal) (t : Fin cfg0.N) (y : S2048x128.Idx) : ((cfg0.win 2).blk t).view.read (Elt Ideal) X y
    = X (ix2 (rowOf (pb t) (y 0)) ⟨(pp t).val * 128 + (y 1).val, by have h : (y 1).val < 128 := (y 1).isLt; omega⟩) := by
  blk_ext [idx t, rowOf, pb, pp]

include h4 in
theorem blk2 (t : Fin cfg0.N) (y) : iblk m c 2 t y = (tile1 (va A4) (pb t) (pp t) y : EReal) :=
  (read2 _ t y).trans (entry2 m c h4 _ _)

include h0 h1 h2 h3 h4 in
/-- The attention after the region. -/
theorem final3 : (dats m 0 c).arrAt 3 (cfgs 0).N = fun j : S8192x512.Idx => (oa A0 A1 A2 A3 A4 (j 0) (j 1) : EReal) := by
  refine (dats m 0 c).arrAt_eq_of_covers 3 _ (by decide +kernel) fun t hf y => ?_
  blk_simp
  rw [after0_3, out3_at (blk0 c h0 h1 t) (blk1 c h2 h3 t) (blk2 c h4 t)]
  idx_vars y
  have he : ((View.whole main_v13_0).slice (win0_3.rect t)).emb (ix2 y0 y1) = ix2 (rowOf (pb t) y0) ⟨(pp t).val * 128 + y1.val, by omega⟩ := by
    blk_ext [idx t, rowOf, pb, pp]
  rw [he]
  exact congrArg (fun r : ℝ => (r : EReal)) (attAll_eq A0 A1 A2 A3 A4 (pb t) (pp t) y0 y1)

include h0 h1 h2 h3 in
/-- The logarithms after the region. -/
theorem final4 : (dats m 0 c).arrAt 4 (cfgs 0).N = fun j : S8192x512.Idx => (la A0 A1 A2 A3 (j 0) (j 1) : EReal) := by
  refine (dats m 0 c).arrAt_eq_of_covers 4 _ (by decide +kernel) fun t hf y => ?_
  blk_simp
  rw [after0_4, out4_at (blk0 c h0 h1 t) (blk1 c h2 h3 t)]
  idx_vars y
  have he : ((View.whole main_v13_1).slice (win0_4.rect t)).emb (ix2 y0 y1) = ix2 (rowOf (pb t) y0) ⟨(pp t).val * 128 + y1.val, by omega⟩ := by
    blk_ext [idx t, rowOf, pb, pp]
  rw [he]
  exact congrArg (fun r : ℝ => (r : EReal)) (lseAll_eq A0 A1 A2 A3 (pb t) (pp t) y0 y1)

end Region

/-! ## The results -/

section Results

variable (m : (ℓ : Loc nD τ sig) → Buf (Elt Ideal) ℓ) (c : Dev nD)

/-- The attention after the host line that follows the region. -/
theorem tail14 (b : Fin 4) (i : Fin 2048) (l : Fin 512) : Pipeline.afterTail₀ cfgs (dats m) 0 (V0 m) [hostOps1] c main_v14 (ix3 b i l)
    = (show S8192x512.Idx → EReal from (dats m 0 c).arrAt 3 (cfgs 0).N) (ix2 (rowOf b i) l) := by
  unfold Pipeline.afterTail₀
  simp only [List.flatten_cons, List.flatten_nil, List.append_nil]
  after_results
  erw [Pipeline.withArrays_arr (cfgs 0).spec launch0.win.arr_inj _ _ _ 3]
  generalize (dats m 0 c).arrAt 3 _ = K
  revert K
  intro (K : S8192x512.Idx → EReal)
  pointwise []
  rfl

/-- The logarithms likewise. -/
theorem tail15 (b : Fin 4) (i : Fin 2048) (l : Fin 512) : Pipeline.afterTail₀ cfgs (dats m) 0 (V0 m) [hostOps1] c main_v15 (ix3 b i l)
    = (show S8192x512.Idx → EReal from (dats m 0 c).arrAt 4 (cfgs 0).N) (ix2 (rowOf b i) l) := by
  unfold Pipeline.afterTail₀
  simp only [List.flatten_cons, List.flatten_nil, List.append_nil]
  after_results
  erw [Pipeline.withArrays_arr (cfgs 0).spec launch0.win.arr_inj _ _ _ 4]
  generalize (dats m 0 c).arrAt 4 _ = K
  revert K
  intro (K : S8192x512.Idx → EReal)
  pointwise []
  rfl

variable
  {A0 A2 A4 : S4x2048x8x64.Idx → ℝ} {A1 : S4x2048x8x32.Idx → ℝ} {A3 : S4x2048x32.Idx → ℝ}
  (h0 : ∀ i, m ((c.tc : Thread nD τ).loc main_arg0) i = (A0 i : EReal)) (h1 : ∀ i, m ((c.tc : Thread nD τ).loc main_arg1) i = (A1 i : EReal))
  (h2 : ∀ i, m ((c.tc : Thread nD τ).loc main_arg2) i = (A2 i : EReal)) (h3 : ∀ i, m ((c.tc : Thread nD τ).loc main_arg3) i = (A3 i : EReal))
  (h4 : ∀ i, m ((c.tc : Thread nD τ).loc main_arg4) i = (A4 i : EReal))

include h0 h1 h2 h3 h4 in
/-- The attention is the reference's. -/
theorem res0 : Cert.MlaFwdRefIdeal.Read.val_main_v38 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = Pipeline.afterTail₀ cfgs (dats m) 0 (V0 m) [hostOps1] c main_v14 := by
  funext j
  idx_vars j
  rw [tail14, final3 c h0 h1 h2 h3 h4, Cert.MlaFwdRefIdeal.At.v38_at h0 h1 h2 h3 h4]
  show _ = ((oa A0 A1 A2 A3 A4 (rowOf j0 j1) j2 : ℝ) : EReal)
  simp only [oa, rb_rowOf, ri_rowOf, Cert.MlaFwdRefIdeal.At.attn]

include h0 h1 h2 h3 in
/-- The logarithms are the reference's. -/
theorem res1 : Cert.MlaFwdRefIdeal.Read.val_main_v39 (F := Ideal) (m ((c.tc : Thread nD τ).loc main_arg0)) (m ((c.tc : Thread nD τ).loc main_arg1))
      (m ((c.tc : Thread nD τ).loc main_arg2)) (m ((c.tc : Thread nD τ).loc main_arg3))
      = Pipeline.afterTail₀ cfgs (dats m) 0 (V0 m) [hostOps1] c main_v15 := by
  funext j
  idx_vars j
  rw [tail15, final4 c h0 h1 h2 h3, Cert.MlaFwdRefIdeal.At.v39_at h0 h1 h2 h3]
  show _ = ((la A0 A1 A2 A3 (rowOf j0 j1) j2 : ℝ) : EReal)
  simp only [la, rb_rowOf, ri_rowOf, Cert.MlaFwdRefIdeal.At.logs]

end Results

/-- The precondition: every argument is an array of reals. -/
theorem reals (m : (ℓ : Loc nD τ sig) → Buf (Elt Ideal) ℓ) (h : Pre_MlaFwdIdeal_finite_mla_fwd m) (c : Dev nD) :
    (∃ A : S4x2048x8x64.Idx → ℝ, ∀ i, m ((c.tc : Thread nD τ).loc main_arg0) i = (A i : EReal))
    ∧ (∃ A : S4x2048x8x32.Idx → ℝ, ∀ i, m ((c.tc : Thread nD τ).loc main_arg1) i = (A i : EReal))
    ∧ (∃ A : S4x2048x8x64.Idx → ℝ, ∀ i, m ((c.tc : Thread nD τ).loc main_arg2) i = (A i : EReal))
    ∧ (∃ A : S4x2048x32.Idx → ℝ, ∀ i, m ((c.tc : Thread nD τ).loc main_arg3) i = (A i : EReal))
    ∧ (∃ A : S4x2048x8x64.Idx → ℝ, ∀ i, m ((c.tc : Thread nD τ).loc main_arg4) i = (A i : EReal)) := by
  obtain ⟨p0, p1, p2, p3, p4⟩ := h c
  refine ⟨exists_array fun i => exists_real ?_, exists_array fun i => exists_real ?_, exists_array fun i => exists_real ?_,
    exists_array fun i => exists_real ?_, exists_array fun i => exists_real ?_⟩
  · have := congrFun p0 i; idx_vars i; pointwise [Cert.Pre_finite_mla_fwd.fn] at this; exact this
  · have := congrFun p1 i; idx_vars i; pointwise [Cert.Pre_finite_mla_fwd.fn] at this; exact this
  · have := congrFun p2 i; idx_vars i; pointwise [Cert.Pre_finite_mla_fwd.fn] at this; exact this
  · have := congrFun p3 i; idx_vars i; pointwise [Cert.Pre_finite_mla_fwd.fn] at this; exact this
  · have := congrFun p4 i; idx_vars i; pointwise [Cert.Pre_finite_mla_fwd.fn] at this; exact this

/-- For finite arguments the kernel and the reference end with the same attention and the same logarithms. -/
theorem algebraic : algebraic_MlaFwdIdeal_MlaFwdRefIdeal_pre_finite_mla_fwd := by
  pair_intro
  · run_from Cert.MlaFwdIdeal.Gen.run_main m g & Cert.MlaFwdIdeal.Gen.unchanged m g
  · run_from Cert.MlaFwdRefIdeal.Value.run m' g'
    all_goals
      obtain ⟨e0, e1, e2, e3, e4⟩ := hagree c
      obtain ⟨⟨A0, h0⟩, ⟨A1, h1⟩, ⟨A2, h2⟩, ⟨A3, h3⟩, ⟨A4, h4⟩⟩ := reals m hpre c
    · exact (Cert.MlaFwdRefIdeal.Read.val_main_v38_eq m' c).trans (by rw [e0, e1, e2, e3, e4]; exact res0 m c h0 h1 h2 h3 h4)
    · exact (Cert.MlaFwdRefIdeal.Read.val_main_v39_eq _ _ _ _).trans (res1 m c h0 h1 h2 h3)

/-- The named constants are what the certificate's table says. -/
theorem preserves : preserves_MlaFwd_MlaFwdIdeal :=
  ⟨IdealRules.named_const.statement Cert.MlaFwdIdeal.κ "scale_log2" .f32 0x3E16C740#32 (((Real.sqrt 96)⁻¹ * (Real.log 2)⁻¹ : ℝ) : EReal) rfl,
    IdealRules.named_const.statement Cert.MlaFwdIdeal.κ "mask" .f32 0xF149F2CA#32 ⊥ rfl,
    IdealRules.named_const.statement Cert.MlaFwdIdeal.κ "log2_e" .f32 0x3FB8AA3B#32 (((Real.log 2)⁻¹ : ℝ) : EReal) rfl⟩

/-- The reference leaves its arguments unchanged and declares no semaphore. -/
theorem frame_ref : quiescent_MlaFwdRefIdeal := fun m g _ =>
  (θ_run Cert.MlaFwdRefIdeal.defs _ _).mono (fun r h => ⟨fun c => (h c).2.2, sem_eq_zero_of_no_sems (by decide) r.2⟩)
    (Cert.MlaFwdRefIdeal.Value.run m g)

end Cert.MlaFwdIdeal.Value

end
-- ==== Proof.Head.lean ====
module

public import proofs.«01_k».proof.Proof.Half

@[expose] public section

noncomputable section

/-! # The second half-step with the loss, row by row

The half-step's row, its normed error against the target, the row's share of the loss, and the loss's gradient. -/

namespace Cert.Proof.Head

open Idealize.ShloMosaic Idealize.ShloMosaic.TcCoe Idealize.SL.Sem
open Cert.Proof.Reals Cert.Proof.Half

/-- The word of 2. -/
theorem ofBits_two : Ideal.ofBits .f32 0x40000000#32 = ((2 : ℝ) : EReal) := by
  simp [Ideal.ofBits, Ideal.ieee, -EReal.coe_mul]; norm_num

/-- The word of 1/1024. -/
theorem ofBits_1_1024 : Ideal.ofBits .f32 0x3A800000#32 = ((1 / 1024 : ℝ) : EReal) := by
  simp [Ideal.ofBits, Ideal.ieee, -EReal.coe_mul]; norm_num

variable {n F : ℕ}

/-- The half-step's row: the row and half of what the weights make of the gated product. -/
def out (x g : Fin n → ℝ) (wg wu : Fin n → Fin F → ℝ) (wd : Fin F → Fin n → ℝ) (d : Fin n) : ℝ :=
  x d + 1 / 2 * ∑ f, act x g wg wu f * wd f d

/-- The normed row against its target. -/
def err (o q y : Fin n → ℝ) (d : Fin n) : ℝ := norm o q d - y d

/-- The row's mean squared error. -/
def loss (o q y : Fin n → ℝ) : ℝ := (∑ d, err o q y d * err o q y d) * (1 / 1024)

/-- The row's cotangent. -/
def dout (o q y : Fin n → ℝ) : Fin n → ℝ := Rms.dx o fun k => err o q y k * (1 / 1024) * q k

/-- The row's share of the gain's gradient. -/
def dgain (o q y : Fin n → ℝ) (d : Fin n) : ℝ := err o q y d * (1 / 1024) * (o d * Rms.r o)

end Cert.Proof.Head

end
-- ==== Proof.LossHeadRef.lean ====
module

public import proofs.«01_k».proof.Proof.Gen.LossHeadRefIdeal.Read
public import proofs.«01_k».proof.Proof.Head

@[expose] public section

set_option maxRecDepth 16384

noncomputable section

/-! # The reference of the second half-step with the loss, over the reals

Each array of the reference, read at an index, as a function of the row. -/

namespace Cert.LossHeadRefIdeal.At

open Idealize.ShloMosaic Idealize.ShloMosaic.TcCoe Idealize.SL.Sem
open Cert.LossHeadRefIdeal Cert.LossHeadRefIdeal.Gen Cert.LossHeadRefIdeal.Read
open Cert.Proof Cert.Proof.Reals Cert.Proof.Half

/-- A row of a three-axis array. -/
abbrev row (X : S4x2048x1024.Idx → ℝ) (b : Fin 4) (s : Fin 2048) : Fin 1024 → ℝ := fun k => X (ix3 b s k)

/-- The gain, by lane. -/
abbrev gn (G : S1x1024.Idx → ℝ) : Fin 1024 → ℝ := fun k => G (ix2 0 k)

/-- A projection's weights, by lane and hidden lane. -/
abbrev wt (W : S1x1024x2816.Idx → ℝ) : Fin 1024 → Fin 2816 → ℝ := fun d f => W (ix3 0 d f)

/-- The weights back, by hidden lane and lane. -/
abbrev wb (W : S1x2816x1024.Idx → ℝ) : Fin 2816 → Fin 1024 → ℝ := fun f d => W (ix3 0 f d)

/-- The last gain, by lane. -/
abbrev qn (Q : S1024.Idx → ℝ) : Fin 1024 → ℝ := fun k => Q (ix1 k)

variable {x : FVec Ideal S4x2048x1024 .f32} {g : FVec Ideal S1x1024 .f32} {w w' : FVec Ideal S1x1024x2816 .f32}
  {e : FVec Ideal S1x2816x1024 .f32} {q : FVec Ideal S1024 .f32} {t : FVec Ideal S4x2048x1024 .f32}
  {X T : S4x2048x1024.Idx → ℝ} {G : S1x1024.Idx → ℝ} {W W' : S1x1024x2816.Idx → ℝ} {E : S1x2816x1024.Idx → ℝ} {Q : S1024.Idx → ℝ}

/-- The mean square plus epsilon of a row. -/
theorem v7_at (hx : ∀ i, x i = (X i : EReal)) (b : Fin 4) (s : Fin 2048) (u : Fin 1) :
    val_main_v7 (F := Ideal) x (ix3 b s u) = ((Rms.v (row X b s) : ℝ) : EReal) := by
  pointwise [val_main_v7, val_main_v6, val_main_v5, val_main_v4, val_main_v3, val_main_v2, val_main_v1, val_main_cst, val_main_cst_0,
    val_main_cst_1]
  simp only [hx, ← EReal.coe_mul, coe_sum, ofBits_1024, ofBits_eps, div_coe_coe (show (1024 : ℝ) ≠ 0 by norm_num),
    ← EReal.coe_add, Rms.v, Nat.cast_ofNat]

/-- The normed row times the gain. -/
theorem v13_at (hx : ∀ i, x i = (X i : EReal)) (hg : ∀ i, g i = (G i : EReal)) (b : Fin 4) (s : Fin 2048) (d : Fin 1024) :
    val_main_v13 (F := Ideal) x g (ix3 b s d) = (norm (row X b s) (gn G) d : EReal) := by
  pointwise [val_main_v13, val_main_v12, val_main_v11, val_main_v10, val_main_v9, val_main_v8, val_main_v0]
  simp only [v7_at hx, hx, hg, rsqrt_coe_pos (Rms.v_pos _), ← EReal.coe_mul, Half.norm, Rms.r]

/-- The gate before the logistic function. -/
theorem v15_at (hx : ∀ i, x i = (X i : EReal)) (hg : ∀ i, g i = (G i : EReal)) (hw : ∀ i, w i = (W i : EReal))
    (b : Fin 4) (s : Fin 2048) (f : Fin 2816) :
    val_main_v15 (F := Ideal) x g w (ix3 b s f) = (proj (row X b s) (gn G) (wt W) f : EReal) := by
  pointwise [val_main_v15, val_main_v14]
  simp only [v13_at hx hg, hw, ← EReal.coe_mul, coe_sum, proj]

/-- The other projection. -/
theorem v17_at (hx : ∀ i, x i = (X i : EReal)) (hg : ∀ i, g i = (G i : EReal)) (hw : ∀ i, w i = (W i : EReal))
    (b : Fin 4) (s : Fin 2048) (f : Fin 2816) :
    val_main_v17 (F := Ideal) x g w (ix3 b s f) = (proj (row X b s) (gn G) (wt W) f : EReal) := by
  pointwise [val_main_v17, val_main_v16]
  simp only [v13_at hx hg, hw, ← EReal.coe_mul, coe_sum, proj]

/-- The gated product. -/
theorem v19_at (hx : ∀ i, x i = (X i : EReal)) (hg : ∀ i, g i = (G i : EReal)) (hw : ∀ i, w i = (W i : EReal))
    (hw' : ∀ i, w' i = (W' i : EReal)) (b : Fin 4) (s : Fin 2048) (f : Fin 2816) :
    val_main_v19 (F := Ideal) x g w w' (ix3 b s f) = (act (row X b s) (gn G) (wt W) (wt W') f : EReal) := by
  pointwise [val_main_v19, val_main_v18, val_main_call0_v5, val_main_call0_v4, val_main_call0_v3, val_main_call0_v2, val_main_call0_v1,
    val_main_call0_v0, val_main_call0_cst, val_main_call0_cst_0]
  simp only [v15_at hx hg hw, v17_at hx hg hw', ← EReal.coe_one, div_exp, ← EReal.coe_mul, act]

/-- The half-step's row. -/
theorem v24_at (hx : ∀ i, x i = (X i : EReal)) (hg : ∀ i, g i = (G i : EReal)) (hw : ∀ i, w i = (W i : EReal))
    (hw' : ∀ i, w' i = (W' i : EReal)) (he : ∀ i, e i = (E i : EReal)) (b : Fin 4) (s : Fin 2048) (d : Fin 1024) :
    val_main_v24 (F := Ideal) x g w w' e (ix3 b s d) = (Head.out (row X b s) (gn G) (wt W) (wt W') (wb E) d : EReal) := by
  pointwise [val_main_v24, val_main_v23, val_main_v22, val_main_v21, val_main_v20, val_main_cst_2]
  simp only [v19_at hx hg hw hw', hx, he, ofBits_half, ← EReal.coe_mul, coe_sum, ← EReal.coe_add, Head.out]

/-- The half-step's row, as a row of the whole array. -/
abbrev orow (X : S4x2048x1024.Idx → ℝ) (G : S1x1024.Idx → ℝ) (W W' : S1x1024x2816.Idx → ℝ) (E : S1x2816x1024.Idx → ℝ)
    (b : Fin 4) (s : Fin 2048) : Fin 1024 → ℝ := Head.out (row X b s) (gn G) (wt W) (wt W') (wb E)

section Back

variable (hx : ∀ i, x i = (X i : EReal)) (hg : ∀ i, g i = (G i : EReal)) (hw : ∀ i, w i = (W i : EReal))
  (hw' : ∀ i, w' i = (W' i : EReal)) (he : ∀ i, e i = (E i : EReal))
include hx hg hw hw' he

/-- The mean square plus epsilon of the half-step's row. -/
theorem v31_at (b : Fin 4) (s : Fin 2048) (u : Fin 1) :
    val_main_v31 (F := Ideal) x g w w' e (ix3 b s u) = ((Rms.v (orow X G W W' E b s) : ℝ) : EReal) := by
  pointwise [val_main_v31, val_main_v30, val_main_v29, val_main_v28, val_main_v27, val_main_v26, val_main_v25, val_main_cst_3,
    val_main_cst_4, val_main_cst_5]
  simp only [v24_at hx hg hw hw' he, ← EReal.coe_mul, coe_sum, ofBits_1024, ofBits_eps, div_coe_coe (show (1024 : ℝ) ≠ 0 by norm_num),
    ← EReal.coe_add, Rms.v, Nat.cast_ofNat]

/-- The normed row. -/
theorem v37_at (b : Fin 4) (s : Fin 2048) (d : Fin 1024) :
    val_main_v37 (F := Ideal) x g w w' e (ix3 b s d) = (orow X G W W' E b s d * Rms.r (orow X G W W' E b s) : ℝ) := by
  pointwise [val_main_v37, val_main_v36, val_main_v32]
  simp only [v31_at hx hg hw hw' he, v24_at hx hg hw hw' he, rsqrt_coe_pos (Rms.v_pos _), ← EReal.coe_mul, Rms.r]

variable (hq : ∀ i, q i = (Q i : EReal)) (ht : ∀ i, t i = (T i : EReal))
include hq ht

/-- The error. -/
theorem v41_at (b : Fin 4) (s : Fin 2048) (d : Fin 1024) :
    val_main_v41 (F := Ideal) x g w w' e q t (ix3 b s d) = (Head.err (orow X G W W' E b s) (qn Q) (row T b s) d : EReal) := by
  pointwise [val_main_v41, val_main_v40, val_main_v39, val_main_v38]
  simp only [v37_at hx hg hw hw' he, hq, ht, ← EReal.coe_mul, ← EReal.coe_sub, Head.err, Half.norm]

/-- The loss. -/
theorem v49_at (j : S_.Idx) :
    val_main_v49 (F := Ideal) x g w w' e q t j
      = ((1 / 2 * ∑ b : Fin 4, ∑ s : Fin 2048, Head.loss (orow X G W W' E b s) (qn Q) (row T b s) : ℝ) : EReal) := by
  pointwise [val_main_v49, val_main_v48, val_main_v47, val_main_v46, val_main_v45, val_main_v42, val_main_cst_8, val_main_cst_9,
    val_main_cst_10, val_main_cst_11]
  simp only [v41_at hx hg hw hw' he hq ht, ofBits_half, ofBits_1024, ← EReal.coe_mul, coe_sum,
    div_coe_coe (show (1024 : ℝ) ≠ 0 by norm_num)]
  refine congrArg (fun r : ℝ => (r : EReal)) (congrArg (1 / 2 * ·) (Finset.sum_congr rfl fun b _ => Finset.sum_congr rfl fun s _ => ?_))
  rw [Head.loss, div_eq_mul_one_div]

/-- The cotangent of the normed row times the gain. -/
theorem v55_at (b : Fin 4) (s : Fin 2048) (d : Fin 1024) :
    val_main_v55 (F := Ideal) x g w w' e q t (ix3 b s d)
      = (Head.err (orow X G W W' E b s) (qn Q) (row T b s) d * (1 / 1024) : ℝ) := by
  pointwise [val_main_v55, val_main_v54, val_main_v53, val_main_v52, val_main_v51, val_main_v50, val_main_v44, val_main_v43,
    val_main_cst_7, val_main_cst_12, val_main_cst_13, val_main_cst_14]
  simp only [v41_at hx hg hw hw' he hq ht, ofBits_half, ofBits_one, Head.ofBits_two, ofBits_1024, ← EReal.coe_mul,
    div_coe_coe (show (1024 : ℝ) ≠ 0 by norm_num)]
  refine congrArg (fun r : ℝ => (r : EReal)) ?_
  ring

/-- The gain's gradient. -/
theorem v61_at (d : Fin 1024) :
    val_main_v61 (F := Ideal) x g w w' e q t (ix1 d)
      = ((∑ b : Fin 4, ∑ s : Fin 2048, Head.dgain (orow X G W W' E b s) (qn Q) (row T b s) d : ℝ) : EReal) := by
  pointwise [val_main_v61, val_main_v58, val_main_v57, val_main_cst_15, val_main_cst_16, hostReduceAdd_axes01]
  pointwise [val_main_v56, hostReduceAdd_axes01]
  simp only [v55_at hx hg hw hw' he hq ht, v37_at hx hg hw hw' he, ← EReal.coe_mul, coe_sum,
    Finset.univ_unique, Finset.sum_const, Finset.card_singleton, one_smul, Head.dgain]
  refine congrArg (fun r : ℝ => (r : EReal)) (Finset.sum_congr rfl fun b _ => Finset.sum_congr rfl fun s _ => mul_comm _ _)

/-- The row's cotangent. -/
theorem v75_at (b : Fin 4) (s : Fin 2048) (l : Fin 1024) :
    val_main_v75 (F := Ideal) x g w w' e q t (ix3 b s l)
      = (Head.dout (orow X G W W' E b s) (qn Q) (row T b s) l : EReal) := by
  rw [Head.dout, ← Rms.dx_eq (by norm_num)]
  pointwise [val_main_v75, val_main_v74, val_main_v73, val_main_v72, val_main_v71, val_main_v70, val_main_v69, val_main_v68,
    val_main_v67, val_main_v66, val_main_v65, val_main_v64, val_main_v63, val_main_v62, val_main_v60, val_main_v59, val_main_v38,
    val_main_v35, val_main_v34, val_main_v33, val_main_v32, val_main_cst_6, val_main_cst_17, val_main_cst_18, val_main_cst_19]
  simp only [v31_at hx hg hw hw' he, v24_at hx hg hw hw' he, v55_at hx hg hw hw' he hq ht, hq, rsqrt_coe_pos (Rms.v_pos _),
    div_coe_coe (Rms.v_pos _).ne', ← EReal.coe_mul, coe_sum, ofBits_1024, ofBits_neg_half,
    div_coe_coe (show (1024 : ℝ) ≠ 0 by norm_num), ← EReal.coe_add,
    Rms.r, Finset.univ_unique, Finset.sum_const, Finset.card_singleton, one_smul, Nat.cast_ofNat]

end Back

end Cert.LossHeadRefIdeal.At

end
-- ==== Proof.LossHeadKernel.lean ====
module

public import proofs.«01_k».proof.Proof.Gen.LossHeadIdeal.Frame
public import proofs.«01_k».proof.Proof.Head
public import Idealize.ShloMosaic.Lib.Pipeline.ValueKit
public import Idealize.ShloMosaic.Lib.Pipeline.ReadBack

@[expose] public section

set_option maxRecDepth 16384

noncomputable section

/-! # The arrays that the region of the second half-step with the loss leaves, over the reals

The region's entry arrays are taken to be coercions of real arrays. Each grid point handles 512 rows: it writes the normed
rows, the two projections and the gated product in eleven pieces of 256 hidden lanes, reads the gated product back in
pieces of 512 lanes for the product with the weights back, and adds the rows' share to the loss and to the gain's gradient. -/

namespace Cert.LossHeadIdeal.Value

open Idealize.ShloMosaic Idealize.ShloMosaic.TcCoe Idealize.SL.Sem
open Idealize.ShloMosaic.Pipeline (Dat)
open Cert.LossHeadIdeal Cert.LossHeadIdeal.Gen
open Cert.Proof Cert.Proof.Reals Cert.Proof.Half

/-- A row of a block. -/
abbrev rb {a : ℕ} (X : (⟨2, ![a, 1024]⟩ : Shape).Idx → ℝ) (i : Fin a) : Fin 1024 → ℝ := fun k => X (ix2 i k)

/-- A gain, by lane. -/
abbrev gb (G : S1x1024.Idx → ℝ) : Fin 1024 → ℝ := fun k => G (ix2 0 k)

/-- A projection's weights, by lane and hidden lane. -/
abbrev lw (W : S2816x1024.Idx → ℝ) : Fin 1024 → Fin 2816 → ℝ := fun d f => W (ix2 f d)

/-- The weights back, by hidden lane and lane. -/
abbrev lb (W : S2816x1024.Idx → ℝ) : Fin 2816 → Fin 1024 → ℝ := fun f d => W (ix2 f d)

/-- The hidden lane at place `l` of a piece that starts at `o`. -/
def lane (o : ℕ) {k : ℕ} (h : o + k ≤ 2816) (l : Fin k) : Fin 2816 := ⟨o + l.val, by omega⟩

/-- A sum over the hidden lanes, by pieces. -/
theorem lanes_split (f : Fin 2816 → ℝ) : ∑ j, f j
    = ∑ l : Fin 512, f (lane 0 (by decide) l) + ∑ l : Fin 512, f (lane 512 (by decide) l) + ∑ l : Fin 512, f (lane 1024 (by decide) l)
      + ∑ l : Fin 512, f (lane 1536 (by decide) l) + ∑ l : Fin 512, f (lane 2048 (by decide) l) + ∑ l : Fin 256, f (lane 2560 (by decide) l) := by
  have h0 : ∀ l : Fin 512, f (lane 0 (by decide) l) = f ⟨l.val, by omega⟩ := fun l => congrArg f (Fin.ext (Nat.zero_add _))
  simp only [h0]
  refine (Fin.sum_univ_add (a := 2560) (b := 256) (show Fin (2560 + 256) → ℝ from f)).trans (congrArg₂ (· + ·) ?_ rfl)
  refine (Fin.sum_univ_add (a := 2048) (b := 512) _).trans (congrArg₂ (· + ·) ?_ rfl)
  refine (Fin.sum_univ_add (a := 1536) (b := 512) _).trans (congrArg₂ (· + ·) ?_ rfl)
  refine (Fin.sum_univ_add (a := 1024) (b := 512) _).trans (congrArg₂ (· + ·) ?_ rfl)
  exact Fin.sum_univ_add (a := 512) (b := 512) _

section Payloads

variable {x t : FVec Ideal S512x1024 .f32} {g q : FVec Ideal S1x1024 .f32} {w w' : Vec Ideal S2816x1024 .bf16}
  {X T : S512x1024.Idx → ℝ} {G Q : S1x1024.Idx → ℝ} {W W' : S2816x1024.Idx → ℝ}

/-- The normed row times the gain. -/
theorem pay4_at (hx : ∀ i, x i = (X i : EReal)) (hg : ∀ i, g i = (G i : EReal)) (i : Fin 512) (d : Fin 1024) :
    k0_pay4 (F := Ideal) x g (ix2 i d) = (norm (rb X i) (gb G) d : EReal) := by
  pointwise [k0_pay4, k0_pay3]
  have hv : (0 : ℝ) < (∑ k : Fin 1024, X (ix2 i k) * X (ix2 i k)) / 1024 + 1e-6 := by
    have := Finset.sum_nonneg fun (k : Fin 1024) (_ : k ∈ Finset.univ) => mul_self_nonneg (X (ix2 i k))
    positivity
  simp only [hx, hg, ← EReal.coe_mul, coe_sum, ofBits_1024, ofBits_eps, div_coe_coe (show (1024 : ℝ) ≠ 0 by norm_num),
    ← EReal.coe_add, Half.norm, Rms.r, Rms.v, Nat.cast_ofNat]
  rw [rsqrt_coe_pos (by simpa only [Rms.v, Nat.cast_ofNat] using Rms.v_pos (rb X i))]
  simp only [← EReal.coe_mul]

/-- A piece of the weights. -/
theorem load {k o : ℕ} (hw : ∀ i, w i = (W i : EReal)) (h : o + k ≤ 2816)
    {inb : ∀ a, (![o, 0] : Fin 2 → ℕ) a + (⟨2, ![k, 1024]⟩ : Shape).size a ≤ S2816x1024.size a} (l : Fin k) (d : Fin 1024) :
    View.ld w (Rect.unit (s := S2816x1024) ![o, 0] (⟨2, ![k, 1024]⟩ : Shape).size inb) (ix2 l d : (⟨2, ![k, 1024]⟩ : Shape).Idx) = (W (ix2 (lane o h l) d) : EReal) := by
  have hb : (Rect.unit (s := S2816x1024) ![o, 0] (⟨2, ![k, 1024]⟩ : Shape).size inb).emb (ix2 l d : (⟨2, ![k, 1024]⟩ : Shape).Idx) = ix2 (lane o h l) d := by
    blk_ext [lane]
  exact (congrArg w hb).trans (hw _)

variable (hx : ∀ i, x i = (X i : EReal)) (hg : ∀ i, g i = (G i : EReal)) (hw : ∀ i, w i = (W i : EReal)) (hw' : ∀ i, w' i = (W' i : EReal))

/-- A projection's block. -/
def projB (X : S512x1024.Idx → ℝ) (G : S1x1024.Idx → ℝ) (W : S2816x1024.Idx → ℝ) (y : S512x2816.Idx) : ℝ := proj (rb X (y 0)) (gb G) (lw W) (y 1)

/-- The gated product's block. -/
def actB (X : S512x1024.Idx → ℝ) (G : S1x1024.Idx → ℝ) (W W' : S2816x1024.Idx → ℝ) (y : S512x2816.Idx) : ℝ :=
  act (rb X (y 0)) (gb G) (lw W) (lw W') (y 1)

/-- The two blocks as the kernel writes them. -/
def projE (X : S512x1024.Idx → ℝ) (G : S1x1024.Idx → ℝ) (W : S2816x1024.Idx → ℝ) (y : S512x2816.Idx) : EReal := (projB X G W y : EReal)

def actE (X : S512x1024.Idx → ℝ) (G : S1x1024.Idx → ℝ) (W W' : S2816x1024.Idx → ℝ) (y : S512x2816.Idx) : EReal := (actB X G W W' y : EReal)

include hx hg hw in
/-- A piece of a projection. -/
theorem proj_at {o : ℕ} (h : o + 256 ≤ 2816) {inb : ∀ a, (![o, 0] : Fin 2 → ℕ) a + S256x1024.size a ≤ S2816x1024.size a} (i : Fin 512) (l : Fin 256) :
    k0_pay14 (F := Ideal) (k0_pay4 x g) (View.ld w (Rect.unit (s := S2816x1024) ![o, 0] S256x1024.size inb)) (ix2 i l)
      = (projB X G W (ix2 i (lane o h l)) : EReal) := by
  have hl := load (k := 256) (o := o) hw h (inb := inb)
  generalize View.ld w (Rect.unit (s := S2816x1024) ![o, 0] S256x1024.size inb) = u at hl
  pointwise [k0_pay14, k0_pay12]
  simp only [pay4_at hx hg, hl, ← EReal.coe_mul, coe_sum]
  rfl

include hx hg hw hw' in
/-- A piece of the gated product. -/
theorem act_at {o : ℕ} (h : o + 256 ≤ 2816) {inb inb' : ∀ a, (![o, 0] : Fin 2 → ℕ) a + S256x1024.size a ≤ S2816x1024.size a} (i : Fin 512) (l : Fin 256) :
    k0_pay16 (F := Ideal) (k0_pay4 x g) (View.ld w (Rect.unit (s := S2816x1024) ![o, 0] S256x1024.size inb))
        (View.ld w' (Rect.unit (s := S2816x1024) ![o, 0] S256x1024.size inb')) (ix2 i l)
      = (actB X G W W' (ix2 i (lane o h l)) : EReal) := by
  have hp : k0_pay12 (F := Ideal) (k0_pay4 x g) (View.ld w (Rect.unit (s := S2816x1024) ![o, 0] S256x1024.size inb)) (ix2 i l)
      = (projB X G W (ix2 i (lane o h l)) : EReal) := proj_at hx hg hw h i l
  have hu : k0_pay13 (F := Ideal) (k0_pay4 x g) (View.ld w' (Rect.unit (s := S2816x1024) ![o, 0] S256x1024.size inb')) (ix2 i l)
      = (projB X G W' (ix2 i (lane o h l)) : EReal) := proj_at hx hg hw' h i l
  pointwise [k0_pay16]
  rw [hp, hu, zero_sub, ← EReal.coe_one, div_exp]
  simp only [← EReal.coe_mul]
  rfl

/-- A piece written is a piece of the block. -/
theorem store {f : S512x2816.Idx → ℝ} {o : ℕ} {u : FVec Ideal S512x256 .bf16}
    {inb : ∀ a, (![0, o] : Fin 2 → ℕ) a + S512x256.size a ≤ S512x2816.size a} (h : o + 256 ≤ 2816)
    (hu : ∀ i l, u (ix2 i l) = (f (ix2 i (lane o h l)) : EReal)) (y : S512x256.Idx) :
    u y = (f ((Rect.unit (s := S512x2816) ![0, o] S512x256.size inb).emb y) : EReal) := by
  idx_vars y
  refine (hu y0 y1).trans (congrArg (fun j => (f j : EReal)) ?_)
  blk_ext [lane]

/-- Two neighbouring pieces, read back together. -/
theorem back {sg : RefSig} {κ : Kind} {sp : Space} (v : View sg κ sp S512x2816 .bf16) {f : S512x2816.Idx → ℝ} {o o' : ℕ} {u u' : FVec Ideal S512x256 .bf16}
    {inb : ∀ a, (![0, o] : Fin 2 → ℕ) a + S512x256.size a ≤ S512x2816.size a}
    {inb' : ∀ a, (![0, o'] : Fin 2 → ℕ) a + S512x256.size a ≤ S512x2816.size a}
    {inb2 : ∀ a, (![0, o] : Fin 2 → ℕ) a + S512x512.size a ≤ S512x2816.size a} (L : List (View.Piece (Elt Ideal) S512x2816 .bf16))
    (h : o + 512 ≤ 2816) (ho : o' = o + 256)
    (hu : ∀ i l, u (ix2 i l) = (f (ix2 i (lane o (by omega) l)) : EReal))
    (hu' : ∀ i l, u' (ix2 i l) = (f (ix2 i (lane o' (by omega) l)) : EReal)) (i : Fin 512) (l : Fin 512) :
    v.readCov (Val := Elt Ideal) (⟨Rect.unit (s := S512x2816) ![0, o'] S512x256.size inb', u'⟩ :: ⟨Rect.unit (s := S512x2816) ![0, o] S512x256.size inb, u⟩ :: L)
        (Rect.unit (s := S512x2816) ![0, o] S512x512.size inb2).toLoadRect (ix2 i l : S512x512.Idx)
      = (f (ix2 i (lane o h l)) : EReal) := by
  subst ho
  rw [View.readCov_eq_canon']
  have hb : (Rect.unit (s := S512x2816) ![0, o] S512x512.size inb2).toLoadRect.idx (ix2 i l : S512x512.Idx) = ix2 i (lane o h l) := by
    show (Rect.unit (s := S512x2816) ![0, o] S512x512.size inb2).emb (ix2 i l : S512x512.Idx) = ix2 i (lane o h l)
    blk_ext [lane]
  show View.canon _ ((Rect.unit (s := S512x2816) ![0, o] S512x512.size inb2).toLoadRect.idx (ix2 i l : S512x512.Idx)) = _
  rw [hb]
  have hL : View.PiecesOf (s := S512x2816) (e := .bf16) (Val := Elt Ideal) (fun y => (f y : EReal))
      [⟨Rect.unit (s := S512x2816) ![0, o + 256] S512x256.size inb', u'⟩, ⟨Rect.unit (s := S512x2816) ![0, o] S512x256.size inb, u⟩] :=
    ⟨store (f := f) (inb := inb') (by omega) hu', store (f := f) (inb := inb) (by omega) hu, trivial⟩
  refine View.canon_append_of_piecesOf (fun y => (f y : EReal)) L _ hL (ix2 i (lane o h l)) ?_
  have hm : ∀ (r : ℕ) (ib : ∀ a, (![0, r] : Fin 2 → ℕ) a + S512x256.size a ≤ S512x2816.size a), r ≤ o + l.val → o + l.val < r + 256 →
      ix2 i (lane o h l) ∈ (Rect.unit (s := S512x2816) ![0, r] S512x256.size ib).set := fun r ib h1 h2 =>
    Rect.mem_set_unit.2 fun a => match a with
      | 0 => ⟨Nat.zero_le _, by show i.val < 0 + 512; omega⟩
      | 1 => ⟨h1, h2⟩
  by_cases hl : l.val < 256
  · exact ⟨_, List.mem_cons_of_mem _ List.mem_cons_self, hm o inb (by omega) (by omega)⟩
  · exact ⟨_, List.mem_cons_self, hm (o + 256) inb' (by omega) (by omega)⟩

include hx hg hw hw' in
/-- Two neighbouring pieces of the gated product, read back together. -/
theorem two_at {sg : RefSig} {κ : Kind} {sp : Space} (v : View sg κ sp S512x2816 .bf16) {o o' : ℕ}
    {inb : ∀ a, (![0, o] : Fin 2 → ℕ) a + S512x256.size a ≤ S512x2816.size a}
    {inb' : ∀ a, (![0, o'] : Fin 2 → ℕ) a + S512x256.size a ≤ S512x2816.size a}
    {inb2 : ∀ a, (![0, o] : Fin 2 → ℕ) a + S512x512.size a ≤ S512x2816.size a} (L : List (View.Piece (Elt Ideal) S512x2816 .bf16))
    {i1 i2 : ∀ a, (![o, 0] : Fin 2 → ℕ) a + S256x1024.size a ≤ S2816x1024.size a}
    {i3 i4 : ∀ a, (![o', 0] : Fin 2 → ℕ) a + S256x1024.size a ≤ S2816x1024.size a}
    (h : o + 512 ≤ 2816) (ho : o' = o + 256) (i : Fin 512) (l : Fin 512) :
    v.readCov (Val := Elt Ideal) (⟨Rect.unit (s := S512x2816) ![0, o'] S512x256.size inb', k0_pay16 (F := Ideal) (k0_pay4 x g)
          (View.ld w (Rect.unit (s := S2816x1024) ![o', 0] S256x1024.size i3)) (View.ld w' (Rect.unit (s := S2816x1024) ![o', 0] S256x1024.size i4))⟩
        :: ⟨Rect.unit (s := S512x2816) ![0, o] S512x256.size inb, k0_pay16 (F := Ideal) (k0_pay4 x g)
          (View.ld w (Rect.unit (s := S2816x1024) ![o, 0] S256x1024.size i1)) (View.ld w' (Rect.unit (s := S2816x1024) ![o, 0] S256x1024.size i2))⟩ :: L)
        (Rect.unit (s := S512x2816) ![0, o] S512x512.size inb2).toLoadRect (ix2 i l : S512x512.Idx)
      = (actB X G W W' (ix2 i (lane o h l)) : EReal) :=
  back v L h ho (act_at hx hg hw hw' _) (act_at hx hg hw hw' _) i l

/-- The half-step's row from the pieces of the gated product and of the weights back. -/
theorem out_at {a0 a1 a2 a3 a4 : Vec Ideal S512x512 .bf16} {a5 : Vec Ideal S512x256 .bf16} {w0 w1 w2 w3 w4 : Vec Ideal S512x1024 .bf16}
    {w5 : Vec Ideal S256x1024 .bf16} {A : S512x2816.Idx → ℝ} {D : S2816x1024.Idx → ℝ} (hx : ∀ i, x i = (X i : EReal))
    (h0 : ∀ i l, a0 (ix2 i l) = (A (ix2 i (lane 0 (by decide) l)) : EReal)) (h1 : ∀ i l, a1 (ix2 i l) = (A (ix2 i (lane 512 (by decide) l)) : EReal))
    (h2 : ∀ i l, a2 (ix2 i l) = (A (ix2 i (lane 1024 (by decide) l)) : EReal)) (h3 : ∀ i l, a3 (ix2 i l) = (A (ix2 i (lane 1536 (by decide) l)) : EReal))
    (h4 : ∀ i l, a4 (ix2 i l) = (A (ix2 i (lane 2048 (by decide) l)) : EReal)) (h5 : ∀ i l, a5 (ix2 i l) = (A (ix2 i (lane 2560 (by decide) l)) : EReal))
    (d0 : ∀ l d, w0 (ix2 l d) = (D (ix2 (lane 0 (by decide) l) d) : EReal)) (d1 : ∀ l d, w1 (ix2 l d) = (D (ix2 (lane 512 (by decide) l) d) : EReal))
    (d2 : ∀ l d, w2 (ix2 l d) = (D (ix2 (lane 1024 (by decide) l) d) : EReal)) (d3 : ∀ l d, w3 (ix2 l d) = (D (ix2 (lane 1536 (by decide) l) d) : EReal))
    (d4 : ∀ l d, w4 (ix2 l d) = (D (ix2 (lane 2048 (by decide) l) d) : EReal)) (d5 : ∀ l d, w5 (ix2 l d) = (D (ix2 (lane 2560 (by decide) l) d) : EReal))
    (i : Fin 512) (d : Fin 1024) :
    k0_pay71 (F := Ideal) (k0_pay3 x) (k0_pay64 (k0_pay52 (k0_pay40 (k0_pay28 (k0_pay17 k0_pay5 a0 w0) a1 w1) a2 w2) a3 w3) a4 w4) a5 w5 (ix2 i d)
      = (X (ix2 i d) + 1 / 2 * ∑ f, A (ix2 i f) * D (ix2 f d) : ℝ) := by
  rw [lanes_split]
  pointwise [k0_pay71, k0_pay64, k0_pay52, k0_pay40, k0_pay28, k0_pay17, k0_pay5, k0_pay3]
  simp only [hx, h0, h1, h2, h3, h4, h5, d0, d1, d2, d3, d4, d5, ofBits_half, ← EReal.coe_mul, coe_sum, ← EReal.coe_add]

section Head

variable {o : FVec Ideal S512x1024 .f32} {z : FVec Ideal S512x1 .f32} {O : S512x1024.Idx → ℝ}
  (ho : ∀ i d, o (ix2 i d) = (O (ix2 i d) : EReal))
  (hz : ∀ i u, z (ix2 i u) = ((∑ k, O (ix2 i k) * O (ix2 i k)) / 1024 : ℝ))
  (hq : ∀ i, q i = (Q i : EReal)) (ht : ∀ i, t i = (T i : EReal))

/-- The mean square of a row. -/
theorem pay73_at {acc : FVec Ideal S512x1024 .f32} {a5 : Vec Ideal S512x256 .bf16} {w5 : Vec Ideal S256x1024 .bf16}
    (ho : ∀ i d, k0_pay71 (F := Ideal) x acc a5 w5 (ix2 i d) = (O (ix2 i d) : EReal)) (i : Fin 512) (u : Fin 1) :
    k0_pay73 (F := Ideal) x acc a5 w5 (ix2 i u) = ((∑ k, O (ix2 i k) * O (ix2 i k)) / 1024 : ℝ) := by
  pointwise [k0_pay73]
  simp only [ho, ← EReal.coe_mul, coe_sum, ofBits_1024, div_coe_coe (show (1024 : ℝ) ≠ 0 by norm_num)]

include hz in
theorem pay74_at (i : Fin 512) (u : Fin 1) : k0_pay74 (F := Ideal) z (ix2 i u) = (Rms.r (rb O i) : EReal) := by
  rw [Rms.r, ← rsqrt_coe_pos (Rms.v_pos _)]
  pointwise [k0_pay74]
  simp only [hz, ofBits_eps, ← EReal.coe_add, Rms.v, Nat.cast_ofNat]

include ho hz hq ht in
/-- The error. -/
theorem pay75_at (i : Fin 512) (d : Fin 1024) :
    k0_pay75 (F := Ideal) o (k0_pay72 q) z t (ix2 i d) = (Head.err (rb O i) (gb Q) (rb T i) d : EReal) := by
  pointwise [k0_pay75, k0_pay72]
  simp only [ho, pay74_at hz, hq, ht, ← EReal.coe_mul, ← EReal.coe_sub, Head.err, Half.norm]

include ho hz hq ht in
/-- The row's cotangent of a block. -/
theorem pay78_at (i : Fin 512) (d : Fin 1024) :
    k0_pay78 (F := Ideal) o (k0_pay72 q) z t (ix2 i d) = (Head.dout (rb O i) (gb Q) (rb T i) d : EReal) := by
  have h72 : ∀ (u : Fin 1) (d : Fin 1024), k0_pay72 (F := Ideal) q (ix2 u d) = (Q (ix2 u d) : EReal) := fun u d => by
    pointwise [k0_pay72]
    exact hq _
  pointwise [k0_pay78, k0_pay77, k0_pay76]
  simp only [ho, pay74_at hz, h72, pay75_at ho hz hq ht, Head.ofBits_1_1024, ← EReal.coe_mul, coe_sum, ofBits_1024,
    div_coe_coe (show (1024 : ℝ) ≠ 0 by norm_num), ← EReal.coe_sub, Head.dout, Rms.dx, Nat.cast_ofNat]

include ho hz hq ht in
/-- A block's share of the gain's gradient. -/
theorem pay79_at (u : Fin 1) (d : Fin 1024) :
    k0_pay79 (F := Ideal) o (k0_pay72 q) z t (ix2 u d) = ((∑ i, Head.dgain (rb O i) (gb Q) (rb T i) d : ℝ) : EReal) := by
  pointwise [k0_pay79, k0_pay77, k0_pay76]
  simp only [ho, pay74_at hz, pay75_at ho hz hq ht, Head.ofBits_1_1024, ← EReal.coe_mul, coe_sum, Head.dgain]

include ho hz hq ht in
/-- A block's share of the loss. -/
theorem pay80_at (u v : Fin 1) :
    k0_pay80 (F := Ideal) o (k0_pay72 q) z t (ix2 u v) = ((1 / 2 * ∑ i, Head.loss (rb O i) (gb Q) (rb T i) : ℝ) : EReal) := by
  pointwise [k0_pay80]
  simp only [pay75_at ho hz hq ht, Head.ofBits_1_1024, ofBits_half, ← EReal.coe_mul, coe_sum, Head.loss]

section Rows

variable {acc : FVec Ideal S512x1024 .f32} {a5 : Vec Ideal S512x256 .bf16} {w5 : Vec Ideal S256x1024 .bf16}
  (hp : ∀ i d, k0_pay71 (F := Ideal) x acc a5 w5 (ix2 i d) = (O (ix2 i d) : EReal))
include hp hq ht

theorem dout_at (i : Fin 512) (d : Fin 1024) :
    k0_pay78 (F := Ideal) (k0_pay71 x acc a5 w5) (k0_pay72 q) (k0_pay73 x acc a5 w5) t (ix2 i d)
      = (Head.dout (rb O i) (gb Q) (rb T i) d : EReal) := pay78_at hp (pay73_at hp) hq ht i d

/-- The loss after a block: what was there and the block's rows. -/
theorem loss_at (y : FVec Ideal S1x128 .f32) (j : S1x128.Idx) :
    k0_pay1 (F := Ideal) (k0_pay80 (k0_pay71 x acc a5 w5) (k0_pay72 q) (k0_pay73 x acc a5 w5) t) y j
      = y j + ((1 / 2 * ∑ i, Head.loss (rb O i) (gb Q) (rb T i) : ℝ) : EReal) := by
  idx_vars j
  pointwise [k0_pay1]
  rw [pay80_at hp (pay73_at hp) hq ht]

/-- The gain's gradient after a block. -/
theorem dgain_at (y : FVec Ideal S1x1024 .f32) (j : S1x1024.Idx) :
    k0_pay2 (F := Ideal) (k0_pay79 (k0_pay71 x acc a5 w5) (k0_pay72 q) (k0_pay73 x acc a5 w5) t) y j
      = y j + ((∑ i, Head.dgain (rb O i) (gb Q) (rb T i) (j 1) : ℝ) : EReal) := by
  idx_vars j
  pointwise [k0_pay2]
  rw [pay79_at hp (pay73_at hp) hq ht]

end Rows

/-- The accumulators start at zero. -/
theorem pay81_at (j : S1x128.Idx) : k0_pay81 (F := Ideal) j = 0 := by pointwise [k0_pay81]

theorem pay82_at (j : S1x1024.Idx) : k0_pay82 (F := Ideal) j = 0 := by pointwise [k0_pay82]

end Head

end Payloads

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0]
    ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![0, 0] ∧ win0_13.index t = ![0, 0] :=
  (by decide +kernel : ∀ t : Fin grid0.N, _)

/-- The row at place `i` of point `t`. -/
def ri (t : Fin cfg0.N) (i : Fin 512) : Fin 8192 := ⟨t.val * 512 + i.val, by have := t.isLt; have : cfg0.N = 16 := N_0; omega⟩

/-- The last point. -/
def last : Fin cfg0.N := ⟨15, by rw [show cfg0.N = 16 from N_0]; decide⟩

/-- The rows of point `t`. -/
def rows (E : S8192x1024.Idx → ℝ) (t : Fin cfg0.N) : S512x1024.Idx → ℝ := fun j => E (ix2 (ri t (j 0)) (j 1))

section Blocks

variable {m} {c : Dev nD} {E0 E5 : S8192x1024.Idx → ℝ} {E1 E6 : S1x1024.Idx → ℝ} {E2 E3 E4 : S2816x1024.Idx → ℝ}

theorem read0 (X : S8192x1024.Idx → EReal) (t : Fin cfg0.N) (j : S512x1024.Idx) :
    ((cfg0.win 0).blk t).view.read (Elt Ideal) X j = X (ix2 (ri t (j 0)) (j 1)) := by blk_ext [ri, idx t]

theorem read1 (X : S1x1024.Idx → EReal) (t : Fin cfg0.N) (j : S1x1024.Idx) :
    ((cfg0.win 1).blk t).view.read (Elt Ideal) X j = X j := by blk_ext [idx t]

theorem read2 (X : S2816x1024.Idx → EReal) (t : Fin cfg0.N) (j : S2816x1024.Idx) :
    ((cfg0.win 2).blk t).view.read (Elt Ideal) X j = X j := by blk_ext [idx t]

theorem read3 (X : S2816x1024.Idx → EReal) (t : Fin cfg0.N) (j : S2816x1024.Idx) :
    ((cfg0.win 3).blk t).view.read (Elt Ideal) X j = X j := by blk_ext [idx t]

theorem read4 (X : S2816x1024.Idx → EReal) (t : Fin cfg0.N) (j : S2816x1024.Idx) :
    ((cfg0.win 4).blk t).view.read (Elt Ideal) X j = X j := by blk_ext [idx t]

theorem read5 (X : S8192x1024.Idx → EReal) (t : Fin cfg0.N) (j : S512x1024.Idx) :
    ((cfg0.win 5).blk t).view.read (Elt Ideal) X j = X (ix2 (ri t (j 0)) (j 1)) := by blk_ext [ri, idx t]

theorem read6 (X : S1x1024.Idx → EReal) (t : Fin cfg0.N) (j : S1x1024.Idx) :
    ((cfg0.win 6).blk t).view.read (Elt Ideal) X j = X j := by blk_ext [idx t]

theorem blk0 (h : ∀ i, V m c main_v0 i = (E0 i : EReal)) (t : Fin cfg0.N) (j) : iblk m c 0 t j = (rows E0 t j : EReal) :=
  (read0 _ t j).trans (h _)

theorem blk1 (h : ∀ i, V m c main_arg1 i = (E1 i : EReal)) (t : Fin cfg0.N) (j) : iblk m c 1 t j = (E1 j : EReal) :=
  (read1 _ t j).trans (h _)

theorem blk2 (h : ∀ i, V m c main_v3 i = (E2 i : EReal)) (t : Fin cfg0.N) (j) : iblk m c 2 t j = (E2 j : EReal) :=
  (read2 _ t j).trans (h _)

theorem blk3 (h : ∀ i, V m c main_v6 i = (E3 i : EReal)) (t : Fin cfg0.N) (j) : iblk m c 3 t j = (E3 j : EReal) :=
  (read3 _ t j).trans (h _)

theorem blk4 (h : ∀ i, V m c main_v8 i = (E4 i : EReal)) (t : Fin cfg0.N) (j) : iblk m c 4 t j = (E4 j : EReal) :=
  (read4 _ t j).trans (h _)

theorem blk5 (h : ∀ i, V m c main_v9 i = (E5 i : EReal)) (t : Fin cfg0.N) (j) : iblk m c 5 t j = (rows E5 t j : EReal) :=
  (read5 _ t j).trans (h _)

theorem blk6 (h : ∀ i, V m c main_v10 i = (E6 i : EReal)) (t : Fin cfg0.N) (j) : iblk m c 6 t j = (E6 j : EReal) :=
  (read6 _ t j).trans (h _)

section Point

variable (h0 : ∀ i, V m c main_v0 i = (E0 i : EReal)) (h1 : ∀ i, V m c main_arg1 i = (E1 i : EReal))
  (h2 : ∀ i, V m c main_v3 i = (E2 i : EReal)) (h3 : ∀ i, V m c main_v6 i = (E3 i : EReal)) (h4 : ∀ i, V m c main_v8 i = (E4 i : EReal))
  (h5 : ∀ i, V m c main_v9 i = (E5 i : EReal)) (h6 : ∀ i, V m c main_v10 i = (E6 i : EReal))

include h0 h1 in
/-- What a point leaves in the normed rows' buffer. -/
theorem outs8 (t : Fin cfg0.N) (i : Fin 512) (d : Fin 1024) :
    (outsAt0 m c t.val t.isLt).2.1 (ix2 i d) = (norm (rb (rows E0 t) i) (gb E1) d : EReal) := by
  by_cases h : t.val % 16 = 0
  · rw [outsAt0_A m c t h]; frame_out; exact pay4_at (blk0 h0 t) (blk1 h1 t) i d
  · rw [outsAt0_B m c t h]; frame_out; exact pay4_at (blk0 h0 t) (blk1 h1 t) i d

set_option maxHeartbeats 2000000 in
include h0 h1 h2 in
/-- What a point leaves in the gate's buffer. -/
theorem outs9 (t : Fin cfg0.N) (y : S512x2816.Idx) : (outsAt0 m c t.val t.isLt).2.2.1 y = (projB (rows E0 t) E1 E2 y : EReal) := by
  by_cases h : t.val % 16 = 0
  · rw [outsAt0_A m c t h]
    frame_out
    refine View.canon_apply_of_pieces (S := S512x2816) (e := .bf16) (Val := Elt Ideal) (projE (rows E0 t) E1 E2) _ (View.PiecesOf.mem ?_) y
      (View.cover_of_tiledL (s := S512x2816) _ S512x256.size (by sl_kernel_rfl) y)
    exact ⟨store (f := projB (rows E0 t) E1 E2) (o := 2560) (inb := inb_S512x2816_S512x256_0_2560) (by decide) (proj_at (o := 2560) (blk0 h0 t) (blk1 h1 t) (blk2 h2 t) (by decide)),
      store (f := projB (rows E0 t) E1 E2) (o := 2304) (inb := inb_S512x2816_S512x256_0_2304) (by decide) (proj_at (o := 2304) (blk0 h0 t) (blk1 h1 t) (blk2 h2 t) (by decide)),
      store (f := projB (rows E0 t) E1 E2) (o := 2048) (inb := inb_S512x2816_S512x256_0_2048) (by decide) (proj_at (o := 2048) (blk0 h0 t) (blk1 h1 t) (blk2 h2 t) (by decide)),
      store (f := projB (rows E0 t) E1 E2) (o := 1792) (inb := inb_S512x2816_S512x256_0_1792) (by decide) (proj_at (o := 1792) (blk0 h0 t) (blk1 h1 t) (blk2 h2 t) (by decide)),
      store (f := projB (rows E0 t) E1 E2) (o := 1536) (inb := inb_S512x2816_S512x256_0_1536) (by decide) (proj_at (o := 1536) (blk0 h0 t) (blk1 h1 t) (blk2 h2 t) (by decide)),
      store (f := projB (rows E0 t) E1 E2) (o := 1280) (inb := inb_S512x2816_S512x256_0_1280) (by decide) (proj_at (o := 1280) (blk0 h0 t) (blk1 h1 t) (blk2 h2 t) (by decide)),
      store (f := projB (rows E0 t) E1 E2) (o := 1024) (inb := inb_S512x2816_S512x256_0_1024) (by decide) (proj_at (o := 1024) (blk0 h0 t) (blk1 h1 t) (blk2 h2 t) (by decide)),
      store (f := projB (rows E0 t) E1 E2) (o := 768) (inb := inb_S512x2816_S512x256_0_768) (by decide) (proj_at (o := 768) (blk0 h0 t) (blk1 h1 t) (blk2 h2 t) (by decide)),
      store (f := projB (rows E0 t) E1 E2) (o := 512) (inb := inb_S512x2816_S512x256_0_512) (by decide) (proj_at (o := 512) (blk0 h0 t) (blk1 h1 t) (blk2 h2 t) (by decide)),
      store (f := projB (rows E0 t) E1 E2) (o := 256) (inb := inb_S512x2816_S512x256_0_256) (by decide) (proj_at (o := 256) (blk0 h0 t) (blk1 h1 t) (blk2 h2 t) (by decide)),
      store (f := projB (rows E0 t) E1 E2) (o := 0) (inb := inb_S512x2816_S512x256_0_0) (by decide) (proj_at (o := 0) (blk0 h0 t) (blk1 h1 t) (blk2 h2 t) (by decide)), trivial⟩
  · rw [outsAt0_B m c t h]
    frame_out
    refine View.canon_apply_of_pieces (S := S512x2816) (e := .bf16) (Val := Elt Ideal) (projE (rows E0 t) E1 E2) _ (View.PiecesOf.mem ?_) y
      (View.cover_of_tiledL (s := S512x2816) _ S512x256.size (by sl_kernel_rfl) y)
    exact ⟨store (f := projB (rows E0 t) E1 E2) (o := 2560) (inb := inb_S512x2816_S512x256_0_2560) (by decide) (proj_at (o := 2560) (blk0 h0 t) (blk1 h1 t) (blk2 h2 t) (by decide)),
      store (f := projB (rows E0 t) E1 E2) (o := 2304) (inb := inb_S512x2816_S512x256_0_2304) (by decide) (proj_at (o := 2304) (blk0 h0 t) (blk1 h1 t) (blk2 h2 t) (by decide)),
      store (f := projB (rows E0 t) E1 E2) (o := 2048) (inb := inb_S512x2816_S512x256_0_2048) (by decide) (proj_at (o := 2048) (blk0 h0 t) (blk1 h1 t) (blk2 h2 t) (by decide)),
      store (f := projB (rows E0 t) E1 E2) (o := 1792) (inb := inb_S512x2816_S512x256_0_1792) (by decide) (proj_at (o := 1792) (blk0 h0 t) (blk1 h1 t) (blk2 h2 t) (by decide)),
      store (f := projB (rows E0 t) E1 E2) (o := 1536) (inb := inb_S512x2816_S512x256_0_1536) (by decide) (proj_at (o := 1536) (blk0 h0 t) (blk1 h1 t) (blk2 h2 t) (by decide)),
      store (f := projB (rows E0 t) E1 E2) (o := 1280) (inb := inb_S512x2816_S512x256_0_1280) (by decide) (proj_at (o := 1280) (blk0 h0 t) (blk1 h1 t) (blk2 h2 t) (by decide)),
      store (f := projB (rows E0 t) E1 E2) (o := 1024) (inb := inb_S512x2816_S512x256_0_1024) (by decide) (proj_at (o := 1024) (blk0 h0 t) (blk1 h1 t) (blk2 h2 t) (by decide)),
      store (f := projB (rows E0 t) E1 E2) (o := 768) (inb := inb_S512x2816_S512x256_0_768) (by decide) (proj_at (o := 768) (blk0 h0 t) (blk1 h1 t) (blk2 h2 t) (by decide)),
      store (f := projB (rows E0 t) E1 E2) (o := 512) (inb := inb_S512x2816_S512x256_0_512) (by decide) (proj_at (o := 512) (blk0 h0 t) (blk1 h1 t) (blk2 h2 t) (by decide)),
      store (f := projB (rows E0 t) E1 E2) (o := 256) (inb := inb_S512x2816_S512x256_0_256) (by decide) (proj_at (o := 256) (blk0 h0 t) (blk1 h1 t) (blk2 h2 t) (by decide)),
      store (f := projB (rows E0 t) E1 E2) (o := 0) (inb := inb_S512x2816_S512x256_0_0) (by decide) (proj_at (o := 0) (blk0 h0 t) (blk1 h1 t) (blk2 h2 t) (by decide)), trivial⟩

set_option maxHeartbeats 2000000 in
include h0 h1 h3 in
/-- What a point leaves in the other projection's buffer. -/
theorem outs10 (t : Fin cfg0.N) (y : S512x2816.Idx) : (outsAt0 m c t.val t.isLt).2.2.2.1 y = (projB (rows E0 t) E1 E3 y : EReal) := by
  by_cases h : t.val % 16 = 0
  · rw [outsAt0_A m c t h]
    frame_out
    refine View.canon_apply_of_pieces (S := S512x2816) (e := .bf16) (Val := Elt Ideal) (projE (rows E0 t) E1 E3) _ (View.PiecesOf.mem ?_) y
      (View.cover_of_tiledL (s := S512x2816) _ S512x256.size (by sl_kernel_rfl) y)
    exact ⟨store (f := projB (rows E0 t) E1 E3) (o := 2560) (inb := inb_S512x2816_S512x256_0_2560) (by decide) (proj_at (o := 2560) (blk0 h0 t) (blk1 h1 t) (blk3 h3 t) (by decide)),
      store (f := projB (rows E0 t) E1 E3) (o := 2304) (inb := inb_S512x2816_S512x256_0_2304) (by decide) (proj_at (o := 2304) (blk0 h0 t) (blk1 h1 t) (blk3 h3 t) (by decide)),
      store (f := projB (rows E0 t) E1 E3) (o := 2048) (inb := inb_S512x2816_S512x256_0_2048) (by decide) (proj_at (o := 2048) (blk0 h0 t) (blk1 h1 t) (blk3 h3 t) (by decide)),
      store (f := projB (rows E0 t) E1 E3) (o := 1792) (inb := inb_S512x2816_S512x256_0_1792) (by decide) (proj_at (o := 1792) (blk0 h0 t) (blk1 h1 t) (blk3 h3 t) (by decide)),
      store (f := projB (rows E0 t) E1 E3) (o := 1536) (inb := inb_S512x2816_S512x256_0_1536) (by decide) (proj_at (o := 1536) (blk0 h0 t) (blk1 h1 t) (blk3 h3 t) (by decide)),
      store (f := projB (rows E0 t) E1 E3) (o := 1280) (inb := inb_S512x2816_S512x256_0_1280) (by decide) (proj_at (o := 1280) (blk0 h0 t) (blk1 h1 t) (blk3 h3 t) (by decide)),
      store (f := projB (rows E0 t) E1 E3) (o := 1024) (inb := inb_S512x2816_S512x256_0_1024) (by decide) (proj_at (o := 1024) (blk0 h0 t) (blk1 h1 t) (blk3 h3 t) (by decide)),
      store (f := projB (rows E0 t) E1 E3) (o := 768) (inb := inb_S512x2816_S512x256_0_768) (by decide) (proj_at (o := 768) (blk0 h0 t) (blk1 h1 t) (blk3 h3 t) (by decide)),
      store (f := projB (rows E0 t) E1 E3) (o := 512) (inb := inb_S512x2816_S512x256_0_512) (by decide) (proj_at (o := 512) (blk0 h0 t) (blk1 h1 t) (blk3 h3 t) (by decide)),
      store (f := projB (rows E0 t) E1 E3) (o := 256) (inb := inb_S512x2816_S512x256_0_256) (by decide) (proj_at (o := 256) (blk0 h0 t) (blk1 h1 t) (blk3 h3 t) (by decide)),
      store (f := projB (rows E0 t) E1 E3) (o := 0) (inb := inb_S512x2816_S512x256_0_0) (by decide) (proj_at (o := 0) (blk0 h0 t) (blk1 h1 t) (blk3 h3 t) (by decide)), trivial⟩
  · rw [outsAt0_B m c t h]
    frame_out
    refine View.canon_apply_of_pieces (S := S512x2816) (e := .bf16) (Val := Elt Ideal) (projE (rows E0 t) E1 E3) _ (View.PiecesOf.mem ?_) y
      (View.cover_of_tiledL (s := S512x2816) _ S512x256.size (by sl_kernel_rfl) y)
    exact ⟨store (f := projB (rows E0 t) E1 E3) (o := 2560) (inb := inb_S512x2816_S512x256_0_2560) (by decide) (proj_at (o := 2560) (blk0 h0 t) (blk1 h1 t) (blk3 h3 t) (by decide)),
      store (f := projB (rows E0 t) E1 E3) (o := 2304) (inb := inb_S512x2816_S512x256_0_2304) (by decide) (proj_at (o := 2304) (blk0 h0 t) (blk1 h1 t) (blk3 h3 t) (by decide)),
      store (f := projB (rows E0 t) E1 E3) (o := 2048) (inb := inb_S512x2816_S512x256_0_2048) (by decide) (proj_at (o := 2048) (blk0 h0 t) (blk1 h1 t) (blk3 h3 t) (by decide)),
      store (f := projB (rows E0 t) E1 E3) (o := 1792) (inb := inb_S512x2816_S512x256_0_1792) (by decide) (proj_at (o := 1792) (blk0 h0 t) (blk1 h1 t) (blk3 h3 t) (by decide)),
      store (f := projB (rows E0 t) E1 E3) (o := 1536) (inb := inb_S512x2816_S512x256_0_1536) (by decide) (proj_at (o := 1536) (blk0 h0 t) (blk1 h1 t) (blk3 h3 t) (by decide)),
      store (f := projB (rows E0 t) E1 E3) (o := 1280) (inb := inb_S512x2816_S512x256_0_1280) (by decide) (proj_at (o := 1280) (blk0 h0 t) (blk1 h1 t) (blk3 h3 t) (by decide)),
      store (f := projB (rows E0 t) E1 E3) (o := 1024) (inb := inb_S512x2816_S512x256_0_1024) (by decide) (proj_at (o := 1024) (blk0 h0 t) (blk1 h1 t) (blk3 h3 t) (by decide)),
      store (f := projB (rows E0 t) E1 E3) (o := 768) (inb := inb_S512x2816_S512x256_0_768) (by decide) (proj_at (o := 768) (blk0 h0 t) (blk1 h1 t) (blk3 h3 t) (by decide)),
      store (f := projB (rows E0 t) E1 E3) (o := 512) (inb := inb_S512x2816_S512x256_0_512) (by decide) (proj_at (o := 512) (blk0 h0 t) (blk1 h1 t) (blk3 h3 t) (by decide)),
      store (f := projB (rows E0 t) E1 E3) (o := 256) (inb := inb_S512x2816_S512x256_0_256) (by decide) (proj_at (o := 256) (blk0 h0 t) (blk1 h1 t) (blk3 h3 t) (by decide)),
      store (f := projB (rows E0 t) E1 E3) (o := 0) (inb := inb_S512x2816_S512x256_0_0) (by decide) (proj_at (o := 0) (blk0 h0 t) (blk1 h1 t) (blk3 h3 t) (by decide)), trivial⟩

set_option maxHeartbeats 2000000 in
include h0 h1 h2 h3 in
/-- What a point leaves in the gated product's buffer. -/
theorem outs11 (t : Fin cfg0.N) (y : S512x2816.Idx) : (outsAt0 m c t.val t.isLt).2.2.2.2.1 y = (actB (rows E0 t) E1 E2 E3 y : EReal) := by
  by_cases h : t.val % 16 = 0
  · rw [outsAt0_A m c t h]
    frame_out
    refine View.canon_apply_of_pieces (S := S512x2816) (e := .bf16) (Val := Elt Ideal) (actE (rows E0 t) E1 E2 E3) _ (View.PiecesOf.mem ?_) y
      (View.cover_of_tiledL (s := S512x2816) _ S512x256.size (by sl_kernel_rfl) y)
    exact ⟨store (f := actB (rows E0 t) E1 E2 E3) (o := 2560) (inb := inb_S512x2816_S512x256_0_2560) (by decide) (act_at (o := 2560) (blk0 h0 t) (blk1 h1 t) (blk2 h2 t) (blk3 h3 t) (by decide)),
      store (f := actB (rows E0 t) E1 E2 E3) (o := 2304) (inb := inb_S512x2816_S512x256_0_2304) (by decide) (act_at (o := 2304) (blk0 h0 t) (blk1 h1 t) (blk2 h2 t) (blk3 h3 t) (by decide)),
      store (f := actB (rows E0 t) E1 E2 E3) (o := 2048) (inb := inb_S512x2816_S512x256_0_2048) (by decide) (act_at (o := 2048) (blk0 h0 t) (blk1 h1 t) (blk2 h2 t) (blk3 h3 t) (by decide)),
      store (f := actB (rows E0 t) E1 E2 E3) (o := 1792) (inb := inb_S512x2816_S512x256_0_1792) (by decide) (act_at (o := 1792) (blk0 h0 t) (blk1 h1 t) (blk2 h2 t) (blk3 h3 t) (by decide)),
      store (f := actB (rows E0 t) E1 E2 E3) (o := 1536) (inb := inb_S512x2816_S512x256_0_1536) (by decide) (act_at (o := 1536) (blk0 h0 t) (blk1 h1 t) (blk2 h2 t) (blk3 h3 t) (by decide)),
      store (f := actB (rows E0 t) E1 E2 E3) (o := 1280) (inb := inb_S512x2816_S512x256_0_1280) (by decide) (act_at (o := 1280) (blk0 h0 t) (blk1 h1 t) (blk2 h2 t) (blk3 h3 t) (by decide)),
      store (f := actB (rows E0 t) E1 E2 E3) (o := 1024) (inb := inb_S512x2816_S512x256_0_1024) (by decide) (act_at (o := 1024) (blk0 h0 t) (blk1 h1 t) (blk2 h2 t) (blk3 h3 t) (by decide)),
      store (f := actB (rows E0 t) E1 E2 E3) (o := 768) (inb := inb_S512x2816_S512x256_0_768) (by decide) (act_at (o := 768) (blk0 h0 t) (blk1 h1 t) (blk2 h2 t) (blk3 h3 t) (by decide)),
      store (f := actB (rows E0 t) E1 E2 E3) (o := 512) (inb := inb_S512x2816_S512x256_0_512) (by decide) (act_at (o := 512) (blk0 h0 t) (blk1 h1 t) (blk2 h2 t) (blk3 h3 t) (by decide)),
      store (f := actB (rows E0 t) E1 E2 E3) (o := 256) (inb := inb_S512x2816_S512x256_0_256) (by decide) (act_at (o := 256) (blk0 h0 t) (blk1 h1 t) (blk2 h2 t) (blk3 h3 t) (by decide)),
      store (f := actB (rows E0 t) E1 E2 E3) (o := 0) (inb := inb_S512x2816_S512x256_0_0) (by decide) (act_at (o := 0) (blk0 h0 t) (blk1 h1 t) (blk2 h2 t) (blk3 h3 t) (by decide)), trivial⟩
  · rw [outsAt0_B m c t h]
    frame_out
    refine View.canon_apply_of_pieces (S := S512x2816) (e := .bf16) (Val := Elt Ideal) (actE (rows E0 t) E1 E2 E3) _ (View.PiecesOf.mem ?_) y
      (View.cover_of_tiledL (s := S512x2816) _ S512x256.size (by sl_kernel_rfl) y)
    exact ⟨store (f := actB (rows E0 t) E1 E2 E3) (o := 2560) (inb := inb_S512x2816_S512x256_0_2560) (by decide) (act_at (o := 2560) (blk0 h0 t) (blk1 h1 t) (blk2 h2 t) (blk3 h3 t) (by decide)),
      store (f := actB (rows E0 t) E1 E2 E3) (o := 2304) (inb := inb_S512x2816_S512x256_0_2304) (by decide) (act_at (o := 2304) (blk0 h0 t) (blk1 h1 t) (blk2 h2 t) (blk3 h3 t) (by decide)),
      store (f := actB (rows E0 t) E1 E2 E3) (o := 2048) (inb := inb_S512x2816_S512x256_0_2048) (by decide) (act_at (o := 2048) (blk0 h0 t) (blk1 h1 t) (blk2 h2 t) (blk3 h3 t) (by decide)),
      store (f := actB (rows E0 t) E1 E2 E3) (o := 1792) (inb := inb_S512x2816_S512x256_0_1792) (by decide) (act_at (o := 1792) (blk0 h0 t) (blk1 h1 t) (blk2 h2 t) (blk3 h3 t) (by decide)),
      store (f := actB (rows E0 t) E1 E2 E3) (o := 1536) (inb := inb_S512x2816_S512x256_0_1536) (by decide) (act_at (o := 1536) (blk0 h0 t) (blk1 h1 t) (blk2 h2 t) (blk3 h3 t) (by decide)),
      store (f := actB (rows E0 t) E1 E2 E3) (o := 1280) (inb := inb_S512x2816_S512x256_0_1280) (by decide) (act_at (o := 1280) (blk0 h0 t) (blk1 h1 t) (blk2 h2 t) (blk3 h3 t) (by decide)),
      store (f := actB (rows E0 t) E1 E2 E3) (o := 1024) (inb := inb_S512x2816_S512x256_0_1024) (by decide) (act_at (o := 1024) (blk0 h0 t) (blk1 h1 t) (blk2 h2 t) (blk3 h3 t) (by decide)),
      store (f := actB (rows E0 t) E1 E2 E3) (o := 768) (inb := inb_S512x2816_S512x256_0_768) (by decide) (act_at (o := 768) (blk0 h0 t) (blk1 h1 t) (blk2 h2 t) (blk3 h3 t) (by decide)),
      store (f := actB (rows E0 t) E1 E2 E3) (o := 512) (inb := inb_S512x2816_S512x256_0_512) (by decide) (act_at (o := 512) (blk0 h0 t) (blk1 h1 t) (blk2 h2 t) (blk3 h3 t) (by decide)),
      store (f := actB (rows E0 t) E1 E2 E3) (o := 256) (inb := inb_S512x2816_S512x256_0_256) (by decide) (act_at (o := 256) (blk0 h0 t) (blk1 h1 t) (blk2 h2 t) (blk3 h3 t) (by decide)),
      store (f := actB (rows E0 t) E1 E2 E3) (o := 0) (inb := inb_S512x2816_S512x256_0_0) (by decide) (act_at (o := 0) (blk0 h0 t) (blk1 h1 t) (blk2 h2 t) (blk3 h3 t) (by decide)), trivial⟩

/-- The half-step's rows of a point. -/
abbrev outB (X : S512x1024.Idx → ℝ) (G : S1x1024.Idx → ℝ) (W W' D : S2816x1024.Idx → ℝ) (j : S512x1024.Idx) : ℝ :=
  Head.out (rb X (j 0)) (gb G) (lw W) (lw W') (lb D) (j 1)

include h0 h1 h2 h3 h4 h5 h6

set_option maxHeartbeats 2000000 in
/-- What a point leaves in the rows' cotangent's buffer. -/
theorem outs7 (t : Fin cfg0.N) (i : Fin 512) (d : Fin 1024) : (outsAt0 m c t.val t.isLt).1 (ix2 i d)
    = (Head.dout (rb (outB (rows E0 t) E1 E2 E3 E4) i) (gb E6) (rb (rows E5 t) i) d : EReal) := by
  by_cases h : t.val % 16 = 0
  · rw [outsAt0_A m c t h]
    frame_open
    simp (disch := decide) only [↓ View.readCov_skip, ↓ View.readCov_cons_toLoadRect, ↓ View.readCov_fill]
    frame_out
    refine dout_at (O := outB (rows E0 t) E1 E2 E3 E4) (blk6 h6 t) (blk5 h5 t) ?_ i d
    exact out_at (A := actB (rows E0 t) E1 E2 E3) (D := E4) (blk0 h0 t)
      (two_at (blk0 h0 t) (blk1 h1 t) (blk2 h2 t) (blk3 h3 t) (o := 0) (o' := 256) _ _ (by decide) rfl)
      (two_at (blk0 h0 t) (blk1 h1 t) (blk2 h2 t) (blk3 h3 t) (o := 512) (o' := 768) _ _ (by decide) rfl)
      (two_at (blk0 h0 t) (blk1 h1 t) (blk2 h2 t) (blk3 h3 t) (o := 1024) (o' := 1280) _ _ (by decide) rfl)
      (two_at (blk0 h0 t) (blk1 h1 t) (blk2 h2 t) (blk3 h3 t) (o := 1536) (o' := 1792) _ _ (by decide) rfl)
      (two_at (blk0 h0 t) (blk1 h1 t) (blk2 h2 t) (blk3 h3 t) (o := 2048) (o' := 2304) _ _ (by decide) rfl)
      (act_at (o := 2560) (blk0 h0 t) (blk1 h1 t) (blk2 h2 t) (blk3 h3 t) (by decide))
      (load (k := 512) (o := 0) (blk4 h4 t) (by decide)) (load (k := 512) (o := 512) (blk4 h4 t) (by decide))
      (load (k := 512) (o := 1024) (blk4 h4 t) (by decide)) (load (k := 512) (o := 1536) (blk4 h4 t) (by decide))
      (load (k := 512) (o := 2048) (blk4 h4 t) (by decide)) (load (k := 256) (o := 2560) (blk4 h4 t) (by decide))
  · rw [outsAt0_B m c t h]
    frame_open
    simp (disch := decide) only [↓ View.readCov_skip, ↓ View.readCov_cons_toLoadRect, ↓ View.readCov_fill]
    frame_out
    refine dout_at (O := outB (rows E0 t) E1 E2 E3 E4) (blk6 h6 t) (blk5 h5 t) ?_ i d
    exact out_at (A := actB (rows E0 t) E1 E2 E3) (D := E4) (blk0 h0 t)
      (two_at (blk0 h0 t) (blk1 h1 t) (blk2 h2 t) (blk3 h3 t) (o := 0) (o' := 256) _ _ (by decide) rfl)
      (two_at (blk0 h0 t) (blk1 h1 t) (blk2 h2 t) (blk3 h3 t) (o := 512) (o' := 768) _ _ (by decide) rfl)
      (two_at (blk0 h0 t) (blk1 h1 t) (blk2 h2 t) (blk3 h3 t) (o := 1024) (o' := 1280) _ _ (by decide) rfl)
      (two_at (blk0 h0 t) (blk1 h1 t) (blk2 h2 t) (blk3 h3 t) (o := 1536) (o' := 1792) _ _ (by decide) rfl)
      (two_at (blk0 h0 t) (blk1 h1 t) (blk2 h2 t) (blk3 h3 t) (o := 2048) (o' := 2304) _ _ (by decide) rfl)
      (act_at (o := 2560) (blk0 h0 t) (blk1 h1 t) (blk2 h2 t) (blk3 h3 t) (by decide))
      (load (k := 512) (o := 0) (blk4 h4 t) (by decide)) (load (k := 512) (o := 512) (blk4 h4 t) (by decide))
      (load (k := 512) (o := 1024) (blk4 h4 t) (by decide)) (load (k := 512) (o := 1536) (blk4 h4 t) (by decide))
      (load (k := 512) (o := 2048) (blk4 h4 t) (by decide)) (load (k := 256) (o := 2560) (blk4 h4 t) (by decide))

set_option maxHeartbeats 2000000 in
/-- What the first point leaves in the loss's accumulator. -/
theorem outs12A (t : Fin cfg0.N) (h : t.val % 16 = 0) (j : S1x128.Idx) : (outsAt0 m c t.val t.isLt).2.2.2.2.2.1 j
    = ((1 / 2 * ∑ i, Head.loss (rb (outB (rows E0 t) E1 E2 E3 E4) i) (gb E6) (rb (rows E5 t) i) : ℝ) : EReal) := by
  rw [outsAt0_A m c t h]
  frame_open
  simp (disch := decide) only [↓ View.readCov_skip, ↓ View.readCov_cons_toLoadRect, ↓ View.readCov_fill]
  frame_out
  refine (loss_at (O := outB (rows E0 t) E1 E2 E3 E4) (blk6 h6 t) (blk5 h5 t) ?_ _ j).trans ?_
  · exact out_at (A := actB (rows E0 t) E1 E2 E3) (D := E4) (blk0 h0 t)
      (two_at (blk0 h0 t) (blk1 h1 t) (blk2 h2 t) (blk3 h3 t) (o := 0) (o' := 256) _ _ (by decide) rfl)
      (two_at (blk0 h0 t) (blk1 h1 t) (blk2 h2 t) (blk3 h3 t) (o := 512) (o' := 768) _ _ (by decide) rfl)
      (two_at (blk0 h0 t) (blk1 h1 t) (blk2 h2 t) (blk3 h3 t) (o := 1024) (o' := 1280) _ _ (by decide) rfl)
      (two_at (blk0 h0 t) (blk1 h1 t) (blk2 h2 t) (blk3 h3 t) (o := 1536) (o' := 1792) _ _ (by decide) rfl)
      (two_at (blk0 h0 t) (blk1 h1 t) (blk2 h2 t) (blk3 h3 t) (o := 2048) (o' := 2304) _ _ (by decide) rfl)
      (act_at (o := 2560) (blk0 h0 t) (blk1 h1 t) (blk2 h2 t) (blk3 h3 t) (by decide))
      (load (k := 512) (o := 0) (blk4 h4 t) (by decide)) (load (k := 512) (o := 512) (blk4 h4 t) (by decide))
      (load (k := 512) (o := 1024) (blk4 h4 t) (by decide)) (load (k := 512) (o := 1536) (blk4 h4 t) (by decide))
      (load (k := 512) (o := 2048) (blk4 h4 t) (by decide)) (load (k := 256) (o := 2560) (blk4 h4 t) (by decide))
  · rw [pay81_at, zero_add]

set_option maxHeartbeats 2000000 in
/-- What a later point leaves in the loss's accumulator. -/
theorem outs12B (t : Fin cfg0.N) (h : ¬t.val % 16 = 0) (j : S1x128.Idx) : (outsAt0 m c t.val t.isLt).2.2.2.2.2.1 j
    = (outsAt0 m c (t.val - 1) (Nat.lt_of_le_of_lt (Nat.sub_le _ _) t.isLt)).2.2.2.2.2.1 j + ((1 / 2 * ∑ i, Head.loss (rb (outB (rows E0 t) E1 E2 E3 E4) i) (gb E6) (rb (rows E5 t) i) : ℝ) : EReal) := by
  rw [outsAt0_B m c t h]
  frame_open
  simp (disch := decide) only [↓ View.readCov_skip, ↓ View.readCov_cons_toLoadRect, ↓ View.readCov_fill]
  frame_out
  refine loss_at (O := outB (rows E0 t) E1 E2 E3 E4) (blk6 h6 t) (blk5 h5 t) ?_ _ j
  exact out_at (A := actB (rows E0 t) E1 E2 E3) (D := E4) (blk0 h0 t)
      (two_at (blk0 h0 t) (blk1 h1 t) (blk2 h2 t) (blk3 h3 t) (o := 0) (o' := 256) _ _ (by decide) rfl)
      (two_at (blk0 h0 t) (blk1 h1 t) (blk2 h2 t) (blk3 h3 t) (o := 512) (o' := 768) _ _ (by decide) rfl)
      (two_at (blk0 h0 t) (blk1 h1 t) (blk2 h2 t) (blk3 h3 t) (o := 1024) (o' := 1280) _ _ (by decide) rfl)
      (two_at (blk0 h0 t) (blk1 h1 t) (blk2 h2 t) (blk3 h3 t) (o := 1536) (o' := 1792) _ _ (by decide) rfl)
      (two_at (blk0 h0 t) (blk1 h1 t) (blk2 h2 t) (blk3 h3 t) (o := 2048) (o' := 2304) _ _ (by decide) rfl)
      (act_at (o := 2560) (blk0 h0 t) (blk1 h1 t) (blk2 h2 t) (blk3 h3 t) (by decide))
      (load (k := 512) (o := 0) (blk4 h4 t) (by decide)) (load (k := 512) (o := 512) (blk4 h4 t) (by decide))
      (load (k := 512) (o := 1024) (blk4 h4 t) (by decide)) (load (k := 512) (o := 1536) (blk4 h4 t) (by decide))
      (load (k := 512) (o := 2048) (blk4 h4 t) (by decide)) (load (k := 256) (o := 2560) (blk4 h4 t) (by decide))

set_option maxHeartbeats 2000000 in
/-- What the first point leaves in the gain's gradient's accumulator. -/
theorem outs13A (t : Fin cfg0.N) (h : t.val % 16 = 0) (j : S1x1024.Idx) : (outsAt0 m c t.val t.isLt).2.2.2.2.2.2 j
    = ((∑ i, Head.dgain (rb (outB (rows E0 t) E1 E2 E3 E4) i) (gb E6) (rb (rows E5 t) i) (j 1) : ℝ) : EReal) := by
  rw [outsAt0_A m c t h]
  frame_open
  simp (disch := decide) only [↓ View.readCov_skip, ↓ View.readCov_cons_toLoadRect, ↓ View.readCov_fill]
  frame_out
  refine (dgain_at (O := outB (rows E0 t) E1 E2 E3 E4) (blk6 h6 t) (blk5 h5 t) ?_ _ j).trans ?_
  · exact out_at (A := actB (rows E0 t) E1 E2 E3) (D := E4) (blk0 h0 t)
      (two_at (blk0 h0 t) (blk1 h1 t) (blk2 h2 t) (blk3 h3 t) (o := 0) (o' := 256) _ _ (by decide) rfl)
      (two_at (blk0 h0 t) (blk1 h1 t) (blk2 h2 t) (blk3 h3 t) (o := 512) (o' := 768) _ _ (by decide) rfl)
      (two_at (blk0 h0 t) (blk1 h1 t) (blk2 h2 t) (blk3 h3 t) (o := 1024) (o' := 1280) _ _ (by decide) rfl)
      (two_at (blk0 h0 t) (blk1 h1 t) (blk2 h2 t) (blk3 h3 t) (o := 1536) (o' := 1792) _ _ (by decide) rfl)
      (two_at (blk0 h0 t) (blk1 h1 t) (blk2 h2 t) (blk3 h3 t) (o := 2048) (o' := 2304) _ _ (by decide) rfl)
      (act_at (o := 2560) (blk0 h0 t) (blk1 h1 t) (blk2 h2 t) (blk3 h3 t) (by decide))
      (load (k := 512) (o := 0) (blk4 h4 t) (by decide)) (load (k := 512) (o := 512) (blk4 h4 t) (by decide))
      (load (k := 512) (o := 1024) (blk4 h4 t) (by decide)) (load (k := 512) (o := 1536) (blk4 h4 t) (by decide))
      (load (k := 512) (o := 2048) (blk4 h4 t) (by decide)) (load (k := 256) (o := 2560) (blk4 h4 t) (by decide))
  · rw [pay82_at, zero_add]

set_option maxHeartbeats 2000000 in
/-- What a later point leaves in the gain's gradient's accumulator. -/
theorem outs13B (t : Fin cfg0.N) (h : ¬t.val % 16 = 0) (j : S1x1024.Idx) : (outsAt0 m c t.val t.isLt).2.2.2.2.2.2 j
    = (outsAt0 m c (t.val - 1) (Nat.lt_of_le_of_lt (Nat.sub_le _ _) t.isLt)).2.2.2.2.2.2 j + ((∑ i, Head.dgain (rb (outB (rows E0 t) E1 E2 E3 E4) i) (gb E6) (rb (rows E5 t) i) (j 1) : ℝ) : EReal) := by
  rw [outsAt0_B m c t h]
  frame_open
  simp (disch := decide) only [↓ View.readCov_skip, ↓ View.readCov_cons_toLoadRect, ↓ View.readCov_fill]
  frame_out
  refine dgain_at (O := outB (rows E0 t) E1 E2 E3 E4) (blk6 h6 t) (blk5 h5 t) ?_ _ j
  exact out_at (A := actB (rows E0 t) E1 E2 E3) (D := E4) (blk0 h0 t)
      (two_at (blk0 h0 t) (blk1 h1 t) (blk2 h2 t) (blk3 h3 t) (o := 0) (o' := 256) _ _ (by decide) rfl)
      (two_at (blk0 h0 t) (blk1 h1 t) (blk2 h2 t) (blk3 h3 t) (o := 512) (o' := 768) _ _ (by decide) rfl)
      (two_at (blk0 h0 t) (blk1 h1 t) (blk2 h2 t) (blk3 h3 t) (o := 1024) (o' := 1280) _ _ (by decide) rfl)
      (two_at (blk0 h0 t) (blk1 h1 t) (blk2 h2 t) (blk3 h3 t) (o := 1536) (o' := 1792) _ _ (by decide) rfl)
      (two_at (blk0 h0 t) (blk1 h1 t) (blk2 h2 t) (blk3 h3 t) (o := 2048) (o' := 2304) _ _ (by decide) rfl)
      (act_at (o := 2560) (blk0 h0 t) (blk1 h1 t) (blk2 h2 t) (blk3 h3 t) (by decide))
      (load (k := 512) (o := 0) (blk4 h4 t) (by decide)) (load (k := 512) (o := 512) (blk4 h4 t) (by decide))
      (load (k := 512) (o := 1024) (blk4 h4 t) (by decide)) (load (k := 512) (o := 1536) (blk4 h4 t) (by decide))
      (load (k := 512) (o := 2048) (blk4 h4 t) (by decide)) (load (k := 256) (o := 2560) (blk4 h4 t) (by decide))

/-- The half-step's row of the whole arrays. -/
abbrev orow (E0 : S8192x1024.Idx → ℝ) (E1 : S1x1024.Idx → ℝ) (E2 E3 E4 : S2816x1024.Idx → ℝ) (r : Fin 8192) : Fin 1024 → ℝ :=
  Head.out (rb E0 r) (gb E1) (lw E2) (lw E3) (lb E4)

omit h0 h1 h2 h3 h4 h5 h6 in
/-- The points' rows are all rows. -/
theorem all_rows (f : Fin 8192 → ℝ) : ∑ t : Fin cfg0.N, ∑ i : Fin 512, f (ri t i) = ∑ r, f r := by
  refine (Fintype.sum_equiv (finCongr N_0) _ (fun a : Fin 16 => ∑ i : Fin 512, f ⟨a.val * 512 + i.val, by omega⟩) fun t => rfl).trans ?_
  exact Fin.sum_mul_add_fin 16 512 f

/-- The rows' cotangent after the region. -/
theorem final7 : (dats m 0 c).arrAt 7 (cfgs 0).N = fun j : S8192x1024.Idx =>
    (Head.dout (orow E0 E1 E2 E3 E4 (j 0)) (gb E6) (rb E5 (j 0)) (j 1) : EReal) := by
  refine (dats m 0 c).arrAt_eq_of_covers 7 _ (by decide +kernel) fun t hf y => ?_
  blk_simp
  rw [after0_7]
  idx_vars y
  rw [outs7 h0 h1 h2 h3 h4 h5 h6 t]
  have he : ((View.whole main_v11_0).slice (win0_7.rect t)).emb (ix2 y0 y1) = ix2 (ri t y0) y1 := by
    blk_ext [ri, idx t]
  rw [he]
  rfl

/-- The loss after the region. -/
theorem final12 : (dats m 0 c).arrAt 12 (cfgs 0).N = fun j : S1x128.Idx =>
    ((1 / 2 * ∑ r, Head.loss (orow E0 E1 E2 E3 E4 r) (gb E6) (rb E5 r) : ℝ) : EReal) := by
  refine (dats m 0 c).arrAt_eq_of_after_last 12 last (by decide +kernel) _ fun j => ?_
  blk_simp
  rw [after0_12, Pipeline.eq_sum_fin_of_reset_step_apply_last (fun n h => (outsAt0 m c n h).2.2.2.2.2.1) 16 (fun _ => 0)
    (fun t _ => ((1 / 2 * ∑ i, Head.loss (rb (outB (rows E0 t) E1 E2 E3 E4) i) (gb E6) (rb (rows E5 t) i) : ℝ) : EReal))
    (fun t h j => (outs12A h0 h1 h2 h3 h4 h5 h6 t h j).trans (zero_add _).symm)
    (fun t h j => outs12B h0 h1 h2 h3 h4 h5 h6 t h j)
    (le_of_eq N_0) last rfl j, zero_add]
  rw [coe_sum, ← Finset.mul_sum]
  exact congrArg (fun r : ℝ => ((1 / 2 * r : ℝ) : EReal))
    (all_rows fun r => Head.loss (orow E0 E1 E2 E3 E4 r) (gb E6) (rb E5 r))

/-- The gain's gradient after the region. -/
theorem final13 : (dats m 0 c).arrAt 13 (cfgs 0).N = fun j : S1x1024.Idx =>
    ((∑ r, Head.dgain (orow E0 E1 E2 E3 E4 r) (gb E6) (rb E5 r) (j 1) : ℝ) : EReal) := by
  refine (dats m 0 c).arrAt_eq_of_after_last 13 last (by decide +kernel) _ fun j => ?_
  blk_simp
  rw [after0_13, Pipeline.eq_sum_fin_of_reset_step_apply_last (fun n h => (outsAt0 m c n h).2.2.2.2.2.2) 16 (fun _ => 0)
    (fun t j => ((∑ i, Head.dgain (rb (outB (rows E0 t) E1 E2 E3 E4) i) (gb E6) (rb (rows E5 t) i) (j 1) : ℝ) : EReal))
    (fun t h j => (outs13A h0 h1 h2 h3 h4 h5 h6 t h j).trans (zero_add _).symm)
    (fun t h j => outs13B h0 h1 h2 h3 h4 h5 h6 t h j)
    (le_of_eq N_0) last rfl j, zero_add]
  rw [coe_sum]
  exact congrArg (fun r : ℝ => (r : EReal))
    (all_rows fun r => Head.dgain (orow E0 E1 E2 E3 E4 r) (gb E6) (rb E5 r) (j 1))

omit h2 h3 h4 h5 h6 in
/-- The normed rows after the region. -/
theorem final8 : (dats m 0 c).arrAt 8 (cfgs 0).N = fun j : S8192x1024.Idx => (norm (rb E0 (j 0)) (gb E1) (j 1) : EReal) := by
  refine (dats m 0 c).arrAt_eq_of_covers 8 _ (by decide +kernel) fun t hf y => ?_
  blk_simp
  rw [after0_8]
  idx_vars y
  rw [outs8 h0 h1 t]
  have he : ((View.whole main_v11_1).slice (win0_8.rect t)).emb (ix2 y0 y1) = ix2 (ri t y0) y1 := by
    blk_ext [ri, idx t]
  rw [he]
  rfl

omit h3 h4 h5 h6 in
/-- The gate after the region. -/
theorem final9 : (dats m 0 c).arrAt 9 (cfgs 0).N = fun j : S8192x2816.Idx => (proj (rb E0 (j 0)) (gb E1) (lw E2) (j 1) : EReal) := by
  refine (dats m 0 c).arrAt_eq_of_covers 9 _ (by decide +kernel) fun t hf y => ?_
  blk_simp
  rw [after0_9]
  idx_vars y
  rw [outs9 h0 h1 h2 t]
  have he : ((View.whole main_v11_2).slice (win0_9.rect t)).emb (ix2 y0 y1) = ix2 (ri t y0) y1 := by
    blk_ext [ri, idx t]
  rw [he]
  rfl

omit h2 h4 h5 h6 in
/-- The other projection after the region. -/
theorem final10 : (dats m 0 c).arrAt 10 (cfgs 0).N = fun j : S8192x2816.Idx => (proj (rb E0 (j 0)) (gb E1) (lw E3) (j 1) : EReal) := by
  refine (dats m 0 c).arrAt_eq_of_covers 10 _ (by decide +kernel) fun t hf y => ?_
  blk_simp
  rw [after0_10]
  idx_vars y
  rw [outs10 h0 h1 h3 t]
  have he : ((View.whole main_v11_3).slice (win0_10.rect t)).emb (ix2 y0 y1) = ix2 (ri t y0) y1 := by
    blk_ext [ri, idx t]
  rw [he]
  rfl

omit h4 h5 h6 in
/-- The gated product after the region. -/
theorem final11 : (dats m 0 c).arrAt 11 (cfgs 0).N = fun j : S8192x2816.Idx => (act (rb E0 (j 0)) (gb E1) (lw E2) (lw E3) (j 1) : EReal) := by
  refine (dats m 0 c).arrAt_eq_of_covers 11 _ (by decide +kernel) fun t hf y => ?_
  blk_simp
  rw [after0_11]
  idx_vars y
  rw [outs11 h0 h1 h2 h3 t]
  have he : ((View.whole main_v11_4).slice (win0_11.rect t)).emb (ix2 y0 y1) = ix2 (ri t y0) y1 := by
    blk_ext [ri, idx t]
  rw [he]
  rfl

end Point

end Blocks

end Cert.LossHeadIdeal.Value

end
-- ==== Proof.LossHead.lean ====
module

public import proofs.«01_k».proof.Defs
public import proofs.«01_k».proof.Proof.LossHeadRef
public import proofs.«01_k».proof.Proof.LossHeadKernel
public import proofs.«01_k».proof.Proof.Gen.Pre_finite_loss_head
public import proofs.«01_k».proof.Proof.Gen.LossHeadRefIdeal.Run

@[expose] public section

set_option maxRecDepth 16384

noncomputable section

/-! # The value of the second half-step with the loss

The region's entry arrays and the host lines around it, read as real arrays, against the reference. -/

namespace Cert.LossHeadIdeal.Value

open Idealize.ShloMosaic Idealize.ShloMosaic.TcCoe Idealize.SL.Sem
open Cert.LossHeadIdeal Cert.LossHeadIdeal.Gen
open Cert.Proof Cert.Proof.Reals Cert.Proof.Half
open Cert.LossHeadRefIdeal.At (row gn wt wb qn)

/-- The batch and the place of a row. -/
def ba (r : Fin 8192) : Fin 4 := ⟨r.val / 2048, by omega⟩
def pl (r : Fin 8192) : Fin 2048 := ⟨r.val % 2048, by omega⟩

/-- A three-axis array's rows in one axis. -/
def flat (X : S4x2048x1024.Idx → ℝ) (i : S8192x1024.Idx) : ℝ := X (ix3 (ba (i 0)) (pl (i 0)) (i 1))

/-- A projection's weights, hidden lanes first. -/
def turned (W : S1x1024x2816.Idx → ℝ) (i : S2816x1024.Idx) : ℝ := W (ix3 0 (i 1) (i 0))

/-- The weights back. -/
def flip (W : S1x2816x1024.Idx → ℝ) (i : S2816x1024.Idx) : ℝ := W (ix3 0 (i 0) (i 1))

/-- The last gain as a row. -/
def wide (Q : S1024.Idx → ℝ) (i : S1x1024.Idx) : ℝ := Q (ix1 (i 1))

section Arrays

variable (m : (ℓ : Loc nD τ sig) → Buf (Elt Ideal) ℓ) (c : Dev nD)
  {A0 A6 : S4x2048x1024.Idx → ℝ} {A1 : S1x1024.Idx → ℝ} {A2 A3 : S1x1024x2816.Idx → ℝ} {A4 : S1x2816x1024.Idx → ℝ} {A5 : S1024.Idx → ℝ}

theorem entry0 (h : ∀ i, m ((c.tc : Thread nD τ).loc main_arg0) i = (A0 i : EReal)) (j : S8192x1024.Idx) :
    V m c main_v0 j = (flat A0 j : EReal) := by
  idx_vars j
  show StableHlo.after [hostOps0].flatten _ _ _ = _
  simp only [List.flatten_cons, List.flatten_nil, List.append_nil]
  after_results
  pointwise []
  exact h _

theorem entry2 (h : ∀ i, m ((c.tc : Thread nD τ).loc main_arg2) i = (A2 i : EReal)) (j : S2816x1024.Idx) :
    V m c main_v3 j = (turned A2 j : EReal) := by
  idx_vars j
  show StableHlo.after [hostOps0].flatten _ _ _ = _
  simp only [List.flatten_cons, List.flatten_nil, List.append_nil]
  after_results
  pointwise []
  exact h _

theorem entry3 (h : ∀ i, m ((c.tc : Thread nD τ).loc main_arg3) i = (A3 i : EReal)) (j : S2816x1024.Idx) :
    V m c main_v6 j = (turned A3 j : EReal) := by
  idx_vars j
  show StableHlo.after [hostOps0].flatten _ _ _ = _
  simp only [List.flatten_cons, List.flatten_nil, List.append_nil]
  after_results
  pointwise []
  exact h _

theorem entry4 (h : ∀ i, m ((c.tc : Thread nD τ).loc main_arg4) i = (A4 i : EReal)) (j : S2816x1024.Idx) :
    V m c main_v8 j = (flip A4 j : EReal) := by
  idx_vars j
  show StableHlo.after [hostOps0].flatten _ _ _ = _
  simp only [List.flatten_cons, List.flatten_nil, List.append_nil]
  after_results
  pointwise []
  exact h _

theorem entry6 (h : ∀ i, m ((c.tc : Thread nD τ).loc main_arg6) i = (A6 i : EReal)) (j : S8192x1024.Idx) :
    V m c main_v9 j = (flat A6 j : EReal) := by
  idx_vars j
  show StableHlo.after [hostOps0].flatten _ _ _ = _
  simp only [List.flatten_cons, List.flatten_nil, List.append_nil]
  after_results
  pointwise []
  exact h _

theorem entry5 (h : ∀ i, m ((c.tc : Thread nD τ).loc main_arg5) i = (A5 i : EReal)) (j : S1x1024.Idx) :
    V m c main_v10 j = (wide A5 j : EReal) := by
  idx_vars j
  show StableHlo.after [hostOps0].flatten _ _ _ = _
  simp only [List.flatten_cons, List.flatten_nil, List.append_nil]
  after_results
  pointwise []
  exact h _

theorem entry1 (h : ∀ i, m ((c.tc : Thread nD τ).loc main_arg1) i = (A1 i : EReal)) (j : S1x1024.Idx) :
    V m c main_arg1 j = (A1 j : EReal) := by
  rw [V_main_arg1]; exact h j

/-- The loss after the host lines that take its first lane. -/
theorem tail_v13 (j : S_.Idx) : Pipeline.afterTail₀ cfgs (dats m) 0 (V0 m) [hostOps1] c main_v13 j
    = (show S1x128.Idx → EReal from (dats m 0 c).arrAt 12 (cfgs 0).N) (ix2 0 0) := by
  unfold Pipeline.afterTail₀
  simp only [List.flatten_cons, List.flatten_nil, List.append_nil]
  after_results
  erw [Pipeline.withArrays_arr (cfgs 0).spec launch0.win.arr_inj _ _ _ 12]
  generalize (dats m 0 c).arrAt 12 _ = K
  revert K
  intro (K : S1x128.Idx → EReal)
  pointwise []

/-- The gain's gradient after the host line that drops its first axis. -/
theorem tail_v14 (j : S1024.Idx) : Pipeline.afterTail₀ cfgs (dats m) 0 (V0 m) [hostOps1] c main_v14 j
    = (show S1x1024.Idx → EReal from (dats m 0 c).arrAt 13 (cfgs 0).N) (ix2 0 (j 0)) := by
  idx_vars j
  unfold Pipeline.afterTail₀
  simp only [List.flatten_cons, List.flatten_nil, List.append_nil]
  after_results
  erw [Pipeline.withArrays_arr (cfgs 0).spec launch0.win.arr_inj _ _ _ 13]
  generalize (dats m 0 c).arrAt 13 _ = K
  revert K
  intro (K : S1x1024.Idx → EReal)
  pointwise []

/-- The normed rows after the host line that widens them. -/
theorem tail_v15 (j : S8192x1024.Idx) : Pipeline.afterTail₀ cfgs (dats m) 0 (V0 m) [hostOps1] c main_v15 j
    = (show S8192x1024.Idx → EReal from (dats m 0 c).arrAt 8 (cfgs 0).N) j := by
  idx_vars j
  unfold Pipeline.afterTail₀
  simp only [List.flatten_cons, List.flatten_nil, List.append_nil]
  after_results
  erw [Pipeline.withArrays_arr (cfgs 0).spec launch0.win.arr_inj _ _ _ 8]
  generalize (dats m 0 c).arrAt 8 _ = K
  revert K
  intro (K : S8192x1024.Idx → EReal)
  pointwise []

/-- The gate after the host line that widens it. -/
theorem tail_v16 (j : S8192x2816.Idx) : Pipeline.afterTail₀ cfgs (dats m) 0 (V0 m) [hostOps1] c main_v16 j
    = (show S8192x2816.Idx → EReal from (dats m 0 c).arrAt 9 (cfgs 0).N) j := by
  idx_vars j
  unfold Pipeline.afterTail₀
  simp only [List.flatten_cons, List.flatten_nil, List.append_nil]
  after_results
  erw [Pipeline.withArrays_arr (cfgs 0).spec launch0.win.arr_inj _ _ _ 9]
  generalize (dats m 0 c).arrAt 9 _ = K
  revert K
  intro (K : S8192x2816.Idx → EReal)
  pointwise []

/-- The other projection after the host line that widens it. -/
theorem tail_v17 (j : S8192x2816.Idx) : Pipeline.afterTail₀ cfgs (dats m) 0 (V0 m) [hostOps1] c main_v17 j
    = (show S8192x2816.Idx → EReal from (dats m 0 c).arrAt 10 (cfgs 0).N) j := by
  idx_vars j
  unfold Pipeline.afterTail₀
  simp only [List.flatten_cons, List.flatten_nil, List.append_nil]
  after_results
  erw [Pipeline.withArrays_arr (cfgs 0).spec launch0.win.arr_inj _ _ _ 10]
  generalize (dats m 0 c).arrAt 10 _ = K
  revert K
  intro (K : S8192x2816.Idx → EReal)
  pointwise []

/-- The gated product after the host line that widens it. -/
theorem tail_v18 (j : S8192x2816.Idx) : Pipeline.afterTail₀ cfgs (dats m) 0 (V0 m) [hostOps1] c main_v18 j
    = (show S8192x2816.Idx → EReal from (dats m 0 c).arrAt 11 (cfgs 0).N) j := by
  idx_vars j
  unfold Pipeline.afterTail₀
  simp only [List.flatten_cons, List.flatten_nil, List.append_nil]
  after_results
  erw [Pipeline.withArrays_arr (cfgs 0).spec launch0.win.arr_inj _ _ _ 11]
  generalize (dats m 0 c).arrAt 11 _ = K
  revert K
  intro (K : S8192x2816.Idx → EReal)
  pointwise []

end Arrays

section Results

variable (m : (ℓ : Loc nD τ sig) → Buf (Elt Ideal) ℓ) (c : Dev nD)
  {A0 A6 : S4x2048x1024.Idx → ℝ} {A1 : S1x1024.Idx → ℝ} {A2 A3 : S1x1024x2816.Idx → ℝ} {A4 : S1x2816x1024.Idx → ℝ} {A5 : S1024.Idx → ℝ}
  (h0 : ∀ i, m ((c.tc : Thread nD τ).loc main_arg0) i = (A0 i : EReal))
  (h1 : ∀ i, m ((c.tc : Thread nD τ).loc main_arg1) i = (A1 i : EReal))
  (h2 : ∀ i, m ((c.tc : Thread nD τ).loc main_arg2) i = (A2 i : EReal))
  (h3 : ∀ i, m ((c.tc : Thread nD τ).loc main_arg3) i = (A3 i : EReal))
  (h4 : ∀ i, m ((c.tc : Thread nD τ).loc main_arg4) i = (A4 i : EReal))
  (h5 : ∀ i, m ((c.tc : Thread nD τ).loc main_arg5) i = (A5 i : EReal))
  (h6 : ∀ i, m ((c.tc : Thread nD τ).loc main_arg6) i = (A6 i : EReal))

include h0 h1 h2 h3 h4 h5 h6 in
/-- The loss is the reference's. -/
theorem res0 : Cert.LossHeadRefIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    = Pipeline.afterTail₀ cfgs (dats m) 0 (V0 m) [hostOps1] c main_v13 := by
  funext j
  rw [tail_v13, final12 (entry0 m c h0) (entry1 m c h1) (entry2 m c h2) (entry3 m c h3) (entry4 m c h4) (entry6 m c h6) (entry5 m c h5), Cert.LossHeadRefIdeal.At.v49_at h0 h1 h2 h3 h4 h5 h6]
  refine congrArg (fun r : ℝ => ((1 / 2 * r : ℝ) : EReal)) (Eq.symm ?_)
  exact Fin.sum_divmod_congr (S := 2048) fun r ha hs => rfl

include h0 h1 h2 h3 h4 h5 h6 in
/-- The rows' cotangent is the reference's. -/
theorem res1 : Cert.LossHeadRefIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 7 (cfgs 0).N := by
  rw [final7 (entry0 m c h0) (entry1 m c h1) (entry2 m c h2) (entry3 m c h3) (entry4 m c h4) (entry6 m c h6) (entry5 m c h5)]
  funext j
  idx_vars j
  unfold Cert.LossHeadRefIdeal.Read.val_main_v76
  pointwise []
  rw [Cert.LossHeadRefIdeal.At.v75_at h0 h1 h2 h3 h4 h5 h6]
  rfl

include h0 h1 h2 h3 h4 h5 h6 in
/-- The gain's gradient is the reference's. -/
theorem res2 : Cert.LossHeadRefIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    = Pipeline.afterTail₀ cfgs (dats m) 0 (V0 m) [hostOps1] c main_v14 := by
  funext j
  rw [tail_v14, final13 (entry0 m c h0) (entry1 m c h1) (entry2 m c h2) (entry3 m c h3) (entry4 m c h4) (entry6 m c h6) (entry5 m c h5)]
  idx_vars j
  rw [Cert.LossHeadRefIdeal.At.v61_at h0 h1 h2 h3 h4 h5 h6]
  refine congrArg (fun r : ℝ => (r : EReal)) (Eq.symm ?_)
  exact Fin.sum_divmod_congr (S := 2048) fun r ha hs => rfl

include h0 h1 in
/-- The normed rows are the reference's. -/
theorem res3 : Cert.LossHeadRefIdeal.Read.val_main_v77 (F := Ideal) (m ((c.tc : Thread nD τ).loc main_arg0)) (m ((c.tc : Thread nD τ).loc main_arg1))
    = Pipeline.afterTail₀ cfgs (dats m) 0 (V0 m) [hostOps1] c main_v15 := by
  funext j
  rw [tail_v15, final8 (entry0 m c h0) (entry1 m c h1)]
  idx_vars j
  unfold Cert.LossHeadRefIdeal.Read.val_main_v77
  pointwise []
  rw [Cert.LossHeadRefIdeal.At.v13_at h0 h1]
  rfl

include h0 h1 h2 in
/-- The gate is the reference's. -/
theorem res4 : Cert.LossHeadRefIdeal.Read.val_main_v78 (F := Ideal) (m ((c.tc : Thread nD τ).loc main_arg0)) (m ((c.tc : Thread nD τ).loc main_arg1)) (m ((c.tc : Thread nD τ).loc main_arg2))
    = Pipeline.afterTail₀ cfgs (dats m) 0 (V0 m) [hostOps1] c main_v16 := by
  funext j
  rw [tail_v16, final9 (entry0 m c h0) (entry1 m c h1) (entry2 m c h2)]
  idx_vars j
  unfold Cert.LossHeadRefIdeal.Read.val_main_v78
  pointwise []
  rw [Cert.LossHeadRefIdeal.At.v15_at h0 h1 h2]
  rfl

include h0 h1 h3 in
/-- The other projection is the reference's. -/
theorem res5 : Cert.LossHeadRefIdeal.Read.val_main_v79 (F := Ideal) (m ((c.tc : Thread nD τ).loc main_arg0)) (m ((c.tc : Thread nD τ).loc main_arg1)) (m ((c.tc : Thread nD τ).loc main_arg3))
    = Pipeline.afterTail₀ cfgs (dats m) 0 (V0 m) [hostOps1] c main_v17 := by
  funext j
  rw [tail_v17, final10 (entry0 m c h0) (entry1 m c h1) (entry3 m c h3)]
  idx_vars j
  unfold Cert.LossHeadRefIdeal.Read.val_main_v79
  pointwise []
  rw [Cert.LossHeadRefIdeal.At.v17_at h0 h1 h3]
  rfl

include h0 h1 h2 h3 in
/-- The gated product is the reference's. -/
theorem res6 : Cert.LossHeadRefIdeal.Read.val_main_v80 (F := Ideal) (m ((c.tc : Thread nD τ).loc main_arg0)) (m ((c.tc : Thread nD τ).loc main_arg1)) (m ((c.tc : Thread nD τ).loc main_arg2)) (m ((c.tc : Thread nD τ).loc main_arg3))
    = Pipeline.afterTail₀ cfgs (dats m) 0 (V0 m) [hostOps1] c main_v18 := by
  funext j
  rw [tail_v18, final11 (entry0 m c h0) (entry1 m c h1) (entry2 m c h2) (entry3 m c h3)]
  idx_vars j
  unfold Cert.LossHeadRefIdeal.Read.val_main_v80
  pointwise []
  rw [Cert.LossHeadRefIdeal.At.v19_at h0 h1 h2 h3]
  rfl

end Results

/-- The precondition: every argument is an array of reals. -/
theorem reals (m : (ℓ : Loc nD τ sig) → Buf (Elt Ideal) ℓ) (h : Pre_LossHeadIdeal_finite_loss_head m) (c : Dev nD) :
    (∃ A : S4x2048x1024.Idx → ℝ, ∀ i, m ((c.tc : Thread nD τ).loc main_arg0) i = (A i : EReal))
    ∧ (∃ A : S1x1024.Idx → ℝ, ∀ i, m ((c.tc : Thread nD τ).loc main_arg1) i = (A i : EReal))
    ∧ (∃ A : S1x1024x2816.Idx → ℝ, ∀ i, m ((c.tc : Thread nD τ).loc main_arg2) i = (A i : EReal))
    ∧ (∃ A : S1x1024x2816.Idx → ℝ, ∀ i, m ((c.tc : Thread nD τ).loc main_arg3) i = (A i : EReal))
    ∧ (∃ A : S1x2816x1024.Idx → ℝ, ∀ i, m ((c.tc : Thread nD τ).loc main_arg4) i = (A i : EReal))
    ∧ (∃ A : S1024.Idx → ℝ, ∀ i, m ((c.tc : Thread nD τ).loc main_arg5) i = (A i : EReal))
    ∧ (∃ A : S4x2048x1024.Idx → ℝ, ∀ i, m ((c.tc : Thread nD τ).loc main_arg6) i = (A i : EReal)) := by
  obtain ⟨p0, p1, p2, p3, p4, p5, p6⟩ := h c
  refine ⟨exists_array fun i => exists_real ?_, exists_array fun i => exists_real ?_, exists_array fun i => exists_real ?_, exists_array fun i => exists_real ?_, exists_array fun i => exists_real ?_, exists_array fun i => exists_real ?_, exists_array fun i => exists_real ?_⟩
  · have := congrFun p0 i; idx_vars i; pointwise [Cert.Pre_finite_loss_head.fn] at this; exact this
  · have := congrFun p1 i; idx_vars i; pointwise [Cert.Pre_finite_loss_head.fn] at this; exact this
  · have := congrFun p2 i; idx_vars i; pointwise [Cert.Pre_finite_loss_head.fn] at this; exact this
  · have := congrFun p3 i; idx_vars i; pointwise [Cert.Pre_finite_loss_head.fn] at this; exact this
  · have := congrFun p4 i; idx_vars i; pointwise [Cert.Pre_finite_loss_head.fn] at this; exact this
  · have := congrFun p5 i; idx_vars i; pointwise [Cert.Pre_finite_loss_head.fn] at this; exact this
  · have := congrFun p6 i; idx_vars i; pointwise [Cert.Pre_finite_loss_head.fn] at this; exact this

section Agree

variable (m : (ℓ : Loc nD τ sig) → Buf (Elt Ideal) ℓ)
  (m' : (ℓ : Loc Cert.LossHeadRefIdeal.nD Cert.LossHeadRefIdeal.τ Cert.LossHeadRefIdeal.sig) → Buf (Elt Ideal) ℓ) (c : Dev nD)
  (hpre : Pre_LossHeadIdeal_finite_loss_head m)
    (e0 : m' ((c.tc : Thread Cert.LossHeadRefIdeal.nD Cert.LossHeadRefIdeal.τ).loc Cert.LossHeadRefIdeal.main_arg0) = m ((c.tc : Thread nD τ).loc main_arg0))
    (e1 : m' ((c.tc : Thread Cert.LossHeadRefIdeal.nD Cert.LossHeadRefIdeal.τ).loc Cert.LossHeadRefIdeal.main_arg1) = m ((c.tc : Thread nD τ).loc main_arg1))
    (e2 : m' ((c.tc : Thread Cert.LossHeadRefIdeal.nD Cert.LossHeadRefIdeal.τ).loc Cert.LossHeadRefIdeal.main_arg2) = m ((c.tc : Thread nD τ).loc main_arg2))
    (e3 : m' ((c.tc : Thread Cert.LossHeadRefIdeal.nD Cert.LossHeadRefIdeal.τ).loc Cert.LossHeadRefIdeal.main_arg3) = m ((c.tc : Thread nD τ).loc main_arg3))
    (e4 : m' ((c.tc : Thread Cert.LossHeadRefIdeal.nD Cert.LossHeadRefIdeal.τ).loc Cert.LossHeadRefIdeal.main_arg4) = m ((c.tc : Thread nD τ).loc main_arg4))
    (e5 : m' ((c.tc : Thread Cert.LossHeadRefIdeal.nD Cert.LossHeadRefIdeal.τ).loc Cert.LossHeadRefIdeal.main_arg5) = m ((c.tc : Thread nD τ).loc main_arg5))
    (e6 : m' ((c.tc : Thread Cert.LossHeadRefIdeal.nD Cert.LossHeadRefIdeal.τ).loc Cert.LossHeadRefIdeal.main_arg6) = m ((c.tc : Thread nD τ).loc main_arg6))
include hpre e0 e1 e2 e3 e4 e5 e6

/-- The reference's loss, from arguments that agree. -/
theorem agree0 : Cert.LossHeadRefIdeal.Value.res_main_v49 m' c = Pipeline.afterTail₀ cfgs (dats m) 0 (V0 m) [hostOps1] c main_v13 := by
  obtain ⟨⟨A0, h0⟩, ⟨A1, h1⟩, ⟨A2, h2⟩, ⟨A3, h3⟩, ⟨A4, h4⟩, ⟨A5, h5⟩, ⟨A6, h6⟩⟩ := reals m hpre c
  rw [Cert.LossHeadRefIdeal.Read.val_main_v49_eq m' c, e0, e1, e2, e3, e4, e5, e6]
  exact res0 m c h0 h1 h2 h3 h4 h5 h6

/-- The reference's rows' cotangent, from arguments that agree. -/
theorem agree1 : Cert.LossHeadRefIdeal.Value.res_main_v76 m' c = (dats m 0 c).arrAt 7 (cfgs 0).N := by
  obtain ⟨⟨A0, h0⟩, ⟨A1, h1⟩, ⟨A2, h2⟩, ⟨A3, h3⟩, ⟨A4, h4⟩, ⟨A5, h5⟩, ⟨A6, h6⟩⟩ := reals m hpre c
  rw [Cert.LossHeadRefIdeal.Read.val_main_v76_eq m' c, e0, e1, e2, e3, e4, e5, e6]
  exact res1 m c h0 h1 h2 h3 h4 h5 h6

/-- The reference's gain's gradient, from arguments that agree. -/
theorem agree2 : Cert.LossHeadRefIdeal.Value.res_main_v61 m' c = Pipeline.afterTail₀ cfgs (dats m) 0 (V0 m) [hostOps1] c main_v14 := by
  obtain ⟨⟨A0, h0⟩, ⟨A1, h1⟩, ⟨A2, h2⟩, ⟨A3, h3⟩, ⟨A4, h4⟩, ⟨A5, h5⟩, ⟨A6, h6⟩⟩ := reals m hpre c
  rw [Cert.LossHeadRefIdeal.Read.val_main_v61_eq m' c, e0, e1, e2, e3, e4, e5, e6]
  exact res2 m c h0 h1 h2 h3 h4 h5 h6

end Agree

/-- For finite arguments the kernel and the reference end with the same loss, gradients and forward arrays. -/
theorem algebraic : algebraic_LossHeadIdeal_LossHeadRefIdeal_pre_finite_loss_head := by
  pair_intro
  · run_from Cert.LossHeadIdeal.Gen.run_main m g & Cert.LossHeadIdeal.Gen.unchanged m g
  · run_from Cert.LossHeadRefIdeal.Value.run m' g'
    all_goals obtain ⟨e0, e1, e2, e3, e4, e5, e6⟩ := hagree c
    · exact agree0 m m' c hpre e0 e1 e2 e3 e4 e5 e6
    · exact agree1 m m' c hpre e0 e1 e2 e3 e4 e5 e6
    · exact agree2 m m' c hpre e0 e1 e2 e3 e4 e5 e6
    all_goals obtain ⟨⟨A0, h0⟩, ⟨A1, h1⟩, ⟨A2, h2⟩, ⟨A3, h3⟩, ⟨A4, h4⟩, ⟨A5, h5⟩, ⟨A6, h6⟩⟩ := reals m hpre c
    · refine Eq.trans (Cert.LossHeadRefIdeal.Read.val_main_v77_eq (F := Ideal) _ _) ?_
      exact res3 m c h0 h1
    · refine Eq.trans (Cert.LossHeadRefIdeal.Read.val_main_v78_eq (F := Ideal) _ _ _) ?_
      exact res4 m c h0 h1 h2
    · refine Eq.trans (Cert.LossHeadRefIdeal.Read.val_main_v79_eq (F := Ideal) _ _ _) ?_
      exact res5 m c h0 h1 h3
    · refine Eq.trans (Cert.LossHeadRefIdeal.Read.val_main_v80_eq (F := Ideal) _ _ _ _) ?_
      exact res6 m c h0 h1 h2 h3

/-- The reference leaves its arguments unchanged and declares no semaphore. -/
theorem frame_ref : quiescent_LossHeadRefIdeal := fun m g _ =>
  (θ_run Cert.LossHeadRefIdeal.defs _ _).mono (fun r h => ⟨fun c => (h c).2.2.2.2.2.2.2, sem_eq_zero_of_no_sems (by decide) r.2⟩)
    (Cert.LossHeadRefIdeal.Value.run m g)

end Cert.LossHeadIdeal.Value

end
-- ==== Proof.OutFwdRef.lean ====
module

public import proofs.«01_k».proof.Proof.Gen.OutFwdRefIdeal.Read
public import proofs.«01_k».proof.Proof.RmsNorm
public import Idealize.ShloMosaic.Lib.Pointwise

@[expose] public section

set_option maxRecDepth 16384

noncomputable section

/-! # The reference of the output projection at an index, over the reals -/

namespace Cert.OutFwdRefIdeal.At

open Idealize.ShloMosaic Idealize.ShloMosaic.TcCoe Idealize.SL.Sem
open Cert.OutFwdRefIdeal Cert.OutFwdRefIdeal.Gen Cert.OutFwdRefIdeal.Read
open Cert.Proof Cert.Proof.Reals

/-- The normed heads of a group at row `(b, s)`. -/
def nrm (X : S4x2048x512.Idx → ℝ) (G : S1x512.Idx → ℝ) (b : Fin 4) (s : Fin 2048) (k : Fin 512) : ℝ :=
  X (ix3 b s k) * (Rms.r fun k => X (ix3 b s k)) * G (ix2 0 k)

variable {x y : FVec Ideal S4x2048x512 .f32} {g h : FVec Ideal S1x512 .f32} {w : FVec Ideal S1x1024x1024 .f32} {t : FVec Ideal S4x2048x1024 .f32}
  {X Y : S4x2048x512.Idx → ℝ} {G H : S1x512.Idx → ℝ} {W : S1x1024x1024.Idx → ℝ} {T : S4x2048x1024.Idx → ℝ}

/-- The mean square plus epsilon of a row. -/
theorem v7_at (hx : ∀ i, x i = (X i : EReal)) (b : Fin 4) (s : Fin 2048) (u : Fin 1) :
    val_main_v7 (F := Ideal) x (ix3 b s u) = ((Rms.v fun k => X (ix3 b s k) : ℝ) : EReal) := by
  pointwise [val_main_v7, val_main_v6, val_main_v5, val_main_v4, val_main_v3, val_main_v2, val_main_v1, val_main_cst,
    val_main_cst_0, val_main_cst_1]
  simp only [hx, ← EReal.coe_mul, coe_sum, ofBits_512, ofBits_eps, div_coe_coe (show (512 : ℝ) ≠ 0 by norm_num),
    ← EReal.coe_add, Rms.v, Nat.cast_ofNat]

/-- The first group's normed heads. -/
theorem v13_at (hx : ∀ i, x i = (X i : EReal)) (hg : ∀ i, g i = (G i : EReal)) (b : Fin 4) (s : Fin 2048) (k : Fin 512) :
    val_main_v13 (F := Ideal) x g (ix3 b s k) = (nrm X G b s k : EReal) := by
  pointwise [val_main_v13, val_main_v12, val_main_v11, val_main_v10, val_main_v9, val_main_v8, val_main_v0]
  simp only [v7_at hx, hx, hg, rsqrt_coe_pos (Rms.v_pos _), ← EReal.coe_mul, nrm, Rms.r]

/-- The second group's are the same function of its rows and gain. -/
theorem v27_eq : val_main_v27 (F := Ideal) x g = val_main_v13 (F := Ideal) x g := rfl

/-- The rows plus the joined normed heads against the weights: the first group's lanes, then the second's. -/
theorem v31_at (hx : ∀ i, x i = (X i : EReal)) (hg : ∀ i, g i = (G i : EReal)) (hy : ∀ i, y i = (Y i : EReal))
    (hh : ∀ i, h i = (H i : EReal)) (hw : ∀ i, w i = (W i : EReal)) (ht : ∀ i, t i = (T i : EReal)) (b : Fin 4) (s : Fin 2048) (d : Fin 1024) :
    val_main_v31 (F := Ideal) x y g h w t (ix3 b s d)
      = ((T (ix3 b s d) + ((∑ k : Fin 512, nrm X G b s k * W (ix3 0 ⟨k.val, by omega⟩ d))
          + ∑ k : Fin 512, nrm Y H b s k * W (ix3 0 ⟨512 + k.val, by omega⟩ d)) : ℝ) : EReal) := by
  pointwise [val_main_v31, val_main_v30, val_main_v29, val_main_v28]
  simp only [v27_eq, v13_at hx hg, v13_at hy hh, hw, ht, ← EReal.coe_mul, coe_sum, ← EReal.coe_add]

end Cert.OutFwdRefIdeal.At

end
-- ==== Proof.OutFwdKernel.lean ====
module

public import proofs.«01_k».proof.Proof.Gen.OutFwdIdeal.Frame
public import proofs.«01_k».proof.Proof.RmsNorm
public import Idealize.ShloMosaic.Lib.Pipeline.ValueKit

@[expose] public section

set_option maxRecDepth 16384

noncomputable section

/-! # The arrays that the region of the output projection leaves, over the reals

The region's entry arrays are taken to be coercions of real arrays. Each grid point handles 1024 rows: it writes the two
groups' normed rows side by side, and the rows plus their product with the weights. -/

namespace Cert.OutFwdIdeal.Value

open Idealize.ShloMosaic Idealize.ShloMosaic.TcCoe Idealize.SL.Sem
open Idealize.ShloMosaic.Pipeline (Dat)
open Cert.OutFwdIdeal Cert.OutFwdIdeal.Gen
open Cert.Proof Cert.Proof.Reals

/-- A normed row times its gain. -/
def nrm (x g : Fin 512 → ℝ) (k : Fin 512) : ℝ := x k * Rms.r x * g k

/-- Two rows of 512 lanes side by side. -/
def both (a b : Fin 512 → ℝ) (l : Fin 1024) : ℝ :=
  if h : l.val < 512 then a ⟨l.val, h⟩ else b ⟨l.val - 512, by omega⟩

/-- The joined normed row `i` of two groups. -/
def joined {n : ℕ} (X Y : (⟨2, ![n, 512]⟩ : Shape).Idx → ℝ) (G H : S1x512.Idx → ℝ) (i : Fin n) : Fin 1024 → ℝ :=
  both (nrm (fun k => X (ix2 i k)) fun k => G (ix2 0 k)) (nrm (fun k => Y (ix2 i k)) fun k => H (ix2 0 k))

section Payloads

variable {x y : FVec Ideal S1024x512 .f32} {g h : FVec Ideal S1x512 .f32} {t : FVec Ideal S1024x1024 .f32} {w : FVec Ideal S1024x1024 .bf16}
  {X Y : S1024x512.Idx → ℝ} {G H : S1x512.Idx → ℝ} {T W : S1024x1024.Idx → ℝ}

/-- The joined normed rows of a block. -/
theorem pay2_at (hx : ∀ i, x i = (X i : EReal)) (hg : ∀ i, g i = (G i : EReal)) (hy : ∀ i, y i = (Y i : EReal))
    (hh : ∀ i, h i = (H i : EReal)) (i l : Fin 1024) :
    k0_pay2 (F := Ideal) x g y h (ix2 i l) = (joined X Y G H i l : EReal) := by
  pointwise [k0_pay2]
  simp only [hx, hy, hg, hh, ← EReal.coe_mul, coe_sum, ofBits_512, ofBits_eps, div_coe_coe (show (512 : ℝ) ≠ 0 by norm_num),
    ← EReal.coe_add]
  have e : ∀ Z : Fin 512 → ℝ, Ideal.rsqrt (((∑ k, Z k * Z k) / 512 + eps : ℝ) : EReal) = (Rms.r Z : EReal) := by
    intro Z
    rw [Rms.r, ← rsqrt_coe_pos (Rms.v_pos _), Rms.v, Nat.cast_ofNat]
  unfold joined both
  split
  · rw [e fun k => X (ix2 i k)]
    simp only [← EReal.coe_mul, nrm]
  · rw [e fun k => Y (ix2 i k)]
    simp only [← EReal.coe_mul, nrm]

/-- The rows of a block plus the joined rows against the weights. -/
theorem pay1_at (hx : ∀ i, x i = (X i : EReal)) (hg : ∀ i, g i = (G i : EReal)) (hy : ∀ i, y i = (Y i : EReal))
    (hh : ∀ i, h i = (H i : EReal)) (ht : ∀ i, t i = (T i : EReal)) (hw : ∀ i, w i = (W i : EReal)) (i d : Fin 1024) :
    k0_pay1 (F := Ideal) (k0_pay2 x g y h) (k0_pay3 t) w (ix2 i d)
      = (T (ix2 i d) + ∑ l, joined X Y G H i l * W (ix2 l d) : ℝ) := by
  pointwise [k0_pay1, k0_pay3]
  simp only [pay2_at hx hg hy hh, ht, hw, ← EReal.coe_mul, coe_sum, ← EReal.coe_add]

end Payloads

variable (m : (ℓ : Loc nD τ sig) → Buf (Elt Ideal) ℓ)

/-- The windows' block indices: the point's number on the row windows, zero on the others. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The row at place `i` of point `t`. -/
def ri (t : Fin cfg0.N) (i : Fin 1024) : Fin 8192 := ⟨t.val * 1024 + i.val, by have := t.isLt; have : cfg0.N = 8 := N_0; omega⟩

/-- The rows of point `t` of an array of 8192 rows. -/
def rows {n : ℕ} (E : (⟨2, ![8192, n]⟩ : Shape).Idx → ℝ) (t : Fin cfg0.N) : (⟨2, ![1024, n]⟩ : Shape).Idx → ℝ :=
  fun j => E (ix2 (ri t (j 0)) (j 1))

section Blocks

variable {m} {c : Dev nD} {E0 E1 : S8192x512.Idx → ℝ} {E2 E3 : S1x512.Idx → ℝ} {E4 : S1024x1024.Idx → ℝ} {E5 : S8192x1024.Idx → ℝ}

theorem blk0 (h : ∀ i, V m c main_v0 i = (E0 i : EReal)) (t : Fin cfg0.N) (j) : iblk m c 0 t j = (rows E0 t j : EReal) := by
  rw [rows, ← h]
  blk_ext [iblk, ri, idx t]

theorem blk1 (h : ∀ i, V m c main_v4 i = (E1 i : EReal)) (t : Fin cfg0.N) (j) : iblk m c 1 t j = (rows E1 t j : EReal) := by
  rw [rows, ← h]
  blk_ext [iblk, ri, idx t]

theorem blk2 (h : ∀ i, V m c main_arg2 i = (E2 i : EReal)) (t : Fin cfg0.N) (j) : iblk m c 2 t j = (E2 j : EReal) := by
  rw [← h]
  blk_ext [iblk, idx t]

theorem blk3 (h : ∀ i, V m c main_v7 i = (E3 i : EReal)) (t : Fin cfg0.N) (j) : iblk m c 3 t j = (E3 j : EReal) := by
  rw [← h]
  blk_ext [iblk, idx t]

theorem blk4 (h : ∀ i, V m c main_v15 i = (E4 i : EReal)) (t : Fin cfg0.N) (j) : iblk m c 4 t j = (E4 j : EReal) := by
  rw [← h]
  blk_ext [iblk, idx t]

theorem blk5 (h : ∀ i, V m c main_v16 i = (E5 i : EReal)) (t : Fin cfg0.N) (j) : iblk m c 5 t j = (rows E5 t j : EReal) := by
  rw [rows, ← h]
  blk_ext [iblk, ri, idx t]

variable (h0 : ∀ i, V m c main_v0 i = (E0 i : EReal)) (h1 : ∀ i, V m c main_v4 i = (E1 i : EReal))
  (h2 : ∀ i, V m c main_arg2 i = (E2 i : EReal)) (h3 : ∀ i, V m c main_v7 i = (E3 i : EReal))
include h0 h1 h2 h3

/-- The joined normed rows after the region. -/
theorem final7 : (dats m 0 c).arrAt 7 (cfgs 0).N = fun j : S8192x1024.Idx => (joined E0 E1 E2 E3 (j 0) (j 1) : EReal) := by
  refine (dats m 0 c).arrAt_eq_of_covers 7 _ (by decide +kernel) fun t hf y => ?_
  blk_simp
  rw [after0_7]
  unfold out0_7
  frame_out
  idx_vars y
  rw [pay2_at (blk0 h0 t) (blk2 h2 t) (blk1 h1 t) (blk3 h3 t)]
  have he : ((View.whole main_v17_1).slice (win0_7.rect t)).emb (ix2 y0 y1) = ix2 (ri t y0) y1 := by
    blk_ext [ri, idx t]
  rw [he]
  rfl

/-- The rows after the region. -/
theorem final6 (h4 : ∀ i, V m c main_v15 i = (E4 i : EReal)) (h5 : ∀ i, V m c main_v16 i = (E5 i : EReal)) :
    (dats m 0 c).arrAt 6 (cfgs 0).N = fun j : S8192x1024.Idx => ((E5 (ix2 (j 0) (j 1)) + ∑ l, joined E0 E1 E2 E3 (j 0) l * E4 (ix2 l (j 1)) : ℝ) : EReal) := by
  refine (dats m 0 c).arrAt_eq_of_covers 6 _ (by decide +kernel) fun t hf y => ?_
  blk_simp
  rw [after0_6]
  unfold out0_6
  frame_out
  idx_vars y
  rw [pay1_at (blk0 h0 t) (blk2 h2 t) (blk1 h1 t) (blk3 h3 t) (blk5 h5 t) (blk4 h4 t)]
  have he : ((View.whole main_v17_0).slice (win0_6.rect t)).emb (ix2 y0 y1) = ix2 (ri t y0) y1 := by
    blk_ext [ri, idx t]
  rw [he]
  rfl

end Blocks

end Cert.OutFwdIdeal.Value

end
-- ==== Proof.OutFwd.lean ====
module

public import proofs.«01_k».proof.Defs
public import proofs.«01_k».proof.Proof.OutBwd
public import proofs.«01_k».proof.Proof.OutFwdRef
public import proofs.«01_k».proof.Proof.OutFwdKernel
public import proofs.«01_k».proof.Proof.Gen.Pre_finite_out_fwd
public import proofs.«01_k».proof.Proof.Gen.OutFwdRefIdeal.Run

@[expose] public section

set_option maxRecDepth 16384

noncomputable section

/-! # The value of the output projection

The region's entry arrays and the host lines around it, read as real arrays, against the reference. The second group's
lanes pass through the kernel with each pair of heads side by side; neither the norm nor the product sees the order. -/

namespace Cert.OutFwdIdeal.Value

open Idealize.ShloMosaic Idealize.ShloMosaic.TcCoe Idealize.SL.Sem
open Cert.OutFwdIdeal Cert.OutFwdIdeal.Gen
open Cert.Proof Cert.Proof.Reals
open Cert.OutBwdIdeal.Value (toLane ofLane lane flat paired paired_at)

section Arrays

variable (m : (ℓ : Loc nD τ sig) → Buf (Elt Ideal) ℓ) (c : Dev nD)
  {A0 A1 : S4x2048x512.Idx → ℝ} {A2 A3 : S1x512.Idx → ℝ} {A4 : S1x1024x1024.Idx → ℝ} {A5 : S4x2048x1024.Idx → ℝ}

theorem entry0 (h : ∀ i, m ((c.tc : Thread nD τ).loc main_arg0) i = (A0 i : EReal)) (j : S8192x512.Idx) :
    V m c main_v0 j = (flat A0 j : EReal) := by
  idx_vars j
  show StableHlo.after [hostOps0].flatten _ _ _ = _
  simp only [List.flatten_cons, List.flatten_nil, List.append_nil]
  after_results
  pointwise []
  exact h _

theorem entry1 (h : ∀ i, m ((c.tc : Thread nD τ).loc main_arg1) i = (A1 i : EReal)) (j : S8192x512.Idx) :
    V m c main_v4 j = ((fun i : S8192x512.Idx => flat A1 (ix2 (i 0) (lane (i 1)))) j : EReal) := by
  idx_vars j
  show StableHlo.after [hostOps0].flatten _ _ _ = _
  simp only [List.flatten_cons, List.flatten_nil, List.append_nil]
  after_results
  pointwise []
  exact h _

theorem entry2 (h : ∀ i, m ((c.tc : Thread nD τ).loc main_arg2) i = (A2 i : EReal)) (j : S1x512.Idx) :
    V m c main_arg2 j = (A2 j : EReal) := by
  rw [V_main_arg2]; exact h j

theorem entry3 (h : ∀ i, m ((c.tc : Thread nD τ).loc main_arg3) i = (A3 i : EReal)) (j : S1x512.Idx) :
    V m c main_v7 j = ((fun i : S1x512.Idx => A3 (ix2 0 (lane (i 1)))) j : EReal) := by
  idx_vars j
  show StableHlo.after [hostOps0].flatten _ _ _ = _
  simp only [List.flatten_cons, List.flatten_nil, List.append_nil]
  after_results
  pointwise []
  exact h _

theorem entry4 (h : ∀ i, m ((c.tc : Thread nD τ).loc main_arg4) i = (A4 i : EReal)) (j : S1024x1024.Idx) :
    V m c main_v15 j = (paired A4 j : EReal) := by
  idx_vars j
  show StableHlo.after [hostOps0].flatten _ _ _ = _
  simp only [List.flatten_cons, List.flatten_nil, List.append_nil]
  after_results
  pointwise []
  have h' : ∀ i, m (c, Proc.tc.devRef main_arg4) i = (A4 i : EReal) := h
  simp only [h', paired_at]
  split <;> rfl

theorem entry5 (h : ∀ i, m ((c.tc : Thread nD τ).loc main_arg5) i = (A5 i : EReal)) (j : S8192x1024.Idx) :
    V m c main_v16 j = (flat A5 j : EReal) := by
  idx_vars j
  show StableHlo.after [hostOps0].flatten _ _ _ = _
  simp only [List.flatten_cons, List.flatten_nil, List.append_nil]
  after_results
  pointwise []
  exact h _

/-- The first group's normed heads after the host lines that follow the region. -/
theorem tail19 (j0 : Fin 8192) (j1 : Fin 512) : Pipeline.afterTail₀ cfgs (dats m) 0 (V0 m) [hostOps1] c main_v19 (ix2 j0 j1)
    = (show S8192x1024.Idx → EReal from (dats m 0 c).arrAt 7 (cfgs 0).N) (ix2 j0 ⟨j1.val, by omega⟩) := by
  unfold Pipeline.afterTail₀
  simp only [List.flatten_cons, List.flatten_nil, List.append_nil]
  after_results
  erw [Pipeline.withArrays_arr (cfgs 0).spec launch0.win.arr_inj _ _ _ 7]
  generalize (dats m 0 c).arrAt 7 _ = K
  revert K
  intro (K : S8192x1024.Idx → EReal)
  pointwise []
  try rfl

/-- The second group's, the lanes back in the heads' order. -/
theorem tail24 (j0 : Fin 8192) (j1 : Fin 512) : Pipeline.afterTail₀ cfgs (dats m) 0 (V0 m) [hostOps1] c main_v24 (ix2 j0 j1)
    = (show S8192x1024.Idx → EReal from (dats m 0 c).arrAt 7 (cfgs 0).N) (ix2 j0 ⟨512 + (lane.symm j1).val, by omega⟩) := by
  unfold Pipeline.afterTail₀
  simp only [List.flatten_cons, List.flatten_nil, List.append_nil]
  after_results
  erw [Pipeline.withArrays_arr (cfgs 0).spec launch0.win.arr_inj _ _ _ 7]
  generalize (dats m 0 c).arrAt 7 _ = K
  revert K
  intro (K : S8192x1024.Idx → EReal)
  pointwise []
  try rfl

end Arrays

section Sums

variable (A0 A1 : S4x2048x512.Idx → ℝ) (A2 A3 : S1x512.Idx → ℝ) (A4 : S1x1024x1024.Idx → ℝ)

/-- The paired rows and gain of the second group. -/
abbrev rows2 : S8192x512.Idx → ℝ := fun i => flat A1 (ix2 (i 0) (lane (i 1)))
abbrev gain2 : S1x512.Idx → ℝ := fun i => A3 (ix2 0 (lane (i 1)))

/-- The first group's lanes of the joined rows. -/
theorem joined_lo (r : Fin 8192) (k : Fin 512) (hk : k.val < 1024) : joined (flat A0) (rows2 A1) A2 (gain2 A3) r ⟨k.val, hk⟩
    = Cert.OutFwdRefIdeal.At.nrm A0 A2 ⟨r.val / 2048, by omega⟩ ⟨r.val % 2048, by omega⟩ k := by
  unfold joined both
  rw [dif_pos k.isLt]
  rfl

/-- The second group's, at the lane it came from. -/
theorem joined_hi (r : Fin 8192) (k : Fin 512) (hk : 512 + k.val < 1024) : joined (flat A0) (rows2 A1) A2 (gain2 A3) r ⟨512 + k.val, hk⟩
    = Cert.OutFwdRefIdeal.At.nrm A1 A3 ⟨r.val / 2048, by omega⟩ ⟨r.val % 2048, by omega⟩ (lane k) := by
  unfold joined both
  rw [dif_neg (show ¬(⟨512 + k.val, hk⟩ : Fin 1024).val < 512 by simp)]
  have e : (⟨(⟨512 + k.val, hk⟩ : Fin 1024).val - 512, by dsimp only; omega⟩ : Fin 512) = k := Fin.ext (by dsimp only; omega)
  rw [e]
  unfold nrm Cert.OutFwdRefIdeal.At.nrm
  show flat A1 (ix2 r (lane k)) * Rms.r (fun k => flat A1 (ix2 r (lane k))) * A3 (ix2 0 (lane k)) = _
  rw [Rms.r_perm lane fun k => flat A1 (ix2 r k)]
  rfl

/-- The paired weights' rows. -/
theorem paired_lo (k : Fin 512) (hk : k.val < 1024) (d : Fin 1024) : paired A4 (ix2 ⟨k.val, hk⟩ d) = A4 (ix3 0 ⟨k.val, hk⟩ d) := by
  rw [paired_at, dif_pos k.isLt]

theorem paired_hi (k : Fin 512) (hk : 512 + k.val < 1024) (d : Fin 1024) :
    paired A4 (ix2 ⟨512 + k.val, hk⟩ d) = A4 (ix3 0 ⟨512 + (lane k).val, by omega⟩ d) := by
  rw [paired_at, dif_neg (show ¬(⟨512 + k.val, hk⟩ : Fin 1024).val < 512 by simp)]
  have e : (⟨(⟨512 + k.val, hk⟩ : Fin 1024).val - 512, by dsimp only; omega⟩ : Fin 512) = k := Fin.ext (by dsimp only; omega)
  exact congrArg (fun q : Fin 512 => A4 (ix3 0 ⟨512 + (toLane q).val, by omega⟩ d)) e

/-- The product over the joined lanes is the first group's and the second's, in the heads' order. -/
theorem sum_joined (r : Fin 8192) (d : Fin 1024) :
    ∑ l, joined (flat A0) (rows2 A1) A2 (gain2 A3) r l * paired A4 (ix2 l d)
      = (∑ k : Fin 512, Cert.OutFwdRefIdeal.At.nrm A0 A2 ⟨r.val / 2048, by omega⟩ ⟨r.val % 2048, by omega⟩ k * A4 (ix3 0 ⟨k.val, by omega⟩ d))
        + ∑ k : Fin 512, Cert.OutFwdRefIdeal.At.nrm A1 A3 ⟨r.val / 2048, by omega⟩ ⟨r.val % 2048, by omega⟩ k * A4 (ix3 0 ⟨512 + k.val, by omega⟩ d) := by
  refine (Fin.sum_univ_add (a := 512) (b := 512) _).trans (congrArg₂ (· + ·) (Finset.sum_congr rfl fun k _ => ?_) ?_)
  · exact congrArg₂ (· * ·) (joined_lo A0 A1 A2 A3 r k _) (paired_lo A4 k _ d)
  · refine Eq.trans (Finset.sum_congr rfl fun k _ => ?_) (Equiv.sum_comp lane _)
    exact congrArg₂ (· * ·) (joined_hi A0 A1 A2 A3 r k _) (paired_hi A4 k _ d)

end Sums

section Results

variable (m : (ℓ : Loc nD τ sig) → Buf (Elt Ideal) ℓ) (c : Dev nD)
  {A0 A1 : S4x2048x512.Idx → ℝ} {A2 A3 : S1x512.Idx → ℝ} {A4 : S1x1024x1024.Idx → ℝ} {A5 : S4x2048x1024.Idx → ℝ}
  (h0 : ∀ i, m ((c.tc : Thread nD τ).loc main_arg0) i = (A0 i : EReal))
  (h1 : ∀ i, m ((c.tc : Thread nD τ).loc main_arg1) i = (A1 i : EReal))
  (h2 : ∀ i, m ((c.tc : Thread nD τ).loc main_arg2) i = (A2 i : EReal))
  (h3 : ∀ i, m ((c.tc : Thread nD τ).loc main_arg3) i = (A3 i : EReal))
  (h4 : ∀ i, m ((c.tc : Thread nD τ).loc main_arg4) i = (A4 i : EReal))
  (h5 : ∀ i, m ((c.tc : Thread nD τ).loc main_arg5) i = (A5 i : EReal))

include h0 h1 h2 h3 h4 h5 in
/-- The rows are the reference's. -/
theorem res0 : Cert.OutFwdRefIdeal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = (dats m 0 c).arrAt 6 (cfgs 0).N := by
  rw [final6 (entry0 m c h0) (entry1 m c h1) (entry2 m c h2) (entry3 m c h3) (entry4 m c h4) (entry5 m c h5)]
  funext j
  idx_vars j
  unfold Cert.OutFwdRefIdeal.Read.val_main_v32
  pointwise []
  rw [Cert.OutFwdRefIdeal.At.v31_at h0 h2 h1 h3 h4 h5]
  refine congrArg (fun r : ℝ => (r : EReal)) (congrArg₂ (· + ·) rfl ?_)
  exact (sum_joined A0 A1 A2 A3 A4 j0 j1).symm

include h0 h1 h2 h3 in
/-- The first group's normed heads are the reference's. -/
theorem res1 : Cert.OutFwdRefIdeal.Read.val_main_v33 (F := Ideal) (m ((c.tc : Thread nD τ).loc main_arg0)) (m ((c.tc : Thread nD τ).loc main_arg2))
    = Pipeline.afterTail₀ cfgs (dats m) 0 (V0 m) [hostOps1] c main_v19 := by
  funext j
  idx_vars j
  rw [tail19, final7 (entry0 m c h0) (entry1 m c h1) (entry2 m c h2) (entry3 m c h3)]
  unfold Cert.OutFwdRefIdeal.Read.val_main_v33
  pointwise []
  rw [Cert.OutFwdRefIdeal.At.v13_at h0 h2]
  exact congrArg (fun r : ℝ => (r : EReal)) (joined_lo A0 A1 A2 A3 j0 j1 _).symm

include h0 h1 h2 h3 in
/-- The second group's normed heads are the reference's. -/
theorem res2 : Cert.OutFwdRefIdeal.Read.val_main_v34 (F := Ideal) (m ((c.tc : Thread nD τ).loc main_arg1)) (m ((c.tc : Thread nD τ).loc main_arg3))
    = Pipeline.afterTail₀ cfgs (dats m) 0 (V0 m) [hostOps1] c main_v24 := by
  funext j
  idx_vars j
  rw [tail24, final7 (entry0 m c h0) (entry1 m c h1) (entry2 m c h2) (entry3 m c h3)]
  unfold Cert.OutFwdRefIdeal.Read.val_main_v34
  pointwise []
  rw [Cert.OutFwdRefIdeal.At.v27_eq, Cert.OutFwdRefIdeal.At.v13_at h1 h3]
  refine congrArg (fun r : ℝ => (r : EReal)) (Eq.symm ?_)
  refine (joined_hi A0 A1 A2 A3 j0 (lane.symm j1) _).trans ?_
  rw [Equiv.apply_symm_apply]

end Results

/-- The precondition: every argument is an array of reals. -/
theorem reals (m : (ℓ : Loc nD τ sig) → Buf (Elt Ideal) ℓ) (h : Pre_OutFwdIdeal_finite_out_fwd m) (c : Dev nD) :
    (∃ A : S4x2048x512.Idx → ℝ, ∀ i, m ((c.tc : Thread nD τ).loc main_arg0) i = (A i : EReal))
    ∧ (∃ A : S4x2048x512.Idx → ℝ, ∀ i, m ((c.tc : Thread nD τ).loc main_arg1) i = (A i : EReal))
    ∧ (∃ A : S1x512.Idx → ℝ, ∀ i, m ((c.tc : Thread nD τ).loc main_arg2) i = (A i : EReal))
    ∧ (∃ A : S1x512.Idx → ℝ, ∀ i, m ((c.tc : Thread nD τ).loc main_arg3) i = (A i : EReal))
    ∧ (∃ A : S1x1024x1024.Idx → ℝ, ∀ i, m ((c.tc : Thread nD τ).loc main_arg4) i = (A i : EReal))
    ∧ (∃ A : S4x2048x1024.Idx → ℝ, ∀ i, m ((c.tc : Thread nD τ).loc main_arg5) i = (A i : EReal)) := by
  obtain ⟨p0, p1, p2, p3, p4, p5⟩ := h c
  refine ⟨exists_array fun i => exists_real ?_, exists_array fun i => exists_real ?_, exists_array fun i => exists_real ?_, exists_array fun i => exists_real ?_, exists_array fun i => exists_real ?_, exists_array fun i => exists_real ?_⟩
  · have := congrFun p0 i; idx_vars i; pointwise [Cert.Pre_finite_out_fwd.fn] at this; exact this
  · have := congrFun p1 i; idx_vars i; pointwise [Cert.Pre_finite_out_fwd.fn] at this; exact this
  · have := congrFun p2 i; idx_vars i; pointwise [Cert.Pre_finite_out_fwd.fn] at this; exact this
  · have := congrFun p3 i; idx_vars i; pointwise [Cert.Pre_finite_out_fwd.fn] at this; exact this
  · have := congrFun p4 i; idx_vars i; pointwise [Cert.Pre_finite_out_fwd.fn] at this; exact this
  · have := congrFun p5 i; idx_vars i; pointwise [Cert.Pre_finite_out_fwd.fn] at this; exact this

/-- For finite arguments the kernel and the reference end with the same rows and normed heads. -/
theorem algebraic : algebraic_OutFwdIdeal_OutFwdRefIdeal_pre_finite_out_fwd := by
  pair_intro
  · run_from Cert.OutFwdIdeal.Gen.run_main m g & Cert.OutFwdIdeal.Gen.unchanged m g
  · run_from Cert.OutFwdRefIdeal.Value.run m' g'
    all_goals obtain ⟨e0, e1, e2, e3, e4, e5⟩ := hagree c
    all_goals obtain ⟨⟨A0, h0⟩, ⟨A1, h1⟩, ⟨A2, h2⟩, ⟨A3, h3⟩, ⟨A4, h4⟩, ⟨A5, h5⟩⟩ := reals m hpre c
    · refine Eq.trans (Cert.OutFwdRefIdeal.Read.val_main_v32_eq (F := Ideal) _ _ _ _ _ _) ?_
      exact res0 m c h0 h1 h2 h3 h4 h5
    · refine Eq.trans (Cert.OutFwdRefIdeal.Read.val_main_v33_eq (F := Ideal) _ _) ?_
      exact res1 m c h0 h1 h2 h3
    · refine Eq.trans (Cert.OutFwdRefIdeal.Read.val_main_v34_eq (F := Ideal) _ _) ?_
      exact res2 m c h0 h1 h2 h3

/-- The reference leaves its arguments unchanged and declares no semaphore. -/
theorem frame_ref : quiescent_OutFwdRefIdeal := fun m g _ =>
  (θ_run Cert.OutFwdRefIdeal.defs _ _).mono (fun r h => ⟨fun c => (h c).2.2.2, sem_eq_zero_of_no_sems (by decide) r.2⟩)
    (Cert.OutFwdRefIdeal.Value.run m g)

end Cert.OutFwdIdeal.Value

end
-- ==== Proof.FfnFwdKernel.lean ====
module

public import proofs.«01_k».proof.Proof.Gen.FfnFwdIdeal.Frame
public import proofs.«01_k».proof.Proof.LossHeadKernel

@[expose] public section

set_option maxRecDepth 16384

noncomputable section

/-! # The arrays that the region of the first half-step leaves, over the reals

The region's entry arrays are taken to be coercions of real arrays. Each grid point handles 512 rows: it writes the normed
rows, the two projections and the gated product in eleven pieces of 256 hidden lanes, reads the gated product back in
pieces of 512 lanes for the product with the weights back, and adds half of that product to the rows. The pieces are
those of the second half-step. -/

namespace Cert.FfnFwdIdeal.Value

open Idealize.ShloMosaic Idealize.ShloMosaic.TcCoe Idealize.SL.Sem
open Idealize.ShloMosaic.Pipeline (Dat)
open Cert.FfnFwdIdeal Cert.FfnFwdIdeal.Gen
open Cert.Proof Cert.Proof.Reals Cert.Proof.Half
open Cert.LossHeadIdeal.Value (rb gb lw lb projB actB projE actE store load two_at act_at proj_at out_at pay4_at orow outB)

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The row at place `i` of point `t`. -/
def ri (t : Fin cfg0.N) (i : Fin 512) : Fin 8192 := ⟨t.val * 512 + i.val, by have := t.isLt; have : cfg0.N = 16 := N_0; omega⟩

/-- The rows of point `t`. -/
def rows (E : S8192x1024.Idx → ℝ) (t : Fin cfg0.N) : S512x1024.Idx → ℝ := fun j => E (ix2 (ri t (j 0)) (j 1))

section Blocks

variable {m} {c : Dev nD} {E0 : S8192x1024.Idx → ℝ} {E1 : S1x1024.Idx → ℝ} {E2 E3 E4 : S2816x1024.Idx → ℝ}

theorem read0 (X : S8192x1024.Idx → EReal) (t : Fin cfg0.N) (j : S512x1024.Idx) :
    ((cfg0.win 0).blk t).view.read (Elt Ideal) X j = X (ix2 (ri t (j 0)) (j 1)) := by blk_ext [ri, idx t]

theorem read1 (X : S1x1024.Idx → EReal) (t : Fin cfg0.N) (j : S1x1024.Idx) :
    ((cfg0.win 1).blk t).view.read (Elt Ideal) X j = X j := by blk_ext [idx t]

theorem read2 (X : S2816x1024.Idx → EReal) (t : Fin cfg0.N) (j : S2816x1024.Idx) :
    ((cfg0.win 2).blk t).view.read (Elt Ideal) X j = X j := by blk_ext [idx t]

theorem read3 (X : S2816x1024.Idx → EReal) (t : Fin cfg0.N) (j : S2816x1024.Idx) :
    ((cfg0.win 3).blk t).view.read (Elt Ideal) X j = X j := by blk_ext [idx t]

theorem read4 (X : S2816x1024.Idx → EReal) (t : Fin cfg0.N) (j : S2816x1024.Idx) :
    ((cfg0.win 4).blk t).view.read (Elt Ideal) X j = X j := by blk_ext [idx t]

theorem blk0 (h : ∀ i, V m c main_v0 i = (E0 i : EReal)) (t : Fin cfg0.N) (j) : iblk m c 0 t j = (rows E0 t j : EReal) :=
  (read0 _ t j).trans (h _)

theorem blk1 (h : ∀ i, V m c main_arg1 i = (E1 i : EReal)) (t : Fin cfg0.N) (j) : iblk m c 1 t j = (E1 j : EReal) :=
  (read1 _ t j).trans (h _)

theorem blk2 (h : ∀ i, V m c main_v3 i = (E2 i : EReal)) (t : Fin cfg0.N) (j) : iblk m c 2 t j = (E2 j : EReal) :=
  (read2 _ t j).trans (h _)

theorem blk3 (h : ∀ i, V m c main_v6 i = (E3 i : EReal)) (t : Fin cfg0.N) (j) : iblk m c 3 t j = (E3 j : EReal) :=
  (read3 _ t j).trans (h _)

theorem blk4 (h : ∀ i, V m c main_v8 i = (E4 i : EReal)) (t : Fin cfg0.N) (j) : iblk m c 4 t j = (E4 j : EReal) :=
  (read4 _ t j).trans (h _)

section Point

variable (h0 : ∀ i, V m c main_v0 i = (E0 i : EReal)) (h1 : ∀ i, V m c main_arg1 i = (E1 i : EReal))
  (h2 : ∀ i, V m c main_v3 i = (E2 i : EReal)) (h3 : ∀ i, V m c main_v6 i = (E3 i : EReal)) (h4 : ∀ i, V m c main_v8 i = (E4 i : EReal))

include h0 h1 in
/-- What a point leaves in the normed rows' buffer. -/
theorem outs6 (t : Fin cfg0.N) (i : Fin 512) (d : Fin 1024) :
    (outsAt0 m c t).2.1 (ix2 i d) = (norm (rb (rows E0 t) i) (gb E1) d : EReal) := by
  unfold outsAt0
  frame_out
  exact pay4_at (blk0 h0 t) (blk1 h1 t) i d

set_option maxHeartbeats 2000000 in
include h0 h1 h2 in
/-- What a point leaves in the gate's buffer. -/
theorem outs7 (t : Fin cfg0.N) (y : S512x2816.Idx) : (outsAt0 m c t).2.2.1 y = (projB (rows E0 t) E1 E2 y : EReal) := by
  unfold outsAt0
  frame_out
  refine View.canon_apply_of_pieces (S := S512x2816) (e := .bf16) (Val := Elt Ideal) (projE (rows E0 t) E1 E2) _ (View.PiecesOf.mem ?_) y
    (View.cover_of_tiledL (s := S512x2816) _ S512x256.size (by sl_kernel_rfl) y)
  exact ⟨store (f := projB (rows E0 t) E1 E2) (o := 2560) (inb := inb_S512x2816_S512x256_0_2560) (by decide) (proj_at (o := 2560) (blk0 h0 t) (blk1 h1 t) (blk2 h2 t) (by decide)),
    store (f := projB (rows E0 t) E1 E2) (o := 2304) (inb := inb_S512x2816_S512x256_0_2304) (by decide) (proj_at (o := 2304) (blk0 h0 t) (blk1 h1 t) (blk2 h2 t) (by decide)),
    store (f := projB (rows E0 t) E1 E2) (o := 2048) (inb := inb_S512x2816_S512x256_0_2048) (by decide) (proj_at (o := 2048) (blk0 h0 t) (blk1 h1 t) (blk2 h2 t) (by decide)),
    store (f := projB (rows E0 t) E1 E2) (o := 1792) (inb := inb_S512x2816_S512x256_0_1792) (by decide) (proj_at (o := 1792) (blk0 h0 t) (blk1 h1 t) (blk2 h2 t) (by decide)),
    store (f := projB (rows E0 t) E1 E2) (o := 1536) (inb := inb_S512x2816_S512x256_0_1536) (by decide) (proj_at (o := 1536) (blk0 h0 t) (blk1 h1 t) (blk2 h2 t) (by decide)),
    store (f := projB (rows E0 t) E1 E2) (o := 1280) (inb := inb_S512x2816_S512x256_0_1280) (by decide) (proj_at (o := 1280) (blk0 h0 t) (blk1 h1 t) (blk2 h2 t) (by decide)),
    store (f := projB (rows E0 t) E1 E2) (o := 1024) (inb := inb_S512x2816_S512x256_0_1024) (by decide) (proj_at (o := 1024) (blk0 h0 t) (blk1 h1 t) (blk2 h2 t) (by decide)),
    store (f := projB (rows E0 t) E1 E2) (o := 768) (inb := inb_S512x2816_S512x256_0_768) (by decide) (proj_at (o := 768) (blk0 h0 t) (blk1 h1 t) (blk2 h2 t) (by decide)),
    store (f := projB (rows E0 t) E1 E2) (o := 512) (inb := inb_S512x2816_S512x256_0_512) (by decide) (proj_at (o := 512) (blk0 h0 t) (blk1 h1 t) (blk2 h2 t) (by decide)),
    store (f := projB (rows E0 t) E1 E2) (o := 256) (inb := inb_S512x2816_S512x256_0_256) (by decide) (proj_at (o := 256) (blk0 h0 t) (blk1 h1 t) (blk2 h2 t) (by decide)),
    store (f := projB (rows E0 t) E1 E2) (o := 0) (inb := inb_S512x2816_S512x256_0_0) (by decide) (proj_at (o := 0) (blk0 h0 t) (blk1 h1 t) (blk2 h2 t) (by decide)), trivial⟩

set_option maxHeartbeats 2000000 in
include h0 h1 h3 in
/-- What a point leaves in the other projection's buffer. -/
theorem outs8 (t : Fin cfg0.N) (y : S512x2816.Idx) : (outsAt0 m c t).2.2.2.1 y = (projB (rows E0 t) E1 E3 y : EReal) := by
  unfold outsAt0
  frame_out
  refine View.canon_apply_of_pieces (S := S512x2816) (e := .bf16) (Val := Elt Ideal) (projE (rows E0 t) E1 E3) _ (View.PiecesOf.mem ?_) y
    (View.cover_of_tiledL (s := S512x2816) _ S512x256.size (by sl_kernel_rfl) y)
  exact ⟨store (f := projB (rows E0 t) E1 E3) (o := 2560) (inb := inb_S512x2816_S512x256_0_2560) (by decide) (proj_at (o := 2560) (blk0 h0 t) (blk1 h1 t) (blk3 h3 t) (by decide)),
    store (f := projB (rows E0 t) E1 E3) (o := 2304) (inb := inb_S512x2816_S512x256_0_2304) (by decide) (proj_at (o := 2304) (blk0 h0 t) (blk1 h1 t) (blk3 h3 t) (by decide)),
    store (f := projB (rows E0 t) E1 E3) (o := 2048) (inb := inb_S512x2816_S512x256_0_2048) (by decide) (proj_at (o := 2048) (blk0 h0 t) (blk1 h1 t) (blk3 h3 t) (by decide)),
    store (f := projB (rows E0 t) E1 E3) (o := 1792) (inb := inb_S512x2816_S512x256_0_1792) (by decide) (proj_at (o := 1792) (blk0 h0 t) (blk1 h1 t) (blk3 h3 t) (by decide)),
    store (f := projB (rows E0 t) E1 E3) (o := 1536) (inb := inb_S512x2816_S512x256_0_1536) (by decide) (proj_at (o := 1536) (blk0 h0 t) (blk1 h1 t) (blk3 h3 t) (by decide)),
    store (f := projB (rows E0 t) E1 E3) (o := 1280) (inb := inb_S512x2816_S512x256_0_1280) (by decide) (proj_at (o := 1280) (blk0 h0 t) (blk1 h1 t) (blk3 h3 t) (by decide)),
    store (f := projB (rows E0 t) E1 E3) (o := 1024) (inb := inb_S512x2816_S512x256_0_1024) (by decide) (proj_at (o := 1024) (blk0 h0 t) (blk1 h1 t) (blk3 h3 t) (by decide)),
    store (f := projB (rows E0 t) E1 E3) (o := 768) (inb := inb_S512x2816_S512x256_0_768) (by decide) (proj_at (o := 768) (blk0 h0 t) (blk1 h1 t) (blk3 h3 t) (by decide)),
    store (f := projB (rows E0 t) E1 E3) (o := 512) (inb := inb_S512x2816_S512x256_0_512) (by decide) (proj_at (o := 512) (blk0 h0 t) (blk1 h1 t) (blk3 h3 t) (by decide)),
    store (f := projB (rows E0 t) E1 E3) (o := 256) (inb := inb_S512x2816_S512x256_0_256) (by decide) (proj_at (o := 256) (blk0 h0 t) (blk1 h1 t) (blk3 h3 t) (by decide)),
    store (f := projB (rows E0 t) E1 E3) (o := 0) (inb := inb_S512x2816_S512x256_0_0) (by decide) (proj_at (o := 0) (blk0 h0 t) (blk1 h1 t) (blk3 h3 t) (by decide)), trivial⟩

set_option maxHeartbeats 2000000 in
include h0 h1 h2 h3 in
/-- What a point leaves in the gated product's buffer. -/
theorem outs9 (t : Fin cfg0.N) (y : S512x2816.Idx) : (outsAt0 m c t).2.2.2.2 y = (actB (rows E0 t) E1 E2 E3 y : EReal) := by
  unfold outsAt0
  frame_out
  refine View.canon_apply_of_pieces (S := S512x2816) (e := .bf16) (Val := Elt Ideal) (actE (rows E0 t) E1 E2 E3) _ (View.PiecesOf.mem ?_) y
    (View.cover_of_tiledL (s := S512x2816) _ S512x256.size (by sl_kernel_rfl) y)
  exact ⟨store (f := actB (rows E0 t) E1 E2 E3) (o := 2560) (inb := inb_S512x2816_S512x256_0_2560) (by decide) (act_at (o := 2560) (blk0 h0 t) (blk1 h1 t) (blk2 h2 t) (blk3 h3 t) (by decide)),
    store (f := actB (rows E0 t) E1 E2 E3) (o := 2304) (inb := inb_S512x2816_S512x256_0_2304) (by decide) (act_at (o := 2304) (blk0 h0 t) (blk1 h1 t) (blk2 h2 t) (blk3 h3 t) (by decide)),
    store (f := actB (rows E0 t) E1 E2 E3) (o := 2048) (inb := inb_S512x2816_S512x256_0_2048) (by decide) (act_at (o := 2048) (blk0 h0 t) (blk1 h1 t) (blk2 h2 t) (blk3 h3 t) (by decide)),
    store (f := actB (rows E0 t) E1 E2 E3) (o := 1792) (inb := inb_S512x2816_S512x256_0_1792) (by decide) (act_at (o := 1792) (blk0 h0 t) (blk1 h1 t) (blk2 h2 t) (blk3 h3 t) (by decide)),
    store (f := actB (rows E0 t) E1 E2 E3) (o := 1536) (inb := inb_S512x2816_S512x256_0_1536) (by decide) (act_at (o := 1536) (blk0 h0 t) (blk1 h1 t) (blk2 h2 t) (blk3 h3 t) (by decide)),
    store (f := actB (rows E0 t) E1 E2 E3) (o := 1280) (inb := inb_S512x2816_S512x256_0_1280) (by decide) (act_at (o := 1280) (blk0 h0 t) (blk1 h1 t) (blk2 h2 t) (blk3 h3 t) (by decide)),
    store (f := actB (rows E0 t) E1 E2 E3) (o := 1024) (inb := inb_S512x2816_S512x256_0_1024) (by decide) (act_at (o := 1024) (blk0 h0 t) (blk1 h1 t) (blk2 h2 t) (blk3 h3 t) (by decide)),
    store (f := actB (rows E0 t) E1 E2 E3) (o := 768) (inb := inb_S512x2816_S512x256_0_768) (by decide) (act_at (o := 768) (blk0 h0 t) (blk1 h1 t) (blk2 h2 t) (blk3 h3 t) (by decide)),
    store (f := actB (rows E0 t) E1 E2 E3) (o := 512) (inb := inb_S512x2816_S512x256_0_512) (by decide) (act_at (o := 512) (blk0 h0 t) (blk1 h1 t) (blk2 h2 t) (blk3 h3 t) (by decide)),
    store (f := actB (rows E0 t) E1 E2 E3) (o := 256) (inb := inb_S512x2816_S512x256_0_256) (by decide) (act_at (o := 256) (blk0 h0 t) (blk1 h1 t) (blk2 h2 t) (blk3 h3 t) (by decide)),
    store (f := actB (rows E0 t) E1 E2 E3) (o := 0) (inb := inb_S512x2816_S512x256_0_0) (by decide) (act_at (o := 0) (blk0 h0 t) (blk1 h1 t) (blk2 h2 t) (blk3 h3 t) (by decide)), trivial⟩

set_option maxHeartbeats 2000000 in
include h0 h1 h2 h3 h4 in
/-- What a point leaves in the half-step's rows' buffer. -/
theorem outs5 (t : Fin cfg0.N) (i : Fin 512) (d : Fin 1024) : (outsAt0 m c t).1 (ix2 i d)
    = (Head.out (rb (rows E0 t) i) (gb E1) (lw E2) (lw E3) (lb E4) d : EReal) := by
  unfold outsAt0
  frame_open
  simp (disch := decide) only [↓ View.readCov_skip, ↓ View.readCov_cons_toLoadRect, ↓ View.readCov_fill]
  frame_out
  exact out_at (A := actB (rows E0 t) E1 E2 E3) (D := E4) (blk0 h0 t)
    (two_at (blk0 h0 t) (blk1 h1 t) (blk2 h2 t) (blk3 h3 t) (o := 0) (o' := 256) _ _ (by decide) rfl)
    (two_at (blk0 h0 t) (blk1 h1 t) (blk2 h2 t) (blk3 h3 t) (o := 512) (o' := 768) _ _ (by decide) rfl)
    (two_at (blk0 h0 t) (blk1 h1 t) (blk2 h2 t) (blk3 h3 t) (o := 1024) (o' := 1280) _ _ (by decide) rfl)
    (two_at (blk0 h0 t) (blk1 h1 t) (blk2 h2 t) (blk3 h3 t) (o := 1536) (o' := 1792) _ _ (by decide) rfl)
    (two_at (blk0 h0 t) (blk1 h1 t) (blk2 h2 t) (blk3 h3 t) (o := 2048) (o' := 2304) _ _ (by decide) rfl)
    (act_at (o := 2560) (blk0 h0 t) (blk1 h1 t) (blk2 h2 t) (blk3 h3 t) (by decide))
    (load (k := 512) (o := 0) (blk4 h4 t) (by decide))
    (load (k := 512) (o := 512) (blk4 h4 t) (by decide))
    (load (k := 512) (o := 1024) (blk4 h4 t) (by decide))
    (load (k := 512) (o := 1536) (blk4 h4 t) (by decide))
    (load (k := 512) (o := 2048) (blk4 h4 t) (by decide))
    (load (k := 256) (o := 2560) (blk4 h4 t) (by decide)) i d

include h0 h1 h2 h3 h4 in
/-- The half-step's rows after the region. -/
theorem final5 : (dats m 0 c).arrAt 5 (cfgs 0).N = fun j : S8192x1024.Idx => (orow E0 E1 E2 E3 E4 (j 0) (j 1) : EReal) := by
  refine (dats m 0 c).arrAt_eq_of_covers 5 _ (by decide +kernel) fun t hf y => ?_
  blk_simp
  rw [after0_5]
  idx_vars y
  rw [outs5 h0 h1 h2 h3 h4 t]
  have he : ((View.whole main_v9_0).slice (win0_5.rect t)).emb (ix2 y0 y1) = ix2 (ri t y0) y1 := by
    blk_ext [ri, idx t]
  rw [he]
  rfl

include h0 h1 in
/-- The normed rows after the region. -/
theorem final6 : (dats m 0 c).arrAt 6 (cfgs 0).N = fun j : S8192x1024.Idx => (norm (rb E0 (j 0)) (gb E1) (j 1) : EReal) := by
  refine (dats m 0 c).arrAt_eq_of_covers 6 _ (by decide +kernel) fun t hf y => ?_
  blk_simp
  rw [after0_6]
  idx_vars y
  rw [outs6 h0 h1 t]
  have he : ((View.whole main_v9_1).slice (win0_6.rect t)).emb (ix2 y0 y1) = ix2 (ri t y0) y1 := by
    blk_ext [ri, idx t]
  rw [he]
  rfl

include h0 h1 h2 in
/-- The gate after the region. -/
theorem final7 : (dats m 0 c).arrAt 7 (cfgs 0).N = fun j : S8192x2816.Idx => (proj (rb E0 (j 0)) (gb E1) (lw E2) (j 1) : EReal) := by
  refine (dats m 0 c).arrAt_eq_of_covers 7 _ (by decide +kernel) fun t hf y => ?_
  blk_simp
  rw [after0_7]
  idx_vars y
  rw [outs7 h0 h1 h2 t]
  have he : ((View.whole main_v9_2).slice (win0_7.rect t)).emb (ix2 y0 y1) = ix2 (ri t y0) y1 := by
    blk_ext [ri, idx t]
  rw [he]
  rfl

include h0 h1 h3 in
/-- The other projection after the region. -/
theorem final8 : (dats m 0 c).arrAt 8 (cfgs 0).N = fun j : S8192x2816.Idx => (proj (rb E0 (j 0)) (gb E1) (lw E3) (j 1) : EReal) := by
  refine (dats m 0 c).arrAt_eq_of_covers 8 _ (by decide +kernel) fun t hf y => ?_
  blk_simp
  rw [after0_8]
  idx_vars y
  rw [outs8 h0 h1 h3 t]
  have he : ((View.whole main_v9_3).slice (win0_8.rect t)).emb (ix2 y0 y1) = ix2 (ri t y0) y1 := by
    blk_ext [ri, idx t]
  rw [he]
  rfl

include h0 h1 h2 h3 in
/-- The gated product after the region. -/
theorem final9 : (dats m 0 c).arrAt 9 (cfgs 0).N = fun j : S8192x2816.Idx => (act (rb E0 (j 0)) (gb E1) (lw E2) (lw E3) (j 1) : EReal) := by
  refine (dats m 0 c).arrAt_eq_of_covers 9 _ (by decide +kernel) fun t hf y => ?_
  blk_simp
  rw [after0_9]
  idx_vars y
  rw [outs9 h0 h1 h2 h3 t]
  have he : ((View.whole main_v9_4).slice (win0_9.rect t)).emb (ix2 y0 y1) = ix2 (ri t y0) y1 := by
    blk_ext [ri, idx t]
  rw [he]
  rfl

end Point

end Blocks

end Cert.FfnFwdIdeal.Value

end
-- ==== Proof.FfnFwd.lean ====
module

public import proofs.«01_k».proof.Defs
public import proofs.«01_k».proof.Proof.LossHead
public import proofs.«01_k».proof.Proof.FfnFwdKernel
public import proofs.«01_k».proof.Proof.Gen.Pre_finite_ffn_fwd
public import proofs.«01_k».proof.Proof.Gen.FfnFwdRefIdeal.Read
public import proofs.«01_k».proof.Proof.Gen.FfnFwdRefIdeal.Run

@[expose] public section

set_option maxRecDepth 16384

noncomputable section

/-! # The value of the first half-step

The region's entry arrays and the host lines around it, read as real arrays, against the reference, whose lines are those
of the second half-step's forward part. -/

namespace Cert.FfnFwdIdeal.Value

open Idealize.ShloMosaic Idealize.ShloMosaic.TcCoe Idealize.SL.Sem
open Cert.FfnFwdIdeal Cert.FfnFwdIdeal.Gen
open Cert.Proof Cert.Proof.Reals Cert.Proof.Half
open Cert.LossHeadIdeal.Value (flat turned flip orow rb gb lw lb)

section Arrays

variable (m : (ℓ : Loc nD τ sig) → Buf (Elt Ideal) ℓ) (c : Dev nD)
  {A0 : S4x2048x1024.Idx → ℝ} {A1 : S1x1024.Idx → ℝ} {A2 A3 : S1x1024x2816.Idx → ℝ} {A4 : S1x2816x1024.Idx → ℝ}

theorem entry0 (h : ∀ i, m ((c.tc : Thread nD τ).loc main_arg0) i = (A0 i : EReal)) (j : S8192x1024.Idx) :
    V m c main_v0 j = (flat A0 j : EReal) := by
  idx_vars j
  show StableHlo.after [hostOps0].flatten _ _ _ = _
  simp only [List.flatten_cons, List.flatten_nil, List.append_nil]
  after_results
  pointwise []
  exact h _

theorem entry2 (h : ∀ i, m ((c.tc : Thread nD τ).loc main_arg2) i = (A2 i : EReal)) (j : S2816x1024.Idx) :
    V m c main_v3 j = (turned A2 j : EReal) := by
  idx_vars j
  show StableHlo.after [hostOps0].flatten _ _ _ = _
  simp only [List.flatten_cons, List.flatten_nil, List.append_nil]
  after_results
  pointwise []
  exact h _

theorem entry3 (h : ∀ i, m ((c.tc : Thread nD τ).loc main_arg3) i = (A3 i : EReal)) (j : S2816x1024.Idx) :
    V m c main_v6 j = (turned A3 j : EReal) := by
  idx_vars j
  show StableHlo.after [hostOps0].flatten _ _ _ = _
  simp only [List.flatten_cons, List.flatten_nil, List.append_nil]
  after_results
  pointwise []
  exact h _

theorem entry4 (h : ∀ i, m ((c.tc : Thread nD τ).loc main_arg4) i = (A4 i : EReal)) (j : S2816x1024.Idx) :
    V m c main_v8 j = (flip A4 j : EReal) := by
  idx_vars j
  show StableHlo.after [hostOps0].flatten _ _ _ = _
  simp only [List.flatten_cons, List.flatten_nil, List.append_nil]
  after_results
  pointwise []
  exact h _

theorem entry1 (h : ∀ i, m ((c.tc : Thread nD τ).loc main_arg1) i = (A1 i : EReal)) (j : S1x1024.Idx) :
    V m c main_arg1 j = (A1 j : EReal) := by
  rw [V_main_arg1]; exact h j

/-- The normed rows after the host line that widens them. -/
theorem tail_v10 (j : S8192x1024.Idx) : Pipeline.afterTail₀ cfgs (dats m) 0 (V0 m) [hostOps1] c main_v10 j
    = (show S8192x1024.Idx → EReal from (dats m 0 c).arrAt 6 (cfgs 0).N) j := by
  idx_vars j
  unfold Pipeline.afterTail₀
  simp only [List.flatten_cons, List.flatten_nil, List.append_nil]
  after_results
  erw [Pipeline.withArrays_arr (cfgs 0).spec launch0.win.arr_inj _ _ _ 6]
  generalize (dats m 0 c).arrAt 6 _ = K
  revert K
  intro (K : S8192x1024.Idx → EReal)
  pointwise []

/-- The gate after the host line that widens it. -/
theorem tail_v11 (j : S8192x2816.Idx) : Pipeline.afterTail₀ cfgs (dats m) 0 (V0 m) [hostOps1] c main_v11 j
    = (show S8192x2816.Idx → EReal from (dats m 0 c).arrAt 7 (cfgs 0).N) j := by
  idx_vars j
  unfold Pipeline.afterTail₀
  simp only [List.flatten_cons, List.flatten_nil, List.append_nil]
  after_results
  erw [Pipeline.withArrays_arr (cfgs 0).spec launch0.win.arr_inj _ _ _ 7]
  generalize (dats m 0 c).arrAt 7 _ = K
  revert K
  intro (K : S8192x2816.Idx → EReal)
  pointwise []

/-- The other projection after the host line that widens it. -/
theorem tail_v12 (j : S8192x2816.Idx) : Pipeline.afterTail₀ cfgs (dats m) 0 (V0 m) [hostOps1] c main_v12 j
    = (show S8192x2816.Idx → EReal from (dats m 0 c).arrAt 8 (cfgs 0).N) j := by
  idx_vars j
  unfold Pipeline.afterTail₀
  simp only [List.flatten_cons, List.flatten_nil, List.append_nil]
  after_results
  erw [Pipeline.withArrays_arr (cfgs 0).spec launch0.win.arr_inj _ _ _ 8]
  generalize (dats m 0 c).arrAt 8 _ = K
  revert K
  intro (K : S8192x2816.Idx → EReal)
  pointwise []

/-- The gated product after the host line that widens it. -/
theorem tail_v13 (j : S8192x2816.Idx) : Pipeline.afterTail₀ cfgs (dats m) 0 (V0 m) [hostOps1] c main_v13 j
    = (show S8192x2816.Idx → EReal from (dats m 0 c).arrAt 9 (cfgs 0).N) j := by
  idx_vars j
  unfold Pipeline.afterTail₀
  simp only [List.flatten_cons, List.flatten_nil, List.append_nil]
  after_results
  erw [Pipeline.withArrays_arr (cfgs 0).spec launch0.win.arr_inj _ _ _ 9]
  generalize (dats m 0 c).arrAt 9 _ = K
  revert K
  intro (K : S8192x2816.Idx → EReal)
  pointwise []

end Arrays

section Results

variable (m : (ℓ : Loc nD τ sig) → Buf (Elt Ideal) ℓ) (c : Dev nD)
  {A0 : S4x2048x1024.Idx → ℝ} {A1 : S1x1024.Idx → ℝ} {A2 A3 : S1x1024x2816.Idx → ℝ} {A4 : S1x2816x1024.Idx → ℝ}
  (h0 : ∀ i, m ((c.tc : Thread nD τ).loc main_arg0) i = (A0 i : EReal))
  (h1 : ∀ i, m ((c.tc : Thread nD τ).loc main_arg1) i = (A1 i : EReal))
  (h2 : ∀ i, m ((c.tc : Thread nD τ).loc main_arg2) i = (A2 i : EReal))
  (h3 : ∀ i, m ((c.tc : Thread nD τ).loc main_arg3) i = (A3 i : EReal))
  (h4 : ∀ i, m ((c.tc : Thread nD τ).loc main_arg4) i = (A4 i : EReal))

include h0 h1 h2 h3 h4 in
/-- The half-step's rows are the reference's. -/
theorem res0 : Cert.FfnFwdRefIdeal.Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    = (dats m 0 c).arrAt 5 (cfgs 0).N := by
  rw [final5 (entry0 m c h0) (entry1 m c h1) (entry2 m c h2) (entry3 m c h3) (entry4 m c h4)]
  funext j
  idx_vars j
  unfold Cert.FfnFwdRefIdeal.Read.val_main_v25
  pointwise []
  exact Cert.LossHeadRefIdeal.At.v24_at h0 h1 h2 h3 h4 _ _ _

include h0 h1 in
/-- The normed rows are the reference's. -/
theorem res1 : Cert.FfnFwdRefIdeal.Read.val_main_v26 (F := Ideal) (m ((c.tc : Thread nD τ).loc main_arg0)) (m ((c.tc : Thread nD τ).loc main_arg1))
    = Pipeline.afterTail₀ cfgs (dats m) 0 (V0 m) [hostOps1] c main_v10 := by
  funext j
  rw [tail_v10, final6 (entry0 m c h0) (entry1 m c h1)]
  idx_vars j
  unfold Cert.FfnFwdRefIdeal.Read.val_main_v26
  pointwise []
  exact Cert.LossHeadRefIdeal.At.v13_at h0 h1 _ _ _

include h0 h1 h2 in
/-- The gate is the reference's. -/
theorem res2 : Cert.FfnFwdRefIdeal.Read.val_main_v27 (F := Ideal) (m ((c.tc : Thread nD τ).loc main_arg0)) (m ((c.tc : Thread nD τ).loc main_arg1)) (m ((c.tc : Thread nD τ).loc main_arg2))
    = Pipeline.afterTail₀ cfgs (dats m) 0 (V0 m) [hostOps1] c main_v11 := by
  funext j
  rw [tail_v11, final7 (entry0 m c h0) (entry1 m c h1) (entry2 m c h2)]
  idx_vars j
  unfold Cert.FfnFwdRefIdeal.Read.val_main_v27
  pointwise []
  exact Cert.LossHeadRefIdeal.At.v15_at h0 h1 h2 _ _ _

include h0 h1 h3 in
/-- The other projection is the reference's. -/
theorem res3 : Cert.FfnFwdRefIdeal.Read.val_main_v28 (F := Ideal) (m ((c.tc : Thread nD τ).loc main_arg0)) (m ((c.tc : Thread nD τ).loc main_arg1)) (m ((c.tc : Thread nD τ).loc main_arg3))
    = Pipeline.afterTail₀ cfgs (dats m) 0 (V0 m) [hostOps1] c main_v12 := by
  funext j
  rw [tail_v12, final8 (entry0 m c h0) (entry1 m c h1) (entry3 m c h3)]
  idx_vars j
  unfold Cert.FfnFwdRefIdeal.Read.val_main_v28
  pointwise []
  exact Cert.LossHeadRefIdeal.At.v17_at h0 h1 h3 _ _ _

include h0 h1 h2 h3 in
/-- The gated product is the reference's. -/
theorem res4 : Cert.FfnFwdRefIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3))
    = Pipeline.afterTail₀ cfgs (dats m) 0 (V0 m) [hostOps1] c main_v13 := by
  funext j
  rw [tail_v13, final9 (entry0 m c h0) (entry1 m c h1) (entry2 m c h2) (entry3 m c h3)]
  idx_vars j
  unfold Cert.FfnFwdRefIdeal.Read.val_main_v29
  pointwise []
  exact Cert.LossHeadRefIdeal.At.v19_at h0 h1 h2 h3 _ _ _

end Results

/-- The precondition: every argument is an array of reals. -/
theorem reals (m : (ℓ : Loc nD τ sig) → Buf (Elt Ideal) ℓ) (h : Pre_FfnFwdIdeal_finite_ffn_fwd m) (c : Dev nD) :
    (∃ A : S4x2048x1024.Idx → ℝ, ∀ i, m ((c.tc : Thread nD τ).loc main_arg0) i = (A i : EReal))
    ∧ (∃ A : S1x1024.Idx → ℝ, ∀ i, m ((c.tc : Thread nD τ).loc main_arg1) i = (A i : EReal))
    ∧ (∃ A : S1x1024x2816.Idx → ℝ, ∀ i, m ((c.tc : Thread nD τ).loc main_arg2) i = (A i : EReal))
    ∧ (∃ A : S1x1024x2816.Idx → ℝ, ∀ i, m ((c.tc : Thread nD τ).loc main_arg3) i = (A i : EReal))
    ∧ (∃ A : S1x2816x1024.Idx → ℝ, ∀ i, m ((c.tc : Thread nD τ).loc main_arg4) i = (A i : EReal)) := by
  obtain ⟨p0, p1, p2, p3, p4⟩ := h c
  refine ⟨exists_array fun i => exists_real ?_, exists_array fun i => exists_real ?_, exists_array fun i => exists_real ?_, exists_array fun i => exists_real ?_, exists_array fun i => exists_real ?_⟩
  · have := congrFun p0 i; idx_vars i; pointwise [Cert.Pre_finite_ffn_fwd.fn] at this; exact this
  · have := congrFun p1 i; idx_vars i; pointwise [Cert.Pre_finite_ffn_fwd.fn] at this; exact this
  · have := congrFun p2 i; idx_vars i; pointwise [Cert.Pre_finite_ffn_fwd.fn] at this; exact this
  · have := congrFun p3 i; idx_vars i; pointwise [Cert.Pre_finite_ffn_fwd.fn] at this; exact this
  · have := congrFun p4 i; idx_vars i; pointwise [Cert.Pre_finite_ffn_fwd.fn] at this; exact this

/-- For finite arguments the kernel and the reference end with the same rows and forward arrays. -/
theorem algebraic : algebraic_FfnFwdIdeal_FfnFwdRefIdeal_pre_finite_ffn_fwd := by
  pair_intro
  · run_from Cert.FfnFwdIdeal.Gen.run_main m g & Cert.FfnFwdIdeal.Gen.unchanged m g
  · run_from Cert.FfnFwdRefIdeal.Value.run m' g'
    all_goals obtain ⟨e0, e1, e2, e3, e4⟩ := hagree c
    all_goals obtain ⟨⟨A0, h0⟩, ⟨A1, h1⟩, ⟨A2, h2⟩, ⟨A3, h3⟩, ⟨A4, h4⟩⟩ := reals m hpre c
    · refine Eq.trans (Cert.FfnFwdRefIdeal.Read.val_main_v25_eq (F := Ideal) _ _ _ _ _) ?_
      exact res0 m c h0 h1 h2 h3 h4
    · refine Eq.trans (Cert.FfnFwdRefIdeal.Read.val_main_v26_eq (F := Ideal) _ _) ?_
      exact res1 m c h0 h1
    · refine Eq.trans (Cert.FfnFwdRefIdeal.Read.val_main_v27_eq (F := Ideal) _ _ _) ?_
      exact res2 m c h0 h1 h2
    · refine Eq.trans (Cert.FfnFwdRefIdeal.Read.val_main_v28_eq (F := Ideal) _ _ _) ?_
      exact res3 m c h0 h1 h3
    · refine Eq.trans (Cert.FfnFwdRefIdeal.Read.val_main_v29_eq (F := Ideal) _ _ _ _) ?_
      exact res4 m c h0 h1 h2 h3

/-- The reference leaves its arguments unchanged and declares no semaphore. -/
theorem frame_ref : quiescent_FfnFwdRefIdeal := fun m g _ =>
  (θ_run Cert.FfnFwdRefIdeal.defs _ _).mono (fun r h => ⟨fun c => (h c).2.2.2.2.2, sem_eq_zero_of_no_sems (by decide) r.2⟩)
    (Cert.FfnFwdRefIdeal.Value.run m g)

end Cert.FfnFwdIdeal.Value

end
-- ==== Proof.ProjFwdRef.lean ====
module

public import proofs.«01_k».proof.Proof.Gen.ProjFwdRefIdeal.Read
public import Idealize.ShloMosaic.Lib.Pointwise

@[expose] public section

set_option maxRecDepth 16384

noncomputable section

/-! # The reference of the projections at an index

Every result is read at an index as a formula over the arguments' extended reals; no argument need be finite. -/

namespace Cert.Proof.Proj

open Idealize.ShloMosaic

/-- A row over its root mean square, times its gain; `d` is the row's length as a float. -/
def nrm {n : ℕ} (d : EReal) (x g : Fin n → EReal) (k : Fin n) : EReal :=
  x k * Ideal.rsqrt (Ideal.div (∑ j, x j * x j) d + Ideal.ofBits .f32 0x358637BD#32) * g k

/-- Two halves of 16 lanes, rotated by an angle each given by its cosine and sine. -/
def rot (a : Fin 32 → EReal) (c s : Fin 16 → EReal) (e : Fin 32) : EReal :=
  if h : e.val < 16 then a e * c ⟨e.val, h⟩ - a ⟨16 + e.val, by omega⟩ * s ⟨e.val, h⟩
  else a e * c ⟨e.val - 16, by omega⟩ + a ⟨e.val - 16, by omega⟩ * s ⟨e.val - 16, by omega⟩

end Cert.Proof.Proj

namespace Cert.ProjFwdRefIdeal.At

open Idealize.ShloMosaic Idealize.ShloMosaic.TcCoe Idealize.SL.Sem
open Cert.ProjFwdRefIdeal Cert.ProjFwdRefIdeal.Gen Cert.ProjFwdRefIdeal.Read
open Cert.Proof.Proj

variable (x : FVec Ideal S4x2048x1024 .f32) (g : FVec Ideal S1x1024 .f32) (w : FVec Ideal S1x1024x1184 .f32) (gq : FVec Ideal S1x256 .f32)
  (wq : FVec Ideal S1x256x768 .f32) (gkv : FVec Ideal S1x128 .f32) (wkv : FVec Ideal S1x128x1024 .f32)

/-- The normed rows. -/
def u (b : Fin 4) (s : Fin 2048) : Fin 1024 → EReal :=
  nrm (Ideal.ofBits .f32 0x44800000#32) (fun k => x (ix3 b s k)) fun k => g (ix2 0 k)

/-- The input projection. -/
def pr (b : Fin 4) (s : Fin 2048) (p : Fin 1184) : EReal := ∑ l, u x g b s l * w (ix3 0 l p)

/-- The normed query latents. -/
def cqn (b : Fin 4) (s : Fin 2048) : Fin 256 → EReal :=
  nrm (Ideal.ofBits .f32 0x43800000#32) (fun k => pr x g w b s ⟨k.val, by omega⟩) fun k => gq (ix2 0 k)

/-- The normed key and value latents. -/
def ckvn (b : Fin 4) (s : Fin 2048) : Fin 128 → EReal :=
  nrm (Ideal.ofBits .f32 0x43000000#32) (fun k => pr x g w b s ⟨256 + k.val, by omega⟩) fun k => gkv (ix2 0 k)

/-- The queries before the rotary embedding. -/
def qq (b : Fin 4) (s : Fin 2048) (p : Fin 768) : EReal := ∑ k, cqn x g w gq b s k * wq (ix3 0 k p)

/-- The keys and values. -/
def kv (b : Fin 4) (s : Fin 2048) (p : Fin 1024) : EReal := ∑ k, ckvn x g w gkv b s k * wkv (ix3 0 k p)

/-- The rotary tables. -/
def cs (s : Fin 2048) (i : Fin 16) : EReal := val_main_v16 (F := Ideal) (ix2 s i)
def sn (s : Fin 2048) (i : Fin 16) : EReal := val_main_v17 (F := Ideal) (ix2 s i)

theorem v31_at (b : Fin 4) (s : Fin 2048) (k : Fin 1024) : val_main_v31 (F := Ideal) x g (ix3 b s k) = u x g b s k := by
  pointwise [val_main_v31, val_main_v30, val_main_v29, val_main_v28, val_main_v27, val_main_v26, val_main_v25, val_main_v24, val_main_v23,
    val_main_v22, val_main_v21, val_main_v20, val_main_v19, val_main_v18, val_main_cst_3, val_main_cst_4, val_main_cst_5]
  rfl

theorem v33_at (b : Fin 4) (s : Fin 2048) (p : Fin 1184) : val_main_v33 (F := Ideal) x g w (ix3 b s p) = pr x g w b s p := by
  pointwise [val_main_v33, val_main_v32]
  simp only [v31_at]
  rfl

theorem v53_at (b : Fin 4) (s : Fin 2048) (k : Fin 256) : val_main_v53 (F := Ideal) x g w gq (ix3 b s k) = cqn x g w gq b s k := by
  pointwise [val_main_v53, val_main_v52, val_main_v51, val_main_v50, val_main_v49, val_main_v48, val_main_v47, val_main_v46, val_main_v45,
    val_main_v44, val_main_v43, val_main_v42, val_main_v41, val_main_v40, val_main_v34, val_main_cst_6, val_main_cst_7, val_main_cst_8]
  simp only [v33_at]
  rfl

theorem v67_at (b : Fin 4) (s : Fin 2048) (k : Fin 128) : val_main_v67 (F := Ideal) x g w gkv (ix3 b s k) = ckvn x g w gkv b s k := by
  pointwise [val_main_v67, val_main_v66, val_main_v65, val_main_v64, val_main_v63, val_main_v62, val_main_v61, val_main_v60, val_main_v59,
    val_main_v58, val_main_v57, val_main_v56, val_main_v55, val_main_v54, val_main_v35, val_main_cst_9, val_main_cst_10, val_main_cst_11]
  simp only [v33_at]
  rfl

theorem v69_at (b : Fin 4) (s : Fin 2048) (p : Fin 768) : val_main_v69 (F := Ideal) x g w gq wq (ix3 b s p) = qq x g w gq wq b s p := by
  pointwise [val_main_v69, val_main_v68]
  simp only [v53_at]
  rfl

theorem v94_at (b : Fin 4) (s : Fin 2048) (p : Fin 1024) : val_main_v94 (F := Ideal) x g w gkv wkv (ix3 b s p) = kv x g w gkv wkv b s p := by
  pointwise [val_main_v94, val_main_v93]
  simp only [v67_at]
  rfl

/-- The batch and the place in it of a row. -/
def rb (r : Fin 8192) : Fin 4 := ⟨r.val / 2048, by omega⟩
def rs (r : Fin 8192) : Fin 2048 := ⟨r.val % 2048, by omega⟩

theorem v117_at (r : Fin 8192) (k : Fin 1024) : val_main_v117 (F := Ideal) x g (ix2 r k) = u x g (rb r) (rs r) k := by
  pointwise [val_main_v117]
  exact v31_at ..

theorem v118_at (r : Fin 8192) (k : Fin 256) : val_main_v118 (F := Ideal) x g w (ix2 r k) = pr x g w (rb r) (rs r) ⟨k.val, by omega⟩ := by
  pointwise [val_main_v118, val_main_v34]
  exact v33_at ..

theorem v119_at (r : Fin 8192) (k : Fin 128) : val_main_v119 (F := Ideal) x g w (ix2 r k) = pr x g w (rb r) (rs r) ⟨256 + k.val, by omega⟩ := by
  pointwise [val_main_v119, val_main_v35]
  exact v33_at ..

theorem v120_at (r : Fin 8192) (k : Fin 256) : val_main_v120 (F := Ideal) x g w gq (ix2 r k) = cqn x g w gq (rb r) (rs r) k := by
  pointwise [val_main_v120]
  exact v53_at ..

theorem v121_at (r : Fin 8192) (k : Fin 128) : val_main_v121 (F := Ideal) x g w gkv (ix2 r k) = ckvn x g w gkv (rb r) (rs r) k := by
  pointwise [val_main_v121]
  exact v67_at ..

theorem v126_at (r : Fin 8192) (k : Fin 512) : val_main_v126 (F := Ideal) x g w (ix2 r k) = pr x g w (rb r) (rs r) ⟨416 + k.val, by omega⟩ := by
  pointwise [val_main_v126, val_main_v37]
  exact v33_at ..

theorem v127_at (r : Fin 8192) (k : Fin 128) : val_main_v127 (F := Ideal) x g w (ix2 r k) = pr x g w (rb r) (rs r) ⟨928 + k.val, by omega⟩ := by
  pointwise [val_main_v127, val_main_v38]
  exact v33_at ..

theorem v128_at (r : Fin 8192) (k : Fin 128) : val_main_v128 (F := Ideal) x g w (ix2 r k) = pr x g w (rb r) (rs r) ⟨1056 + k.val, by omega⟩ := by
  pointwise [val_main_v128, val_main_v39]
  exact v33_at ..

theorem v125_at (r : Fin 8192) (k : Fin 512) : val_main_v125 (F := Ideal) x g w gkv wkv (ix2 r k)
    = kv x g w gkv wkv (rb r) (rs r) ⟨k.val / 64 * 128 + 64 + k.val % 64, by omega⟩ := by
  pointwise [val_main_v125, val_main_v124, val_main_v95]
  refine (v94_at ..).trans ?_
  congr 1
  all_goals exact Fin.ext (by first | rfl | (dsimp [rb, rs]; omega))

/-- A head of 96 lanes, the last 32 read in two halves, is its first 64 lanes and the rotated others. -/
theorem turned (f : Fin 96 → EReal) (a : Fin 32 → EReal) (c s : Fin 16 → EReal) (d : Fin 96) :
    (if h1 : d.val < 64 then f d else if h2 : d.val - 64 < 16 then
        a ⟨d.val - 64, by omega⟩ * c ⟨d.val - 64, h2⟩ - a ⟨16 + (d.val - 64), by omega⟩ * s ⟨d.val - 64, h2⟩
      else a ⟨16 + (d.val - 64 - 16), by omega⟩ * c ⟨d.val - 64 - 16, by omega⟩
        + a ⟨d.val - 64 - 16, by omega⟩ * s ⟨d.val - 64 - 16, by omega⟩)
      = if h1 : d.val < 64 then f d else rot a c s ⟨d.val - 64, by omega⟩ := by
  by_cases h1 : d.val < 64
  · rw [dif_pos h1, dif_pos h1]
  rw [dif_neg h1, dif_neg h1]
  by_cases h2 : d.val - 64 < 16
  · rw [dif_pos h2, rot, dif_pos h2]
  have e : (⟨16 + (d.val - 64 - 16), by omega⟩ : Fin 32) = ⟨d.val - 64, by omega⟩ := Fin.ext (by dsimp only; omega)
  rw [dif_neg h2, rot, dif_neg h2, e]

/-- The queries: each head's first 64 lanes as they are, the others rotated. -/
theorem v122_at (r : Fin 8192) (h : Fin 8) (d : Fin 96) : val_main_v122 (F := Ideal) x g w gq wq (ix3 r h d)
    = if hd : d.val < 64 then qq x g w gq wq (rb r) (rs r) ⟨h.val * 96 + d.val, by omega⟩
      else rot (fun e => qq x g w gq wq (rb r) (rs r) ⟨h.val * 96 + (64 + e.val), by omega⟩) (cs (rs r)) (sn (rs r)) ⟨d.val - 64, by omega⟩ := by
  refine Eq.trans ?_ (turned (fun d => qq x g w gq wq (rb r) (rs r) ⟨h.val * 96 + d.val, by omega⟩) _ _ _ d)
  pointwise [val_main_v122, val_main_v92, val_main_v91, val_main_v90, val_main_v89, val_main_v88, val_main_v87, val_main_v86, val_main_v85,
    val_main_v84, val_main_v83, val_main_v82, val_main_v81, val_main_v80, val_main_v79, val_main_v78, val_main_v77, val_main_v76, val_main_v75,
    val_main_v74, val_main_v73, val_main_v72, val_main_v71, val_main_v70]
  simp only [v69_at]
  simp only [cs, sn, rb, rs]

/-- The keys: each head's first 64 lanes its own, the others the rotated lanes that all heads share. -/
theorem v123_at (r : Fin 8192) (h : Fin 8) (d : Fin 96) : val_main_v123 (F := Ideal) x g w gkv wkv (ix3 r h d)
    = if hd : d.val < 64 then kv x g w gkv wkv (rb r) (rs r) ⟨h.val * 128 + d.val, by omega⟩
      else rot (fun e => pr x g w (rb r) (rs r) ⟨384 + e.val, by omega⟩) (cs (rs r)) (sn (rs r)) ⟨d.val - 64, by omega⟩ := by
  refine Eq.trans ?_ (turned (fun d => kv x g w gkv wkv (rb r) (rs r) ⟨h.val * 128 + d.val, by omega⟩) _ _ _ d)
  pointwise [val_main_v123, val_main_v116, val_main_v115, val_main_v114, val_main_v113, val_main_v112, val_main_v111, val_main_v110, val_main_v109,
    val_main_v108, val_main_v107, val_main_v106, val_main_v105, val_main_v104, val_main_v103, val_main_v102, val_main_v101, val_main_v100,
    val_main_v99, val_main_v98, val_main_v97, val_main_v96, val_main_v95, val_main_v36]
  simp only [v33_at, v94_at]
  simp only [cs, sn, rb, rs]

end Cert.ProjFwdRefIdeal.At

end
-- ==== Proof.ProjFwdHost.lean ====
module

public import proofs.«01_k».proof.Proof.OutBwd
public import proofs.«01_k».proof.Proof.ProjFwdRef
public import proofs.«01_k».proof.Proof.Gen.ProjFwdIdeal.Frame
public import Idealize.ShloMosaic.Lib.Pointwise

@[expose] public section

set_option maxRecDepth 16384

noncomputable section

/-! # The projections' arrays at the region's entry

The packed weights and the rotary tables, read at an index over the arguments. -/

namespace Cert.ProjFwdIdeal.Value

open Idealize.ShloMosaic Idealize.ShloMosaic.TcCoe Idealize.SL.Sem
open Cert.ProjFwdIdeal Cert.ProjFwdIdeal.Gen
open Cert.ProjFwdRefIdeal.At (cs sn rb)
open Cert.OutBwdIdeal.Value (toLane)

/-- The packed input weights: the second group's lanes in pairs of heads, the shared key's lanes last and padded. -/
def wIn (w : S1x1024x1184.Idx → EReal) (i : S1280x1024.Idx) : EReal :=
  if h : (i 0).val < 384 then w (ix3 0 (i 1) ⟨(i 0).val, by omega⟩)
  else if h : (i 0).val < 896 then w (ix3 0 (i 1) ⟨416 + (toLane ⟨(i 0).val - 384, by omega⟩).val, by omega⟩)
  else if h : (i 0).val < 1152 then w (ix3 0 (i 1) ⟨(i 0).val + 32, by omega⟩)
  else if h : 1216 ≤ (i 0).val ∧ (i 0).val < 1248 then w (ix3 0 (i 1) ⟨(i 0).val - 832, by omega⟩) else 0

/-- The query weights, each head padded to 128 lanes. -/
def wQ (w : S1x256x768.Idx → EReal) (i : S1024x256.Idx) : EReal :=
  if h : (i 0).val % 128 < 96 then w (ix3 0 (i 1) ⟨(i 0).val / 128 * 96 + (i 0).val % 128, by have := (i 0).isLt; change (i 0).val < 1024 at this; omega⟩) else 0

/-- The key and value weights: the keys' heads padded to 128 lanes, then the values' heads. -/
def wKV (w : S1x128x1024.Idx → EReal) (i : S1536x128.Idx) : EReal :=
  if h : (i 0).val < 1024 then
    if (i 0).val % 128 < 64 then w (ix3 0 (i 1) ⟨(i 0).val, h⟩) else 0
  else w (ix3 0 (i 1) ⟨((i 0).val - 1024) / 64 * 128 + 64 + ((i 0).val - 1024) % 64, by have := (i 0).isLt; change (i 0).val < 1536 at this; omega⟩)

/-- The rotary tables' rows: 64 lanes kept, the angles twice, then the padding. -/
def cosT (i : S2048x128.Idx) : EReal :=
  if h : (i 1).val < 64 then Ideal.ofBits .f32 0x3F800000#32
  else if h : (i 1).val < 80 then cs (i 0) ⟨(i 1).val - 64, by omega⟩
  else if h : (i 1).val < 96 then cs (i 0) ⟨(i 1).val - 80, by omega⟩ else Ideal.ofBits .f32 0x00000000#32
def sinT (i : S2048x128.Idx) : EReal :=
  if h : (i 1).val < 64 then Ideal.ofBits .f32 0x00000000#32 * Ideal.ofBits .f32 0x3F800000#32
  else if h : (i 1).val < 80 then -sn (i 0) ⟨(i 1).val - 64, by omega⟩
  else if h : (i 1).val < 96 then sn (i 0) ⟨(i 1).val - 80, by omega⟩ else Ideal.ofBits .f32 0x00000000#32

section Entry

variable (m : (ℓ : Loc nD τ sig) → Buf (Elt Ideal) ℓ) (c : Dev nD)

/-- The weights' rows as the host lines hand them on. -/
def w28 (w : FVec Ideal S1x1024x1184 .f32) : FVec Ideal S1184x1024 .bf16 :=
  truncf .bf16 (transpose S1184x1024 [1, 0] (shapeCast S1024x1184 w shapeCasts_S1x1024x1184_S1024x1184) transposes_S1024x1184_S1184x1024_1_0) bitsLt_bf16_f32
def w49 (w : FVec Ideal S1x128x1024 .f32) : FVec Ideal S8x128x128 .bf16 :=
  shapeCast S8x128x128 (truncf .bf16 (transpose S1024x128 [1, 0] (shapeCast S128x1024 w shapeCasts_S1x128x1024_S128x1024) transposes_S128x1024_S1024x128_1_0) bitsLt_bf16_f32) shapeCasts_S1024x128_S8x128x128

theorem entry_after (b : Ref sig .tc) : V m c b = StableHlo.after (hostOps0 ++ (hostOps0_1 ++ (hostOps0_2 ++ (hostOps0_3 ++ (hostOps0_4 ++ (hostOps0_5
    ++ hostOps0_6)))))) (fun b => m (c, b)) (Proc.devRef .tc b) := rfl

theorem rows_at (x : FVec Ideal S4x2048x1024 .f32) (r : Fin 8192) (l : Fin 1024) :
    shapeCast S8192x1024 x shapeCasts_S4x2048x1024_S8192x1024 (ix2 r l) = x (ix3 (rb r) (Cert.ProjFwdRefIdeal.At.rs r) l) := by
  pointwise []
  rfl

theorem entry0_eq : V m c main_v25 = shapeCast S8192x1024 (m ((c.tc : Thread nD τ).loc main_arg0) : FVec Ideal S4x2048x1024 .f32) shapeCasts_S4x2048x1024_S8192x1024 := by
  rw [entry_after m c main_v25]
  simp only [hostOps0, hostOps0_1, hostOps0_2, hostOps0_3, hostOps0_4, hostOps0_5, hostOps0_6, List.cons_append, List.nil_append]
  after_results
  rfl

/-- The activations' rows. -/
def xIn (x : S4x2048x1024.Idx → EReal) (i : S8192x1024.Idx) : EReal := x (ix3 (rb (i 0)) (Cert.ProjFwdRefIdeal.At.rs (i 0)) (i 1))

theorem entry0 (j : S8192x1024.Idx) : V m c main_v25 j = xIn (m ((c.tc : Thread nD τ).loc main_arg0)) j := by
  idx_vars j
  rw [entry0_eq]
  exact rows_at _ j0 j1

theorem entry2_eq : V m c main_v39 = concatenate S1280x1024 0
    [⟨S256x1024, extractStridedSlice S256x1024 ![0, 0] (w28 (m ((c.tc : Thread nD τ).loc main_arg2))) slices_S1184x1024_S256x1024_0_0⟩,
      ⟨S128x1024, extractStridedSlice S128x1024 ![256, 0] (w28 (m ((c.tc : Thread nD τ).loc main_arg2))) slices_S1184x1024_S128x1024_256_0⟩,
      ⟨S512x1024, shapeCast S512x1024 (transpose S4x2x64x1024 [1, 0, 2, 3] (shapeCast S2x4x64x1024 (extractStridedSlice S512x1024 ![416, 0] (w28 (m ((c.tc : Thread nD τ).loc main_arg2))) slices_S1184x1024_S512x1024_416_0) shapeCasts_S512x1024_S2x4x64x1024) transposes_S2x4x64x1024_S4x2x64x1024_1_0_2_3) shapeCasts_S4x2x64x1024_S512x1024⟩,
      ⟨S128x1024, extractStridedSlice S128x1024 ![928, 0] (w28 (m ((c.tc : Thread nD τ).loc main_arg2))) slices_S1184x1024_S128x1024_928_0⟩,
      ⟨S128x1024, extractStridedSlice S128x1024 ![1056, 0] (w28 (m ((c.tc : Thread nD τ).loc main_arg2))) slices_S1184x1024_S128x1024_1056_0⟩,
      ⟨S128x1024, pad S128x1024 ![64, 0] ![32, 0] ![0, 0] (extractStridedSlice S32x1024 ![384, 0] (w28 (m ((c.tc : Thread nD τ).loc main_arg2))) slices_S1184x1024_S32x1024_384_0) (sitofp .bf16 (constantI S_ 32 0#32)) pads_S32x1024_S128x1024_64320_000 h_S_⟩]
    concatenates_S256x1024_S128x1024_S512x1024_S128x1024_S128x1024_S128x1024_S1280x1024_d0 := by
  rw [entry_after m c main_v39]
  simp only [hostOps0, hostOps0_1, hostOps0_2, hostOps0_3, hostOps0_4, hostOps0_5, hostOps0_6, List.cons_append, List.nil_append]
  after_results
  rfl

theorem entry4_eq : V m c main_v45 = shapeCast S1024x256 (pad S8x128x256 ![0, 0, 0] ![0, 32, 0] ![0, 0, 0]
    (shapeCast S8x96x256 (truncf .bf16 (transpose S768x256 [1, 0] (shapeCast S256x768 (m ((c.tc : Thread nD τ).loc main_arg4) : FVec Ideal S1x256x768 .f32) shapeCasts_S1x256x768_S256x768) transposes_S256x768_S768x256_1_0) bitsLt_bf16_f32 : FVec Ideal S768x256 .bf16) shapeCasts_S768x256_S8x96x256)
    (sitofp .bf16 (constantI S_ 32 0#32)) pads_S8x96x256_S8x128x256_000_0320_000 h_S_) shapeCasts_S8x128x256_S1024x256 := by
  rw [entry_after m c main_v45]
  simp only [hostOps0, hostOps0_1, hostOps0_2, hostOps0_3, hostOps0_4, hostOps0_5, hostOps0_6, List.cons_append, List.nil_append]
  after_results
  rfl

theorem entry6_eq : V m c main_v55 = concatenate S1536x128 0
    [⟨S1024x128, shapeCast S1024x128 (pad S8x128x128 ![0, 0, 0] ![0, 64, 0] ![0, 0, 0] (extractStridedSlice S8x64x128 ![0, 0, 0] (w49 (m ((c.tc : Thread nD τ).loc main_arg6))) slices_S8x128x128_S8x64x128_0_0_0)
        (sitofp .bf16 (constantI S_ 32 0#32)) pads_S8x64x128_S8x128x128_000_0640_000 h_S_) shapeCasts_S8x128x128_S1024x128⟩,
      ⟨S512x128, shapeCast S512x128 (extractStridedSlice S8x64x128 ![0, 64, 0] (w49 (m ((c.tc : Thread nD τ).loc main_arg6))) slices_S8x128x128_S8x64x128_0_64_0) shapeCasts_S8x64x128_S512x128⟩]
    concatenates_S1024x128_S512x128_S1536x128_d0 := by
  rw [entry_after m c main_v55]
  simp only [hostOps0, hostOps0_1, hostOps0_2, hostOps0_3, hostOps0_4, hostOps0_5, hostOps0_6, List.cons_append, List.nil_append]
  after_results
  rfl

theorem entry7_eq : V m c main_v20 = concatenate S2048x128 1
    [⟨S2048x64, broadcastInDim S2048x64 ![] bcast_S_S2048x64 (constant (F := Ideal) S_ .f32 0x3F800000#32)⟩, ⟨S2048x16, Cert.ProjFwdRefIdeal.Read.val_main_v16 (F := Ideal)⟩,
      ⟨S2048x16, Cert.ProjFwdRefIdeal.Read.val_main_v16 (F := Ideal)⟩, ⟨S2048x32, broadcastInDim S2048x32 ![] bcast_S_S2048x32 (constant (F := Ideal) S_ .f32 0x00000000#32)⟩]
    concatenates_S2048x64_S2048x16_S2048x16_S2048x32_S2048x128_d1 := by
  rw [entry_after m c main_v20]
  simp only [hostOps0, hostOps0_1, hostOps0_2, hostOps0_3, hostOps0_4, hostOps0_5, hostOps0_6, List.cons_append, List.nil_append]
  after_results
  rfl

theorem entry8_eq : V m c main_v24 = concatenate S2048x128 1
    [⟨S2048x64, mulf (broadcastInDim S2048x64 ![] bcast_S_S2048x64 (constant (F := Ideal) S_ .f32 0x00000000#32)) (broadcastInDim S2048x64 ![] bcast_S_S2048x64 (constant (F := Ideal) S_ .f32 0x3F800000#32))⟩,
      ⟨S2048x16, Host.negf (Cert.ProjFwdRefIdeal.Read.val_main_v17 (F := Ideal))⟩,
      ⟨S2048x16, Cert.ProjFwdRefIdeal.Read.val_main_v17 (F := Ideal)⟩, ⟨S2048x32, broadcastInDim S2048x32 ![] bcast_S_S2048x32 (constant (F := Ideal) S_ .f32 0x00000000#32)⟩]
    concatenates_S2048x64_S2048x16_S2048x16_S2048x32_S2048x128_d1 := by
  rw [entry_after m c main_v24]
  simp only [hostOps0, hostOps0_1, hostOps0_2, hostOps0_3, hostOps0_4, hostOps0_5, hostOps0_6, List.cons_append, List.nil_append]
  after_results
  rfl

theorem zero_int : ((((0#32 : BitVec 32).toInt : ℝ)) : EReal) = 0 := by simp

theorem entry2 (j : S1280x1024.Idx) : V m c main_v39 j = wIn (m ((c.tc : Thread nD τ).loc main_arg2)) j := by
  idx_vars j
  rw [entry2_eq]
  generalize m ((c.tc : Thread nD τ).loc main_arg2) = w
  revert w
  intro (w : S1x1024x1184.Idx → EReal)
  pointwise [w28, wIn]
  split_ifs <;> (repeat' split) <;> first
    | (exfalso; omega)
    | exact congrArg (fun q : Fin 1184 => w (ix3 0 j1 q)) (Fin.ext (by first | rfl | (dsimp only [toLane]; omega)))
    | exact zero_int

/-- Heads of 96 rows, each padded to 128. -/
theorem padded (x : FVec Ideal S8x96x256 .bf16) (j0 : Fin 1024) (j1 : Fin 256) :
    shapeCast S1024x256 (pad S8x128x256 ![0, 0, 0] ![0, 32, 0] ![0, 0, 0] x (sitofp .bf16 (constantI S_ 32 0#32))
      pads_S8x96x256_S8x128x256_000_0320_000 h_S_) shapeCasts_S8x128x256_S1024x256 (ix2 j0 j1)
    = if hd : j0.val % 128 < 96 then x (ix3 ⟨j0.val / 128, by omega⟩ ⟨j0.val % 128, hd⟩ j1) else 0 := by
  pointwise []
  refine dite_congr (propext ⟨fun h => by omega, fun h => by omega⟩) (fun _ => rfl) fun _ => zero_int

theorem headsQ (w : FVec Ideal S1x256x768 .f32) (h : Fin 8) (d : Fin 96) (k : Fin 256) :
    shapeCast S8x96x256 (truncf .bf16 (transpose S768x256 [1, 0] (shapeCast S256x768 w shapeCasts_S1x256x768_S256x768) transposes_S256x768_S768x256_1_0) bitsLt_bf16_f32 : FVec Ideal S768x256 .bf16) shapeCasts_S768x256_S8x96x256 (ix3 h d k)
    = w (ix3 0 k ⟨h.val * 96 + d.val, by omega⟩) := by
  pointwise []

theorem entry4 (j : S1024x256.Idx) : V m c main_v45 j = wQ (m ((c.tc : Thread nD τ).loc main_arg4)) j := by
  idx_vars j
  rw [entry4_eq, padded]
  unfold wQ
  refine dite_congr rfl (fun h => ?_) fun _ => rfl
  exact headsQ _ _ _ _

theorem entry6 (j : S1536x128.Idx) : V m c main_v55 j = wKV (m ((c.tc : Thread nD τ).loc main_arg6)) j := by
  idx_vars j
  rw [entry6_eq]
  generalize m ((c.tc : Thread nD τ).loc main_arg6) = w
  revert w
  intro (w : S1x128x1024.Idx → EReal)
  pointwise [w49, wKV]
  split_ifs <;> (repeat' split) <;> first
    | (exfalso; omega)
    | exact congrArg (fun q : Fin 1024 => w (ix3 0 j1 q)) (Fin.ext (by first | rfl | (dsimp only; omega)))
    | exact zero_int

theorem entry7 (j : S2048x128.Idx) : V m c main_v20 j = cosT j := by
  idx_vars j
  rw [entry7_eq]
  pointwise [cosT, cs]
  split_ifs <;> (repeat' split) <;> first
    | (exfalso; omega)
    | rfl
    | exact congrArg (fun q : Fin 16 => Cert.ProjFwdRefIdeal.Read.val_main_v16 (F := Ideal) (ix2 j0 q)) (Fin.ext (by dsimp only; omega))

theorem entry8 (j : S2048x128.Idx) : V m c main_v24 j = sinT j := by
  idx_vars j
  rw [entry8_eq]
  pointwise [sinT, sn]
  split_ifs <;> (repeat' split) <;> first
    | (exfalso; omega)
    | rfl
    | exact congrArg (fun q : Fin 16 => Cert.ProjFwdRefIdeal.Read.val_main_v17 (F := Ideal) (ix2 j0 q)) (Fin.ext (by dsimp only; omega))

end Entry

end Cert.ProjFwdIdeal.Value

end
-- ==== Proof.ProjFwdKernel.lean ====
module

public import proofs.«01_k».proof.Proof.Gen.ProjFwdIdeal.Frame
public import proofs.«01_k».proof.Proof.ProjFwdRef
public import Idealize.ShloMosaic.Lib.Pipeline.ValueKit

@[expose] public section

set_option maxRecDepth 16384

noncomputable section

/-! # The arrays that the region of the projections leaves

Each grid point handles 512 rows. The rotary tables hold one sequence of 2048 rows, so a point reads the quarter of them
that its number modulo four names. The kernel rotates a row of heads of 128 lanes by adding the row with its two halves
exchanged, each times a table. -/

namespace Cert.ProjFwdIdeal.Value

open Idealize.ShloMosaic Idealize.ShloMosaic.TcCoe Idealize.SL.Sem
open Idealize.ShloMosaic.Pipeline (Dat)
open Cert.ProjFwdIdeal Cert.ProjFwdIdeal.Gen
open Cert.Proof.Proj

/-- A row of heads of 128 lanes with the lanes 64 to 79 and 80 to 95 of each exchanged and the others zero. -/
def swap {n : ℕ} (a : Fin n → EReal) (l : Fin n) : EReal :=
  if 64 ≤ l.val % 128 ∧ l.val % 128 < 80 then a ⟨(l.val + 16) % n, Nat.mod_lt _ (Fin.pos l)⟩
  else if 80 ≤ l.val % 128 ∧ l.val % 128 < 96 then a ⟨(l.val + n - 16) % n, Nat.mod_lt _ (Fin.pos l)⟩ else 0

/-- A lane's place in its head, as the kernel reduces its number. -/
theorem lane_at (l : Fin 1024) : Scalar.select (IntOp.andi (IntOp.xori (IntOp.cmpi .slt (IntOp.remsi .vector (BitVec.ofNat 32 l.val) (Scalar.select (Scalar.cmpi .eq 128#32 0#32) 1#32 128#32)) 0#32)
      (Scalar.cmpi .slt (Scalar.select (Scalar.cmpi .eq 128#32 0#32) 1#32 128#32) 0#32)) (IntOp.cmpi .ne (IntOp.remsi .vector (BitVec.ofNat 32 l.val) (Scalar.select (Scalar.cmpi .eq 128#32 0#32) 1#32 128#32)) 0#32))
    (IntOp.addi (IntOp.remsi .vector (BitVec.ofNat 32 l.val) (Scalar.select (Scalar.cmpi .eq 128#32 0#32) 1#32 128#32)) (Scalar.select (Scalar.cmpi .eq 128#32 0#32) 1#32 128#32)) (IntOp.remsi .vector (BitVec.ofNat 32 l.val) (Scalar.select (Scalar.cmpi .eq 128#32 0#32) 1#32 128#32)) = BitVec.ofNat 32 (l.val % 128) := by
  revert l
  decide +kernel

/-- The two masks of the exchange. -/
theorem up_at : ∀ l : Fin 1024, IntOp.andi (IntOp.cmpi .sge (BitVec.ofNat 32 (l.val % 128)) 64#32) (IntOp.cmpi .slt (BitVec.ofNat 32 (l.val % 128)) 80#32) = 1
    ↔ 64 ≤ l.val % 128 ∧ l.val % 128 < 80 := by
  decide +kernel

theorem down_at : ∀ l : Fin 1024, IntOp.andi (IntOp.cmpi .sge (BitVec.ofNat 32 (l.val % 128)) 80#32) (IntOp.cmpi .slt (BitVec.ofNat 32 (l.val % 128)) 96#32) = 1
    ↔ 80 ≤ l.val % 128 ∧ l.val % 128 < 96 := by
  decide +kernel

section Payloads

variable (x : FVec Ideal S512x1024 .f32) (g : FVec Ideal S1x1024 .f32) (w : FVec Ideal S1280x1024 .bf16) (gq : FVec Ideal S1x256 .f32)
  (wq : FVec Ideal S1024x256 .bf16) (gkv : FVec Ideal S1x128 .f32) (wkv : FVec Ideal S1536x128 .bf16) (c s : FVec Ideal S512x128 .f32)

theorem pay2_at (i : Fin 512) (l : Fin 1024) : k0_pay2 (F := Ideal) x g (ix2 i l)
    = nrm (Ideal.ofBits .f32 0x44800000#32) (fun k => x (ix2 i k)) (fun k => g (ix2 0 k)) l := by
  pointwise [k0_pay2]
  rfl

theorem pay3_at (i : Fin 512) (p : Fin 1280) : k0_pay3 (F := Ideal) x g w (ix2 i p)
    = ∑ l, nrm (Ideal.ofBits .f32 0x44800000#32) (fun k => x (ix2 i k)) (fun k => g (ix2 0 k)) l * w (ix2 p l) := by
  pointwise [k0_pay3]
  simp only [pay2_at]

theorem pay12_at (y : FVec Ideal S512x256 .f32) (i : Fin 512) (l : Fin 256) : k0_pay12 (F := Ideal) y gq (ix2 i l)
    = nrm (Ideal.ofBits .f32 0x43800000#32) (fun k => y (ix2 i k)) (fun k => gq (ix2 0 k)) l := by
  pointwise [k0_pay12]
  rfl

theorem pay20_at (y : FVec Ideal S512x128 .f32) (i : Fin 512) (l : Fin 128) : k0_pay20 (F := Ideal) y gkv (ix2 i l)
    = nrm (Ideal.ofBits .f32 0x43000000#32) (fun k => y (ix2 i k)) (fun k => gkv (ix2 0 k)) l := by
  pointwise [k0_pay20]
  rfl

theorem pay13_at (y : FVec Ideal S512x256 .f32) (i : Fin 512) (p : Fin 1024) : k0_pay13 (F := Ideal) y gq wq (ix2 i p)
    = ∑ l, nrm (Ideal.ofBits .f32 0x43800000#32) (fun k => y (ix2 i k)) (fun k => gq (ix2 0 k)) l * wq (ix2 p l) := by
  pointwise [k0_pay13]
  simp only [pay12_at]

theorem pay21_at (y : FVec Ideal S512x128 .f32) (i : Fin 512) (p : Fin 1536) : k0_pay21 (F := Ideal) y gkv wkv (ix2 i p)
    = ∑ l, nrm (Ideal.ofBits .f32 0x43000000#32) (fun k => y (ix2 i k)) (fun k => gkv (ix2 0 k)) l * wkv (ix2 p l) := by
  pointwise [k0_pay21]
  simp only [pay20_at]

theorem pay17_at (i : Fin 512) (l : Fin 1024) : k0_pay17 (ix2 i l) = BitVec.ofNat 32 (l.val % 128) := by
  pointwise [k0_pay17]
  exact lane_at l

theorem pay11_at (p : FVec Ideal S512x1280 .f32) (i : Fin 512) (l : Fin 128) : k0_pay11 (F := Ideal) p c s (ix2 i l)
    = p (ix2 i ⟨1152 + l.val, by omega⟩) * c (ix2 i l) + swap (fun l : Fin 128 => p (ix2 i ⟨1152 + l.val, by omega⟩)) l * s (ix2 i l) := by
  pointwise [k0_pay11, k0_pay9, k0_pay10]
  have e0 := lane_at ⟨l.val, by omega⟩
  have e1 := up_at ⟨l.val, by omega⟩
  have e2 := down_at ⟨l.val, by omega⟩
  dsimp only at e0 e1 e2
  simp only [e0]
  refine congrArg₂ (· + ·) rfl (congrArg (· * s (ix2 i l)) ?_)
  unfold Scalar.select swap
  refine if_congr e1 ?_ (if_congr e2 rfl rfl)
  exact congrArg (fun q : Fin 128 => p (ix2 i ⟨1152 + q.val, by omega⟩)) (Fin.ext (a := ⟨(l.val + 128 - 112) % 128, by omega⟩) (by dsimp only; omega))

theorem pay19_at (y : FVec Ideal S512x256 .f32) (i : Fin 512) (l : Fin 1024) :
    k0_pay19 (F := Ideal) (k0_pay10 s) (k0_pay14 y (k0_pay9 c) gq wq) (k0_pay15 y gq wq) (k0_pay16 y gq wq) k0_pay17 k0_pay18 (ix2 i l)
    = k0_pay13 (F := Ideal) y gq wq (ix2 i l) * c (ix2 i ⟨l.val % 128, by omega⟩)
      + swap (fun l : Fin 1024 => k0_pay13 (F := Ideal) y gq wq (ix2 i l)) l * s (ix2 i ⟨l.val % 128, by omega⟩) := by
  pointwise [k0_pay19, k0_pay18, k0_pay14, k0_pay15, k0_pay16, k0_pay10, k0_pay9]
  have tile : ∀ f : Fin 128 → EReal, ∀ e : Fin 128, e.val = l.val % 128 → f e = f ⟨l.val % 128, by omega⟩ := fun f e h => congrArg f (Fin.ext h)
  refine congrArg₂ (· + ·) (congrArg₂ (· * ·) rfl ?_) (congrArg₂ (· * ·) ?_ ?_)
  · split_ifs <;> exact tile (fun e => c (ix2 i e)) _ (by dsimp only; omega)
  · rw [pay17_at]
    unfold Scalar.select swap
    refine if_congr (up_at l) ?_ (if_congr (down_at l) rfl rfl)
    exact congrArg (fun q : Fin 1024 => k0_pay13 (F := Ideal) y gq wq (ix2 i q)) (Fin.ext (by dsimp only; omega))
  · split_ifs <;> exact tile (fun e => s (ix2 i e)) _ (by dsimp only; omega)

theorem pay22_at (y z : FVec Ideal S512x128 .f32) (i : Fin 512) (l : Fin 1024) : k0_pay22 (F := Ideal) y z gkv wkv (ix2 i l)
    = k0_pay21 (F := Ideal) y gkv wkv (ix2 i ⟨l.val, by omega⟩) + z (ix2 i ⟨l.val % 128, by omega⟩) := by
  pointwise [k0_pay22]
  have tile : ∀ f : Fin 128 → EReal, ∀ e : Fin 128, e.val = l.val % 128 → f e = f ⟨l.val % 128, by omega⟩ := fun f e h => congrArg f (Fin.ext h)
  refine congrArg₂ (· + ·) rfl ?_
  split_ifs <;> exact tile (fun e => z (ix2 i e)) _ (by dsimp only; omega)

/-- The input projection's lanes, as the body takes them apart. -/
theorem pay4_at (i : Fin 512) (l : Fin 256) : k0_pay4 (F := Ideal) x g w (ix2 i l) = k0_pay3 (F := Ideal) x g w (ix2 i ⟨l.val, by omega⟩) := by
  pointwise [k0_pay4]

theorem pay5_at (i : Fin 512) (l : Fin 128) : k0_pay5 (F := Ideal) x g w (ix2 i l) = k0_pay3 (F := Ideal) x g w (ix2 i ⟨256 + l.val, by omega⟩) := by
  pointwise [k0_pay5]

theorem pay6_at (i l : Fin 512) : k0_pay6 (F := Ideal) x g w (ix2 i l) = k0_pay3 (F := Ideal) x g w (ix2 i ⟨384 + l.val, by omega⟩) := by
  pointwise [k0_pay6]

theorem pay7_at (i : Fin 512) (l : Fin 128) : k0_pay7 (F := Ideal) x g w (ix2 i l) = k0_pay3 (F := Ideal) x g w (ix2 i ⟨896 + l.val, by omega⟩) := by
  pointwise [k0_pay7]

theorem pay8_at (i : Fin 512) (l : Fin 128) : k0_pay8 (F := Ideal) x g w (ix2 i l) = k0_pay3 (F := Ideal) x g w (ix2 i ⟨1024 + l.val, by omega⟩) := by
  pointwise [k0_pay8]

theorem pay1_at (z : FVec Ideal S512x1536 .f32) (i l : Fin 512) : k0_pay1 (F := Ideal) z (ix2 i l) = z (ix2 i ⟨1024 + l.val, by omega⟩) := by
  pointwise [k0_pay1]

end Payloads

variable (m : (ℓ : Loc nD τ sig) → Buf (Elt Ideal) ℓ)

/-- The windows' block indices: the point's number on the row windows, its remainder modulo four on the tables', zero on the others. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 4, 0] ∧ win0_8.index t = ![t.val % 4, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] :=
  (by decide +kernel : ∀ t : Fin grid0.N, _)

/-- The row at place `i` of point `t`, and the tables' row there. -/
def ri (t : Fin cfg0.N) (i : Fin 512) : Fin 8192 := ⟨t.val * 512 + i.val, by have := t.isLt; have : cfg0.N = 16 := N_0; omega⟩
def rs (r : Fin 8192) : Fin 2048 := ⟨r.val % 2048, by omega⟩

section Arrays

variable (E0 : S8192x1024.Idx → EReal) (E1 : S1x1024.Idx → EReal) (E2 : S1280x1024.Idx → EReal) (E3 : S1x256.Idx → EReal)
  (E4 : S1024x256.Idx → EReal) (E5 : S1x128.Idx → EReal) (E6 : S1536x128.Idx → EReal) (E7 E8 : S2048x128.Idx → EReal)

/-- The normed rows. -/
def aU (r : Fin 8192) : Fin 1024 → EReal := nrm (Ideal.ofBits .f32 0x44800000#32) (fun k => E0 (ix2 r k)) fun k => E1 (ix2 0 k)

/-- The input projection. -/
def aP (r : Fin 8192) (p : Fin 1280) : EReal := ∑ l, aU E0 E1 r l * E2 (ix2 p l)

/-- The normed latents of the queries, and of the keys and values. -/
def aCQ (r : Fin 8192) : Fin 256 → EReal :=
  nrm (Ideal.ofBits .f32 0x43800000#32) (fun k => aP E0 E1 E2 r ⟨k.val, by omega⟩) fun k => E3 (ix2 0 k)
def aCK (r : Fin 8192) : Fin 128 → EReal :=
  nrm (Ideal.ofBits .f32 0x43000000#32) (fun k => aP E0 E1 E2 r ⟨256 + k.val, by omega⟩) fun k => E5 (ix2 0 k)

/-- The queries, and the keys and values, before the rotary embedding. -/
def aQQ (r : Fin 8192) (p : Fin 1024) : EReal := ∑ k, aCQ E0 E1 E2 E3 r k * E4 (ix2 p k)
def aKV (r : Fin 8192) (p : Fin 1536) : EReal := ∑ k, aCK E0 E1 E2 E5 r k * E6 (ix2 p k)

/-- The lanes that all heads' keys share. -/
def aKP (r : Fin 8192) (l : Fin 128) : EReal := aP E0 E1 E2 r ⟨1152 + l.val, by omega⟩

/-- The rotated queries and keys. -/
def aQ (r : Fin 8192) (l : Fin 1024) : EReal := aQQ E0 E1 E2 E3 E4 r l * E7 (ix2 (rs r) ⟨l.val % 128, by omega⟩)
  + swap (aQQ E0 E1 E2 E3 E4 r) l * E8 (ix2 (rs r) ⟨l.val % 128, by omega⟩)
def aK (r : Fin 8192) (l : Fin 1024) : EReal := aKV E0 E1 E2 E5 E6 r ⟨l.val, by omega⟩
  + (aKP E0 E1 E2 r ⟨l.val % 128, by omega⟩ * E7 (ix2 (rs r) ⟨l.val % 128, by omega⟩)
    + swap (aKP E0 E1 E2 r) ⟨l.val % 128, by omega⟩ * E8 (ix2 (rs r) ⟨l.val % 128, by omega⟩))

/-- The lanes of the input projection that are returned as they are. -/
def aL (o : ℕ) {n : ℕ} (h : o + n ≤ 1280) (r : Fin 8192) (l : Fin n) : EReal := aP E0 E1 E2 r ⟨o + l.val, by omega⟩

def aQL (r : Fin 8192) (l : Fin 256) : EReal := aP E0 E1 E2 r ⟨l.val, by omega⟩

/-- The values. -/
def aV (r : Fin 8192) (l : Fin 512) : EReal := aKV E0 E1 E2 E5 E6 r ⟨1024 + l.val, by omega⟩

end Arrays

section Blocks

variable {m} {c : Dev nD} {E0 : S8192x1024.Idx → EReal} {E1 : S1x1024.Idx → EReal} {E2 : S1280x1024.Idx → EReal} {E3 : S1x256.Idx → EReal}
  {E4 : S1024x256.Idx → EReal} {E5 : S1x128.Idx → EReal} {E6 : S1536x128.Idx → EReal} {E7 E8 : S2048x128.Idx → EReal}

theorem blk0 (h : ∀ i, V m c main_v25 i = E0 i) (t : Fin cfg0.N) (i : Fin 512) (l : Fin 1024) : iblk m c 0 t (ix2 i l) = E0 (ix2 (ri t i) l) := by
  rw [← h]
  blk_ext [iblk, ri, idx t]

theorem blk1 (h : ∀ i, V m c main_arg1 i = E1 i) (t : Fin cfg0.N) (i : Fin 1) (l : Fin 1024) : iblk m c 1 t (ix2 i l) = E1 (ix2 i l) := by
  rw [← h]
  blk_ext [iblk, idx t]

theorem blk2 (h : ∀ i, V m c main_v39 i = E2 i) (t : Fin cfg0.N) (i : Fin 1280) (l : Fin 1024) : iblk m c 2 t (ix2 i l) = E2 (ix2 i l) := by
  rw [← h]
  blk_ext [iblk, idx t]

theorem blk3 (h : ∀ i, V m c main_arg3 i = E3 i) (t : Fin cfg0.N) (i : Fin 1) (l : Fin 256) : iblk m c 3 t (ix2 i l) = E3 (ix2 i l) := by
  rw [← h]
  blk_ext [iblk, idx t]

theorem blk4 (h : ∀ i, V m c main_v45 i = E4 i) (t : Fin cfg0.N) (i : Fin 1024) (l : Fin 256) : iblk m c 4 t (ix2 i l) = E4 (ix2 i l) := by
  rw [← h]
  blk_ext [iblk, idx t]

theorem blk5 (h : ∀ i, V m c main_arg5 i = E5 i) (t : Fin cfg0.N) (i : Fin 1) (l : Fin 128) : iblk m c 5 t (ix2 i l) = E5 (ix2 i l) := by
  rw [← h]
  blk_ext [iblk, idx t]

theorem blk6 (h : ∀ i, V m c main_v55 i = E6 i) (t : Fin cfg0.N) (i : Fin 1536) (l : Fin 128) : iblk m c 6 t (ix2 i l) = E6 (ix2 i l) := by
  rw [← h]
  blk_ext [iblk, idx t]

theorem blk7 (h : ∀ i, V m c main_v20 i = E7 i) (t : Fin cfg0.N) (i : Fin 512) (l : Fin 128) : iblk m c 7 t (ix2 i l) = E7 (ix2 (rs (ri t i)) l) := by
  rw [← h]
  blk_ext [iblk, ri, rs, idx t]

theorem blk8 (h : ∀ i, V m c main_v24 i = E8 i) (t : Fin cfg0.N) (i : Fin 512) (l : Fin 128) : iblk m c 8 t (ix2 i l) = E8 (ix2 (rs (ri t i)) l) := by
  rw [← h]
  blk_ext [iblk, ri, rs, idx t]

variable (h0 : ∀ i, V m c main_v25 i = E0 i) (h1 : ∀ i, V m c main_arg1 i = E1 i) (h2 : ∀ i, V m c main_v39 i = E2 i) (h3 : ∀ i, V m c main_arg3 i = E3 i) (h4 : ∀ i, V m c main_v45 i = E4 i) (h5 : ∀ i, V m c main_arg5 i = E5 i) (h6 : ∀ i, V m c main_v55 i = E6 i) (h7 : ∀ i, V m c main_v20 i = E7 i) (h8 : ∀ i, V m c main_v24 i = E8 i)

include h0 h1 h2 in
/-- The input projection of a block. -/
theorem bP (t : Fin cfg0.N) (i : Fin 512) (p : Fin 1280) :
    k0_pay3 (F := Ideal) (iblk m c 0 t) (iblk m c 1 t) (iblk m c 2 t) (ix2 i p) = aP E0 E1 E2 (ri t i) p := by
  rw [pay3_at]
  simp only [blk0 h0 t, blk1 h1 t, blk2 h2 t]
  rfl

include h0 h1 h2 h3 in
theorem bCQ (t : Fin cfg0.N) (i : Fin 512) (k : Fin 256) : k0_pay12 (F := Ideal) (k0_pay4 (F := Ideal) (iblk m c 0 t) (iblk m c 1 t) (iblk m c 2 t)) (iblk m c 3 t) (ix2 i k)
    = aCQ E0 E1 E2 E3 (ri t i) k := by
  refine (pay12_at _ _ i k).trans ?_
  refine congrFun (congrArg₂ (nrm (Ideal.ofBits .f32 0x43800000#32)) ?_ ?_) k
  · funext k
    exact (pay4_at _ _ _ i k).trans (bP h0 h1 h2 t i _)
  · funext k
    exact blk3 h3 t 0 k

include h0 h1 h2 h5 in
theorem bCK (t : Fin cfg0.N) (i : Fin 512) (k : Fin 128) : k0_pay20 (F := Ideal) (k0_pay5 (F := Ideal) (iblk m c 0 t) (iblk m c 1 t) (iblk m c 2 t)) (iblk m c 5 t) (ix2 i k)
    = aCK E0 E1 E2 E5 (ri t i) k := by
  refine (pay20_at _ _ i k).trans ?_
  refine congrFun (congrArg₂ (nrm (Ideal.ofBits .f32 0x43000000#32)) ?_ ?_) k
  · funext k
    exact (pay5_at _ _ _ i k).trans (bP h0 h1 h2 t i _)
  · funext k
    exact blk5 h5 t 0 k

include h0 h1 h2 h3 h4 in
theorem bQ (t : Fin cfg0.N) (i : Fin 512) (p : Fin 1024) :
    k0_pay13 (F := Ideal) (k0_pay4 (F := Ideal) (iblk m c 0 t) (iblk m c 1 t) (iblk m c 2 t)) (iblk m c 3 t) (iblk m c 4 t) (ix2 i p) = aQQ E0 E1 E2 E3 E4 (ri t i) p := by
  rw [pay13_at]
  unfold aQQ
  refine Finset.sum_congr rfl fun k _ => ?_
  exact congrArg₂ (· * ·) ((pay12_at _ _ i k).symm.trans (bCQ h0 h1 h2 h3 t i k)) (blk4 h4 t p k)

include h0 h1 h2 h5 h6 in
theorem bKV (t : Fin cfg0.N) (i : Fin 512) (p : Fin 1536) :
    k0_pay21 (F := Ideal) (k0_pay5 (F := Ideal) (iblk m c 0 t) (iblk m c 1 t) (iblk m c 2 t)) (iblk m c 5 t) (iblk m c 6 t) (ix2 i p) = aKV E0 E1 E2 E5 E6 (ri t i) p := by
  rw [pay21_at]
  unfold aKV
  refine Finset.sum_congr rfl fun k _ => ?_
  exact congrArg₂ (· * ·) ((pay20_at _ _ i k).symm.trans (bCK h0 h1 h2 h5 t i k)) (blk6 h6 t p k)

include h0 h1 in
/-- The normed rows after the region. -/
theorem final9 : (dats m 0 c).arrAt 9 (cfgs 0).N = fun j : S8192x1024.Idx => aU E0 E1 (j 0) (j 1) := by
  refine (dats m 0 c).arrAt_eq_of_covers 9 _ (by decide +kernel) fun t hf y => ?_
  blk_simp
  rw [after0_9]
  unfold out0_9
  frame_out
  idx_vars y
  have he : ((View.whole main_v56_0).slice (win0_9.rect t)).emb (ix2 y0 y1) = ix2 (ri t y0) y1 := by
    blk_ext [ri, idx t]
  rw [he]
  simp only [k0_pay23, k0_pay24, pay2_at, blk0 h0 t, blk1 h1 t]
  rfl

include h0 h1 h2 in
/-- The latents of the queries. -/
theorem final10 : (dats m 0 c).arrAt 10 (cfgs 0).N = fun j : S8192x256.Idx => aQL E0 E1 E2 (j 0) (j 1) := by
  refine (dats m 0 c).arrAt_eq_of_covers 10 _ (by decide +kernel) fun t hf y => ?_
  blk_simp
  rw [after0_10]
  unfold out0_10
  frame_out
  idx_vars y
  have he : ((View.whole main_v56_1).slice (win0_10.rect t)).emb (ix2 y0 y1) = ix2 (ri t y0) y1 := by
    blk_ext [ri, idx t]
  rw [he]
  exact (pay4_at ..).trans (bP h0 h1 h2 t y0 _)

include h0 h1 h2 in
/-- The latents of the keys and values. -/
theorem final11 : (dats m 0 c).arrAt 11 (cfgs 0).N = fun j : S8192x128.Idx => aL E0 E1 E2 256 (by decide) (j 0) (j 1) := by
  refine (dats m 0 c).arrAt_eq_of_covers 11 _ (by decide +kernel) fun t hf y => ?_
  blk_simp
  rw [after0_11]
  unfold out0_11
  frame_out
  idx_vars y
  have he : ((View.whole main_v56_2).slice (win0_11.rect t)).emb (ix2 y0 y1) = ix2 (ri t y0) y1 := by
    blk_ext [ri, idx t]
  rw [he]
  exact (pay5_at ..).trans (bP h0 h1 h2 t y0 _)

include h0 h1 h2 h3 in
/-- The normed latents of the queries. -/
theorem final12 : (dats m 0 c).arrAt 12 (cfgs 0).N = fun j : S8192x256.Idx => aCQ E0 E1 E2 E3 (j 0) (j 1) := by
  refine (dats m 0 c).arrAt_eq_of_covers 12 _ (by decide +kernel) fun t hf y => ?_
  blk_simp
  rw [after0_12]
  unfold out0_12 k0_pay23
  frame_out
  idx_vars y
  have he : ((View.whole main_v56_3).slice (win0_12.rect t)).emb (ix2 y0 y1) = ix2 (ri t y0) y1 := by
    blk_ext [ri, idx t]
  rw [he]
  exact bCQ h0 h1 h2 h3 t y0 y1

include h0 h1 h2 h5 in
/-- The normed latents of the keys and values. -/
theorem final13 : (dats m 0 c).arrAt 13 (cfgs 0).N = fun j : S8192x128.Idx => aCK E0 E1 E2 E5 (j 0) (j 1) := by
  refine (dats m 0 c).arrAt_eq_of_covers 13 _ (by decide +kernel) fun t hf y => ?_
  blk_simp
  rw [after0_13]
  unfold out0_13 k0_pay24
  frame_out
  idx_vars y
  have he : ((View.whole main_v56_4).slice (win0_13.rect t)).emb (ix2 y0 y1) = ix2 (ri t y0) y1 := by
    blk_ext [ri, idx t]
  rw [he]
  exact bCK h0 h1 h2 h5 t y0 y1

include h0 h1 h2 h3 h4 h7 h8 in
/-- The rotated queries. -/
theorem final14 : (dats m 0 c).arrAt 14 (cfgs 0).N = fun j : S8192x1024.Idx => aQ E0 E1 E2 E3 E4 E7 E8 (j 0) (j 1) := by
  refine (dats m 0 c).arrAt_eq_of_covers 14 _ (by decide +kernel) fun t hf y => ?_
  blk_simp
  rw [after0_14]
  unfold out0_14 k0_pay23
  frame_out
  idx_vars y
  have he : ((View.whole main_v56_5).slice (win0_14.rect t)).emb (ix2 y0 y1) = ix2 (ri t y0) y1 := by
    blk_ext [ri, idx t]
  rw [he]
  refine (pay19_at ..).trans ?_
  refine congrArg₂ (· + ·) (congrArg₂ (· * ·) (bQ h0 h1 h2 h3 h4 t y0 y1) (blk7 h7 t y0 _))
    (congrArg₂ (· * ·) (congrArg (fun f => swap f y1) (funext fun l => bQ h0 h1 h2 h3 h4 t y0 l)) (blk8 h8 t y0 _))

include h0 h1 h2 h5 h6 h7 h8 in
/-- The keys. -/
theorem final15 : (dats m 0 c).arrAt 15 (cfgs 0).N = fun j : S8192x1024.Idx => aK E0 E1 E2 E5 E6 E7 E8 (j 0) (j 1) := by
  refine (dats m 0 c).arrAt_eq_of_covers 15 _ (by decide +kernel) fun t hf y => ?_
  blk_simp
  rw [after0_15]
  unfold out0_15 k0_pay24
  frame_out
  idx_vars y
  have he : ((View.whole main_v56_6).slice (win0_15.rect t)).emb (ix2 y0 y1) = ix2 (ri t y0) y1 := by
    blk_ext [ri, idx t]
  rw [he]
  refine (pay22_at ..).trans ?_
  refine congrArg₂ (· + ·) (bKV h0 h1 h2 h5 h6 t y0 _) ?_
  refine (pay11_at ..).trans ?_
  exact congrArg₂ (· + ·) (congrArg₂ (· * ·) (bP h0 h1 h2 t y0 _) (blk7 h7 t y0 _))
    (congrArg₂ (· * ·) (congrArg (fun f : Fin 128 → EReal => swap f ⟨y1.val % 128, by omega⟩) (funext fun l => bP h0 h1 h2 t y0 _)) (blk8 h8 t y0 _))

include h0 h1 h2 h5 h6 in
/-- The values. -/
theorem final16 : (dats m 0 c).arrAt 16 (cfgs 0).N = fun j : S8192x512.Idx => aV E0 E1 E2 E5 E6 (j 0) (j 1) := by
  refine (dats m 0 c).arrAt_eq_of_covers 16 _ (by decide +kernel) fun t hf y => ?_
  blk_simp
  rw [after0_16]
  unfold out0_16 k0_pay24
  frame_out
  idx_vars y
  have he : ((View.whole main_v56_7).slice (win0_16.rect t)).emb (ix2 y0 y1) = ix2 (ri t y0) y1 := by
    blk_ext [ri, idx t]
  rw [he]
  exact (pay1_at ..).trans (bKV h0 h1 h2 h5 h6 t y0 _)

include h0 h1 h2 in
/-- The windowed heads' queries. -/
theorem final17 : (dats m 0 c).arrAt 17 (cfgs 0).N = fun j : S8192x512.Idx => aL E0 E1 E2 384 (by decide) (j 0) (j 1) := by
  refine (dats m 0 c).arrAt_eq_of_covers 17 _ (by decide +kernel) fun t hf y => ?_
  blk_simp
  rw [after0_17]
  unfold out0_17
  frame_out
  idx_vars y
  have he : ((View.whole main_v56_8).slice (win0_17.rect t)).emb (ix2 y0 y1) = ix2 (ri t y0) y1 := by
    blk_ext [ri, idx t]
  rw [he]
  exact (pay6_at ..).trans (bP h0 h1 h2 t y0 _)

include h0 h1 h2 in
/-- Their keys. -/
theorem final18 : (dats m 0 c).arrAt 18 (cfgs 0).N = fun j : S8192x128.Idx => aL E0 E1 E2 896 (by decide) (j 0) (j 1) := by
  refine (dats m 0 c).arrAt_eq_of_covers 18 _ (by decide +kernel) fun t hf y => ?_
  blk_simp
  rw [after0_18]
  unfold out0_18
  frame_out
  idx_vars y
  have he : ((View.whole main_v56_9).slice (win0_18.rect t)).emb (ix2 y0 y1) = ix2 (ri t y0) y1 := by
    blk_ext [ri, idx t]
  rw [he]
  exact (pay7_at ..).trans (bP h0 h1 h2 t y0 _)

include h0 h1 h2 in
/-- Their values. -/
theorem final19 : (dats m 0 c).arrAt 19 (cfgs 0).N = fun j : S8192x128.Idx => aL E0 E1 E2 1024 (by decide) (j 0) (j 1) := by
  refine (dats m 0 c).arrAt_eq_of_covers 19 _ (by decide +kernel) fun t hf y => ?_
  blk_simp
  rw [after0_19]
  unfold out0_19
  frame_out
  idx_vars y
  have he : ((View.whole main_v56_10).slice (win0_19.rect t)).emb (ix2 y0 y1) = ix2 (ri t y0) y1 := by
    blk_ext [ri, idx t]
  rw [he]
  exact (pay8_at ..).trans (bP h0 h1 h2 t y0 _)

end Blocks

end Cert.ProjFwdIdeal.Value

end
-- ==== Proof.ProjFwd.lean ====
module

public import proofs.«01_k».proof.Defs
public import proofs.«01_k».proof.Proof.ProjFwdRef
public import proofs.«01_k».proof.Proof.ProjFwdHost
public import proofs.«01_k».proof.Proof.ProjFwdKernel
public import proofs.«01_k».proof.Proof.Gen.ProjFwdRefIdeal.Run

@[expose] public section

set_option maxRecDepth 16384

noncomputable section

/-! # The value of the projections

The region's arrays and the host lines around it against the reference, over the extended reals: the padding's zero weights
give zero lanes, the tables' exchange is the rotation, and the second group's lanes return to the heads' order. -/

namespace Cert.ProjFwdIdeal.Value

open Idealize.ShloMosaic Idealize.ShloMosaic.TcCoe Idealize.SL.Sem
open Cert.ProjFwdIdeal Cert.ProjFwdIdeal.Gen
open Cert.Proof.Proj
open Cert.ProjFwdRefIdeal.At (u pr cqn ckvn qq kv cs sn rb)
open Cert.OutBwdIdeal.Value (toLane ofLane lane)

/-- The float one. -/
theorem one_bits : Ideal.ofBits .f32 0x3F800000#32 = 1 := Ideal.ofBits_one_f32

/-- The exchange with the tables is the rotation of the lanes 64 to 95. -/
theorem turn {n : ℕ} (hn : n % 128 = 0) (A : Fin n → EReal) (L : Fin n) (d : Fin 128) (hd : L.val % 128 = d.val) (h96 : d.val < 96) (s : Fin 2048) :
    A L * cosT (ix2 s d) + swap A L * sinT (ix2 s d)
      = if h : d.val < 64 then A L
        else rot (fun e : Fin 32 => A ⟨L.val / 128 * 128 + (64 + e.val), by omega⟩) (cs s) (sn s) ⟨d.val - 64, by omega⟩ := by
  by_cases h : d.val < 64
  · rw [dif_pos h]
    have e1 : cosT (ix2 s d) = 1 := (dif_pos (show d.val < 64 from h)).trans one_bits
    have e2 : swap A L = 0 := by
      unfold swap
      rw [if_neg (by omega), if_neg (by omega)]
    rw [e1, e2, mul_one, zero_mul, add_zero]
  rw [dif_neg h]
  by_cases h2 : d.val < 80
  · have e1 : cosT (ix2 s d) = cs s ⟨d.val - 64, by omega⟩ := (dif_neg (show ¬d.val < 64 from h)).trans (dif_pos (show d.val < 80 from h2))
    have e2 : sinT (ix2 s d) = -sn s ⟨d.val - 64, by omega⟩ := (dif_neg (show ¬d.val < 64 from h)).trans (dif_pos (show d.val < 80 from h2))
    have e3 : swap A L = A ⟨L.val / 128 * 128 + (64 + (16 + (d.val - 64))), by omega⟩ := by
      unfold swap
      rw [if_pos (by omega)]
      refine congrArg A (Fin.ext ?_)
      dsimp only
      rw [Nat.mod_eq_of_lt (by omega)]
      omega
    have e4 : A L = A ⟨L.val / 128 * 128 + (64 + (d.val - 64)), by omega⟩ := congrArg A (Fin.ext (by dsimp only; omega))
    rw [e1, e2, e3, rot, dif_pos (show d.val - 64 < 16 by omega), mul_neg, ← sub_eq_add_neg, e4]
  · have e1 : cosT (ix2 s d) = cs s ⟨d.val - 64 - 16, by omega⟩ :=
      (dif_neg (show ¬d.val < 64 from h)).trans ((dif_neg (show ¬d.val < 80 from h2)).trans ((dif_pos (show d.val < 96 from h96)).trans
        (congrArg (cs s) (Fin.ext (a := ⟨d.val - 80, by omega⟩) (b := ⟨d.val - 64 - 16, by omega⟩) (by dsimp only; omega)))))
    have e2 : sinT (ix2 s d) = sn s ⟨d.val - 64 - 16, by omega⟩ :=
      (dif_neg (show ¬d.val < 64 from h)).trans ((dif_neg (show ¬d.val < 80 from h2)).trans ((dif_pos (show d.val < 96 from h96)).trans
        (congrArg (sn s) (Fin.ext (a := ⟨d.val - 80, by omega⟩) (b := ⟨d.val - 64 - 16, by omega⟩) (by dsimp only; omega)))))
    have e3 : swap A L = A ⟨L.val / 128 * 128 + (64 + (d.val - 64 - 16)), by omega⟩ := by
      unfold swap
      rw [if_neg (by omega), if_pos (by omega)]
      refine congrArg A (Fin.ext ?_)
      dsimp only
      rw [show L.val + n - 16 = (L.val - 16) + n by omega, Nat.add_mod_right, Nat.mod_eq_of_lt (by omega)]
      omega
    have e4 : A L = A ⟨L.val / 128 * 128 + (64 + (d.val - 64)), by omega⟩ := congrArg A (Fin.ext (by dsimp only; omega))
    rw [e1, e2, e3, rot, dif_neg (show ¬d.val - 64 < 16 by omega), e4]

section Sums

variable (x : FVec Ideal S4x2048x1024 .f32) (g : FVec Ideal S1x1024 .f32) (w : FVec Ideal S1x1024x1184 .f32) (gq : FVec Ideal S1x256 .f32)
  (wq : FVec Ideal S1x256x768 .f32) (gkv : FVec Ideal S1x128 .f32) (wkv : FVec Ideal S1x128x1024 .f32) (r : Fin 8192)

theorem wIn_a (p : Fin 1280) (h : p.val < 384) (l : Fin 1024) : wIn w (ix2 p l) = w (ix3 0 l ⟨p.val, by omega⟩) :=
  dif_pos (show p.val < 384 from h)

theorem wIn_b (p : Fin 1280) (h : ¬p.val < 384) (h' : p.val < 896) (l : Fin 1024) :
    wIn w (ix2 p l) = w (ix3 0 l ⟨416 + (toLane ⟨p.val - 384, by omega⟩).val, by omega⟩) :=
  (dif_neg (show ¬p.val < 384 from h)).trans (dif_pos (show p.val < 896 from h'))

theorem wIn_c (p : Fin 1280) (h : ¬p.val < 896) (h' : p.val < 1152) (l : Fin 1024) : wIn w (ix2 p l) = w (ix3 0 l ⟨p.val + 32, by omega⟩) :=
  (dif_neg (show ¬p.val < 384 by omega)).trans ((dif_neg (show ¬p.val < 896 from h)).trans (dif_pos (show p.val < 1152 from h')))

theorem wIn_d (p : Fin 1280) (h : 1216 ≤ p.val ∧ p.val < 1248) (l : Fin 1024) : wIn w (ix2 p l) = w (ix3 0 l ⟨p.val - 832, by omega⟩) :=
  (dif_neg (show ¬p.val < 384 by omega)).trans ((dif_neg (show ¬p.val < 896 by omega)).trans ((dif_neg (show ¬p.val < 1152 by omega)).trans
    (dif_pos (show 1216 ≤ p.val ∧ p.val < 1248 from h))))

theorem wIn_z (p : Fin 1280) (h : 1152 ≤ p.val) (h' : p.val < 1216) (l : Fin 1024) : wIn w (ix2 p l) = 0 :=
  (dif_neg (show ¬p.val < 384 by omega)).trans ((dif_neg (show ¬p.val < 896 by omega)).trans ((dif_neg (show ¬p.val < 1152 by omega)).trans
    (dif_neg (show ¬(1216 ≤ p.val ∧ p.val < 1248) by omega))))

theorem aP_of (p : Fin 1280) (q : Fin 1184) (h : ∀ l, wIn w (ix2 p l) = w (ix3 0 l q)) :
    aP (xIn x) g (wIn w) r p = pr x g w (rb r) (rs r) q :=
  Finset.sum_congr rfl fun l _ => congrArg₂ (· * ·) rfl (h l)

theorem aP_zero (p : Fin 1280) (h : ∀ l, wIn w (ix2 p l) = 0) : aP (xIn x) g (wIn w) r p = 0 :=
  Finset.sum_eq_zero fun l _ => (congrArg (_ * ·) (h l)).trans (mul_zero _)

theorem aCQ_of (k : Fin 256) : aCQ (xIn x) g (wIn w) gq r k = cqn x g w gq (rb r) (rs r) k :=
  congrFun (congrArg₂ (nrm (Ideal.ofBits .f32 0x43800000#32))
    (funext fun k : Fin 256 => aP_of x g w r ⟨k.val, by omega⟩ ⟨k.val, by omega⟩ (wIn_a w _ (by dsimp only; omega))) rfl) k

theorem aCK_of (k : Fin 128) : aCK (xIn x) g (wIn w) gkv r k = ckvn x g w gkv (rb r) (rs r) k :=
  congrFun (congrArg₂ (nrm (Ideal.ofBits .f32 0x43000000#32))
    (funext fun k : Fin 128 => aP_of x g w r ⟨256 + k.val, by omega⟩ ⟨256 + k.val, by omega⟩ (wIn_a w _ (by dsimp only; omega))) rfl) k

theorem aQQ_of (p : Fin 1024) (q : Fin 768) (h : p.val % 128 < 96) (e : p.val / 128 * 96 + p.val % 128 = q.val) :
    aQQ (xIn x) g (wIn w) gq (wQ wq) r p = qq x g w gq wq (rb r) (rs r) q :=
  Finset.sum_congr rfl fun k _ => congrArg₂ (· * ·) (aCQ_of x g w gq r k) ((dif_pos (show p.val % 128 < 96 from h)).trans
    (congrArg (fun q : Fin 768 => wq (ix3 0 k q)) (Fin.ext e)))

theorem aKV_of (p : Fin 1536) (q : Fin 1024) (h : p.val < 1024) (h' : p.val % 128 < 64) (e : p.val = q.val) :
    aKV (xIn x) g (wIn w) gkv (wKV wkv) r p = kv x g w gkv wkv (rb r) (rs r) q :=
  Finset.sum_congr rfl fun k _ => congrArg₂ (· * ·) (aCK_of x g w gkv r k) ((dif_pos (show p.val < 1024 from h)).trans
    ((if_pos (show p.val % 128 < 64 from h')).trans (congrArg (fun q : Fin 1024 => wkv (ix3 0 k q)) (Fin.ext e))))

theorem aKV_zero (p : Fin 1536) (h : p.val < 1024) (h' : ¬p.val % 128 < 64) : aKV (xIn x) g (wIn w) gkv (wKV wkv) r p = 0 :=
  Finset.sum_eq_zero fun k _ => (congrArg (_ * ·) ((dif_pos (show p.val < 1024 from h)).trans (if_neg (show ¬p.val % 128 < 64 from h')))).trans (mul_zero _)

theorem aV_of (l : Fin 512) : aV (xIn x) g (wIn w) gkv (wKV wkv) r l = kv x g w gkv wkv (rb r) (rs r) ⟨l.val / 64 * 128 + 64 + l.val % 64, by omega⟩ := by
  show (∑ k, aCK (xIn x) g (wIn w) gkv r k * wKV wkv (ix2 ⟨1024 + l.val, by omega⟩ k))
    = ∑ k, ckvn x g w gkv (rb r) (rs r) k * wkv (ix3 0 k ⟨l.val / 64 * 128 + 64 + l.val % 64, by omega⟩)
  refine Finset.sum_congr rfl fun k _ => congrArg₂ (· * ·) (aCK_of x g w gkv r k) ?_
  refine (dif_neg (show ¬1024 + l.val < 1024 by omega)).trans ?_
  exact congrArg (fun q : Fin 1024 => wkv (ix3 0 k q)) (Fin.ext (a := ⟨(1024 + l.val - 1024) / 64 * 128 + 64 + (1024 + l.val - 1024) % 64, by omega⟩)
    (b := ⟨l.val / 64 * 128 + 64 + l.val % 64, by omega⟩) (by dsimp only; omega))

/-- The rotated queries at a lane of a head. -/
theorem aQ_of (h : Fin 8) (d : Fin 96) : aQ (xIn x) g (wIn w) gq (wQ wq) cosT sinT r ⟨h.val * 128 + d.val, by omega⟩
    = if hd : d.val < 64 then qq x g w gq wq (rb r) (rs r) ⟨h.val * 96 + d.val, by omega⟩
      else rot (fun e => qq x g w gq wq (rb r) (rs r) ⟨h.val * 96 + (64 + e.val), by omega⟩) (cs (rs r)) (sn (rs r)) ⟨d.val - 64, by omega⟩ := by
  have e0 : (⟨(h.val * 128 + d.val) % 128, by omega⟩ : Fin 128) = ⟨d.val, by omega⟩ := Fin.ext (by dsimp only; omega)
  unfold aQ
  dsimp only
  rw [e0, turn (by decide) (aQQ (xIn x) g (wIn w) gq (wQ wq) r) _ ⟨d.val, by omega⟩ (by dsimp only; omega) (by dsimp only; omega) (rs r)]
  refine dite_congr rfl (fun hd => ?_) fun hd => ?_
  · exact aQQ_of x g w gq wq r _ _ (by dsimp only; omega) (by dsimp only; omega)
  · refine congrArg (fun f : Fin 32 → EReal => rot f (cs (rs r)) (sn (rs r)) ⟨d.val - 64, by omega⟩) (funext fun e => ?_)
    exact aQQ_of x g w gq wq r _ _ (by dsimp only; omega) (by dsimp only; omega)

/-- The keys at a lane of a head. -/
theorem aK_of (h : Fin 8) (d : Fin 96) : aK (xIn x) g (wIn w) gkv (wKV wkv) cosT sinT r ⟨h.val * 128 + d.val, by omega⟩
    = if hd : d.val < 64 then kv x g w gkv wkv (rb r) (rs r) ⟨h.val * 128 + d.val, by omega⟩
      else rot (fun e => pr x g w (rb r) (rs r) ⟨384 + e.val, by omega⟩) (cs (rs r)) (sn (rs r)) ⟨d.val - 64, by omega⟩ := by
  have e0 : (⟨(h.val * 128 + d.val) % 128, by omega⟩ : Fin 128) = ⟨d.val, by omega⟩ := Fin.ext (by dsimp only; omega)
  unfold aK
  dsimp only
  rw [e0, turn (by decide) (aKP (xIn x) g (wIn w) r) ⟨d.val, by omega⟩ ⟨d.val, by omega⟩ (by dsimp only; omega) (by dsimp only; omega) (rs r)]
  by_cases hd : d.val < 64
  · rw [dif_pos hd, dif_pos hd]
    rw [aKV_of x g w gkv wkv r _ ⟨h.val * 128 + d.val, by omega⟩ (by dsimp only; omega) (by dsimp only; omega) rfl]
    have e1 : aKP (xIn x) g (wIn w) r ⟨d.val, by omega⟩ = 0 := aP_zero x g w r _ (wIn_z w _ (by dsimp only; omega) (by dsimp only; omega))
    rw [e1, add_zero]
  · rw [dif_neg hd, dif_neg hd]
    rw [aKV_zero x g w gkv wkv r _ (by dsimp only; omega) (by dsimp only; omega), zero_add]
    refine congrArg (fun f : Fin 32 → EReal => rot f (cs (rs r)) (sn (rs r)) ⟨d.val - 64, by omega⟩) (funext fun e => ?_)
    refine (aP_of x g w r ⟨1152 + (d.val / 128 * 128 + (64 + e.val)), by omega⟩ ⟨1152 + (d.val / 128 * 128 + (64 + e.val)) - 832, by omega⟩
      (wIn_d w ⟨1152 + (d.val / 128 * 128 + (64 + e.val)), by omega⟩ (by dsimp only; omega))).trans ?_
    exact congrArg (pr x g w (rb r) (rs r)) (Fin.ext (by dsimp only; omega))

end Sums

section Results

variable (m : (ℓ : Loc nD τ sig) → Buf (Elt Ideal) ℓ) (c : Dev nD)

theorem entry1 (j : S1x1024.Idx) : V m c main_arg1 j = (m ((c.tc : Thread nD τ).loc main_arg1) : S1x1024.Idx → EReal) j := by
  rw [V_main_arg1]

theorem entry3 (j : S1x256.Idx) : V m c main_arg3 j = (m ((c.tc : Thread nD τ).loc main_arg3) : S1x256.Idx → EReal) j := by
  rw [V_main_arg3]

theorem entry5 (j : S1x128.Idx) : V m c main_arg5 j = (m ((c.tc : Thread nD τ).loc main_arg5) : S1x128.Idx → EReal) j := by
  rw [V_main_arg5]

theorem tail57 (j0 : Fin 8192) (j1 : Fin 1024) : Pipeline.afterTail₀ cfgs (dats m) 0 (V0 m) [hostOps1] c main_v57 (ix2 j0 j1)
    = (show S8192x1024.Idx → EReal from (dats m 0 c).arrAt 9 (cfgs 0).N) (ix2 j0 j1) := by
  unfold Pipeline.afterTail₀
  simp only [List.flatten_cons, List.flatten_nil, List.append_nil]
  after_results
  erw [Pipeline.withArrays_arr (cfgs 0).spec launch0.win.arr_inj _ _ _ 9]
  generalize (dats m 0 c).arrAt 9 _ = K
  revert K
  intro (K : S8192x1024.Idx → EReal)
  pointwise []
  try rfl

theorem tail58 (j0 : Fin 8192) (j1 : Fin 256) : Pipeline.afterTail₀ cfgs (dats m) 0 (V0 m) [hostOps1] c main_v58 (ix2 j0 j1)
    = (show S8192x256.Idx → EReal from (dats m 0 c).arrAt 12 (cfgs 0).N) (ix2 j0 j1) := by
  unfold Pipeline.afterTail₀
  simp only [List.flatten_cons, List.flatten_nil, List.append_nil]
  after_results
  erw [Pipeline.withArrays_arr (cfgs 0).spec launch0.win.arr_inj _ _ _ 12]
  generalize (dats m 0 c).arrAt 12 _ = K
  revert K
  intro (K : S8192x256.Idx → EReal)
  pointwise []
  try rfl

theorem tail59 (j0 : Fin 8192) (j1 : Fin 128) : Pipeline.afterTail₀ cfgs (dats m) 0 (V0 m) [hostOps1] c main_v59 (ix2 j0 j1)
    = (show S8192x128.Idx → EReal from (dats m 0 c).arrAt 13 (cfgs 0).N) (ix2 j0 j1) := by
  unfold Pipeline.afterTail₀
  simp only [List.flatten_cons, List.flatten_nil, List.append_nil]
  after_results
  erw [Pipeline.withArrays_arr (cfgs 0).spec launch0.win.arr_inj _ _ _ 13]
  generalize (dats m 0 c).arrAt 13 _ = K
  revert K
  intro (K : S8192x128.Idx → EReal)
  pointwise []
  try rfl

theorem tail62 (j0 : Fin 8192) (j1 : Fin 8) (j2 : Fin 96) : Pipeline.afterTail₀ cfgs (dats m) 0 (V0 m) [hostOps1] c main_v62 (ix3 j0 j1 j2)
    = (show S8192x1024.Idx → EReal from (dats m 0 c).arrAt 14 (cfgs 0).N) (ix2 j0 ⟨j1.val * 128 + j2.val, by omega⟩) := by
  unfold Pipeline.afterTail₀
  simp only [List.flatten_cons, List.flatten_nil, List.append_nil]
  after_results
  erw [Pipeline.withArrays_arr (cfgs 0).spec launch0.win.arr_inj _ _ _ 14]
  generalize (dats m 0 c).arrAt 14 _ = K
  revert K
  intro (K : S8192x1024.Idx → EReal)
  pointwise []
  try rfl

theorem tail65 (j0 : Fin 8192) (j1 : Fin 8) (j2 : Fin 96) : Pipeline.afterTail₀ cfgs (dats m) 0 (V0 m) [hostOps1] c main_v65 (ix3 j0 j1 j2)
    = (show S8192x1024.Idx → EReal from (dats m 0 c).arrAt 15 (cfgs 0).N) (ix2 j0 ⟨j1.val * 128 + j2.val, by omega⟩) := by
  unfold Pipeline.afterTail₀
  simp only [List.flatten_cons, List.flatten_nil, List.append_nil]
  after_results
  erw [Pipeline.withArrays_arr (cfgs 0).spec launch0.win.arr_inj _ _ _ 15]
  generalize (dats m 0 c).arrAt 15 _ = K
  revert K
  intro (K : S8192x1024.Idx → EReal)
  pointwise []
  try rfl

theorem tail66 (j0 : Fin 8192) (j1 : Fin 512) : Pipeline.afterTail₀ cfgs (dats m) 0 (V0 m) [hostOps1] c main_v66 (ix2 j0 j1)
    = (show S8192x512.Idx → EReal from (dats m 0 c).arrAt 16 (cfgs 0).N) (ix2 j0 j1) := by
  unfold Pipeline.afterTail₀
  simp only [List.flatten_cons, List.flatten_nil, List.append_nil]
  after_results
  erw [Pipeline.withArrays_arr (cfgs 0).spec launch0.win.arr_inj _ _ _ 16]
  generalize (dats m 0 c).arrAt 16 _ = K
  revert K
  intro (K : S8192x512.Idx → EReal)
  pointwise []
  try rfl

theorem tail70 (j0 : Fin 8192) (j1 : Fin 512) : Pipeline.afterTail₀ cfgs (dats m) 0 (V0 m) [hostOps1] c main_v70 (ix2 j0 j1)
    = (show S8192x512.Idx → EReal from (dats m 0 c).arrAt 17 (cfgs 0).N) (ix2 j0 (ofLane j1)) := by
  unfold Pipeline.afterTail₀
  simp only [List.flatten_cons, List.flatten_nil, List.append_nil]
  after_results
  erw [Pipeline.withArrays_arr (cfgs 0).spec launch0.win.arr_inj _ _ _ 17]
  generalize (dats m 0 c).arrAt 17 _ = K
  revert K
  intro (K : S8192x512.Idx → EReal)
  pointwise []
  try rfl

theorem tail71 (j0 : Fin 8192) (j1 : Fin 128) : Pipeline.afterTail₀ cfgs (dats m) 0 (V0 m) [hostOps1] c main_v71 (ix2 j0 j1)
    = (show S8192x128.Idx → EReal from (dats m 0 c).arrAt 18 (cfgs 0).N) (ix2 j0 j1) := by
  unfold Pipeline.afterTail₀
  simp only [List.flatten_cons, List.flatten_nil, List.append_nil]
  after_results
  erw [Pipeline.withArrays_arr (cfgs 0).spec launch0.win.arr_inj _ _ _ 18]
  generalize (dats m 0 c).arrAt 18 _ = K
  revert K
  intro (K : S8192x128.Idx → EReal)
  pointwise []
  try rfl

theorem tail72 (j0 : Fin 8192) (j1 : Fin 128) : Pipeline.afterTail₀ cfgs (dats m) 0 (V0 m) [hostOps1] c main_v72 (ix2 j0 j1)
    = (show S8192x128.Idx → EReal from (dats m 0 c).arrAt 19 (cfgs 0).N) (ix2 j0 j1) := by
  unfold Pipeline.afterTail₀
  simp only [List.flatten_cons, List.flatten_nil, List.append_nil]
  after_results
  erw [Pipeline.withArrays_arr (cfgs 0).spec launch0.win.arr_inj _ _ _ 19]
  generalize (dats m 0 c).arrAt 19 _ = K
  revert K
  intro (K : S8192x128.Idx → EReal)
  pointwise []
  try rfl

/-- A lane of the second group, to its pair and back. -/
theorem lane_back (j : Fin 512) : 416 + (toLane ⟨384 + (ofLane j).val - 384, by omega⟩).val = 416 + j.val := by
  have e : (⟨384 + (ofLane j).val - 384, by omega⟩ : Fin 512) = ofLane j := Fin.ext (by dsimp only; omega)
  rw [e]
  exact congrArg (fun q : Fin 512 => 416 + q.val) (lane.apply_symm_apply j)

theorem res0 : Cert.ProjFwdRefIdeal.Read.val_main_v117 (F := Ideal) (m ((c.tc : Thread nD τ).loc main_arg0)) (m ((c.tc : Thread nD τ).loc main_arg1))
    = Pipeline.afterTail₀ cfgs (dats m) 0 (V0 m) [hostOps1] c main_v57 := by
  funext j
  idx_vars j
  rw [tail57, final9 (entry0 m c) (entry1 m c)]
  refine Eq.trans (Cert.ProjFwdRefIdeal.At.v117_at _ _ j0 j1) ?_
  exact rfl

theorem res1 : Cert.ProjFwdRefIdeal.Read.val_main_v118 (F := Ideal) (m ((c.tc : Thread nD τ).loc main_arg0)) (m ((c.tc : Thread nD τ).loc main_arg1)) (m ((c.tc : Thread nD τ).loc main_arg2))
    = (dats m 0 c).arrAt 10 (cfgs 0).N := by
  funext j
  idx_vars j
  rw [final10 (entry0 m c) (entry1 m c) (entry2 m c)]
  refine Eq.trans (Cert.ProjFwdRefIdeal.At.v118_at _ _ _ j0 j1) ?_
  exact (aP_of (m ((c.tc : Thread nD τ).loc main_arg0)) (m ((c.tc : Thread nD τ).loc main_arg1)) (m ((c.tc : Thread nD τ).loc main_arg2)) j0 ⟨j1.val, by omega⟩ ⟨j1.val, by omega⟩ (wIn_a _ _ (by dsimp only; omega))).symm

theorem res2 : Cert.ProjFwdRefIdeal.Read.val_main_v119 (F := Ideal) (m ((c.tc : Thread nD τ).loc main_arg0)) (m ((c.tc : Thread nD τ).loc main_arg1)) (m ((c.tc : Thread nD τ).loc main_arg2))
    = (dats m 0 c).arrAt 11 (cfgs 0).N := by
  funext j
  idx_vars j
  rw [final11 (entry0 m c) (entry1 m c) (entry2 m c)]
  refine Eq.trans (Cert.ProjFwdRefIdeal.At.v119_at _ _ _ j0 j1) ?_
  exact (aP_of (m ((c.tc : Thread nD τ).loc main_arg0)) (m ((c.tc : Thread nD τ).loc main_arg1)) (m ((c.tc : Thread nD τ).loc main_arg2)) j0 ⟨256 + j1.val, by omega⟩ ⟨256 + j1.val, by omega⟩ (wIn_a _ _ (by dsimp only; omega))).symm

theorem res3 : Cert.ProjFwdRefIdeal.Read.val_main_v120 (F := Ideal) (m ((c.tc : Thread nD τ).loc main_arg0)) (m ((c.tc : Thread nD τ).loc main_arg1)) (m ((c.tc : Thread nD τ).loc main_arg2)) (m ((c.tc : Thread nD τ).loc main_arg3))
    = Pipeline.afterTail₀ cfgs (dats m) 0 (V0 m) [hostOps1] c main_v58 := by
  funext j
  idx_vars j
  rw [tail58, final12 (entry0 m c) (entry1 m c) (entry2 m c) (entry3 m c)]
  refine Eq.trans (Cert.ProjFwdRefIdeal.At.v120_at _ _ _ _ j0 j1) ?_
  exact (aCQ_of (m ((c.tc : Thread nD τ).loc main_arg0)) (m ((c.tc : Thread nD τ).loc main_arg1)) (m ((c.tc : Thread nD τ).loc main_arg2)) (m ((c.tc : Thread nD τ).loc main_arg3)) j0 j1).symm

theorem res4 : Cert.ProjFwdRefIdeal.Read.val_main_v121 (F := Ideal) (m ((c.tc : Thread nD τ).loc main_arg0)) (m ((c.tc : Thread nD τ).loc main_arg1)) (m ((c.tc : Thread nD τ).loc main_arg2)) (m ((c.tc : Thread nD τ).loc main_arg5))
    = Pipeline.afterTail₀ cfgs (dats m) 0 (V0 m) [hostOps1] c main_v59 := by
  funext j
  idx_vars j
  rw [tail59, final13 (entry0 m c) (entry1 m c) (entry2 m c) (entry5 m c)]
  refine Eq.trans (Cert.ProjFwdRefIdeal.At.v121_at _ _ _ _ j0 j1) ?_
  exact (aCK_of (m ((c.tc : Thread nD τ).loc main_arg0)) (m ((c.tc : Thread nD τ).loc main_arg1)) (m ((c.tc : Thread nD τ).loc main_arg2)) (m ((c.tc : Thread nD τ).loc main_arg5)) j0 j1).symm

theorem res5 : Cert.ProjFwdRefIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    = Pipeline.afterTail₀ cfgs (dats m) 0 (V0 m) [hostOps1] c main_v62 := by
  funext j
  idx_vars j
  rw [tail62, final14 (entry0 m c) (entry1 m c) (entry2 m c) (entry3 m c) (entry4 m c) (entry7 m c) (entry8 m c)]
  refine Eq.trans (Cert.ProjFwdRefIdeal.At.v122_at _ _ _ _ _ j0 j1 j2) ?_
  exact (aQ_of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) j0 j1 j2).symm

theorem res6 : Cert.ProjFwdRefIdeal.Read.val_main_v123 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
    = Pipeline.afterTail₀ cfgs (dats m) 0 (V0 m) [hostOps1] c main_v65 := by
  funext j
  idx_vars j
  rw [tail65, final15 (entry0 m c) (entry1 m c) (entry2 m c) (entry5 m c) (entry6 m c) (entry7 m c) (entry8 m c)]
  refine Eq.trans (Cert.ProjFwdRefIdeal.At.v123_at _ _ _ _ _ j0 j1 j2) ?_
  exact (aK_of (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) j0 j1 j2).symm

theorem res7 : Cert.ProjFwdRefIdeal.Read.val_main_v125 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
    = Pipeline.afterTail₀ cfgs (dats m) 0 (V0 m) [hostOps1] c main_v66 := by
  funext j
  idx_vars j
  rw [tail66, final16 (entry0 m c) (entry1 m c) (entry2 m c) (entry5 m c) (entry6 m c)]
  refine Eq.trans (Cert.ProjFwdRefIdeal.At.v125_at _ _ _ _ _ j0 j1) ?_
  exact (aV_of (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) j0 j1).symm

theorem res8 : Cert.ProjFwdRefIdeal.Read.val_main_v126 (F := Ideal) (m ((c.tc : Thread nD τ).loc main_arg0)) (m ((c.tc : Thread nD τ).loc main_arg1)) (m ((c.tc : Thread nD τ).loc main_arg2))
    = Pipeline.afterTail₀ cfgs (dats m) 0 (V0 m) [hostOps1] c main_v70 := by
  funext j
  idx_vars j
  rw [tail70, final17 (entry0 m c) (entry1 m c) (entry2 m c)]
  refine Eq.trans (Cert.ProjFwdRefIdeal.At.v126_at _ _ _ j0 j1) ?_
  exact (aP_of (m ((c.tc : Thread nD τ).loc main_arg0)) (m ((c.tc : Thread nD τ).loc main_arg1)) (m ((c.tc : Thread nD τ).loc main_arg2)) j0 ⟨384 + (ofLane j1).val, by omega⟩ ⟨416 + j1.val, by omega⟩ fun l => (wIn_b _ _ (by dsimp only; omega) (by dsimp only; omega) l).trans (congrArg (fun q : Fin 1184 => (show S1x1024x1184.Idx → EReal from (m ((c.tc : Thread nD τ).loc main_arg2))) (ix3 0 l q)) (Fin.ext (lane_back j1)))).symm

theorem res9 : Cert.ProjFwdRefIdeal.Read.val_main_v127 (F := Ideal) (m ((c.tc : Thread nD τ).loc main_arg0)) (m ((c.tc : Thread nD τ).loc main_arg1)) (m ((c.tc : Thread nD τ).loc main_arg2))
    = Pipeline.afterTail₀ cfgs (dats m) 0 (V0 m) [hostOps1] c main_v71 := by
  funext j
  idx_vars j
  rw [tail71, final18 (entry0 m c) (entry1 m c) (entry2 m c)]
  refine Eq.trans (Cert.ProjFwdRefIdeal.At.v127_at _ _ _ j0 j1) ?_
  exact (aP_of (m ((c.tc : Thread nD τ).loc main_arg0)) (m ((c.tc : Thread nD τ).loc main_arg1)) (m ((c.tc : Thread nD τ).loc main_arg2)) j0 ⟨896 + j1.val, by omega⟩ ⟨928 + j1.val, by omega⟩ fun l => (wIn_c _ _ (by dsimp only; omega) (by dsimp only; omega) l).trans (congrArg (fun q : Fin 1184 => (show S1x1024x1184.Idx → EReal from (m ((c.tc : Thread nD τ).loc main_arg2))) (ix3 0 l q)) (Fin.ext (by dsimp only; omega)))).symm

theorem res10 : Cert.ProjFwdRefIdeal.Read.val_main_v128 (F := Ideal) (m ((c.tc : Thread nD τ).loc main_arg0)) (m ((c.tc : Thread nD τ).loc main_arg1)) (m ((c.tc : Thread nD τ).loc main_arg2))
    = Pipeline.afterTail₀ cfgs (dats m) 0 (V0 m) [hostOps1] c main_v72 := by
  funext j
  idx_vars j
  rw [tail72, final19 (entry0 m c) (entry1 m c) (entry2 m c)]
  refine Eq.trans (Cert.ProjFwdRefIdeal.At.v128_at _ _ _ j0 j1) ?_
  exact (aP_of (m ((c.tc : Thread nD τ).loc main_arg0)) (m ((c.tc : Thread nD τ).loc main_arg1)) (m ((c.tc : Thread nD τ).loc main_arg2)) j0 ⟨1024 + j1.val, by omega⟩ ⟨1056 + j1.val, by omega⟩ fun l => (wIn_c _ _ (by dsimp only; omega) (by dsimp only; omega) l).trans (congrArg (fun q : Fin 1184 => (show S1x1024x1184.Idx → EReal from (m ((c.tc : Thread nD τ).loc main_arg2))) (ix3 0 l q)) (Fin.ext (by dsimp only; omega)))).symm

end Results

set_option maxHeartbeats 4000000 in
/-- The kernel and the reference end with the same activations, latents, queries, keys and values, whatever the arguments. -/
theorem algebraic : algebraic_ProjFwdIdeal_ProjFwdRefIdeal := by
  pair_intro
  · run_from Cert.ProjFwdIdeal.Gen.run_main m g & Cert.ProjFwdIdeal.Gen.unchanged m g
  · run_from Cert.ProjFwdRefIdeal.Value.run m' g'
    all_goals obtain ⟨e0, e1, e2, e3, e4, e5, e6⟩ := hagree c
    · refine Eq.trans (Cert.ProjFwdRefIdeal.Read.val_main_v117_eq (F := Ideal) _ _) ?_
      exact res0 m c
    · refine Eq.trans (Cert.ProjFwdRefIdeal.Read.val_main_v118_eq (F := Ideal) _ _ _) ?_
      exact res1 m c
    · refine Eq.trans (Cert.ProjFwdRefIdeal.Read.val_main_v119_eq (F := Ideal) _ _ _) ?_
      exact res2 m c
    · refine Eq.trans (Cert.ProjFwdRefIdeal.Read.val_main_v120_eq (F := Ideal) _ _ _ _) ?_
      exact res3 m c
    · refine Eq.trans (Cert.ProjFwdRefIdeal.Read.val_main_v121_eq (F := Ideal) _ _ _ _) ?_
      exact res4 m c
    · refine Eq.trans (Cert.ProjFwdRefIdeal.Read.val_main_v122_eq (F := Ideal) m' c) ?_
      rw [e0, e1, e2, e3, e4]
      exact res5 m c
    · refine Eq.trans (Cert.ProjFwdRefIdeal.Read.val_main_v123_eq (F := Ideal) m' c) ?_
      rw [e0, e1, e2, e5, e6]
      exact res6 m c
    · refine Eq.trans (Cert.ProjFwdRefIdeal.Read.val_main_v125_eq (F := Ideal) m' c) ?_
      rw [e0, e1, e2, e5, e6]
      exact res7 m c
    · refine Eq.trans (Cert.ProjFwdRefIdeal.Read.val_main_v126_eq (F := Ideal) _ _ _) ?_
      exact res8 m c
    · refine Eq.trans (Cert.ProjFwdRefIdeal.Read.val_main_v127_eq (F := Ideal) _ _ _) ?_
      exact res9 m c
    · refine Eq.trans (Cert.ProjFwdRefIdeal.Read.val_main_v128_eq (F := Ideal) _ _ _) ?_
      exact res10 m c

/-- The reference leaves its arguments unchanged and declares no semaphore. -/
theorem frame_ref : quiescent_ProjFwdRefIdeal := fun m g _ =>
  (θ_run Cert.ProjFwdRefIdeal.defs _ _).mono (fun r h => ⟨fun c => (h c).2.2.2.2.2.2.2.2.2.2.2, sem_eq_zero_of_no_sems (by decide) r.2⟩)
    (Cert.ProjFwdRefIdeal.Value.run m g)

end Cert.ProjFwdIdeal.Value

end
-- ==== Proof.lean ====
module

public import proofs.«01_k».proof.Defs
public import proofs.«01_k».proof.Proof.Gen.OutBwd.Frame
public import proofs.«01_k».proof.Proof.Gen.OutBwdIdeal.Frame
public import proofs.«01_k».proof.Proof.Gen.OutBwdRefIdeal.Run
public import proofs.«01_k».proof.Proof.Gen.Pre_finite_out_bwd
public import proofs.«01_k».proof.Proof.OutBwd
public import proofs.«01_k».proof.Proof.Gen.MlaBwd.Frame
public import proofs.«01_k».proof.Proof.Gen.MlaBwdIdeal.Frame
public import proofs.«01_k».proof.Proof.Gen.MlaBwdRefIdeal.Run
public import proofs.«01_k».proof.Proof.Gen.Pre_finite_mla_bwd
public import proofs.«01_k».proof.Proof.MlaBwd
public import proofs.«01_k».proof.Proof.Gen.FfnBwd.Frame
public import proofs.«01_k».proof.Proof.Gen.FfnBwdIdeal.Frame
public import proofs.«01_k».proof.Proof.Gen.FfnBwdRefIdeal.Run
public import proofs.«01_k».proof.Proof.Gen.Pre_finite_ffn_bwd
public import proofs.«01_k».proof.Proof.FfnBwd
public import proofs.«01_k».proof.Proof.Gen.MlaFwd.Frame
public import proofs.«01_k».proof.Proof.Gen.MlaFwdIdeal.Frame
public import proofs.«01_k».proof.Proof.Gen.MlaFwdRefIdeal.Run
public import proofs.«01_k».proof.Proof.Gen.Pre_finite_mla_fwd
public import proofs.«01_k».proof.Proof.MlaFwd
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.Pre_finite_loss_head
public import proofs.«01_k».proof.Proof.LossHead
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.Pre_finite_out_fwd
public import proofs.«01_k».proof.Proof.OutFwd
public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.Gen.Pre_finite_ffn_fwd
public import proofs.«01_k».proof.Proof.FfnFwd
public import proofs.«01_k».proof.Proof.Gen.ProjFwd.Frame
public import proofs.«01_k».proof.Proof.Gen.ProjFwdIdeal.Frame
public import proofs.«01_k».proof.Proof.Gen.ProjFwdRefIdeal.Run
public import proofs.«01_k».proof.Proof.ProjFwd
public import Idealize.ShloMosaic.Adequacy

@[expose] public section

noncomputable section

/-! # The certificate: every call's frames and its value claim. -/

namespace Cert.Proof

open Idealize.ShloMosaic Idealize.SL.Sem

theorem claim : Cert.Claim := ⟨Cert.OutBwd.Gen.facts, Cert.OutBwdIdeal.Gen.facts, Cert.OutBwdRefIdeal.Gen.facts, Cert.MlaBwd.Gen.facts, Cert.MlaBwdIdeal.Gen.facts, Cert.MlaBwdRefIdeal.Gen.facts, Cert.FfnBwd.Gen.facts, Cert.FfnBwdIdeal.Gen.facts, Cert.FfnBwdRefIdeal.Gen.facts, Cert.MlaFwd.Gen.facts, Cert.MlaFwdIdeal.Gen.facts, Cert.MlaFwdRefIdeal.Gen.facts, Cert.LossHead.Gen.facts, Cert.LossHeadIdeal.Gen.facts, Cert.LossHeadRefIdeal.Gen.facts, Cert.OutFwd.Gen.facts, Cert.OutFwdIdeal.Gen.facts, Cert.OutFwdRefIdeal.Gen.facts, Cert.FfnFwd.Gen.facts, Cert.FfnFwdIdeal.Gen.facts, Cert.FfnFwdRefIdeal.Gen.facts, Cert.ProjFwd.Gen.facts, Cert.ProjFwdIdeal.Gen.facts, Cert.ProjFwdRefIdeal.Gen.facts, Cert.Pre_finite_out_bwd.Gen.facts, Cert.Pre_finite_mla_bwd.Gen.facts, Cert.Pre_finite_ffn_bwd.Gen.facts, Cert.Pre_finite_mla_fwd.Gen.facts, Cert.Pre_finite_loss_head.Gen.facts, Cert.Pre_finite_out_fwd.Gen.facts, Cert.Pre_finite_ffn_fwd.Gen.facts,
  fun m ρ _ => Cert.OutBwd.Gen.frame m ρ,
  fun m ρ _ => Cert.OutBwdIdeal.Gen.frame m ρ,
  fun m ρ _ => Cert.OutBwdIdeal.Gen.frame m ρ,
  Cert.OutBwdIdeal.Value.frame_ref,
  fun m ρ _ => Cert.OutBwdIdeal.Value.frame_ref m ρ (by intros; trivial),
  fun m ρ _ => Cert.MlaBwd.Gen.frame m ρ,
  fun m ρ _ => Cert.MlaBwdIdeal.Gen.frame m ρ,
  fun m ρ _ => Cert.MlaBwdIdeal.Gen.frame m ρ,
  Cert.MlaBwdIdeal.Value.frame_ref,
  fun m ρ _ => Cert.MlaBwdIdeal.Value.frame_ref m ρ (by intros; trivial),
  fun m ρ _ => Cert.FfnBwd.Gen.frame m ρ,
  fun m ρ _ => Cert.FfnBwdIdeal.Gen.frame m ρ,
  fun m ρ _ => Cert.FfnBwdIdeal.Gen.frame m ρ,
  Cert.FfnBwdIdeal.Value.frame_ref,
  fun m ρ _ => Cert.FfnBwdIdeal.Value.frame_ref m ρ (by intros; trivial),
  fun m ρ _ => Cert.MlaFwd.Gen.frame m ρ,
  fun m ρ _ => Cert.MlaFwdIdeal.Gen.frame m ρ,
  fun m ρ _ => Cert.MlaFwdIdeal.Gen.frame m ρ,
  Cert.MlaFwdIdeal.Value.frame_ref,
  fun m ρ _ => Cert.MlaFwdIdeal.Value.frame_ref m ρ (by intros; trivial),
  fun m ρ _ => Cert.LossHead.Gen.frame m ρ,
  fun m ρ _ => Cert.LossHeadIdeal.Gen.frame m ρ,
  fun m ρ _ => Cert.LossHeadIdeal.Gen.frame m ρ,
  Cert.LossHeadIdeal.Value.frame_ref,
  fun m ρ _ => Cert.LossHeadIdeal.Value.frame_ref m ρ (by intros; trivial),
  fun m ρ _ => Cert.OutFwd.Gen.frame m ρ,
  fun m ρ _ => Cert.OutFwdIdeal.Gen.frame m ρ,
  fun m ρ _ => Cert.OutFwdIdeal.Gen.frame m ρ,
  Cert.OutFwdIdeal.Value.frame_ref,
  fun m ρ _ => Cert.OutFwdIdeal.Value.frame_ref m ρ (by intros; trivial),
  fun m ρ _ => Cert.FfnFwd.Gen.frame m ρ,
  fun m ρ _ => Cert.FfnFwdIdeal.Gen.frame m ρ,
  fun m ρ _ => Cert.FfnFwdIdeal.Gen.frame m ρ,
  Cert.FfnFwdIdeal.Value.frame_ref,
  fun m ρ _ => Cert.FfnFwdIdeal.Value.frame_ref m ρ (by intros; trivial),
  fun m ρ _ => Cert.ProjFwd.Gen.frame m ρ,
  fun m ρ _ => Cert.ProjFwdIdeal.Gen.frame m ρ,
  Cert.ProjFwdIdeal.Value.frame_ref,
  trivial, Cert.OutBwdIdeal.Value.algebraic, Cert.MlaBwdIdeal.Value.preserves, Cert.MlaBwdIdeal.Value.algebraic, trivial, Cert.FfnBwdIdeal.Value.algebraic, Cert.MlaFwdIdeal.Value.preserves, Cert.MlaFwdIdeal.Value.algebraic, trivial, Cert.LossHeadIdeal.Value.algebraic, trivial, Cert.OutFwdIdeal.Value.algebraic, trivial, Cert.FfnFwdIdeal.Value.algebraic, trivial, Cert.ProjFwdIdeal.Value.algebraic⟩

end Cert.Proof

end
